-- ==== Defs.lean ====
def Pre_Kernel0 [hPre_steps_in_order0 : Cert.Pre_steps_in_order0.Facts] (m : (ℓ : Loc Cert.Kernel0.nD Cert.Kernel0.τ Cert.Kernel0.sig) → Buf (Elt Bits) ℓ) : Prop :=
  ∀ c : Dev Cert.Kernel0.nD,
    (Cert.Pre_steps_in_order0.fn (F := Bits) (m ((c.tc : Thread Cert.Kernel0.nD Cert.Kernel0.τ).loc Cert.Kernel0.main_arg0)) (m ((c.tc : Thread Cert.Kernel0.nD Cert.Kernel0.τ).loc Cert.Kernel0.main_arg1)) (m ((c.tc : Thread Cert.Kernel0.nD Cert.Kernel0.τ).loc Cert.Kernel0.main_arg2))) = (fun _ => 1#1)

def Pre_Kernel0Ideal [hPre_steps_in_order0 : Cert.Pre_steps_in_order0.Facts] (m : (ℓ : Loc Cert.Kernel0Ideal.nD Cert.Kernel0Ideal.τ Cert.Kernel0Ideal.sig) → Buf (Elt Ideal) ℓ) : Prop :=
  ∀ c : Dev Cert.Kernel0Ideal.nD,
    (Cert.Pre_steps_in_order0.fn (F := Ideal) (m ((c.tc : Thread Cert.Kernel0Ideal.nD Cert.Kernel0Ideal.τ).loc Cert.Kernel0Ideal.main_arg0)) (m ((c.tc : Thread Cert.Kernel0Ideal.nD Cert.Kernel0Ideal.τ).loc Cert.Kernel0Ideal.main_arg1)) (m ((c.tc : Thread Cert.Kernel0Ideal.nD Cert.Kernel0Ideal.τ).loc Cert.Kernel0Ideal.main_arg2))) = (fun _ => 1#1)

def Pre_Reference0Ideal (m : (ℓ : Loc Cert.Reference0Ideal.nD Cert.Reference0Ideal.τ Cert.Reference0Ideal.sig) → Buf (Elt Ideal) ℓ) : Prop :=
  True

def Pre_Reference0Ideal_steps_in_order0 [hPre_steps_in_order0 : Cert.Pre_steps_in_order0.Facts] (m : (ℓ : Loc Cert.Reference0Ideal.nD Cert.Reference0Ideal.τ Cert.Reference0Ideal.sig) → Buf (Elt Ideal) ℓ) : Prop :=
  ∀ c : Dev Cert.Reference0Ideal.nD,
    (Cert.Pre_steps_in_order0.fn (F := Ideal) (m ((c.tc : Thread Cert.Reference0Ideal.nD Cert.Reference0Ideal.τ).loc Cert.Reference0Ideal.main_arg0)) (m ((c.tc : Thread Cert.Reference0Ideal.nD Cert.Reference0Ideal.τ).loc Cert.Reference0Ideal.main_arg1)) (m ((c.tc : Thread Cert.Reference0Ideal.nD Cert.Reference0Ideal.τ).loc Cert.Reference0Ideal.main_arg2))) = (fun _ => 1#1)

def Pre_Kernel [hPre_steps_in_order : Cert.Pre_steps_in_order.Facts] (m : (ℓ : Loc Cert.Kernel.nD Cert.Kernel.τ Cert.Kernel.sig) → Buf (Elt Bits) ℓ) : Prop :=
  ∀ c : Dev Cert.Kernel.nD,
    (Cert.Pre_steps_in_order.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_steps_in_order : Cert.Pre_steps_in_order.Facts] (m : (ℓ : Loc Cert.KernelIdeal.nD Cert.KernelIdeal.τ Cert.KernelIdeal.sig) → Buf (Elt Ideal) ℓ) : Prop :=
  ∀ c : Dev Cert.KernelIdeal.nD,
    (Cert.Pre_steps_in_order.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_steps_in_order [hPre_steps_in_order : Cert.Pre_steps_in_order.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_steps_in_order.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def Pre_Kernel2 [hPre_steps_in_order2 : Cert.Pre_steps_in_order2.Facts] (m : (ℓ : Loc Cert.Kernel2.nD Cert.Kernel2.τ Cert.Kernel2.sig) → Buf (Elt Bits) ℓ) : Prop :=
  ∀ c : Dev Cert.Kernel2.nD,
    (Cert.Pre_steps_in_order2.fn (F := Bits) (m ((c.tc : Thread Cert.Kernel2.nD Cert.Kernel2.τ).loc Cert.Kernel2.main_arg0)) (m ((c.tc : Thread Cert.Kernel2.nD Cert.Kernel2.τ).loc Cert.Kernel2.main_arg1)) (m ((c.tc : Thread Cert.Kernel2.nD Cert.Kernel2.τ).loc Cert.Kernel2.main_arg2)) (m ((c.tc : Thread Cert.Kernel2.nD Cert.Kernel2.τ).loc Cert.Kernel2.main_arg3))) = (fun _ => 1#1)

def Pre_Kernel2Ideal [hPre_steps_in_order2 : Cert.Pre_steps_in_order2.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_steps_in_order2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3))) = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_steps_in_order2 [hPre_steps_in_order2 : Cert.Pre_steps_in_order2.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_steps_in_order2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3))) = (fun _ => 1#1)

def Pre_Kernel3 [hPre_steps_in_order3 : Cert.Pre_steps_in_order3.Facts] (m : (ℓ : Loc Cert.Kernel3.nD Cert.Kernel3.τ Cert.Kernel3.sig) → Buf (Elt Bits) ℓ) : Prop :=
  ∀ c : Dev Cert.Kernel3.nD,
    (Cert.Pre_steps_in_order3.fn (F := Bits) (m ((c.tc : Thread Cert.Kernel3.nD Cert.Kernel3.τ).loc Cert.Kernel3.main_arg0)) (m ((c.tc : Thread Cert.Kernel3.nD Cert.Kernel3.τ).loc Cert.Kernel3.main_arg1)) (m ((c.tc : Thread Cert.Kernel3.nD Cert.Kernel3.τ).loc Cert.Kernel3.main_arg2)) (m ((c.tc : Thread Cert.Kernel3.nD Cert.Kernel3.τ).loc Cert.Kernel3.main_arg3))) = (fun _ => 1#1)

def Pre_Kernel3Ideal [hPre_steps_in_order3 : Cert.Pre_steps_in_order3.Facts] (m : (ℓ : Loc Cert.Kernel3Ideal.nD Cert.Kernel3Ideal.τ Cert.Kernel3Ideal.sig) → Buf (Elt Ideal) ℓ) : Prop :=
  ∀ c : Dev Cert.Kernel3Ideal.nD,
    (Cert.Pre_steps_in_order3.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3))) = (fun _ => 1#1)

def Pre_Reference3Ideal (m : (ℓ : Loc Cert.Reference3Ideal.nD Cert.Reference3Ideal.τ Cert.Reference3Ideal.sig) → Buf (Elt Ideal) ℓ) : Prop :=
  True

def Pre_Reference3Ideal_steps_in_order3 [hPre_steps_in_order3 : Cert.Pre_steps_in_order3.Facts] (m : (ℓ : Loc Cert.Reference3Ideal.nD Cert.Reference3Ideal.τ Cert.Reference3Ideal.sig) → Buf (Elt Ideal) ℓ) : Prop :=
  ∀ c : Dev Cert.Reference3Ideal.nD,
    (Cert.Pre_steps_in_order3.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3))) = (fun _ => 1#1)

def quiescent_Kernel0 [hKernel0 : Cert.Kernel0.Facts] [hPre_steps_in_order0 : Cert.Pre_steps_in_order0.Facts] : Prop :=
  ∀ (m : (ℓ : Loc Cert.Kernel0.nD Cert.Kernel0.τ Cert.Kernel0.sig) → Buf (Elt Bits) ℓ) (g : Dev Cert.Kernel0.nD → PrngReg), Pre_Kernel0 m →
    θ_run (Cert.Kernel0.defs (F := Bits)) (onTc (τ := Cert.Kernel0.τ) (Cert.Kernel0.main (F := Bits))) ⟨m, fun _ => 0, g⟩ (fun r => (∀ c : Dev Cert.Kernel0.nD,
      r.2.mem ((c.tc : Thread Cert.Kernel0.nD Cert.Kernel0.τ).loc Cert.Kernel0.main_arg0) = m ((c.tc : Thread Cert.Kernel0.nD Cert.Kernel0.τ).loc Cert.Kernel0.main_arg0)
      ∧ r.2.mem ((c.tc : Thread Cert.Kernel0.nD Cert.Kernel0.τ).loc Cert.Kernel0.main_arg1) = m ((c.tc : Thread Cert.Kernel0.nD Cert.Kernel0.τ).loc Cert.Kernel0.main_arg1)
      ∧ r.2.mem ((c.tc : Thread Cert.Kernel0.nD Cert.Kernel0.τ).loc Cert.Kernel0.main_arg2) = m ((c.tc : Thread Cert.Kernel0.nD Cert.Kernel0.τ).loc Cert.Kernel0.main_arg2))
      ∧ r.2.sem = fun _ => 0)

def quiescent_Kernel0Ideal [hKernel0Ideal : Cert.Kernel0Ideal.Facts] [hPre_steps_in_order0 : Cert.Pre_steps_in_order0.Facts] : Prop :=
  ∀ (m : (ℓ : Loc Cert.Kernel0Ideal.nD Cert.Kernel0Ideal.τ Cert.Kernel0Ideal.sig) → Buf (Elt Ideal) ℓ) (g : Dev Cert.Kernel0Ideal.nD → PrngReg), Pre_Kernel0Ideal m →
    θ_run (Cert.Kernel0Ideal.defs (F := Ideal)) (onTc (τ := Cert.Kernel0Ideal.τ) (Cert.Kernel0Ideal.main (F := Ideal))) ⟨m, fun _ => 0, g⟩ (fun r => (∀ c : Dev Cert.Kernel0Ideal.nD,
      r.2.mem ((c.tc : Thread Cert.Kernel0Ideal.nD Cert.Kernel0Ideal.τ).loc Cert.Kernel0Ideal.main_arg0) = m ((c.tc : Thread Cert.Kernel0Ideal.nD Cert.Kernel0Ideal.τ).loc Cert.Kernel0Ideal.main_arg0)
      ∧ r.2.mem ((c.tc : Thread Cert.Kernel0Ideal.nD Cert.Kernel0Ideal.τ).loc Cert.Kernel0Ideal.main_arg1) = m ((c.tc : Thread Cert.Kernel0Ideal.nD Cert.Kernel0Ideal.τ).loc Cert.Kernel0Ideal.main_arg1)
      ∧ r.2.mem ((c.tc : Thread Cert.Kernel0Ideal.nD Cert.Kernel0Ideal.τ).loc Cert.Kernel0Ideal.main_arg2) = m ((c.tc : Thread Cert.Kernel0Ideal.nD Cert.Kernel0Ideal.τ).loc Cert.Kernel0Ideal.main_arg2))
      ∧ r.2.sem = fun _ => 0)

def quiescent_Reference0Ideal [hReference0Ideal : Cert.Reference0Ideal.Facts] : Prop :=
  ∀ (m : (ℓ : Loc Cert.Reference0Ideal.nD Cert.Reference0Ideal.τ Cert.Reference0Ideal.sig) → Buf (Elt Ideal) ℓ) (g : Dev Cert.Reference0Ideal.nD → PrngReg), Pre_Reference0Ideal m →
    θ_run (Cert.Reference0Ideal.defs (F := Ideal)) (onTc (τ := Cert.Reference0Ideal.τ) (Cert.Reference0Ideal.main (F := Ideal))) ⟨m, fun _ => 0, g⟩ (fun r => (∀ c : Dev Cert.Reference0Ideal.nD,
      r.2.mem ((c.tc : Thread Cert.Reference0Ideal.nD Cert.Reference0Ideal.τ).loc Cert.Reference0Ideal.main_arg0) = m ((c.tc : Thread Cert.Reference0Ideal.nD Cert.Reference0Ideal.τ).loc Cert.Reference0Ideal.main_arg0)
      ∧ r.2.mem ((c.tc : Thread Cert.Reference0Ideal.nD Cert.Reference0Ideal.τ).loc Cert.Reference0Ideal.main_arg1) = m ((c.tc : Thread Cert.Reference0Ideal.nD Cert.Reference0Ideal.τ).loc Cert.Reference0Ideal.main_arg1)
      ∧ r.2.mem ((c.tc : Thread Cert.Reference0Ideal.nD Cert.Reference0Ideal.τ).loc Cert.Reference0Ideal.main_arg2) = m ((c.tc : Thread Cert.Reference0Ideal.nD Cert.Reference0Ideal.τ).loc Cert.Reference0Ideal.main_arg2))
      ∧ r.2.sem = fun _ => 0)

def quiescent_Reference0Ideal_pre_steps_in_order0 [hReference0Ideal : Cert.Reference0Ideal.Facts] [hPre_steps_in_order0 : Cert.Pre_steps_in_order0.Facts] : Prop :=
  ∀ (m : (ℓ : Loc Cert.Reference0Ideal.nD Cert.Reference0Ideal.τ Cert.Reference0Ideal.sig) → Buf (Elt Ideal) ℓ) (g : Dev Cert.Reference0Ideal.nD → PrngReg), Pre_Reference0Ideal_steps_in_order0 m →
    θ_run (Cert.Reference0Ideal.defs (F := Ideal)) (onTc (τ := Cert.Reference0Ideal.τ) (Cert.Reference0Ideal.main (F := Ideal))) ⟨m, fun _ => 0, g⟩ (fun r => (∀ c : Dev Cert.Reference0Ideal.nD,
      r.2.mem ((c.tc : Thread Cert.Reference0Ideal.nD Cert.Reference0Ideal.τ).loc Cert.Reference0Ideal.main_arg0) = m ((c.tc : Thread Cert.Reference0Ideal.nD Cert.Reference0Ideal.τ).loc Cert.Reference0Ideal.main_arg0)
      ∧ r.2.mem ((c.tc : Thread Cert.Reference0Ideal.nD Cert.Reference0Ideal.τ).loc Cert.Reference0Ideal.main_arg1) = m ((c.tc : Thread Cert.Reference0Ideal.nD Cert.Reference0Ideal.τ).loc Cert.Reference0Ideal.main_arg1)
      ∧ r.2.mem ((c.tc : Thread Cert.Reference0Ideal.nD Cert.Reference0Ideal.τ).loc Cert.Reference0Ideal.main_arg2) = m ((c.tc : Thread Cert.Reference0Ideal.nD Cert.Reference0Ideal.τ).loc Cert.Reference0Ideal.main_arg2))
      ∧ r.2.sem = fun _ => 0)

def quiescent_Kernel [hKernel : Cert.Kernel.Facts] [hPre_steps_in_order : Cert.Pre_steps_in_order.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] [hPre_steps_in_order : Cert.Pre_steps_in_order.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_steps_in_order [hReferenceIdeal : Cert.ReferenceIdeal.Facts] [hPre_steps_in_order : Cert.Pre_steps_in_order.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_steps_in_order m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Kernel2 [hKernel2 : Cert.Kernel2.Facts] [hPre_steps_in_order2 : Cert.Pre_steps_in_order2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3))
      ∧ r.2.sem = fun _ => 0)

def quiescent_Kernel2Ideal [hKernel2Ideal : Cert.Kernel2Ideal.Facts] [hPre_steps_in_order2 : Cert.Pre_steps_in_order2.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3))
      ∧ r.2.sem = fun _ => 0)

def quiescent_Reference2Ideal_pre_steps_in_order2 [hReference2Ideal : Cert.Reference2Ideal.Facts] [hPre_steps_in_order2 : Cert.Pre_steps_in_order2.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_steps_in_order2 m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3))
      ∧ r.2.sem = fun _ => 0)

def quiescent_Kernel3 [hKernel3 : Cert.Kernel3.Facts] [hPre_steps_in_order3 : Cert.Pre_steps_in_order3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3))
      ∧ r.2.sem = fun _ => 0)

def quiescent_Kernel3Ideal [hKernel3Ideal : Cert.Kernel3Ideal.Facts] [hPre_steps_in_order3 : Cert.Pre_steps_in_order3.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3))
      ∧ r.2.sem = fun _ => 0)

def quiescent_Reference3Ideal_pre_steps_in_order3 [hReference3Ideal : Cert.Reference3Ideal.Facts] [hPre_steps_in_order3 : Cert.Pre_steps_in_order3.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal_steps_in_order3 m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3))
      ∧ r.2.sem = fun _ => 0)

def preserves_Kernel0_Kernel0Ideal : Prop :=
  True

def algebraic_Kernel0Ideal_Reference0Ideal [hKernel0Ideal : Cert.Kernel0Ideal.Facts] [hReference0Ideal : Cert.Reference0Ideal.Facts] [hPre_steps_in_order0 : Cert.Pre_steps_in_order0.Facts] : Prop :=
  ∀ (m : (ℓ : Loc Cert.Kernel0Ideal.nD Cert.Kernel0Ideal.τ Cert.Kernel0Ideal.sig) → Buf (Elt Ideal) ℓ) (g : Dev Cert.Kernel0Ideal.nD → PrngReg)
    (m' : (ℓ : Loc Cert.Reference0Ideal.nD Cert.Reference0Ideal.τ Cert.Reference0Ideal.sig) → Buf (Elt Ideal) ℓ) (g' : Dev Cert.Reference0Ideal.nD → PrngReg), Pre_Kernel0Ideal m →
    (∀ c : Dev Cert.Kernel0Ideal.nD,
      m' ((c.tc : Thread Cert.Reference0Ideal.nD Cert.Reference0Ideal.τ).loc Cert.Reference0Ideal.main_arg0) = m ((c.tc : Thread Cert.Kernel0Ideal.nD Cert.Kernel0Ideal.τ).loc Cert.Kernel0Ideal.main_arg0)
      ∧ m' ((c.tc : Thread Cert.Reference0Ideal.nD Cert.Reference0Ideal.τ).loc Cert.Reference0Ideal.main_arg1) = m ((c.tc : Thread Cert.Kernel0Ideal.nD Cert.Kernel0Ideal.τ).loc Cert.Kernel0Ideal.main_arg1)
      ∧ m' ((c.tc : Thread Cert.Reference0Ideal.nD Cert.Reference0Ideal.τ).loc Cert.Reference0Ideal.main_arg2) = m ((c.tc : Thread Cert.Kernel0Ideal.nD Cert.Kernel0Ideal.τ).loc Cert.Kernel0Ideal.main_arg2)) →
    ∃ (v0 : (c : Dev Cert.Kernel0Ideal.nD) → Buf (Elt Ideal) ((c.tc : Thread Cert.Kernel0Ideal.nD Cert.Kernel0Ideal.τ).loc Cert.Kernel0Ideal.main_v1)),
      θ_run (Cert.Kernel0Ideal.defs (F := Ideal)) (onTc (τ := Cert.Kernel0Ideal.τ) (Cert.Kernel0Ideal.main (F := Ideal))) ⟨m, fun _ => 0, g⟩ (fun r => ∀ c : Dev Cert.Kernel0Ideal.nD,
          r.2.mem ((c.tc : Thread Cert.Kernel0Ideal.nD Cert.Kernel0Ideal.τ).loc Cert.Kernel0Ideal.main_v1) = v0 c
          ∧ r.2.mem ((c.tc : Thread Cert.Kernel0Ideal.nD Cert.Kernel0Ideal.τ).loc Cert.Kernel0Ideal.main_arg0) = m ((c.tc : Thread Cert.Kernel0Ideal.nD Cert.Kernel0Ideal.τ).loc Cert.Kernel0Ideal.main_arg0)
          ∧ r.2.mem ((c.tc : Thread Cert.Kernel0Ideal.nD Cert.Kernel0Ideal.τ).loc Cert.Kernel0Ideal.main_arg1) = m ((c.tc : Thread Cert.Kernel0Ideal.nD Cert.Kernel0Ideal.τ).loc Cert.Kernel0Ideal.main_arg1)
          ∧ r.2.mem ((c.tc : Thread Cert.Kernel0Ideal.nD Cert.Kernel0Ideal.τ).loc Cert.Kernel0Ideal.main_arg2) = m ((c.tc : Thread Cert.Kernel0Ideal.nD Cert.Kernel0Ideal.τ).loc Cert.Kernel0Ideal.main_arg2))
      ∧ θ_run (Cert.Reference0Ideal.defs (F := Ideal)) (onTc (τ := Cert.Reference0Ideal.τ) (Cert.Reference0Ideal.main (F := Ideal))) ⟨m', fun _ => 0, g'⟩ (fun r => ∀ c : Dev Cert.Reference0Ideal.nD,
          r.2.mem ((c.tc : Thread Cert.Reference0Ideal.nD Cert.Reference0Ideal.τ).loc Cert.Reference0Ideal.main_v50) = v0 c
          ∧ r.2.mem ((c.tc : Thread Cert.Reference0Ideal.nD Cert.Reference0Ideal.τ).loc Cert.Reference0Ideal.main_arg0) = m' ((c.tc : Thread Cert.Reference0Ideal.nD Cert.Reference0Ideal.τ).loc Cert.Reference0Ideal.main_arg0)
          ∧ r.2.mem ((c.tc : Thread Cert.Reference0Ideal.nD Cert.Reference0Ideal.τ).loc Cert.Reference0Ideal.main_arg1) = m' ((c.tc : Thread Cert.Reference0Ideal.nD Cert.Reference0Ideal.τ).loc Cert.Reference0Ideal.main_arg1)
          ∧ r.2.mem ((c.tc : Thread Cert.Reference0Ideal.nD Cert.Reference0Ideal.τ).loc Cert.Reference0Ideal.main_arg2) = m' ((c.tc : Thread Cert.Reference0Ideal.nD Cert.Reference0Ideal.τ).loc Cert.Reference0Ideal.main_arg2))

def preserves_Kernel_KernelIdeal : Prop :=
  True

def algebraic_KernelIdeal_ReferenceIdeal [hKernelIdeal : Cert.KernelIdeal.Facts] [hReferenceIdeal : Cert.ReferenceIdeal.Facts] [hPre_steps_in_order : Cert.Pre_steps_in_order.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v53) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_Kernel2_Kernel2Ideal : Prop :=
  True

def algebraic_Kernel2Ideal_Reference2Ideal [hKernel2Ideal : Cert.Kernel2Ideal.Facts] [hReference2Ideal : Cert.Reference2Ideal.Facts] [hPre_steps_in_order2 : Cert.Pre_steps_in_order2.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)) →
    ∃ (v0 : (c : Dev Cert.Kernel2Ideal.nD) → Buf (Elt Ideal) ((c.tc : Thread Cert.Kernel2Ideal.nD Cert.Kernel2Ideal.τ).loc Cert.Kernel2Ideal.main_v0)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v0) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v53) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3))

def preserves_Kernel3_Kernel3Ideal : Prop :=
  True

def algebraic_Kernel3Ideal_Reference3Ideal [hKernel3Ideal : Cert.Kernel3Ideal.Facts] [hReference3Ideal : Cert.Reference3Ideal.Facts] [hPre_steps_in_order3 : Cert.Pre_steps_in_order3.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)) →
    ∃ (v0 : (c : Dev Cert.Kernel3Ideal.nD) → Buf (Elt Ideal) ((c.tc : Thread Cert.Kernel3Ideal.nD Cert.Kernel3Ideal.τ).loc Cert.Kernel3Ideal.main_v0)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v0) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v52) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3))

def Claim : Prop :=
  ∃ (hKernel0 : Cert.Kernel0.Facts) (hKernel0Ideal : Cert.Kernel0Ideal.Facts) (hReference0Ideal : Cert.Reference0Ideal.Facts) (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hPre_steps_in_order0 : Cert.Pre_steps_in_order0.Facts) (hPre_steps_in_order : Cert.Pre_steps_in_order.Facts) (hPre_steps_in_order2 : Cert.Pre_steps_in_order2.Facts) (hPre_steps_in_order3 : Cert.Pre_steps_in_order3.Facts),
    quiescent_Kernel0 (hKernel0 := hKernel0) (hPre_steps_in_order0 := hPre_steps_in_order0)
    ∧ quiescent_Kernel0Ideal (hKernel0Ideal := hKernel0Ideal) (hPre_steps_in_order0 := hPre_steps_in_order0)
    ∧ quiescent_Reference0Ideal (hReference0Ideal := hReference0Ideal)
    ∧ quiescent_Reference0Ideal_pre_steps_in_order0 (hReference0Ideal := hReference0Ideal) (hPre_steps_in_order0 := hPre_steps_in_order0)
    ∧ quiescent_Kernel (hKernel := hKernel) (hPre_steps_in_order := hPre_steps_in_order)
    ∧ quiescent_KernelIdeal (hKernelIdeal := hKernelIdeal) (hPre_steps_in_order := hPre_steps_in_order)
    ∧ quiescent_ReferenceIdeal (hReferenceIdeal := hReferenceIdeal)
    ∧ quiescent_ReferenceIdeal_pre_steps_in_order (hReferenceIdeal := hReferenceIdeal) (hPre_steps_in_order := hPre_steps_in_order)
    ∧ quiescent_Kernel2 (hKernel2 := hKernel2) (hPre_steps_in_order2 := hPre_steps_in_order2)
    ∧ quiescent_Kernel2Ideal (hKernel2Ideal := hKernel2Ideal) (hPre_steps_in_order2 := hPre_steps_in_order2)
    ∧ quiescent_Reference2Ideal (hReference2Ideal := hReference2Ideal)
    ∧ quiescent_Reference2Ideal_pre_steps_in_order2 (hReference2Ideal := hReference2Ideal) (hPre_steps_in_order2 := hPre_steps_in_order2)
    ∧ quiescent_Kernel3 (hKernel3 := hKernel3) (hPre_steps_in_order3 := hPre_steps_in_order3)
    ∧ quiescent_Kernel3Ideal (hKernel3Ideal := hKernel3Ideal) (hPre_steps_in_order3 := hPre_steps_in_order3)
    ∧ quiescent_Reference3Ideal (hReference3Ideal := hReference3Ideal)
    ∧ quiescent_Reference3Ideal_pre_steps_in_order3 (hReference3Ideal := hReference3Ideal) (hPre_steps_in_order3 := hPre_steps_in_order3)
    ∧ preserves_Kernel0_Kernel0Ideal
    ∧ algebraic_Kernel0Ideal_Reference0Ideal (hKernel0Ideal := hKernel0Ideal) (hReference0Ideal := hReference0Ideal) (hPre_steps_in_order0 := hPre_steps_in_order0)
    ∧ preserves_Kernel_KernelIdeal
    ∧ algebraic_KernelIdeal_ReferenceIdeal (hKernelIdeal := hKernelIdeal) (hReferenceIdeal := hReferenceIdeal) (hPre_steps_in_order := hPre_steps_in_order)
    ∧ preserves_Kernel2_Kernel2Ideal
    ∧ algebraic_Kernel2Ideal_Reference2Ideal (hKernel2Ideal := hKernel2Ideal) (hReference2Ideal := hReference2Ideal) (hPre_steps_in_order2 := hPre_steps_in_order2)
    ∧ preserves_Kernel3_Kernel3Ideal
    ∧ algebraic_Kernel3Ideal_Reference3Ideal (hKernel3Ideal := hKernel3Ideal) (hReference3Ideal := hReference3Ideal) (hPre_steps_in_order3 := hPre_steps_in_order3)
-- ==== Pre_steps_in_order.lean ====
abbrev S897 : Shape := ⟨1, ![897]⟩
abbrev S1 : Shape := ⟨1, ![1]⟩
abbrev S374400x128 : Shape := ⟨2, ![374400, 128]⟩
abbrev S71680x256 : Shape := ⟨2, ![71680, 256]⟩
abbrev S225 : Shape := ⟨1, ![225]⟩
abbrev S_ : Shape := ⟨0, ![]⟩
abbrev S224 : Shape := ⟨1, ![224]⟩
abbrev S7800x48x128 : Shape := ⟨3, ![7800, 48, 128]⟩
abbrev S7800x1x128 : Shape := ⟨3, ![7800, 1, 128]⟩
abbrev S7800x128 : Shape := ⟨2, ![7800, 128]⟩
abbrev S1x1 : Shape := ⟨2, ![1, 1]⟩
abbrev S224x1x1 : Shape := ⟨3, ![224, 1, 1]⟩
abbrev S1x7800x128 : Shape := ⟨3, ![1, 7800, 128]⟩
abbrev S224x7800x128 : Shape := ⟨3, ![224, 7800, 128]⟩

class Facts : Prop where
  slices_S897_S225_224 : S897.Slices ![224] S225
  slices_S897_S1_224 : S897.Slices ![224] S1
  shapeCasts_S1_S_ : S1.ShapeCasts S_
  bcast_S_S225 : S_.BroadcastsInDim S225 (![] : Fin 0 → Fin S225.rank)
  slices_S225_S224_0 : S225.Slices ![0] S224
  slices_S225_S224_1 : S225.Slices ![1] S224
  bcast_S_S224 : S_.BroadcastsInDim S224 (![] : Fin 0 → Fin S224.rank)
  shapeCasts_S374400x128_S7800x48x128 : S374400x128.ShapeCasts S7800x48x128
  slices_S7800x48x128_S7800x1x128_0_40_0 : S7800x48x128.Slices ![0, 40, 0] S7800x1x128
  shapeCasts_S7800x1x128_S7800x128 : S7800x1x128.ShapeCasts S7800x128
  bcast_S_S1 : S_.BroadcastsInDim S1 (![] : Fin 0 → Fin S1.rank)
  bcast_S_S7800x128 : S_.BroadcastsInDim S7800x128 (![] : Fin 0 → Fin S7800x128.rank)
  bcast_S1_S1x1_1 : S1.BroadcastsInDim S1x1 (![1] : Fin 1 → Fin S1x1.rank)
  bcast_S1x1_S7800x128_0_1 : S1x1.BroadcastsInDim S7800x128 (![0, 1] : Fin 2 → Fin S7800x128.rank)
  bcast_S224_S224x1x1_0 : S224.BroadcastsInDim S224x1x1 (![0] : Fin 1 → Fin S224x1x1.rank)
  bcast_S7800x128_S1x7800x128_1_2 : S7800x128.BroadcastsInDim S1x7800x128 (![1, 2] : Fin 2 → Fin S1x7800x128.rank)
  bcast_S224x1x1_S224x7800x128_0_1_2 : S224x1x1.BroadcastsInDim S224x7800x128 (![0, 1, 2] : Fin 3 → Fin S224x7800x128.rank)
  bcast_S1x7800x128_S224x7800x128_0_1_2 : S1x7800x128.BroadcastsInDim S224x7800x128 (![0, 1, 2] : Fin 3 → Fin S224x7800x128.rank)

variable [Facts]

def fn_part1 {F : FTy → Type} [FloatOps F] (main_v11 : IVec S224 1) (main_v16 : IVec S1 1) (main_v18 : IVec S7800x128 32) (main_v19 : IVec S7800x128 32) : IVec S224x7800x128 1 :=
  let main_v20 : IVec S7800x128 1 := cmpi .ne main_v18 main_v19
  let main_v21 : IVec S1x1 1 := broadcastInDim S1x1 ![1] bcast_S1_S1x1_1 main_v16
  let main_v22 : IVec S7800x128 1 := broadcastInDim S7800x128 ![0, 1] bcast_S1x1_S7800x128_0_1 main_v21
  let main_v23 : IVec S7800x128 1 := ori main_v22 main_v20
  let main_v24 : IVec S224x1x1 1 := broadcastInDim S224x1x1 ![0] bcast_S224_S224x1x1_0 main_v11
  let main_v25 : IVec S1x7800x128 1 := broadcastInDim S1x7800x128 ![1, 2] bcast_S7800x128_S1x7800x128_1_2 main_v23
  let main_v26 : IVec S224x7800x128 1 := broadcastInDim S224x7800x128 ![0, 1, 2] bcast_S224x1x1_S224x7800x128_0_1_2 main_v24
  let main_v27 : IVec S224x7800x128 1 := broadcastInDim S224x7800x128 ![0, 1, 2] bcast_S1x7800x128_S224x7800x128_0_1_2 main_v25
  let main_v28 : IVec S224x7800x128 1 := andi main_v26 main_v27
  main_v28

def fn {F : FTy → Type} [FloatOps F] (main_arg0 : IVec S897 32) (main_arg1 : IVec S1 32) (main_arg2 : IVec S374400x128 32) (main_arg3 : FVec F S71680x256 .f32) : IVec S224x7800x128 1 :=
  let main_v0 : IVec S225 32 := (extractStridedSlice S225 ![224] · slices_S897_S225_224) main_arg0
  let main_v1 : IVec S1 32 := (extractStridedSlice S1 ![224] · slices_S897_S1_224) main_arg0
  let main_v2 : IVec S_ 32 := shapeCast S_ main_v1 shapeCasts_S1_S_
  let main_v3 : IVec S225 32 := broadcastInDim S225 ![] bcast_S_S225 main_v2
  let main_v4 : IVec S225 32 := subi main_v0 main_v3
  let main_v5 : IVec S224 32 := (extractStridedSlice S224 ![0] · slices_S225_S224_0) main_v4
  let main_v6 : IVec S224 32 := (extractStridedSlice S224 ![1] · slices_S225_S224_1) main_v4
  let main_v7 : IVec S224 1 := cmpi .sle main_v5 main_v6
  let main_v8 : IVec S224 32 := (extractStridedSlice S224 ![1] · slices_S225_S224_1) main_v4
  let main_c : IVec S_ 32 := constantI S_ 32 3900#32
  let main_v9 : IVec S224 32 := broadcastInDim S224 ![] bcast_S_S224 main_c
  let main_v10 : IVec S224 1 := cmpi .sle main_v8 main_v9
  let main_v11 : IVec S224 1 := andi main_v7 main_v10
  let main_v12 : IVec S7800x48x128 32 := shapeCast S7800x48x128 main_arg2 shapeCasts_S374400x128_S7800x48x128
  let main_v13 : IVec S7800x1x128 32 := (extractStridedSlice S7800x1x128 ![0, 40, 0] · slices_S7800x48x128_S7800x1x128_0_40_0) main_v12
  let main_v14 : IVec S7800x128 32 := shapeCast S7800x128 main_v13 shapeCasts_S7800x1x128_S7800x128
  let main_c_0 : IVec S_ 32 := constantI S_ 32 0#32
  let main_v15 : IVec S1 32 := broadcastInDim S1 ![] bcast_S_S1 main_c_0
  let main_v16 : IVec S1 1 := cmpi .eq main_arg1 main_v15
  let main_c_1 : IVec S_ 32 := constantI S_ 32 2139095040#32
  let main_v17 : IVec S7800x128 32 := broadcastInDim S7800x128 ![] bcast_S_S7800x128 main_c_1
  let main_v18 : IVec S7800x128 32 := andi main_v14 main_v17
  let main_c_2 : IVec S_ 32 := constantI S_ 32 2139095040#32
  let main_v19 : IVec S7800x128 32 := broadcastInDim S7800x128 ![] bcast_S_S7800x128 main_c_2
  fn_part1 (F := F) main_v11 main_v16 main_v18 main_v19
-- ==== Pre_steps_in_order0.lean ====
abbrev S897 : Shape := ⟨1, ![897]⟩
abbrev S1 : Shape := ⟨1, ![1]⟩
abbrev S374400x128 : Shape := ⟨2, ![374400, 128]⟩
abbrev S225 : Shape := ⟨1, ![225]⟩
abbrev S_ : Shape := ⟨0, ![]⟩
abbrev S224 : Shape := ⟨1, ![224]⟩
abbrev S7800x48x128 : Shape := ⟨3, ![7800, 48, 128]⟩
abbrev S7800x1x128 : Shape := ⟨3, ![7800, 1, 128]⟩
abbrev S7800x128 : Shape := ⟨2, ![7800, 128]⟩
abbrev S1x1 : Shape := ⟨2, ![1, 1]⟩
abbrev S224x1x1 : Shape := ⟨3, ![224, 1, 1]⟩
abbrev S1x7800x128 : Shape := ⟨3, ![1, 7800, 128]⟩
abbrev S224x7800x128 : Shape := ⟨3, ![224, 7800, 128]⟩

class Facts : Prop where
  slices_S897_S225_0 : S897.Slices ![0] S225
  slices_S897_S1_0 : S897.Slices ![0] S1
  shapeCasts_S1_S_ : S1.ShapeCasts S_
  bcast_S_S225 : S_.BroadcastsInDim S225 (![] : Fin 0 → Fin S225.rank)
  slices_S225_S224_0 : S225.Slices ![0] S224
  slices_S225_S224_1 : S225.Slices ![1] S224
  bcast_S_S224 : S_.BroadcastsInDim S224 (![] : Fin 0 → Fin S224.rank)
  shapeCasts_S374400x128_S7800x48x128 : S374400x128.ShapeCasts S7800x48x128
  slices_S7800x48x128_S7800x1x128_0_40_0 : S7800x48x128.Slices ![0, 40, 0] S7800x1x128
  shapeCasts_S7800x1x128_S7800x128 : S7800x1x128.ShapeCasts S7800x128
  bcast_S_S1 : S_.BroadcastsInDim S1 (![] : Fin 0 → Fin S1.rank)
  bcast_S_S7800x128 : S_.BroadcastsInDim S7800x128 (![] : Fin 0 → Fin S7800x128.rank)
  bcast_S1_S1x1_1 : S1.BroadcastsInDim S1x1 (![1] : Fin 1 → Fin S1x1.rank)
  bcast_S1x1_S7800x128_0_1 : S1x1.BroadcastsInDim S7800x128 (![0, 1] : Fin 2 → Fin S7800x128.rank)
  bcast_S224_S224x1x1_0 : S224.BroadcastsInDim S224x1x1 (![0] : Fin 1 → Fin S224x1x1.rank)
  bcast_S7800x128_S1x7800x128_1_2 : S7800x128.BroadcastsInDim S1x7800x128 (![1, 2] : Fin 2 → Fin S1x7800x128.rank)
  bcast_S224x1x1_S224x7800x128_0_1_2 : S224x1x1.BroadcastsInDim S224x7800x128 (![0, 1, 2] : Fin 3 → Fin S224x7800x128.rank)
  bcast_S1x7800x128_S224x7800x128_0_1_2 : S1x7800x128.BroadcastsInDim S224x7800x128 (![0, 1, 2] : Fin 3 → Fin S224x7800x128.rank)

variable [Facts]

def fn_part1 {F : FTy → Type} [FloatOps F] (main_v11 : IVec S224 1) (main_v16 : IVec S1 1) (main_v18 : IVec S7800x128 32) (main_v19 : IVec S7800x128 32) : IVec S224x7800x128 1 :=
  let main_v20 : IVec S7800x128 1 := cmpi .ne main_v18 main_v19
  let main_v21 : IVec S1x1 1 := broadcastInDim S1x1 ![1] bcast_S1_S1x1_1 main_v16
  let main_v22 : IVec S7800x128 1 := broadcastInDim S7800x128 ![0, 1] bcast_S1x1_S7800x128_0_1 main_v21
  let main_v23 : IVec S7800x128 1 := ori main_v22 main_v20
  let main_v24 : IVec S224x1x1 1 := broadcastInDim S224x1x1 ![0] bcast_S224_S224x1x1_0 main_v11
  let main_v25 : IVec S1x7800x128 1 := broadcastInDim S1x7800x128 ![1, 2] bcast_S7800x128_S1x7800x128_1_2 main_v23
  let main_v26 : IVec S224x7800x128 1 := broadcastInDim S224x7800x128 ![0, 1, 2] bcast_S224x1x1_S224x7800x128_0_1_2 main_v24
  let main_v27 : IVec S224x7800x128 1 := broadcastInDim S224x7800x128 ![0, 1, 2] bcast_S1x7800x128_S224x7800x128_0_1_2 main_v25
  let main_v28 : IVec S224x7800x128 1 := andi main_v26 main_v27
  main_v28

def fn {F : FTy → Type} [FloatOps F] (main_arg0 : IVec S897 32) (main_arg1 : IVec S1 32) (main_arg2 : IVec S374400x128 32) : IVec S224x7800x128 1 :=
  let main_v0 : IVec S225 32 := (extractStridedSlice S225 ![0] · slices_S897_S225_0) main_arg0
  let main_v1 : IVec S1 32 := (extractStridedSlice S1 ![0] · slices_S897_S1_0) main_arg0
  let main_v2 : IVec S_ 32 := shapeCast S_ main_v1 shapeCasts_S1_S_
  let main_v3 : IVec S225 32 := broadcastInDim S225 ![] bcast_S_S225 main_v2
  let main_v4 : IVec S225 32 := subi main_v0 main_v3
  let main_v5 : IVec S224 32 := (extractStridedSlice S224 ![0] · slices_S225_S224_0) main_v4
  let main_v6 : IVec S224 32 := (extractStridedSlice S224 ![1] · slices_S225_S224_1) main_v4
  let main_v7 : IVec S224 1 := cmpi .sle main_v5 main_v6
  let main_v8 : IVec S224 32 := (extractStridedSlice S224 ![1] · slices_S225_S224_1) main_v4
  let main_c : IVec S_ 32 := constantI S_ 32 3900#32
  let main_v9 : IVec S224 32 := broadcastInDim S224 ![] bcast_S_S224 main_c
  let main_v10 : IVec S224 1 := cmpi .sle main_v8 main_v9
  let main_v11 : IVec S224 1 := andi main_v7 main_v10
  let main_v12 : IVec S7800x48x128 32 := shapeCast S7800x48x128 main_arg2 shapeCasts_S374400x128_S7800x48x128
  let main_v13 : IVec S7800x1x128 32 := (extractStridedSlice S7800x1x128 ![0, 40, 0] · slices_S7800x48x128_S7800x1x128_0_40_0) main_v12
  let main_v14 : IVec S7800x128 32 := shapeCast S7800x128 main_v13 shapeCasts_S7800x1x128_S7800x128
  let main_c_0 : IVec S_ 32 := constantI S_ 32 0#32
  let main_v15 : IVec S1 32 := broadcastInDim S1 ![] bcast_S_S1 main_c_0
  let main_v16 : IVec S1 1 := cmpi .eq main_arg1 main_v15
  let main_c_1 : IVec S_ 32 := constantI S_ 32 2139095040#32
  let main_v17 : IVec S7800x128 32 := broadcastInDim S7800x128 ![] bcast_S_S7800x128 main_c_1
  let main_v18 : IVec S7800x128 32 := andi main_v14 main_v17
  let main_c_2 : IVec S_ 32 := constantI S_ 32 2139095040#32
  let main_v19 : IVec S7800x128 32 := broadcastInDim S7800x128 ![] bcast_S_S7800x128 main_c_2
  fn_part1 (F := F) main_v11 main_v16 main_v18 main_v19
-- ==== Pre_steps_in_order2.lean ====
abbrev S897 : Shape := ⟨1, ![897]⟩
abbrev S1 : Shape := ⟨1, ![1]⟩
abbrev S374400x128 : Shape := ⟨2, ![374400, 128]⟩
abbrev S71680x256 : Shape := ⟨2, ![71680, 256]⟩
abbrev S225 : Shape := ⟨1, ![225]⟩
abbrev S_ : Shape := ⟨0, ![]⟩
abbrev S224 : Shape := ⟨1, ![224]⟩
abbrev S7800x48x128 : Shape := ⟨3, ![7800, 48, 128]⟩
abbrev S7800x1x128 : Shape := ⟨3, ![7800, 1, 128]⟩
abbrev S7800x128 : Shape := ⟨2, ![7800, 128]⟩
abbrev S1x1 : Shape := ⟨2, ![1, 1]⟩
abbrev S224x1x1 : Shape := ⟨3, ![224, 1, 1]⟩
abbrev S1x7800x128 : Shape := ⟨3, ![1, 7800, 128]⟩
abbrev S224x7800x128 : Shape := ⟨3, ![224, 7800, 128]⟩

class Facts : Prop where
  slices_S897_S225_448 : S897.Slices ![448] S225
  slices_S897_S1_448 : S897.Slices ![448] S1
  shapeCasts_S1_S_ : S1.ShapeCasts S_
  bcast_S_S225 : S_.BroadcastsInDim S225 (![] : Fin 0 → Fin S225.rank)
  slices_S225_S224_0 : S225.Slices ![0] S224
  slices_S225_S224_1 : S225.Slices ![1] S224
  bcast_S_S224 : S_.BroadcastsInDim S224 (![] : Fin 0 → Fin S224.rank)
  shapeCasts_S374400x128_S7800x48x128 : S374400x128.ShapeCasts S7800x48x128
  slices_S7800x48x128_S7800x1x128_0_40_0 : S7800x48x128.Slices ![0, 40, 0] S7800x1x128
  shapeCasts_S7800x1x128_S7800x128 : S7800x1x128.ShapeCasts S7800x128
  bcast_S_S1 : S_.BroadcastsInDim S1 (![] : Fin 0 → Fin S1.rank)
  bcast_S_S7800x128 : S_.BroadcastsInDim S7800x128 (![] : Fin 0 → Fin S7800x128.rank)
  bcast_S1_S1x1_1 : S1.BroadcastsInDim S1x1 (![1] : Fin 1 → Fin S1x1.rank)
  bcast_S1x1_S7800x128_0_1 : S1x1.BroadcastsInDim S7800x128 (![0, 1] : Fin 2 → Fin S7800x128.rank)
  bcast_S224_S224x1x1_0 : S224.BroadcastsInDim S224x1x1 (![0] : Fin 1 → Fin S224x1x1.rank)
  bcast_S7800x128_S1x7800x128_1_2 : S7800x128.BroadcastsInDim S1x7800x128 (![1, 2] : Fin 2 → Fin S1x7800x128.rank)
  bcast_S224x1x1_S224x7800x128_0_1_2 : S224x1x1.BroadcastsInDim S224x7800x128 (![0, 1, 2] : Fin 3 → Fin S224x7800x128.rank)
  bcast_S1x7800x128_S224x7800x128_0_1_2 : S1x7800x128.BroadcastsInDim S224x7800x128 (![0, 1, 2] : Fin 3 → Fin S224x7800x128.rank)

variable [Facts]

def fn_part1 {F : FTy → Type} [FloatOps F] (main_v11 : IVec S224 1) (main_v16 : IVec S1 1) (main_v18 : IVec S7800x128 32) (main_v19 : IVec S7800x128 32) : IVec S224x7800x128 1 :=
  let main_v20 : IVec S7800x128 1 := cmpi .ne main_v18 main_v19
  let main_v21 : IVec S1x1 1 := broadcastInDim S1x1 ![1] bcast_S1_S1x1_1 main_v16
  let main_v22 : IVec S7800x128 1 := broadcastInDim S7800x128 ![0, 1] bcast_S1x1_S7800x128_0_1 main_v21
  let main_v23 : IVec S7800x128 1 := ori main_v22 main_v20
  let main_v24 : IVec S224x1x1 1 := broadcastInDim S224x1x1 ![0] bcast_S224_S224x1x1_0 main_v11
  let main_v25 : IVec S1x7800x128 1 := broadcastInDim S1x7800x128 ![1, 2] bcast_S7800x128_S1x7800x128_1_2 main_v23
  let main_v26 : IVec S224x7800x128 1 := broadcastInDim S224x7800x128 ![0, 1, 2] bcast_S224x1x1_S224x7800x128_0_1_2 main_v24
  let main_v27 : IVec S224x7800x128 1 := broadcastInDim S224x7800x128 ![0, 1, 2] bcast_S1x7800x128_S224x7800x128_0_1_2 main_v25
  let main_v28 : IVec S224x7800x128 1 := andi main_v26 main_v27
  main_v28

def fn {F : FTy → Type} [FloatOps F] (main_arg0 : IVec S897 32) (main_arg1 : IVec S1 32) (main_arg2 : IVec S374400x128 32) (main_arg3 : FVec F S71680x256 .f32) : IVec S224x7800x128 1 :=
  let main_v0 : IVec S225 32 := (extractStridedSlice S225 ![448] · slices_S897_S225_448) main_arg0
  let main_v1 : IVec S1 32 := (extractStridedSlice S1 ![448] · slices_S897_S1_448) main_arg0
  let main_v2 : IVec S_ 32 := shapeCast S_ main_v1 shapeCasts_S1_S_
  let main_v3 : IVec S225 32 := broadcastInDim S225 ![] bcast_S_S225 main_v2
  let main_v4 : IVec S225 32 := subi main_v0 main_v3
  let main_v5 : IVec S224 32 := (extractStridedSlice S224 ![0] · slices_S225_S224_0) main_v4
  let main_v6 : IVec S224 32 := (extractStridedSlice S224 ![1] · slices_S225_S224_1) main_v4
  let main_v7 : IVec S224 1 := cmpi .sle main_v5 main_v6
  let main_v8 : IVec S224 32 := (extractStridedSlice S224 ![1] · slices_S225_S224_1) main_v4
  let main_c : IVec S_ 32 := constantI S_ 32 3900#32
  let main_v9 : IVec S224 32 := broadcastInDim S224 ![] bcast_S_S224 main_c
  let main_v10 : IVec S224 1 := cmpi .sle main_v8 main_v9
  let main_v11 : IVec S224 1 := andi main_v7 main_v10
  let main_v12 : IVec S7800x48x128 32 := shapeCast S7800x48x128 main_arg2 shapeCasts_S374400x128_S7800x48x128
  let main_v13 : IVec S7800x1x128 32 := (extractStridedSlice S7800x1x128 ![0, 40, 0] · slices_S7800x48x128_S7800x1x128_0_40_0) main_v12
  let main_v14 : IVec S7800x128 32 := shapeCast S7800x128 main_v13 shapeCasts_S7800x1x128_S7800x128
  let main_c_0 : IVec S_ 32 := constantI S_ 32 0#32
  let main_v15 : IVec S1 32 := broadcastInDim S1 ![] bcast_S_S1 main_c_0
  let main_v16 : IVec S1 1 := cmpi .eq main_arg1 main_v15
  let main_c_1 : IVec S_ 32 := constantI S_ 32 2139095040#32
  let main_v17 : IVec S7800x128 32 := broadcastInDim S7800x128 ![] bcast_S_S7800x128 main_c_1
  let main_v18 : IVec S7800x128 32 := andi main_v14 main_v17
  let main_c_2 : IVec S_ 32 := constantI S_ 32 2139095040#32
  let main_v19 : IVec S7800x128 32 := broadcastInDim S7800x128 ![] bcast_S_S7800x128 main_c_2
  fn_part1 (F := F) main_v11 main_v16 main_v18 main_v19
-- ==== Pre_steps_in_order3.lean ====
abbrev S897 : Shape := ⟨1, ![897]⟩
abbrev S1 : Shape := ⟨1, ![1]⟩
abbrev S374400x128 : Shape := ⟨2, ![374400, 128]⟩
abbrev S71680x256 : Shape := ⟨2, ![71680, 256]⟩
abbrev S225 : Shape := ⟨1, ![225]⟩
abbrev S_ : Shape := ⟨0, ![]⟩
abbrev S224 : Shape := ⟨1, ![224]⟩
abbrev S7800x48x128 : Shape := ⟨3, ![7800, 48, 128]⟩
abbrev S7800x1x128 : Shape := ⟨3, ![7800, 1, 128]⟩
abbrev S7800x128 : Shape := ⟨2, ![7800, 128]⟩
abbrev S1x1 : Shape := ⟨2, ![1, 1]⟩
abbrev S224x1x1 : Shape := ⟨3, ![224, 1, 1]⟩
abbrev S1x7800x128 : Shape := ⟨3, ![1, 7800, 128]⟩
abbrev S224x7800x128 : Shape := ⟨3, ![224, 7800, 128]⟩

class Facts : Prop where
  slices_S897_S225_672 : S897.Slices ![672] S225
  slices_S897_S1_672 : S897.Slices ![672] S1
  shapeCasts_S1_S_ : S1.ShapeCasts S_
  bcast_S_S225 : S_.BroadcastsInDim S225 (![] : Fin 0 → Fin S225.rank)
  slices_S225_S224_0 : S225.Slices ![0] S224
  slices_S225_S224_1 : S225.Slices ![1] S224
  bcast_S_S224 : S_.BroadcastsInDim S224 (![] : Fin 0 → Fin S224.rank)
  shapeCasts_S374400x128_S7800x48x128 : S374400x128.ShapeCasts S7800x48x128
  slices_S7800x48x128_S7800x1x128_0_40_0 : S7800x48x128.Slices ![0, 40, 0] S7800x1x128
  shapeCasts_S7800x1x128_S7800x128 : S7800x1x128.ShapeCasts S7800x128
  bcast_S_S1 : S_.BroadcastsInDim S1 (![] : Fin 0 → Fin S1.rank)
  bcast_S_S7800x128 : S_.BroadcastsInDim S7800x128 (![] : Fin 0 → Fin S7800x128.rank)
  bcast_S1_S1x1_1 : S1.BroadcastsInDim S1x1 (![1] : Fin 1 → Fin S1x1.rank)
  bcast_S1x1_S7800x128_0_1 : S1x1.BroadcastsInDim S7800x128 (![0, 1] : Fin 2 → Fin S7800x128.rank)
  bcast_S224_S224x1x1_0 : S224.BroadcastsInDim S224x1x1 (![0] : Fin 1 → Fin S224x1x1.rank)
  bcast_S7800x128_S1x7800x128_1_2 : S7800x128.BroadcastsInDim S1x7800x128 (![1, 2] : Fin 2 → Fin S1x7800x128.rank)
  bcast_S224x1x1_S224x7800x128_0_1_2 : S224x1x1.BroadcastsInDim S224x7800x128 (![0, 1, 2] : Fin 3 → Fin S224x7800x128.rank)
  bcast_S1x7800x128_S224x7800x128_0_1_2 : S1x7800x128.BroadcastsInDim S224x7800x128 (![0, 1, 2] : Fin 3 → Fin S224x7800x128.rank)

variable [Facts]

def fn_part1 {F : FTy → Type} [FloatOps F] (main_v11 : IVec S224 1) (main_v16 : IVec S1 1) (main_v18 : IVec S7800x128 32) (main_v19 : IVec S7800x128 32) : IVec S224x7800x128 1 :=
  let main_v20 : IVec S7800x128 1 := cmpi .ne main_v18 main_v19
  let main_v21 : IVec S1x1 1 := broadcastInDim S1x1 ![1] bcast_S1_S1x1_1 main_v16
  let main_v22 : IVec S7800x128 1 := broadcastInDim S7800x128 ![0, 1] bcast_S1x1_S7800x128_0_1 main_v21
  let main_v23 : IVec S7800x128 1 := ori main_v22 main_v20
  let main_v24 : IVec S224x1x1 1 := broadcastInDim S224x1x1 ![0] bcast_S224_S224x1x1_0 main_v11
  let main_v25 : IVec S1x7800x128 1 := broadcastInDim S1x7800x128 ![1, 2] bcast_S7800x128_S1x7800x128_1_2 main_v23
  let main_v26 : IVec S224x7800x128 1 := broadcastInDim S224x7800x128 ![0, 1, 2] bcast_S224x1x1_S224x7800x128_0_1_2 main_v24
  let main_v27 : IVec S224x7800x128 1 := broadcastInDim S224x7800x128 ![0, 1, 2] bcast_S1x7800x128_S224x7800x128_0_1_2 main_v25
  let main_v28 : IVec S224x7800x128 1 := andi main_v26 main_v27
  main_v28

def fn {F : FTy → Type} [FloatOps F] (main_arg0 : IVec S897 32) (main_arg1 : IVec S1 32) (main_arg2 : IVec S374400x128 32) (main_arg3 : FVec F S71680x256 .f32) : IVec S224x7800x128 1 :=
  let main_v0 : IVec S225 32 := (extractStridedSlice S225 ![672] · slices_S897_S225_672) main_arg0
  let main_v1 : IVec S1 32 := (extractStridedSlice S1 ![672] · slices_S897_S1_672) main_arg0
  let main_v2 : IVec S_ 32 := shapeCast S_ main_v1 shapeCasts_S1_S_
  let main_v3 : IVec S225 32 := broadcastInDim S225 ![] bcast_S_S225 main_v2
  let main_v4 : IVec S225 32 := subi main_v0 main_v3
  let main_v5 : IVec S224 32 := (extractStridedSlice S224 ![0] · slices_S225_S224_0) main_v4
  let main_v6 : IVec S224 32 := (extractStridedSlice S224 ![1] · slices_S225_S224_1) main_v4
  let main_v7 : IVec S224 1 := cmpi .sle main_v5 main_v6
  let main_v8 : IVec S224 32 := (extractStridedSlice S224 ![1] · slices_S225_S224_1) main_v4
  let main_c : IVec S_ 32 := constantI S_ 32 3900#32
  let main_v9 : IVec S224 32 := broadcastInDim S224 ![] bcast_S_S224 main_c
  let main_v10 : IVec S224 1 := cmpi .sle main_v8 main_v9
  let main_v11 : IVec S224 1 := andi main_v7 main_v10
  let main_v12 : IVec S7800x48x128 32 := shapeCast S7800x48x128 main_arg2 shapeCasts_S374400x128_S7800x48x128
  let main_v13 : IVec S7800x1x128 32 := (extractStridedSlice S7800x1x128 ![0, 40, 0] · slices_S7800x48x128_S7800x1x128_0_40_0) main_v12
  let main_v14 : IVec S7800x128 32 := shapeCast S7800x128 main_v13 shapeCasts_S7800x1x128_S7800x128
  let main_c_0 : IVec S_ 32 := constantI S_ 32 0#32
  let main_v15 : IVec S1 32 := broadcastInDim S1 ![] bcast_S_S1 main_c_0
  let main_v16 : IVec S1 1 := cmpi .eq main_arg1 main_v15
  let main_c_1 : IVec S_ 32 := constantI S_ 32 2139095040#32
  let main_v17 : IVec S7800x128 32 := broadcastInDim S7800x128 ![] bcast_S_S7800x128 main_c_1
  let main_v18 : IVec S7800x128 32 := andi main_v14 main_v17
  let main_c_2 : IVec S_ 32 := constantI S_ 32 2139095040#32
  let main_v19 : IVec S7800x128 32 := broadcastInDim S7800x128 ![] bcast_S_S7800x128 main_c_2
  fn_part1 (F := F) main_v11 main_v16 main_v18 main_v19
-- ==== Kernel0.lean ====
abbrev S897 : Shape := ⟨1, ![897]⟩
abbrev S1 : Shape := ⟨1, ![1]⟩
abbrev S374400x128 : Shape := ⟨2, ![374400, 128]⟩
abbrev S71680x256 : Shape := ⟨2, ![71680, 256]⟩
abbrev S160x256 : Shape := ⟨2, ![160, 256]⟩
abbrev S16x96x128 : Shape := ⟨3, ![16, 96, 128]⟩
abbrev S16 : Shape := ⟨1, ![16]⟩
abbrev S_ : Shape := ⟨0, ![]⟩
abbrev S1x96x128 : Shape := ⟨3, ![1, 96, 128]⟩
abbrev S96x128 : Shape := ⟨2, ![96, 128]⟩
abbrev S128x256 : Shape := ⟨2, ![128, 256]⟩
abbrev S128x160 : Shape := ⟨2, ![128, 160]⟩
abbrev S40x128 : Shape := ⟨2, ![40, 128]⟩
abbrev S160x128 : Shape := ⟨2, ![160, 128]⟩
abbrev S1x128 : Shape := ⟨2, ![1, 128]⟩
abbrev S1x256 : Shape := ⟨2, ![1, 256]⟩
abbrev S17920x256 : Shape := ⟨2, ![17920, 256]⟩

abbrev nBuf : Space → Nat
  | .hbm => 3
  | .vmem => 3
  | .smem => 2
  | _ => 0

abbrev bufTy : (tb : Table) → Fin (tcTables nBuf tb) → BufTy
  | .hbm, ⟨0, _⟩ => ⟨S374400x128, .i32⟩
  | .hbm, ⟨1, _⟩ => ⟨S71680x256, .f32⟩
  | .hbm, ⟨2, _⟩ => ⟨S17920x256, .f32⟩
  | .local _ .vmem, ⟨0, _⟩ => ⟨S160x256, .f32⟩
  | .local _ .vmem, ⟨1, _⟩ => ⟨S160x256, .f32⟩
  | .local _ .vmem, ⟨2, _⟩ => ⟨S16x96x128, .i32⟩
  | .local _ .smem, ⟨0, _⟩ => ⟨S897, .i32⟩
  | .local _ .smem, ⟨1, _⟩ => ⟨S1, .i32⟩
  | _, _ => ⟨S374400x128, .i32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg2 : Ref sig .tc := ⟨.hbm, 0, rfl⟩
abbrev main_v0 : Ref sig .tc := ⟨.hbm, 1, rfl⟩
abbrev main_v1 : Ref sig .tc := ⟨.hbm, 2, rfl⟩
abbrev main_arg0 : Ref sig .tc := ⟨.smem, 0, rfl⟩
abbrev main_arg1 : Ref sig .tc := ⟨.smem, 1, rfl⟩
abbrev cc0_stg0_0 : Ref sig .tc := ⟨.vmem, 0, rfl⟩
abbrev cc0_stg0_1 : Ref sig .tc := ⟨.vmem, 1, rfl⟩
abbrev cc0_scratch0 : Ref sig .tc := ⟨.vmem, 2, rfl⟩
abbrev cc0_sem0_0 : DmaSem sig := 0
abbrev cc0_sem0_1 : DmaSem sig := 1

abbrev nD : Nat := 1
abbrev τ : Topo := Topo.v7x

variable {F : FTy → Type} [FloatOps F]

abbrev grid0 : Pipeline.Grid := ⟨1, ![112], ![false]⟩

abbrev pre0 : Pipeline.Prefetch sig := ⟨2, ![main_arg0.idx, main_arg1.idx], fun | 0 => main_arg0.names | 1 => main_arg1.names | ⟨_ + 2, h⟩ => absurd h (Nat.not_lt.2 (Nat.le_add_left _ _)), fun | 0 => rfl | 1 => rfl | ⟨_ + 2, h⟩ => absurd h (Nat.not_lt.2 (Nat.le_add_left _ _))⟩

def k0_cond1 (i : grid0.Coords) : BitVec 1 :=
  let arg0 : BitVec 32 := BitVec.ofNat 32 (i 0).val
  let c0_i32 : BitVec 32 := 0#32
  let v3 : BitVec 1 := Scalar.cmpi .eq arg0 c0_i32
  let v4 : BitVec 32 := Scalar.extui v3
  let c0_i32_0 : BitVec 32 := 0#32
  let v5 : BitVec 1 := Scalar.cmpi .ne v4 c0_i32_0
  v5

@[reducible] def k0_t1_loop (v0 : BitVec 32) (v1 : BitVec 32) : Scf.Loop 32 :=
  let c0_i32_23 : BitVec 32 := 0#32
  let v2 : BitVec 32 := Scalar.subi v1 v0
  let c16_i32 : BitVec 32 := 16#32
  let v47 : BitVec 32 := Scalar.minsi v2 c16_i32
  let c0_i32_17 : BitVec 32 := 0#32
  let v48 : BitVec 32 := Scalar.subi v47 c0_i32_17
  let c1_i32_18 : BitVec 32 := 1#32
  let c1_i32_19 : BitVec 32 := 1#32
  let v49 : BitVec 32 := Scalar.subi c1_i32_18 c1_i32_19
  let v50 : BitVec 32 := Scalar.addi v48 v49
  let c1_i32_20 : BitVec 32 := 1#32
  let v51 : BitVec 32 := Scalar.divsi v50 c1_i32_20
  let v52 : BitVec 32 := Scalar.subi v51 c0_i32_23
  let c1_i32_24 : BitVec 32 := 1#32
  let v54 : BitVec 32 := Scalar.divsi v52 c1_i32_24
  let v55 : BitVec 32 := Scalar.muli v54 c1_i32_24
  let v56 : BitVec 32 := Scalar.addi c0_i32_23 v55
  let c1_i32_25 : BitVec 32 := 1#32
  ⟨c0_i32_23, v56, c1_i32_25⟩

def k0_off1 (v0 : BitVec 32) (v1 : BitVec 32) (k0_t1 : Fin (k0_t1_loop v0 v1).trips) : Fin 1 → Nat :=
  let c0_i32_22 : BitVec 32 := 0#32
  let c0_i32_23 : BitVec 32 := 0#32
  let c1_i32_25 : BitVec 32 := 1#32
  let arg7 : BitVec 32 := Scf.iv c0_i32_23 c1_i32_25 k0_t1
  let c1_i32_21 : BitVec 32 := 1#32
  let v57 : BitVec 32 := Scalar.muli arg7 c1_i32_21
  let v58 : BitVec 32 := Scalar.addi c0_i32_22 v57
  let c16_i32_33 : BitVec 32 := 16#32
  let c0_i32_34 : BitVec 32 := 0#32
  let v70 : BitVec 1 := Scalar.cmpi .eq c16_i32_33 c0_i32_34
  let c1_i32_35 : BitVec 32 := 1#32
  let v71 : BitVec 32 := Scalar.select v70 c1_i32_35 c16_i32_33
  let v72 : BitVec 32 := Scalar.remsi v58 v71
  let c0_i32_37 : BitVec 32 := 0#32
  let v74 : BitVec 1 := Scalar.cmpi .slt v72 c0_i32_37
  let c0_i32_38 : BitVec 32 := 0#32
  let v75 : BitVec 1 := Scalar.cmpi .slt v71 c0_i32_38
  let v76 : BitVec 1 := Scalar.xori v74 v75
  let c0_i32_36 : BitVec 32 := 0#32
  let v73 : BitVec 1 := Scalar.cmpi .ne v72 c0_i32_36
  let v77 : BitVec 1 := Scalar.andi v76 v73
  let v78 : BitVec 32 := Scalar.addi v72 v71
  let v79 : BitVec 32 := Scalar.select v77 v78 v72
  ![v79.toNat]
def k0_off2 (v0 : BitVec 32) (v1 : BitVec 32) (k0_t1 : Fin (k0_t1_loop v0 v1).trips) : Fin 3 → Nat :=
  let c0_i32_22 : BitVec 32 := 0#32
  let c0_i32_23 : BitVec 32 := 0#32
  let c1_i32_25 : BitVec 32 := 1#32
  let arg7 : BitVec 32 := Scf.iv c0_i32_23 c1_i32_25 k0_t1
  let c1_i32_21 : BitVec 32 := 1#32
  let v57 : BitVec 32 := Scalar.muli arg7 c1_i32_21
  let v58 : BitVec 32 := Scalar.addi c0_i32_22 v57
  let c16_i32_27 : BitVec 32 := 16#32
  let c0_i32_28 : BitVec 32 := 0#32
  let v60 : BitVec 1 := Scalar.cmpi .eq c16_i32_27 c0_i32_28
  let c1_i32_29 : BitVec 32 := 1#32
  let v61 : BitVec 32 := Scalar.select v60 c1_i32_29 c16_i32_27
  let v62 : BitVec 32 := Scalar.remsi v58 v61
  let c0_i32_31 : BitVec 32 := 0#32
  let v64 : BitVec 1 := Scalar.cmpi .slt v62 c0_i32_31
  let c0_i32_32 : BitVec 32 := 0#32
  let v65 : BitVec 1 := Scalar.cmpi .slt v61 c0_i32_32
  let v66 : BitVec 1 := Scalar.xori v64 v65
  let c0_i32_30 : BitVec 32 := 0#32
  let v63 : BitVec 1 := Scalar.cmpi .ne v62 c0_i32_30
  let v67 : BitVec 1 := Scalar.andi v66 v63
  let v68 : BitVec 32 := Scalar.addi v62 v61
  let v69 : BitVec 32 := Scalar.select v67 v68 v62
  let c0_i32_39 : BitVec 32 := 0#32
  let c0_i32_40 : BitVec 32 := 0#32
  ![v69.toNat, 0, 0]
def k0_off3 (v0 : BitVec 32) (v1 : BitVec 32) (k0_t1 : Fin (k0_t1_loop v0 v1).trips) : Fin 2 → Nat :=
  let c0_i32_22 : BitVec 32 := 0#32
  let c0_i32_23 : BitVec 32 := 0#32
  let c1_i32_25 : BitVec 32 := 1#32
  let arg7 : BitVec 32 := Scf.iv c0_i32_23 c1_i32_25 k0_t1
  let c1_i32_21 : BitVec 32 := 1#32
  let v57 : BitVec 32 := Scalar.muli arg7 c1_i32_21
  let v58 : BitVec 32 := Scalar.addi c0_i32_22 v57
  let c96_i32 : BitVec 32 := 96#32
  let v59 : BitVec 32 := Scalar.muli v58 c96_i32
  let c0_i32_41 : BitVec 32 := 0#32
  ![v59.toNat, 0]
@[reducible] def k0_t2_loop (v0 : BitVec 32) (v1 : BitVec 32) : Scf.Loop 32 :=
  let c0_i32_23 : BitVec 32 := 0#32
  let v2 : BitVec 32 := Scalar.subi v1 v0
  let c16_i32 : BitVec 32 := 16#32
  let v47 : BitVec 32 := Scalar.minsi v2 c16_i32
  let c0_i32_17 : BitVec 32 := 0#32
  let v48 : BitVec 32 := Scalar.subi v47 c0_i32_17
  let c1_i32_18 : BitVec 32 := 1#32
  let c1_i32_19 : BitVec 32 := 1#32
  let v49 : BitVec 32 := Scalar.subi c1_i32_18 c1_i32_19
  let v50 : BitVec 32 := Scalar.addi v48 v49
  let c1_i32_20 : BitVec 32 := 1#32
  let v51 : BitVec 32 := Scalar.divsi v50 c1_i32_20
  let v52 : BitVec 32 := Scalar.subi v51 c0_i32_23
  let c1_i32_24 : BitVec 32 := 1#32
  let v54 : BitVec 32 := Scalar.divsi v52 c1_i32_24
  let v55 : BitVec 32 := Scalar.muli v54 c1_i32_24
  let v56 : BitVec 32 := Scalar.addi c0_i32_23 v55
  let v53 : BitVec 32 := Scalar.addi c0_i32_23 v52
  let c1_i32_26 : BitVec 32 := 1#32
  ⟨v56, v53, c1_i32_26⟩
def k0_off4 (v0 : BitVec 32) (v1 : BitVec 32) (k0_t2 : Fin (k0_t2_loop v0 v1).trips) : Fin 1 → Nat :=
  let c0_i32_22 : BitVec 32 := 0#32
  let c0_i32_23 : BitVec 32 := 0#32
  let v2 : BitVec 32 := Scalar.subi v1 v0
  let c16_i32 : BitVec 32 := 16#32
  let v47 : BitVec 32 := Scalar.minsi v2 c16_i32
  let c0_i32_17 : BitVec 32 := 0#32
  let v48 : BitVec 32 := Scalar.subi v47 c0_i32_17
  let c1_i32_18 : BitVec 32 := 1#32
  let c1_i32_19 : BitVec 32 := 1#32
  let v49 : BitVec 32 := Scalar.subi c1_i32_18 c1_i32_19
  let v50 : BitVec 32 := Scalar.addi v48 v49
  let c1_i32_20 : BitVec 32 := 1#32
  let v51 : BitVec 32 := Scalar.divsi v50 c1_i32_20
  let v52 : BitVec 32 := Scalar.subi v51 c0_i32_23
  let c1_i32_24 : BitVec 32 := 1#32
  let v54 : BitVec 32 := Scalar.divsi v52 c1_i32_24
  let v55 : BitVec 32 := Scalar.muli v54 c1_i32_24
  let v56 : BitVec 32 := Scalar.addi c0_i32_23 v55
  let c1_i32_26 : BitVec 32 := 1#32
  let arg7 : BitVec 32 := Scf.iv v56 c1_i32_26 k0_t2
  let c1_i32_21 : BitVec 32 := 1#32
  let v57 : BitVec 32 := Scalar.muli arg7 c1_i32_21
  let v58 : BitVec 32 := Scalar.addi c0_i32_22 v57
  let c16_i32_33 : BitVec 32 := 16#32
  let c0_i32_34 : BitVec 32 := 0#32
  let v70 : BitVec 1 := Scalar.cmpi .eq c16_i32_33 c0_i32_34
  let c1_i32_35 : BitVec 32 := 1#32
  let v71 : BitVec 32 := Scalar.select v70 c1_i32_35 c16_i32_33
  let v72 : BitVec 32 := Scalar.remsi v58 v71
  let c0_i32_37 : BitVec 32 := 0#32
  let v74 : BitVec 1 := Scalar.cmpi .slt v72 c0_i32_37
  let c0_i32_38 : BitVec 32 := 0#32
  let v75 : BitVec 1 := Scalar.cmpi .slt v71 c0_i32_38
  let v76 : BitVec 1 := Scalar.xori v74 v75
  let c0_i32_36 : BitVec 32 := 0#32
  let v73 : BitVec 1 := Scalar.cmpi .ne v72 c0_i32_36
  let v77 : BitVec 1 := Scalar.andi v76 v73
  let v78 : BitVec 32 := Scalar.addi v72 v71
  let v79 : BitVec 32 := Scalar.select v77 v78 v72
  ![v79.toNat]
def k0_off5 (v0 : BitVec 32) (v1 : BitVec 32) (k0_t2 : Fin (k0_t2_loop v0 v1).trips) : Fin 3 → Nat :=
  let c0_i32_22 : BitVec 32 := 0#32
  let c0_i32_23 : BitVec 32 := 0#32
  let v2 : BitVec 32 := Scalar.subi v1 v0
  let c16_i32 : BitVec 32 := 16#32
  let v47 : BitVec 32 := Scalar.minsi v2 c16_i32
  let c0_i32_17 : BitVec 32 := 0#32
  let v48 : BitVec 32 := Scalar.subi v47 c0_i32_17
  let c1_i32_18 : BitVec 32 := 1#32
  let c1_i32_19 : BitVec 32 := 1#32
  let v49 : BitVec 32 := Scalar.subi c1_i32_18 c1_i32_19
  let v50 : BitVec 32 := Scalar.addi v48 v49
  let c1_i32_20 : BitVec 32 := 1#32
  let v51 : BitVec 32 := Scalar.divsi v50 c1_i32_20
  let v52 : BitVec 32 := Scalar.subi v51 c0_i32_23
  let c1_i32_24 : BitVec 32 := 1#32
  let v54 : BitVec 32 := Scalar.divsi v52 c1_i32_24
  let v55 : BitVec 32 := Scalar.muli v54 c1_i32_24
  let v56 : BitVec 32 := Scalar.addi c0_i32_23 v55
  let c1_i32_26 : BitVec 32 := 1#32
  let arg7 : BitVec 32 := Scf.iv v56 c1_i32_26 k0_t2
  let c1_i32_21 : BitVec 32 := 1#32
  let v57 : BitVec 32 := Scalar.muli arg7 c1_i32_21
  let v58 : BitVec 32 := Scalar.addi c0_i32_22 v57
  let c16_i32_27 : BitVec 32 := 16#32
  let c0_i32_28 : BitVec 32 := 0#32
  let v60 : BitVec 1 := Scalar.cmpi .eq c16_i32_27 c0_i32_28
  let c1_i32_29 : BitVec 32 := 1#32
  let v61 : BitVec 32 := Scalar.select v60 c1_i32_29 c16_i32_27
  let v62 : BitVec 32 := Scalar.remsi v58 v61
  let c0_i32_31 : BitVec 32 := 0#32
  let v64 : BitVec 1 := Scalar.cmpi .slt v62 c0_i32_31
  let c0_i32_32 : BitVec 32 := 0#32
  let v65 : BitVec 1 := Scalar.cmpi .slt v61 c0_i32_32
  let v66 : BitVec 1 := Scalar.xori v64 v65
  let c0_i32_30 : BitVec 32 := 0#32
  let v63 : BitVec 1 := Scalar.cmpi .ne v62 c0_i32_30
  let v67 : BitVec 1 := Scalar.andi v66 v63
  let v68 : BitVec 32 := Scalar.addi v62 v61
  let v69 : BitVec 32 := Scalar.select v67 v68 v62
  let c0_i32_39 : BitVec 32 := 0#32
  let c0_i32_40 : BitVec 32 := 0#32
  ![v69.toNat, 0, 0]
def k0_off6 (v0 : BitVec 32) (v1 : BitVec 32) (k0_t2 : Fin (k0_t2_loop v0 v1).trips) : Fin 2 → Nat :=
  let c0_i32_22 : BitVec 32 := 0#32
  let c0_i32_23 : BitVec 32 := 0#32
  let v2 : BitVec 32 := Scalar.subi v1 v0
  let c16_i32 : BitVec 32 := 16#32
  let v47 : BitVec 32 := Scalar.minsi v2 c16_i32
  let c0_i32_17 : BitVec 32 := 0#32
  let v48 : BitVec 32 := Scalar.subi v47 c0_i32_17
  let c1_i32_18 : BitVec 32 := 1#32
  let c1_i32_19 : BitVec 32 := 1#32
  let v49 : BitVec 32 := Scalar.subi c1_i32_18 c1_i32_19
  let v50 : BitVec 32 := Scalar.addi v48 v49
  let c1_i32_20 : BitVec 32 := 1#32
  let v51 : BitVec 32 := Scalar.divsi v50 c1_i32_20
  let v52 : BitVec 32 := Scalar.subi v51 c0_i32_23
  let c1_i32_24 : BitVec 32 := 1#32
  let v54 : BitVec 32 := Scalar.divsi v52 c1_i32_24
  let v55 : BitVec 32 := Scalar.muli v54 c1_i32_24
  let v56 : BitVec 32 := Scalar.addi c0_i32_23 v55
  let c1_i32_26 : BitVec 32 := 1#32
  let arg7 : BitVec 32 := Scf.iv v56 c1_i32_26 k0_t2
  let c1_i32_21 : BitVec 32 := 1#32
  let v57 : BitVec 32 := Scalar.muli arg7 c1_i32_21
  let v58 : BitVec 32 := Scalar.addi c0_i32_22 v57
  let c96_i32 : BitVec 32 := 96#32
  let v59 : BitVec 32 := Scalar.muli v58 c96_i32
  let c0_i32_41 : BitVec 32 := 0#32
  ![v59.toNat, 0]

def k0_chk1 (i : grid0.Coords) (v0 : BitVec 32) (v1 : BitVec 32) : Prop :=
  (∀ (k0_h1 : k0_cond1 i = 1#1), (k0_t1_loop v0 v1).OK) ∧
  (∀ k0_t1 : Fin (k0_t1_loop v0 v1).trips, ∀ (k0_h1 : k0_cond1 i = 1#1), ∀ a, (k0_off1 v0 v1 k0_t1) a + S1.size a ≤ S16.size a) ∧
  (∀ k0_t1 : Fin (k0_t1_loop v0 v1).trips, ∀ (k0_h1 : k0_cond1 i = 1#1), ∀ a, (k0_off2 v0 v1 k0_t1) a + S1x96x128.size a ≤ S16x96x128.size a) ∧
  (∀ k0_t1 : Fin (k0_t1_loop v0 v1).trips, ∀ (k0_h1 : k0_cond1 i = 1#1), ∀ a, (k0_off3 v0 v1 k0_t1) a + S96x128.size a ≤ S374400x128.size a) ∧
  (∀ (k0_h1 : k0_cond1 i = 1#1), (k0_t2_loop v0 v1).OK) ∧
  (∀ k0_t2 : Fin (k0_t2_loop v0 v1).trips, ∀ (k0_h1 : k0_cond1 i = 1#1), ∀ a, (k0_off4 v0 v1 k0_t2) a + S1.size a ≤ S16.size a) ∧
  (∀ k0_t2 : Fin (k0_t2_loop v0 v1).trips, ∀ (k0_h1 : k0_cond1 i = 1#1), ∀ a, (k0_off5 v0 v1 k0_t2) a + S1x96x128.size a ≤ S16x96x128.size a) ∧
  (∀ k0_t2 : Fin (k0_t2_loop v0 v1).trips, ∀ (k0_h1 : k0_cond1 i = 1#1), ∀ a, (k0_off6 v0 v1 k0_t2) a + S96x128.size a ≤ S374400x128.size a)
theorem k0_t1_ok : ∀ (i : grid0.Coords) (v0 : BitVec 32) (v1 : BitVec 32) (k0_hw1 : k0_chk1 i v0 v1), ∀ (k0_h1 : k0_cond1 i = 1#1), (k0_t1_loop v0 v1).OK := fun i v0 v1 k0_hw1 k0_h1 => k0_hw1.1 k0_h1
theorem k0_off1_inb : ∀ (i : grid0.Coords) (v0 : BitVec 32) (v1 : BitVec 32) (k0_hw1 : k0_chk1 i v0 v1) (k0_t1 : Fin (k0_t1_loop v0 v1).trips), ∀ (k0_h1 : k0_cond1 i = 1#1), ∀ a, (k0_off1 v0 v1 k0_t1) a + S1.size a ≤ S16.size a := fun i v0 v1 k0_hw1 k0_t1 k0_h1 => k0_hw1.2.1 k0_t1 k0_h1
theorem k0_off2_inb : ∀ (i : grid0.Coords) (v0 : BitVec 32) (v1 : BitVec 32) (k0_hw1 : k0_chk1 i v0 v1) (k0_t1 : Fin (k0_t1_loop v0 v1).trips), ∀ (k0_h1 : k0_cond1 i = 1#1), ∀ a, (k0_off2 v0 v1 k0_t1) a + S1x96x128.size a ≤ S16x96x128.size a := fun i v0 v1 k0_hw1 k0_t1 k0_h1 => k0_hw1.2.2.1 k0_t1 k0_h1
theorem k0_off3_inb : ∀ (i : grid0.Coords) (v0 : BitVec 32) (v1 : BitVec 32) (k0_hw1 : k0_chk1 i v0 v1) (k0_t1 : Fin (k0_t1_loop v0 v1).trips), ∀ (k0_h1 : k0_cond1 i = 1#1), ∀ a, (k0_off3 v0 v1 k0_t1) a + S96x128.size a ≤ S374400x128.size a := fun i v0 v1 k0_hw1 k0_t1 k0_h1 => k0_hw1.2.2.2.1 k0_t1 k0_h1
theorem k0_t2_ok : ∀ (i : grid0.Coords) (v0 : BitVec 32) (v1 : BitVec 32) (k0_hw1 : k0_chk1 i v0 v1), ∀ (k0_h1 : k0_cond1 i = 1#1), (k0_t2_loop v0 v1).OK := fun i v0 v1 k0_hw1 k0_h1 => k0_hw1.2.2.2.2.1 k0_h1
theorem k0_off4_inb : ∀ (i : grid0.Coords) (v0 : BitVec 32) (v1 : BitVec 32) (k0_hw1 : k0_chk1 i v0 v1) (k0_t2 : Fin (k0_t2_loop v0 v1).trips), ∀ (k0_h1 : k0_cond1 i = 1#1), ∀ a, (k0_off4 v0 v1 k0_t2) a + S1.size a ≤ S16.size a := fun i v0 v1 k0_hw1 k0_t2 k0_h1 => k0_hw1.2.2.2.2.2.1 k0_t2 k0_h1
theorem k0_off5_inb : ∀ (i : grid0.Coords) (v0 : BitVec 32) (v1 : BitVec 32) (k0_hw1 : k0_chk1 i v0 v1) (k0_t2 : Fin (k0_t2_loop v0 v1).trips), ∀ (k0_h1 : k0_cond1 i = 1#1), ∀ a, (k0_off5 v0 v1 k0_t2) a + S1x96x128.size a ≤ S16x96x128.size a := fun i v0 v1 k0_hw1 k0_t2 k0_h1 => k0_hw1.2.2.2.2.2.2.1 k0_t2 k0_h1
theorem k0_off6_inb : ∀ (i : grid0.Coords) (v0 : BitVec 32) (v1 : BitVec 32) (k0_hw1 : k0_chk1 i v0 v1) (k0_t2 : Fin (k0_t2_loop v0 v1).trips), ∀ (k0_h1 : k0_cond1 i = 1#1), ∀ a, (k0_off6 v0 v1 k0_t2) a + S96x128.size a ≤ S374400x128.size a := fun i v0 v1 k0_hw1 k0_t2 k0_h1 => k0_hw1.2.2.2.2.2.2.2 k0_t2 k0_h1

def k0_off7 (i : grid0.Coords) : Fin 1 → Nat :=
  let c0_i32_1 : BitVec 32 := 0#32
  let arg0 : BitVec 32 := BitVec.ofNat 32 (i 0).val
  let v7 : BitVec 32 := Scalar.addi c0_i32_1 arg0
  let c2_i32 : BitVec 32 := 2#32
  let v8 : BitVec 32 := Scalar.muli v7 c2_i32
  let c0_i32_2 : BitVec 32 := 0#32
  let v9 : BitVec 32 := Scalar.addi v8 c0_i32_2
  let v10 : Index := Scalar.indexCast v9
  ![v10.toNat]
def k0_off8 (i : grid0.Coords) : Fin 1 → Nat :=
  let c0_i32_1 : BitVec 32 := 0#32
  let arg0 : BitVec 32 := BitVec.ofNat 32 (i 0).val
  let v7 : BitVec 32 := Scalar.addi c0_i32_1 arg0
  let c2_i32 : BitVec 32 := 2#32
  let v8 : BitVec 32 := Scalar.muli v7 c2_i32
  let c0_i32_2 : BitVec 32 := 0#32
  let v9 : BitVec 32 := Scalar.addi v8 c0_i32_2
  let c1_i32 : BitVec 32 := 1#32
  let v13 : BitVec 32 := Scalar.addi v9 c1_i32
  let v14 : Index := Scalar.indexCast v13
  ![v14.toNat]
@[reducible] def k0_t3_loop (v0 : BitVec 32) (v11 : BitVec 32) (v15 : BitVec 32) : Scf.Loop 32 :=
  let v12 : BitVec 32 := Scalar.subi v11 v0
  let v16 : BitVec 32 := Scalar.subi v15 v0
  let v18 : BitVec 32 := Scalar.subi v16 v12
  let c1_i32_3 : BitVec 32 := 1#32
  let v20 : BitVec 32 := Scalar.divsi v18 c1_i32_3
  let v21 : BitVec 32 := Scalar.muli v20 c1_i32_3
  let v22 : BitVec 32 := Scalar.addi v12 v21
  let c1_i32_4 : BitVec 32 := 1#32
  ⟨v12, v22, c1_i32_4⟩

def k0_off9 (v0 : BitVec 32) (v11 : BitVec 32) (v15 : BitVec 32) (k0_t3 : Fin (k0_t3_loop v0 v11 v15).trips) : Fin 1 → Nat :=
  let v12 : BitVec 32 := Scalar.subi v11 v0
  let c1_i32_4 : BitVec 32 := 1#32
  let arg7 : BitVec 32 := Scf.iv v12 c1_i32_4 k0_t3
  let c16_i32_22 : BitVec 32 := 16#32
  let c0_i32_23 : BitVec 32 := 0#32
  let v58 : BitVec 1 := Scalar.cmpi .eq c16_i32_22 c0_i32_23
  let c1_i32_24 : BitVec 32 := 1#32
  let v59 : BitVec 32 := Scalar.select v58 c1_i32_24 c16_i32_22
  let v60 : BitVec 32 := Scalar.remsi arg7 v59
  let c0_i32_26 : BitVec 32 := 0#32
  let v62 : BitVec 1 := Scalar.cmpi .slt v60 c0_i32_26
  let c0_i32_27 : BitVec 32 := 0#32
  let v63 : BitVec 1 := Scalar.cmpi .slt v59 c0_i32_27
  let v64 : BitVec 1 := Scalar.xori v62 v63
  let c0_i32_25 : BitVec 32 := 0#32
  let v61 : BitVec 1 := Scalar.cmpi .ne v60 c0_i32_25
  let v65 : BitVec 1 := Scalar.andi v64 v61
  let v66 : BitVec 32 := Scalar.addi v60 v59
  let v67 : BitVec 32 := Scalar.select v65 v66 v60
  ![v67.toNat]
def k0_off10 (v0 : BitVec 32) (v11 : BitVec 32) (v15 : BitVec 32) (k0_t3 : Fin (k0_t3_loop v0 v11 v15).trips) : Fin 3 → Nat :=
  let v12 : BitVec 32 := Scalar.subi v11 v0
  let c1_i32_4 : BitVec 32 := 1#32
  let arg7 : BitVec 32 := Scf.iv v12 c1_i32_4 k0_t3
  let c16_i32 : BitVec 32 := 16#32
  let c0_i32_17 : BitVec 32 := 0#32
  let v48 : BitVec 1 := Scalar.cmpi .eq c16_i32 c0_i32_17
  let c1_i32_18 : BitVec 32 := 1#32
  let v49 : BitVec 32 := Scalar.select v48 c1_i32_18 c16_i32
  let v50 : BitVec 32 := Scalar.remsi arg7 v49
  let c0_i32_20 : BitVec 32 := 0#32
  let v52 : BitVec 1 := Scalar.cmpi .slt v50 c0_i32_20
  let c0_i32_21 : BitVec 32 := 0#32
  let v53 : BitVec 1 := Scalar.cmpi .slt v49 c0_i32_21
  let v54 : BitVec 1 := Scalar.xori v52 v53
  let c0_i32_19 : BitVec 32 := 0#32
  let v51 : BitVec 1 := Scalar.cmpi .ne v50 c0_i32_19
  let v55 : BitVec 1 := Scalar.andi v54 v51
  let v56 : BitVec 32 := Scalar.addi v50 v49
  let v57 : BitVec 32 := Scalar.select v55 v56 v50
  let c0_i32_28 : BitVec 32 := 0#32
  let c0_i32_29 : BitVec 32 := 0#32
  ![v57.toNat, 0, 0]
def k0_off11 (v0 : BitVec 32) (v11 : BitVec 32) (v15 : BitVec 32) (k0_t3 : Fin (k0_t3_loop v0 v11 v15).trips) : Fin 2 → Nat :=
  let v12 : BitVec 32 := Scalar.subi v11 v0
  let c1_i32_4 : BitVec 32 := 1#32
  let arg7 : BitVec 32 := Scf.iv v12 c1_i32_4 k0_t3
  let c96_i32 : BitVec 32 := 96#32
  let v47 : BitVec 32 := Scalar.muli arg7 c96_i32
  let c0_i32_30 : BitVec 32 := 0#32
  ![v47.toNat, 0]
def k0_off12 (v0 : BitVec 32) (v11 : BitVec 32) (v15 : BitVec 32) (k0_t3 : Fin (k0_t3_loop v0 v11 v15).trips) : Fin 3 → Nat :=
  let v12 : BitVec 32 := Scalar.subi v11 v0
  let c1_i32_4 : BitVec 32 := 1#32
  let arg7 : BitVec 32 := Scf.iv v12 c1_i32_4 k0_t3
  let c16_i32_31 : BitVec 32 := 16#32
  let c0_i32_32 : BitVec 32 := 0#32
  let v73 : BitVec 1 := Scalar.cmpi .eq c16_i32_31 c0_i32_32
  let c1_i32_33 : BitVec 32 := 1#32
  let v74 : BitVec 32 := Scalar.select v73 c1_i32_33 c16_i32_31
  let v75 : BitVec 32 := Scalar.remsi arg7 v74
  let c0_i32_35 : BitVec 32 := 0#32
  let v77 : BitVec 1 := Scalar.cmpi .slt v75 c0_i32_35
  let c0_i32_36 : BitVec 32 := 0#32
  let v78 : BitVec 1 := Scalar.cmpi .slt v74 c0_i32_36
  let v79 : BitVec 1 := Scalar.xori v77 v78
  let c0_i32_34 : BitVec 32 := 0#32
  let v76 : BitVec 1 := Scalar.cmpi .ne v75 c0_i32_34
  let v80 : BitVec 1 := Scalar.andi v79 v76
  let v81 : BitVec 32 := Scalar.addi v75 v74
  let v82 : BitVec 32 := Scalar.select v80 v81 v75
  let v83 : Index := Scalar.indexCast v82
  let c0_37 : Index := 0#32
  let c0_38 : Index := 0#32
  ![v83.toNat, 0, 0]
def k0_off13 (v0 : BitVec 32) (v11 : BitVec 32) (v15 : BitVec 32) (k0_t3 : Fin (k0_t3_loop v0 v11 v15).trips) : Fin 1 → Nat :=
  let v12 : BitVec 32 := Scalar.subi v11 v0
  let c1_i32_4 : BitVec 32 := 1#32
  let arg7 : BitVec 32 := Scf.iv v12 c1_i32_4 k0_t3
  let c16_i32_44 : BitVec 32 := 16#32
  let v111 : BitVec 32 := Scalar.addi arg7 c16_i32_44
  let c16_i32_52 : BitVec 32 := 16#32
  let c0_i32_53 : BitVec 32 := 0#32
  let v123 : BitVec 1 := Scalar.cmpi .eq c16_i32_52 c0_i32_53
  let c1_i32_54 : BitVec 32 := 1#32
  let v124 : BitVec 32 := Scalar.select v123 c1_i32_54 c16_i32_52
  let v125 : BitVec 32 := Scalar.remsi v111 v124
  let c0_i32_56 : BitVec 32 := 0#32
  let v127 : BitVec 1 := Scalar.cmpi .slt v125 c0_i32_56
  let c0_i32_57 : BitVec 32 := 0#32
  let v128 : BitVec 1 := Scalar.cmpi .slt v124 c0_i32_57
  let v129 : BitVec 1 := Scalar.xori v127 v128
  let c0_i32_55 : BitVec 32 := 0#32
  let v126 : BitVec 1 := Scalar.cmpi .ne v125 c0_i32_55
  let v130 : BitVec 1 := Scalar.andi v129 v126
  let v131 : BitVec 32 := Scalar.addi v125 v124
  let v132 : BitVec 32 := Scalar.select v130 v131 v125
  ![v132.toNat]
def k0_cond3 (v0 : BitVec 32) (v1 : BitVec 32) (v11 : BitVec 32) (v15 : BitVec 32) (k0_t3 : Fin (k0_t3_loop v0 v11 v15).trips) : BitVec 1 :=
  let v12 : BitVec 32 := Scalar.subi v11 v0
  let c1_i32_4 : BitVec 32 := 1#32
  let arg7 : BitVec 32 := Scf.iv v12 c1_i32_4 k0_t3
  let c16_i32_42 : BitVec 32 := 16#32
  let v107 : BitVec 32 := Scalar.addi arg7 c16_i32_42
  let v2 : BitVec 32 := Scalar.subi v1 v0
  let v108 : BitVec 1 := Scalar.cmpi .slt v107 v2
  let v109 : BitVec 32 := Scalar.extui v108
  let c0_i32_43 : BitVec 32 := 0#32
  let v110 : BitVec 1 := Scalar.cmpi .ne v109 c0_i32_43
  v110

def k0_off14 (v0 : BitVec 32) (v11 : BitVec 32) (v15 : BitVec 32) (k0_t3 : Fin (k0_t3_loop v0 v11 v15).trips) : Fin 3 → Nat :=
  let v12 : BitVec 32 := Scalar.subi v11 v0
  let c1_i32_4 : BitVec 32 := 1#32
  let arg7 : BitVec 32 := Scf.iv v12 c1_i32_4 k0_t3
  let c16_i32_44 : BitVec 32 := 16#32
  let v111 : BitVec 32 := Scalar.addi arg7 c16_i32_44
  let c16_i32_46 : BitVec 32 := 16#32
  let c0_i32_47 : BitVec 32 := 0#32
  let v113 : BitVec 1 := Scalar.cmpi .eq c16_i32_46 c0_i32_47
  let c1_i32_48 : BitVec 32 := 1#32
  let v114 : BitVec 32 := Scalar.select v113 c1_i32_48 c16_i32_46
  let v115 : BitVec 32 := Scalar.remsi v111 v114
  let c0_i32_50 : BitVec 32 := 0#32
  let v117 : BitVec 1 := Scalar.cmpi .slt v115 c0_i32_50
  let c0_i32_51 : BitVec 32 := 0#32
  let v118 : BitVec 1 := Scalar.cmpi .slt v114 c0_i32_51
  let v119 : BitVec 1 := Scalar.xori v117 v118
  let c0_i32_49 : BitVec 32 := 0#32
  let v116 : BitVec 1 := Scalar.cmpi .ne v115 c0_i32_49
  let v120 : BitVec 1 := Scalar.andi v119 v116
  let v121 : BitVec 32 := Scalar.addi v115 v114
  let v122 : BitVec 32 := Scalar.select v120 v121 v115
  let c0_i32_58 : BitVec 32 := 0#32
  let c0_i32_59 : BitVec 32 := 0#32
  ![v122.toNat, 0, 0]
def k0_off15 (v0 : BitVec 32) (v11 : BitVec 32) (v15 : BitVec 32) (k0_t3 : Fin (k0_t3_loop v0 v11 v15).trips) : Fin 2 → Nat :=
  let v12 : BitVec 32 := Scalar.subi v11 v0
  let c1_i32_4 : BitVec 32 := 1#32
  let arg7 : BitVec 32 := Scf.iv v12 c1_i32_4 k0_t3
  let c16_i32_44 : BitVec 32 := 16#32
  let v111 : BitVec 32 := Scalar.addi arg7 c16_i32_44
  let c96_i32_45 : BitVec 32 := 96#32
  let v112 : BitVec 32 := Scalar.muli v111 c96_i32_45
  let c0_i32_60 : BitVec 32 := 0#32
  ![v112.toNat, 0]
@[reducible] def k0_t4_loop (v0 : BitVec 32) (v11 : BitVec 32) (v15 : BitVec 32) : Scf.Loop 32 :=
  let v12 : BitVec 32 := Scalar.subi v11 v0
  let v16 : BitVec 32 := Scalar.subi v15 v0
  let v18 : BitVec 32 := Scalar.subi v16 v12
  let c1_i32_3 : BitVec 32 := 1#32
  let v20 : BitVec 32 := Scalar.divsi v18 c1_i32_3
  let v21 : BitVec 32 := Scalar.muli v20 c1_i32_3
  let v22 : BitVec 32 := Scalar.addi v12 v21
  let v19 : BitVec 32 := Scalar.addi v12 v18
  let c1_i32_5 : BitVec 32 := 1#32
  ⟨v22, v19, c1_i32_5⟩
def k0_off16 (v0 : BitVec 32) (v11 : BitVec 32) (v15 : BitVec 32) (k0_t4 : Fin (k0_t4_loop v0 v11 v15).trips) : Fin 1 → Nat :=
  let v12 : BitVec 32 := Scalar.subi v11 v0
  let v16 : BitVec 32 := Scalar.subi v15 v0
  let v18 : BitVec 32 := Scalar.subi v16 v12
  let c1_i32_3 : BitVec 32 := 1#32
  let v20 : BitVec 32 := Scalar.divsi v18 c1_i32_3
  let v21 : BitVec 32 := Scalar.muli v20 c1_i32_3
  let v22 : BitVec 32 := Scalar.addi v12 v21
  let c1_i32_5 : BitVec 32 := 1#32
  let arg7 : BitVec 32 := Scf.iv v22 c1_i32_5 k0_t4
  let c16_i32_22 : BitVec 32 := 16#32
  let c0_i32_23 : BitVec 32 := 0#32
  let v58 : BitVec 1 := Scalar.cmpi .eq c16_i32_22 c0_i32_23
  let c1_i32_24 : BitVec 32 := 1#32
  let v59 : BitVec 32 := Scalar.select v58 c1_i32_24 c16_i32_22
  let v60 : BitVec 32 := Scalar.remsi arg7 v59
  let c0_i32_26 : BitVec 32 := 0#32
  let v62 : BitVec 1 := Scalar.cmpi .slt v60 c0_i32_26
  let c0_i32_27 : BitVec 32 := 0#32
  let v63 : BitVec 1 := Scalar.cmpi .slt v59 c0_i32_27
  let v64 : BitVec 1 := Scalar.xori v62 v63
  let c0_i32_25 : BitVec 32 := 0#32
  let v61 : BitVec 1 := Scalar.cmpi .ne v60 c0_i32_25
  let v65 : BitVec 1 := Scalar.andi v64 v61
  let v66 : BitVec 32 := Scalar.addi v60 v59
  let v67 : BitVec 32 := Scalar.select v65 v66 v60
  ![v67.toNat]
def k0_off17 (v0 : BitVec 32) (v11 : BitVec 32) (v15 : BitVec 32) (k0_t4 : Fin (k0_t4_loop v0 v11 v15).trips) : Fin 3 → Nat :=
  let v12 : BitVec 32 := Scalar.subi v11 v0
  let v16 : BitVec 32 := Scalar.subi v15 v0
  let v18 : BitVec 32 := Scalar.subi v16 v12
  let c1_i32_3 : BitVec 32 := 1#32
  let v20 : BitVec 32 := Scalar.divsi v18 c1_i32_3
  let v21 : BitVec 32 := Scalar.muli v20 c1_i32_3
  let v22 : BitVec 32 := Scalar.addi v12 v21
  let c1_i32_5 : BitVec 32 := 1#32
  let arg7 : BitVec 32 := Scf.iv v22 c1_i32_5 k0_t4
  let c16_i32 : BitVec 32 := 16#32
  let c0_i32_17 : BitVec 32 := 0#32
  let v48 : BitVec 1 := Scalar.cmpi .eq c16_i32 c0_i32_17
  let c1_i32_18 : BitVec 32 := 1#32
  let v49 : BitVec 32 := Scalar.select v48 c1_i32_18 c16_i32
  let v50 : BitVec 32 := Scalar.remsi arg7 v49
  let c0_i32_20 : BitVec 32 := 0#32
  let v52 : BitVec 1 := Scalar.cmpi .slt v50 c0_i32_20
  let c0_i32_21 : BitVec 32 := 0#32
  let v53 : BitVec 1 := Scalar.cmpi .slt v49 c0_i32_21
  let v54 : BitVec 1 := Scalar.xori v52 v53
  let c0_i32_19 : BitVec 32 := 0#32
  let v51 : BitVec 1 := Scalar.cmpi .ne v50 c0_i32_19
  let v55 : BitVec 1 := Scalar.andi v54 v51
  let v56 : BitVec 32 := Scalar.addi v50 v49
  let v57 : BitVec 32 := Scalar.select v55 v56 v50
  let c0_i32_28 : BitVec 32 := 0#32
  let c0_i32_29 : BitVec 32 := 0#32
  ![v57.toNat, 0, 0]
def k0_off18 (v0 : BitVec 32) (v11 : BitVec 32) (v15 : BitVec 32) (k0_t4 : Fin (k0_t4_loop v0 v11 v15).trips) : Fin 2 → Nat :=
  let v12 : BitVec 32 := Scalar.subi v11 v0
  let v16 : BitVec 32 := Scalar.subi v15 v0
  let v18 : BitVec 32 := Scalar.subi v16 v12
  let c1_i32_3 : BitVec 32 := 1#32
  let v20 : BitVec 32 := Scalar.divsi v18 c1_i32_3
  let v21 : BitVec 32 := Scalar.muli v20 c1_i32_3
  let v22 : BitVec 32 := Scalar.addi v12 v21
  let c1_i32_5 : BitVec 32 := 1#32
  let arg7 : BitVec 32 := Scf.iv v22 c1_i32_5 k0_t4
  let c96_i32 : BitVec 32 := 96#32
  let v47 : BitVec 32 := Scalar.muli arg7 c96_i32
  let c0_i32_30 : BitVec 32 := 0#32
  ![v47.toNat, 0]
def k0_off19 (v0 : BitVec 32) (v11 : BitVec 32) (v15 : BitVec 32) (k0_t4 : Fin (k0_t4_loop v0 v11 v15).trips) : Fin 3 → Nat :=
  let v12 : BitVec 32 := Scalar.subi v11 v0
  let v16 : BitVec 32 := Scalar.subi v15 v0
  let v18 : BitVec 32 := Scalar.subi v16 v12
  let c1_i32_3 : BitVec 32 := 1#32
  let v20 : BitVec 32 := Scalar.divsi v18 c1_i32_3
  let v21 : BitVec 32 := Scalar.muli v20 c1_i32_3
  let v22 : BitVec 32 := Scalar.addi v12 v21
  let c1_i32_5 : BitVec 32 := 1#32
  let arg7 : BitVec 32 := Scf.iv v22 c1_i32_5 k0_t4
  let c16_i32_31 : BitVec 32 := 16#32
  let c0_i32_32 : BitVec 32 := 0#32
  let v73 : BitVec 1 := Scalar.cmpi .eq c16_i32_31 c0_i32_32
  let c1_i32_33 : BitVec 32 := 1#32
  let v74 : BitVec 32 := Scalar.select v73 c1_i32_33 c16_i32_31
  let v75 : BitVec 32 := Scalar.remsi arg7 v74
  let c0_i32_35 : BitVec 32 := 0#32
  let v77 : BitVec 1 := Scalar.cmpi .slt v75 c0_i32_35
  let c0_i32_36 : BitVec 32 := 0#32
  let v78 : BitVec 1 := Scalar.cmpi .slt v74 c0_i32_36
  let v79 : BitVec 1 := Scalar.xori v77 v78
  let c0_i32_34 : BitVec 32 := 0#32
  let v76 : BitVec 1 := Scalar.cmpi .ne v75 c0_i32_34
  let v80 : BitVec 1 := Scalar.andi v79 v76
  let v81 : BitVec 32 := Scalar.addi v75 v74
  let v82 : BitVec 32 := Scalar.select v80 v81 v75
  let v83 : Index := Scalar.indexCast v82
  let c0_37 : Index := 0#32
  let c0_38 : Index := 0#32
  ![v83.toNat, 0, 0]
def k0_off20 (v0 : BitVec 32) (v11 : BitVec 32) (v15 : BitVec 32) (k0_t4 : Fin (k0_t4_loop v0 v11 v15).trips) : Fin 1 → Nat :=
  let v12 : BitVec 32 := Scalar.subi v11 v0
  let v16 : BitVec 32 := Scalar.subi v15 v0
  let v18 : BitVec 32 := Scalar.subi v16 v12
  let c1_i32_3 : BitVec 32 := 1#32
  let v20 : BitVec 32 := Scalar.divsi v18 c1_i32_3
  let v21 : BitVec 32 := Scalar.muli v20 c1_i32_3
  let v22 : BitVec 32 := Scalar.addi v12 v21
  let c1_i32_5 : BitVec 32 := 1#32
  let arg7 : BitVec 32 := Scf.iv v22 c1_i32_5 k0_t4
  let c16_i32_44 : BitVec 32 := 16#32
  let v111 : BitVec 32 := Scalar.addi arg7 c16_i32_44
  let c16_i32_52 : BitVec 32 := 16#32
  let c0_i32_53 : BitVec 32 := 0#32
  let v123 : BitVec 1 := Scalar.cmpi .eq c16_i32_52 c0_i32_53
  let c1_i32_54 : BitVec 32 := 1#32
  let v124 : BitVec 32 := Scalar.select v123 c1_i32_54 c16_i32_52
  let v125 : BitVec 32 := Scalar.remsi v111 v124
  let c0_i32_56 : BitVec 32 := 0#32
  let v127 : BitVec 1 := Scalar.cmpi .slt v125 c0_i32_56
  let c0_i32_57 : BitVec 32 := 0#32
  let v128 : BitVec 1 := Scalar.cmpi .slt v124 c0_i32_57
  let v129 : BitVec 1 := Scalar.xori v127 v128
  let c0_i32_55 : BitVec 32 := 0#32
  let v126 : BitVec 1 := Scalar.cmpi .ne v125 c0_i32_55
  let v130 : BitVec 1 := Scalar.andi v129 v126
  let v131 : BitVec 32 := Scalar.addi v125 v124
  let v132 : BitVec 32 := Scalar.select v130 v131 v125
  ![v132.toNat]
def k0_cond5 (v0 : BitVec 32) (v1 : BitVec 32) (v11 : BitVec 32) (v15 : BitVec 32) (k0_t4 : Fin (k0_t4_loop v0 v11 v15).trips) : BitVec 1 :=
  let v12 : BitVec 32 := Scalar.subi v11 v0
  let v16 : BitVec 32 := Scalar.subi v15 v0
  let v18 : BitVec 32 := Scalar.subi v16 v12
  let c1_i32_3 : BitVec 32 := 1#32
  let v20 : BitVec 32 := Scalar.divsi v18 c1_i32_3
  let v21 : BitVec 32 := Scalar.muli v20 c1_i32_3
  let v22 : BitVec 32 := Scalar.addi v12 v21
  let c1_i32_5 : BitVec 32 := 1#32
  let arg7 : BitVec 32 := Scf.iv v22 c1_i32_5 k0_t4
  let c16_i32_42 : BitVec 32 := 16#32
  let v107 : BitVec 32 := Scalar.addi arg7 c16_i32_42
  let v2 : BitVec 32 := Scalar.subi v1 v0
  let v108 : BitVec 1 := Scalar.cmpi .slt v107 v2
  let v109 : BitVec 32 := Scalar.extui v108
  let c0_i32_43 : BitVec 32 := 0#32
  let v110 : BitVec 1 := Scalar.cmpi .ne v109 c0_i32_43
  v110

def k0_off21 (v0 : BitVec 32) (v11 : BitVec 32) (v15 : BitVec 32) (k0_t4 : Fin (k0_t4_loop v0 v11 v15).trips) : Fin 3 → Nat :=
  let v12 : BitVec 32 := Scalar.subi v11 v0
  let v16 : BitVec 32 := Scalar.subi v15 v0
  let v18 : BitVec 32 := Scalar.subi v16 v12
  let c1_i32_3 : BitVec 32 := 1#32
  let v20 : BitVec 32 := Scalar.divsi v18 c1_i32_3
  let v21 : BitVec 32 := Scalar.muli v20 c1_i32_3
  let v22 : BitVec 32 := Scalar.addi v12 v21
  let c1_i32_5 : BitVec 32 := 1#32
  let arg7 : BitVec 32 := Scf.iv v22 c1_i32_5 k0_t4
  let c16_i32_44 : BitVec 32 := 16#32
  let v111 : BitVec 32 := Scalar.addi arg7 c16_i32_44
  let c16_i32_46 : BitVec 32 := 16#32
  let c0_i32_47 : BitVec 32 := 0#32
  let v113 : BitVec 1 := Scalar.cmpi .eq c16_i32_46 c0_i32_47
  let c1_i32_48 : BitVec 32 := 1#32
  let v114 : BitVec 32 := Scalar.select v113 c1_i32_48 c16_i32_46
  let v115 : BitVec 32 := Scalar.remsi v111 v114
  let c0_i32_50 : BitVec 32 := 0#32
  let v117 : BitVec 1 := Scalar.cmpi .slt v115 c0_i32_50
  let c0_i32_51 : BitVec 32 := 0#32
  let v118 : BitVec 1 := Scalar.cmpi .slt v114 c0_i32_51
  let v119 : BitVec 1 := Scalar.xori v117 v118
  let c0_i32_49 : BitVec 32 := 0#32
  let v116 : BitVec 1 := Scalar.cmpi .ne v115 c0_i32_49
  let v120 : BitVec 1 := Scalar.andi v119 v116
  let v121 : BitVec 32 := Scalar.addi v115 v114
  let v122 : BitVec 32 := Scalar.select v120 v121 v115
  let c0_i32_58 : BitVec 32 := 0#32
  let c0_i32_59 : BitVec 32 := 0#32
  ![v122.toNat, 0, 0]
def k0_off22 (v0 : BitVec 32) (v11 : BitVec 32) (v15 : BitVec 32) (k0_t4 : Fin (k0_t4_loop v0 v11 v15).trips) : Fin 2 → Nat :=
  let v12 : BitVec 32 := Scalar.subi v11 v0
  let v16 : BitVec 32 := Scalar.subi v15 v0
  let v18 : BitVec 32 := Scalar.subi v16 v12
  let c1_i32_3 : BitVec 32 := 1#32
  let v20 : BitVec 32 := Scalar.divsi v18 c1_i32_3
  let v21 : BitVec 32 := Scalar.muli v20 c1_i32_3
  let v22 : BitVec 32 := Scalar.addi v12 v21
  let c1_i32_5 : BitVec 32 := 1#32
  let arg7 : BitVec 32 := Scf.iv v22 c1_i32_5 k0_t4
  let c16_i32_44 : BitVec 32 := 16#32
  let v111 : BitVec 32 := Scalar.addi arg7 c16_i32_44
  let c96_i32_45 : BitVec 32 := 96#32
  let v112 : BitVec 32 := Scalar.muli v111 c96_i32_45
  let c0_i32_60 : BitVec 32 := 0#32
  ![v112.toNat, 0]

def k0_chk2 (v0 : BitVec 32) (v1 : BitVec 32) (v11 : BitVec 32) (v15 : BitVec 32) : Prop :=
  ((k0_t3_loop v0 v11 v15).OK) ∧
  (∀ k0_t3 : Fin (k0_t3_loop v0 v11 v15).trips, ∀ a, (k0_off9 v0 v11 v15 k0_t3) a + S1.size a ≤ S16.size a) ∧
  (∀ k0_t3 : Fin (k0_t3_loop v0 v11 v15).trips, ∀ a, (k0_off10 v0 v11 v15 k0_t3) a + S1x96x128.size a ≤ S16x96x128.size a) ∧
  (∀ k0_t3 : Fin (k0_t3_loop v0 v11 v15).trips, ∀ a, (k0_off11 v0 v11 v15 k0_t3) a + S96x128.size a ≤ S374400x128.size a) ∧
  (∀ k0_t3 : Fin (k0_t3_loop v0 v11 v15).trips, ∀ a, (k0_off12 v0 v11 v15 k0_t3) a + S1x96x128.size a ≤ S16x96x128.size a) ∧
  (∀ k0_t3 : Fin (k0_t3_loop v0 v11 v15).trips, ∀ (k0_h3 : k0_cond3 v0 v1 v11 v15 k0_t3 = 1#1), ∀ a, (k0_off13 v0 v11 v15 k0_t3) a + S1.size a ≤ S16.size a) ∧
  (∀ k0_t3 : Fin (k0_t3_loop v0 v11 v15).trips, ∀ (k0_h3 : k0_cond3 v0 v1 v11 v15 k0_t3 = 1#1), ∀ a, (k0_off14 v0 v11 v15 k0_t3) a + S1x96x128.size a ≤ S16x96x128.size a) ∧
  (∀ k0_t3 : Fin (k0_t3_loop v0 v11 v15).trips, ∀ (k0_h3 : k0_cond3 v0 v1 v11 v15 k0_t3 = 1#1), ∀ a, (k0_off15 v0 v11 v15 k0_t3) a + S96x128.size a ≤ S374400x128.size a) ∧
  ((k0_t4_loop v0 v11 v15).OK) ∧
  (∀ k0_t4 : Fin (k0_t4_loop v0 v11 v15).trips, ∀ a, (k0_off16 v0 v11 v15 k0_t4) a + S1.size a ≤ S16.size a) ∧
  (∀ k0_t4 : Fin (k0_t4_loop v0 v11 v15).trips, ∀ a, (k0_off17 v0 v11 v15 k0_t4) a + S1x96x128.size a ≤ S16x96x128.size a) ∧
  (∀ k0_t4 : Fin (k0_t4_loop v0 v11 v15).trips, ∀ a, (k0_off18 v0 v11 v15 k0_t4) a + S96x128.size a ≤ S374400x128.size a) ∧
  (∀ k0_t4 : Fin (k0_t4_loop v0 v11 v15).trips, ∀ a, (k0_off19 v0 v11 v15 k0_t4) a + S1x96x128.size a ≤ S16x96x128.size a) ∧
  (∀ k0_t4 : Fin (k0_t4_loop v0 v11 v15).trips, ∀ (k0_h5 : k0_cond5 v0 v1 v11 v15 k0_t4 = 1#1), ∀ a, (k0_off20 v0 v11 v15 k0_t4) a + S1.size a ≤ S16.size a) ∧
  (∀ k0_t4 : Fin (k0_t4_loop v0 v11 v15).trips, ∀ (k0_h5 : k0_cond5 v0 v1 v11 v15 k0_t4 = 1#1), ∀ a, (k0_off21 v0 v11 v15 k0_t4) a + S1x96x128.size a ≤ S16x96x128.size a) ∧
  (∀ k0_t4 : Fin (k0_t4_loop v0 v11 v15).trips, ∀ (k0_h5 : k0_cond5 v0 v1 v11 v15 k0_t4 = 1#1), ∀ a, (k0_off22 v0 v11 v15 k0_t4) a + S96x128.size a ≤ S374400x128.size a)
theorem k0_t3_ok : ∀ (v0 : BitVec 32) (v1 : BitVec 32) (v11 : BitVec 32) (v15 : BitVec 32) (k0_hw2 : k0_chk2 v0 v1 v11 v15), (k0_t3_loop v0 v11 v15).OK := fun v0 v1 v11 v15 k0_hw2 => k0_hw2.1
theorem k0_off9_inb : ∀ (v0 : BitVec 32) (v1 : BitVec 32) (v11 : BitVec 32) (v15 : BitVec 32) (k0_hw2 : k0_chk2 v0 v1 v11 v15) (k0_t3 : Fin (k0_t3_loop v0 v11 v15).trips), ∀ a, (k0_off9 v0 v11 v15 k0_t3) a + S1.size a ≤ S16.size a := fun v0 v1 v11 v15 k0_hw2 k0_t3 => k0_hw2.2.1 k0_t3
theorem k0_off10_inb : ∀ (v0 : BitVec 32) (v1 : BitVec 32) (v11 : BitVec 32) (v15 : BitVec 32) (k0_hw2 : k0_chk2 v0 v1 v11 v15) (k0_t3 : Fin (k0_t3_loop v0 v11 v15).trips), ∀ a, (k0_off10 v0 v11 v15 k0_t3) a + S1x96x128.size a ≤ S16x96x128.size a := fun v0 v1 v11 v15 k0_hw2 k0_t3 => k0_hw2.2.2.1 k0_t3
theorem k0_off11_inb : ∀ (v0 : BitVec 32) (v1 : BitVec 32) (v11 : BitVec 32) (v15 : BitVec 32) (k0_hw2 : k0_chk2 v0 v1 v11 v15) (k0_t3 : Fin (k0_t3_loop v0 v11 v15).trips), ∀ a, (k0_off11 v0 v11 v15 k0_t3) a + S96x128.size a ≤ S374400x128.size a := fun v0 v1 v11 v15 k0_hw2 k0_t3 => k0_hw2.2.2.2.1 k0_t3
theorem k0_off12_inb : ∀ (v0 : BitVec 32) (v1 : BitVec 32) (v11 : BitVec 32) (v15 : BitVec 32) (k0_hw2 : k0_chk2 v0 v1 v11 v15) (k0_t3 : Fin (k0_t3_loop v0 v11 v15).trips), ∀ a, (k0_off12 v0 v11 v15 k0_t3) a + S1x96x128.size a ≤ S16x96x128.size a := fun v0 v1 v11 v15 k0_hw2 k0_t3 => k0_hw2.2.2.2.2.1 k0_t3
theorem k0_off13_inb : ∀ (v0 : BitVec 32) (v1 : BitVec 32) (v11 : BitVec 32) (v15 : BitVec 32) (k0_hw2 : k0_chk2 v0 v1 v11 v15) (k0_t3 : Fin (k0_t3_loop v0 v11 v15).trips), ∀ (k0_h3 : k0_cond3 v0 v1 v11 v15 k0_t3 = 1#1), ∀ a, (k0_off13 v0 v11 v15 k0_t3) a + S1.size a ≤ S16.size a := fun v0 v1 v11 v15 k0_hw2 k0_t3 k0_h3 => k0_hw2.2.2.2.2.2.1 k0_t3 k0_h3
theorem k0_off14_inb : ∀ (v0 : BitVec 32) (v1 : BitVec 32) (v11 : BitVec 32) (v15 : BitVec 32) (k0_hw2 : k0_chk2 v0 v1 v11 v15) (k0_t3 : Fin (k0_t3_loop v0 v11 v15).trips), ∀ (k0_h3 : k0_cond3 v0 v1 v11 v15 k0_t3 = 1#1), ∀ a, (k0_off14 v0 v11 v15 k0_t3) a + S1x96x128.size a ≤ S16x96x128.size a := fun v0 v1 v11 v15 k0_hw2 k0_t3 k0_h3 => k0_hw2.2.2.2.2.2.2.1 k0_t3 k0_h3
theorem k0_off15_inb : ∀ (v0 : BitVec 32) (v1 : BitVec 32) (v11 : BitVec 32) (v15 : BitVec 32) (k0_hw2 : k0_chk2 v0 v1 v11 v15) (k0_t3 : Fin (k0_t3_loop v0 v11 v15).trips), ∀ (k0_h3 : k0_cond3 v0 v1 v11 v15 k0_t3 = 1#1), ∀ a, (k0_off15 v0 v11 v15 k0_t3) a + S96x128.size a ≤ S374400x128.size a := fun v0 v1 v11 v15 k0_hw2 k0_t3 k0_h3 => k0_hw2.2.2.2.2.2.2.2.1 k0_t3 k0_h3
theorem k0_t4_ok : ∀ (v0 : BitVec 32) (v1 : BitVec 32) (v11 : BitVec 32) (v15 : BitVec 32) (k0_hw2 : k0_chk2 v0 v1 v11 v15), (k0_t4_loop v0 v11 v15).OK := fun v0 v1 v11 v15 k0_hw2 => k0_hw2.2.2.2.2.2.2.2.2.1
theorem k0_off16_inb : ∀ (v0 : BitVec 32) (v1 : BitVec 32) (v11 : BitVec 32) (v15 : BitVec 32) (k0_hw2 : k0_chk2 v0 v1 v11 v15) (k0_t4 : Fin (k0_t4_loop v0 v11 v15).trips), ∀ a, (k0_off16 v0 v11 v15 k0_t4) a + S1.size a ≤ S16.size a := fun v0 v1 v11 v15 k0_hw2 k0_t4 => k0_hw2.2.2.2.2.2.2.2.2.2.1 k0_t4
theorem k0_off17_inb : ∀ (v0 : BitVec 32) (v1 : BitVec 32) (v11 : BitVec 32) (v15 : BitVec 32) (k0_hw2 : k0_chk2 v0 v1 v11 v15) (k0_t4 : Fin (k0_t4_loop v0 v11 v15).trips), ∀ a, (k0_off17 v0 v11 v15 k0_t4) a + S1x96x128.size a ≤ S16x96x128.size a := fun v0 v1 v11 v15 k0_hw2 k0_t4 => k0_hw2.2.2.2.2.2.2.2.2.2.2.1 k0_t4
theorem k0_off18_inb : ∀ (v0 : BitVec 32) (v1 : BitVec 32) (v11 : BitVec 32) (v15 : BitVec 32) (k0_hw2 : k0_chk2 v0 v1 v11 v15) (k0_t4 : Fin (k0_t4_loop v0 v11 v15).trips), ∀ a, (k0_off18 v0 v11 v15 k0_t4) a + S96x128.size a ≤ S374400x128.size a := fun v0 v1 v11 v15 k0_hw2 k0_t4 => k0_hw2.2.2.2.2.2.2.2.2.2.2.2.1 k0_t4
theorem k0_off19_inb : ∀ (v0 : BitVec 32) (v1 : BitVec 32) (v11 : BitVec 32) (v15 : BitVec 32) (k0_hw2 : k0_chk2 v0 v1 v11 v15) (k0_t4 : Fin (k0_t4_loop v0 v11 v15).trips), ∀ a, (k0_off19 v0 v11 v15 k0_t4) a + S1x96x128.size a ≤ S16x96x128.size a := fun v0 v1 v11 v15 k0_hw2 k0_t4 => k0_hw2.2.2.2.2.2.2.2.2.2.2.2.2.1 k0_t4
theorem k0_off20_inb : ∀ (v0 : BitVec 32) (v1 : BitVec 32) (v11 : BitVec 32) (v15 : BitVec 32) (k0_hw2 : k0_chk2 v0 v1 v11 v15) (k0_t4 : Fin (k0_t4_loop v0 v11 v15).trips), ∀ (k0_h5 : k0_cond5 v0 v1 v11 v15 k0_t4 = 1#1), ∀ a, (k0_off20 v0 v11 v15 k0_t4) a + S1.size a ≤ S16.size a := fun v0 v1 v11 v15 k0_hw2 k0_t4 k0_h5 => k0_hw2.2.2.2.2.2.2.2.2.2.2.2.2.2.1 k0_t4 k0_h5
theorem k0_off21_inb : ∀ (v0 : BitVec 32) (v1 : BitVec 32) (v11 : BitVec 32) (v15 : BitVec 32) (k0_hw2 : k0_chk2 v0 v1 v11 v15) (k0_t4 : Fin (k0_t4_loop v0 v11 v15).trips), ∀ (k0_h5 : k0_cond5 v0 v1 v11 v15 k0_t4 = 1#1), ∀ a, (k0_off21 v0 v11 v15 k0_t4) a + S1x96x128.size a ≤ S16x96x128.size a := fun v0 v1 v11 v15 k0_hw2 k0_t4 k0_h5 => k0_hw2.2.2.2.2.2.2.2.2.2.2.2.2.2.2.1 k0_t4 k0_h5
theorem k0_off22_inb : ∀ (v0 : BitVec 32) (v1 : BitVec 32) (v11 : BitVec 32) (v15 : BitVec 32) (k0_hw2 : k0_chk2 v0 v1 v11 v15) (k0_t4 : Fin (k0_t4_loop v0 v11 v15).trips), ∀ (k0_h5 : k0_cond5 v0 v1 v11 v15 k0_t4 = 1#1), ∀ a, (k0_off22 v0 v11 v15 k0_t4) a + S96x128.size a ≤ S374400x128.size a := fun v0 v1 v11 v15 k0_hw2 k0_t4 k0_h5 => k0_hw2.2.2.2.2.2.2.2.2.2.2.2.2.2.2.2 k0_t4 k0_h5

def k0_off23 (i : grid0.Coords) : Fin 1 → Nat :=
  let c0_i32_8 : BitVec 32 := 0#32
  let arg0 : BitVec 32 := BitVec.ofNat 32 (i 0).val
  let v27 : BitVec 32 := Scalar.addi c0_i32_8 arg0
  let c2_i32_9 : BitVec 32 := 2#32
  let v28 : BitVec 32 := Scalar.muli v27 c2_i32_9
  let c1_i32_10 : BitVec 32 := 1#32
  let v29 : BitVec 32 := Scalar.addi v28 c1_i32_10
  let v30 : Index := Scalar.indexCast v29
  ![v30.toNat]
def k0_off24 (i : grid0.Coords) : Fin 1 → Nat :=
  let c0_i32_8 : BitVec 32 := 0#32
  let arg0 : BitVec 32 := BitVec.ofNat 32 (i 0).val
  let v27 : BitVec 32 := Scalar.addi c0_i32_8 arg0
  let c2_i32_9 : BitVec 32 := 2#32
  let v28 : BitVec 32 := Scalar.muli v27 c2_i32_9
  let c1_i32_10 : BitVec 32 := 1#32
  let v29 : BitVec 32 := Scalar.addi v28 c1_i32_10
  let c1_i32_11 : BitVec 32 := 1#32
  let v33 : BitVec 32 := Scalar.addi v29 c1_i32_11
  let v34 : Index := Scalar.indexCast v33
  ![v34.toNat]
@[reducible] def k0_t5_loop (v0 : BitVec 32) (v31 : BitVec 32) (v35 : BitVec 32) : Scf.Loop 32 :=
  let v32 : BitVec 32 := Scalar.subi v31 v0
  let v36 : BitVec 32 := Scalar.subi v35 v0
  let v38 : BitVec 32 := Scalar.subi v36 v32
  let c1_i32_13 : BitVec 32 := 1#32
  let v40 : BitVec 32 := Scalar.divsi v38 c1_i32_13
  let v41 : BitVec 32 := Scalar.muli v40 c1_i32_13
  let v42 : BitVec 32 := Scalar.addi v32 v41
  let c1_i32_14 : BitVec 32 := 1#32
  ⟨v32, v42, c1_i32_14⟩

def k0_off25 (v0 : BitVec 32) (v31 : BitVec 32) (v35 : BitVec 32) (k0_t5 : Fin (k0_t5_loop v0 v31 v35).trips) : Fin 1 → Nat :=
  let v32 : BitVec 32 := Scalar.subi v31 v0
  let c1_i32_14 : BitVec 32 := 1#32
  let arg7 : BitVec 32 := Scf.iv v32 c1_i32_14 k0_t5
  let c16_i32_22 : BitVec 32 := 16#32
  let c0_i32_23 : BitVec 32 := 0#32
  let v58 : BitVec 1 := Scalar.cmpi .eq c16_i32_22 c0_i32_23
  let c1_i32_24 : BitVec 32 := 1#32
  let v59 : BitVec 32 := Scalar.select v58 c1_i32_24 c16_i32_22
  let v60 : BitVec 32 := Scalar.remsi arg7 v59
  let c0_i32_26 : BitVec 32 := 0#32
  let v62 : BitVec 1 := Scalar.cmpi .slt v60 c0_i32_26
  let c0_i32_27 : BitVec 32 := 0#32
  let v63 : BitVec 1 := Scalar.cmpi .slt v59 c0_i32_27
  let v64 : BitVec 1 := Scalar.xori v62 v63
  let c0_i32_25 : BitVec 32 := 0#32
  let v61 : BitVec 1 := Scalar.cmpi .ne v60 c0_i32_25
  let v65 : BitVec 1 := Scalar.andi v64 v61
  let v66 : BitVec 32 := Scalar.addi v60 v59
  let v67 : BitVec 32 := Scalar.select v65 v66 v60
  ![v67.toNat]
def k0_off26 (v0 : BitVec 32) (v31 : BitVec 32) (v35 : BitVec 32) (k0_t5 : Fin (k0_t5_loop v0 v31 v35).trips) : Fin 3 → Nat :=
  let v32 : BitVec 32 := Scalar.subi v31 v0
  let c1_i32_14 : BitVec 32 := 1#32
  let arg7 : BitVec 32 := Scf.iv v32 c1_i32_14 k0_t5
  let c16_i32 : BitVec 32 := 16#32
  let c0_i32_17 : BitVec 32 := 0#32
  let v48 : BitVec 1 := Scalar.cmpi .eq c16_i32 c0_i32_17
  let c1_i32_18 : BitVec 32 := 1#32
  let v49 : BitVec 32 := Scalar.select v48 c1_i32_18 c16_i32
  let v50 : BitVec 32 := Scalar.remsi arg7 v49
  let c0_i32_20 : BitVec 32 := 0#32
  let v52 : BitVec 1 := Scalar.cmpi .slt v50 c0_i32_20
  let c0_i32_21 : BitVec 32 := 0#32
  let v53 : BitVec 1 := Scalar.cmpi .slt v49 c0_i32_21
  let v54 : BitVec 1 := Scalar.xori v52 v53
  let c0_i32_19 : BitVec 32 := 0#32
  let v51 : BitVec 1 := Scalar.cmpi .ne v50 c0_i32_19
  let v55 : BitVec 1 := Scalar.andi v54 v51
  let v56 : BitVec 32 := Scalar.addi v50 v49
  let v57 : BitVec 32 := Scalar.select v55 v56 v50
  let c0_i32_28 : BitVec 32 := 0#32
  let c0_i32_29 : BitVec 32 := 0#32
  ![v57.toNat, 0, 0]
def k0_off27 (v0 : BitVec 32) (v31 : BitVec 32) (v35 : BitVec 32) (k0_t5 : Fin (k0_t5_loop v0 v31 v35).trips) : Fin 2 → Nat :=
  let v32 : BitVec 32 := Scalar.subi v31 v0
  let c1_i32_14 : BitVec 32 := 1#32
  let arg7 : BitVec 32 := Scf.iv v32 c1_i32_14 k0_t5
  let c96_i32 : BitVec 32 := 96#32
  let v47 : BitVec 32 := Scalar.muli arg7 c96_i32
  let c0_i32_30 : BitVec 32 := 0#32
  ![v47.toNat, 0]
def k0_off28 (v0 : BitVec 32) (v31 : BitVec 32) (v35 : BitVec 32) (k0_t5 : Fin (k0_t5_loop v0 v31 v35).trips) : Fin 3 → Nat :=
  let v32 : BitVec 32 := Scalar.subi v31 v0
  let c1_i32_14 : BitVec 32 := 1#32
  let arg7 : BitVec 32 := Scf.iv v32 c1_i32_14 k0_t5
  let c16_i32_31 : BitVec 32 := 16#32
  let c0_i32_32 : BitVec 32 := 0#32
  let v73 : BitVec 1 := Scalar.cmpi .eq c16_i32_31 c0_i32_32
  let c1_i32_33 : BitVec 32 := 1#32
  let v74 : BitVec 32 := Scalar.select v73 c1_i32_33 c16_i32_31
  let v75 : BitVec 32 := Scalar.remsi arg7 v74
  let c0_i32_35 : BitVec 32 := 0#32
  let v77 : BitVec 1 := Scalar.cmpi .slt v75 c0_i32_35
  let c0_i32_36 : BitVec 32 := 0#32
  let v78 : BitVec 1 := Scalar.cmpi .slt v74 c0_i32_36
  let v79 : BitVec 1 := Scalar.xori v77 v78
  let c0_i32_34 : BitVec 32 := 0#32
  let v76 : BitVec 1 := Scalar.cmpi .ne v75 c0_i32_34
  let v80 : BitVec 1 := Scalar.andi v79 v76
  let v81 : BitVec 32 := Scalar.addi v75 v74
  let v82 : BitVec 32 := Scalar.select v80 v81 v75
  let v83 : Index := Scalar.indexCast v82
  let c0_37 : Index := 0#32
  let c0_38 : Index := 0#32
  ![v83.toNat, 0, 0]
def k0_off29 (v0 : BitVec 32) (v31 : BitVec 32) (v35 : BitVec 32) (k0_t5 : Fin (k0_t5_loop v0 v31 v35).trips) : Fin 1 → Nat :=
  let v32 : BitVec 32 := Scalar.subi v31 v0
  let c1_i32_14 : BitVec 32 := 1#32
  let arg7 : BitVec 32 := Scf.iv v32 c1_i32_14 k0_t5
  let c16_i32_44 : BitVec 32 := 16#32
  let v111 : BitVec 32 := Scalar.addi arg7 c16_i32_44
  let c16_i32_52 : BitVec 32 := 16#32
  let c0_i32_53 : BitVec 32 := 0#32
  let v123 : BitVec 1 := Scalar.cmpi .eq c16_i32_52 c0_i32_53
  let c1_i32_54 : BitVec 32 := 1#32
  let v124 : BitVec 32 := Scalar.select v123 c1_i32_54 c16_i32_52
  let v125 : BitVec 32 := Scalar.remsi v111 v124
  let c0_i32_56 : BitVec 32 := 0#32
  let v127 : BitVec 1 := Scalar.cmpi .slt v125 c0_i32_56
  let c0_i32_57 : BitVec 32 := 0#32
  let v128 : BitVec 1 := Scalar.cmpi .slt v124 c0_i32_57
  let v129 : BitVec 1 := Scalar.xori v127 v128
  let c0_i32_55 : BitVec 32 := 0#32
  let v126 : BitVec 1 := Scalar.cmpi .ne v125 c0_i32_55
  let v130 : BitVec 1 := Scalar.andi v129 v126
  let v131 : BitVec 32 := Scalar.addi v125 v124
  let v132 : BitVec 32 := Scalar.select v130 v131 v125
  ![v132.toNat]
def k0_cond7 (v0 : BitVec 32) (v1 : BitVec 32) (v31 : BitVec 32) (v35 : BitVec 32) (k0_t5 : Fin (k0_t5_loop v0 v31 v35).trips) : BitVec 1 :=
  let v32 : BitVec 32 := Scalar.subi v31 v0
  let c1_i32_14 : BitVec 32 := 1#32
  let arg7 : BitVec 32 := Scf.iv v32 c1_i32_14 k0_t5
  let c16_i32_42 : BitVec 32 := 16#32
  let v107 : BitVec 32 := Scalar.addi arg7 c16_i32_42
  let v2 : BitVec 32 := Scalar.subi v1 v0
  let v108 : BitVec 1 := Scalar.cmpi .slt v107 v2
  let v109 : BitVec 32 := Scalar.extui v108
  let c0_i32_43 : BitVec 32 := 0#32
  let v110 : BitVec 1 := Scalar.cmpi .ne v109 c0_i32_43
  v110

def k0_off30 (v0 : BitVec 32) (v31 : BitVec 32) (v35 : BitVec 32) (k0_t5 : Fin (k0_t5_loop v0 v31 v35).trips) : Fin 3 → Nat :=
  let v32 : BitVec 32 := Scalar.subi v31 v0
  let c1_i32_14 : BitVec 32 := 1#32
  let arg7 : BitVec 32 := Scf.iv v32 c1_i32_14 k0_t5
  let c16_i32_44 : BitVec 32 := 16#32
  let v111 : BitVec 32 := Scalar.addi arg7 c16_i32_44
  let c16_i32_46 : BitVec 32 := 16#32
  let c0_i32_47 : BitVec 32 := 0#32
  let v113 : BitVec 1 := Scalar.cmpi .eq c16_i32_46 c0_i32_47
  let c1_i32_48 : BitVec 32 := 1#32
  let v114 : BitVec 32 := Scalar.select v113 c1_i32_48 c16_i32_46
  let v115 : BitVec 32 := Scalar.remsi v111 v114
  let c0_i32_50 : BitVec 32 := 0#32
  let v117 : BitVec 1 := Scalar.cmpi .slt v115 c0_i32_50
  let c0_i32_51 : BitVec 32 := 0#32
  let v118 : BitVec 1 := Scalar.cmpi .slt v114 c0_i32_51
  let v119 : BitVec 1 := Scalar.xori v117 v118
  let c0_i32_49 : BitVec 32 := 0#32
  let v116 : BitVec 1 := Scalar.cmpi .ne v115 c0_i32_49
  let v120 : BitVec 1 := Scalar.andi v119 v116
  let v121 : BitVec 32 := Scalar.addi v115 v114
  let v122 : BitVec 32 := Scalar.select v120 v121 v115
  let c0_i32_58 : BitVec 32 := 0#32
  let c0_i32_59 : BitVec 32 := 0#32
  ![v122.toNat, 0, 0]
def k0_off31 (v0 : BitVec 32) (v31 : BitVec 32) (v35 : BitVec 32) (k0_t5 : Fin (k0_t5_loop v0 v31 v35).trips) : Fin 2 → Nat :=
  let v32 : BitVec 32 := Scalar.subi v31 v0
  let c1_i32_14 : BitVec 32 := 1#32
  let arg7 : BitVec 32 := Scf.iv v32 c1_i32_14 k0_t5
  let c16_i32_44 : BitVec 32 := 16#32
  let v111 : BitVec 32 := Scalar.addi arg7 c16_i32_44
  let c96_i32_45 : BitVec 32 := 96#32
  let v112 : BitVec 32 := Scalar.muli v111 c96_i32_45
  let c0_i32_60 : BitVec 32 := 0#32
  ![v112.toNat, 0]
@[reducible] def k0_t6_loop (v0 : BitVec 32) (v31 : BitVec 32) (v35 : BitVec 32) : Scf.Loop 32 :=
  let v32 : BitVec 32 := Scalar.subi v31 v0
  let v36 : BitVec 32 := Scalar.subi v35 v0
  let v38 : BitVec 32 := Scalar.subi v36 v32
  let c1_i32_13 : BitVec 32 := 1#32
  let v40 : BitVec 32 := Scalar.divsi v38 c1_i32_13
  let v41 : BitVec 32 := Scalar.muli v40 c1_i32_13
  let v42 : BitVec 32 := Scalar.addi v32 v41
  let v39 : BitVec 32 := Scalar.addi v32 v38
  let c1_i32_15 : BitVec 32 := 1#32
  ⟨v42, v39, c1_i32_15⟩
def k0_off32 (v0 : BitVec 32) (v31 : BitVec 32) (v35 : BitVec 32) (k0_t6 : Fin (k0_t6_loop v0 v31 v35).trips) : Fin 1 → Nat :=
  let v32 : BitVec 32 := Scalar.subi v31 v0
  let v36 : BitVec 32 := Scalar.subi v35 v0
  let v38 : BitVec 32 := Scalar.subi v36 v32
  let c1_i32_13 : BitVec 32 := 1#32
  let v40 : BitVec 32 := Scalar.divsi v38 c1_i32_13
  let v41 : BitVec 32 := Scalar.muli v40 c1_i32_13
  let v42 : BitVec 32 := Scalar.addi v32 v41
  let c1_i32_15 : BitVec 32 := 1#32
  let arg7 : BitVec 32 := Scf.iv v42 c1_i32_15 k0_t6
  let c16_i32_22 : BitVec 32 := 16#32
  let c0_i32_23 : BitVec 32 := 0#32
  let v58 : BitVec 1 := Scalar.cmpi .eq c16_i32_22 c0_i32_23
  let c1_i32_24 : BitVec 32 := 1#32
  let v59 : BitVec 32 := Scalar.select v58 c1_i32_24 c16_i32_22
  let v60 : BitVec 32 := Scalar.remsi arg7 v59
  let c0_i32_26 : BitVec 32 := 0#32
  let v62 : BitVec 1 := Scalar.cmpi .slt v60 c0_i32_26
  let c0_i32_27 : BitVec 32 := 0#32
  let v63 : BitVec 1 := Scalar.cmpi .slt v59 c0_i32_27
  let v64 : BitVec 1 := Scalar.xori v62 v63
  let c0_i32_25 : BitVec 32 := 0#32
  let v61 : BitVec 1 := Scalar.cmpi .ne v60 c0_i32_25
  let v65 : BitVec 1 := Scalar.andi v64 v61
  let v66 : BitVec 32 := Scalar.addi v60 v59
  let v67 : BitVec 32 := Scalar.select v65 v66 v60
  ![v67.toNat]
def k0_off33 (v0 : BitVec 32) (v31 : BitVec 32) (v35 : BitVec 32) (k0_t6 : Fin (k0_t6_loop v0 v31 v35).trips) : Fin 3 → Nat :=
  let v32 : BitVec 32 := Scalar.subi v31 v0
  let v36 : BitVec 32 := Scalar.subi v35 v0
  let v38 : BitVec 32 := Scalar.subi v36 v32
  let c1_i32_13 : BitVec 32 := 1#32
  let v40 : BitVec 32 := Scalar.divsi v38 c1_i32_13
  let v41 : BitVec 32 := Scalar.muli v40 c1_i32_13
  let v42 : BitVec 32 := Scalar.addi v32 v41
  let c1_i32_15 : BitVec 32 := 1#32
  let arg7 : BitVec 32 := Scf.iv v42 c1_i32_15 k0_t6
  let c16_i32 : BitVec 32 := 16#32
  let c0_i32_17 : BitVec 32 := 0#32
  let v48 : BitVec 1 := Scalar.cmpi .eq c16_i32 c0_i32_17
  let c1_i32_18 : BitVec 32 := 1#32
  let v49 : BitVec 32 := Scalar.select v48 c1_i32_18 c16_i32
  let v50 : BitVec 32 := Scalar.remsi arg7 v49
  let c0_i32_20 : BitVec 32 := 0#32
  let v52 : BitVec 1 := Scalar.cmpi .slt v50 c0_i32_20
  let c0_i32_21 : BitVec 32 := 0#32
  let v53 : BitVec 1 := Scalar.cmpi .slt v49 c0_i32_21
  let v54 : BitVec 1 := Scalar.xori v52 v53
  let c0_i32_19 : BitVec 32 := 0#32
  let v51 : BitVec 1 := Scalar.cmpi .ne v50 c0_i32_19
  let v55 : BitVec 1 := Scalar.andi v54 v51
  let v56 : BitVec 32 := Scalar.addi v50 v49
  let v57 : BitVec 32 := Scalar.select v55 v56 v50
  let c0_i32_28 : BitVec 32 := 0#32
  let c0_i32_29 : BitVec 32 := 0#32
  ![v57.toNat, 0, 0]
def k0_off34 (v0 : BitVec 32) (v31 : BitVec 32) (v35 : BitVec 32) (k0_t6 : Fin (k0_t6_loop v0 v31 v35).trips) : Fin 2 → Nat :=
  let v32 : BitVec 32 := Scalar.subi v31 v0
  let v36 : BitVec 32 := Scalar.subi v35 v0
  let v38 : BitVec 32 := Scalar.subi v36 v32
  let c1_i32_13 : BitVec 32 := 1#32
  let v40 : BitVec 32 := Scalar.divsi v38 c1_i32_13
  let v41 : BitVec 32 := Scalar.muli v40 c1_i32_13
  let v42 : BitVec 32 := Scalar.addi v32 v41
  let c1_i32_15 : BitVec 32 := 1#32
  let arg7 : BitVec 32 := Scf.iv v42 c1_i32_15 k0_t6
  let c96_i32 : BitVec 32 := 96#32
  let v47 : BitVec 32 := Scalar.muli arg7 c96_i32
  let c0_i32_30 : BitVec 32 := 0#32
  ![v47.toNat, 0]
def k0_off35 (v0 : BitVec 32) (v31 : BitVec 32) (v35 : BitVec 32) (k0_t6 : Fin (k0_t6_loop v0 v31 v35).trips) : Fin 3 → Nat :=
  let v32 : BitVec 32 := Scalar.subi v31 v0
  let v36 : BitVec 32 := Scalar.subi v35 v0
  let v38 : BitVec 32 := Scalar.subi v36 v32
  let c1_i32_13 : BitVec 32 := 1#32
  let v40 : BitVec 32 := Scalar.divsi v38 c1_i32_13
  let v41 : BitVec 32 := Scalar.muli v40 c1_i32_13
  let v42 : BitVec 32 := Scalar.addi v32 v41
  let c1_i32_15 : BitVec 32 := 1#32
  let arg7 : BitVec 32 := Scf.iv v42 c1_i32_15 k0_t6
  let c16_i32_31 : BitVec 32 := 16#32
  let c0_i32_32 : BitVec 32 := 0#32
  let v73 : BitVec 1 := Scalar.cmpi .eq c16_i32_31 c0_i32_32
  let c1_i32_33 : BitVec 32 := 1#32
  let v74 : BitVec 32 := Scalar.select v73 c1_i32_33 c16_i32_31
  let v75 : BitVec 32 := Scalar.remsi arg7 v74
  let c0_i32_35 : BitVec 32 := 0#32
  let v77 : BitVec 1 := Scalar.cmpi .slt v75 c0_i32_35
  let c0_i32_36 : BitVec 32 := 0#32
  let v78 : BitVec 1 := Scalar.cmpi .slt v74 c0_i32_36
  let v79 : BitVec 1 := Scalar.xori v77 v78
  let c0_i32_34 : BitVec 32 := 0#32
  let v76 : BitVec 1 := Scalar.cmpi .ne v75 c0_i32_34
  let v80 : BitVec 1 := Scalar.andi v79 v76
  let v81 : BitVec 32 := Scalar.addi v75 v74
  let v82 : BitVec 32 := Scalar.select v80 v81 v75
  let v83 : Index := Scalar.indexCast v82
  let c0_37 : Index := 0#32
  let c0_38 : Index := 0#32
  ![v83.toNat, 0, 0]
def k0_off36 (v0 : BitVec 32) (v31 : BitVec 32) (v35 : BitVec 32) (k0_t6 : Fin (k0_t6_loop v0 v31 v35).trips) : Fin 1 → Nat :=
  let v32 : BitVec 32 := Scalar.subi v31 v0
  let v36 : BitVec 32 := Scalar.subi v35 v0
  let v38 : BitVec 32 := Scalar.subi v36 v32
  let c1_i32_13 : BitVec 32 := 1#32
  let v40 : BitVec 32 := Scalar.divsi v38 c1_i32_13
  let v41 : BitVec 32 := Scalar.muli v40 c1_i32_13
  let v42 : BitVec 32 := Scalar.addi v32 v41
  let c1_i32_15 : BitVec 32 := 1#32
  let arg7 : BitVec 32 := Scf.iv v42 c1_i32_15 k0_t6
  let c16_i32_44 : BitVec 32 := 16#32
  let v111 : BitVec 32 := Scalar.addi arg7 c16_i32_44
  let c16_i32_52 : BitVec 32 := 16#32
  let c0_i32_53 : BitVec 32 := 0#32
  let v123 : BitVec 1 := Scalar.cmpi .eq c16_i32_52 c0_i32_53
  let c1_i32_54 : BitVec 32 := 1#32
  let v124 : BitVec 32 := Scalar.select v123 c1_i32_54 c16_i32_52
  let v125 : BitVec 32 := Scalar.remsi v111 v124
  let c0_i32_56 : BitVec 32 := 0#32
  let v127 : BitVec 1 := Scalar.cmpi .slt v125 c0_i32_56
  let c0_i32_57 : BitVec 32 := 0#32
  let v128 : BitVec 1 := Scalar.cmpi .slt v124 c0_i32_57
  let v129 : BitVec 1 := Scalar.xori v127 v128
  let c0_i32_55 : BitVec 32 := 0#32
  let v126 : BitVec 1 := Scalar.cmpi .ne v125 c0_i32_55
  let v130 : BitVec 1 := Scalar.andi v129 v126
  let v131 : BitVec 32 := Scalar.addi v125 v124
  let v132 : BitVec 32 := Scalar.select v130 v131 v125
  ![v132.toNat]
def k0_cond9 (v0 : BitVec 32) (v1 : BitVec 32) (v31 : BitVec 32) (v35 : BitVec 32) (k0_t6 : Fin (k0_t6_loop v0 v31 v35).trips) : BitVec 1 :=
  let v32 : BitVec 32 := Scalar.subi v31 v0
  let v36 : BitVec 32 := Scalar.subi v35 v0
  let v38 : BitVec 32 := Scalar.subi v36 v32
  let c1_i32_13 : BitVec 32 := 1#32
  let v40 : BitVec 32 := Scalar.divsi v38 c1_i32_13
  let v41 : BitVec 32 := Scalar.muli v40 c1_i32_13
  let v42 : BitVec 32 := Scalar.addi v32 v41
  let c1_i32_15 : BitVec 32 := 1#32
  let arg7 : BitVec 32 := Scf.iv v42 c1_i32_15 k0_t6
  let c16_i32_42 : BitVec 32 := 16#32
  let v107 : BitVec 32 := Scalar.addi arg7 c16_i32_42
  let v2 : BitVec 32 := Scalar.subi v1 v0
  let v108 : BitVec 1 := Scalar.cmpi .slt v107 v2
  let v109 : BitVec 32 := Scalar.extui v108
  let c0_i32_43 : BitVec 32 := 0#32
  let v110 : BitVec 1 := Scalar.cmpi .ne v109 c0_i32_43
  v110

def k0_off37 (v0 : BitVec 32) (v31 : BitVec 32) (v35 : BitVec 32) (k0_t6 : Fin (k0_t6_loop v0 v31 v35).trips) : Fin 3 → Nat :=
  let v32 : BitVec 32 := Scalar.subi v31 v0
  let v36 : BitVec 32 := Scalar.subi v35 v0
  let v38 : BitVec 32 := Scalar.subi v36 v32
  let c1_i32_13 : BitVec 32 := 1#32
  let v40 : BitVec 32 := Scalar.divsi v38 c1_i32_13
  let v41 : BitVec 32 := Scalar.muli v40 c1_i32_13
  let v42 : BitVec 32 := Scalar.addi v32 v41
  let c1_i32_15 : BitVec 32 := 1#32
  let arg7 : BitVec 32 := Scf.iv v42 c1_i32_15 k0_t6
  let c16_i32_44 : BitVec 32 := 16#32
  let v111 : BitVec 32 := Scalar.addi arg7 c16_i32_44
  let c16_i32_46 : BitVec 32 := 16#32
  let c0_i32_47 : BitVec 32 := 0#32
  let v113 : BitVec 1 := Scalar.cmpi .eq c16_i32_46 c0_i32_47
  let c1_i32_48 : BitVec 32 := 1#32
  let v114 : BitVec 32 := Scalar.select v113 c1_i32_48 c16_i32_46
  let v115 : BitVec 32 := Scalar.remsi v111 v114
  let c0_i32_50 : BitVec 32 := 0#32
  let v117 : BitVec 1 := Scalar.cmpi .slt v115 c0_i32_50
  let c0_i32_51 : BitVec 32 := 0#32
  let v118 : BitVec 1 := Scalar.cmpi .slt v114 c0_i32_51
  let v119 : BitVec 1 := Scalar.xori v117 v118
  let c0_i32_49 : BitVec 32 := 0#32
  let v116 : BitVec 1 := Scalar.cmpi .ne v115 c0_i32_49
  let v120 : BitVec 1 := Scalar.andi v119 v116
  let v121 : BitVec 32 := Scalar.addi v115 v114
  let v122 : BitVec 32 := Scalar.select v120 v121 v115
  let c0_i32_58 : BitVec 32 := 0#32
  let c0_i32_59 : BitVec 32 := 0#32
  ![v122.toNat, 0, 0]
def k0_off38 (v0 : BitVec 32) (v31 : BitVec 32) (v35 : BitVec 32) (k0_t6 : Fin (k0_t6_loop v0 v31 v35).trips) : Fin 2 → Nat :=
  let v32 : BitVec 32 := Scalar.subi v31 v0
  let v36 : BitVec 32 := Scalar.subi v35 v0
  let v38 : BitVec 32 := Scalar.subi v36 v32
  let c1_i32_13 : BitVec 32 := 1#32
  let v40 : BitVec 32 := Scalar.divsi v38 c1_i32_13
  let v41 : BitVec 32 := Scalar.muli v40 c1_i32_13
  let v42 : BitVec 32 := Scalar.addi v32 v41
  let c1_i32_15 : BitVec 32 := 1#32
  let arg7 : BitVec 32 := Scf.iv v42 c1_i32_15 k0_t6
  let c16_i32_44 : BitVec 32 := 16#32
  let v111 : BitVec 32 := Scalar.addi arg7 c16_i32_44
  let c96_i32_45 : BitVec 32 := 96#32
  let v112 : BitVec 32 := Scalar.muli v111 c96_i32_45
  let c0_i32_60 : BitVec 32 := 0#32
  ![v112.toNat, 0]

def k0_chk3 (v0 : BitVec 32) (v1 : BitVec 32) (v31 : BitVec 32) (v35 : BitVec 32) : Prop :=
  ((k0_t5_loop v0 v31 v35).OK) ∧
  (∀ k0_t5 : Fin (k0_t5_loop v0 v31 v35).trips, ∀ a, (k0_off25 v0 v31 v35 k0_t5) a + S1.size a ≤ S16.size a) ∧
  (∀ k0_t5 : Fin (k0_t5_loop v0 v31 v35).trips, ∀ a, (k0_off26 v0 v31 v35 k0_t5) a + S1x96x128.size a ≤ S16x96x128.size a) ∧
  (∀ k0_t5 : Fin (k0_t5_loop v0 v31 v35).trips, ∀ a, (k0_off27 v0 v31 v35 k0_t5) a + S96x128.size a ≤ S374400x128.size a) ∧
  (∀ k0_t5 : Fin (k0_t5_loop v0 v31 v35).trips, ∀ a, (k0_off28 v0 v31 v35 k0_t5) a + S1x96x128.size a ≤ S16x96x128.size a) ∧
  (∀ k0_t5 : Fin (k0_t5_loop v0 v31 v35).trips, ∀ (k0_h7 : k0_cond7 v0 v1 v31 v35 k0_t5 = 1#1), ∀ a, (k0_off29 v0 v31 v35 k0_t5) a + S1.size a ≤ S16.size a) ∧
  (∀ k0_t5 : Fin (k0_t5_loop v0 v31 v35).trips, ∀ (k0_h7 : k0_cond7 v0 v1 v31 v35 k0_t5 = 1#1), ∀ a, (k0_off30 v0 v31 v35 k0_t5) a + S1x96x128.size a ≤ S16x96x128.size a) ∧
  (∀ k0_t5 : Fin (k0_t5_loop v0 v31 v35).trips, ∀ (k0_h7 : k0_cond7 v0 v1 v31 v35 k0_t5 = 1#1), ∀ a, (k0_off31 v0 v31 v35 k0_t5) a + S96x128.size a ≤ S374400x128.size a) ∧
  ((k0_t6_loop v0 v31 v35).OK) ∧
  (∀ k0_t6 : Fin (k0_t6_loop v0 v31 v35).trips, ∀ a, (k0_off32 v0 v31 v35 k0_t6) a + S1.size a ≤ S16.size a) ∧
  (∀ k0_t6 : Fin (k0_t6_loop v0 v31 v35).trips, ∀ a, (k0_off33 v0 v31 v35 k0_t6) a + S1x96x128.size a ≤ S16x96x128.size a) ∧
  (∀ k0_t6 : Fin (k0_t6_loop v0 v31 v35).trips, ∀ a, (k0_off34 v0 v31 v35 k0_t6) a + S96x128.size a ≤ S374400x128.size a) ∧
  (∀ k0_t6 : Fin (k0_t6_loop v0 v31 v35).trips, ∀ a, (k0_off35 v0 v31 v35 k0_t6) a + S1x96x128.size a ≤ S16x96x128.size a) ∧
  (∀ k0_t6 : Fin (k0_t6_loop v0 v31 v35).trips, ∀ (k0_h9 : k0_cond9 v0 v1 v31 v35 k0_t6 = 1#1), ∀ a, (k0_off36 v0 v31 v35 k0_t6) a + S1.size a ≤ S16.size a) ∧
  (∀ k0_t6 : Fin (k0_t6_loop v0 v31 v35).trips, ∀ (k0_h9 : k0_cond9 v0 v1 v31 v35 k0_t6 = 1#1), ∀ a, (k0_off37 v0 v31 v35 k0_t6) a + S1x96x128.size a ≤ S16x96x128.size a) ∧
  (∀ k0_t6 : Fin (k0_t6_loop v0 v31 v35).trips, ∀ (k0_h9 : k0_cond9 v0 v1 v31 v35 k0_t6 = 1#1), ∀ a, (k0_off38 v0 v31 v35 k0_t6) a + S96x128.size a ≤ S374400x128.size a)
theorem k0_t5_ok : ∀ (v0 : BitVec 32) (v1 : BitVec 32) (v31 : BitVec 32) (v35 : BitVec 32) (k0_hw3 : k0_chk3 v0 v1 v31 v35), (k0_t5_loop v0 v31 v35).OK := fun v0 v1 v31 v35 k0_hw3 => k0_hw3.1
theorem k0_off25_inb : ∀ (v0 : BitVec 32) (v1 : BitVec 32) (v31 : BitVec 32) (v35 : BitVec 32) (k0_hw3 : k0_chk3 v0 v1 v31 v35) (k0_t5 : Fin (k0_t5_loop v0 v31 v35).trips), ∀ a, (k0_off25 v0 v31 v35 k0_t5) a + S1.size a ≤ S16.size a := fun v0 v1 v31 v35 k0_hw3 k0_t5 => k0_hw3.2.1 k0_t5
theorem k0_off26_inb : ∀ (v0 : BitVec 32) (v1 : BitVec 32) (v31 : BitVec 32) (v35 : BitVec 32) (k0_hw3 : k0_chk3 v0 v1 v31 v35) (k0_t5 : Fin (k0_t5_loop v0 v31 v35).trips), ∀ a, (k0_off26 v0 v31 v35 k0_t5) a + S1x96x128.size a ≤ S16x96x128.size a := fun v0 v1 v31 v35 k0_hw3 k0_t5 => k0_hw3.2.2.1 k0_t5
theorem k0_off27_inb : ∀ (v0 : BitVec 32) (v1 : BitVec 32) (v31 : BitVec 32) (v35 : BitVec 32) (k0_hw3 : k0_chk3 v0 v1 v31 v35) (k0_t5 : Fin (k0_t5_loop v0 v31 v35).trips), ∀ a, (k0_off27 v0 v31 v35 k0_t5) a + S96x128.size a ≤ S374400x128.size a := fun v0 v1 v31 v35 k0_hw3 k0_t5 => k0_hw3.2.2.2.1 k0_t5
theorem k0_off28_inb : ∀ (v0 : BitVec 32) (v1 : BitVec 32) (v31 : BitVec 32) (v35 : BitVec 32) (k0_hw3 : k0_chk3 v0 v1 v31 v35) (k0_t5 : Fin (k0_t5_loop v0 v31 v35).trips), ∀ a, (k0_off28 v0 v31 v35 k0_t5) a + S1x96x128.size a ≤ S16x96x128.size a := fun v0 v1 v31 v35 k0_hw3 k0_t5 => k0_hw3.2.2.2.2.1 k0_t5
theorem k0_off29_inb : ∀ (v0 : BitVec 32) (v1 : BitVec 32) (v31 : BitVec 32) (v35 : BitVec 32) (k0_hw3 : k0_chk3 v0 v1 v31 v35) (k0_t5 : Fin (k0_t5_loop v0 v31 v35).trips), ∀ (k0_h7 : k0_cond7 v0 v1 v31 v35 k0_t5 = 1#1), ∀ a, (k0_off29 v0 v31 v35 k0_t5) a + S1.size a ≤ S16.size a := fun v0 v1 v31 v35 k0_hw3 k0_t5 k0_h7 => k0_hw3.2.2.2.2.2.1 k0_t5 k0_h7
theorem k0_off30_inb : ∀ (v0 : BitVec 32) (v1 : BitVec 32) (v31 : BitVec 32) (v35 : BitVec 32) (k0_hw3 : k0_chk3 v0 v1 v31 v35) (k0_t5 : Fin (k0_t5_loop v0 v31 v35).trips), ∀ (k0_h7 : k0_cond7 v0 v1 v31 v35 k0_t5 = 1#1), ∀ a, (k0_off30 v0 v31 v35 k0_t5) a + S1x96x128.size a ≤ S16x96x128.size a := fun v0 v1 v31 v35 k0_hw3 k0_t5 k0_h7 => k0_hw3.2.2.2.2.2.2.1 k0_t5 k0_h7
theorem k0_off31_inb : ∀ (v0 : BitVec 32) (v1 : BitVec 32) (v31 : BitVec 32) (v35 : BitVec 32) (k0_hw3 : k0_chk3 v0 v1 v31 v35) (k0_t5 : Fin (k0_t5_loop v0 v31 v35).trips), ∀ (k0_h7 : k0_cond7 v0 v1 v31 v35 k0_t5 = 1#1), ∀ a, (k0_off31 v0 v31 v35 k0_t5) a + S96x128.size a ≤ S374400x128.size a := fun v0 v1 v31 v35 k0_hw3 k0_t5 k0_h7 => k0_hw3.2.2.2.2.2.2.2.1 k0_t5 k0_h7
theorem k0_t6_ok : ∀ (v0 : BitVec 32) (v1 : BitVec 32) (v31 : BitVec 32) (v35 : BitVec 32) (k0_hw3 : k0_chk3 v0 v1 v31 v35), (k0_t6_loop v0 v31 v35).OK := fun v0 v1 v31 v35 k0_hw3 => k0_hw3.2.2.2.2.2.2.2.2.1
theorem k0_off32_inb : ∀ (v0 : BitVec 32) (v1 : BitVec 32) (v31 : BitVec 32) (v35 : BitVec 32) (k0_hw3 : k0_chk3 v0 v1 v31 v35) (k0_t6 : Fin (k0_t6_loop v0 v31 v35).trips), ∀ a, (k0_off32 v0 v31 v35 k0_t6) a + S1.size a ≤ S16.size a := fun v0 v1 v31 v35 k0_hw3 k0_t6 => k0_hw3.2.2.2.2.2.2.2.2.2.1 k0_t6
theorem k0_off33_inb : ∀ (v0 : BitVec 32) (v1 : BitVec 32) (v31 : BitVec 32) (v35 : BitVec 32) (k0_hw3 : k0_chk3 v0 v1 v31 v35) (k0_t6 : Fin (k0_t6_loop v0 v31 v35).trips), ∀ a, (k0_off33 v0 v31 v35 k0_t6) a + S1x96x128.size a ≤ S16x96x128.size a := fun v0 v1 v31 v35 k0_hw3 k0_t6 => k0_hw3.2.2.2.2.2.2.2.2.2.2.1 k0_t6
theorem k0_off34_inb : ∀ (v0 : BitVec 32) (v1 : BitVec 32) (v31 : BitVec 32) (v35 : BitVec 32) (k0_hw3 : k0_chk3 v0 v1 v31 v35) (k0_t6 : Fin (k0_t6_loop v0 v31 v35).trips), ∀ a, (k0_off34 v0 v31 v35 k0_t6) a + S96x128.size a ≤ S374400x128.size a := fun v0 v1 v31 v35 k0_hw3 k0_t6 => k0_hw3.2.2.2.2.2.2.2.2.2.2.2.1 k0_t6
theorem k0_off35_inb : ∀ (v0 : BitVec 32) (v1 : BitVec 32) (v31 : BitVec 32) (v35 : BitVec 32) (k0_hw3 : k0_chk3 v0 v1 v31 v35) (k0_t6 : Fin (k0_t6_loop v0 v31 v35).trips), ∀ a, (k0_off35 v0 v31 v35 k0_t6) a + S1x96x128.size a ≤ S16x96x128.size a := fun v0 v1 v31 v35 k0_hw3 k0_t6 => k0_hw3.2.2.2.2.2.2.2.2.2.2.2.2.1 k0_t6
theorem k0_off36_inb : ∀ (v0 : BitVec 32) (v1 : BitVec 32) (v31 : BitVec 32) (v35 : BitVec 32) (k0_hw3 : k0_chk3 v0 v1 v31 v35) (k0_t6 : Fin (k0_t6_loop v0 v31 v35).trips), ∀ (k0_h9 : k0_cond9 v0 v1 v31 v35 k0_t6 = 1#1), ∀ a, (k0_off36 v0 v31 v35 k0_t6) a + S1.size a ≤ S16.size a := fun v0 v1 v31 v35 k0_hw3 k0_t6 k0_h9 => k0_hw3.2.2.2.2.2.2.2.2.2.2.2.2.2.1 k0_t6 k0_h9
theorem k0_off37_inb : ∀ (v0 : BitVec 32) (v1 : BitVec 32) (v31 : BitVec 32) (v35 : BitVec 32) (k0_hw3 : k0_chk3 v0 v1 v31 v35) (k0_t6 : Fin (k0_t6_loop v0 v31 v35).trips), ∀ (k0_h9 : k0_cond9 v0 v1 v31 v35 k0_t6 = 1#1), ∀ a, (k0_off37 v0 v31 v35 k0_t6) a + S1x96x128.size a ≤ S16x96x128.size a := fun v0 v1 v31 v35 k0_hw3 k0_t6 k0_h9 => k0_hw3.2.2.2.2.2.2.2.2.2.2.2.2.2.2.1 k0_t6 k0_h9
theorem k0_off38_inb : ∀ (v0 : BitVec 32) (v1 : BitVec 32) (v31 : BitVec 32) (v35 : BitVec 32) (k0_hw3 : k0_chk3 v0 v1 v31 v35) (k0_t6 : Fin (k0_t6_loop v0 v31 v35).trips), ∀ (k0_h9 : k0_cond9 v0 v1 v31 v35 k0_t6 = 1#1), ∀ a, (k0_off38 v0 v31 v35 k0_t6) a + S96x128.size a ≤ S374400x128.size a := fun v0 v1 v31 v35 k0_hw3 k0_t6 k0_h9 => k0_hw3.2.2.2.2.2.2.2.2.2.2.2.2.2.2.2 k0_t6 k0_h9

def cc0_transform_1 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

abbrev stage0_0 : Fin 2 → Memref sig .tc .vmem S160x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]
-- ==== Reference0Ideal.lean ====
abbrev S897 : Shape := ⟨1, ![897]⟩
abbrev S1 : Shape := ⟨1, ![1]⟩
abbrev S374400x128 : Shape := ⟨2, ![374400, 128]⟩
abbrev S7800x48x128 : Shape := ⟨3, ![7800, 48, 128]⟩
abbrev S1497600x128 : Shape := ⟨2, ![1497600, 128]⟩
abbrev S7800x192x128 : Shape := ⟨3, ![7800, 192, 128]⟩
abbrev S7800x160x128 : Shape := ⟨3, ![7800, 160, 128]⟩
abbrev S7800x1x128 : Shape := ⟨3, ![7800, 1, 128]⟩
abbrev S7800x128 : Shape := ⟨2, ![7800, 128]⟩
abbrev S224 : Shape := ⟨1, ![224]⟩
abbrev S_ : Shape := ⟨0, ![]⟩
abbrev S7800 : Shape := ⟨1, ![7800]⟩
abbrev S224x1 : Shape := ⟨2, ![224, 1]⟩
abbrev S1x7800 : Shape := ⟨2, ![1, 7800]⟩
abbrev S224x7800 : Shape := ⟨2, ![224, 7800]⟩
abbrev S7800x1 : Shape := ⟨2, ![7800, 1]⟩
abbrev S7800x128x160 : Shape := ⟨3, ![7800, 128, 160]⟩
abbrev S998400x160 : Shape := ⟨2, ![998400, 160]⟩
abbrev S998400 : Shape := ⟨1, ![998400]⟩
abbrev S28672x160 : Shape := ⟨2, ![28672, 160]⟩
abbrev S998400x1 : Shape := ⟨2, ![998400, 1]⟩
abbrev S112x256x160 : Shape := ⟨3, ![112, 256, 160]⟩
abbrev S112x160x256 : Shape := ⟨3, ![112, 160, 256]⟩
abbrev S17920x256 : Shape := ⟨2, ![17920, 256]⟩

abbrev nBuf : Space → Nat
  | .hbm => 80
  | .vmem => 2
  | .smem => 0
  | _ => 0

abbrev bufTy : (tb : Table) → Fin (tcTables nBuf tb) → BufTy
  | .hbm, ⟨0, _⟩ => ⟨S897, .i32⟩
  | .hbm, ⟨1, _⟩ => ⟨S1, .i32⟩
  | .hbm, ⟨2, _⟩ => ⟨S374400x128, .i32⟩
  | .hbm, ⟨3, _⟩ => ⟨S7800x48x128, .i32⟩
  | .hbm, ⟨4, _⟩ => ⟨S1497600x128, .f32⟩
  | .hbm, ⟨5, _⟩ => ⟨S7800x192x128, .f32⟩
  | .hbm, ⟨6, _⟩ => ⟨S7800x160x128, .f32⟩
  | .hbm, ⟨7, _⟩ => ⟨S7800x1x128, .i32⟩
  | .hbm, ⟨8, _⟩ => ⟨S7800x128, .i32⟩
  | .hbm, ⟨9, _⟩ => ⟨S7800x128, .f32⟩
  | .hbm, ⟨10, _⟩ => ⟨S7800x1x128, .i32⟩
  | .hbm, ⟨11, _⟩ => ⟨S7800x128, .i32⟩
  | .hbm, ⟨12, _⟩ => ⟨S224, .i32⟩
  | .hbm, ⟨13, _⟩ => ⟨S1, .i32⟩
  | .hbm, ⟨14, _⟩ => ⟨S_, .i32⟩
  | .hbm, ⟨15, _⟩ => ⟨S224, .i32⟩
  | .hbm, ⟨16, _⟩ => ⟨S224, .i32⟩
  | .hbm, ⟨17, _⟩ => ⟨S7800, .i32⟩
  | .hbm, ⟨18, _⟩ => ⟨S_, .i32⟩
  | .hbm, ⟨19, _⟩ => ⟨S_, .i32⟩
  | .hbm, ⟨20, _⟩ => ⟨S7800, .i32⟩
  | .hbm, ⟨21, _⟩ => ⟨S7800, .i32⟩
  | .hbm, ⟨22, _⟩ => ⟨S7800, .i32⟩
  | .hbm, ⟨23, _⟩ => ⟨S_, .i32⟩
  | .hbm, ⟨24, _⟩ => ⟨S7800, .i32⟩
  | .hbm, ⟨25, _⟩ => ⟨S7800, .i1⟩
  | .hbm, ⟨26, _⟩ => ⟨S7800, .i32⟩
  | .hbm, ⟨27, _⟩ => ⟨S7800, .i32⟩
  | .hbm, ⟨28, _⟩ => ⟨S_, .i32⟩
  | .hbm, ⟨29, _⟩ => ⟨S7800, .i32⟩
  | .hbm, ⟨30, _⟩ => ⟨S7800, .i1⟩
  | .hbm, ⟨31, _⟩ => ⟨S7800, .i1⟩
  | .hbm, ⟨32, _⟩ => ⟨S_, .i32⟩
  | .hbm, ⟨33, _⟩ => ⟨S7800, .i32⟩
  | .hbm, ⟨34, _⟩ => ⟨S7800, .i32⟩
  | .hbm, ⟨35, _⟩ => ⟨S7800, .i32⟩
  | .hbm, ⟨36, _⟩ => ⟨S224x1, .i32⟩
  | .hbm, ⟨37, _⟩ => ⟨S1x7800, .i32⟩
  | .hbm, ⟨38, _⟩ => ⟨S224x7800, .i32⟩
  | .hbm, ⟨39, _⟩ => ⟨S224x7800, .i32⟩
  | .hbm, ⟨40, _⟩ => ⟨S224x7800, .i1⟩
  | .hbm, ⟨41, _⟩ => ⟨S224x7800, .i32⟩
  | .hbm, ⟨42, _⟩ => ⟨S_, .i32⟩
  | .hbm, ⟨43, _⟩ => ⟨S7800, .i32⟩
  | .hbm, ⟨44, _⟩ => ⟨S7800x1, .i32⟩
  | .hbm, ⟨45, _⟩ => ⟨S_, .i32⟩
  | .hbm, ⟨46, _⟩ => ⟨S7800x1, .i32⟩
  | .hbm, ⟨47, _⟩ => ⟨S7800x1, .i1⟩
  | .hbm, ⟨48, _⟩ => ⟨S_, .i32⟩
  | .hbm, ⟨49, _⟩ => ⟨S7800x128, .i32⟩
  | .hbm, ⟨50, _⟩ => ⟨S7800x128, .i1⟩
  | .hbm, ⟨51, _⟩ => ⟨S7800x128, .i1⟩
  | .hbm, ⟨52, _⟩ => ⟨S7800x128, .i1⟩
  | .hbm, ⟨53, _⟩ => ⟨S_, .i32⟩
  | .hbm, ⟨54, _⟩ => ⟨S7800x128, .i32⟩
  | .hbm, ⟨55, _⟩ => ⟨S7800x128, .i1⟩
  | .hbm, ⟨56, _⟩ => ⟨S7800x128, .i1⟩
  | .hbm, ⟨57, _⟩ => ⟨S7800x1, .i32⟩
  | .hbm, ⟨58, _⟩ => ⟨S_, .i32⟩
  | .hbm, ⟨59, _⟩ => ⟨S7800x1, .i32⟩
  | .hbm, ⟨60, _⟩ => ⟨S7800x1, .i32⟩
  | .hbm, ⟨61, _⟩ => ⟨S7800x128, .i32⟩
  | .hbm, ⟨62, _⟩ => ⟨S7800x128, .i32⟩
  | .hbm, ⟨63, _⟩ => ⟨S_, .i32⟩
  | .hbm, ⟨64, _⟩ => ⟨S_, .i32⟩
  | .hbm, ⟨65, _⟩ => ⟨S7800x128, .i32⟩
  | .hbm, ⟨66, _⟩ => ⟨S7800x128, .i32⟩
  | .hbm, ⟨67, _⟩ => ⟨S7800x1x128, .f32⟩
  | .hbm, ⟨68, _⟩ => ⟨S7800x160x128, .f32⟩
  | .hbm, ⟨69, _⟩ => ⟨S7800x160x128, .f32⟩
  | .hbm, ⟨70, _⟩ => ⟨S7800x128x160, .f32⟩
  | .hbm, ⟨71, _⟩ => ⟨S998400x160, .f32⟩
  | .hbm, ⟨72, _⟩ => ⟨S998400, .i32⟩
  | .hbm, ⟨73, _⟩ => ⟨S_, .f32⟩
  | .hbm, ⟨74, _⟩ => ⟨S28672x160, .f32⟩
  | .hbm, ⟨75, _⟩ => ⟨S998400x1, .i32⟩
  | .hbm, ⟨76, _⟩ => ⟨S28672x160, .f32⟩
  | .hbm, ⟨77, _⟩ => ⟨S112x256x160, .f32⟩
  | .hbm, ⟨78, _⟩ => ⟨S112x160x256, .f32⟩
  | .hbm, ⟨79, _⟩ => ⟨S17920x256, .f32⟩
  | .local _ .vmem, ⟨0, _⟩ => ⟨S374400x128, .i32⟩
  | .local _ .vmem, ⟨1, _⟩ => ⟨S1497600x128, .f32⟩
  | _, _ => ⟨S897, .i32⟩

abbrev bufScoped : (cs : CoreSpace) → Fin (nBuf (.core cs)) → Bool
  | .vmem, ⟨0, _⟩ => true
  | .vmem, ⟨1, _⟩ => true
  | _, _ => false

abbrev semScoped : Fin 0 → Bool
  | ⟨_, h⟩ => absurd h (Nat.not_lt_zero _)

abbrev dmaSemScoped : Fin 2 → Bool
  | ⟨0, _⟩ => true
  | ⟨1, _⟩ => true
  | _ => false

abbrev sig : RefSig :=
  ofTc nBuf bufTy 0 2 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_c : Ref sig .tc := ⟨.hbm, 18, rfl⟩
abbrev main_call0_v0 : Ref sig .tc := ⟨.hbm, 19, rfl⟩
abbrev main_call0_v1 : Ref sig .tc := ⟨.hbm, 20, rfl⟩
abbrev main_call0_v2 : Ref sig .tc := ⟨.hbm, 21, rfl⟩
abbrev main_call0_v3 : Ref sig .tc := ⟨.hbm, 22, rfl⟩
abbrev main_call0_v4 : Ref sig .tc := ⟨.hbm, 23, rfl⟩
abbrev main_call0_v5 : Ref sig .tc := ⟨.hbm, 24, rfl⟩
abbrev main_call0_v6 : Ref sig .tc := ⟨.hbm, 25, rfl⟩
abbrev main_call0_v7 : Ref sig .tc := ⟨.hbm, 26, rfl⟩
abbrev main_call0_v8 : Ref sig .tc := ⟨.hbm, 27, rfl⟩
abbrev main_call0_c : Ref sig .tc := ⟨.hbm, 28, rfl⟩
abbrev main_call0_v9 : Ref sig .tc := ⟨.hbm, 29, rfl⟩
abbrev main_call0_v10 : Ref sig .tc := ⟨.hbm, 30, rfl⟩
abbrev main_call0_v11 : Ref sig .tc := ⟨.hbm, 31, rfl⟩
abbrev main_call0_c_0 : Ref sig .tc := ⟨.hbm, 32, rfl⟩
abbrev main_call0_v12 : Ref sig .tc := ⟨.hbm, 33, rfl⟩
abbrev main_call0_v13 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_c_0 : Ref sig .tc := ⟨.hbm, 42, rfl⟩
abbrev main_v22 : Ref sig .tc := ⟨.hbm, 43, rfl⟩
abbrev main_v23 : Ref sig .tc := ⟨.hbm, 44, rfl⟩
abbrev main_c_1 : Ref sig .tc := ⟨.hbm, 45, rfl⟩
abbrev main_v24 : Ref sig .tc := ⟨.hbm, 46, rfl⟩
abbrev main_v25 : Ref sig .tc := ⟨.hbm, 47, rfl⟩
abbrev main_c_2 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_c_3 : Ref sig .tc := ⟨.hbm, 53, rfl⟩
abbrev main_v30 : Ref sig .tc := ⟨.hbm, 54, rfl⟩
abbrev main_v31 : Ref sig .tc := ⟨.hbm, 55, rfl⟩
abbrev main_v32 : Ref sig .tc := ⟨.hbm, 56, rfl⟩
abbrev main_v33 : Ref sig .tc := ⟨.hbm, 57, rfl⟩
abbrev main_c_4 : Ref sig .tc := ⟨.hbm, 58, rfl⟩
abbrev main_v34 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_c_5 : Ref sig .tc := ⟨.hbm, 63, rfl⟩
abbrev main_call1_v0 : Ref sig .tc := ⟨.hbm, 64, rfl⟩
abbrev main_call1_v1 : Ref sig .tc := ⟨.hbm, 65, rfl⟩
abbrev main_v38 : Ref sig .tc := ⟨.hbm, 66, rfl⟩
abbrev main_v39 : Ref sig .tc := ⟨.hbm, 67, rfl⟩
abbrev main_v40 : Ref sig .tc := ⟨.hbm, 68, rfl⟩
abbrev main_v41 : Ref sig .tc := ⟨.hbm, 69, rfl⟩
abbrev main_v42 : Ref sig .tc := ⟨.hbm, 70, rfl⟩
abbrev main_v43 : Ref sig .tc := ⟨.hbm, 71, rfl⟩
abbrev main_v44 : Ref sig .tc := ⟨.hbm, 72, rfl⟩
abbrev main_cst : Ref sig .tc := ⟨.hbm, 73, rfl⟩
abbrev main_v45 : Ref sig .tc := ⟨.hbm, 74, rfl⟩
abbrev main_v46 : Ref sig .tc := ⟨.hbm, 75, rfl⟩
abbrev main_v47 : Ref sig .tc := ⟨.hbm, 76, rfl⟩
abbrev main_v48 : Ref sig .tc := ⟨.hbm, 77, rfl⟩
abbrev main_v49 : Ref sig .tc := ⟨.hbm, 78, rfl⟩
abbrev main_v50 : Ref sig .tc := ⟨.hbm, 79, rfl⟩
abbrev cc0_stg0_0 : Ref sig .tc := ⟨.vmem, 0, rfl⟩
abbrev cc0_stg1_0 : Ref sig .tc := ⟨.vmem, 1, rfl⟩
abbrev cc0_sem0_0 : DmaSem sig := 0
abbrev cc0_sem1_0 : DmaSem sig := 1

abbrev nD : Nat := 1
abbrev τ : Topo := Topo.v7x

variable {F : FTy → Type} [FloatOps F]

abbrev grid0 : Pipeline.Grid := .none

abbrev stage0_0 : Fin 1 → Memref sig .tc .vmem S374400x128 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1497600x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== Kernel.lean ====
abbrev S897 : Shape := ⟨1, ![897]⟩
abbrev S1 : Shape := ⟨1, ![1]⟩
abbrev S374400x128 : Shape := ⟨2, ![374400, 128]⟩
abbrev S71680x256 : Shape := ⟨2, ![71680, 256]⟩
abbrev S160x256 : Shape := ⟨2, ![160, 256]⟩
abbrev S16x96x128 : Shape := ⟨3, ![16, 96, 128]⟩
abbrev S16 : Shape := ⟨1, ![16]⟩
abbrev S_ : Shape := ⟨0, ![]⟩
abbrev S1x96x128 : Shape := ⟨3, ![1, 96, 128]⟩
abbrev S96x128 : Shape := ⟨2, ![96, 128]⟩
abbrev S128x256 : Shape := ⟨2, ![128, 256]⟩
abbrev S128x160 : Shape := ⟨2, ![128, 160]⟩
abbrev S40x128 : Shape := ⟨2, ![40, 128]⟩
abbrev S160x128 : Shape := ⟨2, ![160, 128]⟩
abbrev S1x128 : Shape := ⟨2, ![1, 128]⟩
abbrev S1x256 : Shape := ⟨2, ![1, 256]⟩

abbrev nBuf : Space → Nat
  | .hbm => 3
  | .vmem => 3
  | .smem => 2
  | _ => 0

abbrev bufTy : (tb : Table) → Fin (tcTables nBuf tb) → BufTy
  | .hbm, ⟨0, _⟩ => ⟨S374400x128, .i32⟩
  | .hbm, ⟨1, _⟩ => ⟨S71680x256, .f32⟩
  | .hbm, ⟨2, _⟩ => ⟨S71680x256, .f32⟩
  | .local _ .vmem, ⟨0, _⟩ => ⟨S160x256, .f32⟩
  | .local _ .vmem, ⟨1, _⟩ => ⟨S160x256, .f32⟩
  | .local _ .vmem, ⟨2, _⟩ => ⟨S16x96x128, .i32⟩
  | .local _ .smem, ⟨0, _⟩ => ⟨S897, .i32⟩
  | .local _ .smem, ⟨1, _⟩ => ⟨S1, .i32⟩
  | _, _ => ⟨S374400x128, .i32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg2 : Ref sig .tc := ⟨.hbm, 0, rfl⟩
abbrev main_arg3 : Ref sig .tc := ⟨.hbm, 1, rfl⟩
abbrev main_v0 : Ref sig .tc := ⟨.hbm, 2, rfl⟩
abbrev main_arg0 : Ref sig .tc := ⟨.smem, 0, rfl⟩
abbrev main_arg1 : Ref sig .tc := ⟨.smem, 1, rfl⟩
abbrev cc0_stg0_0 : Ref sig .tc := ⟨.vmem, 0, rfl⟩
abbrev cc0_stg0_1 : Ref sig .tc := ⟨.vmem, 1, rfl⟩
abbrev cc0_scratch0 : Ref sig .tc := ⟨.vmem, 2, rfl⟩
abbrev cc0_sem0_0 : DmaSem sig := 0
abbrev cc0_sem0_1 : DmaSem sig := 1

abbrev nD : Nat := 1
abbrev τ : Topo := Topo.v7x

variable {F : FTy → Type} [FloatOps F]

abbrev grid0 : Pipeline.Grid := ⟨1, ![112], ![false]⟩

abbrev pre0 : Pipeline.Prefetch sig := ⟨2, ![main_arg0.idx, main_arg1.idx], fun | 0 => main_arg0.names | 1 => main_arg1.names | ⟨_ + 2, h⟩ => absurd h (Nat.not_lt.2 (Nat.le_add_left _ _)), fun | 0 => rfl | 1 => rfl | ⟨_ + 2, h⟩ => absurd h (Nat.not_lt.2 (Nat.le_add_left _ _))⟩

def k0_cond1 (i : grid0.Coords) : BitVec 1 :=
  let arg0 : BitVec 32 := BitVec.ofNat 32 (i 0).val
  let c0_i32 : BitVec 32 := 0#32
  let v3 : BitVec 1 := Scalar.cmpi .eq arg0 c0_i32
  let v4 : BitVec 32 := Scalar.extui v3
  let c0_i32_0 : BitVec 32 := 0#32
  let v5 : BitVec 1 := Scalar.cmpi .ne v4 c0_i32_0
  v5

@[reducible] def k0_t1_loop (v0 : BitVec 32) (v1 : BitVec 32) : Scf.Loop 32 :=
  let c0_i32_21 : BitVec 32 := 0#32
  let v2 : BitVec 32 := Scalar.subi v1 v0
  let c16_i32 : BitVec 32 := 16#32
  let v47 : BitVec 32 := Scalar.minsi v2 c16_i32
  let c0_i32_15 : BitVec 32 := 0#32
  let v48 : BitVec 32 := Scalar.subi v47 c0_i32_15
  let c1_i32_16 : BitVec 32 := 1#32
  let c1_i32_17 : BitVec 32 := 1#32
  let v49 : BitVec 32 := Scalar.subi c1_i32_16 c1_i32_17
  let v50 : BitVec 32 := Scalar.addi v48 v49
  let c1_i32_18 : BitVec 32 := 1#32
  let v51 : BitVec 32 := Scalar.divsi v50 c1_i32_18
  let v52 : BitVec 32 := Scalar.subi v51 c0_i32_21
  let c1_i32_22 : BitVec 32 := 1#32
  let v54 : BitVec 32 := Scalar.divsi v52 c1_i32_22
  let v55 : BitVec 32 := Scalar.muli v54 c1_i32_22
  let v56 : BitVec 32 := Scalar.addi c0_i32_21 v55
  let c1_i32_23 : BitVec 32 := 1#32
  ⟨c0_i32_21, v56, c1_i32_23⟩

def k0_off1 (v0 : BitVec 32) (v1 : BitVec 32) (k0_t1 : Fin (k0_t1_loop v0 v1).trips) : Fin 1 → Nat :=
  let c0_i32_20 : BitVec 32 := 0#32
  let c0_i32_21 : BitVec 32 := 0#32
  let c1_i32_23 : BitVec 32 := 1#32
  let arg8 : BitVec 32 := Scf.iv c0_i32_21 c1_i32_23 k0_t1
  let c1_i32_19 : BitVec 32 := 1#32
  let v57 : BitVec 32 := Scalar.muli arg8 c1_i32_19
  let v58 : BitVec 32 := Scalar.addi c0_i32_20 v57
  let c16_i32_31 : BitVec 32 := 16#32
  let c0_i32_32 : BitVec 32 := 0#32
  let v70 : BitVec 1 := Scalar.cmpi .eq c16_i32_31 c0_i32_32
  let c1_i32_33 : BitVec 32 := 1#32
  let v71 : BitVec 32 := Scalar.select v70 c1_i32_33 c16_i32_31
  let v72 : BitVec 32 := Scalar.remsi v58 v71
  let c0_i32_35 : BitVec 32 := 0#32
  let v74 : BitVec 1 := Scalar.cmpi .slt v72 c0_i32_35
  let c0_i32_36 : BitVec 32 := 0#32
  let v75 : BitVec 1 := Scalar.cmpi .slt v71 c0_i32_36
  let v76 : BitVec 1 := Scalar.xori v74 v75
  let c0_i32_34 : BitVec 32 := 0#32
  let v73 : BitVec 1 := Scalar.cmpi .ne v72 c0_i32_34
  let v77 : BitVec 1 := Scalar.andi v76 v73
  let v78 : BitVec 32 := Scalar.addi v72 v71
  let v79 : BitVec 32 := Scalar.select v77 v78 v72
  ![v79.toNat]
def k0_off2 (v0 : BitVec 32) (v1 : BitVec 32) (k0_t1 : Fin (k0_t1_loop v0 v1).trips) : Fin 3 → Nat :=
  let c0_i32_20 : BitVec 32 := 0#32
  let c0_i32_21 : BitVec 32 := 0#32
  let c1_i32_23 : BitVec 32 := 1#32
  let arg8 : BitVec 32 := Scf.iv c0_i32_21 c1_i32_23 k0_t1
  let c1_i32_19 : BitVec 32 := 1#32
  let v57 : BitVec 32 := Scalar.muli arg8 c1_i32_19
  let v58 : BitVec 32 := Scalar.addi c0_i32_20 v57
  let c16_i32_25 : BitVec 32 := 16#32
  let c0_i32_26 : BitVec 32 := 0#32
  let v60 : BitVec 1 := Scalar.cmpi .eq c16_i32_25 c0_i32_26
  let c1_i32_27 : BitVec 32 := 1#32
  let v61 : BitVec 32 := Scalar.select v60 c1_i32_27 c16_i32_25
  let v62 : BitVec 32 := Scalar.remsi v58 v61
  let c0_i32_29 : BitVec 32 := 0#32
  let v64 : BitVec 1 := Scalar.cmpi .slt v62 c0_i32_29
  let c0_i32_30 : BitVec 32 := 0#32
  let v65 : BitVec 1 := Scalar.cmpi .slt v61 c0_i32_30
  let v66 : BitVec 1 := Scalar.xori v64 v65
  let c0_i32_28 : BitVec 32 := 0#32
  let v63 : BitVec 1 := Scalar.cmpi .ne v62 c0_i32_28
  let v67 : BitVec 1 := Scalar.andi v66 v63
  let v68 : BitVec 32 := Scalar.addi v62 v61
  let v69 : BitVec 32 := Scalar.select v67 v68 v62
  let c0_i32_37 : BitVec 32 := 0#32
  let c0_i32_38 : BitVec 32 := 0#32
  ![v69.toNat, 0, 0]
def k0_off3 (v0 : BitVec 32) (v1 : BitVec 32) (k0_t1 : Fin (k0_t1_loop v0 v1).trips) : Fin 2 → Nat :=
  let c0_i32_20 : BitVec 32 := 0#32
  let c0_i32_21 : BitVec 32 := 0#32
  let c1_i32_23 : BitVec 32 := 1#32
  let arg8 : BitVec 32 := Scf.iv c0_i32_21 c1_i32_23 k0_t1
  let c1_i32_19 : BitVec 32 := 1#32
  let v57 : BitVec 32 := Scalar.muli arg8 c1_i32_19
  let v58 : BitVec 32 := Scalar.addi c0_i32_20 v57
  let c96_i32 : BitVec 32 := 96#32
  let v59 : BitVec 32 := Scalar.muli v58 c96_i32
  let c0_i32_39 : BitVec 32 := 0#32
  ![v59.toNat, 0]
@[reducible] def k0_t2_loop (v0 : BitVec 32) (v1 : BitVec 32) : Scf.Loop 32 :=
  let c0_i32_21 : BitVec 32 := 0#32
  let v2 : BitVec 32 := Scalar.subi v1 v0
  let c16_i32 : BitVec 32 := 16#32
  let v47 : BitVec 32 := Scalar.minsi v2 c16_i32
  let c0_i32_15 : BitVec 32 := 0#32
  let v48 : BitVec 32 := Scalar.subi v47 c0_i32_15
  let c1_i32_16 : BitVec 32 := 1#32
  let c1_i32_17 : BitVec 32 := 1#32
  let v49 : BitVec 32 := Scalar.subi c1_i32_16 c1_i32_17
  let v50 : BitVec 32 := Scalar.addi v48 v49
  let c1_i32_18 : BitVec 32 := 1#32
  let v51 : BitVec 32 := Scalar.divsi v50 c1_i32_18
  let v52 : BitVec 32 := Scalar.subi v51 c0_i32_21
  let c1_i32_22 : BitVec 32 := 1#32
  let v54 : BitVec 32 := Scalar.divsi v52 c1_i32_22
  let v55 : BitVec 32 := Scalar.muli v54 c1_i32_22
  let v56 : BitVec 32 := Scalar.addi c0_i32_21 v55
  let v53 : BitVec 32 := Scalar.addi c0_i32_21 v52
  let c1_i32_24 : BitVec 32 := 1#32
  ⟨v56, v53, c1_i32_24⟩
def k0_off4 (v0 : BitVec 32) (v1 : BitVec 32) (k0_t2 : Fin (k0_t2_loop v0 v1).trips) : Fin 1 → Nat :=
  let c0_i32_20 : BitVec 32 := 0#32
  let c0_i32_21 : BitVec 32 := 0#32
  let v2 : BitVec 32 := Scalar.subi v1 v0
  let c16_i32 : BitVec 32 := 16#32
  let v47 : BitVec 32 := Scalar.minsi v2 c16_i32
  let c0_i32_15 : BitVec 32 := 0#32
  let v48 : BitVec 32 := Scalar.subi v47 c0_i32_15
  let c1_i32_16 : BitVec 32 := 1#32
  let c1_i32_17 : BitVec 32 := 1#32
  let v49 : BitVec 32 := Scalar.subi c1_i32_16 c1_i32_17
  let v50 : BitVec 32 := Scalar.addi v48 v49
  let c1_i32_18 : BitVec 32 := 1#32
  let v51 : BitVec 32 := Scalar.divsi v50 c1_i32_18
  let v52 : BitVec 32 := Scalar.subi v51 c0_i32_21
  let c1_i32_22 : BitVec 32 := 1#32
  let v54 : BitVec 32 := Scalar.divsi v52 c1_i32_22
  let v55 : BitVec 32 := Scalar.muli v54 c1_i32_22
  let v56 : BitVec 32 := Scalar.addi c0_i32_21 v55
  let c1_i32_24 : BitVec 32 := 1#32
  let arg8 : BitVec 32 := Scf.iv v56 c1_i32_24 k0_t2
  let c1_i32_19 : BitVec 32 := 1#32
  let v57 : BitVec 32 := Scalar.muli arg8 c1_i32_19
  let v58 : BitVec 32 := Scalar.addi c0_i32_20 v57
  let c16_i32_31 : BitVec 32 := 16#32
  let c0_i32_32 : BitVec 32 := 0#32
  let v70 : BitVec 1 := Scalar.cmpi .eq c16_i32_31 c0_i32_32
  let c1_i32_33 : BitVec 32 := 1#32
  let v71 : BitVec 32 := Scalar.select v70 c1_i32_33 c16_i32_31
  let v72 : BitVec 32 := Scalar.remsi v58 v71
  let c0_i32_35 : BitVec 32 := 0#32
  let v74 : BitVec 1 := Scalar.cmpi .slt v72 c0_i32_35
  let c0_i32_36 : BitVec 32 := 0#32
  let v75 : BitVec 1 := Scalar.cmpi .slt v71 c0_i32_36
  let v76 : BitVec 1 := Scalar.xori v74 v75
  let c0_i32_34 : BitVec 32 := 0#32
  let v73 : BitVec 1 := Scalar.cmpi .ne v72 c0_i32_34
  let v77 : BitVec 1 := Scalar.andi v76 v73
  let v78 : BitVec 32 := Scalar.addi v72 v71
  let v79 : BitVec 32 := Scalar.select v77 v78 v72
  ![v79.toNat]
def k0_off5 (v0 : BitVec 32) (v1 : BitVec 32) (k0_t2 : Fin (k0_t2_loop v0 v1).trips) : Fin 3 → Nat :=
  let c0_i32_20 : BitVec 32 := 0#32
  let c0_i32_21 : BitVec 32 := 0#32
  let v2 : BitVec 32 := Scalar.subi v1 v0
  let c16_i32 : BitVec 32 := 16#32
  let v47 : BitVec 32 := Scalar.minsi v2 c16_i32
  let c0_i32_15 : BitVec 32 := 0#32
  let v48 : BitVec 32 := Scalar.subi v47 c0_i32_15
  let c1_i32_16 : BitVec 32 := 1#32
  let c1_i32_17 : BitVec 32 := 1#32
  let v49 : BitVec 32 := Scalar.subi c1_i32_16 c1_i32_17
  let v50 : BitVec 32 := Scalar.addi v48 v49
  let c1_i32_18 : BitVec 32 := 1#32
  let v51 : BitVec 32 := Scalar.divsi v50 c1_i32_18
  let v52 : BitVec 32 := Scalar.subi v51 c0_i32_21
  let c1_i32_22 : BitVec 32 := 1#32
  let v54 : BitVec 32 := Scalar.divsi v52 c1_i32_22
  let v55 : BitVec 32 := Scalar.muli v54 c1_i32_22
  let v56 : BitVec 32 := Scalar.addi c0_i32_21 v55
  let c1_i32_24 : BitVec 32 := 1#32
  let arg8 : BitVec 32 := Scf.iv v56 c1_i32_24 k0_t2
  let c1_i32_19 : BitVec 32 := 1#32
  let v57 : BitVec 32 := Scalar.muli arg8 c1_i32_19
  let v58 : BitVec 32 := Scalar.addi c0_i32_20 v57
  let c16_i32_25 : BitVec 32 := 16#32
  let c0_i32_26 : BitVec 32 := 0#32
  let v60 : BitVec 1 := Scalar.cmpi .eq c16_i32_25 c0_i32_26
  let c1_i32_27 : BitVec 32 := 1#32
  let v61 : BitVec 32 := Scalar.select v60 c1_i32_27 c16_i32_25
  let v62 : BitVec 32 := Scalar.remsi v58 v61
  let c0_i32_29 : BitVec 32 := 0#32
  let v64 : BitVec 1 := Scalar.cmpi .slt v62 c0_i32_29
  let c0_i32_30 : BitVec 32 := 0#32
  let v65 : BitVec 1 := Scalar.cmpi .slt v61 c0_i32_30
  let v66 : BitVec 1 := Scalar.xori v64 v65
  let c0_i32_28 : BitVec 32 := 0#32
  let v63 : BitVec 1 := Scalar.cmpi .ne v62 c0_i32_28
  let v67 : BitVec 1 := Scalar.andi v66 v63
  let v68 : BitVec 32 := Scalar.addi v62 v61
  let v69 : BitVec 32 := Scalar.select v67 v68 v62
  let c0_i32_37 : BitVec 32 := 0#32
  let c0_i32_38 : BitVec 32 := 0#32
  ![v69.toNat, 0, 0]
def k0_off6 (v0 : BitVec 32) (v1 : BitVec 32) (k0_t2 : Fin (k0_t2_loop v0 v1).trips) : Fin 2 → Nat :=
  let c0_i32_20 : BitVec 32 := 0#32
  let c0_i32_21 : BitVec 32 := 0#32
  let v2 : BitVec 32 := Scalar.subi v1 v0
  let c16_i32 : BitVec 32 := 16#32
  let v47 : BitVec 32 := Scalar.minsi v2 c16_i32
  let c0_i32_15 : BitVec 32 := 0#32
  let v48 : BitVec 32 := Scalar.subi v47 c0_i32_15
  let c1_i32_16 : BitVec 32 := 1#32
  let c1_i32_17 : BitVec 32 := 1#32
  let v49 : BitVec 32 := Scalar.subi c1_i32_16 c1_i32_17
  let v50 : BitVec 32 := Scalar.addi v48 v49
  let c1_i32_18 : BitVec 32 := 1#32
  let v51 : BitVec 32 := Scalar.divsi v50 c1_i32_18
  let v52 : BitVec 32 := Scalar.subi v51 c0_i32_21
  let c1_i32_22 : BitVec 32 := 1#32
  let v54 : BitVec 32 := Scalar.divsi v52 c1_i32_22
  let v55 : BitVec 32 := Scalar.muli v54 c1_i32_22
  let v56 : BitVec 32 := Scalar.addi c0_i32_21 v55
  let c1_i32_24 : BitVec 32 := 1#32
  let arg8 : BitVec 32 := Scf.iv v56 c1_i32_24 k0_t2
  let c1_i32_19 : BitVec 32 := 1#32
  let v57 : BitVec 32 := Scalar.muli arg8 c1_i32_19
  let v58 : BitVec 32 := Scalar.addi c0_i32_20 v57
  let c96_i32 : BitVec 32 := 96#32
  let v59 : BitVec 32 := Scalar.muli v58 c96_i32
  let c0_i32_39 : BitVec 32 := 0#32
  ![v59.toNat, 0]

def k0_chk1 (i : grid0.Coords) (v0 : BitVec 32) (v1 : BitVec 32) : Prop :=
  (∀ (k0_h1 : k0_cond1 i = 1#1), (k0_t1_loop v0 v1).OK) ∧
  (∀ k0_t1 : Fin (k0_t1_loop v0 v1).trips, ∀ (k0_h1 : k0_cond1 i = 1#1), ∀ a, (k0_off1 v0 v1 k0_t1) a + S1.size a ≤ S16.size a) ∧
  (∀ k0_t1 : Fin (k0_t1_loop v0 v1).trips, ∀ (k0_h1 : k0_cond1 i = 1#1), ∀ a, (k0_off2 v0 v1 k0_t1) a + S1x96x128.size a ≤ S16x96x128.size a) ∧
  (∀ k0_t1 : Fin (k0_t1_loop v0 v1).trips, ∀ (k0_h1 : k0_cond1 i = 1#1), ∀ a, (k0_off3 v0 v1 k0_t1) a + S96x128.size a ≤ S374400x128.size a) ∧
  (∀ (k0_h1 : k0_cond1 i = 1#1), (k0_t2_loop v0 v1).OK) ∧
  (∀ k0_t2 : Fin (k0_t2_loop v0 v1).trips, ∀ (k0_h1 : k0_cond1 i = 1#1), ∀ a, (k0_off4 v0 v1 k0_t2) a + S1.size a ≤ S16.size a) ∧
  (∀ k0_t2 : Fin (k0_t2_loop v0 v1).trips, ∀ (k0_h1 : k0_cond1 i = 1#1), ∀ a, (k0_off5 v0 v1 k0_t2) a + S1x96x128.size a ≤ S16x96x128.size a) ∧
  (∀ k0_t2 : Fin (k0_t2_loop v0 v1).trips, ∀ (k0_h1 : k0_cond1 i = 1#1), ∀ a, (k0_off6 v0 v1 k0_t2) a + S96x128.size a ≤ S374400x128.size a)
theorem k0_t1_ok : ∀ (i : grid0.Coords) (v0 : BitVec 32) (v1 : BitVec 32) (k0_hw1 : k0_chk1 i v0 v1), ∀ (k0_h1 : k0_cond1 i = 1#1), (k0_t1_loop v0 v1).OK := fun i v0 v1 k0_hw1 k0_h1 => k0_hw1.1 k0_h1
theorem k0_off1_inb : ∀ (i : grid0.Coords) (v0 : BitVec 32) (v1 : BitVec 32) (k0_hw1 : k0_chk1 i v0 v1) (k0_t1 : Fin (k0_t1_loop v0 v1).trips), ∀ (k0_h1 : k0_cond1 i = 1#1), ∀ a, (k0_off1 v0 v1 k0_t1) a + S1.size a ≤ S16.size a := fun i v0 v1 k0_hw1 k0_t1 k0_h1 => k0_hw1.2.1 k0_t1 k0_h1
theorem k0_off2_inb : ∀ (i : grid0.Coords) (v0 : BitVec 32) (v1 : BitVec 32) (k0_hw1 : k0_chk1 i v0 v1) (k0_t1 : Fin (k0_t1_loop v0 v1).trips), ∀ (k0_h1 : k0_cond1 i = 1#1), ∀ a, (k0_off2 v0 v1 k0_t1) a + S1x96x128.size a ≤ S16x96x128.size a := fun i v0 v1 k0_hw1 k0_t1 k0_h1 => k0_hw1.2.2.1 k0_t1 k0_h1
theorem k0_off3_inb : ∀ (i : grid0.Coords) (v0 : BitVec 32) (v1 : BitVec 32) (k0_hw1 : k0_chk1 i v0 v1) (k0_t1 : Fin (k0_t1_loop v0 v1).trips), ∀ (k0_h1 : k0_cond1 i = 1#1), ∀ a, (k0_off3 v0 v1 k0_t1) a + S96x128.size a ≤ S374400x128.size a := fun i v0 v1 k0_hw1 k0_t1 k0_h1 => k0_hw1.2.2.2.1 k0_t1 k0_h1
theorem k0_t2_ok : ∀ (i : grid0.Coords) (v0 : BitVec 32) (v1 : BitVec 32) (k0_hw1 : k0_chk1 i v0 v1), ∀ (k0_h1 : k0_cond1 i = 1#1), (k0_t2_loop v0 v1).OK := fun i v0 v1 k0_hw1 k0_h1 => k0_hw1.2.2.2.2.1 k0_h1
theorem k0_off4_inb : ∀ (i : grid0.Coords) (v0 : BitVec 32) (v1 : BitVec 32) (k0_hw1 : k0_chk1 i v0 v1) (k0_t2 : Fin (k0_t2_loop v0 v1).trips), ∀ (k0_h1 : k0_cond1 i = 1#1), ∀ a, (k0_off4 v0 v1 k0_t2) a + S1.size a ≤ S16.size a := fun i v0 v1 k0_hw1 k0_t2 k0_h1 => k0_hw1.2.2.2.2.2.1 k0_t2 k0_h1
theorem k0_off5_inb : ∀ (i : grid0.Coords) (v0 : BitVec 32) (v1 : BitVec 32) (k0_hw1 : k0_chk1 i v0 v1) (k0_t2 : Fin (k0_t2_loop v0 v1).trips), ∀ (k0_h1 : k0_cond1 i = 1#1), ∀ a, (k0_off5 v0 v1 k0_t2) a + S1x96x128.size a ≤ S16x96x128.size a := fun i v0 v1 k0_hw1 k0_t2 k0_h1 => k0_hw1.2.2.2.2.2.2.1 k0_t2 k0_h1
theorem k0_off6_inb : ∀ (i : grid0.Coords) (v0 : BitVec 32) (v1 : BitVec 32) (k0_hw1 : k0_chk1 i v0 v1) (k0_t2 : Fin (k0_t2_loop v0 v1).trips), ∀ (k0_h1 : k0_cond1 i = 1#1), ∀ a, (k0_off6 v0 v1 k0_t2) a + S96x128.size a ≤ S374400x128.size a := fun i v0 v1 k0_hw1 k0_t2 k0_h1 => k0_hw1.2.2.2.2.2.2.2 k0_t2 k0_h1

def k0_off7 (i : grid0.Coords) : Fin 1 → Nat :=
  let c112_i32 : BitVec 32 := 112#32
  let arg0 : BitVec 32 := BitVec.ofNat 32 (i 0).val
  let v7 : BitVec 32 := Scalar.addi c112_i32 arg0
  let c2_i32 : BitVec 32 := 2#32
  let v8 : BitVec 32 := Scalar.muli v7 c2_i32
  let c0_i32_1 : BitVec 32 := 0#32
  let v9 : BitVec 32 := Scalar.addi v8 c0_i32_1
  let v10 : Index := Scalar.indexCast v9
  ![v10.toNat]
def k0_off8 (i : grid0.Coords) : Fin 1 → Nat :=
  let c112_i32 : BitVec 32 := 112#32
  let arg0 : BitVec 32 := BitVec.ofNat 32 (i 0).val
  let v7 : BitVec 32 := Scalar.addi c112_i32 arg0
  let c2_i32 : BitVec 32 := 2#32
  let v8 : BitVec 32 := Scalar.muli v7 c2_i32
  let c0_i32_1 : BitVec 32 := 0#32
  let v9 : BitVec 32 := Scalar.addi v8 c0_i32_1
  let c1_i32 : BitVec 32 := 1#32
  let v13 : BitVec 32 := Scalar.addi v9 c1_i32
  let v14 : Index := Scalar.indexCast v13
  ![v14.toNat]
@[reducible] def k0_t3_loop (v0 : BitVec 32) (v11 : BitVec 32) (v15 : BitVec 32) : Scf.Loop 32 :=
  let v12 : BitVec 32 := Scalar.subi v11 v0
  let v16 : BitVec 32 := Scalar.subi v15 v0
  let v18 : BitVec 32 := Scalar.subi v16 v12
  let c1_i32_2 : BitVec 32 := 1#32
  let v20 : BitVec 32 := Scalar.divsi v18 c1_i32_2
  let v21 : BitVec 32 := Scalar.muli v20 c1_i32_2
  let v22 : BitVec 32 := Scalar.addi v12 v21
  let c1_i32_3 : BitVec 32 := 1#32
  ⟨v12, v22, c1_i32_3⟩

def k0_off9 (v0 : BitVec 32) (v11 : BitVec 32) (v15 : BitVec 32) (k0_t3 : Fin (k0_t3_loop v0 v11 v15).trips) : Fin 1 → Nat :=
  let v12 : BitVec 32 := Scalar.subi v11 v0
  let c1_i32_3 : BitVec 32 := 1#32
  let arg8 : BitVec 32 := Scf.iv v12 c1_i32_3 k0_t3
  let c16_i32_20 : BitVec 32 := 16#32
  let c0_i32_21 : BitVec 32 := 0#32
  let v58 : BitVec 1 := Scalar.cmpi .eq c16_i32_20 c0_i32_21
  let c1_i32_22 : BitVec 32 := 1#32
  let v59 : BitVec 32 := Scalar.select v58 c1_i32_22 c16_i32_20
  let v60 : BitVec 32 := Scalar.remsi arg8 v59
  let c0_i32_24 : BitVec 32 := 0#32
  let v62 : BitVec 1 := Scalar.cmpi .slt v60 c0_i32_24
  let c0_i32_25 : BitVec 32 := 0#32
  let v63 : BitVec 1 := Scalar.cmpi .slt v59 c0_i32_25
  let v64 : BitVec 1 := Scalar.xori v62 v63
  let c0_i32_23 : BitVec 32 := 0#32
  let v61 : BitVec 1 := Scalar.cmpi .ne v60 c0_i32_23
  let v65 : BitVec 1 := Scalar.andi v64 v61
  let v66 : BitVec 32 := Scalar.addi v60 v59
  let v67 : BitVec 32 := Scalar.select v65 v66 v60
  ![v67.toNat]
def k0_off10 (v0 : BitVec 32) (v11 : BitVec 32) (v15 : BitVec 32) (k0_t3 : Fin (k0_t3_loop v0 v11 v15).trips) : Fin 3 → Nat :=
  let v12 : BitVec 32 := Scalar.subi v11 v0
  let c1_i32_3 : BitVec 32 := 1#32
  let arg8 : BitVec 32 := Scf.iv v12 c1_i32_3 k0_t3
  let c16_i32 : BitVec 32 := 16#32
  let c0_i32_15 : BitVec 32 := 0#32
  let v48 : BitVec 1 := Scalar.cmpi .eq c16_i32 c0_i32_15
  let c1_i32_16 : BitVec 32 := 1#32
  let v49 : BitVec 32 := Scalar.select v48 c1_i32_16 c16_i32
  let v50 : BitVec 32 := Scalar.remsi arg8 v49
  let c0_i32_18 : BitVec 32 := 0#32
  let v52 : BitVec 1 := Scalar.cmpi .slt v50 c0_i32_18
  let c0_i32_19 : BitVec 32 := 0#32
  let v53 : BitVec 1 := Scalar.cmpi .slt v49 c0_i32_19
  let v54 : BitVec 1 := Scalar.xori v52 v53
  let c0_i32_17 : BitVec 32 := 0#32
  let v51 : BitVec 1 := Scalar.cmpi .ne v50 c0_i32_17
  let v55 : BitVec 1 := Scalar.andi v54 v51
  let v56 : BitVec 32 := Scalar.addi v50 v49
  let v57 : BitVec 32 := Scalar.select v55 v56 v50
  let c0_i32_26 : BitVec 32 := 0#32
  let c0_i32_27 : BitVec 32 := 0#32
  ![v57.toNat, 0, 0]
def k0_off11 (v0 : BitVec 32) (v11 : BitVec 32) (v15 : BitVec 32) (k0_t3 : Fin (k0_t3_loop v0 v11 v15).trips) : Fin 2 → Nat :=
  let v12 : BitVec 32 := Scalar.subi v11 v0
  let c1_i32_3 : BitVec 32 := 1#32
  let arg8 : BitVec 32 := Scf.iv v12 c1_i32_3 k0_t3
  let c96_i32 : BitVec 32 := 96#32
  let v47 : BitVec 32 := Scalar.muli arg8 c96_i32
  let c0_i32_28 : BitVec 32 := 0#32
  ![v47.toNat, 0]
def k0_off12 (v0 : BitVec 32) (v11 : BitVec 32) (v15 : BitVec 32) (k0_t3 : Fin (k0_t3_loop v0 v11 v15).trips) : Fin 3 → Nat :=
  let v12 : BitVec 32 := Scalar.subi v11 v0
  let c1_i32_3 : BitVec 32 := 1#32
  let arg8 : BitVec 32 := Scf.iv v12 c1_i32_3 k0_t3
  let c16_i32_29 : BitVec 32 := 16#32
  let c0_i32_30 : BitVec 32 := 0#32
  let v73 : BitVec 1 := Scalar.cmpi .eq c16_i32_29 c0_i32_30
  let c1_i32_31 : BitVec 32 := 1#32
  let v74 : BitVec 32 := Scalar.select v73 c1_i32_31 c16_i32_29
  let v75 : BitVec 32 := Scalar.remsi arg8 v74
  let c0_i32_33 : BitVec 32 := 0#32
  let v77 : BitVec 1 := Scalar.cmpi .slt v75 c0_i32_33
  let c0_i32_34 : BitVec 32 := 0#32
  let v78 : BitVec 1 := Scalar.cmpi .slt v74 c0_i32_34
  let v79 : BitVec 1 := Scalar.xori v77 v78
  let c0_i32_32 : BitVec 32 := 0#32
  let v76 : BitVec 1 := Scalar.cmpi .ne v75 c0_i32_32
  let v80 : BitVec 1 := Scalar.andi v79 v76
  let v81 : BitVec 32 := Scalar.addi v75 v74
  let v82 : BitVec 32 := Scalar.select v80 v81 v75
  let v83 : Index := Scalar.indexCast v82
  let c0_35 : Index := 0#32
  let c0_36 : Index := 0#32
  ![v83.toNat, 0, 0]
def k0_off13 (v0 : BitVec 32) (v11 : BitVec 32) (v15 : BitVec 32) (k0_t3 : Fin (k0_t3_loop v0 v11 v15).trips) : Fin 1 → Nat :=
  let v12 : BitVec 32 := Scalar.subi v11 v0
  let c1_i32_3 : BitVec 32 := 1#32
  let arg8 : BitVec 32 := Scf.iv v12 c1_i32_3 k0_t3
  let c16_i32_42 : BitVec 32 := 16#32
  let v111 : BitVec 32 := Scalar.addi arg8 c16_i32_42
  let c16_i32_50 : BitVec 32 := 16#32
  let c0_i32_51 : BitVec 32 := 0#32
  let v123 : BitVec 1 := Scalar.cmpi .eq c16_i32_50 c0_i32_51
  let c1_i32_52 : BitVec 32 := 1#32
  let v124 : BitVec 32 := Scalar.select v123 c1_i32_52 c16_i32_50
  let v125 : BitVec 32 := Scalar.remsi v111 v124
  let c0_i32_54 : BitVec 32 := 0#32
  let v127 : BitVec 1 := Scalar.cmpi .slt v125 c0_i32_54
  let c0_i32_55 : BitVec 32 := 0#32
  let v128 : BitVec 1 := Scalar.cmpi .slt v124 c0_i32_55
  let v129 : BitVec 1 := Scalar.xori v127 v128
  let c0_i32_53 : BitVec 32 := 0#32
  let v126 : BitVec 1 := Scalar.cmpi .ne v125 c0_i32_53
  let v130 : BitVec 1 := Scalar.andi v129 v126
  let v131 : BitVec 32 := Scalar.addi v125 v124
  let v132 : BitVec 32 := Scalar.select v130 v131 v125
  ![v132.toNat]
def k0_cond3 (v0 : BitVec 32) (v1 : BitVec 32) (v11 : BitVec 32) (v15 : BitVec 32) (k0_t3 : Fin (k0_t3_loop v0 v11 v15).trips) : BitVec 1 :=
  let v12 : BitVec 32 := Scalar.subi v11 v0
  let c1_i32_3 : BitVec 32 := 1#32
  let arg8 : BitVec 32 := Scf.iv v12 c1_i32_3 k0_t3
  let c16_i32_40 : BitVec 32 := 16#32
  let v107 : BitVec 32 := Scalar.addi arg8 c16_i32_40
  let v2 : BitVec 32 := Scalar.subi v1 v0
  let v108 : BitVec 1 := Scalar.cmpi .slt v107 v2
  let v109 : BitVec 32 := Scalar.extui v108
  let c0_i32_41 : BitVec 32 := 0#32
  let v110 : BitVec 1 := Scalar.cmpi .ne v109 c0_i32_41
  v110

def k0_off14 (v0 : BitVec 32) (v11 : BitVec 32) (v15 : BitVec 32) (k0_t3 : Fin (k0_t3_loop v0 v11 v15).trips) : Fin 3 → Nat :=
  let v12 : BitVec 32 := Scalar.subi v11 v0
  let c1_i32_3 : BitVec 32 := 1#32
  let arg8 : BitVec 32 := Scf.iv v12 c1_i32_3 k0_t3
  let c16_i32_42 : BitVec 32 := 16#32
  let v111 : BitVec 32 := Scalar.addi arg8 c16_i32_42
  let c16_i32_44 : BitVec 32 := 16#32
  let c0_i32_45 : BitVec 32 := 0#32
  let v113 : BitVec 1 := Scalar.cmpi .eq c16_i32_44 c0_i32_45
  let c1_i32_46 : BitVec 32 := 1#32
  let v114 : BitVec 32 := Scalar.select v113 c1_i32_46 c16_i32_44
  let v115 : BitVec 32 := Scalar.remsi v111 v114
  let c0_i32_48 : BitVec 32 := 0#32
  let v117 : BitVec 1 := Scalar.cmpi .slt v115 c0_i32_48
  let c0_i32_49 : BitVec 32 := 0#32
  let v118 : BitVec 1 := Scalar.cmpi .slt v114 c0_i32_49
  let v119 : BitVec 1 := Scalar.xori v117 v118
  let c0_i32_47 : BitVec 32 := 0#32
  let v116 : BitVec 1 := Scalar.cmpi .ne v115 c0_i32_47
  let v120 : BitVec 1 := Scalar.andi v119 v116
  let v121 : BitVec 32 := Scalar.addi v115 v114
  let v122 : BitVec 32 := Scalar.select v120 v121 v115
  let c0_i32_56 : BitVec 32 := 0#32
  let c0_i32_57 : BitVec 32 := 0#32
  ![v122.toNat, 0, 0]
def k0_off15 (v0 : BitVec 32) (v11 : BitVec 32) (v15 : BitVec 32) (k0_t3 : Fin (k0_t3_loop v0 v11 v15).trips) : Fin 2 → Nat :=
  let v12 : BitVec 32 := Scalar.subi v11 v0
  let c1_i32_3 : BitVec 32 := 1#32
  let arg8 : BitVec 32 := Scf.iv v12 c1_i32_3 k0_t3
  let c16_i32_42 : BitVec 32 := 16#32
  let v111 : BitVec 32 := Scalar.addi arg8 c16_i32_42
  let c96_i32_43 : BitVec 32 := 96#32
  let v112 : BitVec 32 := Scalar.muli v111 c96_i32_43
  let c0_i32_58 : BitVec 32 := 0#32
  ![v112.toNat, 0]
@[reducible] def k0_t4_loop (v0 : BitVec 32) (v11 : BitVec 32) (v15 : BitVec 32) : Scf.Loop 32 :=
  let v12 : BitVec 32 := Scalar.subi v11 v0
  let v16 : BitVec 32 := Scalar.subi v15 v0
  let v18 : BitVec 32 := Scalar.subi v16 v12
  let c1_i32_2 : BitVec 32 := 1#32
  let v20 : BitVec 32 := Scalar.divsi v18 c1_i32_2
  let v21 : BitVec 32 := Scalar.muli v20 c1_i32_2
  let v22 : BitVec 32 := Scalar.addi v12 v21
  let v19 : BitVec 32 := Scalar.addi v12 v18
  let c1_i32_4 : BitVec 32 := 1#32
  ⟨v22, v19, c1_i32_4⟩
def k0_off16 (v0 : BitVec 32) (v11 : BitVec 32) (v15 : BitVec 32) (k0_t4 : Fin (k0_t4_loop v0 v11 v15).trips) : Fin 1 → Nat :=
  let v12 : BitVec 32 := Scalar.subi v11 v0
  let v16 : BitVec 32 := Scalar.subi v15 v0
  let v18 : BitVec 32 := Scalar.subi v16 v12
  let c1_i32_2 : BitVec 32 := 1#32
  let v20 : BitVec 32 := Scalar.divsi v18 c1_i32_2
  let v21 : BitVec 32 := Scalar.muli v20 c1_i32_2
  let v22 : BitVec 32 := Scalar.addi v12 v21
  let c1_i32_4 : BitVec 32 := 1#32
  let arg8 : BitVec 32 := Scf.iv v22 c1_i32_4 k0_t4
  let c16_i32_20 : BitVec 32 := 16#32
  let c0_i32_21 : BitVec 32 := 0#32
  let v58 : BitVec 1 := Scalar.cmpi .eq c16_i32_20 c0_i32_21
  let c1_i32_22 : BitVec 32 := 1#32
  let v59 : BitVec 32 := Scalar.select v58 c1_i32_22 c16_i32_20
  let v60 : BitVec 32 := Scalar.remsi arg8 v59
  let c0_i32_24 : BitVec 32 := 0#32
  let v62 : BitVec 1 := Scalar.cmpi .slt v60 c0_i32_24
  let c0_i32_25 : BitVec 32 := 0#32
  let v63 : BitVec 1 := Scalar.cmpi .slt v59 c0_i32_25
  let v64 : BitVec 1 := Scalar.xori v62 v63
  let c0_i32_23 : BitVec 32 := 0#32
  let v61 : BitVec 1 := Scalar.cmpi .ne v60 c0_i32_23
  let v65 : BitVec 1 := Scalar.andi v64 v61
  let v66 : BitVec 32 := Scalar.addi v60 v59
  let v67 : BitVec 32 := Scalar.select v65 v66 v60
  ![v67.toNat]
def k0_off17 (v0 : BitVec 32) (v11 : BitVec 32) (v15 : BitVec 32) (k0_t4 : Fin (k0_t4_loop v0 v11 v15).trips) : Fin 3 → Nat :=
  let v12 : BitVec 32 := Scalar.subi v11 v0
  let v16 : BitVec 32 := Scalar.subi v15 v0
  let v18 : BitVec 32 := Scalar.subi v16 v12
  let c1_i32_2 : BitVec 32 := 1#32
  let v20 : BitVec 32 := Scalar.divsi v18 c1_i32_2
  let v21 : BitVec 32 := Scalar.muli v20 c1_i32_2
  let v22 : BitVec 32 := Scalar.addi v12 v21
  let c1_i32_4 : BitVec 32 := 1#32
  let arg8 : BitVec 32 := Scf.iv v22 c1_i32_4 k0_t4
  let c16_i32 : BitVec 32 := 16#32
  let c0_i32_15 : BitVec 32 := 0#32
  let v48 : BitVec 1 := Scalar.cmpi .eq c16_i32 c0_i32_15
  let c1_i32_16 : BitVec 32 := 1#32
  let v49 : BitVec 32 := Scalar.select v48 c1_i32_16 c16_i32
  let v50 : BitVec 32 := Scalar.remsi arg8 v49
  let c0_i32_18 : BitVec 32 := 0#32
  let v52 : BitVec 1 := Scalar.cmpi .slt v50 c0_i32_18
  let c0_i32_19 : BitVec 32 := 0#32
  let v53 : BitVec 1 := Scalar.cmpi .slt v49 c0_i32_19
  let v54 : BitVec 1 := Scalar.xori v52 v53
  let c0_i32_17 : BitVec 32 := 0#32
  let v51 : BitVec 1 := Scalar.cmpi .ne v50 c0_i32_17
  let v55 : BitVec 1 := Scalar.andi v54 v51
  let v56 : BitVec 32 := Scalar.addi v50 v49
  let v57 : BitVec 32 := Scalar.select v55 v56 v50
  let c0_i32_26 : BitVec 32 := 0#32
  let c0_i32_27 : BitVec 32 := 0#32
  ![v57.toNat, 0, 0]
def k0_off18 (v0 : BitVec 32) (v11 : BitVec 32) (v15 : BitVec 32) (k0_t4 : Fin (k0_t4_loop v0 v11 v15).trips) : Fin 2 → Nat :=
  let v12 : BitVec 32 := Scalar.subi v11 v0
  let v16 : BitVec 32 := Scalar.subi v15 v0
  let v18 : BitVec 32 := Scalar.subi v16 v12
  let c1_i32_2 : BitVec 32 := 1#32
  let v20 : BitVec 32 := Scalar.divsi v18 c1_i32_2
  let v21 : BitVec 32 := Scalar.muli v20 c1_i32_2
  let v22 : BitVec 32 := Scalar.addi v12 v21
  let c1_i32_4 : BitVec 32 := 1#32
  let arg8 : BitVec 32 := Scf.iv v22 c1_i32_4 k0_t4
  let c96_i32 : BitVec 32 := 96#32
  let v47 : BitVec 32 := Scalar.muli arg8 c96_i32
  let c0_i32_28 : BitVec 32 := 0#32
  ![v47.toNat, 0]
def k0_off19 (v0 : BitVec 32) (v11 : BitVec 32) (v15 : BitVec 32) (k0_t4 : Fin (k0_t4_loop v0 v11 v15).trips) : Fin 3 → Nat :=
  let v12 : BitVec 32 := Scalar.subi v11 v0
  let v16 : BitVec 32 := Scalar.subi v15 v0
  let v18 : BitVec 32 := Scalar.subi v16 v12
  let c1_i32_2 : BitVec 32 := 1#32
  let v20 : BitVec 32 := Scalar.divsi v18 c1_i32_2
  let v21 : BitVec 32 := Scalar.muli v20 c1_i32_2
  let v22 : BitVec 32 := Scalar.addi v12 v21
  let c1_i32_4 : BitVec 32 := 1#32
  let arg8 : BitVec 32 := Scf.iv v22 c1_i32_4 k0_t4
  let c16_i32_29 : BitVec 32 := 16#32
  let c0_i32_30 : BitVec 32 := 0#32
  let v73 : BitVec 1 := Scalar.cmpi .eq c16_i32_29 c0_i32_30
  let c1_i32_31 : BitVec 32 := 1#32
  let v74 : BitVec 32 := Scalar.select v73 c1_i32_31 c16_i32_29
  let v75 : BitVec 32 := Scalar.remsi arg8 v74
  let c0_i32_33 : BitVec 32 := 0#32
  let v77 : BitVec 1 := Scalar.cmpi .slt v75 c0_i32_33
  let c0_i32_34 : BitVec 32 := 0#32
  let v78 : BitVec 1 := Scalar.cmpi .slt v74 c0_i32_34
  let v79 : BitVec 1 := Scalar.xori v77 v78
  let c0_i32_32 : BitVec 32 := 0#32
  let v76 : BitVec 1 := Scalar.cmpi .ne v75 c0_i32_32
  let v80 : BitVec 1 := Scalar.andi v79 v76
  let v81 : BitVec 32 := Scalar.addi v75 v74
  let v82 : BitVec 32 := Scalar.select v80 v81 v75
  let v83 : Index := Scalar.indexCast v82
  let c0_35 : Index := 0#32
  let c0_36 : Index := 0#32
  ![v83.toNat, 0, 0]
def k0_off20 (v0 : BitVec 32) (v11 : BitVec 32) (v15 : BitVec 32) (k0_t4 : Fin (k0_t4_loop v0 v11 v15).trips) : Fin 1 → Nat :=
  let v12 : BitVec 32 := Scalar.subi v11 v0
  let v16 : BitVec 32 := Scalar.subi v15 v0
  let v18 : BitVec 32 := Scalar.subi v16 v12
  let c1_i32_2 : BitVec 32 := 1#32
  let v20 : BitVec 32 := Scalar.divsi v18 c1_i32_2
  let v21 : BitVec 32 := Scalar.muli v20 c1_i32_2
  let v22 : BitVec 32 := Scalar.addi v12 v21
  let c1_i32_4 : BitVec 32 := 1#32
  let arg8 : BitVec 32 := Scf.iv v22 c1_i32_4 k0_t4
  let c16_i32_42 : BitVec 32 := 16#32
  let v111 : BitVec 32 := Scalar.addi arg8 c16_i32_42
  let c16_i32_50 : BitVec 32 := 16#32
  let c0_i32_51 : BitVec 32 := 0#32
  let v123 : BitVec 1 := Scalar.cmpi .eq c16_i32_50 c0_i32_51
  let c1_i32_52 : BitVec 32 := 1#32
  let v124 : BitVec 32 := Scalar.select v123 c1_i32_52 c16_i32_50
  let v125 : BitVec 32 := Scalar.remsi v111 v124
  let c0_i32_54 : BitVec 32 := 0#32
  let v127 : BitVec 1 := Scalar.cmpi .slt v125 c0_i32_54
  let c0_i32_55 : BitVec 32 := 0#32
  let v128 : BitVec 1 := Scalar.cmpi .slt v124 c0_i32_55
  let v129 : BitVec 1 := Scalar.xori v127 v128
  let c0_i32_53 : BitVec 32 := 0#32
  let v126 : BitVec 1 := Scalar.cmpi .ne v125 c0_i32_53
  let v130 : BitVec 1 := Scalar.andi v129 v126
  let v131 : BitVec 32 := Scalar.addi v125 v124
  let v132 : BitVec 32 := Scalar.select v130 v131 v125
  ![v132.toNat]
def k0_cond5 (v0 : BitVec 32) (v1 : BitVec 32) (v11 : BitVec 32) (v15 : BitVec 32) (k0_t4 : Fin (k0_t4_loop v0 v11 v15).trips) : BitVec 1 :=
  let v12 : BitVec 32 := Scalar.subi v11 v0
  let v16 : BitVec 32 := Scalar.subi v15 v0
  let v18 : BitVec 32 := Scalar.subi v16 v12
  let c1_i32_2 : BitVec 32 := 1#32
  let v20 : BitVec 32 := Scalar.divsi v18 c1_i32_2
  let v21 : BitVec 32 := Scalar.muli v20 c1_i32_2
  let v22 : BitVec 32 := Scalar.addi v12 v21
  let c1_i32_4 : BitVec 32 := 1#32
  let arg8 : BitVec 32 := Scf.iv v22 c1_i32_4 k0_t4
  let c16_i32_40 : BitVec 32 := 16#32
  let v107 : BitVec 32 := Scalar.addi arg8 c16_i32_40
  let v2 : BitVec 32 := Scalar.subi v1 v0
  let v108 : BitVec 1 := Scalar.cmpi .slt v107 v2
  let v109 : BitVec 32 := Scalar.extui v108
  let c0_i32_41 : BitVec 32 := 0#32
  let v110 : BitVec 1 := Scalar.cmpi .ne v109 c0_i32_41
  v110

def k0_off21 (v0 : BitVec 32) (v11 : BitVec 32) (v15 : BitVec 32) (k0_t4 : Fin (k0_t4_loop v0 v11 v15).trips) : Fin 3 → Nat :=
  let v12 : BitVec 32 := Scalar.subi v11 v0
  let v16 : BitVec 32 := Scalar.subi v15 v0
  let v18 : BitVec 32 := Scalar.subi v16 v12
  let c1_i32_2 : BitVec 32 := 1#32
  let v20 : BitVec 32 := Scalar.divsi v18 c1_i32_2
  let v21 : BitVec 32 := Scalar.muli v20 c1_i32_2
  let v22 : BitVec 32 := Scalar.addi v12 v21
  let c1_i32_4 : BitVec 32 := 1#32
  let arg8 : BitVec 32 := Scf.iv v22 c1_i32_4 k0_t4
  let c16_i32_42 : BitVec 32 := 16#32
  let v111 : BitVec 32 := Scalar.addi arg8 c16_i32_42
  let c16_i32_44 : BitVec 32 := 16#32
  let c0_i32_45 : BitVec 32 := 0#32
  let v113 : BitVec 1 := Scalar.cmpi .eq c16_i32_44 c0_i32_45
  let c1_i32_46 : BitVec 32 := 1#32
  let v114 : BitVec 32 := Scalar.select v113 c1_i32_46 c16_i32_44
  let v115 : BitVec 32 := Scalar.remsi v111 v114
  let c0_i32_48 : BitVec 32 := 0#32
  let v117 : BitVec 1 := Scalar.cmpi .slt v115 c0_i32_48
  let c0_i32_49 : BitVec 32 := 0#32
  let v118 : BitVec 1 := Scalar.cmpi .slt v114 c0_i32_49
  let v119 : BitVec 1 := Scalar.xori v117 v118
  let c0_i32_47 : BitVec 32 := 0#32
  let v116 : BitVec 1 := Scalar.cmpi .ne v115 c0_i32_47
  let v120 : BitVec 1 := Scalar.andi v119 v116
  let v121 : BitVec 32 := Scalar.addi v115 v114
  let v122 : BitVec 32 := Scalar.select v120 v121 v115
  let c0_i32_56 : BitVec 32 := 0#32
  let c0_i32_57 : BitVec 32 := 0#32
  ![v122.toNat, 0, 0]
def k0_off22 (v0 : BitVec 32) (v11 : BitVec 32) (v15 : BitVec 32) (k0_t4 : Fin (k0_t4_loop v0 v11 v15).trips) : Fin 2 → Nat :=
  let v12 : BitVec 32 := Scalar.subi v11 v0
  let v16 : BitVec 32 := Scalar.subi v15 v0
  let v18 : BitVec 32 := Scalar.subi v16 v12
  let c1_i32_2 : BitVec 32 := 1#32
  let v20 : BitVec 32 := Scalar.divsi v18 c1_i32_2
  let v21 : BitVec 32 := Scalar.muli v20 c1_i32_2
  let v22 : BitVec 32 := Scalar.addi v12 v21
  let c1_i32_4 : BitVec 32 := 1#32
  let arg8 : BitVec 32 := Scf.iv v22 c1_i32_4 k0_t4
  let c16_i32_42 : BitVec 32 := 16#32
  let v111 : BitVec 32 := Scalar.addi arg8 c16_i32_42
  let c96_i32_43 : BitVec 32 := 96#32
  let v112 : BitVec 32 := Scalar.muli v111 c96_i32_43
  let c0_i32_58 : BitVec 32 := 0#32
  ![v112.toNat, 0]

def k0_chk2 (v0 : BitVec 32) (v1 : BitVec 32) (v11 : BitVec 32) (v15 : BitVec 32) : Prop :=
  ((k0_t3_loop v0 v11 v15).OK) ∧
  (∀ k0_t3 : Fin (k0_t3_loop v0 v11 v15).trips, ∀ a, (k0_off9 v0 v11 v15 k0_t3) a + S1.size a ≤ S16.size a) ∧
  (∀ k0_t3 : Fin (k0_t3_loop v0 v11 v15).trips, ∀ a, (k0_off10 v0 v11 v15 k0_t3) a + S1x96x128.size a ≤ S16x96x128.size a) ∧
  (∀ k0_t3 : Fin (k0_t3_loop v0 v11 v15).trips, ∀ a, (k0_off11 v0 v11 v15 k0_t3) a + S96x128.size a ≤ S374400x128.size a) ∧
  (∀ k0_t3 : Fin (k0_t3_loop v0 v11 v15).trips, ∀ a, (k0_off12 v0 v11 v15 k0_t3) a + S1x96x128.size a ≤ S16x96x128.size a) ∧
  (∀ k0_t3 : Fin (k0_t3_loop v0 v11 v15).trips, ∀ (k0_h3 : k0_cond3 v0 v1 v11 v15 k0_t3 = 1#1), ∀ a, (k0_off13 v0 v11 v15 k0_t3) a + S1.size a ≤ S16.size a) ∧
  (∀ k0_t3 : Fin (k0_t3_loop v0 v11 v15).trips, ∀ (k0_h3 : k0_cond3 v0 v1 v11 v15 k0_t3 = 1#1), ∀ a, (k0_off14 v0 v11 v15 k0_t3) a + S1x96x128.size a ≤ S16x96x128.size a) ∧
  (∀ k0_t3 : Fin (k0_t3_loop v0 v11 v15).trips, ∀ (k0_h3 : k0_cond3 v0 v1 v11 v15 k0_t3 = 1#1), ∀ a, (k0_off15 v0 v11 v15 k0_t3) a + S96x128.size a ≤ S374400x128.size a) ∧
  ((k0_t4_loop v0 v11 v15).OK) ∧
  (∀ k0_t4 : Fin (k0_t4_loop v0 v11 v15).trips, ∀ a, (k0_off16 v0 v11 v15 k0_t4) a + S1.size a ≤ S16.size a) ∧
  (∀ k0_t4 : Fin (k0_t4_loop v0 v11 v15).trips, ∀ a, (k0_off17 v0 v11 v15 k0_t4) a + S1x96x128.size a ≤ S16x96x128.size a) ∧
  (∀ k0_t4 : Fin (k0_t4_loop v0 v11 v15).trips, ∀ a, (k0_off18 v0 v11 v15 k0_t4) a + S96x128.size a ≤ S374400x128.size a) ∧
  (∀ k0_t4 : Fin (k0_t4_loop v0 v11 v15).trips, ∀ a, (k0_off19 v0 v11 v15 k0_t4) a + S1x96x128.size a ≤ S16x96x128.size a) ∧
  (∀ k0_t4 : Fin (k0_t4_loop v0 v11 v15).trips, ∀ (k0_h5 : k0_cond5 v0 v1 v11 v15 k0_t4 = 1#1), ∀ a, (k0_off20 v0 v11 v15 k0_t4) a + S1.size a ≤ S16.size a) ∧
  (∀ k0_t4 : Fin (k0_t4_loop v0 v11 v15).trips, ∀ (k0_h5 : k0_cond5 v0 v1 v11 v15 k0_t4 = 1#1), ∀ a, (k0_off21 v0 v11 v15 k0_t4) a + S1x96x128.size a ≤ S16x96x128.size a) ∧
  (∀ k0_t4 : Fin (k0_t4_loop v0 v11 v15).trips, ∀ (k0_h5 : k0_cond5 v0 v1 v11 v15 k0_t4 = 1#1), ∀ a, (k0_off22 v0 v11 v15 k0_t4) a + S96x128.size a ≤ S374400x128.size a)
theorem k0_t3_ok : ∀ (v0 : BitVec 32) (v1 : BitVec 32) (v11 : BitVec 32) (v15 : BitVec 32) (k0_hw2 : k0_chk2 v0 v1 v11 v15), (k0_t3_loop v0 v11 v15).OK := fun v0 v1 v11 v15 k0_hw2 => k0_hw2.1
theorem k0_off9_inb : ∀ (v0 : BitVec 32) (v1 : BitVec 32) (v11 : BitVec 32) (v15 : BitVec 32) (k0_hw2 : k0_chk2 v0 v1 v11 v15) (k0_t3 : Fin (k0_t3_loop v0 v11 v15).trips), ∀ a, (k0_off9 v0 v11 v15 k0_t3) a + S1.size a ≤ S16.size a := fun v0 v1 v11 v15 k0_hw2 k0_t3 => k0_hw2.2.1 k0_t3
theorem k0_off10_inb : ∀ (v0 : BitVec 32) (v1 : BitVec 32) (v11 : BitVec 32) (v15 : BitVec 32) (k0_hw2 : k0_chk2 v0 v1 v11 v15) (k0_t3 : Fin (k0_t3_loop v0 v11 v15).trips), ∀ a, (k0_off10 v0 v11 v15 k0_t3) a + S1x96x128.size a ≤ S16x96x128.size a := fun v0 v1 v11 v15 k0_hw2 k0_t3 => k0_hw2.2.2.1 k0_t3
theorem k0_off11_inb : ∀ (v0 : BitVec 32) (v1 : BitVec 32) (v11 : BitVec 32) (v15 : BitVec 32) (k0_hw2 : k0_chk2 v0 v1 v11 v15) (k0_t3 : Fin (k0_t3_loop v0 v11 v15).trips), ∀ a, (k0_off11 v0 v11 v15 k0_t3) a + S96x128.size a ≤ S374400x128.size a := fun v0 v1 v11 v15 k0_hw2 k0_t3 => k0_hw2.2.2.2.1 k0_t3
theorem k0_off12_inb : ∀ (v0 : BitVec 32) (v1 : BitVec 32) (v11 : BitVec 32) (v15 : BitVec 32) (k0_hw2 : k0_chk2 v0 v1 v11 v15) (k0_t3 : Fin (k0_t3_loop v0 v11 v15).trips), ∀ a, (k0_off12 v0 v11 v15 k0_t3) a + S1x96x128.size a ≤ S16x96x128.size a := fun v0 v1 v11 v15 k0_hw2 k0_t3 => k0_hw2.2.2.2.2.1 k0_t3
theorem k0_off13_inb : ∀ (v0 : BitVec 32) (v1 : BitVec 32) (v11 : BitVec 32) (v15 : BitVec 32) (k0_hw2 : k0_chk2 v0 v1 v11 v15) (k0_t3 : Fin (k0_t3_loop v0 v11 v15).trips), ∀ (k0_h3 : k0_cond3 v0 v1 v11 v15 k0_t3 = 1#1), ∀ a, (k0_off13 v0 v11 v15 k0_t3) a + S1.size a ≤ S16.size a := fun v0 v1 v11 v15 k0_hw2 k0_t3 k0_h3 => k0_hw2.2.2.2.2.2.1 k0_t3 k0_h3
theorem k0_off14_inb : ∀ (v0 : BitVec 32) (v1 : BitVec 32) (v11 : BitVec 32) (v15 : BitVec 32) (k0_hw2 : k0_chk2 v0 v1 v11 v15) (k0_t3 : Fin (k0_t3_loop v0 v11 v15).trips), ∀ (k0_h3 : k0_cond3 v0 v1 v11 v15 k0_t3 = 1#1), ∀ a, (k0_off14 v0 v11 v15 k0_t3) a + S1x96x128.size a ≤ S16x96x128.size a := fun v0 v1 v11 v15 k0_hw2 k0_t3 k0_h3 => k0_hw2.2.2.2.2.2.2.1 k0_t3 k0_h3
theorem k0_off15_inb : ∀ (v0 : BitVec 32) (v1 : BitVec 32) (v11 : BitVec 32) (v15 : BitVec 32) (k0_hw2 : k0_chk2 v0 v1 v11 v15) (k0_t3 : Fin (k0_t3_loop v0 v11 v15).trips), ∀ (k0_h3 : k0_cond3 v0 v1 v11 v15 k0_t3 = 1#1), ∀ a, (k0_off15 v0 v11 v15 k0_t3) a + S96x128.size a ≤ S374400x128.size a := fun v0 v1 v11 v15 k0_hw2 k0_t3 k0_h3 => k0_hw2.2.2.2.2.2.2.2.1 k0_t3 k0_h3
theorem k0_t4_ok : ∀ (v0 : BitVec 32) (v1 : BitVec 32) (v11 : BitVec 32) (v15 : BitVec 32) (k0_hw2 : k0_chk2 v0 v1 v11 v15), (k0_t4_loop v0 v11 v15).OK := fun v0 v1 v11 v15 k0_hw2 => k0_hw2.2.2.2.2.2.2.2.2.1
theorem k0_off16_inb : ∀ (v0 : BitVec 32) (v1 : BitVec 32) (v11 : BitVec 32) (v15 : BitVec 32) (k0_hw2 : k0_chk2 v0 v1 v11 v15) (k0_t4 : Fin (k0_t4_loop v0 v11 v15).trips), ∀ a, (k0_off16 v0 v11 v15 k0_t4) a + S1.size a ≤ S16.size a := fun v0 v1 v11 v15 k0_hw2 k0_t4 => k0_hw2.2.2.2.2.2.2.2.2.2.1 k0_t4
theorem k0_off17_inb : ∀ (v0 : BitVec 32) (v1 : BitVec 32) (v11 : BitVec 32) (v15 : BitVec 32) (k0_hw2 : k0_chk2 v0 v1 v11 v15) (k0_t4 : Fin (k0_t4_loop v0 v11 v15).trips), ∀ a, (k0_off17 v0 v11 v15 k0_t4) a + S1x96x128.size a ≤ S16x96x128.size a := fun v0 v1 v11 v15 k0_hw2 k0_t4 => k0_hw2.2.2.2.2.2.2.2.2.2.2.1 k0_t4
theorem k0_off18_inb : ∀ (v0 : BitVec 32) (v1 : BitVec 32) (v11 : BitVec 32) (v15 : BitVec 32) (k0_hw2 : k0_chk2 v0 v1 v11 v15) (k0_t4 : Fin (k0_t4_loop v0 v11 v15).trips), ∀ a, (k0_off18 v0 v11 v15 k0_t4) a + S96x128.size a ≤ S374400x128.size a := fun v0 v1 v11 v15 k0_hw2 k0_t4 => k0_hw2.2.2.2.2.2.2.2.2.2.2.2.1 k0_t4
theorem k0_off19_inb : ∀ (v0 : BitVec 32) (v1 : BitVec 32) (v11 : BitVec 32) (v15 : BitVec 32) (k0_hw2 : k0_chk2 v0 v1 v11 v15) (k0_t4 : Fin (k0_t4_loop v0 v11 v15).trips), ∀ a, (k0_off19 v0 v11 v15 k0_t4) a + S1x96x128.size a ≤ S16x96x128.size a := fun v0 v1 v11 v15 k0_hw2 k0_t4 => k0_hw2.2.2.2.2.2.2.2.2.2.2.2.2.1 k0_t4
theorem k0_off20_inb : ∀ (v0 : BitVec 32) (v1 : BitVec 32) (v11 : BitVec 32) (v15 : BitVec 32) (k0_hw2 : k0_chk2 v0 v1 v11 v15) (k0_t4 : Fin (k0_t4_loop v0 v11 v15).trips), ∀ (k0_h5 : k0_cond5 v0 v1 v11 v15 k0_t4 = 1#1), ∀ a, (k0_off20 v0 v11 v15 k0_t4) a + S1.size a ≤ S16.size a := fun v0 v1 v11 v15 k0_hw2 k0_t4 k0_h5 => k0_hw2.2.2.2.2.2.2.2.2.2.2.2.2.2.1 k0_t4 k0_h5
theorem k0_off21_inb : ∀ (v0 : BitVec 32) (v1 : BitVec 32) (v11 : BitVec 32) (v15 : BitVec 32) (k0_hw2 : k0_chk2 v0 v1 v11 v15) (k0_t4 : Fin (k0_t4_loop v0 v11 v15).trips), ∀ (k0_h5 : k0_cond5 v0 v1 v11 v15 k0_t4 = 1#1), ∀ a, (k0_off21 v0 v11 v15 k0_t4) a + S1x96x128.size a ≤ S16x96x128.size a := fun v0 v1 v11 v15 k0_hw2 k0_t4 k0_h5 => k0_hw2.2.2.2.2.2.2.2.2.2.2.2.2.2.2.1 k0_t4 k0_h5
theorem k0_off22_inb : ∀ (v0 : BitVec 32) (v1 : BitVec 32) (v11 : BitVec 32) (v15 : BitVec 32) (k0_hw2 : k0_chk2 v0 v1 v11 v15) (k0_t4 : Fin (k0_t4_loop v0 v11 v15).trips), ∀ (k0_h5 : k0_cond5 v0 v1 v11 v15 k0_t4 = 1#1), ∀ a, (k0_off22 v0 v11 v15 k0_t4) a + S96x128.size a ≤ S374400x128.size a := fun v0 v1 v11 v15 k0_hw2 k0_t4 k0_h5 => k0_hw2.2.2.2.2.2.2.2.2.2.2.2.2.2.2.2 k0_t4 k0_h5

def k0_off23 (i : grid0.Coords) : Fin 1 → Nat :=
  let c112_i32_6 : BitVec 32 := 112#32
  let arg0 : BitVec 32 := BitVec.ofNat 32 (i 0).val
  let v27 : BitVec 32 := Scalar.addi c112_i32_6 arg0
  let c2_i32_7 : BitVec 32 := 2#32
  let v28 : BitVec 32 := Scalar.muli v27 c2_i32_7
  let c1_i32_8 : BitVec 32 := 1#32
  let v29 : BitVec 32 := Scalar.addi v28 c1_i32_8
  let v30 : Index := Scalar.indexCast v29
  ![v30.toNat]
def k0_off24 (i : grid0.Coords) : Fin 1 → Nat :=
  let c112_i32_6 : BitVec 32 := 112#32
  let arg0 : BitVec 32 := BitVec.ofNat 32 (i 0).val
  let v27 : BitVec 32 := Scalar.addi c112_i32_6 arg0
  let c2_i32_7 : BitVec 32 := 2#32
  let v28 : BitVec 32 := Scalar.muli v27 c2_i32_7
  let c1_i32_8 : BitVec 32 := 1#32
  let v29 : BitVec 32 := Scalar.addi v28 c1_i32_8
  let c1_i32_9 : BitVec 32 := 1#32
  let v33 : BitVec 32 := Scalar.addi v29 c1_i32_9
  let v34 : Index := Scalar.indexCast v33
  ![v34.toNat]
@[reducible] def k0_t5_loop (v0 : BitVec 32) (v31 : BitVec 32) (v35 : BitVec 32) : Scf.Loop 32 :=
  let v32 : BitVec 32 := Scalar.subi v31 v0
  let v36 : BitVec 32 := Scalar.subi v35 v0
  let v38 : BitVec 32 := Scalar.subi v36 v32
  let c1_i32_11 : BitVec 32 := 1#32
  let v40 : BitVec 32 := Scalar.divsi v38 c1_i32_11
  let v41 : BitVec 32 := Scalar.muli v40 c1_i32_11
  let v42 : BitVec 32 := Scalar.addi v32 v41
  let c1_i32_12 : BitVec 32 := 1#32
  ⟨v32, v42, c1_i32_12⟩

def k0_off25 (v0 : BitVec 32) (v31 : BitVec 32) (v35 : BitVec 32) (k0_t5 : Fin (k0_t5_loop v0 v31 v35).trips) : Fin 1 → Nat :=
  let v32 : BitVec 32 := Scalar.subi v31 v0
  let c1_i32_12 : BitVec 32 := 1#32
  let arg8 : BitVec 32 := Scf.iv v32 c1_i32_12 k0_t5
  let c16_i32_20 : BitVec 32 := 16#32
  let c0_i32_21 : BitVec 32 := 0#32
  let v58 : BitVec 1 := Scalar.cmpi .eq c16_i32_20 c0_i32_21
  let c1_i32_22 : BitVec 32 := 1#32
  let v59 : BitVec 32 := Scalar.select v58 c1_i32_22 c16_i32_20
  let v60 : BitVec 32 := Scalar.remsi arg8 v59
  let c0_i32_24 : BitVec 32 := 0#32
  let v62 : BitVec 1 := Scalar.cmpi .slt v60 c0_i32_24
  let c0_i32_25 : BitVec 32 := 0#32
  let v63 : BitVec 1 := Scalar.cmpi .slt v59 c0_i32_25
  let v64 : BitVec 1 := Scalar.xori v62 v63
  let c0_i32_23 : BitVec 32 := 0#32
  let v61 : BitVec 1 := Scalar.cmpi .ne v60 c0_i32_23
  let v65 : BitVec 1 := Scalar.andi v64 v61
  let v66 : BitVec 32 := Scalar.addi v60 v59
  let v67 : BitVec 32 := Scalar.select v65 v66 v60
  ![v67.toNat]
def k0_off26 (v0 : BitVec 32) (v31 : BitVec 32) (v35 : BitVec 32) (k0_t5 : Fin (k0_t5_loop v0 v31 v35).trips) : Fin 3 → Nat :=
  let v32 : BitVec 32 := Scalar.subi v31 v0
  let c1_i32_12 : BitVec 32 := 1#32
  let arg8 : BitVec 32 := Scf.iv v32 c1_i32_12 k0_t5
  let c16_i32 : BitVec 32 := 16#32
  let c0_i32_15 : BitVec 32 := 0#32
  let v48 : BitVec 1 := Scalar.cmpi .eq c16_i32 c0_i32_15
  let c1_i32_16 : BitVec 32 := 1#32
  let v49 : BitVec 32 := Scalar.select v48 c1_i32_16 c16_i32
  let v50 : BitVec 32 := Scalar.remsi arg8 v49
  let c0_i32_18 : BitVec 32 := 0#32
  let v52 : BitVec 1 := Scalar.cmpi .slt v50 c0_i32_18
  let c0_i32_19 : BitVec 32 := 0#32
  let v53 : BitVec 1 := Scalar.cmpi .slt v49 c0_i32_19
  let v54 : BitVec 1 := Scalar.xori v52 v53
  let c0_i32_17 : BitVec 32 := 0#32
  let v51 : BitVec 1 := Scalar.cmpi .ne v50 c0_i32_17
  let v55 : BitVec 1 := Scalar.andi v54 v51
  let v56 : BitVec 32 := Scalar.addi v50 v49
  let v57 : BitVec 32 := Scalar.select v55 v56 v50
  let c0_i32_26 : BitVec 32 := 0#32
  let c0_i32_27 : BitVec 32 := 0#32
  ![v57.toNat, 0, 0]
def k0_off27 (v0 : BitVec 32) (v31 : BitVec 32) (v35 : BitVec 32) (k0_t5 : Fin (k0_t5_loop v0 v31 v35).trips) : Fin 2 → Nat :=
  let v32 : BitVec 32 := Scalar.subi v31 v0
  let c1_i32_12 : BitVec 32 := 1#32
  let arg8 : BitVec 32 := Scf.iv v32 c1_i32_12 k0_t5
  let c96_i32 : BitVec 32 := 96#32
  let v47 : BitVec 32 := Scalar.muli arg8 c96_i32
  let c0_i32_28 : BitVec 32 := 0#32
  ![v47.toNat, 0]
def k0_off28 (v0 : BitVec 32) (v31 : BitVec 32) (v35 : BitVec 32) (k0_t5 : Fin (k0_t5_loop v0 v31 v35).trips) : Fin 3 → Nat :=
  let v32 : BitVec 32 := Scalar.subi v31 v0
  let c1_i32_12 : BitVec 32 := 1#32
  let arg8 : BitVec 32 := Scf.iv v32 c1_i32_12 k0_t5
  let c16_i32_29 : BitVec 32 := 16#32
  let c0_i32_30 : BitVec 32 := 0#32
  let v73 : BitVec 1 := Scalar.cmpi .eq c16_i32_29 c0_i32_30
  let c1_i32_31 : BitVec 32 := 1#32
  let v74 : BitVec 32 := Scalar.select v73 c1_i32_31 c16_i32_29
  let v75 : BitVec 32 := Scalar.remsi arg8 v74
  let c0_i32_33 : BitVec 32 := 0#32
  let v77 : BitVec 1 := Scalar.cmpi .slt v75 c0_i32_33
  let c0_i32_34 : BitVec 32 := 0#32
  let v78 : BitVec 1 := Scalar.cmpi .slt v74 c0_i32_34
  let v79 : BitVec 1 := Scalar.xori v77 v78
  let c0_i32_32 : BitVec 32 := 0#32
  let v76 : BitVec 1 := Scalar.cmpi .ne v75 c0_i32_32
  let v80 : BitVec 1 := Scalar.andi v79 v76
  let v81 : BitVec 32 := Scalar.addi v75 v74
  let v82 : BitVec 32 := Scalar.select v80 v81 v75
  let v83 : Index := Scalar.indexCast v82
  let c0_35 : Index := 0#32
  let c0_36 : Index := 0#32
  ![v83.toNat, 0, 0]
def k0_off29 (v0 : BitVec 32) (v31 : BitVec 32) (v35 : BitVec 32) (k0_t5 : Fin (k0_t5_loop v0 v31 v35).trips) : Fin 1 → Nat :=
  let v32 : BitVec 32 := Scalar.subi v31 v0
  let c1_i32_12 : BitVec 32 := 1#32
  let arg8 : BitVec 32 := Scf.iv v32 c1_i32_12 k0_t5
  let c16_i32_42 : BitVec 32 := 16#32
  let v111 : BitVec 32 := Scalar.addi arg8 c16_i32_42
  let c16_i32_50 : BitVec 32 := 16#32
  let c0_i32_51 : BitVec 32 := 0#32
  let v123 : BitVec 1 := Scalar.cmpi .eq c16_i32_50 c0_i32_51
  let c1_i32_52 : BitVec 32 := 1#32
  let v124 : BitVec 32 := Scalar.select v123 c1_i32_52 c16_i32_50
  let v125 : BitVec 32 := Scalar.remsi v111 v124
  let c0_i32_54 : BitVec 32 := 0#32
  let v127 : BitVec 1 := Scalar.cmpi .slt v125 c0_i32_54
  let c0_i32_55 : BitVec 32 := 0#32
  let v128 : BitVec 1 := Scalar.cmpi .slt v124 c0_i32_55
  let v129 : BitVec 1 := Scalar.xori v127 v128
  let c0_i32_53 : BitVec 32 := 0#32
  let v126 : BitVec 1 := Scalar.cmpi .ne v125 c0_i32_53
  let v130 : BitVec 1 := Scalar.andi v129 v126
  let v131 : BitVec 32 := Scalar.addi v125 v124
  let v132 : BitVec 32 := Scalar.select v130 v131 v125
  ![v132.toNat]
def k0_cond7 (v0 : BitVec 32) (v1 : BitVec 32) (v31 : BitVec 32) (v35 : BitVec 32) (k0_t5 : Fin (k0_t5_loop v0 v31 v35).trips) : BitVec 1 :=
  let v32 : BitVec 32 := Scalar.subi v31 v0
  let c1_i32_12 : BitVec 32 := 1#32
  let arg8 : BitVec 32 := Scf.iv v32 c1_i32_12 k0_t5
  let c16_i32_40 : BitVec 32 := 16#32
  let v107 : BitVec 32 := Scalar.addi arg8 c16_i32_40
  let v2 : BitVec 32 := Scalar.subi v1 v0
  let v108 : BitVec 1 := Scalar.cmpi .slt v107 v2
  let v109 : BitVec 32 := Scalar.extui v108
  let c0_i32_41 : BitVec 32 := 0#32
  let v110 : BitVec 1 := Scalar.cmpi .ne v109 c0_i32_41
  v110

def k0_off30 (v0 : BitVec 32) (v31 : BitVec 32) (v35 : BitVec 32) (k0_t5 : Fin (k0_t5_loop v0 v31 v35).trips) : Fin 3 → Nat :=
  let v32 : BitVec 32 := Scalar.subi v31 v0
  let c1_i32_12 : BitVec 32 := 1#32
  let arg8 : BitVec 32 := Scf.iv v32 c1_i32_12 k0_t5
  let c16_i32_42 : BitVec 32 := 16#32
  let v111 : BitVec 32 := Scalar.addi arg8 c16_i32_42
  let c16_i32_44 : BitVec 32 := 16#32
  let c0_i32_45 : BitVec 32 := 0#32
  let v113 : BitVec 1 := Scalar.cmpi .eq c16_i32_44 c0_i32_45
  let c1_i32_46 : BitVec 32 := 1#32
  let v114 : BitVec 32 := Scalar.select v113 c1_i32_46 c16_i32_44
  let v115 : BitVec 32 := Scalar.remsi v111 v114
  let c0_i32_48 : BitVec 32 := 0#32
  let v117 : BitVec 1 := Scalar.cmpi .slt v115 c0_i32_48
  let c0_i32_49 : BitVec 32 := 0#32
  let v118 : BitVec 1 := Scalar.cmpi .slt v114 c0_i32_49
  let v119 : BitVec 1 := Scalar.xori v117 v118
  let c0_i32_47 : BitVec 32 := 0#32
  let v116 : BitVec 1 := Scalar.cmpi .ne v115 c0_i32_47
  let v120 : BitVec 1 := Scalar.andi v119 v116
  let v121 : BitVec 32 := Scalar.addi v115 v114
  let v122 : BitVec 32 := Scalar.select v120 v121 v115
  let c0_i32_56 : BitVec 32 := 0#32
  let c0_i32_57 : BitVec 32 := 0#32
  ![v122.toNat, 0, 0]
def k0_off31 (v0 : BitVec 32) (v31 : BitVec 32) (v35 : BitVec 32) (k0_t5 : Fin (k0_t5_loop v0 v31 v35).trips) : Fin 2 → Nat :=
  let v32 : BitVec 32 := Scalar.subi v31 v0
  let c1_i32_12 : BitVec 32 := 1#32
  let arg8 : BitVec 32 := Scf.iv v32 c1_i32_12 k0_t5
  let c16_i32_42 : BitVec 32 := 16#32
  let v111 : BitVec 32 := Scalar.addi arg8 c16_i32_42
  let c96_i32_43 : BitVec 32 := 96#32
  let v112 : BitVec 32 := Scalar.muli v111 c96_i32_43
  let c0_i32_58 : BitVec 32 := 0#32
  ![v112.toNat, 0]
@[reducible] def k0_t6_loop (v0 : BitVec 32) (v31 : BitVec 32) (v35 : BitVec 32) : Scf.Loop 32 :=
  let v32 : BitVec 32 := Scalar.subi v31 v0
  let v36 : BitVec 32 := Scalar.subi v35 v0
  let v38 : BitVec 32 := Scalar.subi v36 v32
  let c1_i32_11 : BitVec 32 := 1#32
  let v40 : BitVec 32 := Scalar.divsi v38 c1_i32_11
  let v41 : BitVec 32 := Scalar.muli v40 c1_i32_11
  let v42 : BitVec 32 := Scalar.addi v32 v41
  let v39 : BitVec 32 := Scalar.addi v32 v38
  let c1_i32_13 : BitVec 32 := 1#32
  ⟨v42, v39, c1_i32_13⟩
def k0_off32 (v0 : BitVec 32) (v31 : BitVec 32) (v35 : BitVec 32) (k0_t6 : Fin (k0_t6_loop v0 v31 v35).trips) : Fin 1 → Nat :=
  let v32 : BitVec 32 := Scalar.subi v31 v0
  let v36 : BitVec 32 := Scalar.subi v35 v0
  let v38 : BitVec 32 := Scalar.subi v36 v32
  let c1_i32_11 : BitVec 32 := 1#32
  let v40 : BitVec 32 := Scalar.divsi v38 c1_i32_11
  let v41 : BitVec 32 := Scalar.muli v40 c1_i32_11
  let v42 : BitVec 32 := Scalar.addi v32 v41
  let c1_i32_13 : BitVec 32 := 1#32
  let arg8 : BitVec 32 := Scf.iv v42 c1_i32_13 k0_t6
  let c16_i32_20 : BitVec 32 := 16#32
  let c0_i32_21 : BitVec 32 := 0#32
  let v58 : BitVec 1 := Scalar.cmpi .eq c16_i32_20 c0_i32_21
  let c1_i32_22 : BitVec 32 := 1#32
  let v59 : BitVec 32 := Scalar.select v58 c1_i32_22 c16_i32_20
  let v60 : BitVec 32 := Scalar.remsi arg8 v59
  let c0_i32_24 : BitVec 32 := 0#32
  let v62 : BitVec 1 := Scalar.cmpi .slt v60 c0_i32_24
  let c0_i32_25 : BitVec 32 := 0#32
  let v63 : BitVec 1 := Scalar.cmpi .slt v59 c0_i32_25
  let v64 : BitVec 1 := Scalar.xori v62 v63
  let c0_i32_23 : BitVec 32 := 0#32
  let v61 : BitVec 1 := Scalar.cmpi .ne v60 c0_i32_23
  let v65 : BitVec 1 := Scalar.andi v64 v61
  let v66 : BitVec 32 := Scalar.addi v60 v59
  let v67 : BitVec 32 := Scalar.select v65 v66 v60
  ![v67.toNat]
def k0_off33 (v0 : BitVec 32) (v31 : BitVec 32) (v35 : BitVec 32) (k0_t6 : Fin (k0_t6_loop v0 v31 v35).trips) : Fin 3 → Nat :=
  let v32 : BitVec 32 := Scalar.subi v31 v0
  let v36 : BitVec 32 := Scalar.subi v35 v0
  let v38 : BitVec 32 := Scalar.subi v36 v32
  let c1_i32_11 : BitVec 32 := 1#32
  let v40 : BitVec 32 := Scalar.divsi v38 c1_i32_11
  let v41 : BitVec 32 := Scalar.muli v40 c1_i32_11
  let v42 : BitVec 32 := Scalar.addi v32 v41
  let c1_i32_13 : BitVec 32 := 1#32
  let arg8 : BitVec 32 := Scf.iv v42 c1_i32_13 k0_t6
  let c16_i32 : BitVec 32 := 16#32
  let c0_i32_15 : BitVec 32 := 0#32
  let v48 : BitVec 1 := Scalar.cmpi .eq c16_i32 c0_i32_15
  let c1_i32_16 : BitVec 32 := 1#32
  let v49 : BitVec 32 := Scalar.select v48 c1_i32_16 c16_i32
  let v50 : BitVec 32 := Scalar.remsi arg8 v49
  let c0_i32_18 : BitVec 32 := 0#32
  let v52 : BitVec 1 := Scalar.cmpi .slt v50 c0_i32_18
  let c0_i32_19 : BitVec 32 := 0#32
  let v53 : BitVec 1 := Scalar.cmpi .slt v49 c0_i32_19
  let v54 : BitVec 1 := Scalar.xori v52 v53
  let c0_i32_17 : BitVec 32 := 0#32
  let v51 : BitVec 1 := Scalar.cmpi .ne v50 c0_i32_17
  let v55 : BitVec 1 := Scalar.andi v54 v51
  let v56 : BitVec 32 := Scalar.addi v50 v49
  let v57 : BitVec 32 := Scalar.select v55 v56 v50
  let c0_i32_26 : BitVec 32 := 0#32
  let c0_i32_27 : BitVec 32 := 0#32
  ![v57.toNat, 0, 0]
def k0_off34 (v0 : BitVec 32) (v31 : BitVec 32) (v35 : BitVec 32) (k0_t6 : Fin (k0_t6_loop v0 v31 v35).trips) : Fin 2 → Nat :=
  let v32 : BitVec 32 := Scalar.subi v31 v0
  let v36 : BitVec 32 := Scalar.subi v35 v0
  let v38 : BitVec 32 := Scalar.subi v36 v32
  let c1_i32_11 : BitVec 32 := 1#32
  let v40 : BitVec 32 := Scalar.divsi v38 c1_i32_11
  let v41 : BitVec 32 := Scalar.muli v40 c1_i32_11
  let v42 : BitVec 32 := Scalar.addi v32 v41
  let c1_i32_13 : BitVec 32 := 1#32
  let arg8 : BitVec 32 := Scf.iv v42 c1_i32_13 k0_t6
  let c96_i32 : BitVec 32 := 96#32
  let v47 : BitVec 32 := Scalar.muli arg8 c96_i32
  let c0_i32_28 : BitVec 32 := 0#32
  ![v47.toNat, 0]
def k0_off35 (v0 : BitVec 32) (v31 : BitVec 32) (v35 : BitVec 32) (k0_t6 : Fin (k0_t6_loop v0 v31 v35).trips) : Fin 3 → Nat :=
  let v32 : BitVec 32 := Scalar.subi v31 v0
  let v36 : BitVec 32 := Scalar.subi v35 v0
  let v38 : BitVec 32 := Scalar.subi v36 v32
  let c1_i32_11 : BitVec 32 := 1#32
  let v40 : BitVec 32 := Scalar.divsi v38 c1_i32_11
  let v41 : BitVec 32 := Scalar.muli v40 c1_i32_11
  let v42 : BitVec 32 := Scalar.addi v32 v41
  let c1_i32_13 : BitVec 32 := 1#32
  let arg8 : BitVec 32 := Scf.iv v42 c1_i32_13 k0_t6
  let c16_i32_29 : BitVec 32 := 16#32
  let c0_i32_30 : BitVec 32 := 0#32
  let v73 : BitVec 1 := Scalar.cmpi .eq c16_i32_29 c0_i32_30
  let c1_i32_31 : BitVec 32 := 1#32
  let v74 : BitVec 32 := Scalar.select v73 c1_i32_31 c16_i32_29
  let v75 : BitVec 32 := Scalar.remsi arg8 v74
  let c0_i32_33 : BitVec 32 := 0#32
  let v77 : BitVec 1 := Scalar.cmpi .slt v75 c0_i32_33
  let c0_i32_34 : BitVec 32 := 0#32
  let v78 : BitVec 1 := Scalar.cmpi .slt v74 c0_i32_34
  let v79 : BitVec 1 := Scalar.xori v77 v78
  let c0_i32_32 : BitVec 32 := 0#32
  let v76 : BitVec 1 := Scalar.cmpi .ne v75 c0_i32_32
  let v80 : BitVec 1 := Scalar.andi v79 v76
  let v81 : BitVec 32 := Scalar.addi v75 v74
  let v82 : BitVec 32 := Scalar.select v80 v81 v75
  let v83 : Index := Scalar.indexCast v82
  let c0_35 : Index := 0#32
  let c0_36 : Index := 0#32
  ![v83.toNat, 0, 0]
def k0_off36 (v0 : BitVec 32) (v31 : BitVec 32) (v35 : BitVec 32) (k0_t6 : Fin (k0_t6_loop v0 v31 v35).trips) : Fin 1 → Nat :=
  let v32 : BitVec 32 := Scalar.subi v31 v0
  let v36 : BitVec 32 := Scalar.subi v35 v0
  let v38 : BitVec 32 := Scalar.subi v36 v32
  let c1_i32_11 : BitVec 32 := 1#32
  let v40 : BitVec 32 := Scalar.divsi v38 c1_i32_11
  let v41 : BitVec 32 := Scalar.muli v40 c1_i32_11
  let v42 : BitVec 32 := Scalar.addi v32 v41
  let c1_i32_13 : BitVec 32 := 1#32
  let arg8 : BitVec 32 := Scf.iv v42 c1_i32_13 k0_t6
  let c16_i32_42 : BitVec 32 := 16#32
  let v111 : BitVec 32 := Scalar.addi arg8 c16_i32_42
  let c16_i32_50 : BitVec 32 := 16#32
  let c0_i32_51 : BitVec 32 := 0#32
  let v123 : BitVec 1 := Scalar.cmpi .eq c16_i32_50 c0_i32_51
  let c1_i32_52 : BitVec 32 := 1#32
  let v124 : BitVec 32 := Scalar.select v123 c1_i32_52 c16_i32_50
  let v125 : BitVec 32 := Scalar.remsi v111 v124
  let c0_i32_54 : BitVec 32 := 0#32
  let v127 : BitVec 1 := Scalar.cmpi .slt v125 c0_i32_54
  let c0_i32_55 : BitVec 32 := 0#32
  let v128 : BitVec 1 := Scalar.cmpi .slt v124 c0_i32_55
  let v129 : BitVec 1 := Scalar.xori v127 v128
  let c0_i32_53 : BitVec 32 := 0#32
  let v126 : BitVec 1 := Scalar.cmpi .ne v125 c0_i32_53
  let v130 : BitVec 1 := Scalar.andi v129 v126
  let v131 : BitVec 32 := Scalar.addi v125 v124
  let v132 : BitVec 32 := Scalar.select v130 v131 v125
  ![v132.toNat]
def k0_cond9 (v0 : BitVec 32) (v1 : BitVec 32) (v31 : BitVec 32) (v35 : BitVec 32) (k0_t6 : Fin (k0_t6_loop v0 v31 v35).trips) : BitVec 1 :=
  let v32 : BitVec 32 := Scalar.subi v31 v0
  let v36 : BitVec 32 := Scalar.subi v35 v0
  let v38 : BitVec 32 := Scalar.subi v36 v32
  let c1_i32_11 : BitVec 32 := 1#32
  let v40 : BitVec 32 := Scalar.divsi v38 c1_i32_11
  let v41 : BitVec 32 := Scalar.muli v40 c1_i32_11
  let v42 : BitVec 32 := Scalar.addi v32 v41
  let c1_i32_13 : BitVec 32 := 1#32
  let arg8 : BitVec 32 := Scf.iv v42 c1_i32_13 k0_t6
  let c16_i32_40 : BitVec 32 := 16#32
  let v107 : BitVec 32 := Scalar.addi arg8 c16_i32_40
  let v2 : BitVec 32 := Scalar.subi v1 v0
  let v108 : BitVec 1 := Scalar.cmpi .slt v107 v2
  let v109 : BitVec 32 := Scalar.extui v108
  let c0_i32_41 : BitVec 32 := 0#32
  let v110 : BitVec 1 := Scalar.cmpi .ne v109 c0_i32_41
  v110

def k0_off37 (v0 : BitVec 32) (v31 : BitVec 32) (v35 : BitVec 32) (k0_t6 : Fin (k0_t6_loop v0 v31 v35).trips) : Fin 3 → Nat :=
  let v32 : BitVec 32 := Scalar.subi v31 v0
  let v36 : BitVec 32 := Scalar.subi v35 v0
  let v38 : BitVec 32 := Scalar.subi v36 v32
  let c1_i32_11 : BitVec 32 := 1#32
  let v40 : BitVec 32 := Scalar.divsi v38 c1_i32_11
  let v41 : BitVec 32 := Scalar.muli v40 c1_i32_11
  let v42 : BitVec 32 := Scalar.addi v32 v41
  let c1_i32_13 : BitVec 32 := 1#32
  let arg8 : BitVec 32 := Scf.iv v42 c1_i32_13 k0_t6
  let c16_i32_42 : BitVec 32 := 16#32
  let v111 : BitVec 32 := Scalar.addi arg8 c16_i32_42
  let c16_i32_44 : BitVec 32 := 16#32
  let c0_i32_45 : BitVec 32 := 0#32
  let v113 : BitVec 1 := Scalar.cmpi .eq c16_i32_44 c0_i32_45
  let c1_i32_46 : BitVec 32 := 1#32
  let v114 : BitVec 32 := Scalar.select v113 c1_i32_46 c16_i32_44
  let v115 : BitVec 32 := Scalar.remsi v111 v114
  let c0_i32_48 : BitVec 32 := 0#32
  let v117 : BitVec 1 := Scalar.cmpi .slt v115 c0_i32_48
  let c0_i32_49 : BitVec 32 := 0#32
  let v118 : BitVec 1 := Scalar.cmpi .slt v114 c0_i32_49
  let v119 : BitVec 1 := Scalar.xori v117 v118
  let c0_i32_47 : BitVec 32 := 0#32
  let v116 : BitVec 1 := Scalar.cmpi .ne v115 c0_i32_47
  let v120 : BitVec 1 := Scalar.andi v119 v116
  let v121 : BitVec 32 := Scalar.addi v115 v114
  let v122 : BitVec 32 := Scalar.select v120 v121 v115
  let c0_i32_56 : BitVec 32 := 0#32
  let c0_i32_57 : BitVec 32 := 0#32
  ![v122.toNat, 0, 0]
def k0_off38 (v0 : BitVec 32) (v31 : BitVec 32) (v35 : BitVec 32) (k0_t6 : Fin (k0_t6_loop v0 v31 v35).trips) : Fin 2 → Nat :=
  let v32 : BitVec 32 := Scalar.subi v31 v0
  let v36 : BitVec 32 := Scalar.subi v35 v0
  let v38 : BitVec 32 := Scalar.subi v36 v32
  let c1_i32_11 : BitVec 32 := 1#32
  let v40 : BitVec 32 := Scalar.divsi v38 c1_i32_11
  let v41 : BitVec 32 := Scalar.muli v40 c1_i32_11
  let v42 : BitVec 32 := Scalar.addi v32 v41
  let c1_i32_13 : BitVec 32 := 1#32
  let arg8 : BitVec 32 := Scf.iv v42 c1_i32_13 k0_t6
  let c16_i32_42 : BitVec 32 := 16#32
  let v111 : BitVec 32 := Scalar.addi arg8 c16_i32_42
  let c96_i32_43 : BitVec 32 := 96#32
  let v112 : BitVec 32 := Scalar.muli v111 c96_i32_43
  let c0_i32_58 : BitVec 32 := 0#32
  ![v112.toNat, 0]

def k0_chk3 (v0 : BitVec 32) (v1 : BitVec 32) (v31 : BitVec 32) (v35 : BitVec 32) : Prop :=
  ((k0_t5_loop v0 v31 v35).OK) ∧
  (∀ k0_t5 : Fin (k0_t5_loop v0 v31 v35).trips, ∀ a, (k0_off25 v0 v31 v35 k0_t5) a + S1.size a ≤ S16.size a) ∧
  (∀ k0_t5 : Fin (k0_t5_loop v0 v31 v35).trips, ∀ a, (k0_off26 v0 v31 v35 k0_t5) a + S1x96x128.size a ≤ S16x96x128.size a) ∧
  (∀ k0_t5 : Fin (k0_t5_loop v0 v31 v35).trips, ∀ a, (k0_off27 v0 v31 v35 k0_t5) a + S96x128.size a ≤ S374400x128.size a) ∧
  (∀ k0_t5 : Fin (k0_t5_loop v0 v31 v35).trips, ∀ a, (k0_off28 v0 v31 v35 k0_t5) a + S1x96x128.size a ≤ S16x96x128.size a) ∧
  (∀ k0_t5 : Fin (k0_t5_loop v0 v31 v35).trips, ∀ (k0_h7 : k0_cond7 v0 v1 v31 v35 k0_t5 = 1#1), ∀ a, (k0_off29 v0 v31 v35 k0_t5) a + S1.size a ≤ S16.size a) ∧
  (∀ k0_t5 : Fin (k0_t5_loop v0 v31 v35).trips, ∀ (k0_h7 : k0_cond7 v0 v1 v31 v35 k0_t5 = 1#1), ∀ a, (k0_off30 v0 v31 v35 k0_t5) a + S1x96x128.size a ≤ S16x96x128.size a) ∧
  (∀ k0_t5 : Fin (k0_t5_loop v0 v31 v35).trips, ∀ (k0_h7 : k0_cond7 v0 v1 v31 v35 k0_t5 = 1#1), ∀ a, (k0_off31 v0 v31 v35 k0_t5) a + S96x128.size a ≤ S374400x128.size a) ∧
  ((k0_t6_loop v0 v31 v35).OK) ∧
  (∀ k0_t6 : Fin (k0_t6_loop v0 v31 v35).trips, ∀ a, (k0_off32 v0 v31 v35 k0_t6) a + S1.size a ≤ S16.size a) ∧
  (∀ k0_t6 : Fin (k0_t6_loop v0 v31 v35).trips, ∀ a, (k0_off33 v0 v31 v35 k0_t6) a + S1x96x128.size a ≤ S16x96x128.size a) ∧
  (∀ k0_t6 : Fin (k0_t6_loop v0 v31 v35).trips, ∀ a, (k0_off34 v0 v31 v35 k0_t6) a + S96x128.size a ≤ S374400x128.size a) ∧
  (∀ k0_t6 : Fin (k0_t6_loop v0 v31 v35).trips, ∀ a, (k0_off35 v0 v31 v35 k0_t6) a + S1x96x128.size a ≤ S16x96x128.size a) ∧
  (∀ k0_t6 : Fin (k0_t6_loop v0 v31 v35).trips, ∀ (k0_h9 : k0_cond9 v0 v1 v31 v35 k0_t6 = 1#1), ∀ a, (k0_off36 v0 v31 v35 k0_t6) a + S1.size a ≤ S16.size a) ∧
  (∀ k0_t6 : Fin (k0_t6_loop v0 v31 v35).trips, ∀ (k0_h9 : k0_cond9 v0 v1 v31 v35 k0_t6 = 1#1), ∀ a, (k0_off37 v0 v31 v35 k0_t6) a + S1x96x128.size a ≤ S16x96x128.size a) ∧
  (∀ k0_t6 : Fin (k0_t6_loop v0 v31 v35).trips, ∀ (k0_h9 : k0_cond9 v0 v1 v31 v35 k0_t6 = 1#1), ∀ a, (k0_off38 v0 v31 v35 k0_t6) a + S96x128.size a ≤ S374400x128.size a)
theorem k0_t5_ok : ∀ (v0 : BitVec 32) (v1 : BitVec 32) (v31 : BitVec 32) (v35 : BitVec 32) (k0_hw3 : k0_chk3 v0 v1 v31 v35), (k0_t5_loop v0 v31 v35).OK := fun v0 v1 v31 v35 k0_hw3 => k0_hw3.1
theorem k0_off25_inb : ∀ (v0 : BitVec 32) (v1 : BitVec 32) (v31 : BitVec 32) (v35 : BitVec 32) (k0_hw3 : k0_chk3 v0 v1 v31 v35) (k0_t5 : Fin (k0_t5_loop v0 v31 v35).trips), ∀ a, (k0_off25 v0 v31 v35 k0_t5) a + S1.size a ≤ S16.size a := fun v0 v1 v31 v35 k0_hw3 k0_t5 => k0_hw3.2.1 k0_t5
theorem k0_off26_inb : ∀ (v0 : BitVec 32) (v1 : BitVec 32) (v31 : BitVec 32) (v35 : BitVec 32) (k0_hw3 : k0_chk3 v0 v1 v31 v35) (k0_t5 : Fin (k0_t5_loop v0 v31 v35).trips), ∀ a, (k0_off26 v0 v31 v35 k0_t5) a + S1x96x128.size a ≤ S16x96x128.size a := fun v0 v1 v31 v35 k0_hw3 k0_t5 => k0_hw3.2.2.1 k0_t5
theorem k0_off27_inb : ∀ (v0 : BitVec 32) (v1 : BitVec 32) (v31 : BitVec 32) (v35 : BitVec 32) (k0_hw3 : k0_chk3 v0 v1 v31 v35) (k0_t5 : Fin (k0_t5_loop v0 v31 v35).trips), ∀ a, (k0_off27 v0 v31 v35 k0_t5) a + S96x128.size a ≤ S374400x128.size a := fun v0 v1 v31 v35 k0_hw3 k0_t5 => k0_hw3.2.2.2.1 k0_t5
theorem k0_off28_inb : ∀ (v0 : BitVec 32) (v1 : BitVec 32) (v31 : BitVec 32) (v35 : BitVec 32) (k0_hw3 : k0_chk3 v0 v1 v31 v35) (k0_t5 : Fin (k0_t5_loop v0 v31 v35).trips), ∀ a, (k0_off28 v0 v31 v35 k0_t5) a + S1x96x128.size a ≤ S16x96x128.size a := fun v0 v1 v31 v35 k0_hw3 k0_t5 => k0_hw3.2.2.2.2.1 k0_t5
theorem k0_off29_inb : ∀ (v0 : BitVec 32) (v1 : BitVec 32) (v31 : BitVec 32) (v35 : BitVec 32) (k0_hw3 : k0_chk3 v0 v1 v31 v35) (k0_t5 : Fin (k0_t5_loop v0 v31 v35).trips), ∀ (k0_h7 : k0_cond7 v0 v1 v31 v35 k0_t5 = 1#1), ∀ a, (k0_off29 v0 v31 v35 k0_t5) a + S1.size a ≤ S16.size a := fun v0 v1 v31 v35 k0_hw3 k0_t5 k0_h7 => k0_hw3.2.2.2.2.2.1 k0_t5 k0_h7
theorem k0_off30_inb : ∀ (v0 : BitVec 32) (v1 : BitVec 32) (v31 : BitVec 32) (v35 : BitVec 32) (k0_hw3 : k0_chk3 v0 v1 v31 v35) (k0_t5 : Fin (k0_t5_loop v0 v31 v35).trips), ∀ (k0_h7 : k0_cond7 v0 v1 v31 v35 k0_t5 = 1#1), ∀ a, (k0_off30 v0 v31 v35 k0_t5) a + S1x96x128.size a ≤ S16x96x128.size a := fun v0 v1 v31 v35 k0_hw3 k0_t5 k0_h7 => k0_hw3.2.2.2.2.2.2.1 k0_t5 k0_h7
theorem k0_off31_inb : ∀ (v0 : BitVec 32) (v1 : BitVec 32) (v31 : BitVec 32) (v35 : BitVec 32) (k0_hw3 : k0_chk3 v0 v1 v31 v35) (k0_t5 : Fin (k0_t5_loop v0 v31 v35).trips), ∀ (k0_h7 : k0_cond7 v0 v1 v31 v35 k0_t5 = 1#1), ∀ a, (k0_off31 v0 v31 v35 k0_t5) a + S96x128.size a ≤ S374400x128.size a := fun v0 v1 v31 v35 k0_hw3 k0_t5 k0_h7 => k0_hw3.2.2.2.2.2.2.2.1 k0_t5 k0_h7
theorem k0_t6_ok : ∀ (v0 : BitVec 32) (v1 : BitVec 32) (v31 : BitVec 32) (v35 : BitVec 32) (k0_hw3 : k0_chk3 v0 v1 v31 v35), (k0_t6_loop v0 v31 v35).OK := fun v0 v1 v31 v35 k0_hw3 => k0_hw3.2.2.2.2.2.2.2.2.1
theorem k0_off32_inb : ∀ (v0 : BitVec 32) (v1 : BitVec 32) (v31 : BitVec 32) (v35 : BitVec 32) (k0_hw3 : k0_chk3 v0 v1 v31 v35) (k0_t6 : Fin (k0_t6_loop v0 v31 v35).trips), ∀ a, (k0_off32 v0 v31 v35 k0_t6) a + S1.size a ≤ S16.size a := fun v0 v1 v31 v35 k0_hw3 k0_t6 => k0_hw3.2.2.2.2.2.2.2.2.2.1 k0_t6
theorem k0_off33_inb : ∀ (v0 : BitVec 32) (v1 : BitVec 32) (v31 : BitVec 32) (v35 : BitVec 32) (k0_hw3 : k0_chk3 v0 v1 v31 v35) (k0_t6 : Fin (k0_t6_loop v0 v31 v35).trips), ∀ a, (k0_off33 v0 v31 v35 k0_t6) a + S1x96x128.size a ≤ S16x96x128.size a := fun v0 v1 v31 v35 k0_hw3 k0_t6 => k0_hw3.2.2.2.2.2.2.2.2.2.2.1 k0_t6
theorem k0_off34_inb : ∀ (v0 : BitVec 32) (v1 : BitVec 32) (v31 : BitVec 32) (v35 : BitVec 32) (k0_hw3 : k0_chk3 v0 v1 v31 v35) (k0_t6 : Fin (k0_t6_loop v0 v31 v35).trips), ∀ a, (k0_off34 v0 v31 v35 k0_t6) a + S96x128.size a ≤ S374400x128.size a := fun v0 v1 v31 v35 k0_hw3 k0_t6 => k0_hw3.2.2.2.2.2.2.2.2.2.2.2.1 k0_t6
theorem k0_off35_inb : ∀ (v0 : BitVec 32) (v1 : BitVec 32) (v31 : BitVec 32) (v35 : BitVec 32) (k0_hw3 : k0_chk3 v0 v1 v31 v35) (k0_t6 : Fin (k0_t6_loop v0 v31 v35).trips), ∀ a, (k0_off35 v0 v31 v35 k0_t6) a + S1x96x128.size a ≤ S16x96x128.size a := fun v0 v1 v31 v35 k0_hw3 k0_t6 => k0_hw3.2.2.2.2.2.2.2.2.2.2.2.2.1 k0_t6
theorem k0_off36_inb : ∀ (v0 : BitVec 32) (v1 : BitVec 32) (v31 : BitVec 32) (v35 : BitVec 32) (k0_hw3 : k0_chk3 v0 v1 v31 v35) (k0_t6 : Fin (k0_t6_loop v0 v31 v35).trips), ∀ (k0_h9 : k0_cond9 v0 v1 v31 v35 k0_t6 = 1#1), ∀ a, (k0_off36 v0 v31 v35 k0_t6) a + S1.size a ≤ S16.size a := fun v0 v1 v31 v35 k0_hw3 k0_t6 k0_h9 => k0_hw3.2.2.2.2.2.2.2.2.2.2.2.2.2.1 k0_t6 k0_h9
theorem k0_off37_inb : ∀ (v0 : BitVec 32) (v1 : BitVec 32) (v31 : BitVec 32) (v35 : BitVec 32) (k0_hw3 : k0_chk3 v0 v1 v31 v35) (k0_t6 : Fin (k0_t6_loop v0 v31 v35).trips), ∀ (k0_h9 : k0_cond9 v0 v1 v31 v35 k0_t6 = 1#1), ∀ a, (k0_off37 v0 v31 v35 k0_t6) a + S1x96x128.size a ≤ S16x96x128.size a := fun v0 v1 v31 v35 k0_hw3 k0_t6 k0_h9 => k0_hw3.2.2.2.2.2.2.2.2.2.2.2.2.2.2.1 k0_t6 k0_h9
theorem k0_off38_inb : ∀ (v0 : BitVec 32) (v1 : BitVec 32) (v31 : BitVec 32) (v35 : BitVec 32) (k0_hw3 : k0_chk3 v0 v1 v31 v35) (k0_t6 : Fin (k0_t6_loop v0 v31 v35).trips), ∀ (k0_h9 : k0_cond9 v0 v1 v31 v35 k0_t6 = 1#1), ∀ a, (k0_off38 v0 v31 v35 k0_t6) a + S96x128.size a ≤ S374400x128.size a := fun v0 v1 v31 v35 k0_hw3 k0_t6 k0_h9 => k0_hw3.2.2.2.2.2.2.2.2.2.2.2.2.2.2.2 k0_t6 k0_h9

def cc0_transform_2 (i : grid0.Coords) : Fin 2 → Nat :=
  let arg0 : BitVec 32 := BitVec.ofNat 32 (i 0).val
  let c112_i32 : BitVec 32 := 112#32
  let v0 : BitVec 32 := Scalar.addi arg0 c112_i32
  let c0_i32 : BitVec 32 := 0#32
  let c0_i32_0 : BitVec 32 := 0#32
  ![v0.toNat, c0_i32.toNat]

abbrev stage0_0 : Fin 2 → Memref sig .tc .vmem S160x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]
-- ==== ReferenceIdeal.lean ====
abbrev S897 : Shape := ⟨1, ![897]⟩
abbrev S1 : Shape := ⟨1, ![1]⟩
abbrev S374400x128 : Shape := ⟨2, ![374400, 128]⟩
abbrev S71680x256 : Shape := ⟨2, ![71680, 256]⟩
abbrev S7800x48x128 : Shape := ⟨3, ![7800, 48, 128]⟩
abbrev S1497600x128 : Shape := ⟨2, ![1497600, 128]⟩
abbrev S7800x192x128 : Shape := ⟨3, ![7800, 192, 128]⟩
abbrev S7800x160x128 : Shape := ⟨3, ![7800, 160, 128]⟩
abbrev S7800x1x128 : Shape := ⟨3, ![7800, 1, 128]⟩
abbrev S7800x128 : Shape := ⟨2, ![7800, 128]⟩
abbrev S224 : Shape := ⟨1, ![224]⟩
abbrev S_ : Shape := ⟨0, ![]⟩
abbrev S7800 : Shape := ⟨1, ![7800]⟩
abbrev S224x1 : Shape := ⟨2, ![224, 1]⟩
abbrev S1x7800 : Shape := ⟨2, ![1, 7800]⟩
abbrev S224x7800 : Shape := ⟨2, ![224, 7800]⟩
abbrev S7800x1 : Shape := ⟨2, ![7800, 1]⟩
abbrev S7800x128x160 : Shape := ⟨3, ![7800, 128, 160]⟩
abbrev S998400x160 : Shape := ⟨2, ![998400, 160]⟩
abbrev S998400 : Shape := ⟨1, ![998400]⟩
abbrev S28672x160 : Shape := ⟨2, ![28672, 160]⟩
abbrev S998400x1 : Shape := ⟨2, ![998400, 1]⟩
abbrev S112x256x160 : Shape := ⟨3, ![112, 256, 160]⟩
abbrev S112x160x256 : Shape := ⟨3, ![112, 160, 256]⟩
abbrev S17920x256 : Shape := ⟨2, ![17920, 256]⟩
abbrev S35840x256 : Shape := ⟨2, ![35840, 256]⟩

abbrev nBuf : Space → Nat
  | .hbm => 84
  | .vmem => 2
  | .smem => 0
  | _ => 0

abbrev bufTy : (tb : Table) → Fin (tcTables nBuf tb) → BufTy
  | .hbm, ⟨0, _⟩ => ⟨S897, .i32⟩
  | .hbm, ⟨1, _⟩ => ⟨S1, .i32⟩
  | .hbm, ⟨2, _⟩ => ⟨S374400x128, .i32⟩
  | .hbm, ⟨3, _⟩ => ⟨S71680x256, .f32⟩
  | .hbm, ⟨4, _⟩ => ⟨S7800x48x128, .i32⟩
  | .hbm, ⟨5, _⟩ => ⟨S1497600x128, .f32⟩
  | .hbm, ⟨6, _⟩ => ⟨S7800x192x128, .f32⟩
  | .hbm, ⟨7, _⟩ => ⟨S7800x160x128, .f32⟩
  | .hbm, ⟨8, _⟩ => ⟨S7800x1x128, .i32⟩
  | .hbm, ⟨9, _⟩ => ⟨S7800x128, .i32⟩
  | .hbm, ⟨10, _⟩ => ⟨S7800x128, .f32⟩
  | .hbm, ⟨11, _⟩ => ⟨S7800x1x128, .i32⟩
  | .hbm, ⟨12, _⟩ => ⟨S7800x128, .i32⟩
  | .hbm, ⟨13, _⟩ => ⟨S224, .i32⟩
  | .hbm, ⟨14, _⟩ => ⟨S1, .i32⟩
  | .hbm, ⟨15, _⟩ => ⟨S_, .i32⟩
  | .hbm, ⟨16, _⟩ => ⟨S224, .i32⟩
  | .hbm, ⟨17, _⟩ => ⟨S224, .i32⟩
  | .hbm, ⟨18, _⟩ => ⟨S7800, .i32⟩
  | .hbm, ⟨19, _⟩ => ⟨S_, .i32⟩
  | .hbm, ⟨20, _⟩ => ⟨S_, .i32⟩
  | .hbm, ⟨21, _⟩ => ⟨S7800, .i32⟩
  | .hbm, ⟨22, _⟩ => ⟨S7800, .i32⟩
  | .hbm, ⟨23, _⟩ => ⟨S7800, .i32⟩
  | .hbm, ⟨24, _⟩ => ⟨S_, .i32⟩
  | .hbm, ⟨25, _⟩ => ⟨S7800, .i32⟩
  | .hbm, ⟨26, _⟩ => ⟨S7800, .i1⟩
  | .hbm, ⟨27, _⟩ => ⟨S7800, .i32⟩
  | .hbm, ⟨28, _⟩ => ⟨S7800, .i32⟩
  | .hbm, ⟨29, _⟩ => ⟨S_, .i32⟩
  | .hbm, ⟨30, _⟩ => ⟨S7800, .i32⟩
  | .hbm, ⟨31, _⟩ => ⟨S7800, .i1⟩
  | .hbm, ⟨32, _⟩ => ⟨S7800, .i1⟩
  | .hbm, ⟨33, _⟩ => ⟨S_, .i32⟩
  | .hbm, ⟨34, _⟩ => ⟨S7800, .i32⟩
  | .hbm, ⟨35, _⟩ => ⟨S7800, .i32⟩
  | .hbm, ⟨36, _⟩ => ⟨S7800, .i32⟩
  | .hbm, ⟨37, _⟩ => ⟨S224x1, .i32⟩
  | .hbm, ⟨38, _⟩ => ⟨S1x7800, .i32⟩
  | .hbm, ⟨39, _⟩ => ⟨S224x7800, .i32⟩
  | .hbm, ⟨40, _⟩ => ⟨S224x7800, .i32⟩
  | .hbm, ⟨41, _⟩ => ⟨S224x7800, .i1⟩
  | .hbm, ⟨42, _⟩ => ⟨S224x7800, .i32⟩
  | .hbm, ⟨43, _⟩ => ⟨S_, .i32⟩
  | .hbm, ⟨44, _⟩ => ⟨S7800, .i32⟩
  | .hbm, ⟨45, _⟩ => ⟨S7800x1, .i32⟩
  | .hbm, ⟨46, _⟩ => ⟨S_, .i32⟩
  | .hbm, ⟨47, _⟩ => ⟨S7800x1, .i32⟩
  | .hbm, ⟨48, _⟩ => ⟨S7800x1, .i1⟩
  | .hbm, ⟨49, _⟩ => ⟨S_, .i32⟩
  | .hbm, ⟨50, _⟩ => ⟨S7800x128, .i32⟩
  | .hbm, ⟨51, _⟩ => ⟨S7800x128, .i1⟩
  | .hbm, ⟨52, _⟩ => ⟨S7800x128, .i1⟩
  | .hbm, ⟨53, _⟩ => ⟨S7800x128, .i1⟩
  | .hbm, ⟨54, _⟩ => ⟨S_, .i32⟩
  | .hbm, ⟨55, _⟩ => ⟨S7800x128, .i32⟩
  | .hbm, ⟨56, _⟩ => ⟨S7800x128, .i1⟩
  | .hbm, ⟨57, _⟩ => ⟨S7800x128, .i1⟩
  | .hbm, ⟨58, _⟩ => ⟨S7800x1, .i32⟩
  | .hbm, ⟨59, _⟩ => ⟨S_, .i32⟩
  | .hbm, ⟨60, _⟩ => ⟨S7800x1, .i32⟩
  | .hbm, ⟨61, _⟩ => ⟨S7800x1, .i32⟩
  | .hbm, ⟨62, _⟩ => ⟨S7800x128, .i32⟩
  | .hbm, ⟨63, _⟩ => ⟨S7800x128, .i32⟩
  | .hbm, ⟨64, _⟩ => ⟨S_, .i32⟩
  | .hbm, ⟨65, _⟩ => ⟨S_, .i32⟩
  | .hbm, ⟨66, _⟩ => ⟨S7800x128, .i32⟩
  | .hbm, ⟨67, _⟩ => ⟨S7800x128, .i32⟩
  | .hbm, ⟨68, _⟩ => ⟨S7800x1x128, .f32⟩
  | .hbm, ⟨69, _⟩ => ⟨S7800x160x128, .f32⟩
  | .hbm, ⟨70, _⟩ => ⟨S7800x160x128, .f32⟩
  | .hbm, ⟨71, _⟩ => ⟨S7800x128x160, .f32⟩
  | .hbm, ⟨72, _⟩ => ⟨S998400x160, .f32⟩
  | .hbm, ⟨73, _⟩ => ⟨S998400, .i32⟩
  | .hbm, ⟨74, _⟩ => ⟨S_, .f32⟩
  | .hbm, ⟨75, _⟩ => ⟨S28672x160, .f32⟩
  | .hbm, ⟨76, _⟩ => ⟨S998400x1, .i32⟩
  | .hbm, ⟨77, _⟩ => ⟨S28672x160, .f32⟩
  | .hbm, ⟨78, _⟩ => ⟨S112x256x160, .f32⟩
  | .hbm, ⟨79, _⟩ => ⟨S112x160x256, .f32⟩
  | .hbm, ⟨80, _⟩ => ⟨S17920x256, .f32⟩
  | .hbm, ⟨81, _⟩ => ⟨S17920x256, .f32⟩
  | .hbm, ⟨82, _⟩ => ⟨S35840x256, .f32⟩
  | .hbm, ⟨83, _⟩ => ⟨S71680x256, .f32⟩
  | .local _ .vmem, ⟨0, _⟩ => ⟨S374400x128, .i32⟩
  | .local _ .vmem, ⟨1, _⟩ => ⟨S1497600x128, .f32⟩
  | _, _ => ⟨S897, .i32⟩

abbrev bufScoped : (cs : CoreSpace) → Fin (nBuf (.core cs)) → Bool
  | .vmem, ⟨0, _⟩ => true
  | .vmem, ⟨1, _⟩ => true
  | _, _ => false

abbrev semScoped : Fin 0 → Bool
  | ⟨_, h⟩ => absurd h (Nat.not_lt_zero _)

abbrev dmaSemScoped : Fin 2 → Bool
  | ⟨0, _⟩ => true
  | ⟨1, _⟩ => true
  | _ => false

abbrev sig : RefSig :=
  ofTc nBuf bufTy 0 2 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_c : Ref sig .tc := ⟨.hbm, 19, rfl⟩
abbrev main_call0_v0 : Ref sig .tc := ⟨.hbm, 20, rfl⟩
abbrev main_call0_v1 : Ref sig .tc := ⟨.hbm, 21, rfl⟩
abbrev main_call0_v2 : Ref sig .tc := ⟨.hbm, 22, rfl⟩
abbrev main_call0_v3 : Ref sig .tc := ⟨.hbm, 23, rfl⟩
abbrev main_call0_v4 : Ref sig .tc := ⟨.hbm, 24, rfl⟩
abbrev main_call0_v5 : Ref sig .tc := ⟨.hbm, 25, rfl⟩
abbrev main_call0_v6 : Ref sig .tc := ⟨.hbm, 26, rfl⟩
abbrev main_call0_v7 : Ref sig .tc := ⟨.hbm, 27, rfl⟩
abbrev main_call0_v8 : Ref sig .tc := ⟨.hbm, 28, rfl⟩
abbrev main_call0_c : Ref sig .tc := ⟨.hbm, 29, rfl⟩
abbrev main_call0_v9 : Ref sig .tc := ⟨.hbm, 30, rfl⟩
abbrev main_call0_v10 : Ref sig .tc := ⟨.hbm, 31, rfl⟩
abbrev main_call0_v11 : Ref sig .tc := ⟨.hbm, 32, rfl⟩
abbrev main_call0_c_0 : Ref sig .tc := ⟨.hbm, 33, rfl⟩
abbrev main_call0_v12 : Ref sig .tc := ⟨.hbm, 34, rfl⟩
abbrev main_call0_v13 : Ref sig .tc := ⟨.hbm, 35, rfl⟩
abbrev main_v15 : Ref sig .tc := ⟨.hbm, 36, rfl⟩
abbrev main_v16 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_c_0 : Ref sig .tc := ⟨.hbm, 43, rfl⟩
abbrev main_v22 : Ref sig .tc := ⟨.hbm, 44, rfl⟩
abbrev main_v23 : Ref sig .tc := ⟨.hbm, 45, rfl⟩
abbrev main_c_1 : Ref sig .tc := ⟨.hbm, 46, rfl⟩
abbrev main_v24 : Ref sig .tc := ⟨.hbm, 47, rfl⟩
abbrev main_v25 : Ref sig .tc := ⟨.hbm, 48, rfl⟩
abbrev main_c_2 : Ref sig .tc := ⟨.hbm, 49, rfl⟩
abbrev main_v26 : Ref sig .tc := ⟨.hbm, 50, rfl⟩
abbrev main_v27 : Ref sig .tc := ⟨.hbm, 51, rfl⟩
abbrev main_v28 : Ref sig .tc := ⟨.hbm, 52, rfl⟩
abbrev main_v29 : Ref sig .tc := ⟨.hbm, 53, rfl⟩
abbrev main_c_3 : Ref sig .tc := ⟨.hbm, 54, rfl⟩
abbrev main_v30 : Ref sig .tc := ⟨.hbm, 55, rfl⟩
abbrev main_v31 : Ref sig .tc := ⟨.hbm, 56, rfl⟩
abbrev main_v32 : Ref sig .tc := ⟨.hbm, 57, rfl⟩
abbrev main_v33 : Ref sig .tc := ⟨.hbm, 58, rfl⟩
abbrev main_c_4 : Ref sig .tc := ⟨.hbm, 59, rfl⟩
abbrev main_v34 : Ref sig .tc := ⟨.hbm, 60, rfl⟩
abbrev main_v35 : Ref sig .tc := ⟨.hbm, 61, rfl⟩
abbrev main_v36 : Ref sig .tc := ⟨.hbm, 62, rfl⟩
abbrev main_v37 : Ref sig .tc := ⟨.hbm, 63, rfl⟩
abbrev main_c_5 : Ref sig .tc := ⟨.hbm, 64, rfl⟩
abbrev main_call1_v0 : Ref sig .tc := ⟨.hbm, 65, rfl⟩
abbrev main_call1_v1 : Ref sig .tc := ⟨.hbm, 66, rfl⟩
abbrev main_v38 : Ref sig .tc := ⟨.hbm, 67, rfl⟩
abbrev main_v39 : Ref sig .tc := ⟨.hbm, 68, rfl⟩
abbrev main_v40 : Ref sig .tc := ⟨.hbm, 69, rfl⟩
abbrev main_v41 : Ref sig .tc := ⟨.hbm, 70, rfl⟩
abbrev main_v42 : Ref sig .tc := ⟨.hbm, 71, rfl⟩
abbrev main_v43 : Ref sig .tc := ⟨.hbm, 72, rfl⟩
abbrev main_v44 : Ref sig .tc := ⟨.hbm, 73, rfl⟩
abbrev main_cst : Ref sig .tc := ⟨.hbm, 74, rfl⟩
abbrev main_v45 : Ref sig .tc := ⟨.hbm, 75, rfl⟩
abbrev main_v46 : Ref sig .tc := ⟨.hbm, 76, rfl⟩
abbrev main_v47 : Ref sig .tc := ⟨.hbm, 77, rfl⟩
abbrev main_v48 : Ref sig .tc := ⟨.hbm, 78, rfl⟩
abbrev main_v49 : Ref sig .tc := ⟨.hbm, 79, rfl⟩
abbrev main_v50 : Ref sig .tc := ⟨.hbm, 80, rfl⟩
abbrev main_v51 : Ref sig .tc := ⟨.hbm, 81, rfl⟩
abbrev main_v52 : Ref sig .tc := ⟨.hbm, 82, rfl⟩
abbrev main_v53 : Ref sig .tc := ⟨.hbm, 83, rfl⟩
abbrev cc0_stg0_0 : Ref sig .tc := ⟨.vmem, 0, rfl⟩
abbrev cc0_stg1_0 : Ref sig .tc := ⟨.vmem, 1, rfl⟩
abbrev cc0_sem0_0 : DmaSem sig := 0
abbrev cc0_sem1_0 : DmaSem sig := 1

abbrev nD : Nat := 1
abbrev τ : Topo := Topo.v7x

variable {F : FTy → Type} [FloatOps F]

abbrev grid0 : Pipeline.Grid := .none

abbrev stage0_0 : Fin 1 → Memref sig .tc .vmem S374400x128 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1497600x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== Kernel2.lean ====
abbrev S897 : Shape := ⟨1, ![897]⟩
abbrev S1 : Shape := ⟨1, ![1]⟩
abbrev S374400x128 : Shape := ⟨2, ![374400, 128]⟩
abbrev S71680x256 : Shape := ⟨2, ![71680, 256]⟩
abbrev S160x256 : Shape := ⟨2, ![160, 256]⟩
abbrev S16x96x128 : Shape := ⟨3, ![16, 96, 128]⟩
abbrev S16 : Shape := ⟨1, ![16]⟩
abbrev S_ : Shape := ⟨0, ![]⟩
abbrev S1x96x128 : Shape := ⟨3, ![1, 96, 128]⟩
abbrev S96x128 : Shape := ⟨2, ![96, 128]⟩
abbrev S128x256 : Shape := ⟨2, ![128, 256]⟩
abbrev S128x160 : Shape := ⟨2, ![128, 160]⟩
abbrev S40x128 : Shape := ⟨2, ![40, 128]⟩
abbrev S160x128 : Shape := ⟨2, ![160, 128]⟩
abbrev S1x128 : Shape := ⟨2, ![1, 128]⟩
abbrev S1x256 : Shape := ⟨2, ![1, 256]⟩

abbrev nBuf : Space → Nat
  | .hbm => 3
  | .vmem => 3
  | .smem => 2
  | _ => 0

abbrev bufTy : (tb : Table) → Fin (tcTables nBuf tb) → BufTy
  | .hbm, ⟨0, _⟩ => ⟨S374400x128, .i32⟩
  | .hbm, ⟨1, _⟩ => ⟨S71680x256, .f32⟩
  | .hbm, ⟨2, _⟩ => ⟨S71680x256, .f32⟩
  | .local _ .vmem, ⟨0, _⟩ => ⟨S160x256, .f32⟩
  | .local _ .vmem, ⟨1, _⟩ => ⟨S160x256, .f32⟩
  | .local _ .vmem, ⟨2, _⟩ => ⟨S16x96x128, .i32⟩
  | .local _ .smem, ⟨0, _⟩ => ⟨S897, .i32⟩
  | .local _ .smem, ⟨1, _⟩ => ⟨S1, .i32⟩
  | _, _ => ⟨S374400x128, .i32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg2 : Ref sig .tc := ⟨.hbm, 0, rfl⟩
abbrev main_arg3 : Ref sig .tc := ⟨.hbm, 1, rfl⟩
abbrev main_v0 : Ref sig .tc := ⟨.hbm, 2, rfl⟩
abbrev main_arg0 : Ref sig .tc := ⟨.smem, 0, rfl⟩
abbrev main_arg1 : Ref sig .tc := ⟨.smem, 1, rfl⟩
abbrev cc0_stg0_0 : Ref sig .tc := ⟨.vmem, 0, rfl⟩
abbrev cc0_stg0_1 : Ref sig .tc := ⟨.vmem, 1, rfl⟩
abbrev cc0_scratch0 : Ref sig .tc := ⟨.vmem, 2, rfl⟩
abbrev cc0_sem0_0 : DmaSem sig := 0
abbrev cc0_sem0_1 : DmaSem sig := 1

abbrev nD : Nat := 1
abbrev τ : Topo := Topo.v7x

variable {F : FTy → Type} [FloatOps F]

abbrev grid0 : Pipeline.Grid := ⟨1, ![112], ![false]⟩

abbrev pre0 : Pipeline.Prefetch sig := ⟨2, ![main_arg0.idx, main_arg1.idx], fun | 0 => main_arg0.names | 1 => main_arg1.names | ⟨_ + 2, h⟩ => absurd h (Nat.not_lt.2 (Nat.le_add_left _ _)), fun | 0 => rfl | 1 => rfl | ⟨_ + 2, h⟩ => absurd h (Nat.not_lt.2 (Nat.le_add_left _ _))⟩

def k0_cond1 (i : grid0.Coords) : BitVec 1 :=
  let arg0 : BitVec 32 := BitVec.ofNat 32 (i 0).val
  let c0_i32 : BitVec 32 := 0#32
  let v3 : BitVec 1 := Scalar.cmpi .eq arg0 c0_i32
  let v4 : BitVec 32 := Scalar.extui v3
  let c0_i32_0 : BitVec 32 := 0#32
  let v5 : BitVec 1 := Scalar.cmpi .ne v4 c0_i32_0
  v5

@[reducible] def k0_t1_loop (v0 : BitVec 32) (v1 : BitVec 32) : Scf.Loop 32 :=
  let c0_i32_21 : BitVec 32 := 0#32
  let v2 : BitVec 32 := Scalar.subi v1 v0
  let c16_i32 : BitVec 32 := 16#32
  let v47 : BitVec 32 := Scalar.minsi v2 c16_i32
  let c0_i32_15 : BitVec 32 := 0#32
  let v48 : BitVec 32 := Scalar.subi v47 c0_i32_15
  let c1_i32_16 : BitVec 32 := 1#32
  let c1_i32_17 : BitVec 32 := 1#32
  let v49 : BitVec 32 := Scalar.subi c1_i32_16 c1_i32_17
  let v50 : BitVec 32 := Scalar.addi v48 v49
  let c1_i32_18 : BitVec 32 := 1#32
  let v51 : BitVec 32 := Scalar.divsi v50 c1_i32_18
  let v52 : BitVec 32 := Scalar.subi v51 c0_i32_21
  let c1_i32_22 : BitVec 32 := 1#32
  let v54 : BitVec 32 := Scalar.divsi v52 c1_i32_22
  let v55 : BitVec 32 := Scalar.muli v54 c1_i32_22
  let v56 : BitVec 32 := Scalar.addi c0_i32_21 v55
  let c1_i32_23 : BitVec 32 := 1#32
  ⟨c0_i32_21, v56, c1_i32_23⟩

def k0_off1 (v0 : BitVec 32) (v1 : BitVec 32) (k0_t1 : Fin (k0_t1_loop v0 v1).trips) : Fin 1 → Nat :=
  let c0_i32_20 : BitVec 32 := 0#32
  let c0_i32_21 : BitVec 32 := 0#32
  let c1_i32_23 : BitVec 32 := 1#32
  let arg8 : BitVec 32 := Scf.iv c0_i32_21 c1_i32_23 k0_t1
  let c1_i32_19 : BitVec 32 := 1#32
  let v57 : BitVec 32 := Scalar.muli arg8 c1_i32_19
  let v58 : BitVec 32 := Scalar.addi c0_i32_20 v57
  let c16_i32_31 : BitVec 32 := 16#32
  let c0_i32_32 : BitVec 32 := 0#32
  let v70 : BitVec 1 := Scalar.cmpi .eq c16_i32_31 c0_i32_32
  let c1_i32_33 : BitVec 32 := 1#32
  let v71 : BitVec 32 := Scalar.select v70 c1_i32_33 c16_i32_31
  let v72 : BitVec 32 := Scalar.remsi v58 v71
  let c0_i32_35 : BitVec 32 := 0#32
  let v74 : BitVec 1 := Scalar.cmpi .slt v72 c0_i32_35
  let c0_i32_36 : BitVec 32 := 0#32
  let v75 : BitVec 1 := Scalar.cmpi .slt v71 c0_i32_36
  let v76 : BitVec 1 := Scalar.xori v74 v75
  let c0_i32_34 : BitVec 32 := 0#32
  let v73 : BitVec 1 := Scalar.cmpi .ne v72 c0_i32_34
  let v77 : BitVec 1 := Scalar.andi v76 v73
  let v78 : BitVec 32 := Scalar.addi v72 v71
  let v79 : BitVec 32 := Scalar.select v77 v78 v72
  ![v79.toNat]
def k0_off2 (v0 : BitVec 32) (v1 : BitVec 32) (k0_t1 : Fin (k0_t1_loop v0 v1).trips) : Fin 3 → Nat :=
  let c0_i32_20 : BitVec 32 := 0#32
  let c0_i32_21 : BitVec 32 := 0#32
  let c1_i32_23 : BitVec 32 := 1#32
  let arg8 : BitVec 32 := Scf.iv c0_i32_21 c1_i32_23 k0_t1
  let c1_i32_19 : BitVec 32 := 1#32
  let v57 : BitVec 32 := Scalar.muli arg8 c1_i32_19
  let v58 : BitVec 32 := Scalar.addi c0_i32_20 v57
  let c16_i32_25 : BitVec 32 := 16#32
  let c0_i32_26 : BitVec 32 := 0#32
  let v60 : BitVec 1 := Scalar.cmpi .eq c16_i32_25 c0_i32_26
  let c1_i32_27 : BitVec 32 := 1#32
  let v61 : BitVec 32 := Scalar.select v60 c1_i32_27 c16_i32_25
  let v62 : BitVec 32 := Scalar.remsi v58 v61
  let c0_i32_29 : BitVec 32 := 0#32
  let v64 : BitVec 1 := Scalar.cmpi .slt v62 c0_i32_29
  let c0_i32_30 : BitVec 32 := 0#32
  let v65 : BitVec 1 := Scalar.cmpi .slt v61 c0_i32_30
  let v66 : BitVec 1 := Scalar.xori v64 v65
  let c0_i32_28 : BitVec 32 := 0#32
  let v63 : BitVec 1 := Scalar.cmpi .ne v62 c0_i32_28
  let v67 : BitVec 1 := Scalar.andi v66 v63
  let v68 : BitVec 32 := Scalar.addi v62 v61
  let v69 : BitVec 32 := Scalar.select v67 v68 v62
  let c0_i32_37 : BitVec 32 := 0#32
  let c0_i32_38 : BitVec 32 := 0#32
  ![v69.toNat, 0, 0]
def k0_off3 (v0 : BitVec 32) (v1 : BitVec 32) (k0_t1 : Fin (k0_t1_loop v0 v1).trips) : Fin 2 → Nat :=
  let c0_i32_20 : BitVec 32 := 0#32
  let c0_i32_21 : BitVec 32 := 0#32
  let c1_i32_23 : BitVec 32 := 1#32
  let arg8 : BitVec 32 := Scf.iv c0_i32_21 c1_i32_23 k0_t1
  let c1_i32_19 : BitVec 32 := 1#32
  let v57 : BitVec 32 := Scalar.muli arg8 c1_i32_19
  let v58 : BitVec 32 := Scalar.addi c0_i32_20 v57
  let c96_i32 : BitVec 32 := 96#32
  let v59 : BitVec 32 := Scalar.muli v58 c96_i32
  let c0_i32_39 : BitVec 32 := 0#32
  ![v59.toNat, 0]
@[reducible] def k0_t2_loop (v0 : BitVec 32) (v1 : BitVec 32) : Scf.Loop 32 :=
  let c0_i32_21 : BitVec 32 := 0#32
  let v2 : BitVec 32 := Scalar.subi v1 v0
  let c16_i32 : BitVec 32 := 16#32
  let v47 : BitVec 32 := Scalar.minsi v2 c16_i32
  let c0_i32_15 : BitVec 32 := 0#32
  let v48 : BitVec 32 := Scalar.subi v47 c0_i32_15
  let c1_i32_16 : BitVec 32 := 1#32
  let c1_i32_17 : BitVec 32 := 1#32
  let v49 : BitVec 32 := Scalar.subi c1_i32_16 c1_i32_17
  let v50 : BitVec 32 := Scalar.addi v48 v49
  let c1_i32_18 : BitVec 32 := 1#32
  let v51 : BitVec 32 := Scalar.divsi v50 c1_i32_18
  let v52 : BitVec 32 := Scalar.subi v51 c0_i32_21
  let c1_i32_22 : BitVec 32 := 1#32
  let v54 : BitVec 32 := Scalar.divsi v52 c1_i32_22
  let v55 : BitVec 32 := Scalar.muli v54 c1_i32_22
  let v56 : BitVec 32 := Scalar.addi c0_i32_21 v55
  let v53 : BitVec 32 := Scalar.addi c0_i32_21 v52
  let c1_i32_24 : BitVec 32 := 1#32
  ⟨v56, v53, c1_i32_24⟩
def k0_off4 (v0 : BitVec 32) (v1 : BitVec 32) (k0_t2 : Fin (k0_t2_loop v0 v1).trips) : Fin 1 → Nat :=
  let c0_i32_20 : BitVec 32 := 0#32
  let c0_i32_21 : BitVec 32 := 0#32
  let v2 : BitVec 32 := Scalar.subi v1 v0
  let c16_i32 : BitVec 32 := 16#32
  let v47 : BitVec 32 := Scalar.minsi v2 c16_i32
  let c0_i32_15 : BitVec 32 := 0#32
  let v48 : BitVec 32 := Scalar.subi v47 c0_i32_15
  let c1_i32_16 : BitVec 32 := 1#32
  let c1_i32_17 : BitVec 32 := 1#32
  let v49 : BitVec 32 := Scalar.subi c1_i32_16 c1_i32_17
  let v50 : BitVec 32 := Scalar.addi v48 v49
  let c1_i32_18 : BitVec 32 := 1#32
  let v51 : BitVec 32 := Scalar.divsi v50 c1_i32_18
  let v52 : BitVec 32 := Scalar.subi v51 c0_i32_21
  let c1_i32_22 : BitVec 32 := 1#32
  let v54 : BitVec 32 := Scalar.divsi v52 c1_i32_22
  let v55 : BitVec 32 := Scalar.muli v54 c1_i32_22
  let v56 : BitVec 32 := Scalar.addi c0_i32_21 v55
  let c1_i32_24 : BitVec 32 := 1#32
  let arg8 : BitVec 32 := Scf.iv v56 c1_i32_24 k0_t2
  let c1_i32_19 : BitVec 32 := 1#32
  let v57 : BitVec 32 := Scalar.muli arg8 c1_i32_19
  let v58 : BitVec 32 := Scalar.addi c0_i32_20 v57
  let c16_i32_31 : BitVec 32 := 16#32
  let c0_i32_32 : BitVec 32 := 0#32
  let v70 : BitVec 1 := Scalar.cmpi .eq c16_i32_31 c0_i32_32
  let c1_i32_33 : BitVec 32 := 1#32
  let v71 : BitVec 32 := Scalar.select v70 c1_i32_33 c16_i32_31
  let v72 : BitVec 32 := Scalar.remsi v58 v71
  let c0_i32_35 : BitVec 32 := 0#32
  let v74 : BitVec 1 := Scalar.cmpi .slt v72 c0_i32_35
  let c0_i32_36 : BitVec 32 := 0#32
  let v75 : BitVec 1 := Scalar.cmpi .slt v71 c0_i32_36
  let v76 : BitVec 1 := Scalar.xori v74 v75
  let c0_i32_34 : BitVec 32 := 0#32
  let v73 : BitVec 1 := Scalar.cmpi .ne v72 c0_i32_34
  let v77 : BitVec 1 := Scalar.andi v76 v73
  let v78 : BitVec 32 := Scalar.addi v72 v71
  let v79 : BitVec 32 := Scalar.select v77 v78 v72
  ![v79.toNat]
def k0_off5 (v0 : BitVec 32) (v1 : BitVec 32) (k0_t2 : Fin (k0_t2_loop v0 v1).trips) : Fin 3 → Nat :=
  let c0_i32_20 : BitVec 32 := 0#32
  let c0_i32_21 : BitVec 32 := 0#32
  let v2 : BitVec 32 := Scalar.subi v1 v0
  let c16_i32 : BitVec 32 := 16#32
  let v47 : BitVec 32 := Scalar.minsi v2 c16_i32
  let c0_i32_15 : BitVec 32 := 0#32
  let v48 : BitVec 32 := Scalar.subi v47 c0_i32_15
  let c1_i32_16 : BitVec 32 := 1#32
  let c1_i32_17 : BitVec 32 := 1#32
  let v49 : BitVec 32 := Scalar.subi c1_i32_16 c1_i32_17
  let v50 : BitVec 32 := Scalar.addi v48 v49
  let c1_i32_18 : BitVec 32 := 1#32
  let v51 : BitVec 32 := Scalar.divsi v50 c1_i32_18
  let v52 : BitVec 32 := Scalar.subi v51 c0_i32_21
  let c1_i32_22 : BitVec 32 := 1#32
  let v54 : BitVec 32 := Scalar.divsi v52 c1_i32_22
  let v55 : BitVec 32 := Scalar.muli v54 c1_i32_22
  let v56 : BitVec 32 := Scalar.addi c0_i32_21 v55
  let c1_i32_24 : BitVec 32 := 1#32
  let arg8 : BitVec 32 := Scf.iv v56 c1_i32_24 k0_t2
  let c1_i32_19 : BitVec 32 := 1#32
  let v57 : BitVec 32 := Scalar.muli arg8 c1_i32_19
  let v58 : BitVec 32 := Scalar.addi c0_i32_20 v57
  let c16_i32_25 : BitVec 32 := 16#32
  let c0_i32_26 : BitVec 32 := 0#32
  let v60 : BitVec 1 := Scalar.cmpi .eq c16_i32_25 c0_i32_26
  let c1_i32_27 : BitVec 32 := 1#32
  let v61 : BitVec 32 := Scalar.select v60 c1_i32_27 c16_i32_25
  let v62 : BitVec 32 := Scalar.remsi v58 v61
  let c0_i32_29 : BitVec 32 := 0#32
  let v64 : BitVec 1 := Scalar.cmpi .slt v62 c0_i32_29
  let c0_i32_30 : BitVec 32 := 0#32
  let v65 : BitVec 1 := Scalar.cmpi .slt v61 c0_i32_30
  let v66 : BitVec 1 := Scalar.xori v64 v65
  let c0_i32_28 : BitVec 32 := 0#32
  let v63 : BitVec 1 := Scalar.cmpi .ne v62 c0_i32_28
  let v67 : BitVec 1 := Scalar.andi v66 v63
  let v68 : BitVec 32 := Scalar.addi v62 v61
  let v69 : BitVec 32 := Scalar.select v67 v68 v62
  let c0_i32_37 : BitVec 32 := 0#32
  let c0_i32_38 : BitVec 32 := 0#32
  ![v69.toNat, 0, 0]
def k0_off6 (v0 : BitVec 32) (v1 : BitVec 32) (k0_t2 : Fin (k0_t2_loop v0 v1).trips) : Fin 2 → Nat :=
  let c0_i32_20 : BitVec 32 := 0#32
  let c0_i32_21 : BitVec 32 := 0#32
  let v2 : BitVec 32 := Scalar.subi v1 v0
  let c16_i32 : BitVec 32 := 16#32
  let v47 : BitVec 32 := Scalar.minsi v2 c16_i32
  let c0_i32_15 : BitVec 32 := 0#32
  let v48 : BitVec 32 := Scalar.subi v47 c0_i32_15
  let c1_i32_16 : BitVec 32 := 1#32
  let c1_i32_17 : BitVec 32 := 1#32
  let v49 : BitVec 32 := Scalar.subi c1_i32_16 c1_i32_17
  let v50 : BitVec 32 := Scalar.addi v48 v49
  let c1_i32_18 : BitVec 32 := 1#32
  let v51 : BitVec 32 := Scalar.divsi v50 c1_i32_18
  let v52 : BitVec 32 := Scalar.subi v51 c0_i32_21
  let c1_i32_22 : BitVec 32 := 1#32
  let v54 : BitVec 32 := Scalar.divsi v52 c1_i32_22
  let v55 : BitVec 32 := Scalar.muli v54 c1_i32_22
  let v56 : BitVec 32 := Scalar.addi c0_i32_21 v55
  let c1_i32_24 : BitVec 32 := 1#32
  let arg8 : BitVec 32 := Scf.iv v56 c1_i32_24 k0_t2
  let c1_i32_19 : BitVec 32 := 1#32
  let v57 : BitVec 32 := Scalar.muli arg8 c1_i32_19
  let v58 : BitVec 32 := Scalar.addi c0_i32_20 v57
  let c96_i32 : BitVec 32 := 96#32
  let v59 : BitVec 32 := Scalar.muli v58 c96_i32
  let c0_i32_39 : BitVec 32 := 0#32
  ![v59.toNat, 0]

def k0_chk1 (i : grid0.Coords) (v0 : BitVec 32) (v1 : BitVec 32) : Prop :=
  (∀ (k0_h1 : k0_cond1 i = 1#1), (k0_t1_loop v0 v1).OK) ∧
  (∀ k0_t1 : Fin (k0_t1_loop v0 v1).trips, ∀ (k0_h1 : k0_cond1 i = 1#1), ∀ a, (k0_off1 v0 v1 k0_t1) a + S1.size a ≤ S16.size a) ∧
  (∀ k0_t1 : Fin (k0_t1_loop v0 v1).trips, ∀ (k0_h1 : k0_cond1 i = 1#1), ∀ a, (k0_off2 v0 v1 k0_t1) a + S1x96x128.size a ≤ S16x96x128.size a) ∧
  (∀ k0_t1 : Fin (k0_t1_loop v0 v1).trips, ∀ (k0_h1 : k0_cond1 i = 1#1), ∀ a, (k0_off3 v0 v1 k0_t1) a + S96x128.size a ≤ S374400x128.size a) ∧
  (∀ (k0_h1 : k0_cond1 i = 1#1), (k0_t2_loop v0 v1).OK) ∧
  (∀ k0_t2 : Fin (k0_t2_loop v0 v1).trips, ∀ (k0_h1 : k0_cond1 i = 1#1), ∀ a, (k0_off4 v0 v1 k0_t2) a + S1.size a ≤ S16.size a) ∧
  (∀ k0_t2 : Fin (k0_t2_loop v0 v1).trips, ∀ (k0_h1 : k0_cond1 i = 1#1), ∀ a, (k0_off5 v0 v1 k0_t2) a + S1x96x128.size a ≤ S16x96x128.size a) ∧
  (∀ k0_t2 : Fin (k0_t2_loop v0 v1).trips, ∀ (k0_h1 : k0_cond1 i = 1#1), ∀ a, (k0_off6 v0 v1 k0_t2) a + S96x128.size a ≤ S374400x128.size a)
theorem k0_t1_ok : ∀ (i : grid0.Coords) (v0 : BitVec 32) (v1 : BitVec 32) (k0_hw1 : k0_chk1 i v0 v1), ∀ (k0_h1 : k0_cond1 i = 1#1), (k0_t1_loop v0 v1).OK := fun i v0 v1 k0_hw1 k0_h1 => k0_hw1.1 k0_h1
theorem k0_off1_inb : ∀ (i : grid0.Coords) (v0 : BitVec 32) (v1 : BitVec 32) (k0_hw1 : k0_chk1 i v0 v1) (k0_t1 : Fin (k0_t1_loop v0 v1).trips), ∀ (k0_h1 : k0_cond1 i = 1#1), ∀ a, (k0_off1 v0 v1 k0_t1) a + S1.size a ≤ S16.size a := fun i v0 v1 k0_hw1 k0_t1 k0_h1 => k0_hw1.2.1 k0_t1 k0_h1
theorem k0_off2_inb : ∀ (i : grid0.Coords) (v0 : BitVec 32) (v1 : BitVec 32) (k0_hw1 : k0_chk1 i v0 v1) (k0_t1 : Fin (k0_t1_loop v0 v1).trips), ∀ (k0_h1 : k0_cond1 i = 1#1), ∀ a, (k0_off2 v0 v1 k0_t1) a + S1x96x128.size a ≤ S16x96x128.size a := fun i v0 v1 k0_hw1 k0_t1 k0_h1 => k0_hw1.2.2.1 k0_t1 k0_h1
theorem k0_off3_inb : ∀ (i : grid0.Coords) (v0 : BitVec 32) (v1 : BitVec 32) (k0_hw1 : k0_chk1 i v0 v1) (k0_t1 : Fin (k0_t1_loop v0 v1).trips), ∀ (k0_h1 : k0_cond1 i = 1#1), ∀ a, (k0_off3 v0 v1 k0_t1) a + S96x128.size a ≤ S374400x128.size a := fun i v0 v1 k0_hw1 k0_t1 k0_h1 => k0_hw1.2.2.2.1 k0_t1 k0_h1
theorem k0_t2_ok : ∀ (i : grid0.Coords) (v0 : BitVec 32) (v1 : BitVec 32) (k0_hw1 : k0_chk1 i v0 v1), ∀ (k0_h1 : k0_cond1 i = 1#1), (k0_t2_loop v0 v1).OK := fun i v0 v1 k0_hw1 k0_h1 => k0_hw1.2.2.2.2.1 k0_h1
theorem k0_off4_inb : ∀ (i : grid0.Coords) (v0 : BitVec 32) (v1 : BitVec 32) (k0_hw1 : k0_chk1 i v0 v1) (k0_t2 : Fin (k0_t2_loop v0 v1).trips), ∀ (k0_h1 : k0_cond1 i = 1#1), ∀ a, (k0_off4 v0 v1 k0_t2) a + S1.size a ≤ S16.size a := fun i v0 v1 k0_hw1 k0_t2 k0_h1 => k0_hw1.2.2.2.2.2.1 k0_t2 k0_h1
theorem k0_off5_inb : ∀ (i : grid0.Coords) (v0 : BitVec 32) (v1 : BitVec 32) (k0_hw1 : k0_chk1 i v0 v1) (k0_t2 : Fin (k0_t2_loop v0 v1).trips), ∀ (k0_h1 : k0_cond1 i = 1#1), ∀ a, (k0_off5 v0 v1 k0_t2) a + S1x96x128.size a ≤ S16x96x128.size a := fun i v0 v1 k0_hw1 k0_t2 k0_h1 => k0_hw1.2.2.2.2.2.2.1 k0_t2 k0_h1
theorem k0_off6_inb : ∀ (i : grid0.Coords) (v0 : BitVec 32) (v1 : BitVec 32) (k0_hw1 : k0_chk1 i v0 v1) (k0_t2 : Fin (k0_t2_loop v0 v1).trips), ∀ (k0_h1 : k0_cond1 i = 1#1), ∀ a, (k0_off6 v0 v1 k0_t2) a + S96x128.size a ≤ S374400x128.size a := fun i v0 v1 k0_hw1 k0_t2 k0_h1 => k0_hw1.2.2.2.2.2.2.2 k0_t2 k0_h1

def k0_off7 (i : grid0.Coords) : Fin 1 → Nat :=
  let c224_i32 : BitVec 32 := 224#32
  let arg0 : BitVec 32 := BitVec.ofNat 32 (i 0).val
  let v7 : BitVec 32 := Scalar.addi c224_i32 arg0
  let c2_i32 : BitVec 32 := 2#32
  let v8 : BitVec 32 := Scalar.muli v7 c2_i32
  let c0_i32_1 : BitVec 32 := 0#32
  let v9 : BitVec 32 := Scalar.addi v8 c0_i32_1
  let v10 : Index := Scalar.indexCast v9
  ![v10.toNat]
def k0_off8 (i : grid0.Coords) : Fin 1 → Nat :=
  let c224_i32 : BitVec 32 := 224#32
  let arg0 : BitVec 32 := BitVec.ofNat 32 (i 0).val
  let v7 : BitVec 32 := Scalar.addi c224_i32 arg0
  let c2_i32 : BitVec 32 := 2#32
  let v8 : BitVec 32 := Scalar.muli v7 c2_i32
  let c0_i32_1 : BitVec 32 := 0#32
  let v9 : BitVec 32 := Scalar.addi v8 c0_i32_1
  let c1_i32 : BitVec 32 := 1#32
  let v13 : BitVec 32 := Scalar.addi v9 c1_i32
  let v14 : Index := Scalar.indexCast v13
  ![v14.toNat]
@[reducible] def k0_t3_loop (v0 : BitVec 32) (v11 : BitVec 32) (v15 : BitVec 32) : Scf.Loop 32 :=
  let v12 : BitVec 32 := Scalar.subi v11 v0
  let v16 : BitVec 32 := Scalar.subi v15 v0
  let v18 : BitVec 32 := Scalar.subi v16 v12
  let c1_i32_2 : BitVec 32 := 1#32
  let v20 : BitVec 32 := Scalar.divsi v18 c1_i32_2
  let v21 : BitVec 32 := Scalar.muli v20 c1_i32_2
  let v22 : BitVec 32 := Scalar.addi v12 v21
  let c1_i32_3 : BitVec 32 := 1#32
  ⟨v12, v22, c1_i32_3⟩

def k0_off9 (v0 : BitVec 32) (v11 : BitVec 32) (v15 : BitVec 32) (k0_t3 : Fin (k0_t3_loop v0 v11 v15).trips) : Fin 1 → Nat :=
  let v12 : BitVec 32 := Scalar.subi v11 v0
  let c1_i32_3 : BitVec 32 := 1#32
  let arg8 : BitVec 32 := Scf.iv v12 c1_i32_3 k0_t3
  let c16_i32_20 : BitVec 32 := 16#32
  let c0_i32_21 : BitVec 32 := 0#32
  let v58 : BitVec 1 := Scalar.cmpi .eq c16_i32_20 c0_i32_21
  let c1_i32_22 : BitVec 32 := 1#32
  let v59 : BitVec 32 := Scalar.select v58 c1_i32_22 c16_i32_20
  let v60 : BitVec 32 := Scalar.remsi arg8 v59
  let c0_i32_24 : BitVec 32 := 0#32
  let v62 : BitVec 1 := Scalar.cmpi .slt v60 c0_i32_24
  let c0_i32_25 : BitVec 32 := 0#32
  let v63 : BitVec 1 := Scalar.cmpi .slt v59 c0_i32_25
  let v64 : BitVec 1 := Scalar.xori v62 v63
  let c0_i32_23 : BitVec 32 := 0#32
  let v61 : BitVec 1 := Scalar.cmpi .ne v60 c0_i32_23
  let v65 : BitVec 1 := Scalar.andi v64 v61
  let v66 : BitVec 32 := Scalar.addi v60 v59
  let v67 : BitVec 32 := Scalar.select v65 v66 v60
  ![v67.toNat]
def k0_off10 (v0 : BitVec 32) (v11 : BitVec 32) (v15 : BitVec 32) (k0_t3 : Fin (k0_t3_loop v0 v11 v15).trips) : Fin 3 → Nat :=
  let v12 : BitVec 32 := Scalar.subi v11 v0
  let c1_i32_3 : BitVec 32 := 1#32
  let arg8 : BitVec 32 := Scf.iv v12 c1_i32_3 k0_t3
  let c16_i32 : BitVec 32 := 16#32
  let c0_i32_15 : BitVec 32 := 0#32
  let v48 : BitVec 1 := Scalar.cmpi .eq c16_i32 c0_i32_15
  let c1_i32_16 : BitVec 32 := 1#32
  let v49 : BitVec 32 := Scalar.select v48 c1_i32_16 c16_i32
  let v50 : BitVec 32 := Scalar.remsi arg8 v49
  let c0_i32_18 : BitVec 32 := 0#32
  let v52 : BitVec 1 := Scalar.cmpi .slt v50 c0_i32_18
  let c0_i32_19 : BitVec 32 := 0#32
  let v53 : BitVec 1 := Scalar.cmpi .slt v49 c0_i32_19
  let v54 : BitVec 1 := Scalar.xori v52 v53
  let c0_i32_17 : BitVec 32 := 0#32
  let v51 : BitVec 1 := Scalar.cmpi .ne v50 c0_i32_17
  let v55 : BitVec 1 := Scalar.andi v54 v51
  let v56 : BitVec 32 := Scalar.addi v50 v49
  let v57 : BitVec 32 := Scalar.select v55 v56 v50
  let c0_i32_26 : BitVec 32 := 0#32
  let c0_i32_27 : BitVec 32 := 0#32
  ![v57.toNat, 0, 0]
def k0_off11 (v0 : BitVec 32) (v11 : BitVec 32) (v15 : BitVec 32) (k0_t3 : Fin (k0_t3_loop v0 v11 v15).trips) : Fin 2 → Nat :=
  let v12 : BitVec 32 := Scalar.subi v11 v0
  let c1_i32_3 : BitVec 32 := 1#32
  let arg8 : BitVec 32 := Scf.iv v12 c1_i32_3 k0_t3
  let c96_i32 : BitVec 32 := 96#32
  let v47 : BitVec 32 := Scalar.muli arg8 c96_i32
  let c0_i32_28 : BitVec 32 := 0#32
  ![v47.toNat, 0]
def k0_off12 (v0 : BitVec 32) (v11 : BitVec 32) (v15 : BitVec 32) (k0_t3 : Fin (k0_t3_loop v0 v11 v15).trips) : Fin 3 → Nat :=
  let v12 : BitVec 32 := Scalar.subi v11 v0
  let c1_i32_3 : BitVec 32 := 1#32
  let arg8 : BitVec 32 := Scf.iv v12 c1_i32_3 k0_t3
  let c16_i32_29 : BitVec 32 := 16#32
  let c0_i32_30 : BitVec 32 := 0#32
  let v73 : BitVec 1 := Scalar.cmpi .eq c16_i32_29 c0_i32_30
  let c1_i32_31 : BitVec 32 := 1#32
  let v74 : BitVec 32 := Scalar.select v73 c1_i32_31 c16_i32_29
  let v75 : BitVec 32 := Scalar.remsi arg8 v74
  let c0_i32_33 : BitVec 32 := 0#32
  let v77 : BitVec 1 := Scalar.cmpi .slt v75 c0_i32_33
  let c0_i32_34 : BitVec 32 := 0#32
  let v78 : BitVec 1 := Scalar.cmpi .slt v74 c0_i32_34
  let v79 : BitVec 1 := Scalar.xori v77 v78
  let c0_i32_32 : BitVec 32 := 0#32
  let v76 : BitVec 1 := Scalar.cmpi .ne v75 c0_i32_32
  let v80 : BitVec 1 := Scalar.andi v79 v76
  let v81 : BitVec 32 := Scalar.addi v75 v74
  let v82 : BitVec 32 := Scalar.select v80 v81 v75
  let v83 : Index := Scalar.indexCast v82
  let c0_35 : Index := 0#32
  let c0_36 : Index := 0#32
  ![v83.toNat, 0, 0]
def k0_off13 (v0 : BitVec 32) (v11 : BitVec 32) (v15 : BitVec 32) (k0_t3 : Fin (k0_t3_loop v0 v11 v15).trips) : Fin 1 → Nat :=
  let v12 : BitVec 32 := Scalar.subi v11 v0
  let c1_i32_3 : BitVec 32 := 1#32
  let arg8 : BitVec 32 := Scf.iv v12 c1_i32_3 k0_t3
  let c16_i32_42 : BitVec 32 := 16#32
  let v111 : BitVec 32 := Scalar.addi arg8 c16_i32_42
  let c16_i32_50 : BitVec 32 := 16#32
  let c0_i32_51 : BitVec 32 := 0#32
  let v123 : BitVec 1 := Scalar.cmpi .eq c16_i32_50 c0_i32_51
  let c1_i32_52 : BitVec 32 := 1#32
  let v124 : BitVec 32 := Scalar.select v123 c1_i32_52 c16_i32_50
  let v125 : BitVec 32 := Scalar.remsi v111 v124
  let c0_i32_54 : BitVec 32 := 0#32
  let v127 : BitVec 1 := Scalar.cmpi .slt v125 c0_i32_54
  let c0_i32_55 : BitVec 32 := 0#32
  let v128 : BitVec 1 := Scalar.cmpi .slt v124 c0_i32_55
  let v129 : BitVec 1 := Scalar.xori v127 v128
  let c0_i32_53 : BitVec 32 := 0#32
  let v126 : BitVec 1 := Scalar.cmpi .ne v125 c0_i32_53
  let v130 : BitVec 1 := Scalar.andi v129 v126
  let v131 : BitVec 32 := Scalar.addi v125 v124
  let v132 : BitVec 32 := Scalar.select v130 v131 v125
  ![v132.toNat]
def k0_cond3 (v0 : BitVec 32) (v1 : BitVec 32) (v11 : BitVec 32) (v15 : BitVec 32) (k0_t3 : Fin (k0_t3_loop v0 v11 v15).trips) : BitVec 1 :=
  let v12 : BitVec 32 := Scalar.subi v11 v0
  let c1_i32_3 : BitVec 32 := 1#32
  let arg8 : BitVec 32 := Scf.iv v12 c1_i32_3 k0_t3
  let c16_i32_40 : BitVec 32 := 16#32
  let v107 : BitVec 32 := Scalar.addi arg8 c16_i32_40
  let v2 : BitVec 32 := Scalar.subi v1 v0
  let v108 : BitVec 1 := Scalar.cmpi .slt v107 v2
  let v109 : BitVec 32 := Scalar.extui v108
  let c0_i32_41 : BitVec 32 := 0#32
  let v110 : BitVec 1 := Scalar.cmpi .ne v109 c0_i32_41
  v110

def k0_off14 (v0 : BitVec 32) (v11 : BitVec 32) (v15 : BitVec 32) (k0_t3 : Fin (k0_t3_loop v0 v11 v15).trips) : Fin 3 → Nat :=
  let v12 : BitVec 32 := Scalar.subi v11 v0
  let c1_i32_3 : BitVec 32 := 1#32
  let arg8 : BitVec 32 := Scf.iv v12 c1_i32_3 k0_t3
  let c16_i32_42 : BitVec 32 := 16#32
  let v111 : BitVec 32 := Scalar.addi arg8 c16_i32_42
  let c16_i32_44 : BitVec 32 := 16#32
  let c0_i32_45 : BitVec 32 := 0#32
  let v113 : BitVec 1 := Scalar.cmpi .eq c16_i32_44 c0_i32_45
  let c1_i32_46 : BitVec 32 := 1#32
  let v114 : BitVec 32 := Scalar.select v113 c1_i32_46 c16_i32_44
  let v115 : BitVec 32 := Scalar.remsi v111 v114
  let c0_i32_48 : BitVec 32 := 0#32
  let v117 : BitVec 1 := Scalar.cmpi .slt v115 c0_i32_48
  let c0_i32_49 : BitVec 32 := 0#32
  let v118 : BitVec 1 := Scalar.cmpi .slt v114 c0_i32_49
  let v119 : BitVec 1 := Scalar.xori v117 v118
  let c0_i32_47 : BitVec 32 := 0#32
  let v116 : BitVec 1 := Scalar.cmpi .ne v115 c0_i32_47
  let v120 : BitVec 1 := Scalar.andi v119 v116
  let v121 : BitVec 32 := Scalar.addi v115 v114
  let v122 : BitVec 32 := Scalar.select v120 v121 v115
  let c0_i32_56 : BitVec 32 := 0#32
  let c0_i32_57 : BitVec 32 := 0#32
  ![v122.toNat, 0, 0]
def k0_off15 (v0 : BitVec 32) (v11 : BitVec 32) (v15 : BitVec 32) (k0_t3 : Fin (k0_t3_loop v0 v11 v15).trips) : Fin 2 → Nat :=
  let v12 : BitVec 32 := Scalar.subi v11 v0
  let c1_i32_3 : BitVec 32 := 1#32
  let arg8 : BitVec 32 := Scf.iv v12 c1_i32_3 k0_t3
  let c16_i32_42 : BitVec 32 := 16#32
  let v111 : BitVec 32 := Scalar.addi arg8 c16_i32_42
  let c96_i32_43 : BitVec 32 := 96#32
  let v112 : BitVec 32 := Scalar.muli v111 c96_i32_43
  let c0_i32_58 : BitVec 32 := 0#32
  ![v112.toNat, 0]
@[reducible] def k0_t4_loop (v0 : BitVec 32) (v11 : BitVec 32) (v15 : BitVec 32) : Scf.Loop 32 :=
  let v12 : BitVec 32 := Scalar.subi v11 v0
  let v16 : BitVec 32 := Scalar.subi v15 v0
  let v18 : BitVec 32 := Scalar.subi v16 v12
  let c1_i32_2 : BitVec 32 := 1#32
  let v20 : BitVec 32 := Scalar.divsi v18 c1_i32_2
  let v21 : BitVec 32 := Scalar.muli v20 c1_i32_2
  let v22 : BitVec 32 := Scalar.addi v12 v21
  let v19 : BitVec 32 := Scalar.addi v12 v18
  let c1_i32_4 : BitVec 32 := 1#32
  ⟨v22, v19, c1_i32_4⟩
def k0_off16 (v0 : BitVec 32) (v11 : BitVec 32) (v15 : BitVec 32) (k0_t4 : Fin (k0_t4_loop v0 v11 v15).trips) : Fin 1 → Nat :=
  let v12 : BitVec 32 := Scalar.subi v11 v0
  let v16 : BitVec 32 := Scalar.subi v15 v0
  let v18 : BitVec 32 := Scalar.subi v16 v12
  let c1_i32_2 : BitVec 32 := 1#32
  let v20 : BitVec 32 := Scalar.divsi v18 c1_i32_2
  let v21 : BitVec 32 := Scalar.muli v20 c1_i32_2
  let v22 : BitVec 32 := Scalar.addi v12 v21
  let c1_i32_4 : BitVec 32 := 1#32
  let arg8 : BitVec 32 := Scf.iv v22 c1_i32_4 k0_t4
  let c16_i32_20 : BitVec 32 := 16#32
  let c0_i32_21 : BitVec 32 := 0#32
  let v58 : BitVec 1 := Scalar.cmpi .eq c16_i32_20 c0_i32_21
  let c1_i32_22 : BitVec 32 := 1#32
  let v59 : BitVec 32 := Scalar.select v58 c1_i32_22 c16_i32_20
  let v60 : BitVec 32 := Scalar.remsi arg8 v59
  let c0_i32_24 : BitVec 32 := 0#32
  let v62 : BitVec 1 := Scalar.cmpi .slt v60 c0_i32_24
  let c0_i32_25 : BitVec 32 := 0#32
  let v63 : BitVec 1 := Scalar.cmpi .slt v59 c0_i32_25
  let v64 : BitVec 1 := Scalar.xori v62 v63
  let c0_i32_23 : BitVec 32 := 0#32
  let v61 : BitVec 1 := Scalar.cmpi .ne v60 c0_i32_23
  let v65 : BitVec 1 := Scalar.andi v64 v61
  let v66 : BitVec 32 := Scalar.addi v60 v59
  let v67 : BitVec 32 := Scalar.select v65 v66 v60
  ![v67.toNat]
def k0_off17 (v0 : BitVec 32) (v11 : BitVec 32) (v15 : BitVec 32) (k0_t4 : Fin (k0_t4_loop v0 v11 v15).trips) : Fin 3 → Nat :=
  let v12 : BitVec 32 := Scalar.subi v11 v0
  let v16 : BitVec 32 := Scalar.subi v15 v0
  let v18 : BitVec 32 := Scalar.subi v16 v12
  let c1_i32_2 : BitVec 32 := 1#32
  let v20 : BitVec 32 := Scalar.divsi v18 c1_i32_2
  let v21 : BitVec 32 := Scalar.muli v20 c1_i32_2
  let v22 : BitVec 32 := Scalar.addi v12 v21
  let c1_i32_4 : BitVec 32 := 1#32
  let arg8 : BitVec 32 := Scf.iv v22 c1_i32_4 k0_t4
  let c16_i32 : BitVec 32 := 16#32
  let c0_i32_15 : BitVec 32 := 0#32
  let v48 : BitVec 1 := Scalar.cmpi .eq c16_i32 c0_i32_15
  let c1_i32_16 : BitVec 32 := 1#32
  let v49 : BitVec 32 := Scalar.select v48 c1_i32_16 c16_i32
  let v50 : BitVec 32 := Scalar.remsi arg8 v49
  let c0_i32_18 : BitVec 32 := 0#32
  let v52 : BitVec 1 := Scalar.cmpi .slt v50 c0_i32_18
  let c0_i32_19 : BitVec 32 := 0#32
  let v53 : BitVec 1 := Scalar.cmpi .slt v49 c0_i32_19
  let v54 : BitVec 1 := Scalar.xori v52 v53
  let c0_i32_17 : BitVec 32 := 0#32
  let v51 : BitVec 1 := Scalar.cmpi .ne v50 c0_i32_17
  let v55 : BitVec 1 := Scalar.andi v54 v51
  let v56 : BitVec 32 := Scalar.addi v50 v49
  let v57 : BitVec 32 := Scalar.select v55 v56 v50
  let c0_i32_26 : BitVec 32 := 0#32
  let c0_i32_27 : BitVec 32 := 0#32
  ![v57.toNat, 0, 0]
def k0_off18 (v0 : BitVec 32) (v11 : BitVec 32) (v15 : BitVec 32) (k0_t4 : Fin (k0_t4_loop v0 v11 v15).trips) : Fin 2 → Nat :=
  let v12 : BitVec 32 := Scalar.subi v11 v0
  let v16 : BitVec 32 := Scalar.subi v15 v0
  let v18 : BitVec 32 := Scalar.subi v16 v12
  let c1_i32_2 : BitVec 32 := 1#32
  let v20 : BitVec 32 := Scalar.divsi v18 c1_i32_2
  let v21 : BitVec 32 := Scalar.muli v20 c1_i32_2
  let v22 : BitVec 32 := Scalar.addi v12 v21
  let c1_i32_4 : BitVec 32 := 1#32
  let arg8 : BitVec 32 := Scf.iv v22 c1_i32_4 k0_t4
  let c96_i32 : BitVec 32 := 96#32
  let v47 : BitVec 32 := Scalar.muli arg8 c96_i32
  let c0_i32_28 : BitVec 32 := 0#32
  ![v47.toNat, 0]
def k0_off19 (v0 : BitVec 32) (v11 : BitVec 32) (v15 : BitVec 32) (k0_t4 : Fin (k0_t4_loop v0 v11 v15).trips) : Fin 3 → Nat :=
  let v12 : BitVec 32 := Scalar.subi v11 v0
  let v16 : BitVec 32 := Scalar.subi v15 v0
  let v18 : BitVec 32 := Scalar.subi v16 v12
  let c1_i32_2 : BitVec 32 := 1#32
  let v20 : BitVec 32 := Scalar.divsi v18 c1_i32_2
  let v21 : BitVec 32 := Scalar.muli v20 c1_i32_2
  let v22 : BitVec 32 := Scalar.addi v12 v21
  let c1_i32_4 : BitVec 32 := 1#32
  let arg8 : BitVec 32 := Scf.iv v22 c1_i32_4 k0_t4
  let c16_i32_29 : BitVec 32 := 16#32
  let c0_i32_30 : BitVec 32 := 0#32
  let v73 : BitVec 1 := Scalar.cmpi .eq c16_i32_29 c0_i32_30
  let c1_i32_31 : BitVec 32 := 1#32
  let v74 : BitVec 32 := Scalar.select v73 c1_i32_31 c16_i32_29
  let v75 : BitVec 32 := Scalar.remsi arg8 v74
  let c0_i32_33 : BitVec 32 := 0#32
  let v77 : BitVec 1 := Scalar.cmpi .slt v75 c0_i32_33
  let c0_i32_34 : BitVec 32 := 0#32
  let v78 : BitVec 1 := Scalar.cmpi .slt v74 c0_i32_34
  let v79 : BitVec 1 := Scalar.xori v77 v78
  let c0_i32_32 : BitVec 32 := 0#32
  let v76 : BitVec 1 := Scalar.cmpi .ne v75 c0_i32_32
  let v80 : BitVec 1 := Scalar.andi v79 v76
  let v81 : BitVec 32 := Scalar.addi v75 v74
  let v82 : BitVec 32 := Scalar.select v80 v81 v75
  let v83 : Index := Scalar.indexCast v82
  let c0_35 : Index := 0#32
  let c0_36 : Index := 0#32
  ![v83.toNat, 0, 0]
def k0_off20 (v0 : BitVec 32) (v11 : BitVec 32) (v15 : BitVec 32) (k0_t4 : Fin (k0_t4_loop v0 v11 v15).trips) : Fin 1 → Nat :=
  let v12 : BitVec 32 := Scalar.subi v11 v0
  let v16 : BitVec 32 := Scalar.subi v15 v0
  let v18 : BitVec 32 := Scalar.subi v16 v12
  let c1_i32_2 : BitVec 32 := 1#32
  let v20 : BitVec 32 := Scalar.divsi v18 c1_i32_2
  let v21 : BitVec 32 := Scalar.muli v20 c1_i32_2
  let v22 : BitVec 32 := Scalar.addi v12 v21
  let c1_i32_4 : BitVec 32 := 1#32
  let arg8 : BitVec 32 := Scf.iv v22 c1_i32_4 k0_t4
  let c16_i32_42 : BitVec 32 := 16#32
  let v111 : BitVec 32 := Scalar.addi arg8 c16_i32_42
  let c16_i32_50 : BitVec 32 := 16#32
  let c0_i32_51 : BitVec 32 := 0#32
  let v123 : BitVec 1 := Scalar.cmpi .eq c16_i32_50 c0_i32_51
  let c1_i32_52 : BitVec 32 := 1#32
  let v124 : BitVec 32 := Scalar.select v123 c1_i32_52 c16_i32_50
  let v125 : BitVec 32 := Scalar.remsi v111 v124
  let c0_i32_54 : BitVec 32 := 0#32
  let v127 : BitVec 1 := Scalar.cmpi .slt v125 c0_i32_54
  let c0_i32_55 : BitVec 32 := 0#32
  let v128 : BitVec 1 := Scalar.cmpi .slt v124 c0_i32_55
  let v129 : BitVec 1 := Scalar.xori v127 v128
  let c0_i32_53 : BitVec 32 := 0#32
  let v126 : BitVec 1 := Scalar.cmpi .ne v125 c0_i32_53
  let v130 : BitVec 1 := Scalar.andi v129 v126
  let v131 : BitVec 32 := Scalar.addi v125 v124
  let v132 : BitVec 32 := Scalar.select v130 v131 v125
  ![v132.toNat]
def k0_cond5 (v0 : BitVec 32) (v1 : BitVec 32) (v11 : BitVec 32) (v15 : BitVec 32) (k0_t4 : Fin (k0_t4_loop v0 v11 v15).trips) : BitVec 1 :=
  let v12 : BitVec 32 := Scalar.subi v11 v0
  let v16 : BitVec 32 := Scalar.subi v15 v0
  let v18 : BitVec 32 := Scalar.subi v16 v12
  let c1_i32_2 : BitVec 32 := 1#32
  let v20 : BitVec 32 := Scalar.divsi v18 c1_i32_2
  let v21 : BitVec 32 := Scalar.muli v20 c1_i32_2
  let v22 : BitVec 32 := Scalar.addi v12 v21
  let c1_i32_4 : BitVec 32 := 1#32
  let arg8 : BitVec 32 := Scf.iv v22 c1_i32_4 k0_t4
  let c16_i32_40 : BitVec 32 := 16#32
  let v107 : BitVec 32 := Scalar.addi arg8 c16_i32_40
  let v2 : BitVec 32 := Scalar.subi v1 v0
  let v108 : BitVec 1 := Scalar.cmpi .slt v107 v2
  let v109 : BitVec 32 := Scalar.extui v108
  let c0_i32_41 : BitVec 32 := 0#32
  let v110 : BitVec 1 := Scalar.cmpi .ne v109 c0_i32_41
  v110

def k0_off21 (v0 : BitVec 32) (v11 : BitVec 32) (v15 : BitVec 32) (k0_t4 : Fin (k0_t4_loop v0 v11 v15).trips) : Fin 3 → Nat :=
  let v12 : BitVec 32 := Scalar.subi v11 v0
  let v16 : BitVec 32 := Scalar.subi v15 v0
  let v18 : BitVec 32 := Scalar.subi v16 v12
  let c1_i32_2 : BitVec 32 := 1#32
  let v20 : BitVec 32 := Scalar.divsi v18 c1_i32_2
  let v21 : BitVec 32 := Scalar.muli v20 c1_i32_2
  let v22 : BitVec 32 := Scalar.addi v12 v21
  let c1_i32_4 : BitVec 32 := 1#32
  let arg8 : BitVec 32 := Scf.iv v22 c1_i32_4 k0_t4
  let c16_i32_42 : BitVec 32 := 16#32
  let v111 : BitVec 32 := Scalar.addi arg8 c16_i32_42
  let c16_i32_44 : BitVec 32 := 16#32
  let c0_i32_45 : BitVec 32 := 0#32
  let v113 : BitVec 1 := Scalar.cmpi .eq c16_i32_44 c0_i32_45
  let c1_i32_46 : BitVec 32 := 1#32
  let v114 : BitVec 32 := Scalar.select v113 c1_i32_46 c16_i32_44
  let v115 : BitVec 32 := Scalar.remsi v111 v114
  let c0_i32_48 : BitVec 32 := 0#32
  let v117 : BitVec 1 := Scalar.cmpi .slt v115 c0_i32_48
  let c0_i32_49 : BitVec 32 := 0#32
  let v118 : BitVec 1 := Scalar.cmpi .slt v114 c0_i32_49
  let v119 : BitVec 1 := Scalar.xori v117 v118
  let c0_i32_47 : BitVec 32 := 0#32
  let v116 : BitVec 1 := Scalar.cmpi .ne v115 c0_i32_47
  let v120 : BitVec 1 := Scalar.andi v119 v116
  let v121 : BitVec 32 := Scalar.addi v115 v114
  let v122 : BitVec 32 := Scalar.select v120 v121 v115
  let c0_i32_56 : BitVec 32 := 0#32
  let c0_i32_57 : BitVec 32 := 0#32
  ![v122.toNat, 0, 0]
def k0_off22 (v0 : BitVec 32) (v11 : BitVec 32) (v15 : BitVec 32) (k0_t4 : Fin (k0_t4_loop v0 v11 v15).trips) : Fin 2 → Nat :=
  let v12 : BitVec 32 := Scalar.subi v11 v0
  let v16 : BitVec 32 := Scalar.subi v15 v0
  let v18 : BitVec 32 := Scalar.subi v16 v12
  let c1_i32_2 : BitVec 32 := 1#32
  let v20 : BitVec 32 := Scalar.divsi v18 c1_i32_2
  let v21 : BitVec 32 := Scalar.muli v20 c1_i32_2
  let v22 : BitVec 32 := Scalar.addi v12 v21
  let c1_i32_4 : BitVec 32 := 1#32
  let arg8 : BitVec 32 := Scf.iv v22 c1_i32_4 k0_t4
  let c16_i32_42 : BitVec 32 := 16#32
  let v111 : BitVec 32 := Scalar.addi arg8 c16_i32_42
  let c96_i32_43 : BitVec 32 := 96#32
  let v112 : BitVec 32 := Scalar.muli v111 c96_i32_43
  let c0_i32_58 : BitVec 32 := 0#32
  ![v112.toNat, 0]

def k0_chk2 (v0 : BitVec 32) (v1 : BitVec 32) (v11 : BitVec 32) (v15 : BitVec 32) : Prop :=
  ((k0_t3_loop v0 v11 v15).OK) ∧
  (∀ k0_t3 : Fin (k0_t3_loop v0 v11 v15).trips, ∀ a, (k0_off9 v0 v11 v15 k0_t3) a + S1.size a ≤ S16.size a) ∧
  (∀ k0_t3 : Fin (k0_t3_loop v0 v11 v15).trips, ∀ a, (k0_off10 v0 v11 v15 k0_t3) a + S1x96x128.size a ≤ S16x96x128.size a) ∧
  (∀ k0_t3 : Fin (k0_t3_loop v0 v11 v15).trips, ∀ a, (k0_off11 v0 v11 v15 k0_t3) a + S96x128.size a ≤ S374400x128.size a) ∧
  (∀ k0_t3 : Fin (k0_t3_loop v0 v11 v15).trips, ∀ a, (k0_off12 v0 v11 v15 k0_t3) a + S1x96x128.size a ≤ S16x96x128.size a) ∧
  (∀ k0_t3 : Fin (k0_t3_loop v0 v11 v15).trips, ∀ (k0_h3 : k0_cond3 v0 v1 v11 v15 k0_t3 = 1#1), ∀ a, (k0_off13 v0 v11 v15 k0_t3) a + S1.size a ≤ S16.size a) ∧
  (∀ k0_t3 : Fin (k0_t3_loop v0 v11 v15).trips, ∀ (k0_h3 : k0_cond3 v0 v1 v11 v15 k0_t3 = 1#1), ∀ a, (k0_off14 v0 v11 v15 k0_t3) a + S1x96x128.size a ≤ S16x96x128.size a) ∧
  (∀ k0_t3 : Fin (k0_t3_loop v0 v11 v15).trips, ∀ (k0_h3 : k0_cond3 v0 v1 v11 v15 k0_t3 = 1#1), ∀ a, (k0_off15 v0 v11 v15 k0_t3) a + S96x128.size a ≤ S374400x128.size a) ∧
  ((k0_t4_loop v0 v11 v15).OK) ∧
  (∀ k0_t4 : Fin (k0_t4_loop v0 v11 v15).trips, ∀ a, (k0_off16 v0 v11 v15 k0_t4) a + S1.size a ≤ S16.size a) ∧
  (∀ k0_t4 : Fin (k0_t4_loop v0 v11 v15).trips, ∀ a, (k0_off17 v0 v11 v15 k0_t4) a + S1x96x128.size a ≤ S16x96x128.size a) ∧
  (∀ k0_t4 : Fin (k0_t4_loop v0 v11 v15).trips, ∀ a, (k0_off18 v0 v11 v15 k0_t4) a + S96x128.size a ≤ S374400x128.size a) ∧
  (∀ k0_t4 : Fin (k0_t4_loop v0 v11 v15).trips, ∀ a, (k0_off19 v0 v11 v15 k0_t4) a + S1x96x128.size a ≤ S16x96x128.size a) ∧
  (∀ k0_t4 : Fin (k0_t4_loop v0 v11 v15).trips, ∀ (k0_h5 : k0_cond5 v0 v1 v11 v15 k0_t4 = 1#1), ∀ a, (k0_off20 v0 v11 v15 k0_t4) a + S1.size a ≤ S16.size a) ∧
  (∀ k0_t4 : Fin (k0_t4_loop v0 v11 v15).trips, ∀ (k0_h5 : k0_cond5 v0 v1 v11 v15 k0_t4 = 1#1), ∀ a, (k0_off21 v0 v11 v15 k0_t4) a + S1x96x128.size a ≤ S16x96x128.size a) ∧
  (∀ k0_t4 : Fin (k0_t4_loop v0 v11 v15).trips, ∀ (k0_h5 : k0_cond5 v0 v1 v11 v15 k0_t4 = 1#1), ∀ a, (k0_off22 v0 v11 v15 k0_t4) a + S96x128.size a ≤ S374400x128.size a)
theorem k0_t3_ok : ∀ (v0 : BitVec 32) (v1 : BitVec 32) (v11 : BitVec 32) (v15 : BitVec 32) (k0_hw2 : k0_chk2 v0 v1 v11 v15), (k0_t3_loop v0 v11 v15).OK := fun v0 v1 v11 v15 k0_hw2 => k0_hw2.1
theorem k0_off9_inb : ∀ (v0 : BitVec 32) (v1 : BitVec 32) (v11 : BitVec 32) (v15 : BitVec 32) (k0_hw2 : k0_chk2 v0 v1 v11 v15) (k0_t3 : Fin (k0_t3_loop v0 v11 v15).trips), ∀ a, (k0_off9 v0 v11 v15 k0_t3) a + S1.size a ≤ S16.size a := fun v0 v1 v11 v15 k0_hw2 k0_t3 => k0_hw2.2.1 k0_t3
theorem k0_off10_inb : ∀ (v0 : BitVec 32) (v1 : BitVec 32) (v11 : BitVec 32) (v15 : BitVec 32) (k0_hw2 : k0_chk2 v0 v1 v11 v15) (k0_t3 : Fin (k0_t3_loop v0 v11 v15).trips), ∀ a, (k0_off10 v0 v11 v15 k0_t3) a + S1x96x128.size a ≤ S16x96x128.size a := fun v0 v1 v11 v15 k0_hw2 k0_t3 => k0_hw2.2.2.1 k0_t3
theorem k0_off11_inb : ∀ (v0 : BitVec 32) (v1 : BitVec 32) (v11 : BitVec 32) (v15 : BitVec 32) (k0_hw2 : k0_chk2 v0 v1 v11 v15) (k0_t3 : Fin (k0_t3_loop v0 v11 v15).trips), ∀ a, (k0_off11 v0 v11 v15 k0_t3) a + S96x128.size a ≤ S374400x128.size a := fun v0 v1 v11 v15 k0_hw2 k0_t3 => k0_hw2.2.2.2.1 k0_t3
theorem k0_off12_inb : ∀ (v0 : BitVec 32) (v1 : BitVec 32) (v11 : BitVec 32) (v15 : BitVec 32) (k0_hw2 : k0_chk2 v0 v1 v11 v15) (k0_t3 : Fin (k0_t3_loop v0 v11 v15).trips), ∀ a, (k0_off12 v0 v11 v15 k0_t3) a + S1x96x128.size a ≤ S16x96x128.size a := fun v0 v1 v11 v15 k0_hw2 k0_t3 => k0_hw2.2.2.2.2.1 k0_t3
theorem k0_off13_inb : ∀ (v0 : BitVec 32) (v1 : BitVec 32) (v11 : BitVec 32) (v15 : BitVec 32) (k0_hw2 : k0_chk2 v0 v1 v11 v15) (k0_t3 : Fin (k0_t3_loop v0 v11 v15).trips), ∀ (k0_h3 : k0_cond3 v0 v1 v11 v15 k0_t3 = 1#1), ∀ a, (k0_off13 v0 v11 v15 k0_t3) a + S1.size a ≤ S16.size a := fun v0 v1 v11 v15 k0_hw2 k0_t3 k0_h3 => k0_hw2.2.2.2.2.2.1 k0_t3 k0_h3
theorem k0_off14_inb : ∀ (v0 : BitVec 32) (v1 : BitVec 32) (v11 : BitVec 32) (v15 : BitVec 32) (k0_hw2 : k0_chk2 v0 v1 v11 v15) (k0_t3 : Fin (k0_t3_loop v0 v11 v15).trips), ∀ (k0_h3 : k0_cond3 v0 v1 v11 v15 k0_t3 = 1#1), ∀ a, (k0_off14 v0 v11 v15 k0_t3) a + S1x96x128.size a ≤ S16x96x128.size a := fun v0 v1 v11 v15 k0_hw2 k0_t3 k0_h3 => k0_hw2.2.2.2.2.2.2.1 k0_t3 k0_h3
theorem k0_off15_inb : ∀ (v0 : BitVec 32) (v1 : BitVec 32) (v11 : BitVec 32) (v15 : BitVec 32) (k0_hw2 : k0_chk2 v0 v1 v11 v15) (k0_t3 : Fin (k0_t3_loop v0 v11 v15).trips), ∀ (k0_h3 : k0_cond3 v0 v1 v11 v15 k0_t3 = 1#1), ∀ a, (k0_off15 v0 v11 v15 k0_t3) a + S96x128.size a ≤ S374400x128.size a := fun v0 v1 v11 v15 k0_hw2 k0_t3 k0_h3 => k0_hw2.2.2.2.2.2.2.2.1 k0_t3 k0_h3
theorem k0_t4_ok : ∀ (v0 : BitVec 32) (v1 : BitVec 32) (v11 : BitVec 32) (v15 : BitVec 32) (k0_hw2 : k0_chk2 v0 v1 v11 v15), (k0_t4_loop v0 v11 v15).OK := fun v0 v1 v11 v15 k0_hw2 => k0_hw2.2.2.2.2.2.2.2.2.1
theorem k0_off16_inb : ∀ (v0 : BitVec 32) (v1 : BitVec 32) (v11 : BitVec 32) (v15 : BitVec 32) (k0_hw2 : k0_chk2 v0 v1 v11 v15) (k0_t4 : Fin (k0_t4_loop v0 v11 v15).trips), ∀ a, (k0_off16 v0 v11 v15 k0_t4) a + S1.size a ≤ S16.size a := fun v0 v1 v11 v15 k0_hw2 k0_t4 => k0_hw2.2.2.2.2.2.2.2.2.2.1 k0_t4
theorem k0_off17_inb : ∀ (v0 : BitVec 32) (v1 : BitVec 32) (v11 : BitVec 32) (v15 : BitVec 32) (k0_hw2 : k0_chk2 v0 v1 v11 v15) (k0_t4 : Fin (k0_t4_loop v0 v11 v15).trips), ∀ a, (k0_off17 v0 v11 v15 k0_t4) a + S1x96x128.size a ≤ S16x96x128.size a := fun v0 v1 v11 v15 k0_hw2 k0_t4 => k0_hw2.2.2.2.2.2.2.2.2.2.2.1 k0_t4
theorem k0_off18_inb : ∀ (v0 : BitVec 32) (v1 : BitVec 32) (v11 : BitVec 32) (v15 : BitVec 32) (k0_hw2 : k0_chk2 v0 v1 v11 v15) (k0_t4 : Fin (k0_t4_loop v0 v11 v15).trips), ∀ a, (k0_off18 v0 v11 v15 k0_t4) a + S96x128.size a ≤ S374400x128.size a := fun v0 v1 v11 v15 k0_hw2 k0_t4 => k0_hw2.2.2.2.2.2.2.2.2.2.2.2.1 k0_t4
theorem k0_off19_inb : ∀ (v0 : BitVec 32) (v1 : BitVec 32) (v11 : BitVec 32) (v15 : BitVec 32) (k0_hw2 : k0_chk2 v0 v1 v11 v15) (k0_t4 : Fin (k0_t4_loop v0 v11 v15).trips), ∀ a, (k0_off19 v0 v11 v15 k0_t4) a + S1x96x128.size a ≤ S16x96x128.size a := fun v0 v1 v11 v15 k0_hw2 k0_t4 => k0_hw2.2.2.2.2.2.2.2.2.2.2.2.2.1 k0_t4
theorem k0_off20_inb : ∀ (v0 : BitVec 32) (v1 : BitVec 32) (v11 : BitVec 32) (v15 : BitVec 32) (k0_hw2 : k0_chk2 v0 v1 v11 v15) (k0_t4 : Fin (k0_t4_loop v0 v11 v15).trips), ∀ (k0_h5 : k0_cond5 v0 v1 v11 v15 k0_t4 = 1#1), ∀ a, (k0_off20 v0 v11 v15 k0_t4) a + S1.size a ≤ S16.size a := fun v0 v1 v11 v15 k0_hw2 k0_t4 k0_h5 => k0_hw2.2.2.2.2.2.2.2.2.2.2.2.2.2.1 k0_t4 k0_h5
theorem k0_off21_inb : ∀ (v0 : BitVec 32) (v1 : BitVec 32) (v11 : BitVec 32) (v15 : BitVec 32) (k0_hw2 : k0_chk2 v0 v1 v11 v15) (k0_t4 : Fin (k0_t4_loop v0 v11 v15).trips), ∀ (k0_h5 : k0_cond5 v0 v1 v11 v15 k0_t4 = 1#1), ∀ a, (k0_off21 v0 v11 v15 k0_t4) a + S1x96x128.size a ≤ S16x96x128.size a := fun v0 v1 v11 v15 k0_hw2 k0_t4 k0_h5 => k0_hw2.2.2.2.2.2.2.2.2.2.2.2.2.2.2.1 k0_t4 k0_h5
theorem k0_off22_inb : ∀ (v0 : BitVec 32) (v1 : BitVec 32) (v11 : BitVec 32) (v15 : BitVec 32) (k0_hw2 : k0_chk2 v0 v1 v11 v15) (k0_t4 : Fin (k0_t4_loop v0 v11 v15).trips), ∀ (k0_h5 : k0_cond5 v0 v1 v11 v15 k0_t4 = 1#1), ∀ a, (k0_off22 v0 v11 v15 k0_t4) a + S96x128.size a ≤ S374400x128.size a := fun v0 v1 v11 v15 k0_hw2 k0_t4 k0_h5 => k0_hw2.2.2.2.2.2.2.2.2.2.2.2.2.2.2.2 k0_t4 k0_h5

def k0_off23 (i : grid0.Coords) : Fin 1 → Nat :=
  let c224_i32_6 : BitVec 32 := 224#32
  let arg0 : BitVec 32 := BitVec.ofNat 32 (i 0).val
  let v27 : BitVec 32 := Scalar.addi c224_i32_6 arg0
  let c2_i32_7 : BitVec 32 := 2#32
  let v28 : BitVec 32 := Scalar.muli v27 c2_i32_7
  let c1_i32_8 : BitVec 32 := 1#32
  let v29 : BitVec 32 := Scalar.addi v28 c1_i32_8
  let v30 : Index := Scalar.indexCast v29
  ![v30.toNat]
def k0_off24 (i : grid0.Coords) : Fin 1 → Nat :=
  let c224_i32_6 : BitVec 32 := 224#32
  let arg0 : BitVec 32 := BitVec.ofNat 32 (i 0).val
  let v27 : BitVec 32 := Scalar.addi c224_i32_6 arg0
  let c2_i32_7 : BitVec 32 := 2#32
  let v28 : BitVec 32 := Scalar.muli v27 c2_i32_7
  let c1_i32_8 : BitVec 32 := 1#32
  let v29 : BitVec 32 := Scalar.addi v28 c1_i32_8
  let c1_i32_9 : BitVec 32 := 1#32
  let v33 : BitVec 32 := Scalar.addi v29 c1_i32_9
  let v34 : Index := Scalar.indexCast v33
  ![v34.toNat]
@[reducible] def k0_t5_loop (v0 : BitVec 32) (v31 : BitVec 32) (v35 : BitVec 32) : Scf.Loop 32 :=
  let v32 : BitVec 32 := Scalar.subi v31 v0
  let v36 : BitVec 32 := Scalar.subi v35 v0
  let v38 : BitVec 32 := Scalar.subi v36 v32
  let c1_i32_11 : BitVec 32 := 1#32
  let v40 : BitVec 32 := Scalar.divsi v38 c1_i32_11
  let v41 : BitVec 32 := Scalar.muli v40 c1_i32_11
  let v42 : BitVec 32 := Scalar.addi v32 v41
  let c1_i32_12 : BitVec 32 := 1#32
  ⟨v32, v42, c1_i32_12⟩

def k0_off25 (v0 : BitVec 32) (v31 : BitVec 32) (v35 : BitVec 32) (k0_t5 : Fin (k0_t5_loop v0 v31 v35).trips) : Fin 1 → Nat :=
  let v32 : BitVec 32 := Scalar.subi v31 v0
  let c1_i32_12 : BitVec 32 := 1#32
  let arg8 : BitVec 32 := Scf.iv v32 c1_i32_12 k0_t5
  let c16_i32_20 : BitVec 32 := 16#32
  let c0_i32_21 : BitVec 32 := 0#32
  let v58 : BitVec 1 := Scalar.cmpi .eq c16_i32_20 c0_i32_21
  let c1_i32_22 : BitVec 32 := 1#32
  let v59 : BitVec 32 := Scalar.select v58 c1_i32_22 c16_i32_20
  let v60 : BitVec 32 := Scalar.remsi arg8 v59
  let c0_i32_24 : BitVec 32 := 0#32
  let v62 : BitVec 1 := Scalar.cmpi .slt v60 c0_i32_24
  let c0_i32_25 : BitVec 32 := 0#32
  let v63 : BitVec 1 := Scalar.cmpi .slt v59 c0_i32_25
  let v64 : BitVec 1 := Scalar.xori v62 v63
  let c0_i32_23 : BitVec 32 := 0#32
  let v61 : BitVec 1 := Scalar.cmpi .ne v60 c0_i32_23
  let v65 : BitVec 1 := Scalar.andi v64 v61
  let v66 : BitVec 32 := Scalar.addi v60 v59
  let v67 : BitVec 32 := Scalar.select v65 v66 v60
  ![v67.toNat]
def k0_off26 (v0 : BitVec 32) (v31 : BitVec 32) (v35 : BitVec 32) (k0_t5 : Fin (k0_t5_loop v0 v31 v35).trips) : Fin 3 → Nat :=
  let v32 : BitVec 32 := Scalar.subi v31 v0
  let c1_i32_12 : BitVec 32 := 1#32
  let arg8 : BitVec 32 := Scf.iv v32 c1_i32_12 k0_t5
  let c16_i32 : BitVec 32 := 16#32
  let c0_i32_15 : BitVec 32 := 0#32
  let v48 : BitVec 1 := Scalar.cmpi .eq c16_i32 c0_i32_15
  let c1_i32_16 : BitVec 32 := 1#32
  let v49 : BitVec 32 := Scalar.select v48 c1_i32_16 c16_i32
  let v50 : BitVec 32 := Scalar.remsi arg8 v49
  let c0_i32_18 : BitVec 32 := 0#32
  let v52 : BitVec 1 := Scalar.cmpi .slt v50 c0_i32_18
  let c0_i32_19 : BitVec 32 := 0#32
  let v53 : BitVec 1 := Scalar.cmpi .slt v49 c0_i32_19
  let v54 : BitVec 1 := Scalar.xori v52 v53
  let c0_i32_17 : BitVec 32 := 0#32
  let v51 : BitVec 1 := Scalar.cmpi .ne v50 c0_i32_17
  let v55 : BitVec 1 := Scalar.andi v54 v51
  let v56 : BitVec 32 := Scalar.addi v50 v49
  let v57 : BitVec 32 := Scalar.select v55 v56 v50
  let c0_i32_26 : BitVec 32 := 0#32
  let c0_i32_27 : BitVec 32 := 0#32
  ![v57.toNat, 0, 0]
def k0_off27 (v0 : BitVec 32) (v31 : BitVec 32) (v35 : BitVec 32) (k0_t5 : Fin (k0_t5_loop v0 v31 v35).trips) : Fin 2 → Nat :=
  let v32 : BitVec 32 := Scalar.subi v31 v0
  let c1_i32_12 : BitVec 32 := 1#32
  let arg8 : BitVec 32 := Scf.iv v32 c1_i32_12 k0_t5
  let c96_i32 : BitVec 32 := 96#32
  let v47 : BitVec 32 := Scalar.muli arg8 c96_i32
  let c0_i32_28 : BitVec 32 := 0#32
  ![v47.toNat, 0]
def k0_off28 (v0 : BitVec 32) (v31 : BitVec 32) (v35 : BitVec 32) (k0_t5 : Fin (k0_t5_loop v0 v31 v35).trips) : Fin 3 → Nat :=
  let v32 : BitVec 32 := Scalar.subi v31 v0
  let c1_i32_12 : BitVec 32 := 1#32
  let arg8 : BitVec 32 := Scf.iv v32 c1_i32_12 k0_t5
  let c16_i32_29 : BitVec 32 := 16#32
  let c0_i32_30 : BitVec 32 := 0#32
  let v73 : BitVec 1 := Scalar.cmpi .eq c16_i32_29 c0_i32_30
  let c1_i32_31 : BitVec 32 := 1#32
  let v74 : BitVec 32 := Scalar.select v73 c1_i32_31 c16_i32_29
  let v75 : BitVec 32 := Scalar.remsi arg8 v74
  let c0_i32_33 : BitVec 32 := 0#32
  let v77 : BitVec 1 := Scalar.cmpi .slt v75 c0_i32_33
  let c0_i32_34 : BitVec 32 := 0#32
  let v78 : BitVec 1 := Scalar.cmpi .slt v74 c0_i32_34
  let v79 : BitVec 1 := Scalar.xori v77 v78
  let c0_i32_32 : BitVec 32 := 0#32
  let v76 : BitVec 1 := Scalar.cmpi .ne v75 c0_i32_32
  let v80 : BitVec 1 := Scalar.andi v79 v76
  let v81 : BitVec 32 := Scalar.addi v75 v74
  let v82 : BitVec 32 := Scalar.select v80 v81 v75
  let v83 : Index := Scalar.indexCast v82
  let c0_35 : Index := 0#32
  let c0_36 : Index := 0#32
  ![v83.toNat, 0, 0]
def k0_off29 (v0 : BitVec 32) (v31 : BitVec 32) (v35 : BitVec 32) (k0_t5 : Fin (k0_t5_loop v0 v31 v35).trips) : Fin 1 → Nat :=
  let v32 : BitVec 32 := Scalar.subi v31 v0
  let c1_i32_12 : BitVec 32 := 1#32
  let arg8 : BitVec 32 := Scf.iv v32 c1_i32_12 k0_t5
  let c16_i32_42 : BitVec 32 := 16#32
  let v111 : BitVec 32 := Scalar.addi arg8 c16_i32_42
  let c16_i32_50 : BitVec 32 := 16#32
  let c0_i32_51 : BitVec 32 := 0#32
  let v123 : BitVec 1 := Scalar.cmpi .eq c16_i32_50 c0_i32_51
  let c1_i32_52 : BitVec 32 := 1#32
  let v124 : BitVec 32 := Scalar.select v123 c1_i32_52 c16_i32_50
  let v125 : BitVec 32 := Scalar.remsi v111 v124
  let c0_i32_54 : BitVec 32 := 0#32
  let v127 : BitVec 1 := Scalar.cmpi .slt v125 c0_i32_54
  let c0_i32_55 : BitVec 32 := 0#32
  let v128 : BitVec 1 := Scalar.cmpi .slt v124 c0_i32_55
  let v129 : BitVec 1 := Scalar.xori v127 v128
  let c0_i32_53 : BitVec 32 := 0#32
  let v126 : BitVec 1 := Scalar.cmpi .ne v125 c0_i32_53
  let v130 : BitVec 1 := Scalar.andi v129 v126
  let v131 : BitVec 32 := Scalar.addi v125 v124
  let v132 : BitVec 32 := Scalar.select v130 v131 v125
  ![v132.toNat]
def k0_cond7 (v0 : BitVec 32) (v1 : BitVec 32) (v31 : BitVec 32) (v35 : BitVec 32) (k0_t5 : Fin (k0_t5_loop v0 v31 v35).trips) : BitVec 1 :=
  let v32 : BitVec 32 := Scalar.subi v31 v0
  let c1_i32_12 : BitVec 32 := 1#32
  let arg8 : BitVec 32 := Scf.iv v32 c1_i32_12 k0_t5
  let c16_i32_40 : BitVec 32 := 16#32
  let v107 : BitVec 32 := Scalar.addi arg8 c16_i32_40
  let v2 : BitVec 32 := Scalar.subi v1 v0
  let v108 : BitVec 1 := Scalar.cmpi .slt v107 v2
  let v109 : BitVec 32 := Scalar.extui v108
  let c0_i32_41 : BitVec 32 := 0#32
  let v110 : BitVec 1 := Scalar.cmpi .ne v109 c0_i32_41
  v110

def k0_off30 (v0 : BitVec 32) (v31 : BitVec 32) (v35 : BitVec 32) (k0_t5 : Fin (k0_t5_loop v0 v31 v35).trips) : Fin 3 → Nat :=
  let v32 : BitVec 32 := Scalar.subi v31 v0
  let c1_i32_12 : BitVec 32 := 1#32
  let arg8 : BitVec 32 := Scf.iv v32 c1_i32_12 k0_t5
  let c16_i32_42 : BitVec 32 := 16#32
  let v111 : BitVec 32 := Scalar.addi arg8 c16_i32_42
  let c16_i32_44 : BitVec 32 := 16#32
  let c0_i32_45 : BitVec 32 := 0#32
  let v113 : BitVec 1 := Scalar.cmpi .eq c16_i32_44 c0_i32_45
  let c1_i32_46 : BitVec 32 := 1#32
  let v114 : BitVec 32 := Scalar.select v113 c1_i32_46 c16_i32_44
  let v115 : BitVec 32 := Scalar.remsi v111 v114
  let c0_i32_48 : BitVec 32 := 0#32
  let v117 : BitVec 1 := Scalar.cmpi .slt v115 c0_i32_48
  let c0_i32_49 : BitVec 32 := 0#32
  let v118 : BitVec 1 := Scalar.cmpi .slt v114 c0_i32_49
  let v119 : BitVec 1 := Scalar.xori v117 v118
  let c0_i32_47 : BitVec 32 := 0#32
  let v116 : BitVec 1 := Scalar.cmpi .ne v115 c0_i32_47
  let v120 : BitVec 1 := Scalar.andi v119 v116
  let v121 : BitVec 32 := Scalar.addi v115 v114
  let v122 : BitVec 32 := Scalar.select v120 v121 v115
  let c0_i32_56 : BitVec 32 := 0#32
  let c0_i32_57 : BitVec 32 := 0#32
  ![v122.toNat, 0, 0]
def k0_off31 (v0 : BitVec 32) (v31 : BitVec 32) (v35 : BitVec 32) (k0_t5 : Fin (k0_t5_loop v0 v31 v35).trips) : Fin 2 → Nat :=
  let v32 : BitVec 32 := Scalar.subi v31 v0
  let c1_i32_12 : BitVec 32 := 1#32
  let arg8 : BitVec 32 := Scf.iv v32 c1_i32_12 k0_t5
  let c16_i32_42 : BitVec 32 := 16#32
  let v111 : BitVec 32 := Scalar.addi arg8 c16_i32_42
  let c96_i32_43 : BitVec 32 := 96#32
  let v112 : BitVec 32 := Scalar.muli v111 c96_i32_43
  let c0_i32_58 : BitVec 32 := 0#32
  ![v112.toNat, 0]
@[reducible] def k0_t6_loop (v0 : BitVec 32) (v31 : BitVec 32) (v35 : BitVec 32) : Scf.Loop 32 :=
  let v32 : BitVec 32 := Scalar.subi v31 v0
  let v36 : BitVec 32 := Scalar.subi v35 v0
  let v38 : BitVec 32 := Scalar.subi v36 v32
  let c1_i32_11 : BitVec 32 := 1#32
  let v40 : BitVec 32 := Scalar.divsi v38 c1_i32_11
  let v41 : BitVec 32 := Scalar.muli v40 c1_i32_11
  let v42 : BitVec 32 := Scalar.addi v32 v41
  let v39 : BitVec 32 := Scalar.addi v32 v38
  let c1_i32_13 : BitVec 32 := 1#32
  ⟨v42, v39, c1_i32_13⟩
def k0_off32 (v0 : BitVec 32) (v31 : BitVec 32) (v35 : BitVec 32) (k0_t6 : Fin (k0_t6_loop v0 v31 v35).trips) : Fin 1 → Nat :=
  let v32 : BitVec 32 := Scalar.subi v31 v0
  let v36 : BitVec 32 := Scalar.subi v35 v0
  let v38 : BitVec 32 := Scalar.subi v36 v32
  let c1_i32_11 : BitVec 32 := 1#32
  let v40 : BitVec 32 := Scalar.divsi v38 c1_i32_11
  let v41 : BitVec 32 := Scalar.muli v40 c1_i32_11
  let v42 : BitVec 32 := Scalar.addi v32 v41
  let c1_i32_13 : BitVec 32 := 1#32
  let arg8 : BitVec 32 := Scf.iv v42 c1_i32_13 k0_t6
  let c16_i32_20 : BitVec 32 := 16#32
  let c0_i32_21 : BitVec 32 := 0#32
  let v58 : BitVec 1 := Scalar.cmpi .eq c16_i32_20 c0_i32_21
  let c1_i32_22 : BitVec 32 := 1#32
  let v59 : BitVec 32 := Scalar.select v58 c1_i32_22 c16_i32_20
  let v60 : BitVec 32 := Scalar.remsi arg8 v59
  let c0_i32_24 : BitVec 32 := 0#32
  let v62 : BitVec 1 := Scalar.cmpi .slt v60 c0_i32_24
  let c0_i32_25 : BitVec 32 := 0#32
  let v63 : BitVec 1 := Scalar.cmpi .slt v59 c0_i32_25
  let v64 : BitVec 1 := Scalar.xori v62 v63
  let c0_i32_23 : BitVec 32 := 0#32
  let v61 : BitVec 1 := Scalar.cmpi .ne v60 c0_i32_23
  let v65 : BitVec 1 := Scalar.andi v64 v61
  let v66 : BitVec 32 := Scalar.addi v60 v59
  let v67 : BitVec 32 := Scalar.select v65 v66 v60
  ![v67.toNat]
def k0_off33 (v0 : BitVec 32) (v31 : BitVec 32) (v35 : BitVec 32) (k0_t6 : Fin (k0_t6_loop v0 v31 v35).trips) : Fin 3 → Nat :=
  let v32 : BitVec 32 := Scalar.subi v31 v0
  let v36 : BitVec 32 := Scalar.subi v35 v0
  let v38 : BitVec 32 := Scalar.subi v36 v32
  let c1_i32_11 : BitVec 32 := 1#32
  let v40 : BitVec 32 := Scalar.divsi v38 c1_i32_11
  let v41 : BitVec 32 := Scalar.muli v40 c1_i32_11
  let v42 : BitVec 32 := Scalar.addi v32 v41
  let c1_i32_13 : BitVec 32 := 1#32
  let arg8 : BitVec 32 := Scf.iv v42 c1_i32_13 k0_t6
  let c16_i32 : BitVec 32 := 16#32
  let c0_i32_15 : BitVec 32 := 0#32
  let v48 : BitVec 1 := Scalar.cmpi .eq c16_i32 c0_i32_15
  let c1_i32_16 : BitVec 32 := 1#32
  let v49 : BitVec 32 := Scalar.select v48 c1_i32_16 c16_i32
  let v50 : BitVec 32 := Scalar.remsi arg8 v49
  let c0_i32_18 : BitVec 32 := 0#32
  let v52 : BitVec 1 := Scalar.cmpi .slt v50 c0_i32_18
  let c0_i32_19 : BitVec 32 := 0#32
  let v53 : BitVec 1 := Scalar.cmpi .slt v49 c0_i32_19
  let v54 : BitVec 1 := Scalar.xori v52 v53
  let c0_i32_17 : BitVec 32 := 0#32
  let v51 : BitVec 1 := Scalar.cmpi .ne v50 c0_i32_17
  let v55 : BitVec 1 := Scalar.andi v54 v51
  let v56 : BitVec 32 := Scalar.addi v50 v49
  let v57 : BitVec 32 := Scalar.select v55 v56 v50
  let c0_i32_26 : BitVec 32 := 0#32
  let c0_i32_27 : BitVec 32 := 0#32
  ![v57.toNat, 0, 0]
def k0_off34 (v0 : BitVec 32) (v31 : BitVec 32) (v35 : BitVec 32) (k0_t6 : Fin (k0_t6_loop v0 v31 v35).trips) : Fin 2 → Nat :=
  let v32 : BitVec 32 := Scalar.subi v31 v0
  let v36 : BitVec 32 := Scalar.subi v35 v0
  let v38 : BitVec 32 := Scalar.subi v36 v32
  let c1_i32_11 : BitVec 32 := 1#32
  let v40 : BitVec 32 := Scalar.divsi v38 c1_i32_11
  let v41 : BitVec 32 := Scalar.muli v40 c1_i32_11
  let v42 : BitVec 32 := Scalar.addi v32 v41
  let c1_i32_13 : BitVec 32 := 1#32
  let arg8 : BitVec 32 := Scf.iv v42 c1_i32_13 k0_t6
  let c96_i32 : BitVec 32 := 96#32
  let v47 : BitVec 32 := Scalar.muli arg8 c96_i32
  let c0_i32_28 : BitVec 32 := 0#32
  ![v47.toNat, 0]
def k0_off35 (v0 : BitVec 32) (v31 : BitVec 32) (v35 : BitVec 32) (k0_t6 : Fin (k0_t6_loop v0 v31 v35).trips) : Fin 3 → Nat :=
  let v32 : BitVec 32 := Scalar.subi v31 v0
  let v36 : BitVec 32 := Scalar.subi v35 v0
  let v38 : BitVec 32 := Scalar.subi v36 v32
  let c1_i32_11 : BitVec 32 := 1#32
  let v40 : BitVec 32 := Scalar.divsi v38 c1_i32_11
  let v41 : BitVec 32 := Scalar.muli v40 c1_i32_11
  let v42 : BitVec 32 := Scalar.addi v32 v41
  let c1_i32_13 : BitVec 32 := 1#32
  let arg8 : BitVec 32 := Scf.iv v42 c1_i32_13 k0_t6
  let c16_i32_29 : BitVec 32 := 16#32
  let c0_i32_30 : BitVec 32 := 0#32
  let v73 : BitVec 1 := Scalar.cmpi .eq c16_i32_29 c0_i32_30
  let c1_i32_31 : BitVec 32 := 1#32
  let v74 : BitVec 32 := Scalar.select v73 c1_i32_31 c16_i32_29
  let v75 : BitVec 32 := Scalar.remsi arg8 v74
  let c0_i32_33 : BitVec 32 := 0#32
  let v77 : BitVec 1 := Scalar.cmpi .slt v75 c0_i32_33
  let c0_i32_34 : BitVec 32 := 0#32
  let v78 : BitVec 1 := Scalar.cmpi .slt v74 c0_i32_34
  let v79 : BitVec 1 := Scalar.xori v77 v78
  let c0_i32_32 : BitVec 32 := 0#32
  let v76 : BitVec 1 := Scalar.cmpi .ne v75 c0_i32_32
  let v80 : BitVec 1 := Scalar.andi v79 v76
  let v81 : BitVec 32 := Scalar.addi v75 v74
  let v82 : BitVec 32 := Scalar.select v80 v81 v75
  let v83 : Index := Scalar.indexCast v82
  let c0_35 : Index := 0#32
  let c0_36 : Index := 0#32
  ![v83.toNat, 0, 0]
def k0_off36 (v0 : BitVec 32) (v31 : BitVec 32) (v35 : BitVec 32) (k0_t6 : Fin (k0_t6_loop v0 v31 v35).trips) : Fin 1 → Nat :=
  let v32 : BitVec 32 := Scalar.subi v31 v0
  let v36 : BitVec 32 := Scalar.subi v35 v0
  let v38 : BitVec 32 := Scalar.subi v36 v32
  let c1_i32_11 : BitVec 32 := 1#32
  let v40 : BitVec 32 := Scalar.divsi v38 c1_i32_11
  let v41 : BitVec 32 := Scalar.muli v40 c1_i32_11
  let v42 : BitVec 32 := Scalar.addi v32 v41
  let c1_i32_13 : BitVec 32 := 1#32
  let arg8 : BitVec 32 := Scf.iv v42 c1_i32_13 k0_t6
  let c16_i32_42 : BitVec 32 := 16#32
  let v111 : BitVec 32 := Scalar.addi arg8 c16_i32_42
  let c16_i32_50 : BitVec 32 := 16#32
  let c0_i32_51 : BitVec 32 := 0#32
  let v123 : BitVec 1 := Scalar.cmpi .eq c16_i32_50 c0_i32_51
  let c1_i32_52 : BitVec 32 := 1#32
  let v124 : BitVec 32 := Scalar.select v123 c1_i32_52 c16_i32_50
  let v125 : BitVec 32 := Scalar.remsi v111 v124
  let c0_i32_54 : BitVec 32 := 0#32
  let v127 : BitVec 1 := Scalar.cmpi .slt v125 c0_i32_54
  let c0_i32_55 : BitVec 32 := 0#32
  let v128 : BitVec 1 := Scalar.cmpi .slt v124 c0_i32_55
  let v129 : BitVec 1 := Scalar.xori v127 v128
  let c0_i32_53 : BitVec 32 := 0#32
  let v126 : BitVec 1 := Scalar.cmpi .ne v125 c0_i32_53
  let v130 : BitVec 1 := Scalar.andi v129 v126
  let v131 : BitVec 32 := Scalar.addi v125 v124
  let v132 : BitVec 32 := Scalar.select v130 v131 v125
  ![v132.toNat]
def k0_cond9 (v0 : BitVec 32) (v1 : BitVec 32) (v31 : BitVec 32) (v35 : BitVec 32) (k0_t6 : Fin (k0_t6_loop v0 v31 v35).trips) : BitVec 1 :=
  let v32 : BitVec 32 := Scalar.subi v31 v0
  let v36 : BitVec 32 := Scalar.subi v35 v0
  let v38 : BitVec 32 := Scalar.subi v36 v32
  let c1_i32_11 : BitVec 32 := 1#32
  let v40 : BitVec 32 := Scalar.divsi v38 c1_i32_11
  let v41 : BitVec 32 := Scalar.muli v40 c1_i32_11
  let v42 : BitVec 32 := Scalar.addi v32 v41
  let c1_i32_13 : BitVec 32 := 1#32
  let arg8 : BitVec 32 := Scf.iv v42 c1_i32_13 k0_t6
  let c16_i32_40 : BitVec 32 := 16#32
  let v107 : BitVec 32 := Scalar.addi arg8 c16_i32_40
  let v2 : BitVec 32 := Scalar.subi v1 v0
  let v108 : BitVec 1 := Scalar.cmpi .slt v107 v2
  let v109 : BitVec 32 := Scalar.extui v108
  let c0_i32_41 : BitVec 32 := 0#32
  let v110 : BitVec 1 := Scalar.cmpi .ne v109 c0_i32_41
  v110

def k0_off37 (v0 : BitVec 32) (v31 : BitVec 32) (v35 : BitVec 32) (k0_t6 : Fin (k0_t6_loop v0 v31 v35).trips) : Fin 3 → Nat :=
  let v32 : BitVec 32 := Scalar.subi v31 v0
  let v36 : BitVec 32 := Scalar.subi v35 v0
  let v38 : BitVec 32 := Scalar.subi v36 v32
  let c1_i32_11 : BitVec 32 := 1#32
  let v40 : BitVec 32 := Scalar.divsi v38 c1_i32_11
  let v41 : BitVec 32 := Scalar.muli v40 c1_i32_11
  let v42 : BitVec 32 := Scalar.addi v32 v41
  let c1_i32_13 : BitVec 32 := 1#32
  let arg8 : BitVec 32 := Scf.iv v42 c1_i32_13 k0_t6
  let c16_i32_42 : BitVec 32 := 16#32
  let v111 : BitVec 32 := Scalar.addi arg8 c16_i32_42
  let c16_i32_44 : BitVec 32 := 16#32
  let c0_i32_45 : BitVec 32 := 0#32
  let v113 : BitVec 1 := Scalar.cmpi .eq c16_i32_44 c0_i32_45
  let c1_i32_46 : BitVec 32 := 1#32
  let v114 : BitVec 32 := Scalar.select v113 c1_i32_46 c16_i32_44
  let v115 : BitVec 32 := Scalar.remsi v111 v114
  let c0_i32_48 : BitVec 32 := 0#32
  let v117 : BitVec 1 := Scalar.cmpi .slt v115 c0_i32_48
  let c0_i32_49 : BitVec 32 := 0#32
  let v118 : BitVec 1 := Scalar.cmpi .slt v114 c0_i32_49
  let v119 : BitVec 1 := Scalar.xori v117 v118
  let c0_i32_47 : BitVec 32 := 0#32
  let v116 : BitVec 1 := Scalar.cmpi .ne v115 c0_i32_47
  let v120 : BitVec 1 := Scalar.andi v119 v116
  let v121 : BitVec 32 := Scalar.addi v115 v114
  let v122 : BitVec 32 := Scalar.select v120 v121 v115
  let c0_i32_56 : BitVec 32 := 0#32
  let c0_i32_57 : BitVec 32 := 0#32
  ![v122.toNat, 0, 0]
def k0_off38 (v0 : BitVec 32) (v31 : BitVec 32) (v35 : BitVec 32) (k0_t6 : Fin (k0_t6_loop v0 v31 v35).trips) : Fin 2 → Nat :=
  let v32 : BitVec 32 := Scalar.subi v31 v0
  let v36 : BitVec 32 := Scalar.subi v35 v0
  let v38 : BitVec 32 := Scalar.subi v36 v32
  let c1_i32_11 : BitVec 32 := 1#32
  let v40 : BitVec 32 := Scalar.divsi v38 c1_i32_11
  let v41 : BitVec 32 := Scalar.muli v40 c1_i32_11
  let v42 : BitVec 32 := Scalar.addi v32 v41
  let c1_i32_13 : BitVec 32 := 1#32
  let arg8 : BitVec 32 := Scf.iv v42 c1_i32_13 k0_t6
  let c16_i32_42 : BitVec 32 := 16#32
  let v111 : BitVec 32 := Scalar.addi arg8 c16_i32_42
  let c96_i32_43 : BitVec 32 := 96#32
  let v112 : BitVec 32 := Scalar.muli v111 c96_i32_43
  let c0_i32_58 : BitVec 32 := 0#32
  ![v112.toNat, 0]

def k0_chk3 (v0 : BitVec 32) (v1 : BitVec 32) (v31 : BitVec 32) (v35 : BitVec 32) : Prop :=
  ((k0_t5_loop v0 v31 v35).OK) ∧
  (∀ k0_t5 : Fin (k0_t5_loop v0 v31 v35).trips, ∀ a, (k0_off25 v0 v31 v35 k0_t5) a + S1.size a ≤ S16.size a) ∧
  (∀ k0_t5 : Fin (k0_t5_loop v0 v31 v35).trips, ∀ a, (k0_off26 v0 v31 v35 k0_t5) a + S1x96x128.size a ≤ S16x96x128.size a) ∧
  (∀ k0_t5 : Fin (k0_t5_loop v0 v31 v35).trips, ∀ a, (k0_off27 v0 v31 v35 k0_t5) a + S96x128.size a ≤ S374400x128.size a) ∧
  (∀ k0_t5 : Fin (k0_t5_loop v0 v31 v35).trips, ∀ a, (k0_off28 v0 v31 v35 k0_t5) a + S1x96x128.size a ≤ S16x96x128.size a) ∧
  (∀ k0_t5 : Fin (k0_t5_loop v0 v31 v35).trips, ∀ (k0_h7 : k0_cond7 v0 v1 v31 v35 k0_t5 = 1#1), ∀ a, (k0_off29 v0 v31 v35 k0_t5) a + S1.size a ≤ S16.size a) ∧
  (∀ k0_t5 : Fin (k0_t5_loop v0 v31 v35).trips, ∀ (k0_h7 : k0_cond7 v0 v1 v31 v35 k0_t5 = 1#1), ∀ a, (k0_off30 v0 v31 v35 k0_t5) a + S1x96x128.size a ≤ S16x96x128.size a) ∧
  (∀ k0_t5 : Fin (k0_t5_loop v0 v31 v35).trips, ∀ (k0_h7 : k0_cond7 v0 v1 v31 v35 k0_t5 = 1#1), ∀ a, (k0_off31 v0 v31 v35 k0_t5) a + S96x128.size a ≤ S374400x128.size a) ∧
  ((k0_t6_loop v0 v31 v35).OK) ∧
  (∀ k0_t6 : Fin (k0_t6_loop v0 v31 v35).trips, ∀ a, (k0_off32 v0 v31 v35 k0_t6) a + S1.size a ≤ S16.size a) ∧
  (∀ k0_t6 : Fin (k0_t6_loop v0 v31 v35).trips, ∀ a, (k0_off33 v0 v31 v35 k0_t6) a + S1x96x128.size a ≤ S16x96x128.size a) ∧
  (∀ k0_t6 : Fin (k0_t6_loop v0 v31 v35).trips, ∀ a, (k0_off34 v0 v31 v35 k0_t6) a + S96x128.size a ≤ S374400x128.size a) ∧
  (∀ k0_t6 : Fin (k0_t6_loop v0 v31 v35).trips, ∀ a, (k0_off35 v0 v31 v35 k0_t6) a + S1x96x128.size a ≤ S16x96x128.size a) ∧
  (∀ k0_t6 : Fin (k0_t6_loop v0 v31 v35).trips, ∀ (k0_h9 : k0_cond9 v0 v1 v31 v35 k0_t6 = 1#1), ∀ a, (k0_off36 v0 v31 v35 k0_t6) a + S1.size a ≤ S16.size a) ∧
  (∀ k0_t6 : Fin (k0_t6_loop v0 v31 v35).trips, ∀ (k0_h9 : k0_cond9 v0 v1 v31 v35 k0_t6 = 1#1), ∀ a, (k0_off37 v0 v31 v35 k0_t6) a + S1x96x128.size a ≤ S16x96x128.size a) ∧
  (∀ k0_t6 : Fin (k0_t6_loop v0 v31 v35).trips, ∀ (k0_h9 : k0_cond9 v0 v1 v31 v35 k0_t6 = 1#1), ∀ a, (k0_off38 v0 v31 v35 k0_t6) a + S96x128.size a ≤ S374400x128.size a)
theorem k0_t5_ok : ∀ (v0 : BitVec 32) (v1 : BitVec 32) (v31 : BitVec 32) (v35 : BitVec 32) (k0_hw3 : k0_chk3 v0 v1 v31 v35), (k0_t5_loop v0 v31 v35).OK := fun v0 v1 v31 v35 k0_hw3 => k0_hw3.1
theorem k0_off25_inb : ∀ (v0 : BitVec 32) (v1 : BitVec 32) (v31 : BitVec 32) (v35 : BitVec 32) (k0_hw3 : k0_chk3 v0 v1 v31 v35) (k0_t5 : Fin (k0_t5_loop v0 v31 v35).trips), ∀ a, (k0_off25 v0 v31 v35 k0_t5) a + S1.size a ≤ S16.size a := fun v0 v1 v31 v35 k0_hw3 k0_t5 => k0_hw3.2.1 k0_t5
theorem k0_off26_inb : ∀ (v0 : BitVec 32) (v1 : BitVec 32) (v31 : BitVec 32) (v35 : BitVec 32) (k0_hw3 : k0_chk3 v0 v1 v31 v35) (k0_t5 : Fin (k0_t5_loop v0 v31 v35).trips), ∀ a, (k0_off26 v0 v31 v35 k0_t5) a + S1x96x128.size a ≤ S16x96x128.size a := fun v0 v1 v31 v35 k0_hw3 k0_t5 => k0_hw3.2.2.1 k0_t5
theorem k0_off27_inb : ∀ (v0 : BitVec 32) (v1 : BitVec 32) (v31 : BitVec 32) (v35 : BitVec 32) (k0_hw3 : k0_chk3 v0 v1 v31 v35) (k0_t5 : Fin (k0_t5_loop v0 v31 v35).trips), ∀ a, (k0_off27 v0 v31 v35 k0_t5) a + S96x128.size a ≤ S374400x128.size a := fun v0 v1 v31 v35 k0_hw3 k0_t5 => k0_hw3.2.2.2.1 k0_t5
theorem k0_off28_inb : ∀ (v0 : BitVec 32) (v1 : BitVec 32) (v31 : BitVec 32) (v35 : BitVec 32) (k0_hw3 : k0_chk3 v0 v1 v31 v35) (k0_t5 : Fin (k0_t5_loop v0 v31 v35).trips), ∀ a, (k0_off28 v0 v31 v35 k0_t5) a + S1x96x128.size a ≤ S16x96x128.size a := fun v0 v1 v31 v35 k0_hw3 k0_t5 => k0_hw3.2.2.2.2.1 k0_t5
theorem k0_off29_inb : ∀ (v0 : BitVec 32) (v1 : BitVec 32) (v31 : BitVec 32) (v35 : BitVec 32) (k0_hw3 : k0_chk3 v0 v1 v31 v35) (k0_t5 : Fin (k0_t5_loop v0 v31 v35).trips), ∀ (k0_h7 : k0_cond7 v0 v1 v31 v35 k0_t5 = 1#1), ∀ a, (k0_off29 v0 v31 v35 k0_t5) a + S1.size a ≤ S16.size a := fun v0 v1 v31 v35 k0_hw3 k0_t5 k0_h7 => k0_hw3.2.2.2.2.2.1 k0_t5 k0_h7
theorem k0_off30_inb : ∀ (v0 : BitVec 32) (v1 : BitVec 32) (v31 : BitVec 32) (v35 : BitVec 32) (k0_hw3 : k0_chk3 v0 v1 v31 v35) (k0_t5 : Fin (k0_t5_loop v0 v31 v35).trips), ∀ (k0_h7 : k0_cond7 v0 v1 v31 v35 k0_t5 = 1#1), ∀ a, (k0_off30 v0 v31 v35 k0_t5) a + S1x96x128.size a ≤ S16x96x128.size a := fun v0 v1 v31 v35 k0_hw3 k0_t5 k0_h7 => k0_hw3.2.2.2.2.2.2.1 k0_t5 k0_h7
theorem k0_off31_inb : ∀ (v0 : BitVec 32) (v1 : BitVec 32) (v31 : BitVec 32) (v35 : BitVec 32) (k0_hw3 : k0_chk3 v0 v1 v31 v35) (k0_t5 : Fin (k0_t5_loop v0 v31 v35).trips), ∀ (k0_h7 : k0_cond7 v0 v1 v31 v35 k0_t5 = 1#1), ∀ a, (k0_off31 v0 v31 v35 k0_t5) a + S96x128.size a ≤ S374400x128.size a := fun v0 v1 v31 v35 k0_hw3 k0_t5 k0_h7 => k0_hw3.2.2.2.2.2.2.2.1 k0_t5 k0_h7
theorem k0_t6_ok : ∀ (v0 : BitVec 32) (v1 : BitVec 32) (v31 : BitVec 32) (v35 : BitVec 32) (k0_hw3 : k0_chk3 v0 v1 v31 v35), (k0_t6_loop v0 v31 v35).OK := fun v0 v1 v31 v35 k0_hw3 => k0_hw3.2.2.2.2.2.2.2.2.1
theorem k0_off32_inb : ∀ (v0 : BitVec 32) (v1 : BitVec 32) (v31 : BitVec 32) (v35 : BitVec 32) (k0_hw3 : k0_chk3 v0 v1 v31 v35) (k0_t6 : Fin (k0_t6_loop v0 v31 v35).trips), ∀ a, (k0_off32 v0 v31 v35 k0_t6) a + S1.size a ≤ S16.size a := fun v0 v1 v31 v35 k0_hw3 k0_t6 => k0_hw3.2.2.2.2.2.2.2.2.2.1 k0_t6
theorem k0_off33_inb : ∀ (v0 : BitVec 32) (v1 : BitVec 32) (v31 : BitVec 32) (v35 : BitVec 32) (k0_hw3 : k0_chk3 v0 v1 v31 v35) (k0_t6 : Fin (k0_t6_loop v0 v31 v35).trips), ∀ a, (k0_off33 v0 v31 v35 k0_t6) a + S1x96x128.size a ≤ S16x96x128.size a := fun v0 v1 v31 v35 k0_hw3 k0_t6 => k0_hw3.2.2.2.2.2.2.2.2.2.2.1 k0_t6
theorem k0_off34_inb : ∀ (v0 : BitVec 32) (v1 : BitVec 32) (v31 : BitVec 32) (v35 : BitVec 32) (k0_hw3 : k0_chk3 v0 v1 v31 v35) (k0_t6 : Fin (k0_t6_loop v0 v31 v35).trips), ∀ a, (k0_off34 v0 v31 v35 k0_t6) a + S96x128.size a ≤ S374400x128.size a := fun v0 v1 v31 v35 k0_hw3 k0_t6 => k0_hw3.2.2.2.2.2.2.2.2.2.2.2.1 k0_t6
theorem k0_off35_inb : ∀ (v0 : BitVec 32) (v1 : BitVec 32) (v31 : BitVec 32) (v35 : BitVec 32) (k0_hw3 : k0_chk3 v0 v1 v31 v35) (k0_t6 : Fin (k0_t6_loop v0 v31 v35).trips), ∀ a, (k0_off35 v0 v31 v35 k0_t6) a + S1x96x128.size a ≤ S16x96x128.size a := fun v0 v1 v31 v35 k0_hw3 k0_t6 => k0_hw3.2.2.2.2.2.2.2.2.2.2.2.2.1 k0_t6
theorem k0_off36_inb : ∀ (v0 : BitVec 32) (v1 : BitVec 32) (v31 : BitVec 32) (v35 : BitVec 32) (k0_hw3 : k0_chk3 v0 v1 v31 v35) (k0_t6 : Fin (k0_t6_loop v0 v31 v35).trips), ∀ (k0_h9 : k0_cond9 v0 v1 v31 v35 k0_t6 = 1#1), ∀ a, (k0_off36 v0 v31 v35 k0_t6) a + S1.size a ≤ S16.size a := fun v0 v1 v31 v35 k0_hw3 k0_t6 k0_h9 => k0_hw3.2.2.2.2.2.2.2.2.2.2.2.2.2.1 k0_t6 k0_h9
theorem k0_off37_inb : ∀ (v0 : BitVec 32) (v1 : BitVec 32) (v31 : BitVec 32) (v35 : BitVec 32) (k0_hw3 : k0_chk3 v0 v1 v31 v35) (k0_t6 : Fin (k0_t6_loop v0 v31 v35).trips), ∀ (k0_h9 : k0_cond9 v0 v1 v31 v35 k0_t6 = 1#1), ∀ a, (k0_off37 v0 v31 v35 k0_t6) a + S1x96x128.size a ≤ S16x96x128.size a := fun v0 v1 v31 v35 k0_hw3 k0_t6 k0_h9 => k0_hw3.2.2.2.2.2.2.2.2.2.2.2.2.2.2.1 k0_t6 k0_h9
theorem k0_off38_inb : ∀ (v0 : BitVec 32) (v1 : BitVec 32) (v31 : BitVec 32) (v35 : BitVec 32) (k0_hw3 : k0_chk3 v0 v1 v31 v35) (k0_t6 : Fin (k0_t6_loop v0 v31 v35).trips), ∀ (k0_h9 : k0_cond9 v0 v1 v31 v35 k0_t6 = 1#1), ∀ a, (k0_off38 v0 v31 v35 k0_t6) a + S96x128.size a ≤ S374400x128.size a := fun v0 v1 v31 v35 k0_hw3 k0_t6 k0_h9 => k0_hw3.2.2.2.2.2.2.2.2.2.2.2.2.2.2.2 k0_t6 k0_h9

def cc0_transform_2 (i : grid0.Coords) : Fin 2 → Nat :=
  let arg0 : BitVec 32 := BitVec.ofNat 32 (i 0).val
  let c224_i32 : BitVec 32 := 224#32
  let v0 : BitVec 32 := Scalar.addi arg0 c224_i32
  let c0_i32 : BitVec 32 := 0#32
  let c0_i32_0 : BitVec 32 := 0#32
  ![v0.toNat, c0_i32.toNat]

abbrev stage0_0 : Fin 2 → Memref sig .tc .vmem S160x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]
-- ==== Reference2Ideal.lean ====
abbrev S897 : Shape := ⟨1, ![897]⟩
abbrev S1 : Shape := ⟨1, ![1]⟩
abbrev S374400x128 : Shape := ⟨2, ![374400, 128]⟩
abbrev S71680x256 : Shape := ⟨2, ![71680, 256]⟩
abbrev S7800x48x128 : Shape := ⟨3, ![7800, 48, 128]⟩
abbrev S1497600x128 : Shape := ⟨2, ![1497600, 128]⟩
abbrev S7800x192x128 : Shape := ⟨3, ![7800, 192, 128]⟩
abbrev S7800x160x128 : Shape := ⟨3, ![7800, 160, 128]⟩
abbrev S7800x1x128 : Shape := ⟨3, ![7800, 1, 128]⟩
abbrev S7800x128 : Shape := ⟨2, ![7800, 128]⟩
abbrev S224 : Shape := ⟨1, ![224]⟩
abbrev S_ : Shape := ⟨0, ![]⟩
abbrev S7800 : Shape := ⟨1, ![7800]⟩
abbrev S224x1 : Shape := ⟨2, ![224, 1]⟩
abbrev S1x7800 : Shape := ⟨2, ![1, 7800]⟩
abbrev S224x7800 : Shape := ⟨2, ![224, 7800]⟩
abbrev S7800x1 : Shape := ⟨2, ![7800, 1]⟩
abbrev S7800x128x160 : Shape := ⟨3, ![7800, 128, 160]⟩
abbrev S998400x160 : Shape := ⟨2, ![998400, 160]⟩
abbrev S998400 : Shape := ⟨1, ![998400]⟩
abbrev S28672x160 : Shape := ⟨2, ![28672, 160]⟩
abbrev S998400x1 : Shape := ⟨2, ![998400, 1]⟩
abbrev S112x256x160 : Shape := ⟨3, ![112, 256, 160]⟩
abbrev S112x160x256 : Shape := ⟨3, ![112, 160, 256]⟩
abbrev S17920x256 : Shape := ⟨2, ![17920, 256]⟩
abbrev S35840x256 : Shape := ⟨2, ![35840, 256]⟩

abbrev nBuf : Space → Nat
  | .hbm => 84
  | .vmem => 2
  | .smem => 0
  | _ => 0

abbrev bufTy : (tb : Table) → Fin (tcTables nBuf tb) → BufTy
  | .hbm, ⟨0, _⟩ => ⟨S897, .i32⟩
  | .hbm, ⟨1, _⟩ => ⟨S1, .i32⟩
  | .hbm, ⟨2, _⟩ => ⟨S374400x128, .i32⟩
  | .hbm, ⟨3, _⟩ => ⟨S71680x256, .f32⟩
  | .hbm, ⟨4, _⟩ => ⟨S7800x48x128, .i32⟩
  | .hbm, ⟨5, _⟩ => ⟨S1497600x128, .f32⟩
  | .hbm, ⟨6, _⟩ => ⟨S7800x192x128, .f32⟩
  | .hbm, ⟨7, _⟩ => ⟨S7800x160x128, .f32⟩
  | .hbm, ⟨8, _⟩ => ⟨S7800x1x128, .i32⟩
  | .hbm, ⟨9, _⟩ => ⟨S7800x128, .i32⟩
  | .hbm, ⟨10, _⟩ => ⟨S7800x128, .f32⟩
  | .hbm, ⟨11, _⟩ => ⟨S7800x1x128, .i32⟩
  | .hbm, ⟨12, _⟩ => ⟨S7800x128, .i32⟩
  | .hbm, ⟨13, _⟩ => ⟨S224, .i32⟩
  | .hbm, ⟨14, _⟩ => ⟨S1, .i32⟩
  | .hbm, ⟨15, _⟩ => ⟨S_, .i32⟩
  | .hbm, ⟨16, _⟩ => ⟨S224, .i32⟩
  | .hbm, ⟨17, _⟩ => ⟨S224, .i32⟩
  | .hbm, ⟨18, _⟩ => ⟨S7800, .i32⟩
  | .hbm, ⟨19, _⟩ => ⟨S_, .i32⟩
  | .hbm, ⟨20, _⟩ => ⟨S_, .i32⟩
  | .hbm, ⟨21, _⟩ => ⟨S7800, .i32⟩
  | .hbm, ⟨22, _⟩ => ⟨S7800, .i32⟩
  | .hbm, ⟨23, _⟩ => ⟨S7800, .i32⟩
  | .hbm, ⟨24, _⟩ => ⟨S_, .i32⟩
  | .hbm, ⟨25, _⟩ => ⟨S7800, .i32⟩
  | .hbm, ⟨26, _⟩ => ⟨S7800, .i1⟩
  | .hbm, ⟨27, _⟩ => ⟨S7800, .i32⟩
  | .hbm, ⟨28, _⟩ => ⟨S7800, .i32⟩
  | .hbm, ⟨29, _⟩ => ⟨S_, .i32⟩
  | .hbm, ⟨30, _⟩ => ⟨S7800, .i32⟩
  | .hbm, ⟨31, _⟩ => ⟨S7800, .i1⟩
  | .hbm, ⟨32, _⟩ => ⟨S7800, .i1⟩
  | .hbm, ⟨33, _⟩ => ⟨S_, .i32⟩
  | .hbm, ⟨34, _⟩ => ⟨S7800, .i32⟩
  | .hbm, ⟨35, _⟩ => ⟨S7800, .i32⟩
  | .hbm, ⟨36, _⟩ => ⟨S7800, .i32⟩
  | .hbm, ⟨37, _⟩ => ⟨S224x1, .i32⟩
  | .hbm, ⟨38, _⟩ => ⟨S1x7800, .i32⟩
  | .hbm, ⟨39, _⟩ => ⟨S224x7800, .i32⟩
  | .hbm, ⟨40, _⟩ => ⟨S224x7800, .i32⟩
  | .hbm, ⟨41, _⟩ => ⟨S224x7800, .i1⟩
  | .hbm, ⟨42, _⟩ => ⟨S224x7800, .i32⟩
  | .hbm, ⟨43, _⟩ => ⟨S_, .i32⟩
  | .hbm, ⟨44, _⟩ => ⟨S7800, .i32⟩
  | .hbm, ⟨45, _⟩ => ⟨S7800x1, .i32⟩
  | .hbm, ⟨46, _⟩ => ⟨S_, .i32⟩
  | .hbm, ⟨47, _⟩ => ⟨S7800x1, .i32⟩
  | .hbm, ⟨48, _⟩ => ⟨S7800x1, .i1⟩
  | .hbm, ⟨49, _⟩ => ⟨S_, .i32⟩
  | .hbm, ⟨50, _⟩ => ⟨S7800x128, .i32⟩
  | .hbm, ⟨51, _⟩ => ⟨S7800x128, .i1⟩
  | .hbm, ⟨52, _⟩ => ⟨S7800x128, .i1⟩
  | .hbm, ⟨53, _⟩ => ⟨S7800x128, .i1⟩
  | .hbm, ⟨54, _⟩ => ⟨S_, .i32⟩
  | .hbm, ⟨55, _⟩ => ⟨S7800x128, .i32⟩
  | .hbm, ⟨56, _⟩ => ⟨S7800x128, .i1⟩
  | .hbm, ⟨57, _⟩ => ⟨S7800x128, .i1⟩
  | .hbm, ⟨58, _⟩ => ⟨S7800x1, .i32⟩
  | .hbm, ⟨59, _⟩ => ⟨S_, .i32⟩
  | .hbm, ⟨60, _⟩ => ⟨S7800x1, .i32⟩
  | .hbm, ⟨61, _⟩ => ⟨S7800x1, .i32⟩
  | .hbm, ⟨62, _⟩ => ⟨S7800x128, .i32⟩
  | .hbm, ⟨63, _⟩ => ⟨S7800x128, .i32⟩
  | .hbm, ⟨64, _⟩ => ⟨S_, .i32⟩
  | .hbm, ⟨65, _⟩ => ⟨S_, .i32⟩
  | .hbm, ⟨66, _⟩ => ⟨S7800x128, .i32⟩
  | .hbm, ⟨67, _⟩ => ⟨S7800x128, .i32⟩
  | .hbm, ⟨68, _⟩ => ⟨S7800x1x128, .f32⟩
  | .hbm, ⟨69, _⟩ => ⟨S7800x160x128, .f32⟩
  | .hbm, ⟨70, _⟩ => ⟨S7800x160x128, .f32⟩
  | .hbm, ⟨71, _⟩ => ⟨S7800x128x160, .f32⟩
  | .hbm, ⟨72, _⟩ => ⟨S998400x160, .f32⟩
  | .hbm, ⟨73, _⟩ => ⟨S998400, .i32⟩
  | .hbm, ⟨74, _⟩ => ⟨S_, .f32⟩
  | .hbm, ⟨75, _⟩ => ⟨S28672x160, .f32⟩
  | .hbm, ⟨76, _⟩ => ⟨S998400x1, .i32⟩
  | .hbm, ⟨77, _⟩ => ⟨S28672x160, .f32⟩
  | .hbm, ⟨78, _⟩ => ⟨S112x256x160, .f32⟩
  | .hbm, ⟨79, _⟩ => ⟨S112x160x256, .f32⟩
  | .hbm, ⟨80, _⟩ => ⟨S17920x256, .f32⟩
  | .hbm, ⟨81, _⟩ => ⟨S35840x256, .f32⟩
  | .hbm, ⟨82, _⟩ => ⟨S17920x256, .f32⟩
  | .hbm, ⟨83, _⟩ => ⟨S71680x256, .f32⟩
  | .local _ .vmem, ⟨0, _⟩ => ⟨S374400x128, .i32⟩
  | .local _ .vmem, ⟨1, _⟩ => ⟨S1497600x128, .f32⟩
  | _, _ => ⟨S897, .i32⟩

abbrev bufScoped : (cs : CoreSpace) → Fin (nBuf (.core cs)) → Bool
  | .vmem, ⟨0, _⟩ => true
  | .vmem, ⟨1, _⟩ => true
  | _, _ => false

abbrev semScoped : Fin 0 → Bool
  | ⟨_, h⟩ => absurd h (Nat.not_lt_zero _)

abbrev dmaSemScoped : Fin 2 → Bool
  | ⟨0, _⟩ => true
  | ⟨1, _⟩ => true
  | _ => false

abbrev sig : RefSig :=
  ofTc nBuf bufTy 0 2 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_c : Ref sig .tc := ⟨.hbm, 19, rfl⟩
abbrev main_call0_v0 : Ref sig .tc := ⟨.hbm, 20, rfl⟩
abbrev main_call0_v1 : Ref sig .tc := ⟨.hbm, 21, rfl⟩
abbrev main_call0_v2 : Ref sig .tc := ⟨.hbm, 22, rfl⟩
abbrev main_call0_v3 : Ref sig .tc := ⟨.hbm, 23, rfl⟩
abbrev main_call0_v4 : Ref sig .tc := ⟨.hbm, 24, rfl⟩
abbrev main_call0_v5 : Ref sig .tc := ⟨.hbm, 25, rfl⟩
abbrev main_call0_v6 : Ref sig .tc := ⟨.hbm, 26, rfl⟩
abbrev main_call0_v7 : Ref sig .tc := ⟨.hbm, 27, rfl⟩
abbrev main_call0_v8 : Ref sig .tc := ⟨.hbm, 28, rfl⟩
abbrev main_call0_c : Ref sig .tc := ⟨.hbm, 29, rfl⟩
abbrev main_call0_v9 : Ref sig .tc := ⟨.hbm, 30, rfl⟩
abbrev main_call0_v10 : Ref sig .tc := ⟨.hbm, 31, rfl⟩
abbrev main_call0_v11 : Ref sig .tc := ⟨.hbm, 32, rfl⟩
abbrev main_call0_c_0 : Ref sig .tc := ⟨.hbm, 33, rfl⟩
abbrev main_call0_v12 : Ref sig .tc := ⟨.hbm, 34, rfl⟩
abbrev main_call0_v13 : Ref sig .tc := ⟨.hbm, 35, rfl⟩
abbrev main_v15 : Ref sig .tc := ⟨.hbm, 36, rfl⟩
abbrev main_v16 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_c_0 : Ref sig .tc := ⟨.hbm, 43, rfl⟩
abbrev main_v22 : Ref sig .tc := ⟨.hbm, 44, rfl⟩
abbrev main_v23 : Ref sig .tc := ⟨.hbm, 45, rfl⟩
abbrev main_c_1 : Ref sig .tc := ⟨.hbm, 46, rfl⟩
abbrev main_v24 : Ref sig .tc := ⟨.hbm, 47, rfl⟩
abbrev main_v25 : Ref sig .tc := ⟨.hbm, 48, rfl⟩
abbrev main_c_2 : Ref sig .tc := ⟨.hbm, 49, rfl⟩
abbrev main_v26 : Ref sig .tc := ⟨.hbm, 50, rfl⟩
abbrev main_v27 : Ref sig .tc := ⟨.hbm, 51, rfl⟩
abbrev main_v28 : Ref sig .tc := ⟨.hbm, 52, rfl⟩
abbrev main_v29 : Ref sig .tc := ⟨.hbm, 53, rfl⟩
abbrev main_c_3 : Ref sig .tc := ⟨.hbm, 54, rfl⟩
abbrev main_v30 : Ref sig .tc := ⟨.hbm, 55, rfl⟩
abbrev main_v31 : Ref sig .tc := ⟨.hbm, 56, rfl⟩
abbrev main_v32 : Ref sig .tc := ⟨.hbm, 57, rfl⟩
abbrev main_v33 : Ref sig .tc := ⟨.hbm, 58, rfl⟩
abbrev main_c_4 : Ref sig .tc := ⟨.hbm, 59, rfl⟩
abbrev main_v34 : Ref sig .tc := ⟨.hbm, 60, rfl⟩
abbrev main_v35 : Ref sig .tc := ⟨.hbm, 61, rfl⟩
abbrev main_v36 : Ref sig .tc := ⟨.hbm, 62, rfl⟩
abbrev main_v37 : Ref sig .tc := ⟨.hbm, 63, rfl⟩
abbrev main_c_5 : Ref sig .tc := ⟨.hbm, 64, rfl⟩
abbrev main_call1_v0 : Ref sig .tc := ⟨.hbm, 65, rfl⟩
abbrev main_call1_v1 : Ref sig .tc := ⟨.hbm, 66, rfl⟩
abbrev main_v38 : Ref sig .tc := ⟨.hbm, 67, rfl⟩
abbrev main_v39 : Ref sig .tc := ⟨.hbm, 68, rfl⟩
abbrev main_v40 : Ref sig .tc := ⟨.hbm, 69, rfl⟩
abbrev main_v41 : Ref sig .tc := ⟨.hbm, 70, rfl⟩
abbrev main_v42 : Ref sig .tc := ⟨.hbm, 71, rfl⟩
abbrev main_v43 : Ref sig .tc := ⟨.hbm, 72, rfl⟩
abbrev main_v44 : Ref sig .tc := ⟨.hbm, 73, rfl⟩
abbrev main_cst : Ref sig .tc := ⟨.hbm, 74, rfl⟩
abbrev main_v45 : Ref sig .tc := ⟨.hbm, 75, rfl⟩
abbrev main_v46 : Ref sig .tc := ⟨.hbm, 76, rfl⟩
abbrev main_v47 : Ref sig .tc := ⟨.hbm, 77, rfl⟩
abbrev main_v48 : Ref sig .tc := ⟨.hbm, 78, rfl⟩
abbrev main_v49 : Ref sig .tc := ⟨.hbm, 79, rfl⟩
abbrev main_v50 : Ref sig .tc := ⟨.hbm, 80, rfl⟩
abbrev main_v51 : Ref sig .tc := ⟨.hbm, 81, rfl⟩
abbrev main_v52 : Ref sig .tc := ⟨.hbm, 82, rfl⟩
abbrev main_v53 : Ref sig .tc := ⟨.hbm, 83, rfl⟩
abbrev cc0_stg0_0 : Ref sig .tc := ⟨.vmem, 0, rfl⟩
abbrev cc0_stg1_0 : Ref sig .tc := ⟨.vmem, 1, rfl⟩
abbrev cc0_sem0_0 : DmaSem sig := 0
abbrev cc0_sem1_0 : DmaSem sig := 1

abbrev nD : Nat := 1
abbrev τ : Topo := Topo.v7x

variable {F : FTy → Type} [FloatOps F]

abbrev grid0 : Pipeline.Grid := .none

abbrev stage0_0 : Fin 1 → Memref sig .tc .vmem S374400x128 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1497600x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== Kernel3.lean ====
abbrev S897 : Shape := ⟨1, ![897]⟩
abbrev S1 : Shape := ⟨1, ![1]⟩
abbrev S374400x128 : Shape := ⟨2, ![374400, 128]⟩
abbrev S71680x256 : Shape := ⟨2, ![71680, 256]⟩
abbrev S160x256 : Shape := ⟨2, ![160, 256]⟩
abbrev S16x96x128 : Shape := ⟨3, ![16, 96, 128]⟩
abbrev S16 : Shape := ⟨1, ![16]⟩
abbrev S_ : Shape := ⟨0, ![]⟩
abbrev S1x96x128 : Shape := ⟨3, ![1, 96, 128]⟩
abbrev S96x128 : Shape := ⟨2, ![96, 128]⟩
abbrev S128x256 : Shape := ⟨2, ![128, 256]⟩
abbrev S128x160 : Shape := ⟨2, ![128, 160]⟩
abbrev S40x128 : Shape := ⟨2, ![40, 128]⟩
abbrev S160x128 : Shape := ⟨2, ![160, 128]⟩
abbrev S1x128 : Shape := ⟨2, ![1, 128]⟩
abbrev S1x256 : Shape := ⟨2, ![1, 256]⟩

abbrev nBuf : Space → Nat
  | .hbm => 3
  | .vmem => 3
  | .smem => 2
  | _ => 0

abbrev bufTy : (tb : Table) → Fin (tcTables nBuf tb) → BufTy
  | .hbm, ⟨0, _⟩ => ⟨S374400x128, .i32⟩
  | .hbm, ⟨1, _⟩ => ⟨S71680x256, .f32⟩
  | .hbm, ⟨2, _⟩ => ⟨S71680x256, .f32⟩
  | .local _ .vmem, ⟨0, _⟩ => ⟨S160x256, .f32⟩
  | .local _ .vmem, ⟨1, _⟩ => ⟨S160x256, .f32⟩
  | .local _ .vmem, ⟨2, _⟩ => ⟨S16x96x128, .i32⟩
  | .local _ .smem, ⟨0, _⟩ => ⟨S897, .i32⟩
  | .local _ .smem, ⟨1, _⟩ => ⟨S1, .i32⟩
  | _, _ => ⟨S374400x128, .i32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg2 : Ref sig .tc := ⟨.hbm, 0, rfl⟩
abbrev main_arg3 : Ref sig .tc := ⟨.hbm, 1, rfl⟩
abbrev main_v0 : Ref sig .tc := ⟨.hbm, 2, rfl⟩
abbrev main_arg0 : Ref sig .tc := ⟨.smem, 0, rfl⟩
abbrev main_arg1 : Ref sig .tc := ⟨.smem, 1, rfl⟩
abbrev cc0_stg0_0 : Ref sig .tc := ⟨.vmem, 0, rfl⟩
abbrev cc0_stg0_1 : Ref sig .tc := ⟨.vmem, 1, rfl⟩
abbrev cc0_scratch0 : Ref sig .tc := ⟨.vmem, 2, rfl⟩
abbrev cc0_sem0_0 : DmaSem sig := 0
abbrev cc0_sem0_1 : DmaSem sig := 1

abbrev nD : Nat := 1
abbrev τ : Topo := Topo.v7x

variable {F : FTy → Type} [FloatOps F]

abbrev grid0 : Pipeline.Grid := ⟨1, ![112], ![false]⟩

abbrev pre0 : Pipeline.Prefetch sig := ⟨2, ![main_arg0.idx, main_arg1.idx], fun | 0 => main_arg0.names | 1 => main_arg1.names | ⟨_ + 2, h⟩ => absurd h (Nat.not_lt.2 (Nat.le_add_left _ _)), fun | 0 => rfl | 1 => rfl | ⟨_ + 2, h⟩ => absurd h (Nat.not_lt.2 (Nat.le_add_left _ _))⟩

def k0_cond1 (i : grid0.Coords) : BitVec 1 :=
  let arg0 : BitVec 32 := BitVec.ofNat 32 (i 0).val
  let c0_i32 : BitVec 32 := 0#32
  let v3 : BitVec 1 := Scalar.cmpi .eq arg0 c0_i32
  let v4 : BitVec 32 := Scalar.extui v3
  let c0_i32_0 : BitVec 32 := 0#32
  let v5 : BitVec 1 := Scalar.cmpi .ne v4 c0_i32_0
  v5

@[reducible] def k0_t1_loop (v0 : BitVec 32) (v1 : BitVec 32) : Scf.Loop 32 :=
  let c0_i32_21 : BitVec 32 := 0#32
  let v2 : BitVec 32 := Scalar.subi v1 v0
  let c16_i32 : BitVec 32 := 16#32
  let v47 : BitVec 32 := Scalar.minsi v2 c16_i32
  let c0_i32_15 : BitVec 32 := 0#32
  let v48 : BitVec 32 := Scalar.subi v47 c0_i32_15
  let c1_i32_16 : BitVec 32 := 1#32
  let c1_i32_17 : BitVec 32 := 1#32
  let v49 : BitVec 32 := Scalar.subi c1_i32_16 c1_i32_17
  let v50 : BitVec 32 := Scalar.addi v48 v49
  let c1_i32_18 : BitVec 32 := 1#32
  let v51 : BitVec 32 := Scalar.divsi v50 c1_i32_18
  let v52 : BitVec 32 := Scalar.subi v51 c0_i32_21
  let c1_i32_22 : BitVec 32 := 1#32
  let v54 : BitVec 32 := Scalar.divsi v52 c1_i32_22
  let v55 : BitVec 32 := Scalar.muli v54 c1_i32_22
  let v56 : BitVec 32 := Scalar.addi c0_i32_21 v55
  let c1_i32_23 : BitVec 32 := 1#32
  ⟨c0_i32_21, v56, c1_i32_23⟩

def k0_off1 (v0 : BitVec 32) (v1 : BitVec 32) (k0_t1 : Fin (k0_t1_loop v0 v1).trips) : Fin 1 → Nat :=
  let c0_i32_20 : BitVec 32 := 0#32
  let c0_i32_21 : BitVec 32 := 0#32
  let c1_i32_23 : BitVec 32 := 1#32
  let arg8 : BitVec 32 := Scf.iv c0_i32_21 c1_i32_23 k0_t1
  let c1_i32_19 : BitVec 32 := 1#32
  let v57 : BitVec 32 := Scalar.muli arg8 c1_i32_19
  let v58 : BitVec 32 := Scalar.addi c0_i32_20 v57
  let c16_i32_31 : BitVec 32 := 16#32
  let c0_i32_32 : BitVec 32 := 0#32
  let v70 : BitVec 1 := Scalar.cmpi .eq c16_i32_31 c0_i32_32
  let c1_i32_33 : BitVec 32 := 1#32
  let v71 : BitVec 32 := Scalar.select v70 c1_i32_33 c16_i32_31
  let v72 : BitVec 32 := Scalar.remsi v58 v71
  let c0_i32_35 : BitVec 32 := 0#32
  let v74 : BitVec 1 := Scalar.cmpi .slt v72 c0_i32_35
  let c0_i32_36 : BitVec 32 := 0#32
  let v75 : BitVec 1 := Scalar.cmpi .slt v71 c0_i32_36
  let v76 : BitVec 1 := Scalar.xori v74 v75
  let c0_i32_34 : BitVec 32 := 0#32
  let v73 : BitVec 1 := Scalar.cmpi .ne v72 c0_i32_34
  let v77 : BitVec 1 := Scalar.andi v76 v73
  let v78 : BitVec 32 := Scalar.addi v72 v71
  let v79 : BitVec 32 := Scalar.select v77 v78 v72
  ![v79.toNat]
def k0_off2 (v0 : BitVec 32) (v1 : BitVec 32) (k0_t1 : Fin (k0_t1_loop v0 v1).trips) : Fin 3 → Nat :=
  let c0_i32_20 : BitVec 32 := 0#32
  let c0_i32_21 : BitVec 32 := 0#32
  let c1_i32_23 : BitVec 32 := 1#32
  let arg8 : BitVec 32 := Scf.iv c0_i32_21 c1_i32_23 k0_t1
  let c1_i32_19 : BitVec 32 := 1#32
  let v57 : BitVec 32 := Scalar.muli arg8 c1_i32_19
  let v58 : BitVec 32 := Scalar.addi c0_i32_20 v57
  let c16_i32_25 : BitVec 32 := 16#32
  let c0_i32_26 : BitVec 32 := 0#32
  let v60 : BitVec 1 := Scalar.cmpi .eq c16_i32_25 c0_i32_26
  let c1_i32_27 : BitVec 32 := 1#32
  let v61 : BitVec 32 := Scalar.select v60 c1_i32_27 c16_i32_25
  let v62 : BitVec 32 := Scalar.remsi v58 v61
  let c0_i32_29 : BitVec 32 := 0#32
  let v64 : BitVec 1 := Scalar.cmpi .slt v62 c0_i32_29
  let c0_i32_30 : BitVec 32 := 0#32
  let v65 : BitVec 1 := Scalar.cmpi .slt v61 c0_i32_30
  let v66 : BitVec 1 := Scalar.xori v64 v65
  let c0_i32_28 : BitVec 32 := 0#32
  let v63 : BitVec 1 := Scalar.cmpi .ne v62 c0_i32_28
  let v67 : BitVec 1 := Scalar.andi v66 v63
  let v68 : BitVec 32 := Scalar.addi v62 v61
  let v69 : BitVec 32 := Scalar.select v67 v68 v62
  let c0_i32_37 : BitVec 32 := 0#32
  let c0_i32_38 : BitVec 32 := 0#32
  ![v69.toNat, 0, 0]
def k0_off3 (v0 : BitVec 32) (v1 : BitVec 32) (k0_t1 : Fin (k0_t1_loop v0 v1).trips) : Fin 2 → Nat :=
  let c0_i32_20 : BitVec 32 := 0#32
  let c0_i32_21 : BitVec 32 := 0#32
  let c1_i32_23 : BitVec 32 := 1#32
  let arg8 : BitVec 32 := Scf.iv c0_i32_21 c1_i32_23 k0_t1
  let c1_i32_19 : BitVec 32 := 1#32
  let v57 : BitVec 32 := Scalar.muli arg8 c1_i32_19
  let v58 : BitVec 32 := Scalar.addi c0_i32_20 v57
  let c96_i32 : BitVec 32 := 96#32
  let v59 : BitVec 32 := Scalar.muli v58 c96_i32
  let c0_i32_39 : BitVec 32 := 0#32
  ![v59.toNat, 0]
@[reducible] def k0_t2_loop (v0 : BitVec 32) (v1 : BitVec 32) : Scf.Loop 32 :=
  let c0_i32_21 : BitVec 32 := 0#32
  let v2 : BitVec 32 := Scalar.subi v1 v0
  let c16_i32 : BitVec 32 := 16#32
  let v47 : BitVec 32 := Scalar.minsi v2 c16_i32
  let c0_i32_15 : BitVec 32 := 0#32
  let v48 : BitVec 32 := Scalar.subi v47 c0_i32_15
  let c1_i32_16 : BitVec 32 := 1#32
  let c1_i32_17 : BitVec 32 := 1#32
  let v49 : BitVec 32 := Scalar.subi c1_i32_16 c1_i32_17
  let v50 : BitVec 32 := Scalar.addi v48 v49
  let c1_i32_18 : BitVec 32 := 1#32
  let v51 : BitVec 32 := Scalar.divsi v50 c1_i32_18
  let v52 : BitVec 32 := Scalar.subi v51 c0_i32_21
  let c1_i32_22 : BitVec 32 := 1#32
  let v54 : BitVec 32 := Scalar.divsi v52 c1_i32_22
  let v55 : BitVec 32 := Scalar.muli v54 c1_i32_22
  let v56 : BitVec 32 := Scalar.addi c0_i32_21 v55
  let v53 : BitVec 32 := Scalar.addi c0_i32_21 v52
  let c1_i32_24 : BitVec 32 := 1#32
  ⟨v56, v53, c1_i32_24⟩
def k0_off4 (v0 : BitVec 32) (v1 : BitVec 32) (k0_t2 : Fin (k0_t2_loop v0 v1).trips) : Fin 1 → Nat :=
  let c0_i32_20 : BitVec 32 := 0#32
  let c0_i32_21 : BitVec 32 := 0#32
  let v2 : BitVec 32 := Scalar.subi v1 v0
  let c16_i32 : BitVec 32 := 16#32
  let v47 : BitVec 32 := Scalar.minsi v2 c16_i32
  let c0_i32_15 : BitVec 32 := 0#32
  let v48 : BitVec 32 := Scalar.subi v47 c0_i32_15
  let c1_i32_16 : BitVec 32 := 1#32
  let c1_i32_17 : BitVec 32 := 1#32
  let v49 : BitVec 32 := Scalar.subi c1_i32_16 c1_i32_17
  let v50 : BitVec 32 := Scalar.addi v48 v49
  let c1_i32_18 : BitVec 32 := 1#32
  let v51 : BitVec 32 := Scalar.divsi v50 c1_i32_18
  let v52 : BitVec 32 := Scalar.subi v51 c0_i32_21
  let c1_i32_22 : BitVec 32 := 1#32
  let v54 : BitVec 32 := Scalar.divsi v52 c1_i32_22
  let v55 : BitVec 32 := Scalar.muli v54 c1_i32_22
  let v56 : BitVec 32 := Scalar.addi c0_i32_21 v55
  let c1_i32_24 : BitVec 32 := 1#32
  let arg8 : BitVec 32 := Scf.iv v56 c1_i32_24 k0_t2
  let c1_i32_19 : BitVec 32 := 1#32
  let v57 : BitVec 32 := Scalar.muli arg8 c1_i32_19
  let v58 : BitVec 32 := Scalar.addi c0_i32_20 v57
  let c16_i32_31 : BitVec 32 := 16#32
  let c0_i32_32 : BitVec 32 := 0#32
  let v70 : BitVec 1 := Scalar.cmpi .eq c16_i32_31 c0_i32_32
  let c1_i32_33 : BitVec 32 := 1#32
  let v71 : BitVec 32 := Scalar.select v70 c1_i32_33 c16_i32_31
  let v72 : BitVec 32 := Scalar.remsi v58 v71
  let c0_i32_35 : BitVec 32 := 0#32
  let v74 : BitVec 1 := Scalar.cmpi .slt v72 c0_i32_35
  let c0_i32_36 : BitVec 32 := 0#32
  let v75 : BitVec 1 := Scalar.cmpi .slt v71 c0_i32_36
  let v76 : BitVec 1 := Scalar.xori v74 v75
  let c0_i32_34 : BitVec 32 := 0#32
  let v73 : BitVec 1 := Scalar.cmpi .ne v72 c0_i32_34
  let v77 : BitVec 1 := Scalar.andi v76 v73
  let v78 : BitVec 32 := Scalar.addi v72 v71
  let v79 : BitVec 32 := Scalar.select v77 v78 v72
  ![v79.toNat]
def k0_off5 (v0 : BitVec 32) (v1 : BitVec 32) (k0_t2 : Fin (k0_t2_loop v0 v1).trips) : Fin 3 → Nat :=
  let c0_i32_20 : BitVec 32 := 0#32
  let c0_i32_21 : BitVec 32 := 0#32
  let v2 : BitVec 32 := Scalar.subi v1 v0
  let c16_i32 : BitVec 32 := 16#32
  let v47 : BitVec 32 := Scalar.minsi v2 c16_i32
  let c0_i32_15 : BitVec 32 := 0#32
  let v48 : BitVec 32 := Scalar.subi v47 c0_i32_15
  let c1_i32_16 : BitVec 32 := 1#32
  let c1_i32_17 : BitVec 32 := 1#32
  let v49 : BitVec 32 := Scalar.subi c1_i32_16 c1_i32_17
  let v50 : BitVec 32 := Scalar.addi v48 v49
  let c1_i32_18 : BitVec 32 := 1#32
  let v51 : BitVec 32 := Scalar.divsi v50 c1_i32_18
  let v52 : BitVec 32 := Scalar.subi v51 c0_i32_21
  let c1_i32_22 : BitVec 32 := 1#32
  let v54 : BitVec 32 := Scalar.divsi v52 c1_i32_22
  let v55 : BitVec 32 := Scalar.muli v54 c1_i32_22
  let v56 : BitVec 32 := Scalar.addi c0_i32_21 v55
  let c1_i32_24 : BitVec 32 := 1#32
  let arg8 : BitVec 32 := Scf.iv v56 c1_i32_24 k0_t2
  let c1_i32_19 : BitVec 32 := 1#32
  let v57 : BitVec 32 := Scalar.muli arg8 c1_i32_19
  let v58 : BitVec 32 := Scalar.addi c0_i32_20 v57
  let c16_i32_25 : BitVec 32 := 16#32
  let c0_i32_26 : BitVec 32 := 0#32
  let v60 : BitVec 1 := Scalar.cmpi .eq c16_i32_25 c0_i32_26
  let c1_i32_27 : BitVec 32 := 1#32
  let v61 : BitVec 32 := Scalar.select v60 c1_i32_27 c16_i32_25
  let v62 : BitVec 32 := Scalar.remsi v58 v61
  let c0_i32_29 : BitVec 32 := 0#32
  let v64 : BitVec 1 := Scalar.cmpi .slt v62 c0_i32_29
  let c0_i32_30 : BitVec 32 := 0#32
  let v65 : BitVec 1 := Scalar.cmpi .slt v61 c0_i32_30
  let v66 : BitVec 1 := Scalar.xori v64 v65
  let c0_i32_28 : BitVec 32 := 0#32
  let v63 : BitVec 1 := Scalar.cmpi .ne v62 c0_i32_28
  let v67 : BitVec 1 := Scalar.andi v66 v63
  let v68 : BitVec 32 := Scalar.addi v62 v61
  let v69 : BitVec 32 := Scalar.select v67 v68 v62
  let c0_i32_37 : BitVec 32 := 0#32
  let c0_i32_38 : BitVec 32 := 0#32
  ![v69.toNat, 0, 0]
def k0_off6 (v0 : BitVec 32) (v1 : BitVec 32) (k0_t2 : Fin (k0_t2_loop v0 v1).trips) : Fin 2 → Nat :=
  let c0_i32_20 : BitVec 32 := 0#32
  let c0_i32_21 : BitVec 32 := 0#32
  let v2 : BitVec 32 := Scalar.subi v1 v0
  let c16_i32 : BitVec 32 := 16#32
  let v47 : BitVec 32 := Scalar.minsi v2 c16_i32
  let c0_i32_15 : BitVec 32 := 0#32
  let v48 : BitVec 32 := Scalar.subi v47 c0_i32_15
  let c1_i32_16 : BitVec 32 := 1#32
  let c1_i32_17 : BitVec 32 := 1#32
  let v49 : BitVec 32 := Scalar.subi c1_i32_16 c1_i32_17
  let v50 : BitVec 32 := Scalar.addi v48 v49
  let c1_i32_18 : BitVec 32 := 1#32
  let v51 : BitVec 32 := Scalar.divsi v50 c1_i32_18
  let v52 : BitVec 32 := Scalar.subi v51 c0_i32_21
  let c1_i32_22 : BitVec 32 := 1#32
  let v54 : BitVec 32 := Scalar.divsi v52 c1_i32_22
  let v55 : BitVec 32 := Scalar.muli v54 c1_i32_22
  let v56 : BitVec 32 := Scalar.addi c0_i32_21 v55
  let c1_i32_24 : BitVec 32 := 1#32
  let arg8 : BitVec 32 := Scf.iv v56 c1_i32_24 k0_t2
  let c1_i32_19 : BitVec 32 := 1#32
  let v57 : BitVec 32 := Scalar.muli arg8 c1_i32_19
  let v58 : BitVec 32 := Scalar.addi c0_i32_20 v57
  let c96_i32 : BitVec 32 := 96#32
  let v59 : BitVec 32 := Scalar.muli v58 c96_i32
  let c0_i32_39 : BitVec 32 := 0#32
  ![v59.toNat, 0]

def k0_chk1 (i : grid0.Coords) (v0 : BitVec 32) (v1 : BitVec 32) : Prop :=
  (∀ (k0_h1 : k0_cond1 i = 1#1), (k0_t1_loop v0 v1).OK) ∧
  (∀ k0_t1 : Fin (k0_t1_loop v0 v1).trips, ∀ (k0_h1 : k0_cond1 i = 1#1), ∀ a, (k0_off1 v0 v1 k0_t1) a + S1.size a ≤ S16.size a) ∧
  (∀ k0_t1 : Fin (k0_t1_loop v0 v1).trips, ∀ (k0_h1 : k0_cond1 i = 1#1), ∀ a, (k0_off2 v0 v1 k0_t1) a + S1x96x128.size a ≤ S16x96x128.size a) ∧
  (∀ k0_t1 : Fin (k0_t1_loop v0 v1).trips, ∀ (k0_h1 : k0_cond1 i = 1#1), ∀ a, (k0_off3 v0 v1 k0_t1) a + S96x128.size a ≤ S374400x128.size a) ∧
  (∀ (k0_h1 : k0_cond1 i = 1#1), (k0_t2_loop v0 v1).OK) ∧
  (∀ k0_t2 : Fin (k0_t2_loop v0 v1).trips, ∀ (k0_h1 : k0_cond1 i = 1#1), ∀ a, (k0_off4 v0 v1 k0_t2) a + S1.size a ≤ S16.size a) ∧
  (∀ k0_t2 : Fin (k0_t2_loop v0 v1).trips, ∀ (k0_h1 : k0_cond1 i = 1#1), ∀ a, (k0_off5 v0 v1 k0_t2) a + S1x96x128.size a ≤ S16x96x128.size a) ∧
  (∀ k0_t2 : Fin (k0_t2_loop v0 v1).trips, ∀ (k0_h1 : k0_cond1 i = 1#1), ∀ a, (k0_off6 v0 v1 k0_t2) a + S96x128.size a ≤ S374400x128.size a)
theorem k0_t1_ok : ∀ (i : grid0.Coords) (v0 : BitVec 32) (v1 : BitVec 32) (k0_hw1 : k0_chk1 i v0 v1), ∀ (k0_h1 : k0_cond1 i = 1#1), (k0_t1_loop v0 v1).OK := fun i v0 v1 k0_hw1 k0_h1 => k0_hw1.1 k0_h1
theorem k0_off1_inb : ∀ (i : grid0.Coords) (v0 : BitVec 32) (v1 : BitVec 32) (k0_hw1 : k0_chk1 i v0 v1) (k0_t1 : Fin (k0_t1_loop v0 v1).trips), ∀ (k0_h1 : k0_cond1 i = 1#1), ∀ a, (k0_off1 v0 v1 k0_t1) a + S1.size a ≤ S16.size a := fun i v0 v1 k0_hw1 k0_t1 k0_h1 => k0_hw1.2.1 k0_t1 k0_h1
theorem k0_off2_inb : ∀ (i : grid0.Coords) (v0 : BitVec 32) (v1 : BitVec 32) (k0_hw1 : k0_chk1 i v0 v1) (k0_t1 : Fin (k0_t1_loop v0 v1).trips), ∀ (k0_h1 : k0_cond1 i = 1#1), ∀ a, (k0_off2 v0 v1 k0_t1) a + S1x96x128.size a ≤ S16x96x128.size a := fun i v0 v1 k0_hw1 k0_t1 k0_h1 => k0_hw1.2.2.1 k0_t1 k0_h1
theorem k0_off3_inb : ∀ (i : grid0.Coords) (v0 : BitVec 32) (v1 : BitVec 32) (k0_hw1 : k0_chk1 i v0 v1) (k0_t1 : Fin (k0_t1_loop v0 v1).trips), ∀ (k0_h1 : k0_cond1 i = 1#1), ∀ a, (k0_off3 v0 v1 k0_t1) a + S96x128.size a ≤ S374400x128.size a := fun i v0 v1 k0_hw1 k0_t1 k0_h1 => k0_hw1.2.2.2.1 k0_t1 k0_h1
theorem k0_t2_ok : ∀ (i : grid0.Coords) (v0 : BitVec 32) (v1 : BitVec 32) (k0_hw1 : k0_chk1 i v0 v1), ∀ (k0_h1 : k0_cond1 i = 1#1), (k0_t2_loop v0 v1).OK := fun i v0 v1 k0_hw1 k0_h1 => k0_hw1.2.2.2.2.1 k0_h1
theorem k0_off4_inb : ∀ (i : grid0.Coords) (v0 : BitVec 32) (v1 : BitVec 32) (k0_hw1 : k0_chk1 i v0 v1) (k0_t2 : Fin (k0_t2_loop v0 v1).trips), ∀ (k0_h1 : k0_cond1 i = 1#1), ∀ a, (k0_off4 v0 v1 k0_t2) a + S1.size a ≤ S16.size a := fun i v0 v1 k0_hw1 k0_t2 k0_h1 => k0_hw1.2.2.2.2.2.1 k0_t2 k0_h1
theorem k0_off5_inb : ∀ (i : grid0.Coords) (v0 : BitVec 32) (v1 : BitVec 32) (k0_hw1 : k0_chk1 i v0 v1) (k0_t2 : Fin (k0_t2_loop v0 v1).trips), ∀ (k0_h1 : k0_cond1 i = 1#1), ∀ a, (k0_off5 v0 v1 k0_t2) a + S1x96x128.size a ≤ S16x96x128.size a := fun i v0 v1 k0_hw1 k0_t2 k0_h1 => k0_hw1.2.2.2.2.2.2.1 k0_t2 k0_h1
theorem k0_off6_inb : ∀ (i : grid0.Coords) (v0 : BitVec 32) (v1 : BitVec 32) (k0_hw1 : k0_chk1 i v0 v1) (k0_t2 : Fin (k0_t2_loop v0 v1).trips), ∀ (k0_h1 : k0_cond1 i = 1#1), ∀ a, (k0_off6 v0 v1 k0_t2) a + S96x128.size a ≤ S374400x128.size a := fun i v0 v1 k0_hw1 k0_t2 k0_h1 => k0_hw1.2.2.2.2.2.2.2 k0_t2 k0_h1

def k0_off7 (i : grid0.Coords) : Fin 1 → Nat :=
  let c336_i32 : BitVec 32 := 336#32
  let arg0 : BitVec 32 := BitVec.ofNat 32 (i 0).val
  let v7 : BitVec 32 := Scalar.addi c336_i32 arg0
  let c2_i32 : BitVec 32 := 2#32
  let v8 : BitVec 32 := Scalar.muli v7 c2_i32
  let c0_i32_1 : BitVec 32 := 0#32
  let v9 : BitVec 32 := Scalar.addi v8 c0_i32_1
  let v10 : Index := Scalar.indexCast v9
  ![v10.toNat]
def k0_off8 (i : grid0.Coords) : Fin 1 → Nat :=
  let c336_i32 : BitVec 32 := 336#32
  let arg0 : BitVec 32 := BitVec.ofNat 32 (i 0).val
  let v7 : BitVec 32 := Scalar.addi c336_i32 arg0
  let c2_i32 : BitVec 32 := 2#32
  let v8 : BitVec 32 := Scalar.muli v7 c2_i32
  let c0_i32_1 : BitVec 32 := 0#32
  let v9 : BitVec 32 := Scalar.addi v8 c0_i32_1
  let c1_i32 : BitVec 32 := 1#32
  let v13 : BitVec 32 := Scalar.addi v9 c1_i32
  let v14 : Index := Scalar.indexCast v13
  ![v14.toNat]
@[reducible] def k0_t3_loop (v0 : BitVec 32) (v11 : BitVec 32) (v15 : BitVec 32) : Scf.Loop 32 :=
  let v12 : BitVec 32 := Scalar.subi v11 v0
  let v16 : BitVec 32 := Scalar.subi v15 v0
  let v18 : BitVec 32 := Scalar.subi v16 v12
  let c1_i32_2 : BitVec 32 := 1#32
  let v20 : BitVec 32 := Scalar.divsi v18 c1_i32_2
  let v21 : BitVec 32 := Scalar.muli v20 c1_i32_2
  let v22 : BitVec 32 := Scalar.addi v12 v21
  let c1_i32_3 : BitVec 32 := 1#32
  ⟨v12, v22, c1_i32_3⟩

def k0_off9 (v0 : BitVec 32) (v11 : BitVec 32) (v15 : BitVec 32) (k0_t3 : Fin (k0_t3_loop v0 v11 v15).trips) : Fin 1 → Nat :=
  let v12 : BitVec 32 := Scalar.subi v11 v0
  let c1_i32_3 : BitVec 32 := 1#32
  let arg8 : BitVec 32 := Scf.iv v12 c1_i32_3 k0_t3
  let c16_i32_20 : BitVec 32 := 16#32
  let c0_i32_21 : BitVec 32 := 0#32
  let v58 : BitVec 1 := Scalar.cmpi .eq c16_i32_20 c0_i32_21
  let c1_i32_22 : BitVec 32 := 1#32
  let v59 : BitVec 32 := Scalar.select v58 c1_i32_22 c16_i32_20
  let v60 : BitVec 32 := Scalar.remsi arg8 v59
  let c0_i32_24 : BitVec 32 := 0#32
  let v62 : BitVec 1 := Scalar.cmpi .slt v60 c0_i32_24
  let c0_i32_25 : BitVec 32 := 0#32
  let v63 : BitVec 1 := Scalar.cmpi .slt v59 c0_i32_25
  let v64 : BitVec 1 := Scalar.xori v62 v63
  let c0_i32_23 : BitVec 32 := 0#32
  let v61 : BitVec 1 := Scalar.cmpi .ne v60 c0_i32_23
  let v65 : BitVec 1 := Scalar.andi v64 v61
  let v66 : BitVec 32 := Scalar.addi v60 v59
  let v67 : BitVec 32 := Scalar.select v65 v66 v60
  ![v67.toNat]
def k0_off10 (v0 : BitVec 32) (v11 : BitVec 32) (v15 : BitVec 32) (k0_t3 : Fin (k0_t3_loop v0 v11 v15).trips) : Fin 3 → Nat :=
  let v12 : BitVec 32 := Scalar.subi v11 v0
  let c1_i32_3 : BitVec 32 := 1#32
  let arg8 : BitVec 32 := Scf.iv v12 c1_i32_3 k0_t3
  let c16_i32 : BitVec 32 := 16#32
  let c0_i32_15 : BitVec 32 := 0#32
  let v48 : BitVec 1 := Scalar.cmpi .eq c16_i32 c0_i32_15
  let c1_i32_16 : BitVec 32 := 1#32
  let v49 : BitVec 32 := Scalar.select v48 c1_i32_16 c16_i32
  let v50 : BitVec 32 := Scalar.remsi arg8 v49
  let c0_i32_18 : BitVec 32 := 0#32
  let v52 : BitVec 1 := Scalar.cmpi .slt v50 c0_i32_18
  let c0_i32_19 : BitVec 32 := 0#32
  let v53 : BitVec 1 := Scalar.cmpi .slt v49 c0_i32_19
  let v54 : BitVec 1 := Scalar.xori v52 v53
  let c0_i32_17 : BitVec 32 := 0#32
  let v51 : BitVec 1 := Scalar.cmpi .ne v50 c0_i32_17
  let v55 : BitVec 1 := Scalar.andi v54 v51
  let v56 : BitVec 32 := Scalar.addi v50 v49
  let v57 : BitVec 32 := Scalar.select v55 v56 v50
  let c0_i32_26 : BitVec 32 := 0#32
  let c0_i32_27 : BitVec 32 := 0#32
  ![v57.toNat, 0, 0]
def k0_off11 (v0 : BitVec 32) (v11 : BitVec 32) (v15 : BitVec 32) (k0_t3 : Fin (k0_t3_loop v0 v11 v15).trips) : Fin 2 → Nat :=
  let v12 : BitVec 32 := Scalar.subi v11 v0
  let c1_i32_3 : BitVec 32 := 1#32
  let arg8 : BitVec 32 := Scf.iv v12 c1_i32_3 k0_t3
  let c96_i32 : BitVec 32 := 96#32
  let v47 : BitVec 32 := Scalar.muli arg8 c96_i32
  let c0_i32_28 : BitVec 32 := 0#32
  ![v47.toNat, 0]
def k0_off12 (v0 : BitVec 32) (v11 : BitVec 32) (v15 : BitVec 32) (k0_t3 : Fin (k0_t3_loop v0 v11 v15).trips) : Fin 3 → Nat :=
  let v12 : BitVec 32 := Scalar.subi v11 v0
  let c1_i32_3 : BitVec 32 := 1#32
  let arg8 : BitVec 32 := Scf.iv v12 c1_i32_3 k0_t3
  let c16_i32_29 : BitVec 32 := 16#32
  let c0_i32_30 : BitVec 32 := 0#32
  let v73 : BitVec 1 := Scalar.cmpi .eq c16_i32_29 c0_i32_30
  let c1_i32_31 : BitVec 32 := 1#32
  let v74 : BitVec 32 := Scalar.select v73 c1_i32_31 c16_i32_29
  let v75 : BitVec 32 := Scalar.remsi arg8 v74
  let c0_i32_33 : BitVec 32 := 0#32
  let v77 : BitVec 1 := Scalar.cmpi .slt v75 c0_i32_33
  let c0_i32_34 : BitVec 32 := 0#32
  let v78 : BitVec 1 := Scalar.cmpi .slt v74 c0_i32_34
  let v79 : BitVec 1 := Scalar.xori v77 v78
  let c0_i32_32 : BitVec 32 := 0#32
  let v76 : BitVec 1 := Scalar.cmpi .ne v75 c0_i32_32
  let v80 : BitVec 1 := Scalar.andi v79 v76
  let v81 : BitVec 32 := Scalar.addi v75 v74
  let v82 : BitVec 32 := Scalar.select v80 v81 v75
  let v83 : Index := Scalar.indexCast v82
  let c0_35 : Index := 0#32
  let c0_36 : Index := 0#32
  ![v83.toNat, 0, 0]
def k0_off13 (v0 : BitVec 32) (v11 : BitVec 32) (v15 : BitVec 32) (k0_t3 : Fin (k0_t3_loop v0 v11 v15).trips) : Fin 1 → Nat :=
  let v12 : BitVec 32 := Scalar.subi v11 v0
  let c1_i32_3 : BitVec 32 := 1#32
  let arg8 : BitVec 32 := Scf.iv v12 c1_i32_3 k0_t3
  let c16_i32_42 : BitVec 32 := 16#32
  let v111 : BitVec 32 := Scalar.addi arg8 c16_i32_42
  let c16_i32_50 : BitVec 32 := 16#32
  let c0_i32_51 : BitVec 32 := 0#32
  let v123 : BitVec 1 := Scalar.cmpi .eq c16_i32_50 c0_i32_51
  let c1_i32_52 : BitVec 32 := 1#32
  let v124 : BitVec 32 := Scalar.select v123 c1_i32_52 c16_i32_50
  let v125 : BitVec 32 := Scalar.remsi v111 v124
  let c0_i32_54 : BitVec 32 := 0#32
  let v127 : BitVec 1 := Scalar.cmpi .slt v125 c0_i32_54
  let c0_i32_55 : BitVec 32 := 0#32
  let v128 : BitVec 1 := Scalar.cmpi .slt v124 c0_i32_55
  let v129 : BitVec 1 := Scalar.xori v127 v128
  let c0_i32_53 : BitVec 32 := 0#32
  let v126 : BitVec 1 := Scalar.cmpi .ne v125 c0_i32_53
  let v130 : BitVec 1 := Scalar.andi v129 v126
  let v131 : BitVec 32 := Scalar.addi v125 v124
  let v132 : BitVec 32 := Scalar.select v130 v131 v125
  ![v132.toNat]
def k0_cond3 (v0 : BitVec 32) (v1 : BitVec 32) (v11 : BitVec 32) (v15 : BitVec 32) (k0_t3 : Fin (k0_t3_loop v0 v11 v15).trips) : BitVec 1 :=
  let v12 : BitVec 32 := Scalar.subi v11 v0
  let c1_i32_3 : BitVec 32 := 1#32
  let arg8 : BitVec 32 := Scf.iv v12 c1_i32_3 k0_t3
  let c16_i32_40 : BitVec 32 := 16#32
  let v107 : BitVec 32 := Scalar.addi arg8 c16_i32_40
  let v2 : BitVec 32 := Scalar.subi v1 v0
  let v108 : BitVec 1 := Scalar.cmpi .slt v107 v2
  let v109 : BitVec 32 := Scalar.extui v108
  let c0_i32_41 : BitVec 32 := 0#32
  let v110 : BitVec 1 := Scalar.cmpi .ne v109 c0_i32_41
  v110

def k0_off14 (v0 : BitVec 32) (v11 : BitVec 32) (v15 : BitVec 32) (k0_t3 : Fin (k0_t3_loop v0 v11 v15).trips) : Fin 3 → Nat :=
  let v12 : BitVec 32 := Scalar.subi v11 v0
  let c1_i32_3 : BitVec 32 := 1#32
  let arg8 : BitVec 32 := Scf.iv v12 c1_i32_3 k0_t3
  let c16_i32_42 : BitVec 32 := 16#32
  let v111 : BitVec 32 := Scalar.addi arg8 c16_i32_42
  let c16_i32_44 : BitVec 32 := 16#32
  let c0_i32_45 : BitVec 32 := 0#32
  let v113 : BitVec 1 := Scalar.cmpi .eq c16_i32_44 c0_i32_45
  let c1_i32_46 : BitVec 32 := 1#32
  let v114 : BitVec 32 := Scalar.select v113 c1_i32_46 c16_i32_44
  let v115 : BitVec 32 := Scalar.remsi v111 v114
  let c0_i32_48 : BitVec 32 := 0#32
  let v117 : BitVec 1 := Scalar.cmpi .slt v115 c0_i32_48
  let c0_i32_49 : BitVec 32 := 0#32
  let v118 : BitVec 1 := Scalar.cmpi .slt v114 c0_i32_49
  let v119 : BitVec 1 := Scalar.xori v117 v118
  let c0_i32_47 : BitVec 32 := 0#32
  let v116 : BitVec 1 := Scalar.cmpi .ne v115 c0_i32_47
  let v120 : BitVec 1 := Scalar.andi v119 v116
  let v121 : BitVec 32 := Scalar.addi v115 v114
  let v122 : BitVec 32 := Scalar.select v120 v121 v115
  let c0_i32_56 : BitVec 32 := 0#32
  let c0_i32_57 : BitVec 32 := 0#32
  ![v122.toNat, 0, 0]
def k0_off15 (v0 : BitVec 32) (v11 : BitVec 32) (v15 : BitVec 32) (k0_t3 : Fin (k0_t3_loop v0 v11 v15).trips) : Fin 2 → Nat :=
  let v12 : BitVec 32 := Scalar.subi v11 v0
  let c1_i32_3 : BitVec 32 := 1#32
  let arg8 : BitVec 32 := Scf.iv v12 c1_i32_3 k0_t3
  let c16_i32_42 : BitVec 32 := 16#32
  let v111 : BitVec 32 := Scalar.addi arg8 c16_i32_42
  let c96_i32_43 : BitVec 32 := 96#32
  let v112 : BitVec 32 := Scalar.muli v111 c96_i32_43
  let c0_i32_58 : BitVec 32 := 0#32
  ![v112.toNat, 0]
@[reducible] def k0_t4_loop (v0 : BitVec 32) (v11 : BitVec 32) (v15 : BitVec 32) : Scf.Loop 32 :=
  let v12 : BitVec 32 := Scalar.subi v11 v0
  let v16 : BitVec 32 := Scalar.subi v15 v0
  let v18 : BitVec 32 := Scalar.subi v16 v12
  let c1_i32_2 : BitVec 32 := 1#32
  let v20 : BitVec 32 := Scalar.divsi v18 c1_i32_2
  let v21 : BitVec 32 := Scalar.muli v20 c1_i32_2
  let v22 : BitVec 32 := Scalar.addi v12 v21
  let v19 : BitVec 32 := Scalar.addi v12 v18
  let c1_i32_4 : BitVec 32 := 1#32
  ⟨v22, v19, c1_i32_4⟩
def k0_off16 (v0 : BitVec 32) (v11 : BitVec 32) (v15 : BitVec 32) (k0_t4 : Fin (k0_t4_loop v0 v11 v15).trips) : Fin 1 → Nat :=
  let v12 : BitVec 32 := Scalar.subi v11 v0
  let v16 : BitVec 32 := Scalar.subi v15 v0
  let v18 : BitVec 32 := Scalar.subi v16 v12
  let c1_i32_2 : BitVec 32 := 1#32
  let v20 : BitVec 32 := Scalar.divsi v18 c1_i32_2
  let v21 : BitVec 32 := Scalar.muli v20 c1_i32_2
  let v22 : BitVec 32 := Scalar.addi v12 v21
  let c1_i32_4 : BitVec 32 := 1#32
  let arg8 : BitVec 32 := Scf.iv v22 c1_i32_4 k0_t4
  let c16_i32_20 : BitVec 32 := 16#32
  let c0_i32_21 : BitVec 32 := 0#32
  let v58 : BitVec 1 := Scalar.cmpi .eq c16_i32_20 c0_i32_21
  let c1_i32_22 : BitVec 32 := 1#32
  let v59 : BitVec 32 := Scalar.select v58 c1_i32_22 c16_i32_20
  let v60 : BitVec 32 := Scalar.remsi arg8 v59
  let c0_i32_24 : BitVec 32 := 0#32
  let v62 : BitVec 1 := Scalar.cmpi .slt v60 c0_i32_24
  let c0_i32_25 : BitVec 32 := 0#32
  let v63 : BitVec 1 := Scalar.cmpi .slt v59 c0_i32_25
  let v64 : BitVec 1 := Scalar.xori v62 v63
  let c0_i32_23 : BitVec 32 := 0#32
  let v61 : BitVec 1 := Scalar.cmpi .ne v60 c0_i32_23
  let v65 : BitVec 1 := Scalar.andi v64 v61
  let v66 : BitVec 32 := Scalar.addi v60 v59
  let v67 : BitVec 32 := Scalar.select v65 v66 v60
  ![v67.toNat]
def k0_off17 (v0 : BitVec 32) (v11 : BitVec 32) (v15 : BitVec 32) (k0_t4 : Fin (k0_t4_loop v0 v11 v15).trips) : Fin 3 → Nat :=
  let v12 : BitVec 32 := Scalar.subi v11 v0
  let v16 : BitVec 32 := Scalar.subi v15 v0
  let v18 : BitVec 32 := Scalar.subi v16 v12
  let c1_i32_2 : BitVec 32 := 1#32
  let v20 : BitVec 32 := Scalar.divsi v18 c1_i32_2
  let v21 : BitVec 32 := Scalar.muli v20 c1_i32_2
  let v22 : BitVec 32 := Scalar.addi v12 v21
  let c1_i32_4 : BitVec 32 := 1#32
  let arg8 : BitVec 32 := Scf.iv v22 c1_i32_4 k0_t4
  let c16_i32 : BitVec 32 := 16#32
  let c0_i32_15 : BitVec 32 := 0#32
  let v48 : BitVec 1 := Scalar.cmpi .eq c16_i32 c0_i32_15
  let c1_i32_16 : BitVec 32 := 1#32
  let v49 : BitVec 32 := Scalar.select v48 c1_i32_16 c16_i32
  let v50 : BitVec 32 := Scalar.remsi arg8 v49
  let c0_i32_18 : BitVec 32 := 0#32
  let v52 : BitVec 1 := Scalar.cmpi .slt v50 c0_i32_18
  let c0_i32_19 : BitVec 32 := 0#32
  let v53 : BitVec 1 := Scalar.cmpi .slt v49 c0_i32_19
  let v54 : BitVec 1 := Scalar.xori v52 v53
  let c0_i32_17 : BitVec 32 := 0#32
  let v51 : BitVec 1 := Scalar.cmpi .ne v50 c0_i32_17
  let v55 : BitVec 1 := Scalar.andi v54 v51
  let v56 : BitVec 32 := Scalar.addi v50 v49
  let v57 : BitVec 32 := Scalar.select v55 v56 v50
  let c0_i32_26 : BitVec 32 := 0#32
  let c0_i32_27 : BitVec 32 := 0#32
  ![v57.toNat, 0, 0]
def k0_off18 (v0 : BitVec 32) (v11 : BitVec 32) (v15 : BitVec 32) (k0_t4 : Fin (k0_t4_loop v0 v11 v15).trips) : Fin 2 → Nat :=
  let v12 : BitVec 32 := Scalar.subi v11 v0
  let v16 : BitVec 32 := Scalar.subi v15 v0
  let v18 : BitVec 32 := Scalar.subi v16 v12
  let c1_i32_2 : BitVec 32 := 1#32
  let v20 : BitVec 32 := Scalar.divsi v18 c1_i32_2
  let v21 : BitVec 32 := Scalar.muli v20 c1_i32_2
  let v22 : BitVec 32 := Scalar.addi v12 v21
  let c1_i32_4 : BitVec 32 := 1#32
  let arg8 : BitVec 32 := Scf.iv v22 c1_i32_4 k0_t4
  let c96_i32 : BitVec 32 := 96#32
  let v47 : BitVec 32 := Scalar.muli arg8 c96_i32
  let c0_i32_28 : BitVec 32 := 0#32
  ![v47.toNat, 0]
def k0_off19 (v0 : BitVec 32) (v11 : BitVec 32) (v15 : BitVec 32) (k0_t4 : Fin (k0_t4_loop v0 v11 v15).trips) : Fin 3 → Nat :=
  let v12 : BitVec 32 := Scalar.subi v11 v0
  let v16 : BitVec 32 := Scalar.subi v15 v0
  let v18 : BitVec 32 := Scalar.subi v16 v12
  let c1_i32_2 : BitVec 32 := 1#32
  let v20 : BitVec 32 := Scalar.divsi v18 c1_i32_2
  let v21 : BitVec 32 := Scalar.muli v20 c1_i32_2
  let v22 : BitVec 32 := Scalar.addi v12 v21
  let c1_i32_4 : BitVec 32 := 1#32
  let arg8 : BitVec 32 := Scf.iv v22 c1_i32_4 k0_t4
  let c16_i32_29 : BitVec 32 := 16#32
  let c0_i32_30 : BitVec 32 := 0#32
  let v73 : BitVec 1 := Scalar.cmpi .eq c16_i32_29 c0_i32_30
  let c1_i32_31 : BitVec 32 := 1#32
  let v74 : BitVec 32 := Scalar.select v73 c1_i32_31 c16_i32_29
  let v75 : BitVec 32 := Scalar.remsi arg8 v74
  let c0_i32_33 : BitVec 32 := 0#32
  let v77 : BitVec 1 := Scalar.cmpi .slt v75 c0_i32_33
  let c0_i32_34 : BitVec 32 := 0#32
  let v78 : BitVec 1 := Scalar.cmpi .slt v74 c0_i32_34
  let v79 : BitVec 1 := Scalar.xori v77 v78
  let c0_i32_32 : BitVec 32 := 0#32
  let v76 : BitVec 1 := Scalar.cmpi .ne v75 c0_i32_32
  let v80 : BitVec 1 := Scalar.andi v79 v76
  let v81 : BitVec 32 := Scalar.addi v75 v74
  let v82 : BitVec 32 := Scalar.select v80 v81 v75
  let v83 : Index := Scalar.indexCast v82
  let c0_35 : Index := 0#32
  let c0_36 : Index := 0#32
  ![v83.toNat, 0, 0]
def k0_off20 (v0 : BitVec 32) (v11 : BitVec 32) (v15 : BitVec 32) (k0_t4 : Fin (k0_t4_loop v0 v11 v15).trips) : Fin 1 → Nat :=
  let v12 : BitVec 32 := Scalar.subi v11 v0
  let v16 : BitVec 32 := Scalar.subi v15 v0
  let v18 : BitVec 32 := Scalar.subi v16 v12
  let c1_i32_2 : BitVec 32 := 1#32
  let v20 : BitVec 32 := Scalar.divsi v18 c1_i32_2
  let v21 : BitVec 32 := Scalar.muli v20 c1_i32_2
  let v22 : BitVec 32 := Scalar.addi v12 v21
  let c1_i32_4 : BitVec 32 := 1#32
  let arg8 : BitVec 32 := Scf.iv v22 c1_i32_4 k0_t4
  let c16_i32_42 : BitVec 32 := 16#32
  let v111 : BitVec 32 := Scalar.addi arg8 c16_i32_42
  let c16_i32_50 : BitVec 32 := 16#32
  let c0_i32_51 : BitVec 32 := 0#32
  let v123 : BitVec 1 := Scalar.cmpi .eq c16_i32_50 c0_i32_51
  let c1_i32_52 : BitVec 32 := 1#32
  let v124 : BitVec 32 := Scalar.select v123 c1_i32_52 c16_i32_50
  let v125 : BitVec 32 := Scalar.remsi v111 v124
  let c0_i32_54 : BitVec 32 := 0#32
  let v127 : BitVec 1 := Scalar.cmpi .slt v125 c0_i32_54
  let c0_i32_55 : BitVec 32 := 0#32
  let v128 : BitVec 1 := Scalar.cmpi .slt v124 c0_i32_55
  let v129 : BitVec 1 := Scalar.xori v127 v128
  let c0_i32_53 : BitVec 32 := 0#32
  let v126 : BitVec 1 := Scalar.cmpi .ne v125 c0_i32_53
  let v130 : BitVec 1 := Scalar.andi v129 v126
  let v131 : BitVec 32 := Scalar.addi v125 v124
  let v132 : BitVec 32 := Scalar.select v130 v131 v125
  ![v132.toNat]
def k0_cond5 (v0 : BitVec 32) (v1 : BitVec 32) (v11 : BitVec 32) (v15 : BitVec 32) (k0_t4 : Fin (k0_t4_loop v0 v11 v15).trips) : BitVec 1 :=
  let v12 : BitVec 32 := Scalar.subi v11 v0
  let v16 : BitVec 32 := Scalar.subi v15 v0
  let v18 : BitVec 32 := Scalar.subi v16 v12
  let c1_i32_2 : BitVec 32 := 1#32
  let v20 : BitVec 32 := Scalar.divsi v18 c1_i32_2
  let v21 : BitVec 32 := Scalar.muli v20 c1_i32_2
  let v22 : BitVec 32 := Scalar.addi v12 v21
  let c1_i32_4 : BitVec 32 := 1#32
  let arg8 : BitVec 32 := Scf.iv v22 c1_i32_4 k0_t4
  let c16_i32_40 : BitVec 32 := 16#32
  let v107 : BitVec 32 := Scalar.addi arg8 c16_i32_40
  let v2 : BitVec 32 := Scalar.subi v1 v0
  let v108 : BitVec 1 := Scalar.cmpi .slt v107 v2
  let v109 : BitVec 32 := Scalar.extui v108
  let c0_i32_41 : BitVec 32 := 0#32
  let v110 : BitVec 1 := Scalar.cmpi .ne v109 c0_i32_41
  v110

def k0_off21 (v0 : BitVec 32) (v11 : BitVec 32) (v15 : BitVec 32) (k0_t4 : Fin (k0_t4_loop v0 v11 v15).trips) : Fin 3 → Nat :=
  let v12 : BitVec 32 := Scalar.subi v11 v0
  let v16 : BitVec 32 := Scalar.subi v15 v0
  let v18 : BitVec 32 := Scalar.subi v16 v12
  let c1_i32_2 : BitVec 32 := 1#32
  let v20 : BitVec 32 := Scalar.divsi v18 c1_i32_2
  let v21 : BitVec 32 := Scalar.muli v20 c1_i32_2
  let v22 : BitVec 32 := Scalar.addi v12 v21
  let c1_i32_4 : BitVec 32 := 1#32
  let arg8 : BitVec 32 := Scf.iv v22 c1_i32_4 k0_t4
  let c16_i32_42 : BitVec 32 := 16#32
  let v111 : BitVec 32 := Scalar.addi arg8 c16_i32_42
  let c16_i32_44 : BitVec 32 := 16#32
  let c0_i32_45 : BitVec 32 := 0#32
  let v113 : BitVec 1 := Scalar.cmpi .eq c16_i32_44 c0_i32_45
  let c1_i32_46 : BitVec 32 := 1#32
  let v114 : BitVec 32 := Scalar.select v113 c1_i32_46 c16_i32_44
  let v115 : BitVec 32 := Scalar.remsi v111 v114
  let c0_i32_48 : BitVec 32 := 0#32
  let v117 : BitVec 1 := Scalar.cmpi .slt v115 c0_i32_48
  let c0_i32_49 : BitVec 32 := 0#32
  let v118 : BitVec 1 := Scalar.cmpi .slt v114 c0_i32_49
  let v119 : BitVec 1 := Scalar.xori v117 v118
  let c0_i32_47 : BitVec 32 := 0#32
  let v116 : BitVec 1 := Scalar.cmpi .ne v115 c0_i32_47
  let v120 : BitVec 1 := Scalar.andi v119 v116
  let v121 : BitVec 32 := Scalar.addi v115 v114
  let v122 : BitVec 32 := Scalar.select v120 v121 v115
  let c0_i32_56 : BitVec 32 := 0#32
  let c0_i32_57 : BitVec 32 := 0#32
  ![v122.toNat, 0, 0]
def k0_off22 (v0 : BitVec 32) (v11 : BitVec 32) (v15 : BitVec 32) (k0_t4 : Fin (k0_t4_loop v0 v11 v15).trips) : Fin 2 → Nat :=
  let v12 : BitVec 32 := Scalar.subi v11 v0
  let v16 : BitVec 32 := Scalar.subi v15 v0
  let v18 : BitVec 32 := Scalar.subi v16 v12
  let c1_i32_2 : BitVec 32 := 1#32
  let v20 : BitVec 32 := Scalar.divsi v18 c1_i32_2
  let v21 : BitVec 32 := Scalar.muli v20 c1_i32_2
  let v22 : BitVec 32 := Scalar.addi v12 v21
  let c1_i32_4 : BitVec 32 := 1#32
  let arg8 : BitVec 32 := Scf.iv v22 c1_i32_4 k0_t4
  let c16_i32_42 : BitVec 32 := 16#32
  let v111 : BitVec 32 := Scalar.addi arg8 c16_i32_42
  let c96_i32_43 : BitVec 32 := 96#32
  let v112 : BitVec 32 := Scalar.muli v111 c96_i32_43
  let c0_i32_58 : BitVec 32 := 0#32
  ![v112.toNat, 0]

def k0_chk2 (v0 : BitVec 32) (v1 : BitVec 32) (v11 : BitVec 32) (v15 : BitVec 32) : Prop :=
  ((k0_t3_loop v0 v11 v15).OK) ∧
  (∀ k0_t3 : Fin (k0_t3_loop v0 v11 v15).trips, ∀ a, (k0_off9 v0 v11 v15 k0_t3) a + S1.size a ≤ S16.size a) ∧
  (∀ k0_t3 : Fin (k0_t3_loop v0 v11 v15).trips, ∀ a, (k0_off10 v0 v11 v15 k0_t3) a + S1x96x128.size a ≤ S16x96x128.size a) ∧
  (∀ k0_t3 : Fin (k0_t3_loop v0 v11 v15).trips, ∀ a, (k0_off11 v0 v11 v15 k0_t3) a + S96x128.size a ≤ S374400x128.size a) ∧
  (∀ k0_t3 : Fin (k0_t3_loop v0 v11 v15).trips, ∀ a, (k0_off12 v0 v11 v15 k0_t3) a + S1x96x128.size a ≤ S16x96x128.size a) ∧
  (∀ k0_t3 : Fin (k0_t3_loop v0 v11 v15).trips, ∀ (k0_h3 : k0_cond3 v0 v1 v11 v15 k0_t3 = 1#1), ∀ a, (k0_off13 v0 v11 v15 k0_t3) a + S1.size a ≤ S16.size a) ∧
  (∀ k0_t3 : Fin (k0_t3_loop v0 v11 v15).trips, ∀ (k0_h3 : k0_cond3 v0 v1 v11 v15 k0_t3 = 1#1), ∀ a, (k0_off14 v0 v11 v15 k0_t3) a + S1x96x128.size a ≤ S16x96x128.size a) ∧
  (∀ k0_t3 : Fin (k0_t3_loop v0 v11 v15).trips, ∀ (k0_h3 : k0_cond3 v0 v1 v11 v15 k0_t3 = 1#1), ∀ a, (k0_off15 v0 v11 v15 k0_t3) a + S96x128.size a ≤ S374400x128.size a) ∧
  ((k0_t4_loop v0 v11 v15).OK) ∧
  (∀ k0_t4 : Fin (k0_t4_loop v0 v11 v15).trips, ∀ a, (k0_off16 v0 v11 v15 k0_t4) a + S1.size a ≤ S16.size a) ∧
  (∀ k0_t4 : Fin (k0_t4_loop v0 v11 v15).trips, ∀ a, (k0_off17 v0 v11 v15 k0_t4) a + S1x96x128.size a ≤ S16x96x128.size a) ∧
  (∀ k0_t4 : Fin (k0_t4_loop v0 v11 v15).trips, ∀ a, (k0_off18 v0 v11 v15 k0_t4) a + S96x128.size a ≤ S374400x128.size a) ∧
  (∀ k0_t4 : Fin (k0_t4_loop v0 v11 v15).trips, ∀ a, (k0_off19 v0 v11 v15 k0_t4) a + S1x96x128.size a ≤ S16x96x128.size a) ∧
  (∀ k0_t4 : Fin (k0_t4_loop v0 v11 v15).trips, ∀ (k0_h5 : k0_cond5 v0 v1 v11 v15 k0_t4 = 1#1), ∀ a, (k0_off20 v0 v11 v15 k0_t4) a + S1.size a ≤ S16.size a) ∧
  (∀ k0_t4 : Fin (k0_t4_loop v0 v11 v15).trips, ∀ (k0_h5 : k0_cond5 v0 v1 v11 v15 k0_t4 = 1#1), ∀ a, (k0_off21 v0 v11 v15 k0_t4) a + S1x96x128.size a ≤ S16x96x128.size a) ∧
  (∀ k0_t4 : Fin (k0_t4_loop v0 v11 v15).trips, ∀ (k0_h5 : k0_cond5 v0 v1 v11 v15 k0_t4 = 1#1), ∀ a, (k0_off22 v0 v11 v15 k0_t4) a + S96x128.size a ≤ S374400x128.size a)
theorem k0_t3_ok : ∀ (v0 : BitVec 32) (v1 : BitVec 32) (v11 : BitVec 32) (v15 : BitVec 32) (k0_hw2 : k0_chk2 v0 v1 v11 v15), (k0_t3_loop v0 v11 v15).OK := fun v0 v1 v11 v15 k0_hw2 => k0_hw2.1
theorem k0_off9_inb : ∀ (v0 : BitVec 32) (v1 : BitVec 32) (v11 : BitVec 32) (v15 : BitVec 32) (k0_hw2 : k0_chk2 v0 v1 v11 v15) (k0_t3 : Fin (k0_t3_loop v0 v11 v15).trips), ∀ a, (k0_off9 v0 v11 v15 k0_t3) a + S1.size a ≤ S16.size a := fun v0 v1 v11 v15 k0_hw2 k0_t3 => k0_hw2.2.1 k0_t3
theorem k0_off10_inb : ∀ (v0 : BitVec 32) (v1 : BitVec 32) (v11 : BitVec 32) (v15 : BitVec 32) (k0_hw2 : k0_chk2 v0 v1 v11 v15) (k0_t3 : Fin (k0_t3_loop v0 v11 v15).trips), ∀ a, (k0_off10 v0 v11 v15 k0_t3) a + S1x96x128.size a ≤ S16x96x128.size a := fun v0 v1 v11 v15 k0_hw2 k0_t3 => k0_hw2.2.2.1 k0_t3
theorem k0_off11_inb : ∀ (v0 : BitVec 32) (v1 : BitVec 32) (v11 : BitVec 32) (v15 : BitVec 32) (k0_hw2 : k0_chk2 v0 v1 v11 v15) (k0_t3 : Fin (k0_t3_loop v0 v11 v15).trips), ∀ a, (k0_off11 v0 v11 v15 k0_t3) a + S96x128.size a ≤ S374400x128.size a := fun v0 v1 v11 v15 k0_hw2 k0_t3 => k0_hw2.2.2.2.1 k0_t3
theorem k0_off12_inb : ∀ (v0 : BitVec 32) (v1 : BitVec 32) (v11 : BitVec 32) (v15 : BitVec 32) (k0_hw2 : k0_chk2 v0 v1 v11 v15) (k0_t3 : Fin (k0_t3_loop v0 v11 v15).trips), ∀ a, (k0_off12 v0 v11 v15 k0_t3) a + S1x96x128.size a ≤ S16x96x128.size a := fun v0 v1 v11 v15 k0_hw2 k0_t3 => k0_hw2.2.2.2.2.1 k0_t3
theorem k0_off13_inb : ∀ (v0 : BitVec 32) (v1 : BitVec 32) (v11 : BitVec 32) (v15 : BitVec 32) (k0_hw2 : k0_chk2 v0 v1 v11 v15) (k0_t3 : Fin (k0_t3_loop v0 v11 v15).trips), ∀ (k0_h3 : k0_cond3 v0 v1 v11 v15 k0_t3 = 1#1), ∀ a, (k0_off13 v0 v11 v15 k0_t3) a + S1.size a ≤ S16.size a := fun v0 v1 v11 v15 k0_hw2 k0_t3 k0_h3 => k0_hw2.2.2.2.2.2.1 k0_t3 k0_h3
theorem k0_off14_inb : ∀ (v0 : BitVec 32) (v1 : BitVec 32) (v11 : BitVec 32) (v15 : BitVec 32) (k0_hw2 : k0_chk2 v0 v1 v11 v15) (k0_t3 : Fin (k0_t3_loop v0 v11 v15).trips), ∀ (k0_h3 : k0_cond3 v0 v1 v11 v15 k0_t3 = 1#1), ∀ a, (k0_off14 v0 v11 v15 k0_t3) a + S1x96x128.size a ≤ S16x96x128.size a := fun v0 v1 v11 v15 k0_hw2 k0_t3 k0_h3 => k0_hw2.2.2.2.2.2.2.1 k0_t3 k0_h3
theorem k0_off15_inb : ∀ (v0 : BitVec 32) (v1 : BitVec 32) (v11 : BitVec 32) (v15 : BitVec 32) (k0_hw2 : k0_chk2 v0 v1 v11 v15) (k0_t3 : Fin (k0_t3_loop v0 v11 v15).trips), ∀ (k0_h3 : k0_cond3 v0 v1 v11 v15 k0_t3 = 1#1), ∀ a, (k0_off15 v0 v11 v15 k0_t3) a + S96x128.size a ≤ S374400x128.size a := fun v0 v1 v11 v15 k0_hw2 k0_t3 k0_h3 => k0_hw2.2.2.2.2.2.2.2.1 k0_t3 k0_h3
theorem k0_t4_ok : ∀ (v0 : BitVec 32) (v1 : BitVec 32) (v11 : BitVec 32) (v15 : BitVec 32) (k0_hw2 : k0_chk2 v0 v1 v11 v15), (k0_t4_loop v0 v11 v15).OK := fun v0 v1 v11 v15 k0_hw2 => k0_hw2.2.2.2.2.2.2.2.2.1
theorem k0_off16_inb : ∀ (v0 : BitVec 32) (v1 : BitVec 32) (v11 : BitVec 32) (v15 : BitVec 32) (k0_hw2 : k0_chk2 v0 v1 v11 v15) (k0_t4 : Fin (k0_t4_loop v0 v11 v15).trips), ∀ a, (k0_off16 v0 v11 v15 k0_t4) a + S1.size a ≤ S16.size a := fun v0 v1 v11 v15 k0_hw2 k0_t4 => k0_hw2.2.2.2.2.2.2.2.2.2.1 k0_t4
theorem k0_off17_inb : ∀ (v0 : BitVec 32) (v1 : BitVec 32) (v11 : BitVec 32) (v15 : BitVec 32) (k0_hw2 : k0_chk2 v0 v1 v11 v15) (k0_t4 : Fin (k0_t4_loop v0 v11 v15).trips), ∀ a, (k0_off17 v0 v11 v15 k0_t4) a + S1x96x128.size a ≤ S16x96x128.size a := fun v0 v1 v11 v15 k0_hw2 k0_t4 => k0_hw2.2.2.2.2.2.2.2.2.2.2.1 k0_t4
theorem k0_off18_inb : ∀ (v0 : BitVec 32) (v1 : BitVec 32) (v11 : BitVec 32) (v15 : BitVec 32) (k0_hw2 : k0_chk2 v0 v1 v11 v15) (k0_t4 : Fin (k0_t4_loop v0 v11 v15).trips), ∀ a, (k0_off18 v0 v11 v15 k0_t4) a + S96x128.size a ≤ S374400x128.size a := fun v0 v1 v11 v15 k0_hw2 k0_t4 => k0_hw2.2.2.2.2.2.2.2.2.2.2.2.1 k0_t4
theorem k0_off19_inb : ∀ (v0 : BitVec 32) (v1 : BitVec 32) (v11 : BitVec 32) (v15 : BitVec 32) (k0_hw2 : k0_chk2 v0 v1 v11 v15) (k0_t4 : Fin (k0_t4_loop v0 v11 v15).trips), ∀ a, (k0_off19 v0 v11 v15 k0_t4) a + S1x96x128.size a ≤ S16x96x128.size a := fun v0 v1 v11 v15 k0_hw2 k0_t4 => k0_hw2.2.2.2.2.2.2.2.2.2.2.2.2.1 k0_t4
theorem k0_off20_inb : ∀ (v0 : BitVec 32) (v1 : BitVec 32) (v11 : BitVec 32) (v15 : BitVec 32) (k0_hw2 : k0_chk2 v0 v1 v11 v15) (k0_t4 : Fin (k0_t4_loop v0 v11 v15).trips), ∀ (k0_h5 : k0_cond5 v0 v1 v11 v15 k0_t4 = 1#1), ∀ a, (k0_off20 v0 v11 v15 k0_t4) a + S1.size a ≤ S16.size a := fun v0 v1 v11 v15 k0_hw2 k0_t4 k0_h5 => k0_hw2.2.2.2.2.2.2.2.2.2.2.2.2.2.1 k0_t4 k0_h5
theorem k0_off21_inb : ∀ (v0 : BitVec 32) (v1 : BitVec 32) (v11 : BitVec 32) (v15 : BitVec 32) (k0_hw2 : k0_chk2 v0 v1 v11 v15) (k0_t4 : Fin (k0_t4_loop v0 v11 v15).trips), ∀ (k0_h5 : k0_cond5 v0 v1 v11 v15 k0_t4 = 1#1), ∀ a, (k0_off21 v0 v11 v15 k0_t4) a + S1x96x128.size a ≤ S16x96x128.size a := fun v0 v1 v11 v15 k0_hw2 k0_t4 k0_h5 => k0_hw2.2.2.2.2.2.2.2.2.2.2.2.2.2.2.1 k0_t4 k0_h5
theorem k0_off22_inb : ∀ (v0 : BitVec 32) (v1 : BitVec 32) (v11 : BitVec 32) (v15 : BitVec 32) (k0_hw2 : k0_chk2 v0 v1 v11 v15) (k0_t4 : Fin (k0_t4_loop v0 v11 v15).trips), ∀ (k0_h5 : k0_cond5 v0 v1 v11 v15 k0_t4 = 1#1), ∀ a, (k0_off22 v0 v11 v15 k0_t4) a + S96x128.size a ≤ S374400x128.size a := fun v0 v1 v11 v15 k0_hw2 k0_t4 k0_h5 => k0_hw2.2.2.2.2.2.2.2.2.2.2.2.2.2.2.2 k0_t4 k0_h5

def k0_off23 (i : grid0.Coords) : Fin 1 → Nat :=
  let c336_i32_6 : BitVec 32 := 336#32
  let arg0 : BitVec 32 := BitVec.ofNat 32 (i 0).val
  let v27 : BitVec 32 := Scalar.addi c336_i32_6 arg0
  let c2_i32_7 : BitVec 32 := 2#32
  let v28 : BitVec 32 := Scalar.muli v27 c2_i32_7
  let c1_i32_8 : BitVec 32 := 1#32
  let v29 : BitVec 32 := Scalar.addi v28 c1_i32_8
  let v30 : Index := Scalar.indexCast v29
  ![v30.toNat]
def k0_off24 (i : grid0.Coords) : Fin 1 → Nat :=
  let c336_i32_6 : BitVec 32 := 336#32
  let arg0 : BitVec 32 := BitVec.ofNat 32 (i 0).val
  let v27 : BitVec 32 := Scalar.addi c336_i32_6 arg0
  let c2_i32_7 : BitVec 32 := 2#32
  let v28 : BitVec 32 := Scalar.muli v27 c2_i32_7
  let c1_i32_8 : BitVec 32 := 1#32
  let v29 : BitVec 32 := Scalar.addi v28 c1_i32_8
  let c1_i32_9 : BitVec 32 := 1#32
  let v33 : BitVec 32 := Scalar.addi v29 c1_i32_9
  let v34 : Index := Scalar.indexCast v33
  ![v34.toNat]
@[reducible] def k0_t5_loop (v0 : BitVec 32) (v31 : BitVec 32) (v35 : BitVec 32) : Scf.Loop 32 :=
  let v32 : BitVec 32 := Scalar.subi v31 v0
  let v36 : BitVec 32 := Scalar.subi v35 v0
  let v38 : BitVec 32 := Scalar.subi v36 v32
  let c1_i32_11 : BitVec 32 := 1#32
  let v40 : BitVec 32 := Scalar.divsi v38 c1_i32_11
  let v41 : BitVec 32 := Scalar.muli v40 c1_i32_11
  let v42 : BitVec 32 := Scalar.addi v32 v41
  let c1_i32_12 : BitVec 32 := 1#32
  ⟨v32, v42, c1_i32_12⟩

def k0_off25 (v0 : BitVec 32) (v31 : BitVec 32) (v35 : BitVec 32) (k0_t5 : Fin (k0_t5_loop v0 v31 v35).trips) : Fin 1 → Nat :=
  let v32 : BitVec 32 := Scalar.subi v31 v0
  let c1_i32_12 : BitVec 32 := 1#32
  let arg8 : BitVec 32 := Scf.iv v32 c1_i32_12 k0_t5
  let c16_i32_20 : BitVec 32 := 16#32
  let c0_i32_21 : BitVec 32 := 0#32
  let v58 : BitVec 1 := Scalar.cmpi .eq c16_i32_20 c0_i32_21
  let c1_i32_22 : BitVec 32 := 1#32
  let v59 : BitVec 32 := Scalar.select v58 c1_i32_22 c16_i32_20
  let v60 : BitVec 32 := Scalar.remsi arg8 v59
  let c0_i32_24 : BitVec 32 := 0#32
  let v62 : BitVec 1 := Scalar.cmpi .slt v60 c0_i32_24
  let c0_i32_25 : BitVec 32 := 0#32
  let v63 : BitVec 1 := Scalar.cmpi .slt v59 c0_i32_25
  let v64 : BitVec 1 := Scalar.xori v62 v63
  let c0_i32_23 : BitVec 32 := 0#32
  let v61 : BitVec 1 := Scalar.cmpi .ne v60 c0_i32_23
  let v65 : BitVec 1 := Scalar.andi v64 v61
  let v66 : BitVec 32 := Scalar.addi v60 v59
  let v67 : BitVec 32 := Scalar.select v65 v66 v60
  ![v67.toNat]
def k0_off26 (v0 : BitVec 32) (v31 : BitVec 32) (v35 : BitVec 32) (k0_t5 : Fin (k0_t5_loop v0 v31 v35).trips) : Fin 3 → Nat :=
  let v32 : BitVec 32 := Scalar.subi v31 v0
  let c1_i32_12 : BitVec 32 := 1#32
  let arg8 : BitVec 32 := Scf.iv v32 c1_i32_12 k0_t5
  let c16_i32 : BitVec 32 := 16#32
  let c0_i32_15 : BitVec 32 := 0#32
  let v48 : BitVec 1 := Scalar.cmpi .eq c16_i32 c0_i32_15
  let c1_i32_16 : BitVec 32 := 1#32
  let v49 : BitVec 32 := Scalar.select v48 c1_i32_16 c16_i32
  let v50 : BitVec 32 := Scalar.remsi arg8 v49
  let c0_i32_18 : BitVec 32 := 0#32
  let v52 : BitVec 1 := Scalar.cmpi .slt v50 c0_i32_18
  let c0_i32_19 : BitVec 32 := 0#32
  let v53 : BitVec 1 := Scalar.cmpi .slt v49 c0_i32_19
  let v54 : BitVec 1 := Scalar.xori v52 v53
  let c0_i32_17 : BitVec 32 := 0#32
  let v51 : BitVec 1 := Scalar.cmpi .ne v50 c0_i32_17
  let v55 : BitVec 1 := Scalar.andi v54 v51
  let v56 : BitVec 32 := Scalar.addi v50 v49
  let v57 : BitVec 32 := Scalar.select v55 v56 v50
  let c0_i32_26 : BitVec 32 := 0#32
  let c0_i32_27 : BitVec 32 := 0#32
  ![v57.toNat, 0, 0]
def k0_off27 (v0 : BitVec 32) (v31 : BitVec 32) (v35 : BitVec 32) (k0_t5 : Fin (k0_t5_loop v0 v31 v35).trips) : Fin 2 → Nat :=
  let v32 : BitVec 32 := Scalar.subi v31 v0
  let c1_i32_12 : BitVec 32 := 1#32
  let arg8 : BitVec 32 := Scf.iv v32 c1_i32_12 k0_t5
  let c96_i32 : BitVec 32 := 96#32
  let v47 : BitVec 32 := Scalar.muli arg8 c96_i32
  let c0_i32_28 : BitVec 32 := 0#32
  ![v47.toNat, 0]
def k0_off28 (v0 : BitVec 32) (v31 : BitVec 32) (v35 : BitVec 32) (k0_t5 : Fin (k0_t5_loop v0 v31 v35).trips) : Fin 3 → Nat :=
  let v32 : BitVec 32 := Scalar.subi v31 v0
  let c1_i32_12 : BitVec 32 := 1#32
  let arg8 : BitVec 32 := Scf.iv v32 c1_i32_12 k0_t5
  let c16_i32_29 : BitVec 32 := 16#32
  let c0_i32_30 : BitVec 32 := 0#32
  let v73 : BitVec 1 := Scalar.cmpi .eq c16_i32_29 c0_i32_30
  let c1_i32_31 : BitVec 32 := 1#32
  let v74 : BitVec 32 := Scalar.select v73 c1_i32_31 c16_i32_29
  let v75 : BitVec 32 := Scalar.remsi arg8 v74
  let c0_i32_33 : BitVec 32 := 0#32
  let v77 : BitVec 1 := Scalar.cmpi .slt v75 c0_i32_33
  let c0_i32_34 : BitVec 32 := 0#32
  let v78 : BitVec 1 := Scalar.cmpi .slt v74 c0_i32_34
  let v79 : BitVec 1 := Scalar.xori v77 v78
  let c0_i32_32 : BitVec 32 := 0#32
  let v76 : BitVec 1 := Scalar.cmpi .ne v75 c0_i32_32
  let v80 : BitVec 1 := Scalar.andi v79 v76
  let v81 : BitVec 32 := Scalar.addi v75 v74
  let v82 : BitVec 32 := Scalar.select v80 v81 v75
  let v83 : Index := Scalar.indexCast v82
  let c0_35 : Index := 0#32
  let c0_36 : Index := 0#32
  ![v83.toNat, 0, 0]
def k0_off29 (v0 : BitVec 32) (v31 : BitVec 32) (v35 : BitVec 32) (k0_t5 : Fin (k0_t5_loop v0 v31 v35).trips) : Fin 1 → Nat :=
  let v32 : BitVec 32 := Scalar.subi v31 v0
  let c1_i32_12 : BitVec 32 := 1#32
  let arg8 : BitVec 32 := Scf.iv v32 c1_i32_12 k0_t5
  let c16_i32_42 : BitVec 32 := 16#32
  let v111 : BitVec 32 := Scalar.addi arg8 c16_i32_42
  let c16_i32_50 : BitVec 32 := 16#32
  let c0_i32_51 : BitVec 32 := 0#32
  let v123 : BitVec 1 := Scalar.cmpi .eq c16_i32_50 c0_i32_51
  let c1_i32_52 : BitVec 32 := 1#32
  let v124 : BitVec 32 := Scalar.select v123 c1_i32_52 c16_i32_50
  let v125 : BitVec 32 := Scalar.remsi v111 v124
  let c0_i32_54 : BitVec 32 := 0#32
  let v127 : BitVec 1 := Scalar.cmpi .slt v125 c0_i32_54
  let c0_i32_55 : BitVec 32 := 0#32
  let v128 : BitVec 1 := Scalar.cmpi .slt v124 c0_i32_55
  let v129 : BitVec 1 := Scalar.xori v127 v128
  let c0_i32_53 : BitVec 32 := 0#32
  let v126 : BitVec 1 := Scalar.cmpi .ne v125 c0_i32_53
  let v130 : BitVec 1 := Scalar.andi v129 v126
  let v131 : BitVec 32 := Scalar.addi v125 v124
  let v132 : BitVec 32 := Scalar.select v130 v131 v125
  ![v132.toNat]
def k0_cond7 (v0 : BitVec 32) (v1 : BitVec 32) (v31 : BitVec 32) (v35 : BitVec 32) (k0_t5 : Fin (k0_t5_loop v0 v31 v35).trips) : BitVec 1 :=
  let v32 : BitVec 32 := Scalar.subi v31 v0
  let c1_i32_12 : BitVec 32 := 1#32
  let arg8 : BitVec 32 := Scf.iv v32 c1_i32_12 k0_t5
  let c16_i32_40 : BitVec 32 := 16#32
  let v107 : BitVec 32 := Scalar.addi arg8 c16_i32_40
  let v2 : BitVec 32 := Scalar.subi v1 v0
  let v108 : BitVec 1 := Scalar.cmpi .slt v107 v2
  let v109 : BitVec 32 := Scalar.extui v108
  let c0_i32_41 : BitVec 32 := 0#32
  let v110 : BitVec 1 := Scalar.cmpi .ne v109 c0_i32_41
  v110

def k0_off30 (v0 : BitVec 32) (v31 : BitVec 32) (v35 : BitVec 32) (k0_t5 : Fin (k0_t5_loop v0 v31 v35).trips) : Fin 3 → Nat :=
  let v32 : BitVec 32 := Scalar.subi v31 v0
  let c1_i32_12 : BitVec 32 := 1#32
  let arg8 : BitVec 32 := Scf.iv v32 c1_i32_12 k0_t5
  let c16_i32_42 : BitVec 32 := 16#32
  let v111 : BitVec 32 := Scalar.addi arg8 c16_i32_42
  let c16_i32_44 : BitVec 32 := 16#32
  let c0_i32_45 : BitVec 32 := 0#32
  let v113 : BitVec 1 := Scalar.cmpi .eq c16_i32_44 c0_i32_45
  let c1_i32_46 : BitVec 32 := 1#32
  let v114 : BitVec 32 := Scalar.select v113 c1_i32_46 c16_i32_44
  let v115 : BitVec 32 := Scalar.remsi v111 v114
  let c0_i32_48 : BitVec 32 := 0#32
  let v117 : BitVec 1 := Scalar.cmpi .slt v115 c0_i32_48
  let c0_i32_49 : BitVec 32 := 0#32
  let v118 : BitVec 1 := Scalar.cmpi .slt v114 c0_i32_49
  let v119 : BitVec 1 := Scalar.xori v117 v118
  let c0_i32_47 : BitVec 32 := 0#32
  let v116 : BitVec 1 := Scalar.cmpi .ne v115 c0_i32_47
  let v120 : BitVec 1 := Scalar.andi v119 v116
  let v121 : BitVec 32 := Scalar.addi v115 v114
  let v122 : BitVec 32 := Scalar.select v120 v121 v115
  let c0_i32_56 : BitVec 32 := 0#32
  let c0_i32_57 : BitVec 32 := 0#32
  ![v122.toNat, 0, 0]
def k0_off31 (v0 : BitVec 32) (v31 : BitVec 32) (v35 : BitVec 32) (k0_t5 : Fin (k0_t5_loop v0 v31 v35).trips) : Fin 2 → Nat :=
  let v32 : BitVec 32 := Scalar.subi v31 v0
  let c1_i32_12 : BitVec 32 := 1#32
  let arg8 : BitVec 32 := Scf.iv v32 c1_i32_12 k0_t5
  let c16_i32_42 : BitVec 32 := 16#32
  let v111 : BitVec 32 := Scalar.addi arg8 c16_i32_42
  let c96_i32_43 : BitVec 32 := 96#32
  let v112 : BitVec 32 := Scalar.muli v111 c96_i32_43
  let c0_i32_58 : BitVec 32 := 0#32
  ![v112.toNat, 0]
@[reducible] def k0_t6_loop (v0 : BitVec 32) (v31 : BitVec 32) (v35 : BitVec 32) : Scf.Loop 32 :=
  let v32 : BitVec 32 := Scalar.subi v31 v0
  let v36 : BitVec 32 := Scalar.subi v35 v0
  let v38 : BitVec 32 := Scalar.subi v36 v32
  let c1_i32_11 : BitVec 32 := 1#32
  let v40 : BitVec 32 := Scalar.divsi v38 c1_i32_11
  let v41 : BitVec 32 := Scalar.muli v40 c1_i32_11
  let v42 : BitVec 32 := Scalar.addi v32 v41
  let v39 : BitVec 32 := Scalar.addi v32 v38
  let c1_i32_13 : BitVec 32 := 1#32
  ⟨v42, v39, c1_i32_13⟩
def k0_off32 (v0 : BitVec 32) (v31 : BitVec 32) (v35 : BitVec 32) (k0_t6 : Fin (k0_t6_loop v0 v31 v35).trips) : Fin 1 → Nat :=
  let v32 : BitVec 32 := Scalar.subi v31 v0
  let v36 : BitVec 32 := Scalar.subi v35 v0
  let v38 : BitVec 32 := Scalar.subi v36 v32
  let c1_i32_11 : BitVec 32 := 1#32
  let v40 : BitVec 32 := Scalar.divsi v38 c1_i32_11
  let v41 : BitVec 32 := Scalar.muli v40 c1_i32_11
  let v42 : BitVec 32 := Scalar.addi v32 v41
  let c1_i32_13 : BitVec 32 := 1#32
  let arg8 : BitVec 32 := Scf.iv v42 c1_i32_13 k0_t6
  let c16_i32_20 : BitVec 32 := 16#32
  let c0_i32_21 : BitVec 32 := 0#32
  let v58 : BitVec 1 := Scalar.cmpi .eq c16_i32_20 c0_i32_21
  let c1_i32_22 : BitVec 32 := 1#32
  let v59 : BitVec 32 := Scalar.select v58 c1_i32_22 c16_i32_20
  let v60 : BitVec 32 := Scalar.remsi arg8 v59
  let c0_i32_24 : BitVec 32 := 0#32
  let v62 : BitVec 1 := Scalar.cmpi .slt v60 c0_i32_24
  let c0_i32_25 : BitVec 32 := 0#32
  let v63 : BitVec 1 := Scalar.cmpi .slt v59 c0_i32_25
  let v64 : BitVec 1 := Scalar.xori v62 v63
  let c0_i32_23 : BitVec 32 := 0#32
  let v61 : BitVec 1 := Scalar.cmpi .ne v60 c0_i32_23
  let v65 : BitVec 1 := Scalar.andi v64 v61
  let v66 : BitVec 32 := Scalar.addi v60 v59
  let v67 : BitVec 32 := Scalar.select v65 v66 v60
  ![v67.toNat]
def k0_off33 (v0 : BitVec 32) (v31 : BitVec 32) (v35 : BitVec 32) (k0_t6 : Fin (k0_t6_loop v0 v31 v35).trips) : Fin 3 → Nat :=
  let v32 : BitVec 32 := Scalar.subi v31 v0
  let v36 : BitVec 32 := Scalar.subi v35 v0
  let v38 : BitVec 32 := Scalar.subi v36 v32
  let c1_i32_11 : BitVec 32 := 1#32
  let v40 : BitVec 32 := Scalar.divsi v38 c1_i32_11
  let v41 : BitVec 32 := Scalar.muli v40 c1_i32_11
  let v42 : BitVec 32 := Scalar.addi v32 v41
  let c1_i32_13 : BitVec 32 := 1#32
  let arg8 : BitVec 32 := Scf.iv v42 c1_i32_13 k0_t6
  let c16_i32 : BitVec 32 := 16#32
  let c0_i32_15 : BitVec 32 := 0#32
  let v48 : BitVec 1 := Scalar.cmpi .eq c16_i32 c0_i32_15
  let c1_i32_16 : BitVec 32 := 1#32
  let v49 : BitVec 32 := Scalar.select v48 c1_i32_16 c16_i32
  let v50 : BitVec 32 := Scalar.remsi arg8 v49
  let c0_i32_18 : BitVec 32 := 0#32
  let v52 : BitVec 1 := Scalar.cmpi .slt v50 c0_i32_18
  let c0_i32_19 : BitVec 32 := 0#32
  let v53 : BitVec 1 := Scalar.cmpi .slt v49 c0_i32_19
  let v54 : BitVec 1 := Scalar.xori v52 v53
  let c0_i32_17 : BitVec 32 := 0#32
  let v51 : BitVec 1 := Scalar.cmpi .ne v50 c0_i32_17
  let v55 : BitVec 1 := Scalar.andi v54 v51
  let v56 : BitVec 32 := Scalar.addi v50 v49
  let v57 : BitVec 32 := Scalar.select v55 v56 v50
  let c0_i32_26 : BitVec 32 := 0#32
  let c0_i32_27 : BitVec 32 := 0#32
  ![v57.toNat, 0, 0]
def k0_off34 (v0 : BitVec 32) (v31 : BitVec 32) (v35 : BitVec 32) (k0_t6 : Fin (k0_t6_loop v0 v31 v35).trips) : Fin 2 → Nat :=
  let v32 : BitVec 32 := Scalar.subi v31 v0
  let v36 : BitVec 32 := Scalar.subi v35 v0
  let v38 : BitVec 32 := Scalar.subi v36 v32
  let c1_i32_11 : BitVec 32 := 1#32
  let v40 : BitVec 32 := Scalar.divsi v38 c1_i32_11
  let v41 : BitVec 32 := Scalar.muli v40 c1_i32_11
  let v42 : BitVec 32 := Scalar.addi v32 v41
  let c1_i32_13 : BitVec 32 := 1#32
  let arg8 : BitVec 32 := Scf.iv v42 c1_i32_13 k0_t6
  let c96_i32 : BitVec 32 := 96#32
  let v47 : BitVec 32 := Scalar.muli arg8 c96_i32
  let c0_i32_28 : BitVec 32 := 0#32
  ![v47.toNat, 0]
def k0_off35 (v0 : BitVec 32) (v31 : BitVec 32) (v35 : BitVec 32) (k0_t6 : Fin (k0_t6_loop v0 v31 v35).trips) : Fin 3 → Nat :=
  let v32 : BitVec 32 := Scalar.subi v31 v0
  let v36 : BitVec 32 := Scalar.subi v35 v0
  let v38 : BitVec 32 := Scalar.subi v36 v32
  let c1_i32_11 : BitVec 32 := 1#32
  let v40 : BitVec 32 := Scalar.divsi v38 c1_i32_11
  let v41 : BitVec 32 := Scalar.muli v40 c1_i32_11
  let v42 : BitVec 32 := Scalar.addi v32 v41
  let c1_i32_13 : BitVec 32 := 1#32
  let arg8 : BitVec 32 := Scf.iv v42 c1_i32_13 k0_t6
  let c16_i32_29 : BitVec 32 := 16#32
  let c0_i32_30 : BitVec 32 := 0#32
  let v73 : BitVec 1 := Scalar.cmpi .eq c16_i32_29 c0_i32_30
  let c1_i32_31 : BitVec 32 := 1#32
  let v74 : BitVec 32 := Scalar.select v73 c1_i32_31 c16_i32_29
  let v75 : BitVec 32 := Scalar.remsi arg8 v74
  let c0_i32_33 : BitVec 32 := 0#32
  let v77 : BitVec 1 := Scalar.cmpi .slt v75 c0_i32_33
  let c0_i32_34 : BitVec 32 := 0#32
  let v78 : BitVec 1 := Scalar.cmpi .slt v74 c0_i32_34
  let v79 : BitVec 1 := Scalar.xori v77 v78
  let c0_i32_32 : BitVec 32 := 0#32
  let v76 : BitVec 1 := Scalar.cmpi .ne v75 c0_i32_32
  let v80 : BitVec 1 := Scalar.andi v79 v76
  let v81 : BitVec 32 := Scalar.addi v75 v74
  let v82 : BitVec 32 := Scalar.select v80 v81 v75
  let v83 : Index := Scalar.indexCast v82
  let c0_35 : Index := 0#32
  let c0_36 : Index := 0#32
  ![v83.toNat, 0, 0]
def k0_off36 (v0 : BitVec 32) (v31 : BitVec 32) (v35 : BitVec 32) (k0_t6 : Fin (k0_t6_loop v0 v31 v35).trips) : Fin 1 → Nat :=
  let v32 : BitVec 32 := Scalar.subi v31 v0
  let v36 : BitVec 32 := Scalar.subi v35 v0
  let v38 : BitVec 32 := Scalar.subi v36 v32
  let c1_i32_11 : BitVec 32 := 1#32
  let v40 : BitVec 32 := Scalar.divsi v38 c1_i32_11
  let v41 : BitVec 32 := Scalar.muli v40 c1_i32_11
  let v42 : BitVec 32 := Scalar.addi v32 v41
  let c1_i32_13 : BitVec 32 := 1#32
  let arg8 : BitVec 32 := Scf.iv v42 c1_i32_13 k0_t6
  let c16_i32_42 : BitVec 32 := 16#32
  let v111 : BitVec 32 := Scalar.addi arg8 c16_i32_42
  let c16_i32_50 : BitVec 32 := 16#32
  let c0_i32_51 : BitVec 32 := 0#32
  let v123 : BitVec 1 := Scalar.cmpi .eq c16_i32_50 c0_i32_51
  let c1_i32_52 : BitVec 32 := 1#32
  let v124 : BitVec 32 := Scalar.select v123 c1_i32_52 c16_i32_50
  let v125 : BitVec 32 := Scalar.remsi v111 v124
  let c0_i32_54 : BitVec 32 := 0#32
  let v127 : BitVec 1 := Scalar.cmpi .slt v125 c0_i32_54
  let c0_i32_55 : BitVec 32 := 0#32
  let v128 : BitVec 1 := Scalar.cmpi .slt v124 c0_i32_55
  let v129 : BitVec 1 := Scalar.xori v127 v128
  let c0_i32_53 : BitVec 32 := 0#32
  let v126 : BitVec 1 := Scalar.cmpi .ne v125 c0_i32_53
  let v130 : BitVec 1 := Scalar.andi v129 v126
  let v131 : BitVec 32 := Scalar.addi v125 v124
  let v132 : BitVec 32 := Scalar.select v130 v131 v125
  ![v132.toNat]
def k0_cond9 (v0 : BitVec 32) (v1 : BitVec 32) (v31 : BitVec 32) (v35 : BitVec 32) (k0_t6 : Fin (k0_t6_loop v0 v31 v35).trips) : BitVec 1 :=
  let v32 : BitVec 32 := Scalar.subi v31 v0
  let v36 : BitVec 32 := Scalar.subi v35 v0
  let v38 : BitVec 32 := Scalar.subi v36 v32
  let c1_i32_11 : BitVec 32 := 1#32
  let v40 : BitVec 32 := Scalar.divsi v38 c1_i32_11
  let v41 : BitVec 32 := Scalar.muli v40 c1_i32_11
  let v42 : BitVec 32 := Scalar.addi v32 v41
  let c1_i32_13 : BitVec 32 := 1#32
  let arg8 : BitVec 32 := Scf.iv v42 c1_i32_13 k0_t6
  let c16_i32_40 : BitVec 32 := 16#32
  let v107 : BitVec 32 := Scalar.addi arg8 c16_i32_40
  let v2 : BitVec 32 := Scalar.subi v1 v0
  let v108 : BitVec 1 := Scalar.cmpi .slt v107 v2
  let v109 : BitVec 32 := Scalar.extui v108
  let c0_i32_41 : BitVec 32 := 0#32
  let v110 : BitVec 1 := Scalar.cmpi .ne v109 c0_i32_41
  v110

def k0_off37 (v0 : BitVec 32) (v31 : BitVec 32) (v35 : BitVec 32) (k0_t6 : Fin (k0_t6_loop v0 v31 v35).trips) : Fin 3 → Nat :=
  let v32 : BitVec 32 := Scalar.subi v31 v0
  let v36 : BitVec 32 := Scalar.subi v35 v0
  let v38 : BitVec 32 := Scalar.subi v36 v32
  let c1_i32_11 : BitVec 32 := 1#32
  let v40 : BitVec 32 := Scalar.divsi v38 c1_i32_11
  let v41 : BitVec 32 := Scalar.muli v40 c1_i32_11
  let v42 : BitVec 32 := Scalar.addi v32 v41
  let c1_i32_13 : BitVec 32 := 1#32
  let arg8 : BitVec 32 := Scf.iv v42 c1_i32_13 k0_t6
  let c16_i32_42 : BitVec 32 := 16#32
  let v111 : BitVec 32 := Scalar.addi arg8 c16_i32_42
  let c16_i32_44 : BitVec 32 := 16#32
  let c0_i32_45 : BitVec 32 := 0#32
  let v113 : BitVec 1 := Scalar.cmpi .eq c16_i32_44 c0_i32_45
  let c1_i32_46 : BitVec 32 := 1#32
  let v114 : BitVec 32 := Scalar.select v113 c1_i32_46 c16_i32_44
  let v115 : BitVec 32 := Scalar.remsi v111 v114
  let c0_i32_48 : BitVec 32 := 0#32
  let v117 : BitVec 1 := Scalar.cmpi .slt v115 c0_i32_48
  let c0_i32_49 : BitVec 32 := 0#32
  let v118 : BitVec 1 := Scalar.cmpi .slt v114 c0_i32_49
  let v119 : BitVec 1 := Scalar.xori v117 v118
  let c0_i32_47 : BitVec 32 := 0#32
  let v116 : BitVec 1 := Scalar.cmpi .ne v115 c0_i32_47
  let v120 : BitVec 1 := Scalar.andi v119 v116
  let v121 : BitVec 32 := Scalar.addi v115 v114
  let v122 : BitVec 32 := Scalar.select v120 v121 v115
  let c0_i32_56 : BitVec 32 := 0#32
  let c0_i32_57 : BitVec 32 := 0#32
  ![v122.toNat, 0, 0]
def k0_off38 (v0 : BitVec 32) (v31 : BitVec 32) (v35 : BitVec 32) (k0_t6 : Fin (k0_t6_loop v0 v31 v35).trips) : Fin 2 → Nat :=
  let v32 : BitVec 32 := Scalar.subi v31 v0
  let v36 : BitVec 32 := Scalar.subi v35 v0
  let v38 : BitVec 32 := Scalar.subi v36 v32
  let c1_i32_11 : BitVec 32 := 1#32
  let v40 : BitVec 32 := Scalar.divsi v38 c1_i32_11
  let v41 : BitVec 32 := Scalar.muli v40 c1_i32_11
  let v42 : BitVec 32 := Scalar.addi v32 v41
  let c1_i32_13 : BitVec 32 := 1#32
  let arg8 : BitVec 32 := Scf.iv v42 c1_i32_13 k0_t6
  let c16_i32_42 : BitVec 32 := 16#32
  let v111 : BitVec 32 := Scalar.addi arg8 c16_i32_42
  let c96_i32_43 : BitVec 32 := 96#32
  let v112 : BitVec 32 := Scalar.muli v111 c96_i32_43
  let c0_i32_58 : BitVec 32 := 0#32
  ![v112.toNat, 0]

def k0_chk3 (v0 : BitVec 32) (v1 : BitVec 32) (v31 : BitVec 32) (v35 : BitVec 32) : Prop :=
  ((k0_t5_loop v0 v31 v35).OK) ∧
  (∀ k0_t5 : Fin (k0_t5_loop v0 v31 v35).trips, ∀ a, (k0_off25 v0 v31 v35 k0_t5) a + S1.size a ≤ S16.size a) ∧
  (∀ k0_t5 : Fin (k0_t5_loop v0 v31 v35).trips, ∀ a, (k0_off26 v0 v31 v35 k0_t5) a + S1x96x128.size a ≤ S16x96x128.size a) ∧
  (∀ k0_t5 : Fin (k0_t5_loop v0 v31 v35).trips, ∀ a, (k0_off27 v0 v31 v35 k0_t5) a + S96x128.size a ≤ S374400x128.size a) ∧
  (∀ k0_t5 : Fin (k0_t5_loop v0 v31 v35).trips, ∀ a, (k0_off28 v0 v31 v35 k0_t5) a + S1x96x128.size a ≤ S16x96x128.size a) ∧
  (∀ k0_t5 : Fin (k0_t5_loop v0 v31 v35).trips, ∀ (k0_h7 : k0_cond7 v0 v1 v31 v35 k0_t5 = 1#1), ∀ a, (k0_off29 v0 v31 v35 k0_t5) a + S1.size a ≤ S16.size a) ∧
  (∀ k0_t5 : Fin (k0_t5_loop v0 v31 v35).trips, ∀ (k0_h7 : k0_cond7 v0 v1 v31 v35 k0_t5 = 1#1), ∀ a, (k0_off30 v0 v31 v35 k0_t5) a + S1x96x128.size a ≤ S16x96x128.size a) ∧
  (∀ k0_t5 : Fin (k0_t5_loop v0 v31 v35).trips, ∀ (k0_h7 : k0_cond7 v0 v1 v31 v35 k0_t5 = 1#1), ∀ a, (k0_off31 v0 v31 v35 k0_t5) a + S96x128.size a ≤ S374400x128.size a) ∧
  ((k0_t6_loop v0 v31 v35).OK) ∧
  (∀ k0_t6 : Fin (k0_t6_loop v0 v31 v35).trips, ∀ a, (k0_off32 v0 v31 v35 k0_t6) a + S1.size a ≤ S16.size a) ∧
  (∀ k0_t6 : Fin (k0_t6_loop v0 v31 v35).trips, ∀ a, (k0_off33 v0 v31 v35 k0_t6) a + S1x96x128.size a ≤ S16x96x128.size a) ∧
  (∀ k0_t6 : Fin (k0_t6_loop v0 v31 v35).trips, ∀ a, (k0_off34 v0 v31 v35 k0_t6) a + S96x128.size a ≤ S374400x128.size a) ∧
  (∀ k0_t6 : Fin (k0_t6_loop v0 v31 v35).trips, ∀ a, (k0_off35 v0 v31 v35 k0_t6) a + S1x96x128.size a ≤ S16x96x128.size a) ∧
  (∀ k0_t6 : Fin (k0_t6_loop v0 v31 v35).trips, ∀ (k0_h9 : k0_cond9 v0 v1 v31 v35 k0_t6 = 1#1), ∀ a, (k0_off36 v0 v31 v35 k0_t6) a + S1.size a ≤ S16.size a) ∧
  (∀ k0_t6 : Fin (k0_t6_loop v0 v31 v35).trips, ∀ (k0_h9 : k0_cond9 v0 v1 v31 v35 k0_t6 = 1#1), ∀ a, (k0_off37 v0 v31 v35 k0_t6) a + S1x96x128.size a ≤ S16x96x128.size a) ∧
  (∀ k0_t6 : Fin (k0_t6_loop v0 v31 v35).trips, ∀ (k0_h9 : k0_cond9 v0 v1 v31 v35 k0_t6 = 1#1), ∀ a, (k0_off38 v0 v31 v35 k0_t6) a + S96x128.size a ≤ S374400x128.size a)
theorem k0_t5_ok : ∀ (v0 : BitVec 32) (v1 : BitVec 32) (v31 : BitVec 32) (v35 : BitVec 32) (k0_hw3 : k0_chk3 v0 v1 v31 v35), (k0_t5_loop v0 v31 v35).OK := fun v0 v1 v31 v35 k0_hw3 => k0_hw3.1
theorem k0_off25_inb : ∀ (v0 : BitVec 32) (v1 : BitVec 32) (v31 : BitVec 32) (v35 : BitVec 32) (k0_hw3 : k0_chk3 v0 v1 v31 v35) (k0_t5 : Fin (k0_t5_loop v0 v31 v35).trips), ∀ a, (k0_off25 v0 v31 v35 k0_t5) a + S1.size a ≤ S16.size a := fun v0 v1 v31 v35 k0_hw3 k0_t5 => k0_hw3.2.1 k0_t5
theorem k0_off26_inb : ∀ (v0 : BitVec 32) (v1 : BitVec 32) (v31 : BitVec 32) (v35 : BitVec 32) (k0_hw3 : k0_chk3 v0 v1 v31 v35) (k0_t5 : Fin (k0_t5_loop v0 v31 v35).trips), ∀ a, (k0_off26 v0 v31 v35 k0_t5) a + S1x96x128.size a ≤ S16x96x128.size a := fun v0 v1 v31 v35 k0_hw3 k0_t5 => k0_hw3.2.2.1 k0_t5
theorem k0_off27_inb : ∀ (v0 : BitVec 32) (v1 : BitVec 32) (v31 : BitVec 32) (v35 : BitVec 32) (k0_hw3 : k0_chk3 v0 v1 v31 v35) (k0_t5 : Fin (k0_t5_loop v0 v31 v35).trips), ∀ a, (k0_off27 v0 v31 v35 k0_t5) a + S96x128.size a ≤ S374400x128.size a := fun v0 v1 v31 v35 k0_hw3 k0_t5 => k0_hw3.2.2.2.1 k0_t5
theorem k0_off28_inb : ∀ (v0 : BitVec 32) (v1 : BitVec 32) (v31 : BitVec 32) (v35 : BitVec 32) (k0_hw3 : k0_chk3 v0 v1 v31 v35) (k0_t5 : Fin (k0_t5_loop v0 v31 v35).trips), ∀ a, (k0_off28 v0 v31 v35 k0_t5) a + S1x96x128.size a ≤ S16x96x128.size a := fun v0 v1 v31 v35 k0_hw3 k0_t5 => k0_hw3.2.2.2.2.1 k0_t5
theorem k0_off29_inb : ∀ (v0 : BitVec 32) (v1 : BitVec 32) (v31 : BitVec 32) (v35 : BitVec 32) (k0_hw3 : k0_chk3 v0 v1 v31 v35) (k0_t5 : Fin (k0_t5_loop v0 v31 v35).trips), ∀ (k0_h7 : k0_cond7 v0 v1 v31 v35 k0_t5 = 1#1), ∀ a, (k0_off29 v0 v31 v35 k0_t5) a + S1.size a ≤ S16.size a := fun v0 v1 v31 v35 k0_hw3 k0_t5 k0_h7 => k0_hw3.2.2.2.2.2.1 k0_t5 k0_h7
theorem k0_off30_inb : ∀ (v0 : BitVec 32) (v1 : BitVec 32) (v31 : BitVec 32) (v35 : BitVec 32) (k0_hw3 : k0_chk3 v0 v1 v31 v35) (k0_t5 : Fin (k0_t5_loop v0 v31 v35).trips), ∀ (k0_h7 : k0_cond7 v0 v1 v31 v35 k0_t5 = 1#1), ∀ a, (k0_off30 v0 v31 v35 k0_t5) a + S1x96x128.size a ≤ S16x96x128.size a := fun v0 v1 v31 v35 k0_hw3 k0_t5 k0_h7 => k0_hw3.2.2.2.2.2.2.1 k0_t5 k0_h7
theorem k0_off31_inb : ∀ (v0 : BitVec 32) (v1 : BitVec 32) (v31 : BitVec 32) (v35 : BitVec 32) (k0_hw3 : k0_chk3 v0 v1 v31 v35) (k0_t5 : Fin (k0_t5_loop v0 v31 v35).trips), ∀ (k0_h7 : k0_cond7 v0 v1 v31 v35 k0_t5 = 1#1), ∀ a, (k0_off31 v0 v31 v35 k0_t5) a + S96x128.size a ≤ S374400x128.size a := fun v0 v1 v31 v35 k0_hw3 k0_t5 k0_h7 => k0_hw3.2.2.2.2.2.2.2.1 k0_t5 k0_h7
theorem k0_t6_ok : ∀ (v0 : BitVec 32) (v1 : BitVec 32) (v31 : BitVec 32) (v35 : BitVec 32) (k0_hw3 : k0_chk3 v0 v1 v31 v35), (k0_t6_loop v0 v31 v35).OK := fun v0 v1 v31 v35 k0_hw3 => k0_hw3.2.2.2.2.2.2.2.2.1
theorem k0_off32_inb : ∀ (v0 : BitVec 32) (v1 : BitVec 32) (v31 : BitVec 32) (v35 : BitVec 32) (k0_hw3 : k0_chk3 v0 v1 v31 v35) (k0_t6 : Fin (k0_t6_loop v0 v31 v35).trips), ∀ a, (k0_off32 v0 v31 v35 k0_t6) a + S1.size a ≤ S16.size a := fun v0 v1 v31 v35 k0_hw3 k0_t6 => k0_hw3.2.2.2.2.2.2.2.2.2.1 k0_t6
theorem k0_off33_inb : ∀ (v0 : BitVec 32) (v1 : BitVec 32) (v31 : BitVec 32) (v35 : BitVec 32) (k0_hw3 : k0_chk3 v0 v1 v31 v35) (k0_t6 : Fin (k0_t6_loop v0 v31 v35).trips), ∀ a, (k0_off33 v0 v31 v35 k0_t6) a + S1x96x128.size a ≤ S16x96x128.size a := fun v0 v1 v31 v35 k0_hw3 k0_t6 => k0_hw3.2.2.2.2.2.2.2.2.2.2.1 k0_t6
theorem k0_off34_inb : ∀ (v0 : BitVec 32) (v1 : BitVec 32) (v31 : BitVec 32) (v35 : BitVec 32) (k0_hw3 : k0_chk3 v0 v1 v31 v35) (k0_t6 : Fin (k0_t6_loop v0 v31 v35).trips), ∀ a, (k0_off34 v0 v31 v35 k0_t6) a + S96x128.size a ≤ S374400x128.size a := fun v0 v1 v31 v35 k0_hw3 k0_t6 => k0_hw3.2.2.2.2.2.2.2.2.2.2.2.1 k0_t6
theorem k0_off35_inb : ∀ (v0 : BitVec 32) (v1 : BitVec 32) (v31 : BitVec 32) (v35 : BitVec 32) (k0_hw3 : k0_chk3 v0 v1 v31 v35) (k0_t6 : Fin (k0_t6_loop v0 v31 v35).trips), ∀ a, (k0_off35 v0 v31 v35 k0_t6) a + S1x96x128.size a ≤ S16x96x128.size a := fun v0 v1 v31 v35 k0_hw3 k0_t6 => k0_hw3.2.2.2.2.2.2.2.2.2.2.2.2.1 k0_t6
theorem k0_off36_inb : ∀ (v0 : BitVec 32) (v1 : BitVec 32) (v31 : BitVec 32) (v35 : BitVec 32) (k0_hw3 : k0_chk3 v0 v1 v31 v35) (k0_t6 : Fin (k0_t6_loop v0 v31 v35).trips), ∀ (k0_h9 : k0_cond9 v0 v1 v31 v35 k0_t6 = 1#1), ∀ a, (k0_off36 v0 v31 v35 k0_t6) a + S1.size a ≤ S16.size a := fun v0 v1 v31 v35 k0_hw3 k0_t6 k0_h9 => k0_hw3.2.2.2.2.2.2.2.2.2.2.2.2.2.1 k0_t6 k0_h9
theorem k0_off37_inb : ∀ (v0 : BitVec 32) (v1 : BitVec 32) (v31 : BitVec 32) (v35 : BitVec 32) (k0_hw3 : k0_chk3 v0 v1 v31 v35) (k0_t6 : Fin (k0_t6_loop v0 v31 v35).trips), ∀ (k0_h9 : k0_cond9 v0 v1 v31 v35 k0_t6 = 1#1), ∀ a, (k0_off37 v0 v31 v35 k0_t6) a + S1x96x128.size a ≤ S16x96x128.size a := fun v0 v1 v31 v35 k0_hw3 k0_t6 k0_h9 => k0_hw3.2.2.2.2.2.2.2.2.2.2.2.2.2.2.1 k0_t6 k0_h9
theorem k0_off38_inb : ∀ (v0 : BitVec 32) (v1 : BitVec 32) (v31 : BitVec 32) (v35 : BitVec 32) (k0_hw3 : k0_chk3 v0 v1 v31 v35) (k0_t6 : Fin (k0_t6_loop v0 v31 v35).trips), ∀ (k0_h9 : k0_cond9 v0 v1 v31 v35 k0_t6 = 1#1), ∀ a, (k0_off38 v0 v31 v35 k0_t6) a + S96x128.size a ≤ S374400x128.size a := fun v0 v1 v31 v35 k0_hw3 k0_t6 k0_h9 => k0_hw3.2.2.2.2.2.2.2.2.2.2.2.2.2.2.2 k0_t6 k0_h9

def cc0_transform_2 (i : grid0.Coords) : Fin 2 → Nat :=
  let arg0 : BitVec 32 := BitVec.ofNat 32 (i 0).val
  let c336_i32 : BitVec 32 := 336#32
  let v0 : BitVec 32 := Scalar.addi arg0 c336_i32
  let c0_i32 : BitVec 32 := 0#32
  let c0_i32_0 : BitVec 32 := 0#32
  ![v0.toNat, c0_i32.toNat]

abbrev stage0_0 : Fin 2 → Memref sig .tc .vmem S160x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]
-- ==== Reference3Ideal.lean ====
abbrev S897 : Shape := ⟨1, ![897]⟩
abbrev S1 : Shape := ⟨1, ![1]⟩
abbrev S374400x128 : Shape := ⟨2, ![374400, 128]⟩
abbrev S71680x256 : Shape := ⟨2, ![71680, 256]⟩
abbrev S7800x48x128 : Shape := ⟨3, ![7800, 48, 128]⟩
abbrev S1497600x128 : Shape := ⟨2, ![1497600, 128]⟩
abbrev S7800x192x128 : Shape := ⟨3, ![7800, 192, 128]⟩
abbrev S7800x160x128 : Shape := ⟨3, ![7800, 160, 128]⟩
abbrev S7800x1x128 : Shape := ⟨3, ![7800, 1, 128]⟩
abbrev S7800x128 : Shape := ⟨2, ![7800, 128]⟩
abbrev S224 : Shape := ⟨1, ![224]⟩
abbrev S_ : Shape := ⟨0, ![]⟩
abbrev S7800 : Shape := ⟨1, ![7800]⟩
abbrev S224x1 : Shape := ⟨2, ![224, 1]⟩
abbrev S1x7800 : Shape := ⟨2, ![1, 7800]⟩
abbrev S224x7800 : Shape := ⟨2, ![224, 7800]⟩
abbrev S7800x1 : Shape := ⟨2, ![7800, 1]⟩
abbrev S7800x128x160 : Shape := ⟨3, ![7800, 128, 160]⟩
abbrev S998400x160 : Shape := ⟨2, ![998400, 160]⟩
abbrev S998400 : Shape := ⟨1, ![998400]⟩
abbrev S28672x160 : Shape := ⟨2, ![28672, 160]⟩
abbrev S998400x1 : Shape := ⟨2, ![998400, 1]⟩
abbrev S112x256x160 : Shape := ⟨3, ![112, 256, 160]⟩
abbrev S112x160x256 : Shape := ⟨3, ![112, 160, 256]⟩
abbrev S17920x256 : Shape := ⟨2, ![17920, 256]⟩
abbrev S53760x256 : Shape := ⟨2, ![53760, 256]⟩

abbrev nBuf : Space → Nat
  | .hbm => 83
  | .vmem => 2
  | .smem => 0
  | _ => 0

abbrev bufTy : (tb : Table) → Fin (tcTables nBuf tb) → BufTy
  | .hbm, ⟨0, _⟩ => ⟨S897, .i32⟩
  | .hbm, ⟨1, _⟩ => ⟨S1, .i32⟩
  | .hbm, ⟨2, _⟩ => ⟨S374400x128, .i32⟩
  | .hbm, ⟨3, _⟩ => ⟨S71680x256, .f32⟩
  | .hbm, ⟨4, _⟩ => ⟨S7800x48x128, .i32⟩
  | .hbm, ⟨5, _⟩ => ⟨S1497600x128, .f32⟩
  | .hbm, ⟨6, _⟩ => ⟨S7800x192x128, .f32⟩
  | .hbm, ⟨7, _⟩ => ⟨S7800x160x128, .f32⟩
  | .hbm, ⟨8, _⟩ => ⟨S7800x1x128, .i32⟩
  | .hbm, ⟨9, _⟩ => ⟨S7800x128, .i32⟩
  | .hbm, ⟨10, _⟩ => ⟨S7800x128, .f32⟩
  | .hbm, ⟨11, _⟩ => ⟨S7800x1x128, .i32⟩
  | .hbm, ⟨12, _⟩ => ⟨S7800x128, .i32⟩
  | .hbm, ⟨13, _⟩ => ⟨S224, .i32⟩
  | .hbm, ⟨14, _⟩ => ⟨S1, .i32⟩
  | .hbm, ⟨15, _⟩ => ⟨S_, .i32⟩
  | .hbm, ⟨16, _⟩ => ⟨S224, .i32⟩
  | .hbm, ⟨17, _⟩ => ⟨S224, .i32⟩
  | .hbm, ⟨18, _⟩ => ⟨S7800, .i32⟩
  | .hbm, ⟨19, _⟩ => ⟨S_, .i32⟩
  | .hbm, ⟨20, _⟩ => ⟨S_, .i32⟩
  | .hbm, ⟨21, _⟩ => ⟨S7800, .i32⟩
  | .hbm, ⟨22, _⟩ => ⟨S7800, .i32⟩
  | .hbm, ⟨23, _⟩ => ⟨S7800, .i32⟩
  | .hbm, ⟨24, _⟩ => ⟨S_, .i32⟩
  | .hbm, ⟨25, _⟩ => ⟨S7800, .i32⟩
  | .hbm, ⟨26, _⟩ => ⟨S7800, .i1⟩
  | .hbm, ⟨27, _⟩ => ⟨S7800, .i32⟩
  | .hbm, ⟨28, _⟩ => ⟨S7800, .i32⟩
  | .hbm, ⟨29, _⟩ => ⟨S_, .i32⟩
  | .hbm, ⟨30, _⟩ => ⟨S7800, .i32⟩
  | .hbm, ⟨31, _⟩ => ⟨S7800, .i1⟩
  | .hbm, ⟨32, _⟩ => ⟨S7800, .i1⟩
  | .hbm, ⟨33, _⟩ => ⟨S_, .i32⟩
  | .hbm, ⟨34, _⟩ => ⟨S7800, .i32⟩
  | .hbm, ⟨35, _⟩ => ⟨S7800, .i32⟩
  | .hbm, ⟨36, _⟩ => ⟨S7800, .i32⟩
  | .hbm, ⟨37, _⟩ => ⟨S224x1, .i32⟩
  | .hbm, ⟨38, _⟩ => ⟨S1x7800, .i32⟩
  | .hbm, ⟨39, _⟩ => ⟨S224x7800, .i32⟩
  | .hbm, ⟨40, _⟩ => ⟨S224x7800, .i32⟩
  | .hbm, ⟨41, _⟩ => ⟨S224x7800, .i1⟩
  | .hbm, ⟨42, _⟩ => ⟨S224x7800, .i32⟩
  | .hbm, ⟨43, _⟩ => ⟨S_, .i32⟩
  | .hbm, ⟨44, _⟩ => ⟨S7800, .i32⟩
  | .hbm, ⟨45, _⟩ => ⟨S7800x1, .i32⟩
  | .hbm, ⟨46, _⟩ => ⟨S_, .i32⟩
  | .hbm, ⟨47, _⟩ => ⟨S7800x1, .i32⟩
  | .hbm, ⟨48, _⟩ => ⟨S7800x1, .i1⟩
  | .hbm, ⟨49, _⟩ => ⟨S_, .i32⟩
  | .hbm, ⟨50, _⟩ => ⟨S7800x128, .i32⟩
  | .hbm, ⟨51, _⟩ => ⟨S7800x128, .i1⟩
  | .hbm, ⟨52, _⟩ => ⟨S7800x128, .i1⟩
  | .hbm, ⟨53, _⟩ => ⟨S7800x128, .i1⟩
  | .hbm, ⟨54, _⟩ => ⟨S_, .i32⟩
  | .hbm, ⟨55, _⟩ => ⟨S7800x128, .i32⟩
  | .hbm, ⟨56, _⟩ => ⟨S7800x128, .i1⟩
  | .hbm, ⟨57, _⟩ => ⟨S7800x128, .i1⟩
  | .hbm, ⟨58, _⟩ => ⟨S7800x1, .i32⟩
  | .hbm, ⟨59, _⟩ => ⟨S_, .i32⟩
  | .hbm, ⟨60, _⟩ => ⟨S7800x1, .i32⟩
  | .hbm, ⟨61, _⟩ => ⟨S7800x1, .i32⟩
  | .hbm, ⟨62, _⟩ => ⟨S7800x128, .i32⟩
  | .hbm, ⟨63, _⟩ => ⟨S7800x128, .i32⟩
  | .hbm, ⟨64, _⟩ => ⟨S_, .i32⟩
  | .hbm, ⟨65, _⟩ => ⟨S_, .i32⟩
  | .hbm, ⟨66, _⟩ => ⟨S7800x128, .i32⟩
  | .hbm, ⟨67, _⟩ => ⟨S7800x128, .i32⟩
  | .hbm, ⟨68, _⟩ => ⟨S7800x1x128, .f32⟩
  | .hbm, ⟨69, _⟩ => ⟨S7800x160x128, .f32⟩
  | .hbm, ⟨70, _⟩ => ⟨S7800x160x128, .f32⟩
  | .hbm, ⟨71, _⟩ => ⟨S7800x128x160, .f32⟩
  | .hbm, ⟨72, _⟩ => ⟨S998400x160, .f32⟩
  | .hbm, ⟨73, _⟩ => ⟨S998400, .i32⟩
  | .hbm, ⟨74, _⟩ => ⟨S_, .f32⟩
  | .hbm, ⟨75, _⟩ => ⟨S28672x160, .f32⟩
  | .hbm, ⟨76, _⟩ => ⟨S998400x1, .i32⟩
  | .hbm, ⟨77, _⟩ => ⟨S28672x160, .f32⟩
  | .hbm, ⟨78, _⟩ => ⟨S112x256x160, .f32⟩
  | .hbm, ⟨79, _⟩ => ⟨S112x160x256, .f32⟩
  | .hbm, ⟨80, _⟩ => ⟨S17920x256, .f32⟩
  | .hbm, ⟨81, _⟩ => ⟨S53760x256, .f32⟩
  | .hbm, ⟨82, _⟩ => ⟨S71680x256, .f32⟩
  | .local _ .vmem, ⟨0, _⟩ => ⟨S374400x128, .i32⟩
  | .local _ .vmem, ⟨1, _⟩ => ⟨S1497600x128, .f32⟩
  | _, _ => ⟨S897, .i32⟩

abbrev bufScoped : (cs : CoreSpace) → Fin (nBuf (.core cs)) → Bool
  | .vmem, ⟨0, _⟩ => true
  | .vmem, ⟨1, _⟩ => true
  | _, _ => false

abbrev semScoped : Fin 0 → Bool
  | ⟨_, h⟩ => absurd h (Nat.not_lt_zero _)

abbrev dmaSemScoped : Fin 2 → Bool
  | ⟨0, _⟩ => true
  | ⟨1, _⟩ => true
  | _ => false

abbrev sig : RefSig :=
  ofTc nBuf bufTy 0 2 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_c : Ref sig .tc := ⟨.hbm, 19, rfl⟩
abbrev main_call0_v0 : Ref sig .tc := ⟨.hbm, 20, rfl⟩
abbrev main_call0_v1 : Ref sig .tc := ⟨.hbm, 21, rfl⟩
abbrev main_call0_v2 : Ref sig .tc := ⟨.hbm, 22, rfl⟩
abbrev main_call0_v3 : Ref sig .tc := ⟨.hbm, 23, rfl⟩
abbrev main_call0_v4 : Ref sig .tc := ⟨.hbm, 24, rfl⟩
abbrev main_call0_v5 : Ref sig .tc := ⟨.hbm, 25, rfl⟩
abbrev main_call0_v6 : Ref sig .tc := ⟨.hbm, 26, rfl⟩
abbrev main_call0_v7 : Ref sig .tc := ⟨.hbm, 27, rfl⟩
abbrev main_call0_v8 : Ref sig .tc := ⟨.hbm, 28, rfl⟩
abbrev main_call0_c : Ref sig .tc := ⟨.hbm, 29, rfl⟩
abbrev main_call0_v9 : Ref sig .tc := ⟨.hbm, 30, rfl⟩
abbrev main_call0_v10 : Ref sig .tc := ⟨.hbm, 31, rfl⟩
abbrev main_call0_v11 : Ref sig .tc := ⟨.hbm, 32, rfl⟩
abbrev main_call0_c_0 : Ref sig .tc := ⟨.hbm, 33, rfl⟩
abbrev main_call0_v12 : Ref sig .tc := ⟨.hbm, 34, rfl⟩
abbrev main_call0_v13 : Ref sig .tc := ⟨.hbm, 35, rfl⟩
abbrev main_v15 : Ref sig .tc := ⟨.hbm, 36, rfl⟩
abbrev main_v16 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_c_0 : Ref sig .tc := ⟨.hbm, 43, rfl⟩
abbrev main_v22 : Ref sig .tc := ⟨.hbm, 44, rfl⟩
abbrev main_v23 : Ref sig .tc := ⟨.hbm, 45, rfl⟩
abbrev main_c_1 : Ref sig .tc := ⟨.hbm, 46, rfl⟩
abbrev main_v24 : Ref sig .tc := ⟨.hbm, 47, rfl⟩
abbrev main_v25 : Ref sig .tc := ⟨.hbm, 48, rfl⟩
abbrev main_c_2 : Ref sig .tc := ⟨.hbm, 49, rfl⟩
abbrev main_v26 : Ref sig .tc := ⟨.hbm, 50, rfl⟩
abbrev main_v27 : Ref sig .tc := ⟨.hbm, 51, rfl⟩
abbrev main_v28 : Ref sig .tc := ⟨.hbm, 52, rfl⟩
abbrev main_v29 : Ref sig .tc := ⟨.hbm, 53, rfl⟩
abbrev main_c_3 : Ref sig .tc := ⟨.hbm, 54, rfl⟩
abbrev main_v30 : Ref sig .tc := ⟨.hbm, 55, rfl⟩
abbrev main_v31 : Ref sig .tc := ⟨.hbm, 56, rfl⟩
abbrev main_v32 : Ref sig .tc := ⟨.hbm, 57, rfl⟩
abbrev main_v33 : Ref sig .tc := ⟨.hbm, 58, rfl⟩
abbrev main_c_4 : Ref sig .tc := ⟨.hbm, 59, rfl⟩
abbrev main_v34 : Ref sig .tc := ⟨.hbm, 60, rfl⟩
abbrev main_v35 : Ref sig .tc := ⟨.hbm, 61, rfl⟩
abbrev main_v36 : Ref sig .tc := ⟨.hbm, 62, rfl⟩
abbrev main_v37 : Ref sig .tc := ⟨.hbm, 63, rfl⟩
abbrev main_c_5 : Ref sig .tc := ⟨.hbm, 64, rfl⟩
abbrev main_call1_v0 : Ref sig .tc := ⟨.hbm, 65, rfl⟩
abbrev main_call1_v1 : Ref sig .tc := ⟨.hbm, 66, rfl⟩
abbrev main_v38 : Ref sig .tc := ⟨.hbm, 67, rfl⟩
abbrev main_v39 : Ref sig .tc := ⟨.hbm, 68, rfl⟩
abbrev main_v40 : Ref sig .tc := ⟨.hbm, 69, rfl⟩
abbrev main_v41 : Ref sig .tc := ⟨.hbm, 70, rfl⟩
abbrev main_v42 : Ref sig .tc := ⟨.hbm, 71, rfl⟩
abbrev main_v43 : Ref sig .tc := ⟨.hbm, 72, rfl⟩
abbrev main_v44 : Ref sig .tc := ⟨.hbm, 73, rfl⟩
abbrev main_cst : Ref sig .tc := ⟨.hbm, 74, rfl⟩
abbrev main_v45 : Ref sig .tc := ⟨.hbm, 75, rfl⟩
abbrev main_v46 : Ref sig .tc := ⟨.hbm, 76, rfl⟩
abbrev main_v47 : Ref sig .tc := ⟨.hbm, 77, rfl⟩
abbrev main_v48 : Ref sig .tc := ⟨.hbm, 78, rfl⟩
abbrev main_v49 : Ref sig .tc := ⟨.hbm, 79, rfl⟩
abbrev main_v50 : Ref sig .tc := ⟨.hbm, 80, rfl⟩
abbrev main_v51 : Ref sig .tc := ⟨.hbm, 81, rfl⟩
abbrev main_v52 : Ref sig .tc := ⟨.hbm, 82, rfl⟩
abbrev cc0_stg0_0 : Ref sig .tc := ⟨.vmem, 0, rfl⟩
abbrev cc0_stg1_0 : Ref sig .tc := ⟨.vmem, 1, rfl⟩
abbrev cc0_sem0_0 : DmaSem sig := 0
abbrev cc0_sem1_0 : DmaSem sig := 1

abbrev nD : Nat := 1
abbrev τ : Topo := Topo.v7x

variable {F : FTy → Type} [FloatOps F]

abbrev grid0 : Pipeline.Grid := .none

abbrev stage0_0 : Fin 1 → Memref sig .tc .vmem S374400x128 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1497600x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== Proof.Words.lean ====
/-
  Word arithmetic of the kernel's step tables: the ring slot a step uses, how many trips each counted loop makes, and
  the side conditions the body assumes, all from three facts about the four table words it reads: measured from the
  chunk's first step, the unit's bounds `a ≤ b` lie below the chunk's step count `t`, and `t` is at most 3900.
-/
module

public import proofs.«01_k».proof.Proof.Gen.Kernel.Loops
public import Idealize.ShloMosaic.Lib.LoopRemainder
public import Idealize.ShloMosaic.Lib.Affine
public import Idealize.ShloMosaic.Lib.WordArith
public import Idealize.ShloMosaic.Lib.WordCmp

@[expose] public section

set_option maxRecDepth 65536

noncomputable section

namespace Cert.Kernel.Hand

open Cert.Kernel Cert.Kernel.Gen
open Idealize.ShloMosaic Idealize.SL.Sem

/-! ## Any words -/

/-- The kernel's remainder by 16, as printed: a signed remainder corrected to the divisor's sign. -/
def slotWord (x : BitVec 32) : BitVec 32 :=
  Scalar.select (Scalar.andi (Scalar.xori (Scalar.cmpi .slt (Scalar.remsi x (Scalar.select (Scalar.cmpi .eq 16#32 0#32) 1#32 16#32)) 0#32)
      (Scalar.cmpi .slt (Scalar.select (Scalar.cmpi .eq 16#32 0#32) 1#32 16#32) 0#32))
      (Scalar.cmpi .ne (Scalar.remsi x (Scalar.select (Scalar.cmpi .eq 16#32 0#32) 1#32 16#32)) 0#32))
    (Scalar.addi (Scalar.remsi x (Scalar.select (Scalar.cmpi .eq 16#32 0#32) 1#32 16#32)) (Scalar.select (Scalar.cmpi .eq 16#32 0#32) 1#32 16#32))
    (Scalar.remsi x (Scalar.select (Scalar.cmpi .eq 16#32 0#32) 1#32 16#32))

/-- On a word below 2^31 it is the remainder. -/
theorem toNat_slotWord (x : BitVec 32) (hx : x.toNat < 2 ^ 31) : (slotWord x).toNat = x.toNat % 16 := by
  have h16 : Scalar.select (Scalar.cmpi .eq 16#32 0#32) 1#32 16#32 = (16#32 : BitVec 32) := by decide
  have hr : (Scalar.remsi x 16#32).toNat = x.toNat % 16 :=
    IntOp.toNat_remsi .scalar (by omega) 16 (by decide) (by decide)
  unfold slotWord
  rw [h16]
  have hs : Scalar.cmpi .slt (Scalar.remsi x 16#32) 0#32 = 0#1 := by
    show IntOp.cmpi .slt _ _ = _
    rw [WordCmp.cmpi_slt_zero]
    have h16' : (Scalar.remsi x 16#32).toNat < 16 := by rw [hr]; exact Nat.mod_lt _ (by decide)
    rw [decide_eq_false (by show ¬ 2147483648 ≤ _; omega)]; rfl
  have h2 : Scalar.cmpi .slt (16#32 : BitVec 32) 0#32 = 0#1 := by decide
  rw [hs, h2]
  have : ∀ z : BitVec 1, Scalar.andi (Scalar.xori 0#1 0#1) z = 0#1 := by decide
  rw [this]
  exact hr

theorem toInt_of_small (a : BitVec 32) (h : a.toNat < 2 ^ 31) : a.toInt = a.toNat :=
  BitVec.toInt_eq_toNat_of_lt (by omega)

/-- A loop by steps of one makes as many trips as its bounds are apart. -/
theorem trips_nat (a b : BitVec 32) (hab : a.toNat ≤ b.toNat) (hb : b.toNat < 2 ^ 31) :
    Scf.trips a b 1#32 = b.toNat - a.toNat := by
  have h1 : (1#32 : BitVec 32).toInt = 1 := by decide
  unfold Scf.trips
  rw [h1, toInt_of_small a (by omega), toInt_of_small b hb]
  omega

theorem ok_nat (a b : BitVec 32) (hab : a.toNat ≤ b.toNat) (hb : b.toNat < 2 ^ 31) : Scf.OK a b 1#32 := by
  have h1 : (1#32 : BitVec 32).toInt = 1 := by decide
  unfold Scf.OK
  rw [trips_nat a b hab hb, h1, toInt_of_small a (by omega)]
  refine ⟨by decide, ?_⟩
  omega

/-- The induction variable counts up from the lower bound. -/
theorem iv_nat (a : BitVec 32) (k : ℕ) (h : a.toNat + k < 2 ^ 32) : (Scf.iv a 1#32 k).toNat = a.toNat + k := by
  unfold Scf.iv
  rw [BitVec.mul_one, BitVec.toNat_add, BitVec.toNat_ofNat]
  omega

theorem add16_nat (x : BitVec 32) (h : x.toNat + 16 < 2 ^ 32) : (Scalar.addi x 16#32).toNat = x.toNat + 16 := by
  show (x + 16#32).toNat = _
  rw [BitVec.toNat_add]; have : (16#32 : BitVec 32).toNat = 16 := rfl
  omega

theorem mul96_nat (x : BitVec 32) (h : x.toNat * 96 < 2 ^ 32) : (Scalar.muli x 96#32).toNat = x.toNat * 96 := by
  show (x * 96#32).toNat = _
  rw [BitVec.toNat_mul]; have : (96#32 : BitVec 32).toNat = 96 := rfl
  rw [this]; omega

theorem cmpi_slt_nat (x y : BitVec 32) (hx : x.toNat < 2 ^ 31) (hy : y.toNat < 2 ^ 31) :
    Scalar.cmpi .slt x y = 1#1 ↔ x.toNat < y.toNat := by
  show IntOp.cmpi .slt x y = 1#1 ↔ _
  rw [IntOp.cmpi_slt, toInt_of_small x hx, toInt_of_small y hy]; omega

/-- The upper bound of a printed main loop, `a + ((b − a) /s 1) * 1`, is `b`. -/
theorem ub_eq (a b : BitVec 32) : Scalar.addi a (Scalar.muli (Scalar.divsi (Scalar.subi b a) 1#32) 1#32) = b := by
  rw [Scalar.muli_divsi_one]
  show a + (b - a) = b
  rw [BitVec.add_comm, BitVec.sub_add_cancel]

/-! ## The words of one unit -/

/-- The four table words a unit's loops depend on: the chunk's first step `v0`, the first step of the next chunk `v1`,
    the unit's own bounds `v11`, `v15`; all measured from `v0`, in order, at most 3900. -/
structure UnitWords (v0 v1 v11 v15 : BitVec 32) : Prop where
  ab : (v11 - v0).toNat ≤ (v15 - v0).toNat
  bt : (v15 - v0).toNat ≤ (v1 - v0).toNat
  le : (v1 - v0).toNat ≤ 3900

section Unit

variable {v0 v1 v11 v15 : BitVec 32}

theorem t5_ub (v0 v11 v15 : BitVec 32) : (k0_t5_loop v0 v11 v15).ub = v15 - v0 := ub_eq _ _
theorem t5_trips (h : UnitWords v0 v1 v11 v15) : (k0_t5_loop v0 v11 v15).trips = (v15 - v0).toNat - (v11 - v0).toNat := by
  show Scf.trips (v11 - v0) (k0_t5_loop v0 v11 v15).ub 1#32 = _
  rw [t5_ub]
  exact trips_nat _ _ h.ab (by have := h.bt; have := h.le; omega)
theorem t5_ok' (h : UnitWords v0 v1 v11 v15) : (k0_t5_loop v0 v11 v15).OK := by
  show Scf.OK (v11 - v0) (k0_t5_loop v0 v11 v15).ub 1#32
  rw [t5_ub]
  exact ok_nat _ _ h.ab (by have := h.bt; have := h.le; omega)

/-- The step that trip `k` of the unit's loop handles, as a natural number. -/
theorem t5_iv (h : UnitWords v0 v1 v11 v15) (k : Fin (k0_t5_loop v0 v11 v15).trips) :
    (Scf.iv (v11 - v0) 1#32 k).toNat = (v11 - v0).toNat + k.val ∧ (v11 - v0).toNat + k.val < (v15 - v0).toNat := by
  have hk := Nat.lt_of_lt_of_eq k.isLt (t5_trips h)
  have := h.ab; have := h.bt; have := h.le
  exact ⟨iv_nat _ _ (by omega), by omega⟩

theorem off25_eq (h : UnitWords v0 v1 v11 v15) (k : Fin (k0_t5_loop v0 v11 v15).trips) :
    k0_off25 v0 v11 v15 k = ![((v11 - v0).toNat + k.val) % 16] := by
  obtain ⟨e, hlt⟩ := t5_iv h k
  show ![(slotWord (Scf.iv (v11 - v0) 1#32 k)).toNat] = _
  rw [toNat_slotWord _ (by have := h.bt; have := h.le; omega), e]
theorem off26_eq (h : UnitWords v0 v1 v11 v15) (k : Fin (k0_t5_loop v0 v11 v15).trips) :
    k0_off26 v0 v11 v15 k = ![((v11 - v0).toNat + k.val) % 16, 0, 0] := by
  obtain ⟨e, hlt⟩ := t5_iv h k
  show ![(slotWord (Scf.iv (v11 - v0) 1#32 k)).toNat, 0, 0] = _
  rw [toNat_slotWord _ (by have := h.bt; have := h.le; omega), e]
theorem off28_eq (h : UnitWords v0 v1 v11 v15) (k : Fin (k0_t5_loop v0 v11 v15).trips) :
    k0_off28 v0 v11 v15 k = ![((v11 - v0).toNat + k.val) % 16, 0, 0] := off26_eq h k
theorem off27_eq (h : UnitWords v0 v1 v11 v15) (k : Fin (k0_t5_loop v0 v11 v15).trips) :
    k0_off27 v0 v11 v15 k = ![((v11 - v0).toNat + k.val) * 96, 0] := by
  obtain ⟨e, hlt⟩ := t5_iv h k
  show ![(Scalar.muli (Scf.iv (v11 - v0) 1#32 k) 96#32).toNat, 0] = _
  rw [mul96_nat _ (by have := h.bt; have := h.le; omega), e]
/-- The trip starts another copy exactly when a step sixteen further on is still in the chunk. -/
theorem cond7_iff (h : UnitWords v0 v1 v11 v15) (k : Fin (k0_t5_loop v0 v11 v15).trips) :
    k0_cond7 v0 v1 v11 v15 k = 1#1 ↔ (v11 - v0).toNat + k.val + 16 < (v1 - v0).toNat := by
  obtain ⟨e, hlt⟩ := t5_iv h k
  have := h.bt; have := h.le
  show Scalar.cmpi .ne (Scalar.extui (Scalar.cmpi .slt (Scalar.addi (Scf.iv (v11 - v0) 1#32 k) 16#32) (v1 - v0))) 0#32 = 1#1 ↔ _
  have ha : (Scalar.addi (Scf.iv (v11 - v0) 1#32 k) 16#32).toNat = (v11 - v0).toNat + k.val + 16 := by
    rw [add16_nat _ (by omega), e]
  rw [Scalar.guard_iff, cmpi_slt_nat _ _ (by omega) (by omega), ha]
theorem off29_eq (h : UnitWords v0 v1 v11 v15) (k : Fin (k0_t5_loop v0 v11 v15).trips) :
    k0_off29 v0 v11 v15 k = ![((v11 - v0).toNat + k.val + 16) % 16] := by
  obtain ⟨e, hlt⟩ := t5_iv h k
  have := h.bt; have := h.le
  show ![(slotWord (Scalar.addi (Scf.iv (v11 - v0) 1#32 k) 16#32)).toNat] = _
  have ha : (Scalar.addi (Scf.iv (v11 - v0) 1#32 k) 16#32).toNat = (v11 - v0).toNat + k.val + 16 := by
    rw [add16_nat _ (by omega), e]
  rw [toNat_slotWord _ (by omega), ha]
theorem off30_eq (h : UnitWords v0 v1 v11 v15) (k : Fin (k0_t5_loop v0 v11 v15).trips) :
    k0_off30 v0 v11 v15 k = ![((v11 - v0).toNat + k.val + 16) % 16, 0, 0] := by
  obtain ⟨e, hlt⟩ := t5_iv h k
  have := h.bt; have := h.le
  show ![(slotWord (Scalar.addi (Scf.iv (v11 - v0) 1#32 k) 16#32)).toNat, 0, 0] = _
  have ha : (Scalar.addi (Scf.iv (v11 - v0) 1#32 k) 16#32).toNat = (v11 - v0).toNat + k.val + 16 := by
    rw [add16_nat _ (by omega), e]
  rw [toNat_slotWord _ (by omega), ha]
theorem off31_eq (h : UnitWords v0 v1 v11 v15) (k : Fin (k0_t5_loop v0 v11 v15).trips) :
    k0_off31 v0 v11 v15 k = ![((v11 - v0).toNat + k.val + 16) * 96, 0] := by
  obtain ⟨e, hlt⟩ := t5_iv h k
  have := h.bt; have := h.le
  show ![(Scalar.muli (Scalar.addi (Scf.iv (v11 - v0) 1#32 k) 16#32) 96#32).toNat, 0] = _
  have ha : (Scalar.addi (Scf.iv (v11 - v0) 1#32 k) 16#32).toNat = (v11 - v0).toNat + k.val + 16 := by
    rw [add16_nat _ (by omega), e]
  rw [mul96_nat _ (by omega), ha]

/-- The remainder loop behind the unit's main loop makes no trip. -/
theorem t6_none (v0 v11 v15 : BitVec 32) (k : Fin (k0_t6_loop v0 v11 v15).trips) : False :=
  Scf.rem_no_trip (v11 - v0) (Scalar.subi (Scalar.subi v15 v0) (Scalar.subi v11 v0)) k

theorem inb1 (n : ℕ) (h : n < 16) : ∀ a, (![n] : Fin 1 → ℕ) a + S1.size a ≤ S16.size a := by
  intro a; fin_cases a; show n + 1 ≤ 16; omega
theorem inb3 (n : ℕ) (h : n < 16) : ∀ a, (![n, 0, 0] : Fin 3 → ℕ) a + S1x96x128.size a ≤ S16x96x128.size a := by
  intro a; fin_cases a
  · show n + 1 ≤ 16; omega
  · show 0 + 96 ≤ 96; omega
  · show 0 + 128 ≤ 128; omega
theorem inb2 (n : ℕ) (h : n < 3900) : ∀ a, (![n * 96, 0] : Fin 2 → ℕ) a + S96x128.size a ≤ S374400x128.size a := by
  intro a; fin_cases a
  · show n * 96 + 96 ≤ 374400; omega
  · show 0 + 128 ≤ 128; omega

/-- The side condition assumed before the second unit's loop. -/
theorem chk3 (h : UnitWords v0 v1 v11 v15) : k0_chk3 v0 v1 v11 v15 := by
  have hb := h.bt; have hl := h.le
  have hm : ∀ n : ℕ, n % 16 < 16 := fun n => Nat.mod_lt _ (by decide)
  refine ⟨t5_ok' h, fun k => ?_, fun k => ?_, fun k => ?_, fun k => ?_, fun k h7 => ?_, fun k h7 => ?_, fun k h7 => ?_,
    Scf.rem_ok _ _, fun k => (t6_none _ _ _ k).elim, fun k => (t6_none _ _ _ k).elim, fun k => (t6_none _ _ _ k).elim,
    fun k => (t6_none _ _ _ k).elim, fun k => (t6_none _ _ _ k).elim, fun k => (t6_none _ _ _ k).elim, fun k => (t6_none _ _ _ k).elim⟩
  · rw [off25_eq h]; exact inb1 _ (hm _)
  · rw [off26_eq h]; exact inb3 _ (hm _)
  · rw [off27_eq h]; exact inb2 _ (by have := (t5_iv h k).2; omega)
  · rw [off28_eq h]; exact inb3 _ (hm _)
  · rw [off29_eq h]; exact inb1 _ (hm _)
  · rw [off30_eq h]; exact inb3 _ (hm _)
  · rw [off31_eq h]; exact inb2 _ (by have := (cond7_iff h k).1 h7; omega)

/-- The side condition assumed before the first unit's loop. -/
theorem chk2 (h : UnitWords v0 v1 v11 v15) : k0_chk2 v0 v1 v11 v15 := chk3 h

end Unit

/-! ## The first grid point's copies -/

section Start

variable {v0 v1 : BitVec 32}

theorem t1_ub (v0 v1 : BitVec 32) : (k0_t1_loop v0 v1).ub = Scalar.minsi (v1 - v0) 16#32 := by
  have h1 : Scalar.divsi (Scalar.addi (Scalar.subi (Scalar.minsi (Scalar.subi v1 v0) 16#32) 0#32) (Scalar.subi 1#32 1#32)) 1#32 = Scalar.minsi (v1 - v0) 16#32 := by
    show IntOp.divsi _ _ 1#32 = _
    rw [WordArith.divsi_one]
    show (Scalar.minsi (v1 - v0) 16#32 - 0#32) + (1#32 - 1#32) = _
    rw [BitVec.sub_zero, show (1#32 - 1#32 : BitVec 32) = 0#32 from by decide, BitVec.add_zero]
  show Scalar.addi 0#32 (Scalar.muli (Scalar.divsi (Scalar.subi (Scalar.divsi (Scalar.addi (Scalar.subi (Scalar.minsi (Scalar.subi v1 v0) 16#32) 0#32) (Scalar.subi 1#32 1#32)) 1#32) 0#32) 1#32) 1#32) = _
  rw [ub_eq, h1]

theorem t1_ub_nat (h : (v1 - v0).toNat ≤ 3900) : (k0_t1_loop v0 v1).ub.toNat = min (v1 - v0).toNat 16 := by
  rw [t1_ub]
  exact WordArith.toNat_minsi_of_lt _ _ (by omega) (by decide)

theorem t1_trips (h : (v1 - v0).toNat ≤ 3900) : (k0_t1_loop v0 v1).trips = min (v1 - v0).toNat 16 := by
  show Scf.trips 0#32 (k0_t1_loop v0 v1).ub 1#32 = _
  rw [trips_nat _ _ (by simp) (by rw [t1_ub_nat h]; omega), t1_ub_nat h]; simp

theorem t1_ok' (h : (v1 - v0).toNat ≤ 3900) : (k0_t1_loop v0 v1).OK := by
  show Scf.OK 0#32 (k0_t1_loop v0 v1).ub 1#32
  exact ok_nat _ _ (by simp) (by rw [t1_ub_nat h]; omega)

/-- The step that trip `k` starts. -/
theorem t1_iv (h : (v1 - v0).toNat ≤ 3900) (k : Fin (k0_t1_loop v0 v1).trips) :
    (Scalar.addi 0#32 (Scalar.muli (Scf.iv 0#32 1#32 k) 1#32)).toNat = k.val ∧ k.val < min (v1 - v0).toNat 16 := by
  have hk := Nat.lt_of_lt_of_eq k.isLt (t1_trips h)
  refine ⟨?_, hk⟩
  show (0#32 + Scf.iv 0#32 1#32 k * 1#32).toNat = _
  rw [BitVec.mul_one, BitVec.zero_add, iv_nat _ _ (by simp; omega)]; simp

theorem off1_eq (h : (v1 - v0).toNat ≤ 3900) (k : Fin (k0_t1_loop v0 v1).trips) : k0_off1 v0 v1 k = ![k.val % 16] := by
  obtain ⟨e, hlt⟩ := t1_iv h k
  show ![(slotWord (Scalar.addi 0#32 (Scalar.muli (Scf.iv 0#32 1#32 k) 1#32))).toNat] = _
  rw [toNat_slotWord _ (by omega), e]
theorem off2_eq (h : (v1 - v0).toNat ≤ 3900) (k : Fin (k0_t1_loop v0 v1).trips) : k0_off2 v0 v1 k = ![k.val % 16, 0, 0] := by
  obtain ⟨e, hlt⟩ := t1_iv h k
  show ![(slotWord (Scalar.addi 0#32 (Scalar.muli (Scf.iv 0#32 1#32 k) 1#32))).toNat, 0, 0] = _
  rw [toNat_slotWord _ (by omega), e]
theorem off3_eq (h : (v1 - v0).toNat ≤ 3900) (k : Fin (k0_t1_loop v0 v1).trips) : k0_off3 v0 v1 k = ![k.val * 96, 0] := by
  obtain ⟨e, hlt⟩ := t1_iv h k
  show ![(Scalar.muli (Scalar.addi 0#32 (Scalar.muli (Scf.iv 0#32 1#32 k) 1#32)) 96#32).toNat, 0] = _
  rw [mul96_nat _ (by omega), e]

theorem t2_none (v0 v1 : BitVec 32) (k : Fin (k0_t2_loop v0 v1).trips) : False :=
  Scf.rem_no_trip 0#32 _ k

/-- The side condition assumed before the first copies. -/
theorem chk1 (i : grid0.Coords) (h : (v1 - v0).toNat ≤ 3900) : k0_chk1 i v0 v1 := by
  have hm : ∀ n : ℕ, n % 16 < 16 := fun n => Nat.mod_lt _ (by decide)
  refine ⟨fun _ => t1_ok' h, fun k _ => ?_, fun k _ => ?_, fun k _ => ?_, fun _ => Scf.rem_ok _ _,
    fun k => (t2_none _ _ k).elim, fun k => (t2_none _ _ k).elim, fun k => (t2_none _ _ k).elim⟩
  · rw [off1_eq h]; exact inb1 _ (hm _)
  · rw [off2_eq h]; exact inb3 _ (hm _)
  · rw [off3_eq h]; exact inb2 _ (by have := (t1_iv h k).2; omega)

end Start

/-! ## The grid point -/

theorem cond1_iff (i : grid0.Coords) : k0_cond1 i = 1#1 ↔ (i 0).val = 0 := by
  have hi : (i 0).val < 112 := (i 0).isLt
  show Scalar.cmpi .ne (Scalar.extui (Scalar.cmpi .eq (BitVec.ofNat 32 (i 0).val) 0#32)) 0#32 = 1#1 ↔ _
  rw [Scalar.guard_iff]
  show IntOp.cmpi .eq _ _ = 1#1 ↔ _
  rw [IntOp.cmpi_eq, ← BitVec.toNat_inj, BitVec.toNat_ofNat]; simp; omega

theorem off7_eq (i : grid0.Coords) : k0_off7 i = ![224 + 2 * (i 0).val] := by
  have hi : (i 0).val < 112 := (i 0).isLt
  show ![((112#32 + BitVec.ofNat 32 (i 0).val) * 2#32 + 0#32).toNat] = _
  congr 1; simp [BitVec.toNat_add, BitVec.toNat_mul]; omega
theorem off8_eq (i : grid0.Coords) : k0_off8 i = ![224 + (2 * (i 0).val + 1)] := by
  have hi : (i 0).val < 112 := (i 0).isLt
  show ![((112#32 + BitVec.ofNat 32 (i 0).val) * 2#32 + 0#32 + 1#32).toNat] = _
  congr 1; simp [BitVec.toNat_add, BitVec.toNat_mul]; omega
theorem off23_eq (i : grid0.Coords) : k0_off23 i = ![224 + (2 * (i 0).val + 1)] := by
  have hi : (i 0).val < 112 := (i 0).isLt
  show ![((112#32 + BitVec.ofNat 32 (i 0).val) * 2#32 + 1#32).toNat] = _
  congr 1; simp [BitVec.toNat_add, BitVec.toNat_mul]; omega
theorem off24_eq (i : grid0.Coords) : k0_off24 i = ![224 + (2 * (i 0).val + 2)] := by
  have hi : (i 0).val < 112 := (i 0).isLt
  show ![((112#32 + BitVec.ofNat 32 (i 0).val) * 2#32 + 1#32 + 1#32).toNat] = _
  congr 1; simp [BitVec.toNat_add, BitVec.toNat_mul]; omega

end Cert.Kernel.Hand

end
-- ==== Proof.Ring.lean ====
/-
  The kernel's ring: sixteen slots of on-chip memory, each with a completion counter of its own, into which the steps'
  rows of the packed tiles are copied sixteen steps ahead. Here: a slot's two states (free, or being filled with the
  rows from a given row on), the ring as the family of its slots' states, and one trip of the body's loop over it —
  wait for the step's slot, load it, add its product, start the copy of the step sixteen further on.
-/
module

public import proofs.«01_k».proof.Proof.Words
public import Idealize.ShloMosaic.Lib.Ring
public import Idealize.ShloMosaic.Lib.Ring.Window
public import Idealize.ShloMosaic.Lib.ValueIdxCore
public import Idealize.ShloMosaic.Lib.Pipeline.Value

@[expose] public section

set_option maxRecDepth 65536

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The resource algebra: the pipeline's rounds, and the counters the copies take their tokens from. -/
abbrev UU (nD : Nat) (τ : Topo) : Type := UR sig nD τ × Counters

local notation "𝕄" => MT nD τ sig Unit (Elt F) ℕ (UU nD τ) ℕ

/-- Memref `M`'s contents on core `c`. -/
abbrev Bf (c : Dev nD) {sp : Space} {S : Shape} {e : EltTy} (M : Memref sig .tc sp S e) : Type := Buf (Elt F) (M.view.loc (c : Thread nD τ))
/-- Memref `M`'s buffer on core `c`, held whole. -/
abbrev pt (c : Dev nD) {sp : Space} {S : Shape} {e : EltTy} (M : Memref sig .tc sp S e) (f : Bf (F := F) c M) : sProp 𝕄 :=
  M.view.loc (c : Thread nD τ) ↦{fullShare} f

/-- The whole buffers: the step table, the path flag, the packed tiles, the ring. -/
abbrev sbM : Memref sig .tc .smem S897 .i32 := Memref.whole main_arg0
abbrev exM : Memref sig .tc .smem S1 .i32 := Memref.whole main_arg1
abbrev gM : Memref sig .tc .hbm S374400x128 .i32 := Memref.whole main_arg2
abbrev ringM : Memref sig .tc .vmem S16x96x128 .i32 := Memref.whole cc0_scratch0

/-- Slot `k` of the ring, the counter of its copies, and the rows a copy reads. -/
def rslotK (k : Fin 16) : Memref sig .tc .vmem S96x128 .i32 :=
  (ringM.slice (Rect.unit (s := S16x96x128) ![k.val, 0, 0] S1x96x128.size (inb3 k.val k.isLt)) (fun _ => rfl)).squeeze S96x128 squeezes_S1x96x128_S96x128
abbrev cellK (k : Fin 16) : SemLoc sig :=
  .dma ((cc0_scratch1.slice (Rect.unit (s := S16) ![k.val] S1.size (inb1 k.val k.isLt))).squeeze S_ squeezes_S1_S_).sem

/-- A first row from which a step's ninety-six rows stay inside the packed tiles. -/
abbrev Row : Type := {o : ℕ // o + 96 ≤ 374400}

theorem inbO (o : Row) : ∀ a, (![o.val, 0] : Fin 2 → ℕ) a + S96x128.size a ≤ S374400x128.size a := by
  have := o.property
  intro a; fin_cases a
  · show o.val + 96 ≤ 374400; omega
  · show 0 + 128 ≤ 128; omega
def srcO (o : Row) : Memref sig .tc .hbm S96x128 .i32 :=
  gM.slice (Rect.unit (s := S374400x128) ![o.val, 0] S96x128.size (inbO o)) (fun _ => rfl)

/-- The packed tiles' read share for slot `k`'s copies. -/
abbrev tokG (c : Dev nD) (k : Fin 16) (S : Finset (Idx (gM.view.loc (c : Thread nD τ)))) (fg : Bf (F := F) c gM) : sProp 𝕄 :=
  gM.view.loc (c : Thread nD τ) ↦[S]{Transfers.shareTok fullShare 16 k} fg

/-- Slot `k` free: its counter at zero, the slot at anything, its read share whole. -/
abbrev freeS (c : Dev nD) (fg : Bf (F := F) c gM) (k : Fin 16) : sProp 𝕄 :=
  iprop(semVal ((c : Thread nD τ), cellK k) 0 ∗ (∃ f, (rslotK k).view.loc (c : Thread nD τ) ↦[(rslotK k).view.set]{fullShare} f) ∗ tokG c k Finset.univ fg)

/-- Slot `k` being filled with the rows from `o` on. -/
abbrev fillS (c : Dev nD) (fg : Bf (F := F) c gM) (k : Fin 16) (o : Row) : sProp 𝕄 :=
  iprop((∃ f, Transfers.Flight (countersEmb (U := UU nD τ)) (c : Thread nD τ) (cellK k) () (rslotK k).view.dmaCredit
            iprop(((rslotK k).view.loc (c : Thread nD τ) ↦[(rslotK k).view.set]{fullShare}
                    (rslotK k).view.writes (Elt F) f [⟨Rect.whole S96x128, ReadAs.same.apply ((srcO o).view.read (Elt F) fg)⟩])
              ∗ tokG c k (srcO o).view.set fg))
    ∗ tokG c k (Finset.univ \ (srcO o).view.set) fg)

/-- Slot `k` in its state. -/
def slotS (c : Dev nD) (fg : Bf (F := F) c gM) (k : Fin 16) (s : Option Row) : sProp 𝕄 :=
  match s with
  | none => freeS c fg k
  | some o => fillS c fg k o

/-! ## One trip, its offsets named by numbers -/

/-- A loaded block's product with its weights, by the path the flag names. -/
def prod (e : BitVec 32) (v : Vec F S1x96x128 .i32) : FVec F S128x160 .f32 :=
  if Scalar.cmpi .ne (Scalar.extui (Scalar.cmpi .eq e 0#32)) 0#32 = 1#1
    then k0_pay6 (iota .tc S128x256 32 [0] iota_S128x256_d0_w32) v else k0_pay7 (iota .tc S128x256 32 [0] iota_S128x256_d0_w32) v

/-- The trip at any offsets. -/
def tripG (o25 : Fin 1 → ℕ) (h25 : ∀ a, o25 a + S1.size a ≤ S16.size a) (o26 : Fin 3 → ℕ) (h26 : ∀ a, o26 a + S1x96x128.size a ≤ S16x96x128.size a)
    (o27 : Fin 2 → ℕ) (h27 : ∀ a, o27 a + S96x128.size a ≤ S374400x128.size a) (b : BitVec 1)
    (o29 : Fin 1 → ℕ) (h29 : b = 1#1 → ∀ a, o29 a + S1.size a ≤ S16.size a) (o30 : Fin 3 → ℕ) (h30 : b = 1#1 → ∀ a, o30 a + S1x96x128.size a ≤ S16x96x128.size a)
    (o31 : Fin 2 → ℕ) (h31 : b = 1#1 → ∀ a, o31 a + S96x128.size a ≤ S374400x128.size a)
    (acc : FVec F S128x160 .f32) : Prog (TpuEff nD τ sig (Elt F) Λ₀ .tc) (FVec F S128x160 .f32) := do
  Prog.lift (.waitDma2 ((cc0_scratch1.slice (Rect.unit (s := S16) o25 S1.size h25)).squeeze S_ squeezes_S1_S_).sem
    (gM.slice (Rect.unit (s := S374400x128) o27 S96x128.size h27) (fun _ => rfl))
    ((ringM.slice (Rect.unit (s := S16x96x128) o26 S1x96x128.size h26) (fun _ => rfl)).squeeze S96x128 squeezes_S1x96x128_S96x128)
    (View.wordExact_bits rfl) ((View.wordExact_bits rfl).reshape _ _))
  let v84 : Vec F S1x96x128 .i32 ← Prog.lift (.load ringM (Rect.unit (s := S16x96x128) o26 S1x96x128.size h26).toLoadRect (View.loadsAt_vmem h_S1x96x128))
  let v101 : Elt F .i32 ← smemLoad exM (Rect.unit (s := S1) ![0] S1.size inb_S1_S1_0) numel1_S1 rfl
  let v105 : FVec F S128x160 .f32 ← if Scalar.cmpi .ne (Scalar.extui (Scalar.cmpi .eq v101 0#32)) 0#32 = 1#1
    then pure (k0_pay6 (iota .tc S128x256 32 [0] iota_S128x256_d0_w32) v84) else pure (k0_pay7 (iota .tc S128x256 32 [0] iota_S128x256_d0_w32) v84)
  if h : b = 1#1 then do
    Prog.lift (.enqueueDma (gM.slice (Rect.unit (s := S374400x128) o31 S96x128.size (h31 h)) (fun _ => rfl))
      (.here ((ringM.slice (Rect.unit (s := S16x96x128) o30 S1x96x128.size (h30 h)) (fun _ => rfl)).squeeze S96x128 squeezes_S1x96x128_S96x128))
      (.dma ((cc0_scratch1.slice (Rect.unit (s := S16) o29 S1.size (h29 h))).squeeze S_ squeezes_S1_S_).sem)
      (View.wordExact_bits rfl) ((View.wordExact_bits rfl).reshape _ _) ⟨Or.inl rfl, trivial⟩)
    pure ⟨⟩
  else pure ⟨⟩
  pure (k0_pay8 acc v105)

/-- The trip at slot `s`, waiting for the rows from `o` on and, when `b` says so, starting those from `o'` on. -/
def tripN (s : Fin 16) (o : Row) (b : BitVec 1) (o' : b = 1#1 → Row) (acc : FVec F S128x160 .f32) :
    Prog (TpuEff nD τ sig (Elt F) Λ₀ .tc) (FVec F S128x160 .f32) := do
  Prog.lift (.waitDma2 ((cc0_scratch1.slice (Rect.unit (s := S16) ![s.val] S1.size (inb1 s.val s.isLt))).squeeze S_ squeezes_S1_S_).sem
    (gM.slice (Rect.unit (s := S374400x128) ![o.val, 0] S96x128.size (inbO o)) (fun _ => rfl))
    ((ringM.slice (Rect.unit (s := S16x96x128) ![s.val, 0, 0] S1x96x128.size (inb3 s.val s.isLt)) (fun _ => rfl)).squeeze S96x128 squeezes_S1x96x128_S96x128)
    (View.wordExact_bits rfl) ((View.wordExact_bits rfl).reshape _ _))
  let v84 : Vec F S1x96x128 .i32 ← Prog.lift (.load ringM (Rect.unit (s := S16x96x128) ![s.val, 0, 0] S1x96x128.size (inb3 s.val s.isLt)).toLoadRect (View.loadsAt_vmem h_S1x96x128))
  let v101 : Elt F .i32 ← smemLoad exM (Rect.unit (s := S1) ![0] S1.size inb_S1_S1_0) numel1_S1 rfl
  let v105 : FVec F S128x160 .f32 ← if Scalar.cmpi .ne (Scalar.extui (Scalar.cmpi .eq v101 0#32)) 0#32 = 1#1
    then pure (k0_pay6 (iota .tc S128x256 32 [0] iota_S128x256_d0_w32) v84) else pure (k0_pay7 (iota .tc S128x256 32 [0] iota_S128x256_d0_w32) v84)
  if h : b = 1#1 then do
    Prog.lift (.enqueueDma (gM.slice (Rect.unit (s := S374400x128) ![(o' h).val, 0] S96x128.size (inbO (o' h))) (fun _ => rfl))
      (.here ((ringM.slice (Rect.unit (s := S16x96x128) ![s.val, 0, 0] S1x96x128.size (inb3 s.val s.isLt)) (fun _ => rfl)).squeeze S96x128 squeezes_S1x96x128_S96x128))
      (.dma ((cc0_scratch1.slice (Rect.unit (s := S16) ![s.val] S1.size (inb1 s.val s.isLt))).squeeze S_ squeezes_S1_S_).sem)
      (View.wordExact_bits rfl) ((View.wordExact_bits rfl).reshape _ _) ⟨Or.inl rfl, trivial⟩)
    pure ⟨⟩
  else pure ⟨⟩
  pure (k0_pay8 acc v105)

theorem tripG_eq (s : Fin 16) (o : Row) (b : BitVec 1) (n : ℕ) (hn : b = 1#1 → n + 96 ≤ 374400) (acc : FVec F S128x160 .f32)
    (o25 : Fin 1 → ℕ) (h25) (o26 : Fin 3 → ℕ) (h26) (o27 : Fin 2 → ℕ) (h27) (o29 : Fin 1 → ℕ) (h29) (o30 : Fin 3 → ℕ) (h30) (o31 : Fin 2 → ℕ) (h31)
    (e25 : o25 = ![s.val]) (e26 : o26 = ![s.val, 0, 0]) (e27 : o27 = ![o.val, 0]) (e29 : o29 = ![s.val]) (e30 : o30 = ![s.val, 0, 0]) (e31 : o31 = ![n, 0]) :
    tripG (F := F) o25 h25 o26 h26 o27 h27 b o29 h29 o30 h30 o31 h31 acc = tripN s o b (fun h => ⟨n, hn h⟩) acc := by
  subst e25 e26 e27 e29 e30 e31
  rfl

/-- The body of the loop over the second unit's steps is the trip at the step's slot and rows. -/
theorem t5_body_eq (i : grid0.Coords) (arg4 : Memref sig .tc .hbm S71680x256 .f32) (harg4 : arg4.IsWhole) (arg5 : Memref sig .tc .vmem S160x256 .f32) (harg5 : arg5.IsWhole)
    {v0 v1 v11 v15 : BitVec 32} (h : UnitWords v0 v1 v11 v15) (hw : k0_chk3 v0 v1 v11 v15) (k : Fin (k0_t5_loop v0 v11 v15).trips) (acc : FVec F S128x160 .f32) :
    k0_t5_body (F := F) i sbM (Memref.isWhole_whole _) exM (Memref.isWhole_whole _) gM (Memref.isWhole_whole _) arg4 harg4 arg5 harg5 ringM (Memref.isWhole_whole _) cc0_scratch1
        v0 v1 (iota .tc S128x256 32 [0] iota_S128x256_d0_w32) v11 (v11 - v0) v15 hw k acc
      = tripN ⟨((v11 - v0).toNat + k.val) % 16, Nat.mod_lt _ (by decide)⟩
          ⟨((v11 - v0).toNat + k.val) * 96, by have := (t5_iv h k).2; have := h.bt; have := h.le; omega⟩
          (k0_cond7 v0 v1 v11 v15 k)
          (fun h7 => ⟨((v11 - v0).toNat + k.val + 16) * 96, by have := (cond7_iff h k).1 h7; have := h.le; omega⟩) acc :=
  Eq.trans (show _ = tripG (F := F) (k0_off25 v0 v11 v15 k) (k0_off25_inb v0 v1 v11 v15 hw k) (k0_off26 v0 v11 v15 k) (k0_off26_inb v0 v1 v11 v15 hw k)
      (k0_off27 v0 v11 v15 k) (k0_off27_inb v0 v1 v11 v15 hw k) (k0_cond7 v0 v1 v11 v15 k)
      (k0_off29 v0 v11 v15 k) (k0_off29_inb v0 v1 v11 v15 hw k) (k0_off30 v0 v11 v15 k) (k0_off30_inb v0 v1 v11 v15 hw k)
      (k0_off31 v0 v11 v15 k) (k0_off31_inb v0 v1 v11 v15 hw k) acc from rfl)
    (tripG_eq _ _ _ _ _ acc _ _ _ _ _ _ _ _ _ _ _ _ (off25_eq h k) (off26_eq h k) (off27_eq h k)
      ((off29_eq h k).trans (by rw [Nat.add_mod_right])) ((off30_eq h k).trans (by rw [Nat.add_mod_right])) (off31_eq h k))

/-- The ninety-six rows from `o` on, as the body loads them. -/
def blk (c : Dev nD) (fg : Bf (F := F) c gM) (o : Row) : Vec F S1x96x128 .i32 :=
  shapeCast S1x96x128 ((srcO o).view.read (Elt F) fg) (by decide)

/-- A slot's elements are its rectangle's. -/
theorem rslotK_set (k : Fin 16) :
    (rslotK k).view.set = (Rect.unit (s := S16x96x128) ![k.val, 0, 0] S1x96x128.size (inb3 k.val k.isLt)).set :=
  (View.set_reshape _ _).trans (View.set_slice_whole _ _)

/-- A load of the slot's rectangle through the whole ring, after the rows from `o` on have arrived, reads them. -/
theorem landed_read (c : Dev nD) (fg : Bf (F := F) c gM) (s : Fin 16) (o : Row) (f : (rslotK s).view.ty.Contents (Elt F)) :
    ringM.view.readAt (Elt F) (Rect.unit (s := S16x96x128) ![s.val, 0, 0] S1x96x128.size (inb3 s.val s.isLt)).toLoadRect
      ((rslotK s).view.writes (Elt F) f [⟨Rect.whole S96x128, ReadAs.same.apply ((srcO o).view.read (Elt F) fg)⟩]) = blk c fg o := by
  have h := View.read_writes_whole (rslotK s).view f (ReadAs.same.apply ((srcO o).view.read (Elt F) fg))
  have e : ∀ g, (rslotK s).view.read (Elt F) g
      = shapeCast S96x128 (ringM.view.readAt (Elt F) (Rect.unit (s := S16x96x128) ![s.val, 0, 0] S1x96x128.size (inb3 s.val s.isLt)).toLoadRect g) (by show S1x96x128.ShapeCasts S96x128; decide) :=
    fun _ => rfl
  have h2 := (e _).symm.trans h
  exact (shapeCast_shapeCast _ _ _).symm.trans (congrArg (fun v => shapeCast S1x96x128 v (by decide)) h2)

/-- The flag word. -/
def flag (c : Dev nD) (fx : Bf (F := F) c exM) : BitVec 32 := fx (ValueIdx.ix1 0)

theorem flag_read (c : Dev nD) (fx : Bf (F := F) c exM) :
    exM.view.readAt (Elt F) (Rect.unit (s := S1) ![0] S1.size inb_S1_S1_0).toLoadRect fx (Shape.Idx.first (by decide)) = flag c fx := by
  unfold flag
  show fx _ = fx _
  congr 1
  funext a; fin_cases a; rfl

/-- One trip: the slot's rows arrive, their product is added, and the slot is free again or being filled anew. -/
theorem run_trip (c : Dev nD) (fg : Bf (F := F) c gM) (fx : Bf (F := F) c exM) (st : Fin 16 → Option Row)
    (s : Fin 16) (o : Row) (hst : st s = some o) (b : BitVec 1) (o' : b = 1#1 → Row) (acc : FVec F S128x160 .f32)
    (W : Waits sig Unit) (Q : FVec F S128x160 .f32 → sProp 𝕄) :
    iprop(Ring.AtW (slotS c fg) st ∗ pt c exM fx ∗ owes (c : Thread nD τ) 0 W
        ∗ ((Ring.AtW (slotS c fg) (Function.update st s (if h : b = 1#1 then some (o' h) else none)) ∗ pt c exM fx ∗ ∃ W, owes (c : Thread nD τ) 0 W)
            -∗ Q (k0_pay8 acc (prod (flag c fx) (blk c fg o)))))
      ⊢ wp frame (wpE (defs₀ (F := F)) Variants.none c none) Set.univ (tripN s o b o' acc) Q := by
  rw [Ring.AtW_focus (slotS c fg) st s, hst]
  have hS : (ringM.access (Rect.unit (s := S16x96x128) ![s.val, 0, 0] S1x96x128.size (inb3 s.val s.isLt))).set ⊆ (rslotK s).view.set := by
    rw [rslotK_set]; exact (View.set_slice_whole _ _).le
  unfold tripN prod
  by_cases hb : b = 1#1
  · rw [dif_pos hb]
    rw [show slotS c fg s (some o) = fillS c fg s o from rfl]
    iintro ⟨⟨⟨⟨%f, Hfl⟩, Htok⟩, Hrest⟩, Hx, HO, Hk⟩
    sl_exec
    have hr : run_trip.sl.r c fx = flag c fx := flag_read c fx
    have hv : run_trip.sl.v84 c fg s o = blk c fg o := landed_read c fg s o _
    rw [hr, hv]
    by_cases hx : Scalar.cmpi .ne (Scalar.extui (Scalar.cmpi .eq (flag c fx) 0#32)) 0#32 = 1#1
    · rw [if_pos hx]
      sl_exec
      sl_step
      iapply Hk
      isplitr [Hx HO]
      · iapply (Ring.AtW_update (slotS c fg) st s (some (o' hb)))
        isplitr [Hrest]
        · rw [show slotS c fg s (some (o' hb)) = fillS c fg s (o' hb) from rfl]
          isplitl [Hfl]
          · iexists _; iexact Hfl
          · iexact Htok
        · iexact Hrest
      · isplitl [Hx]; · iexact Hx
        iexists _; iexact HO
    · rw [if_neg hx]
      sl_exec
      sl_step
      iapply Hk
      isplitr [Hx HO]
      · iapply (Ring.AtW_update (slotS c fg) st s (some (o' hb)))
        isplitr [Hrest]
        · rw [show slotS c fg s (some (o' hb)) = fillS c fg s (o' hb) from rfl]
          isplitl [Hfl]
          · iexists _; iexact Hfl
          · iexact Htok
        · iexact Hrest
      · isplitl [Hx]; · iexact Hx
        iexists _; iexact HO
  · rw [dif_neg hb]
    rw [show slotS c fg s (some o) = fillS c fg s o from rfl]
    iintro ⟨⟨⟨⟨%f, Hfl⟩, Htok⟩, Hrest⟩, Hx, HO, Hk⟩
    sl_exec
    have hr : run_trip.sl.r_1 c fx = flag c fx := flag_read c fx
    have hv : run_trip.sl.v84_1 c fg s o = blk c fg o := landed_read c fg s o _
    rw [hr, hv]
    by_cases hx : Scalar.cmpi .ne (Scalar.extui (Scalar.cmpi .eq (flag c fx) 0#32)) 0#32 = 1#1
    · rw [if_pos hx]
      sl_exec
      sl_step
      iapply Hk
      isplitr [Hx HO]
      · iapply (Ring.AtW_update (slotS c fg) st s none)
        isplitr [Hrest]
        · rw [show slotS c fg s none = freeS c fg s from rfl]
          isplitl [Hfl]; · iexact Hfl
          isplitl [Hfl_dst]; · iexists _; iexact Hfl_dst
          iexact Htok
        · iexact Hrest
      · isplitl [Hx]; · iexact Hx
        iexists _; iexact HO
    · rw [if_neg hx]
      sl_exec
      sl_step
      iapply Hk
      isplitr [Hx HO]
      · iapply (Ring.AtW_update (slotS c fg) st s none)
        isplitr [Hrest]
        · rw [show slotS c fg s none = freeS c fg s from rfl]
          isplitl [Hfl]; · iexact Hfl
          isplitl [Hfl_dst]; · iexists _; iexact Hfl_dst
          iexact Htok
        · iexact Hrest
      · isplitl [Hx]; · iexact Hx
        iexists _; iexact HO

end Cert.Kernel.Hand

end
-- ==== Proof.Trips.lean ====
/-
  The body's loops as invariants. Before step `p` of `T` the ring holds the steps `p` up to `min (p + 16) T`, step `x` in
  slot `x % 16`; a trip of a unit's loop moves the ring from step `p` to step `p + 1` and adds the step's product; a trip
  of the first grid point's loop starts one step's copy.
-/
module

public import proofs.«01_k».proof.Proof.Ring

@[expose] public section

set_option maxRecDepth 65536

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UU nD τ) ℕ

/-- The first row of step `x` (of the last step the tiles hold, when they hold no step `x`). -/
def rowT (x : ℕ) : Row := ⟨min (x * 96) 374304, by omega⟩

theorem rowT_eq {x : ℕ} (h : x * 96 + 96 ≤ 374400) : rowT x = ⟨x * 96, h⟩ := Subtype.ext (Nat.min_eq_left (by omega))

/-- The ring holding the steps from `lo` up to `hi`. -/
def stWin (lo hi : ℕ) : Fin 16 → Option Row := fun k => (Ring.inWin lo hi 16 k).map rowT
/-- The ring before step `p` of `T`. -/
def stAt (T p : ℕ) : Fin 16 → Option Row := stWin p (min (p + 16) T)

theorem map_update (f : Fin 16 → Option ℕ) (s : Fin 16) (a : Option ℕ) :
    (fun k => (Function.update f s a k).map rowT) = Function.update (fun k => (f k).map rowT) s (a.map rowT) := by
  funext k
  by_cases h : k = s
  · subst h; rw [Function.update_self, Function.update_self]
  · rw [Function.update_of_ne h, Function.update_of_ne h]

theorem stAt_at {T p : ℕ} (h : p < T) : stAt T p (Ring.sl 16 p) = some (rowT p) := by
  unfold stAt stWin
  rw [Ring.inWin_lo (by omega) (by omega)]; rfl

theorem stWin_push {lo hi : ℕ} (h1 : lo ≤ hi) (h2 : hi + 1 ≤ lo + 16) :
    stWin lo (hi + 1) = Function.update (stWin lo hi) (Ring.sl 16 hi) (some (rowT hi)) := by
  unfold stWin; rw [Ring.inWin_push h1 h2, map_update]; rfl

theorem stWin_pop {lo hi : ℕ} (h1 : lo < hi) (h2 : hi ≤ lo + 16) :
    stWin (lo + 1) hi = Function.update (stWin lo hi) (Ring.sl 16 lo) none := by
  unfold stWin; rw [Ring.inWin_pop h1 h2, map_update]; rfl

/-- One step further, a step sixteen further on being left. -/
theorem stAt_succ_more {T p : ℕ} (h : p + 16 < T) :
    stAt T (p + 1) = Function.update (stAt T p) (Ring.sl 16 p) (some (rowT (p + 16))) := by
  have hs : Ring.sl 16 (p + 16) = Ring.sl 16 p := Fin.ext (by rw [Ring.sl_val, Ring.sl_val, Nat.add_mod_right])
  unfold stAt
  rw [show min (p + 1 + 16) T = p + 16 + 1 from by omega, show min (p + 16) T = p + 16 from by omega,
    stWin_push (by omega) (by omega), stWin_pop (by omega) (by omega), hs, Function.update_idem]

/-- One step further near the end. -/
theorem stAt_succ_less {T p : ℕ} (h : p < T) (h' : ¬ p + 16 < T) :
    stAt T (p + 1) = Function.update (stAt T p) (Ring.sl 16 p) none := by
  unfold stAt
  rw [show min (p + 1 + 16) T = T from by omega, show min (p + 16) T = T from by omega, stWin_pop h (by omega)]

theorem stWin_empty (p q : ℕ) (h : q ≤ p) : stWin p q = fun _ => none := by
  funext k
  unfold stWin
  rw [(Ring.inWin_eq_none_iff (by omega) k).2 (fun x h1 h2 => absurd h1 (by omega))]; rfl

/-- The sum after `n` steps from step `A` on, from `z`. -/
def accN (c : Dev nD) (fg : Bf (F := F) c gM) (fx : Bf (F := F) c exM) (z : FVec F S128x160 .f32) (A : ℕ) : ℕ → FVec F S128x160 .f32
  | 0 => z
  | n + 1 => k0_pay8 (accN c fg fx z A n) (prod (flag c fx) (blk c fg (rowT (A + n))))

/-- The resources before step `p` of `T`: the ring, the flag word, the core's waits. -/
def ringAt (c : Dev nD) (fg : Bf (F := F) c gM) (fx : Bf (F := F) c exM) (T p : ℕ) : sProp 𝕄 :=
  iprop(Ring.AtW (slotS c fg) (stAt T p) ∗ pt c exM fx ∗ ∃ W, owes (c : Thread nD τ) 0 W)

theorem run_step (c : Dev nD) (fg : Bf (F := F) c gM) (fx : Bf (F := F) c exM) (T p : ℕ) (hp : p < T) (hT : T ≤ 3900)
    (s : Fin 16) (hs : s = Ring.sl 16 p) (o : Row) (ho : o = rowT p) (b : BitVec 1) (hb : b = 1#1 ↔ p + 16 < T)
    (o' : b = 1#1 → Row) (ho' : ∀ h, o' h = rowT (p + 16)) (acc : FVec F S128x160 .f32) (Q : FVec F S128x160 .f32 → sProp 𝕄) :
    iprop(ringAt c fg fx T p ∗ (ringAt c fg fx T (p + 1) -∗ Q (k0_pay8 acc (prod (flag c fx) (blk c fg (rowT p))))))
      ⊢ wp frame (wpE (defs₀ (F := F)) Variants.none c none) Set.univ (tripN s o b o' acc) Q := by
  subst hs ho
  have e : stAt T (p + 1) = Function.update (stAt T p) (Ring.sl 16 p) (if h : b = 1#1 then some (o' h) else none) := by
    by_cases h : b = 1#1
    · rw [dif_pos h, ho' h]; exact stAt_succ_more (hb.1 h)
    · rw [dif_neg h]; exact stAt_succ_less hp (fun h' => h (hb.2 h'))
  unfold ringAt
  iintro ⟨⟨HR, Hx, %W, HO⟩, Hk⟩
  iapply (run_trip c fg fx (stAt T p) _ _ (stAt_at hp) b o' acc W Q)
  isplitl [HR]; · iexact HR
  isplitl [Hx]; · iexact Hx
  isplitl [HO]; · iexact HO
  rw [← e]
  iexact Hk

section Loops

variable (c : Dev nD) (fg : Bf (F := F) c gM) (fx : Bf (F := F) c exM) (i : grid0.Coords)
  (arg4 : Memref sig .tc .hbm S71680x256 .f32) (harg4 : arg4.IsWhole) (arg5 : Memref sig .tc .vmem S160x256 .f32) (harg5 : arg5.IsWhole)

/-- The invariant of a unit's loop: the ring at the trip's step, the sum so far. -/
def unitInv (z : FVec F S128x160 .f32) (T A k : ℕ) (acc : FVec F S128x160 .f32) : sProp 𝕄 :=
  iprop(ringAt c fg fx T (A + k) ∗ ⌜acc = accN c fg fx z A k⌝)

set_option warn.classDefReducibility false in
/-- The loop over the second unit's steps. -/
@[sl_loop] def loopInv_t5 (v0 v1 v31 v35 : BitVec 32) (h : UnitWords v0 v1 v31 v35) (hw : k0_chk3 v0 v1 v31 v35) (z : FVec F S128x160 .f32) :
    LoopInvTy_k0_t5 (F := F) Unit ℕ (UU nD τ) ℕ Variants.none c none Set.univ i sbM (Memref.isWhole_whole _) exM (Memref.isWhole_whole _)
      gM (Memref.isWhole_whole _) arg4 harg4 arg5 harg5 ringM (Memref.isWhole_whole _) cc0_scratch1
      v0 v1 (iota .tc S128x256 32 [0] iota_S128x256_d0_w32) v31 (v31 - v0) v35 hw z where
  inv k acc := unitInv c fg fx z (v1 - v0).toNat (v31 - v0).toNat k acc
  step k acc := by
    have hk := (t5_iv h k).2
    have hbt := h.bt; have hle := h.le
    rw [t5_body_eq i arg4 harg4 arg5 harg5 h hw k acc]
    unfold unitInv
    iintro ⟨HR, %ha⟩
    iapply (run_step c fg fx (v1 - v0).toNat ((v31 - v0).toNat + k.val) (by omega) hle _ rfl _ (rowT_eq (by omega)).symm _ (cond7_iff h k) _
      (fun h7 => (rowT_eq (by have := (cond7_iff h k).1 h7; omega)).symm) acc)
    isplitl [HR]; · iexact HR
    iintro HR
    isplitl [HR]; · iexact HR
    ipureintro
    rw [ha]; rfl

set_option warn.classDefReducibility false in
/-- The loop over the first unit's steps: the same body. -/
@[sl_loop] def loopInv_t3 (v0 v1 v11 v15 : BitVec 32) (h : UnitWords v0 v1 v11 v15) (hw : k0_chk2 v0 v1 v11 v15) (z : FVec F S128x160 .f32) :
    LoopInvTy_k0_t3 (F := F) Unit ℕ (UU nD τ) ℕ Variants.none c none Set.univ i sbM (Memref.isWhole_whole _) exM (Memref.isWhole_whole _)
      gM (Memref.isWhole_whole _) arg4 harg4 arg5 harg5 ringM (Memref.isWhole_whole _) cc0_scratch1
      v0 v1 v11 (v11 - v0) v15 hw z where
  inv k acc := unitInv c fg fx z (v1 - v0).toNat (v11 - v0).toNat k acc
  step k acc := (loopInv_t5 c fg fx i arg4 harg4 arg5 harg5 v0 v1 v11 v15 h hw z).step k acc

end Loops

/-! ## The first grid point's loop -/

/-- A trip of it at any offsets. -/
def firstG (o1 : Fin 1 → ℕ) (h1 : ∀ a, o1 a + S1.size a ≤ S16.size a) (o2 : Fin 3 → ℕ) (h2 : ∀ a, o2 a + S1x96x128.size a ≤ S16x96x128.size a)
    (o3 : Fin 2 → ℕ) (h3 : ∀ a, o3 a + S96x128.size a ≤ S374400x128.size a) : Prog (TpuEff nD τ sig (Elt F) Λ₀ .tc) Unit := do
  Prog.lift (.enqueueDma (gM.slice (Rect.unit (s := S374400x128) o3 S96x128.size h3) (fun _ => rfl))
    (.here ((ringM.slice (Rect.unit (s := S16x96x128) o2 S1x96x128.size h2) (fun _ => rfl)).squeeze S96x128 squeezes_S1x96x128_S96x128))
    (.dma ((cc0_scratch1.slice (Rect.unit (s := S16) o1 S1.size h1)).squeeze S_ squeezes_S1_S_).sem)
    (View.wordExact_bits rfl) ((View.wordExact_bits rfl).reshape _ _) ⟨Or.inl rfl, trivial⟩)
  pure ⟨⟩

/-- A trip of it at slot `s`, starting the rows from `o` on. -/
def firstN (s : Fin 16) (o : Row) : Prog (TpuEff nD τ sig (Elt F) Λ₀ .tc) Unit :=
  firstG ![s.val] (inb1 s.val s.isLt) ![s.val, 0, 0] (inb3 s.val s.isLt) ![o.val, 0] (inbO o)

theorem firstG_eq (s : Fin 16) (o : Row) (o1 : Fin 1 → ℕ) (h1) (o2 : Fin 3 → ℕ) (h2) (o3 : Fin 2 → ℕ) (h3)
    (e1 : o1 = ![s.val]) (e2 : o2 = ![s.val, 0, 0]) (e3 : o3 = ![o.val, 0]) :
    firstG (F := F) o1 h1 o2 h2 o3 h3 = firstN s o := by
  subst e1 e2 e3
  rfl

theorem t1_body_eq (i : grid0.Coords) (arg4 : Memref sig .tc .hbm S71680x256 .f32) (harg4 : arg4.IsWhole) (arg5 : Memref sig .tc .vmem S160x256 .f32) (harg5 : arg5.IsWhole)
    {v0 v1 : BitVec 32} (h : (v1 - v0).toNat ≤ 3900) (hw : k0_chk1 i v0 v1) (h1 : k0_cond1 i = 1#1) (k : Fin (k0_t1_loop v0 v1).trips) (u : Unit) :
    k0_t1_body (F := F) i sbM (Memref.isWhole_whole _) exM (Memref.isWhole_whole _) gM (Memref.isWhole_whole _) arg4 harg4 arg5 harg5 ringM (Memref.isWhole_whole _) cc0_scratch1
        v0 v1 hw h1 k u
      = firstN ⟨k.val % 16, Nat.mod_lt _ (by decide)⟩ ⟨k.val * 96, by have := (t1_iv h k).2; omega⟩ :=
  Eq.trans (show _ = firstG (F := F) (k0_off1 v0 v1 k) (k0_off1_inb i v0 v1 hw k h1) (k0_off2 v0 v1 k) (k0_off2_inb i v0 v1 hw k h1)
      (k0_off3 v0 v1 k) (k0_off3_inb i v0 v1 hw k h1) from rfl)
    (firstG_eq _ _ _ _ _ _ _ _ (off1_eq h k) (off2_eq h k) (off3_eq h k))

/-- The trip starts a copy into a free slot. -/
theorem run_first (c : Dev nD) (fg : Bf (F := F) c gM) (st : Fin 16 → Option Row) (s : Fin 16) (o : Row) (hst : st s = none)
    (W : Waits sig Unit) (Q : Unit → sProp 𝕄) :
    iprop(Ring.AtW (slotS c fg) st ∗ owes (c : Thread nD τ) 0 W
        ∗ ((Ring.AtW (slotS c fg) (Function.update st s (some o)) ∗ ∃ W, owes (c : Thread nD τ) 0 W) -∗ Q ⟨⟩))
      ⊢ wp frame (wpE (defs₀ (F := F)) Variants.none c none) Set.univ (firstN s o) Q := by
  rw [Ring.AtW_focus (slotS c fg) st s, hst]
  rw [show slotS c fg s none = freeS c fg s from rfl]
  unfold firstN firstG
  iintro ⟨⟨⟨Hfl, ⟨%f, Hdst⟩, Htok⟩, Hrest⟩, HO, Hk⟩
  sl_exec
  sl_step
  iapply Hk
  isplitr [HO]
  · iapply (Ring.AtW_update (slotS c fg) st s (some o))
    isplitr [Hrest]
    · rw [show slotS c fg s (some o) = fillS c fg s o from rfl]
      isplitl [Hfl]
      · iexists _; iexact Hfl
      · iexact Htok
    · iexact Hrest
  · iexists _; iexact HO

theorem stWin_free (k : ℕ) (h : k < 16) : stWin 0 k (Ring.sl 16 k) = none := by
  unfold stWin
  rw [Ring.inWin_hi (by omega) (by omega)]; rfl

set_option warn.classDefReducibility false in
/-- The first grid point's loop: before trip `k` the first `k` slots are being filled. -/
@[sl_loop] def loopInv_t1 (c : Dev nD) (fg : Bf (F := F) c gM) (i : grid0.Coords)
    (arg4 : Memref sig .tc .hbm S71680x256 .f32) (harg4 : arg4.IsWhole) (arg5 : Memref sig .tc .vmem S160x256 .f32) (harg5 : arg5.IsWhole)
    (v0 v1 : BitVec 32) (h : (v1 - v0).toNat ≤ 3900) (hw : k0_chk1 i v0 v1) (h1 : k0_cond1 i = 1#1) :
    LoopInvTy_k0_t1 (F := F) Unit ℕ (UU nD τ) ℕ Variants.none c none Set.univ i sbM (Memref.isWhole_whole _) exM (Memref.isWhole_whole _)
      gM (Memref.isWhole_whole _) arg4 harg4 arg5 harg5 ringM (Memref.isWhole_whole _) cc0_scratch1 v0 v1 hw h1 where
  inv k _ := iprop(Ring.AtW (slotS c fg) (stWin 0 k) ∗ ∃ W, owes (c : Thread nD τ) 0 W)
  step k u := by
    have hk := (t1_iv h k).2
    rw [t1_body_eq i arg4 harg4 arg5 harg5 h hw h1 k u]
    iintro ⟨HR, %W, HO⟩
    iapply (run_first c fg (stWin 0 k.val) _ _ (stWin_free k.val (by omega)) W)
    isplitl [HR]; · iexact HR
    isplitl [HO]; · iexact HO
    iintro H
    rw [stWin_push (by omega) (by omega), rowT_eq (x := k.val) (by omega)]
    iexact H

end Cert.Kernel.Hand

end
-- ==== Proof.Body.lean ====
/-
  The whole body at a grid point: at the first point the ring is filled, then the two units' loops run and their sums go,
  transposed, to the left and the right half of the output block.
-/
module

public import proofs.«01_k».proof.Proof.Trips

@[expose] public section

set_option maxRecDepth 65536

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UU nD τ) ℕ

/-- Word `n` of the step table. -/
def word (c : Dev nD) (fs : Bf (F := F) c sbM) (n : Fin 897) : BitVec 32 := fs (ValueIdx.ix1 n)

theorem word_read (c : Dev nD) (fs : Bf (F := F) c sbM) (off : Fin 1 → ℕ) (h) (n : Fin 897) (hn : off = ![n.val]) :
    sbM.view.readAt (Elt F) (Rect.unit (s := S897) off S1.size h).toLoadRect fs (Shape.Idx.first (by show 0 < S1.numel; decide)) = word c fs n := by
  subst hn
  unfold word
  show fs _ = fs _
  congr 1
  funext a; fin_cases a; rfl

/-- Where unit `u` begins among the chunk's steps. -/
def pos (c : Dev nD) (fs : Bf (F := F) c sbM) (u : ℕ) : ℕ :=
  if h : 224 + u < 897 then (word c fs ⟨224 + u, h⟩ - word c fs ⟨224, by decide⟩).toNat else 0

/-- The table's words of the chunk are in order and stay inside the packed tiles. -/
structure Ordered (c : Dev nD) (fs : Bf (F := F) c sbM) : Prop where
  mono : ∀ u, u < 224 → pos c fs u ≤ pos c fs (u + 1)
  le : ∀ u, u ≤ 224 → pos c fs u ≤ 3900

/-- The ring before point `r`: free before the first one. -/
def stPt (c : Dev nD) (fs : Bf (F := F) c sbM) (r : ℕ) : Fin 16 → Option Row :=
  if r = 0 then fun _ => none else stAt (pos c fs 224) (pos c fs (2 * r))

/-- The sum of unit `u`'s steps' products, from `z`. -/
def unitAcc (c : Dev nD) (fs : Bf (F := F) c sbM) (fg : Bf (F := F) c gM) (fx : Bf (F := F) c exM) (z : FVec F S128x160 .f32) (u : ℕ) : FVec F S128x160 .f32 :=
  accN c fg fx z (pos c fs u) (pos c fs (u + 1) - pos c fs u)

/-- Words with those positions are a unit's. -/
theorem unitWords {c : Dev nD} {fs : Bf (F := F) c sbM} (hO : Ordered c fs) (u : ℕ) (hu : u < 224) {v0 v1 v11 v15 : BitVec 32}
    (h0 : v0 = word c fs ⟨224, by decide⟩) (h1 : v1 = word c fs ⟨448, by decide⟩)
    (h11 : v11 = word c fs ⟨224 + u, by omega⟩) (h15 : v15 = word c fs ⟨224 + (u + 1), by omega⟩) :
    UnitWords v0 v1 v11 v15 ∧ (v1 - v0).toNat = pos c fs 224 ∧ (v11 - v0).toNat = pos c fs u ∧ (v15 - v0).toNat = pos c fs (u + 1) := by
  have e1 : (v1 - v0).toNat = pos c fs 224 := by subst h0 h1; unfold pos; rw [dif_pos (by omega)]
  have e11 : (v11 - v0).toNat = pos c fs u := by subst h0 h11; unfold pos; rw [dif_pos (by omega)]
  have e15 : (v15 - v0).toNat = pos c fs (u + 1) := by subst h0 h15; unfold pos; rw [dif_pos (by omega)]
  refine ⟨⟨?_, ?_, ?_⟩, e1, e11, e15⟩
  · rw [e11, e15]; exact hO.mono u hu
  · rw [e15, e1]
    have : ∀ n, u + 1 + n ≤ 224 → pos c fs (u + 1) ≤ pos c fs (u + 1 + n) := by
      intro n
      induction n with
      | zero => intro _; exact le_rfl
      | succ n ih => intro h; exact (ih (by omega)).trans (hO.mono _ (by omega))
    have h := this (224 - (u + 1)) (by omega)
    rwa [show u + 1 + (224 - (u + 1)) = 224 from by omega] at h
  · rw [e1]; exact hO.le 224 le_rfl

/-- The output block's two stores: the second unit's sum in the right half, the first unit's in the left half. -/
def outPieces (c : Dev nD) (fs : Bf (F := F) c sbM) (fg : Bf (F := F) c gM) (fx : Bf (F := F) c exM) (r : ℕ) : List (View.Piece (Elt F) S160x256 .f32) :=
  [⟨Rect.unit (s := S160x256) ![0, 128] S160x128.size inb_S160x256_S160x128_0_128, k0_pay16 (unitAcc c fs fg fx (k0_pay1 (F := F)) (2 * r + 1))⟩,
    ⟨Rect.unit (s := S160x256) ![0, 0] S160x128.size inb_S160x256_S160x128_0_0, k0_pay32 (unitAcc c fs fg fx (k0_pay17 (F := F)) (2 * r))⟩]

/-- The body at a later grid point. -/
theorem body_run1 (c : Dev nD) (fs : Bf (F := F) c sbM) (fg : Bf (F := F) c gM) (fx : Bf (F := F) c exM) (hO : Ordered c fs) (i : grid0.Coords) (hi : (i 0).val ≠ 0)
    (arg4 : Memref sig .tc .hbm S71680x256 .f32) (harg4 : arg4.IsWhole) (arg5 : Memref sig .tc .vmem S160x256 .f32) (harg5 : arg5.IsWhole)
    (fo : Bf (F := F) c arg5) (Q : PUnit → sProp 𝕄) :
    iprop(Ring.AtW (slotS c fg) (stPt c fs (i 0).val) ∗ pt c exM fx ∗ pt c sbM fs ∗ (∃ W, owes (c : Thread nD τ) 0 W) ∗ pt c arg5 fo
        ∗ ((Ring.AtW (slotS c fg) (stPt c fs ((i 0).val + 1)) ∗ pt c exM fx ∗ pt c sbM fs ∗ (∃ W, owes (c : Thread nD τ) 0 W)
             ∗ pt c arg5 (arg5.view.writes (Elt F) fo (outPieces c fs fg fx (i 0).val))) -∗ Q ⟨⟩))
      ⊢ wp frame (wpE (defs₀ (F := F)) Variants.none c none) Set.univ
          (cc0_pool (F := F) i sbM (Memref.isWhole_whole _) exM (Memref.isWhole_whole _) gM (Memref.isWhole_whole _) arg4 harg4 arg5 harg5 ringM (Memref.isWhole_whole _) cc0_scratch1) Q := by
  rw [cc0_pool_eq_skeleton]
  unfold cc0_pool_skel
  rw [k0_part5_eq_skeleton]
  unfold k0_part5_skel
  iintro ⟨HR, Hx, Hs, ⟨%W, HO⟩, Ho, Hk⟩
  sl_exec
  have hlt : (i 0).val < 112 := (i 0).isLt
  have hc : ¬ k0_cond1 i = 1#1 := fun h => hi ((cond1_iff i).1 h)
  have h0 : body_run1.sl.r c fs = word c fs ⟨224, by decide⟩ := word_read c fs _ _ _ rfl
  have h1 : body_run1.sl.r_1 c fs = word c fs ⟨448, by decide⟩ := word_read c fs _ _ _ rfl
  generalize body_run1.sl.r c fs = v0 at h0 ⊢
  generalize body_run1.sl.r_1 c fs = v1 at h1 ⊢
  have hw1 : k0_chk1 i v0 v1 := chk1 i (unitWords hO 0 (by omega) h0 h1 rfl rfl).1.le
  sl_exec
  rw [show body_run1.sl.v12 c fs i v0 = body_run1.sl.r_2 c fs i - v0 from rfl]
  have h2 : body_run1.sl.r_2 c fs i = word c fs ⟨224 + 2 * (i 0).val, by omega⟩ := word_read c fs _ _ _ (off7_eq i)
  have h3 : body_run1.sl.r_3 c fs i = word c fs ⟨224 + (2 * (i 0).val + 1), by omega⟩ := word_read c fs _ _ _ (off8_eq i)
  generalize body_run1.sl.r_2 c fs i = v11 at h2 ⊢
  generalize body_run1.sl.r_3 c fs i = v15 at h3 ⊢
  obtain ⟨hU, eT, eA, eB⟩ := unitWords hO (2 * (i 0).val) (by omega) h0 h1 h2 h3
  have hw2 : k0_chk2 v0 v1 v11 v15 := chk2 hU
  have e0 : stPt c fs (i 0).val = stAt (v1 - v0).toNat ((v11 - v0).toNat + 0) := by
    unfold stPt; rw [if_neg hi, eT, eA]; rfl
  rw [e0]
  let L := loopInv_t3 c fg fx i arg4 harg4 arg5 harg5 v0 v1 v11 v15 hU hw2 (k0_pay17 (F := F))
  sl_exec
  rw [bind_assoc]
  sl_exec
  rw [bind_assoc]
  sl_exec
  rw [show body_run1.sl.v32 c fs i v0 = body_run1.sl.r_4 c fs i - v0 from rfl]
  have h4 : body_run1.sl.r_4 c fs i = word c fs ⟨224 + (2 * (i 0).val + 1), by omega⟩ := word_read c fs _ _ _ (off23_eq i)
  have h5 : body_run1.sl.r_5 c fs i = word c fs ⟨224 + (2 * (i 0).val + 2), by omega⟩ := word_read c fs _ _ _ (off24_eq i)
  generalize body_run1.sl.r_4 c fs i = v31 at h4 ⊢
  generalize body_run1.sl.r_5 c fs i = v35 at h5 ⊢
  obtain ⟨hV, -, eC, eD⟩ := unitWords hO (2 * (i 0).val + 1) (by omega) h0 h1 h4 h5
  have hw3 : k0_chk3 v0 v1 v31 v35 := chk3 hV
  have hT3 : (k0_t3_loop v0 v11 v15).trips = pos c fs (2 * (i 0).val + 1) - pos c fs (2 * (i 0).val) := by
    rw [← eA, ← eB]; exact t5_trips hU
  have e1 : stAt (v1 - v0).toNat ((v11 - v0).toNat + (k0_t3_loop v0 v11 v15).trips) = stAt (v1 - v0).toNat ((v31 - v0).toNat + 0) := by
    have := hO.mono (2 * (i 0).val) (by omega)
    rw [hT3, eA, eC, Nat.add_sub_cancel' this]; rfl
  rw [show stAt (v1 - v0).toNat ((v11 - v0).toNat + Scf.trips (k0_t3_loop v0 v11 v15).lb (k0_t3_loop v0 v11 v15).ub (k0_t3_loop v0 v11 v15).st) = _ from e1]
  let L' := loopInv_t5 c fg fx i arg4 harg4 arg5 harg5 v0 v1 v31 v35 hV hw3 (k0_pay1 (F := F))
  sl_exec
  have hT5 : (k0_t5_loop v0 v31 v35).trips = pos c fs (2 * (i 0).val + 1 + 1) - pos c fs (2 * (i 0).val + 1) := by
    rw [← eC, ← eD]; exact t5_trips hV
  have e2 : stAt (v1 - v0).toNat ((v31 - v0).toNat + (k0_t5_loop v0 v31 v35).trips) = stPt c fs ((i 0).val + 1) := by
    have := hO.mono (2 * (i 0).val + 1) (by omega)
    unfold stPt
    rw [hT5, eC, eT, Nat.add_sub_cancel' this, if_neg (by omega)]; rfl
  have e3 : accN c fg fx (k0_pay1 (F := F)) (v31 - v0).toNat (k0_t5_loop v0 v31 v35).trips = unitAcc c fs fg fx k0_pay1 (2 * (i 0).val + 1) := by
    rw [hT5, eC]; rfl
  have e4 : accN c fg fx (k0_pay17 (F := F)) (v11 - v0).toNat (k0_t3_loop v0 v11 v15).trips = unitAcc c fs fg fx k0_pay17 (2 * (i 0).val) := by
    rw [hT3, eA]; rfl
  rw [show stAt (v1 - v0).toNat ((v31 - v0).toNat + Scf.trips (k0_t5_loop v0 v31 v35).lb (k0_t5_loop v0 v31 v35).ub (k0_t5_loop v0 v31 v35).st) = _ from e2,
    show accN c fg fx (k0_pay1 (F := F)) (v31 - v0).toNat (Scf.trips (k0_t5_loop v0 v31 v35).lb (k0_t5_loop v0 v31 v35).ub (k0_t5_loop v0 v31 v35).st) = _ from e3,
    show accN c fg fx (k0_pay17 (F := F)) (v11 - v0).toNat (Scf.trips (k0_t3_loop v0 v11 v15).lb (k0_t3_loop v0 v11 v15).ub (k0_t3_loop v0 v11 v15).st) = _ from e4]
  sl_step
  iapply Hk
  isplitl [HR]; · iexact HR
  isplitl [Hx]; · iexact Hx
  isplitl [Hs]; · iexact Hs
  isplitl [HO]; · iexists _; iexact HO
  iexact Ho

/-- The body at the first grid point. -/
theorem body_run0 (c : Dev nD) (fs : Bf (F := F) c sbM) (fg : Bf (F := F) c gM) (fx : Bf (F := F) c exM) (hO : Ordered c fs) (i : grid0.Coords) (hi : (i 0).val = 0)
    (arg4 : Memref sig .tc .hbm S71680x256 .f32) (harg4 : arg4.IsWhole) (arg5 : Memref sig .tc .vmem S160x256 .f32) (harg5 : arg5.IsWhole)
    (fo : Bf (F := F) c arg5) (Q : PUnit → sProp 𝕄) :
    iprop(Ring.AtW (slotS c fg) (stPt c fs (i 0).val) ∗ pt c exM fx ∗ pt c sbM fs ∗ (∃ W, owes (c : Thread nD τ) 0 W) ∗ pt c arg5 fo
        ∗ ((Ring.AtW (slotS c fg) (stPt c fs ((i 0).val + 1)) ∗ pt c exM fx ∗ pt c sbM fs ∗ (∃ W, owes (c : Thread nD τ) 0 W)
             ∗ pt c arg5 (arg5.view.writes (Elt F) fo (outPieces c fs fg fx (i 0).val))) -∗ Q ⟨⟩))
      ⊢ wp frame (wpE (defs₀ (F := F)) Variants.none c none) Set.univ
          (cc0_pool (F := F) i sbM (Memref.isWhole_whole _) exM (Memref.isWhole_whole _) gM (Memref.isWhole_whole _) arg4 harg4 arg5 harg5 ringM (Memref.isWhole_whole _) cc0_scratch1) Q := by
  rw [cc0_pool_eq_skeleton]
  unfold cc0_pool_skel
  rw [k0_part5_eq_skeleton]
  unfold k0_part5_skel
  iintro ⟨HR, Hx, Hs, ⟨%W, HO⟩, Ho, Hk⟩
  sl_exec
  have hlt : (i 0).val < 112 := (i 0).isLt
  have hc : k0_cond1 i = 1#1 := (cond1_iff i).2 hi
  have h0 : body_run0.sl.r c fs = word c fs ⟨224, by decide⟩ := word_read c fs _ _ _ rfl
  have h1 : body_run0.sl.r_1 c fs = word c fs ⟨448, by decide⟩ := word_read c fs _ _ _ rfl
  generalize body_run0.sl.r c fs = v0 at h0 ⊢
  generalize body_run0.sl.r_1 c fs = v1 at h1 ⊢
  have hle : (v1 - v0).toNat ≤ 3900 := (unitWords hO 0 (by omega) h0 h1 rfl rfl).1.le
  have hw1 : k0_chk1 i v0 v1 := chk1 i hle
  rw [show stPt c fs (i 0).val = stWin 0 0 from by rw [stWin_empty 0 0 le_rfl]; unfold stPt; rw [if_pos hi]]
  let L0 := loopInv_t1 c fg i arg4 harg4 arg5 harg5 v0 v1 hle hw1 hc
  sl_exec
  rw [bind_assoc]
  sl_exec
  rw [bind_assoc]
  sl_exec
  rw [show body_run0.sl.v12 c fs i v0 = body_run0.sl.r_2 c fs i - v0 from rfl]
  have h2 : body_run0.sl.r_2 c fs i = word c fs ⟨224 + 2 * (i 0).val, by omega⟩ := word_read c fs _ _ _ (off7_eq i)
  have h3 : body_run0.sl.r_3 c fs i = word c fs ⟨224 + (2 * (i 0).val + 1), by omega⟩ := word_read c fs _ _ _ (off8_eq i)
  generalize body_run0.sl.r_2 c fs i = v11 at h2 ⊢
  generalize body_run0.sl.r_3 c fs i = v15 at h3 ⊢
  obtain ⟨hU, eT, eA, eB⟩ := unitWords hO (2 * (i 0).val) (by omega) h0 h1 h2 h3
  have hw2 : k0_chk2 v0 v1 v11 v15 := chk2 hU
  have hA0 : (v11 - v0).toNat = 0 := by
    rw [eA, hi]; unfold pos; rw [dif_pos (by decide)]; simp
  have e0 : stWin 0 (k0_t1_loop v0 v1).trips = stAt (v1 - v0).toNat ((v11 - v0).toNat + 0) := by
    rw [t1_trips hle, hA0]
    show stWin 0 (min _ 16) = stWin 0 (min 16 _)
    rw [Nat.min_comm]
  rw [show stWin 0 (Scf.trips (k0_t1_loop v0 v1).lb (k0_t1_loop v0 v1).ub (k0_t1_loop v0 v1).st) = _ from e0]
  let L := loopInv_t3 c fg fx i arg4 harg4 arg5 harg5 v0 v1 v11 v15 hU hw2 (k0_pay17 (F := F))
  sl_exec
  rw [bind_assoc]
  sl_exec
  rw [bind_assoc]
  sl_exec
  rw [show body_run0.sl.v32 c fs i v0 = body_run0.sl.r_4 c fs i - v0 from rfl]
  have h4 : body_run0.sl.r_4 c fs i = word c fs ⟨224 + (2 * (i 0).val + 1), by omega⟩ := word_read c fs _ _ _ (off23_eq i)
  have h5 : body_run0.sl.r_5 c fs i = word c fs ⟨224 + (2 * (i 0).val + 2), by omega⟩ := word_read c fs _ _ _ (off24_eq i)
  generalize body_run0.sl.r_4 c fs i = v31 at h4 ⊢
  generalize body_run0.sl.r_5 c fs i = v35 at h5 ⊢
  obtain ⟨hV, -, eC, eD⟩ := unitWords hO (2 * (i 0).val + 1) (by omega) h0 h1 h4 h5
  have hw3 : k0_chk3 v0 v1 v31 v35 := chk3 hV
  have hT3 : (k0_t3_loop v0 v11 v15).trips = pos c fs (2 * (i 0).val + 1) - pos c fs (2 * (i 0).val) := by
    rw [← eA, ← eB]; exact t5_trips hU
  have e1 : stAt (v1 - v0).toNat ((v11 - v0).toNat + (k0_t3_loop v0 v11 v15).trips) = stAt (v1 - v0).toNat ((v31 - v0).toNat + 0) := by
    have := hO.mono (2 * (i 0).val) (by omega)
    rw [hT3, eA, eC, Nat.add_sub_cancel' this]; rfl
  rw [show stAt (v1 - v0).toNat ((v11 - v0).toNat + Scf.trips (k0_t3_loop v0 v11 v15).lb (k0_t3_loop v0 v11 v15).ub (k0_t3_loop v0 v11 v15).st) = _ from e1]
  let L' := loopInv_t5 c fg fx i arg4 harg4 arg5 harg5 v0 v1 v31 v35 hV hw3 (k0_pay1 (F := F))
  sl_exec
  have hT5 : (k0_t5_loop v0 v31 v35).trips = pos c fs (2 * (i 0).val + 1 + 1) - pos c fs (2 * (i 0).val + 1) := by
    rw [← eC, ← eD]; exact t5_trips hV
  have e2 : stAt (v1 - v0).toNat ((v31 - v0).toNat + (k0_t5_loop v0 v31 v35).trips) = stPt c fs ((i 0).val + 1) := by
    have := hO.mono (2 * (i 0).val + 1) (by omega)
    unfold stPt
    rw [hT5, eC, eT, Nat.add_sub_cancel' this, if_neg (by omega)]; rfl
  have e3 : accN c fg fx (k0_pay1 (F := F)) (v31 - v0).toNat (k0_t5_loop v0 v31 v35).trips = unitAcc c fs fg fx k0_pay1 (2 * (i 0).val + 1) := by
    rw [hT5, eC]; rfl
  have e4 : accN c fg fx (k0_pay17 (F := F)) (v11 - v0).toNat (k0_t3_loop v0 v11 v15).trips = unitAcc c fs fg fx k0_pay17 (2 * (i 0).val) := by
    rw [hT3, eA]; rfl
  rw [show stAt (v1 - v0).toNat ((v31 - v0).toNat + Scf.trips (k0_t5_loop v0 v31 v35).lb (k0_t5_loop v0 v31 v35).ub (k0_t5_loop v0 v31 v35).st) = _ from e2,
    show accN c fg fx (k0_pay1 (F := F)) (v31 - v0).toNat (Scf.trips (k0_t5_loop v0 v31 v35).lb (k0_t5_loop v0 v31 v35).ub (k0_t5_loop v0 v31 v35).st) = _ from e3,
    show accN c fg fx (k0_pay17 (F := F)) (v11 - v0).toNat (Scf.trips (k0_t3_loop v0 v11 v15).lb (k0_t3_loop v0 v11 v15).ub (k0_t3_loop v0 v11 v15).st) = _ from e4]
  sl_step
  iapply Hk
  isplitl [HR]; · iexact HR
  isplitl [Hx]; · iexact Hx
  isplitl [Hs]; · iexact Hs
  isplitl [HO]; · iexists _; iexact HO
  iexact Ho

/-- The body at any grid point. -/
theorem body_run (c : Dev nD) (fs : Bf (F := F) c sbM) (fg : Bf (F := F) c gM) (fx : Bf (F := F) c exM) (hO : Ordered c fs) (i : grid0.Coords)
    (arg4 : Memref sig .tc .hbm S71680x256 .f32) (harg4 : arg4.IsWhole) (arg5 : Memref sig .tc .vmem S160x256 .f32) (harg5 : arg5.IsWhole)
    (fo : Bf (F := F) c arg5) (Q : PUnit → sProp 𝕄) :
    iprop(Ring.AtW (slotS c fg) (stPt c fs (i 0).val) ∗ pt c exM fx ∗ pt c sbM fs ∗ (∃ W, owes (c : Thread nD τ) 0 W) ∗ pt c arg5 fo
        ∗ ((Ring.AtW (slotS c fg) (stPt c fs ((i 0).val + 1)) ∗ pt c exM fx ∗ pt c sbM fs ∗ (∃ W, owes (c : Thread nD τ) 0 W)
             ∗ pt c arg5 (arg5.view.writes (Elt F) fo (outPieces c fs fg fx (i 0).val))) -∗ Q ⟨⟩))
      ⊢ wp frame (wpE (defs₀ (F := F)) Variants.none c none) Set.univ
          (cc0_pool (F := F) i sbM (Memref.isWhole_whole _) exM (Memref.isWhole_whole _) gM (Memref.isWhole_whole _) arg4 harg4 arg5 harg5 ringM (Memref.isWhole_whole _) cc0_scratch1) Q := by
  by_cases hi : (i 0).val = 0
  · exact body_run0 c fs fg fx hO i hi arg4 harg4 arg5 harg5 fo Q
  · exact body_run1 c fs fg fx hO i hi arg4 harg4 arg5 harg5 fo Q

end Cert.Kernel.Hand

end
-- ==== Proof.Pre.lean ====
/- What the precondition `steps_in_order` says, in plain words: the step table of the chunk is in order and stays inside
   the packed tiles, and either the weights are used as they are (`exact` is zero) or every one of them is finite. -/
module

public import proofs.«01_k».proof.Pre_steps_in_order
public import proofs.«01_k».proof.Proof.Gen.Pre_steps_in_order
public import Idealize.ShloMosaic.Lib.Pipeline.Value
public import Idealize.ShloMosaic.Lib.ValueIdx

@[expose] public section

set_option maxRecDepth 65536

noncomputable section

namespace Cert.Hand

open Idealize.ShloMosaic Idealize.ShloMosaic.Pipeline Idealize.ShloMosaic.ValueIdx
open Cert.Pre_steps_in_order

variable {F : FTy → Type} [FloatOps F]

theorem andi_ofBool (p q : Bool) : IntOp.andi (BitVec.ofBool p) (BitVec.ofBool q) = BitVec.ofBool (p && q) := by
  cases p <;> cases q <;> decide

theorem ori_ofBool (p q : Bool) : IntOp.ori (BitVec.ofBool p) (BitVec.ofBool q) = BitVec.ofBool (p || q) := by
  cases p <;> cases q <;> decide

theorem ofBool_eq_one (p : Bool) : (BitVec.ofBool p = 1#1) ↔ p = true := by cases p <;> decide

/-- The precondition, decoded: for every unit the chunk's step words, counted from the chunk's first one, are in order and
    at most 3900, and `exact` is zero or the weight word of every tile and lane has an exponent that is not all ones. -/
theorem decoded (a0 : IVec S897 32) (a1 : IVec S1 32) (a2 : IVec S374400x128 32) (a3 : FVec F S71680x256 .f32)
    (h : Cert.Pre_steps_in_order.fn (F := F) a0 a1 a2 a3 = fun _ => 1#1) :
    (∀ u : Fin 224, (a0 (ix1 ⟨224 + u.val, by omega⟩) - a0 (ix1 ⟨224, by decide⟩)).sle (a0 (ix1 ⟨225 + u.val, by omega⟩) - a0 (ix1 ⟨224, by decide⟩)) = true
        ∧ (a0 (ix1 ⟨225 + u.val, by omega⟩) - a0 (ix1 ⟨224, by decide⟩)).sle 3900#32 = true)
    ∧ ∀ (t : Fin 7800) (l : Fin 128), a1 (ix1 0) = 0#32 ∨ a2 (ix2 ⟨48 * t.val + 40, by omega⟩ l) &&& 2139095040#32 ≠ 2139095040#32 := by
  have key : ∀ (u : Fin 224) (t : Fin 7800) (l : Fin 128),
      ((a0 (ix1 ⟨224 + u.val, by omega⟩) - a0 (ix1 ⟨224, by decide⟩)).sle (a0 (ix1 ⟨225 + u.val, by omega⟩) - a0 (ix1 ⟨224, by decide⟩)) = true
        ∧ (a0 (ix1 ⟨225 + u.val, by omega⟩) - a0 (ix1 ⟨224, by decide⟩)).sle 3900#32 = true)
      ∧ (a1 (ix1 0) = 0#32 ∨ a2 (ix2 ⟨48 * t.val + 40, by omega⟩ l) &&& 2139095040#32 ≠ 2139095040#32) := by
    intro u t l
    have e := congrFun h (ix3 u t l)
    unfold Cert.Pre_steps_in_order.fn fn_part1 at e
    dsimp only [andi, ori, cmpi, subi, constantI] at e
    rw [broadcastInDim_apply (s := S224x1x1) ![0, 1, 2] _ _ (ix3 u t l) (ix3 u 0 0) (by intro a; fin_cases a <;> rfl),
      broadcastInDim_apply (s := S224) ![0] _ _ (ix3 u 0 0) (ix1 u) (by intro a; fin_cases a; rfl),
      broadcastInDim_apply (s := S1x7800x128) ![0, 1, 2] _ _ (ix3 u t l) (ix3 0 t l) (by intro a; fin_cases a <;> rfl),
      broadcastInDim_apply (s := S7800x128) ![1, 2] _ _ (ix3 0 t l) (ix2 t l) (by intro a; fin_cases a <;> rfl)] at e
    dsimp only [andi, ori, cmpi, subi, constantI] at e
    rw [broadcastInDim_apply (s := S1x1) ![0, 1] _ _ (ix2 t l) (ix2 0 0) (by intro a; fin_cases a <;> rfl),
      broadcastInDim_apply (s := S1) ![1] _ _ (ix2 0 0) (ix1 0) (by intro a; fin_cases a; rfl),
      extractStridedSlice_apply (s := S225) ![0] _ _ (ix1 u) (ix1 ⟨u.val, by omega⟩) (by intro a; fin_cases a; exact (Nat.zero_add _).symm),
      extractStridedSlice_apply (s := S225) ![1] _ _ (ix1 u) (ix1 ⟨1 + u.val, by omega⟩) (by intro a; fin_cases a; rfl)] at e
    dsimp only [andi, ori, cmpi, subi, constantI] at e
    rw [extractStridedSlice_apply (s := S897) ![224] _ _ (ix1 (⟨u.val, by omega⟩ : Fin 225)) (ix1 ⟨224 + u.val, by omega⟩) (by intro a; fin_cases a; rfl),
      extractStridedSlice_apply (s := S897) ![224] _ _ (ix1 (⟨1 + u.val, by omega⟩ : Fin 225)) (ix1 ⟨225 + u.val, by omega⟩) (by intro a; fin_cases a; show 225 + u.val = 224 + (1 + u.val); omega),
      broadcastInDim_apply (s := S_) ![] _ _ (ix1 (⟨u.val, by omega⟩ : Fin 225)) ix0 (by intro a; exact a.elim0),
      broadcastInDim_apply (s := S_) ![] _ _ (ix1 (⟨1 + u.val, by omega⟩ : Fin 225)) ix0 (by intro a; exact a.elim0),
      shapeCast_apply (s := S1) _ _ ix0 (ix1 0) (by rfl),
      extractStridedSlice_apply (s := S897) ![224] _ _ (ix1 0) (ix1 ⟨224, by decide⟩) (by intro a; fin_cases a; rfl),
      shapeCast_apply (s := S7800x1x128) (t := S7800x128) _ _ (ix2 t l) (ix3 t 0 l) (by rw [Shape.rowMajor_val_three, Shape.rowMajor_val_two]; show (t.val * 1 + 0) * 128 + l.val = t.val * 128 + l.val; omega),
      extractStridedSlice_apply (s := S7800x48x128) ![0, 40, 0] _ _ (ix3 t 0 l) (ix3 t ⟨40, by decide⟩ l) (by intro a; fin_cases a <;> first | rfl | exact (Nat.zero_add _).symm),
      shapeCast_apply (s := S374400x128) (t := S7800x48x128) _ _ (ix3 t ⟨40, by decide⟩ l) (ix2 ⟨48 * t.val + 40, by omega⟩ l) (by rw [Shape.rowMajor_val_three, Shape.rowMajor_val_two]; show (48 * t.val + 40) * 128 + l.val = (t.val * 48 + 40) * 128 + l.val; omega)] at e
    simp only [broadcastInDim, IntOp.cmpi, andi_ofBool, ori_ofBool, ofBool_eq_one, Bool.and_eq_true, Bool.or_eq_true] at e
    refine ⟨e.1, ?_⟩
    rcases e.2 with e | e
    · exact Or.inl (by simpa [constantI] using e)
    · exact Or.inr (by simpa [IntOp.andi, constantI] using e)
  exact ⟨fun u => (key u 0 0).1, fun t l => (key 0 t l).2⟩

/-- The words of the chunk as natural numbers: from zero on, never falling, and never above 3900. -/
theorem decoded_order (a0 : IVec S897 32)
    (h : ∀ u : Fin 224, (a0 (ix1 ⟨224 + u.val, by omega⟩) - a0 (ix1 ⟨224, by decide⟩)).sle (a0 (ix1 ⟨225 + u.val, by omega⟩) - a0 (ix1 ⟨224, by decide⟩)) = true
        ∧ (a0 (ix1 ⟨225 + u.val, by omega⟩) - a0 (ix1 ⟨224, by decide⟩)).sle 3900#32 = true) :
    ∀ (u : ℕ) (hu : u ≤ 224), (a0 (ix1 ⟨224 + u, by omega⟩) - a0 (ix1 ⟨224, by decide⟩)).toNat ≤ 3900
      ∧ ∀ hu' : u < 224, (a0 (ix1 ⟨224 + u, by omega⟩) - a0 (ix1 ⟨224, by decide⟩)).toNat
          ≤ (a0 (ix1 ⟨224 + (u + 1), by omega⟩) - a0 (ix1 ⟨224, by decide⟩)).toNat := by
  have step : ∀ (u : ℕ) (hu' : u < 224), (a0 (ix1 ⟨224 + u, by omega⟩) - a0 (ix1 ⟨224, by decide⟩)).toNat ≤ 3900 →
      (a0 (ix1 ⟨224 + u, by omega⟩) - a0 (ix1 ⟨224, by decide⟩)).toNat
          ≤ (a0 (ix1 ⟨224 + (u + 1), by omega⟩) - a0 (ix1 ⟨224, by decide⟩)).toNat
      ∧ (a0 (ix1 ⟨224 + (u + 1), by omega⟩) - a0 (ix1 ⟨224, by decide⟩)).toNat ≤ 3900 := by
    intro u hu' hle
    obtain ⟨h1, h2⟩ := h ⟨u, hu'⟩
    have hix : (⟨225 + u, by omega⟩ : Fin 897) = ⟨224 + (u + 1), by omega⟩ := Fin.ext (by show 225 + u = 224 + (u + 1); omega)
    rw [hix] at h1 h2
    generalize a0 (ix1 ⟨224 + u, _⟩) - a0 (ix1 ⟨224, _⟩) = x at *
    generalize a0 (ix1 ⟨224 + (u + 1), _⟩) - a0 (ix1 ⟨224, _⟩) = y at *
    simp only [BitVec.sle, decide_eq_true_eq, BitVec.toInt, BitVec.toNat_ofNat] at h1 h2
    have := x.isLt
    have := y.isLt
    constructor <;> (split at h1 <;> split at h1 <;> split at h2 <;> omega)
  have le : ∀ (u : ℕ) (hu : u ≤ 224), (a0 (ix1 ⟨224 + u, by omega⟩) - a0 (ix1 ⟨224, by decide⟩)).toNat ≤ 3900 := by
    intro u
    induction u with
    | zero => intro _; show (a0 (ix1 ⟨224, _⟩) - a0 (ix1 ⟨224, _⟩)).toNat ≤ 3900; rw [BitVec.sub_self]; decide
    | succ u ih => intro hu; exact (step u (by omega) (ih (by omega))).2
  exact fun u hu => ⟨le u hu, fun hu' => (step u hu' (le u hu)).1⟩

end Cert.Hand

end
-- ==== Proof.Order.lean ====
/- Under the precondition the chunk's step table is in order. -/
module

public import proofs.«01_k».proof.Proof.Body
public import proofs.«01_k».proof.Proof.Pre

@[expose] public section

set_option maxRecDepth 65536

noncomputable section

namespace Cert.Kernel.Hand

open Cert.Kernel Cert.Kernel.Gen
open Idealize.ShloMosaic Idealize.ShloMosaic.TcCoe Idealize.ShloMosaic.ValueIdx

variable {F : FTy → Type} [FloatOps F]

/-- The precondition's table words, read as positions, are in order and stay inside the packed tiles. -/
theorem ordered_of_pre (c : Dev nD) (fs : Bf (F := F) c sbM) (a1 : IVec Cert.Pre_steps_in_order.S1 32) (a2 : IVec Cert.Pre_steps_in_order.S374400x128 32)
    (a3 : FVec F Cert.Pre_steps_in_order.S71680x256 .f32)
    (h : Cert.Pre_steps_in_order.fn (F := F) fs a1 a2 a3 = fun _ => 1#1) : Ordered c fs := by
  have hd := Cert.Hand.decoded_order fs (Cert.Hand.decoded fs a1 a2 a3 h).1
  constructor
  · intro u hu
    unfold pos
    rw [dif_pos (by omega), dif_pos (by omega)]
    exact (hd u (by omega)).2 hu
  · intro u hu
    unfold pos
    rw [dif_pos (by omega)]
    exact (hd u (by omega)).1

end Cert.Kernel.Hand

end
-- ==== Proof.Run.lean ====
/-
  The whole call: `prev` copied into the result's buffer, then the grid of one hundred and twelve rows, each writing its
  block of the result back. Every fair execution terminates; at the end the arguments are as they were, every counter is
  at zero, and the result's buffer holds what the row blocks make of the copy.
-/
module

public import proofs.«01_k».proof.Proof.Body
public import proofs.«01_k».proof.Proof.Gen.Kernel.Launch
public import Idealize.ShloMosaic.Lib.Pipeline.Regions
public import Idealize.ShloMosaic.Lib.WritesUnit

@[expose] public section

set_option maxRecDepth 65536

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UU nD τ) ℕ

/-- The pipeline library's algebra is the left component. -/
abbrev EP : Emb (UR sig nD τ) (MT nD τ sig Unit (Elt F) ℕ (UU nD τ) ℕ) := embL

abbrev 𝒱₀ : Variants := Variants.none

variable (m : (ℓ : Loc nD τ sig) → Buf (Elt F) ℓ) (ρ : Dev nD → PrngReg)

/-- The step table, the packed tiles and the path flag, as launched. -/
abbrev fsOf (c : Dev nD) : Bf (F := F) c sbM := m ((c : Thread nD τ).loc main_arg0)
abbrev fxOf (c : Dev nD) : Bf (F := F) c exM := m ((c : Thread nD τ).loc main_arg1)
abbrev fgOf (c : Dev nD) : Bf (F := F) c gM := m ((c : Thread nD τ).loc main_arg2)

/-! ## The buffers when the region is entered -/

/-- Core `c`'s buffers at launch, -/
abbrev V₀ (c : Dev nD) : Valuation τ sig (Elt F) := fun b => m ((c : Dev nD), b)
/-- and once the copy of `prev` has run. -/
abbrev V (c : Dev nD) (b : Ref sig .tc) : Buf (Elt F) ((c : Thread nD τ).loc b) := StableHlo.after hostOps0 (V₀ m c) b

/-- The copy writes the result's buffer only. -/
theorem not_written (b : Ref sig .tc) (hb : b ≠ main_v0) :
    ∀ op ∈ (hostOps0 (F := F)), Proc.devRef .tc b ∉ op.writes := by
  intro op hop
  simp only [List.mem_cons, List.mem_nil_iff, or_false] at hop
  subst hop
  simp only [StableHlo.unary_writes, Finset.mem_singleton]
  exact StableHlo.devRef_ne_of_ne hb

theorem V_of_ne (c : Dev nD) (b : Ref sig .tc) (hb : b ≠ main_v0) : V m c b = m ((c : Thread nD τ).loc b) :=
  StableHlo.after_of_forall_not_mem (b := Proc.devRef .tc b) hostOps0 (V₀ m c) (not_written b hb)

/-- The unscoped references, as device buffers. -/
def ucRefs : Finset (DevRef τ sig) := (StableHlo.tcRefs τ sig).filter fun b => ¬ b.isScoped

omit [FloatOps F] in
theorem unscopedBufs_held (c : Dev nD) (W : Valuation τ sig (Elt F)) :
    (unscopedBufs c (fun b => W b) : sProp 𝕄) = StableHlo.held (c : Thread nD τ) ucRefs W := by
  unfold unscopedBufs StableHlo.held ucRefs StableHlo.tcRefs
  rw [Finset.filter_map, bigSep_map]
  rfl

omit [FloatOps F] in
theorem sub_ucRefs (op : HloOp τ sig (Elt F)) (h : op.bufs ⊆ StableHlo.tcRefs τ sig) : op.bufs ⊆ ucRefs := fun b hb =>
  Finset.mem_filter.mpr ⟨h hb, fun h' => Bool.false_ne_true ((op.no_scoped b hb).symm.trans h')⟩

/-! ## The block a row leaves -/

/-- The block of row `r`: its left half the transposed sum of the even unit, its right half that of the odd one. -/
def outBlk (c : Dev nD) (fs : Bf (F := F) c sbM) (fg : Bf (F := F) c gM) (fx : Bf (F := F) c exM) (r : ℕ) : S160x256.Idx → Elt F .f32 := fun y =>
  if h : (y 1).val < 128 then k0_pay32 (unitAcc c fs fg fx k0_pay17 (2 * r)) (ValueIdx.ix2 (y 0) ⟨(y 1).val, h⟩)
  else k0_pay16 (unitAcc c fs fg fx k0_pay1 (2 * r + 1)) (ValueIdx.ix2 (y 0) ⟨(y 1).val - 128, by have := (y 1).isLt; change (y 1).val < 256 at this; omega⟩)

theorem read_outPieces (c : Dev nD) (fs : Bf (F := F) c sbM) (fg : Bf (F := F) c gM) (fx : Bf (F := F) c exM) (r : ℕ)
    (arg5 : Memref sig .tc .vmem S160x256 .f32) (fo : Bf (F := F) c arg5) :
    arg5.view.read (Elt F) (arg5.view.writes (Elt F) fo (outPieces c fs fg fx r)) = outBlk c fs fg fx r := by
  funext y
  unfold outBlk outPieces
  by_cases h : (y 1).val < 128
  · rw [dif_pos h, View.read_writes_cons_unit_of_not_mem _ _ _ _ _ y rfl 1 (Or.inl h)]
    exact View.read_writes_cons_unit_of_mem _ _ _ _ _ y _ rfl (by
      intro a; fin_cases a
      · exact (Nat.zero_add _).symm
      · exact (Nat.zero_add _).symm)
  · rw [dif_neg h]
    exact View.read_writes_cons_unit_of_mem _ _ _ _ _ y _ rfl (by
      intro a; fin_cases a
      · exact (Nat.zero_add _).symm
      · show (y 1).val = 128 + ((y 1).val - 128)
        omega)

/-! ## The pipeline's proof data -/

/-- The prefetched tables' contents: as launched (one core). -/
abbrev adm : (p : Fin 1) → (pcfgs (F := F) p).Adm := fun _ => ⟨fun k => m (((0 : Dev nD) : Thread nD τ).loc (pre0.ref k)), trivial⟩

/-- The invariant before row `n`: the ring in its state, the two tables, the packed tiles' share no slot holds. -/
def Φc (c : Dev nD) (n : ℕ) : sProp 𝕄 :=
  iprop(Ring.AtW (slotS c (fgOf m c)) (stPt c (fsOf m c) n) ∗ pt c exM (fxOf m c) ∗ pt c sbM (fsOf m c)
    ∗ (gM.view.loc (c : Thread nD τ) ↦{Transfers.shareDrop fullShare 16} fgOf m c))

def dats (_ : Fin 1) (c : Dev nD) : Dat τ (Elt F) Unit ℕ (UU nD τ) ℕ (cfg0 (adm m 0)) c where
  A w := V m c (Pipeline.arrRef spec0 w)
  after w t := match w with | ⟨0, _⟩ => outBlk c (fsOf m c) (fgOf m c) (fxOf m c) (grid0.coords t 0).val
  Φ t := Φc m c t.val
  q _ := fullShare
  owed _ := 0

theorem A_eq (c : Dev nD) (w : Fin 1) : (dats m 0 c).A w = V m c (Pipeline.arrRef spec0 w) := by
  dsimp only [dats]

theorem coords_val (t : Fin grid0.N) : (grid0.coords t 0).val = t.val := by
  revert t; decide +kernel

omit [FloatOps F] in
theorem whole_pt (c : Dev nD) (M : Memref sig .tc .vmem S160x256 .f32) (h : M.IsWhole) (f : Bf (F := F) c M) :
    (M.view.loc (c : Thread nD τ) ↦[M.view.set]{fullShare} f : sProp 𝕄) = pt c M f := by
  rw [h.set_eq_univ]

set_option backward.isDefEq.respectTransparency.types false in
theorem body_obligation (hO : ∀ c, Ordered c (fsOf m c)) (c : Dev nD) : BodyObligation (dats m 0 c) (defs₀ (F := F)) 𝒱₀ () Set.univ := fun t => by
  rw [bigSep_W0, bigSep_W0]
  rw [show (dats m 0 c).Φ t.castSucc = Φc m c t.val from rfl, show (dats m 0 c).Φ t.succ = Φc m c (t.val + 1) from rfl]
  unfold Φc Dat.owesAt Pipeline.owesWithin
  rw [show (dats m 0 c).owed t.castSucc = 0 from rfl, show (dats m 0 c).owed t.succ = 0 from rfl]
  unfold owns
  iintro ⟨⟨HR, Hx, Hs, Hg⟩, ⟨%W, %hW, HO⟩, ⟨%d0, %f0, %hf0, H0⟩⟩
  have hb := body_run c (fsOf m c) (fgOf m c) (fxOf m c) (hO c) (grid0.coords t) (Memref.whole main_arg3) (Memref.isWhole_whole _)
    (spec0_0.stage ((cfg0 (adm m 0)).slots t 0)) (hstage0_0 _) f0
  rw [coords_val t] at hb
  iapply (hb _)
  isplitl [HR]; · iexact HR
  isplitl [Hx]; · iexact Hx
  isplitl [Hs]; · iexact Hs
  isplitl [HO]; · iexists W; iexact HO
  isplitl [H0]
  · iapply (Entails.of_eq (whole_pt c (spec0_0.stage ((cfg0 (adm m 0)).slots t 0)) (hstage0_0 _) f0)); iexact H0
  iintro ⟨HR, Hx, Hs, ⟨%W', HO⟩, H0⟩
  isplitl [HR Hx Hs Hg]
  · isplitl [HR]; · iexact HR
    isplitl [Hx]; · iexact Hx
    isplitl [Hs]; · iexact Hs
    iexact Hg
  isplitl [HO]
  · iexists W'; isplitr; · ipureintro; exact fun _ _ => Or.inl trivial
    iexact HO
  iexists _
  isplitr
  swap
  · iapply (Entails.of_eq (whole_pt c (spec0_0.stage ((cfg0 (adm m 0)).slots t 0)) (hstage0_0 _) _).symm); iexact H0
  · ipureintro
    rw [read_outPieces]
    show _ = outBlk c (fsOf m c) (fgOf m c) (fxOf m c) (grid0.coords t 0).val
    rw [coords_val t]

/-! ## The ring taken apart at the start and put together at the end -/

/-- Slot `k`'s elements of the ring. -/
abbrev slotSet (k : Fin 16) : Finset S16x96x128.Idx := (Rect.unit (s := S16x96x128) ![k.val, 0, 0] S1x96x128.size (inb3 k.val k.isLt)).set

theorem ring_disjoint (k k' : Fin 16) (h : k ≠ k') : Disjoint (slotSet k) (slotSet k') :=
  Ring.lead_disjoint (s := S16x96x128) (0 : Fin 3) 1 (fun k : Fin 16 => ![k.val, 0, 0]) S1x96x128.size (fun k => inb3 k.val k.isLt)
    (fun k => (Nat.one_mul _).symm) rfl k k' h

theorem ring_cover : Finset.univ.biUnion slotSet = Finset.univ :=
  Ring.lead_cover (s := S16x96x128) (0 : Fin 3) 1 (fun k : Fin 16 => ![k.val, 0, 0]) S1x96x128.size (fun k => inb3 k.val k.isLt)
    (fun k => (Nat.one_mul _).symm) (by intro k a ha; fin_cases a <;> first | rfl | exact absurd rfl ha) rfl
    (by intro a ha; fin_cases a <;> first | rfl | exact absurd rfl ha) rfl

omit [FloatOps F] in
theorem slot_pt (c : Dev nD) (k : Fin 16) (f : Bf (F := F) c ringM) :
    (ringM.view.loc (c : Thread nD τ) ↦[slotSet k]{fullShare} f : sProp 𝕄)
      = ((rslotK k).view.loc (c : Thread nD τ) ↦[(rslotK k).view.set]{fullShare} f) := by
  rw [rslotK_set]
  rfl

/-- The layout the launch needs of the ring's counters. -/
theorem ownSemFacts : Pipeline.OwnSemFacts spec0 cellK := by decide

/-- All slots free. -/
theorem ring_free (c : Dev nD) (fg : Bf (F := F) c gM) :
    (Ring.AtW (slotS (F := F) c fg) (fun _ => none) : sProp 𝕄)
      = iprop((Pipeline.ownSems0 (Ix := Unit) (Name := ℕ) (U := UU nD τ) (Lvl := ℕ) (Val := Elt F) (τ := τ) cellK c)
          ∗ (bigSep Finset.univ fun k : Fin 16 => iprop(∃ f, (rslotK k).view.loc (c : Thread nD τ) ↦[(rslotK k).view.set]{fullShare} f))
          ∗ bigSep Finset.univ fun k : Fin 16 => tokG c k Finset.univ fg) := by
  unfold Ring.AtW Pipeline.ownSems0
  rw [← bigSep_sep', ← bigSep_sep']
  rfl

theorem ring_in (c : Dev nD) (fg : Bf (F := F) c gM) :
    iprop((Pipeline.ownSems0 (Ix := Unit) (Name := ℕ) (U := UU nD τ) (Lvl := ℕ) (Val := Elt F) (τ := τ) cellK c)
      ∗ (∃ f, pt c ringM f) ∗ pt c gM fg)
    ⊢ (iprop(Ring.AtW (slotS (F := F) c fg) (fun _ => none) ∗ (gM.view.loc (c : Thread nD τ) ↦{Transfers.shareDrop fullShare 16} fg)) : sProp 𝕄) := by
  rw [ring_free]
  iintro ⟨Hs, ⟨%f, Hr⟩, Hg⟩
  ihave Hg := (Transfers.pointsTo_toks_split fullShare 16) $$ Hg
  icases Hg with ⟨Hd, Ht⟩
  isplitr [Hd]
  · isplitl [Hs]; · iexact Hs
    isplitl [Hr]
    · ihave Hr := (Entails.of_eq (Ring.pointsTo_blocks (ℓ := ringM.view.loc (c : Thread nD τ)) slotSet ring_disjoint ring_cover f)) $$ Hr
      have hm : (bigSep Finset.univ fun k : Fin 16 => ringM.view.loc (c : Thread nD τ) ↦[slotSet k]{fullShare} f : sProp 𝕄)
          ⊢ bigSep Finset.univ fun k : Fin 16 => iprop(∃ f, (rslotK k).view.loc (c : Thread nD τ) ↦[(rslotK k).view.set]{fullShare} f) :=
        bigSep_mono fun k _ => by
          rw [slot_pt]
          exact (show ((rslotK k).view.loc (c : Thread nD τ) ↦[(rslotK k).view.set]{fullShare} f : sProp 𝕄)
              ⊢ iprop(∃ f, (rslotK k).view.loc (c : Thread nD τ) ↦[(rslotK k).view.set]{fullShare} f) from by
            iintro H; iexists f; iexact H)
      iapply hm
      iexact Hr
    · iexact Ht
  · iexact Hd

theorem ring_out (c : Dev nD) (fg : Bf (F := F) c gM) (f₀ : Bf (F := F) c ringM) :
    (iprop(Ring.AtW (slotS (F := F) c fg) (fun _ => none) ∗ (gM.view.loc (c : Thread nD τ) ↦{Transfers.shareDrop fullShare 16} fg)) : sProp 𝕄)
    ⊢ iprop((Pipeline.ownSems0 (Ix := Unit) (Name := ℕ) (U := UU nD τ) (Lvl := ℕ) (Val := Elt F) (τ := τ) cellK c)
      ∗ (∃ f, pt c ringM f) ∗ pt c gM fg) := by
  rw [ring_free]
  iintro ⟨⟨Hs, Hr, Ht⟩, Hd⟩
  isplitl [Hs]; · iexact Hs
  isplitl [Hr]
  · have hm : (bigSep Finset.univ fun k : Fin 16 => iprop(∃ f, (rslotK k).view.loc (c : Thread nD τ) ↦[(rslotK k).view.set]{fullShare} f) : sProp 𝕄)
        ⊢ bigSep Finset.univ fun k : Fin 16 => iprop(∃ f, ringM.view.loc (c : Thread nD τ) ↦[slotSet k]{fullShare} f) :=
      bigSep_mono fun k _ => (show (iprop(∃ f, (rslotK k).view.loc (c : Thread nD τ) ↦[(rslotK k).view.set]{fullShare} f) : sProp 𝕄)
          ⊢ iprop(∃ f, ringM.view.loc (c : Thread nD τ) ↦[slotSet k]{fullShare} f) from by
        iintro ⟨%f, H⟩; iexists f
        iapply (Entails.of_eq (slot_pt c k f).symm); iexact H)
    iapply (hm.trans (Ring.pointsTo_blocks_join_exists (ℓ := ringM.view.loc (c : Thread nD τ)) slotSet ring_disjoint ring_cover f₀))
    iexact Hr
  · iapply (Transfers.pointsTo_toks_join fullShare 16)
    isplitl [Hd]; · iexact Hd
    iexact Ht

theorem stPt_first (c : Dev nD) (fs : Bf (F := F) c sbM) : stPt c fs 0 = fun _ => none := if_pos rfl

theorem stPt_last (c : Dev nD) (fs : Bf (F := F) c sbM) : stPt c fs 112 = fun _ => none := by
  unfold stPt
  rw [if_neg (by decide)]
  unfold stAt
  exact stWin_empty _ _ (Nat.min_le_right _ _)

/-! ## The launch: the copy, then the region -/

/-- The launch element: the pipeline library's, and no counter yet. -/
def u₀ : UU nD τ := (initOf (Pipeline.cells (Pipeline.pin (pcfgs (F := F)) (adm m)) (cellOf_inj (adm m))) (Pipeline.launchToks (Pipeline.pin (pcfgs (F := F)) (adm m)) (cellOf_inj (adm m))), 1)

/-- The result's buffer at the end, as the pipeline computes it. -/
def finalA (c : Dev nD) : Buf (Elt F) ((c : Thread nD τ).loc main_v0) := (dats m 0 c).arrAt 0 112

abbrev L : GSem nD τ sig → Finset Unit := fun _ => ∅
abbrev lv : GSem nD τ sig → Unit → ℕ := fun _ _ => 0

abbrev R (c : Dev nD) : sProp 𝕄 := iprop(∃ W, owes (c : Thread nD τ) (0 : CellTallies nD τ sig Unit) W)

/-- The host segment: the copy of `prev`. -/
def seg0 : Pipeline.HostSeg (Name := ℕ) (U := UU nD τ) (pcfgs (F := F)) defs₀ 𝒱₀ L lv :=
  Pipeline.HostSeg.ofOps _ _ _ _ _ ucRefs hostOps0 (fun op h => sub_ucRefs op ((List.forall_iff_forall_mem.mp hostOps0_sub) op h))
    (by intro _ h; (repeat (cases h with | head => rfl | tail _ h => ?_)); exact nomatch h) (V₀ m) R

/-- What the region leaves: the result's buffer at its final contents, the arguments as launched. -/
abbrev Tₙ (c : Dev nD) : sProp 𝕄 :=
  iprop((dats m 0 c).arrays ((dats m 0 c).arrAt · 112)
    ∗ pt c sbM (fsOf m c) ∗ pt c exM (fxOf m c) ∗ pt c gM (fgOf m c) ∗ pt c (Memref.whole main_arg3) (m ((c : Thread nD τ).loc main_arg3)))

omit [FloatOps F] in
theorem prefHeld_two (c : Dev nD) (W : pre0.Contents (Elt F)) :
    (Pipeline.prefHeld pre0 c (fun _ => fullShare) W : sProp 𝕄) = iprop(pt c sbM (W 0) ∗ pt c exM (W 1)) := by
  unfold Pipeline.prefHeld
  exact bigSep_univ_eq_bigSepL [(0 : Fin 2), 1] (by decide) (by decide) _

set_option backward.isDefEq.respectTransparency.types false in
/-- The region. -/
def reg0 (hO : ∀ c, Ordered c (fsOf m c)) : Pipeline.RegionSeg (pcfgs (F := F)) (adm m) (dats m) () defs₀ 𝒱₀ L lv 0 where
  win := (launch0 (F := F)).to₀.win
  block_pos := (launch0 (F := F)).to₀.block_pos
  stage_whole := (launch0 (F := F)).to₀.stage_whole
  K := Fin 16
  osem := cellK
  ho := ownSemFacts
  hbody c := (body_obligation m hO c).loose
  hwaits := Pipeline.hwaits_of_owed_zero _ _ _ _ L lv 0 fun _ _ => rfl
  pre c := iprop(StableHlo.held (c : Thread nD τ) ucRefs (StableHlo.after hostOps0 (V₀ m c)) ∗ R c)
  post c := iprop(Tₙ m c ∗ R c)
  X c := iprop(pt c gM (fgOf m c) ∗ Pipeline.ownSems0 (Ix := Unit) (Name := ℕ) (U := UU nD τ) (Lvl := ℕ) (Val := Elt F) (τ := τ) cellK c)
  Y c := iprop(pt c sbM (fsOf m c) ∗ pt c exM (fxOf m c) ∗ pt c gM (fgOf m c))
  Z c := pt c (Memref.whole main_arg3) (m ((c : Thread nD τ).loc main_arg3))
  hentry c := by
    obtain rfl : c = 0 := Subsingleton.elim _ _
    rw [show StableHlo.held ((0 : Dev nD) : Thread nD τ) ucRefs (StableHlo.after hostOps0 (V₀ m 0)) = unscopedBufs 0 (V m 0) from (unscopedBufs_held 0 _).symm]
    have hsplit := (Pipeline.arrays_of_unscopedBufs (pcfgs (F := F)) (adm m) (dats m) (p := 0) winFacts0 arr_whole0 0
      ((dats m 0 0).share_full fun _ => rfl) (V m 0) (A_eq m 0)).trans (sep_mono .rfl (Entails.of_eq ((Pipeline.unscopedRest_split preFacts0 0 (V m 0)).trans
        (by rw [prefHeld_two, unscopedRestP0_eq]))))
    rw [V_of_ne m 0 main_arg2 (by decide), V_of_ne m 0 main_arg3 (by decide)] at hsplit
    rw [show V m 0 (pre0.ref 0) = m (((0 : Dev nD) : Thread nD τ).loc main_arg0) from V_of_ne m 0 main_arg0 (by decide),
      show V m 0 (pre0.ref 1) = m (((0 : Dev nD) : Thread nD τ).loc main_arg1) from V_of_ne m 0 main_arg1 (by decide)] at hsplit
    rw [prefHeld_two]
    iintro ⟨⟨Hub, HO⟩, Hos, -⟩
    ihave H := hsplit $$ Hub
    icases H with ⟨Ha, ⟨Hs, Hx⟩, Hg, H3⟩
    imodintro
    isplitl [Ha]; · iexact Ha
    isplitl [Hs Hx]
    · isplitl [Hs]; · iexact Hs
      iexact Hx
    isplitl [HO]
    · unfold Pipeline.Dat.owesAt Pipeline.owesWithin
      icases HO with ⟨%W, HO⟩; iexists W; isplitr; · ipureintro; exact fun _ _ => Or.inl trivial
      iexact HO
    isplitl [Hg Hos]
    · isplitl [Hg]; · iexact Hg
      iexact Hos
    iexact H3
  hin c := by
    obtain rfl : c = 0 := Subsingleton.elim _ _
    rw [show (dats m 0 0).Φ 0 = Φc m 0 0 from rfl, prefHeld_two]; unfold Φc
    rw [stPt_first, scopedRest0_eq]
    iintro ⟨⟨Hg, Hos⟩, ⟨Hs, Hx⟩, Hr⟩
    ihave H := (ring_in (0 : Dev nD) (fgOf m 0)) $$ [Hg Hos Hr]
    · isplitl [Hos]; · iexact Hos
      isplitl [Hr]; · iexact Hr
      iexact Hg
    icases H with ⟨HR, Hd⟩
    isplitl [HR]; · iexact HR
    isplitl [Hx]; · iexact Hx
    isplitl [Hs]; · iexact Hs
    iexact Hd
  hout c := by
    rw [show (dats m 0 c).Φ (Fin.last grid0.N) = Φc m c 112 from rfl]; unfold Φc
    rw [stPt_last, scopedRest0_eq]
    iintro ⟨HR, Hx, Hs, Hd⟩
    ihave H := (ring_out c (fgOf m c) (m ((c : Thread nD τ).loc cc0_scratch0))) $$ [HR Hd]
    · isplitl [HR]; · iexact HR
      iexact Hd
    icases H with ⟨Hos, Hr, Hg⟩
    isplitl [Hx Hs Hg]
    · isplitl [Hs]; · iexact Hs
      isplitl [Hx]; · iexact Hx
      iexact Hg
    isplitl [Hos]; · iexact Hos
    iexact Hr
  hexit c := by
    iintro ⟨Ha, HO, ⟨Hs, Hx, Hg⟩, HZ⟩
    imodintro
    isplitr [HO]
    · isplitl [Ha]; · iexact Ha
      isplitl [Hs]; · iexact Hs
      isplitl [Hx]; · iexact Hx
      isplitl [Hg]; · iexact Hg
      iexact HZ
    · unfold Pipeline.Dat.owesAt Pipeline.owesWithin
      icases HO with ⟨%W, -, HO⟩; iexists W; iexact HO

abbrev segs (hO : ∀ c, Ordered c (fsOf m c)) : List (Pipeline.Seg (pcfgs (F := F)) (adm m) (dats m) () defs₀ 𝒱₀ L lv) := [.host (seg0 m), .region (reg0 m hO)]

/-- What a final memory holds: the arguments as launched, the result's buffer at the computed contents. -/
def QC (c : Dev nD) (s : MemSt nD τ sig (Elt F)) : Prop :=
  s.mem ((c : Thread nD τ).loc main_arg0) = m ((c : Thread nD τ).loc main_arg0)
    ∧ s.mem ((c : Thread nD τ).loc main_arg1) = m ((c : Thread nD τ).loc main_arg1)
    ∧ s.mem ((c : Thread nD τ).loc main_arg2) = m ((c : Thread nD τ).loc main_arg2)
    ∧ s.mem ((c : Thread nD τ).loc main_arg3) = m ((c : Thread nD τ).loc main_arg3)
    ∧ s.mem ((c : Thread nD τ).loc main_v0) = finalA m c

set_option backward.isDefEq.respectTransparency.types false in
/-- From any memory whose step table is in order, counters at zero: every fair execution of the call terminates, the
    arguments end as they were, the result's buffer at the computed contents and every counter at zero. -/
theorem run_main (hO : ∀ c, Ordered c (fsOf m c)) :
    θ_run defs (onTc (τ := τ) (main (F := F))) ⟨m, fun _ => 0, ρ⟩ (fun r => (∀ c, QC m c r.2) ∧ r.2.sem = fun _ => 0) :=
  Pipeline.θ_run_regions_kit_sems (pcfgs (F := F)) (adm m) (dats m) () (cellOf_inj (adm m)) EP defs₀ 𝒱₀ L lv m ρ main (segs m hO)
    (fun c Q => by rw [main_segs (adm m) (dats m) () 𝒱₀ L lv (seg0 m) (reg0 m hO) rfl c])
    (by simp only [Pipeline.Seg.pipes_host, Pipeline.Seg.pipes_region, Pipeline.Seg.pipes_nil]; decide) (O₀ := 0) (hL := fun _ _ => rfl) (G := fun _ => iprop(emp)) (u₀ := u₀ m)
    (hu₀ := by
      unfold u₀
      iintro Hu
      ihave H := (ownU_pair _ _) $$ Hu
      icases H with ⟨HP, -⟩
      imodintro
      isplitl [HP]; · iexact HP
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) ucRefs (V₀ m c) ∗ R c)) (Tₙ := Tₙ m)
    (hch := ⟨fun _ => .rfl, fun _ => .rfl, fun _ => .rfl⟩)
    (hinit := by
      refine Pipeline.initEach L lv fun c => ?_
      rw [show unscopedBufs c (fun b => m ((c : Thread nD τ).loc b)) = StableHlo.held (c : Thread nD τ) ucRefs (V₀ m c) from unscopedBufs_held c (V₀ m c)]
      iintro ⟨⟨Hh, -, HO, -, -, -⟩, -⟩
      imodintro
      isplitl [Hh]; · iexact Hh
      iexists ∅; iexact HO)
    (QY := QC m)
    (hfin := fun c s' => by
      dsimp only [Tₙ]
      iintro ⟨⟨Ha, H0, H1, H2, H3⟩, HSI⟩
      icombine HSI H0 gives %h0
      icombine HSI H1 gives %h1
      icombine HSI H2 gives %h2
      icombine HSI H3 gives %h3
      ihave Hr := (Pipeline.arrays_read (pcfgs (F := F)) (adm m) (dats m) (p := 0) arr_whole0 c ((dats m 0 c).share_full fun _ => rfl) _ s') $$ [Ha HSI]
      · isplitl [Ha] <;> iassumption
      icases Hr with ⟨%ha, HSI⟩
      imodintro
      isplitr
      · ipureintro
        exact ⟨Buf.eq_of_forall_mem_univ h0, Buf.eq_of_forall_mem_univ h1, Buf.eq_of_forall_mem_univ h2, Buf.eq_of_forall_mem_univ h3, ha 0⟩
      iexact HSI)
    (hQ := fun _ h hz => ⟨h, funext fun g => hz g (.inr (by revert g; decide))⟩)

end Cert.Kernel.Hand

end
-- ==== Proof.Ideal.Bridge.lean ====
/-
  The kernel over the extended reals is the kernel's own text, operation by operation: its body, its table of bodies and its
  main are the kernel's. So what is proved of the kernel for every reading of the floats holds of it.
-/
module

public import proofs.«01_k».proof.Proof.Run
public import proofs.«01_k».proof.Proof.Gen.KernelIdeal

@[expose] public section

set_option maxRecDepth 65536

noncomputable section

namespace Cert.KernelIdeal.Hand

open Idealize.ShloMosaic Idealize.SL.Sem

variable {F : FTy → Type} [FloatOps F]

/-- The body is the kernel's, -/
theorem pool_eq : @Cert.KernelIdeal.cc0_pool F _ Cert.KernelIdeal.Gen.facts = @Cert.Kernel.cc0_pool F _ Cert.Kernel.Gen.facts := rfl

/-- and so are the tables of bodies -/
theorem defs₀_eq : Cert.KernelIdeal.defs₀ (F := F) = Cert.Kernel.defs₀ (F := F) := by
  unfold Cert.KernelIdeal.defs₀ Cert.Kernel.defs₀
  refine congrArg Defs.onTc ?_
  funext l a
  obtain ⟨l, hl⟩ := l
  obtain rfl : l = 0 := by omega
  rfl

theorem defs_eq : Cert.KernelIdeal.defs (F := F) = Cert.Kernel.defs (F := F) := by
  unfold Cert.KernelIdeal.defs Cert.Kernel.defs
  exact congrArg (Pipeline.defs (Cert.Kernel.pcfgs (F := F))) defs₀_eq

/-- and the main. -/
theorem main_eq : Cert.KernelIdeal.main (F := F) = Cert.Kernel.main (F := F) := rfl

variable (m : (ℓ : Loc Cert.Kernel.nD Cert.Kernel.τ Cert.Kernel.sig) → Buf (Elt F) ℓ) (ρ : Dev Cert.Kernel.nD → PrngReg)

/-- The run of the kernel, of this program. -/
theorem run_main (hO : ∀ c, Cert.Kernel.Hand.Ordered c (Cert.Kernel.Hand.fsOf m c)) :
    θ_run (Cert.KernelIdeal.defs (F := F)) (onTc (τ := Cert.KernelIdeal.τ) (Cert.KernelIdeal.main (F := F))) ⟨m, fun _ => 0, ρ⟩
      (fun r => (∀ c, Cert.Kernel.Hand.QC m c r.2) ∧ r.2.sem = fun _ => 0) :=
  Eq.mpr (congrArg₂ (fun (d : Defs Cert.Kernel.nD Cert.Kernel.τ Cert.Kernel.sig (Elt F) _) p =>
    θ_run d (onTc (τ := Cert.Kernel.τ) p) ⟨m, fun _ => 0, ρ⟩ (fun r => (∀ c, Cert.Kernel.Hand.QC m c r.2) ∧ r.2.sem = fun _ => 0)) defs_eq main_eq)
    (Cert.Kernel.Hand.run_main (F := F) m ρ hO)

end Cert.KernelIdeal.Hand

end
-- ==== Proof.Tiles.lean ====
/-
  The packed tiles, read: tile `t` is forty-eight rows of one hundred and twenty-eight 32-bit words. Of the point in lane
  `l`, row 40 holds the weight's bits, row 41 the cell within its unit, and row `d / 4` the byte of code `d`, its four codes
  from the low end up. Both programs' sums are stated over these three readings.
-/
module

public import Idealize.ShloMosaic.Lib.BitcastPair
public import Idealize.ShloMosaic.Lib.Pipeline.Value
public import Idealize.ShloMosaic.Lib.ValueIdx
public import Idealize.ShloMosaic.PureOps.Ideal.Laws

@[expose] public section

set_option maxRecDepth 65536

noncomputable section

namespace Cert.Hand

open Idealize.ShloMosaic Idealize.ShloMosaic.ValueIdx

/-- 32-bit words read as bytes along the rows: byte `p` of a lane is bits `8 (p % 4)` and up of the word in row `p / 4`. -/
theorem bitcast_32_8_ix2 {R r n : Nat} (x : (⟨2, ![r, n]⟩ : Shape).Idx → BitVec 32)
    (h : (⟨2, ![r, n]⟩ : Shape).Bitcasts 32 ⟨2, ![R, n]⟩ 8) (p : Fin R) (l : Fin n) (a : Fin r) (ha : a.val = p.val / 4) :
    bitcast ⟨2, ![R, n]⟩ 8 x h (ix2 p l) = (x (ix2 a l)).extractLsb' (8 * (p.val % 4)) 8 := by
  apply BitVec.eq_of_getLsbD_eq
  intro i hi
  rw [bitcast_getLsbD x h (ix2 p l) i hi (by decide), BitVec.getLsbD_extractLsb']
  have er : Shape.row ⟨2, ![R, n]⟩ (ix2 p l) = p.val := rfl
  have ep : (p.val * 8 + i) / 32 = a.val := by omega
  have eq : (p.val * 8 + i) % 32 = 8 * (p.val % 4) + i := by omega
  have e : h.srcIdx (ix2 p l) ((Shape.row ⟨2, ![R, n]⟩ (ix2 p l) * 8 + i) / 32) (fun a' ha' =>
      (Nat.div_lt_iff_lt_mul (by decide)).2 (h.pos_lt (ix2 p l) i hi a' ha')) = ix2 a l := by
    funext c
    match c with
    | ⟨0, _⟩ => exact Fin.ext ((h.srcIdx_row _ _ _ ⟨0, Nat.zero_lt_two⟩ rfl).trans (by rw [er]; exact ep))
    | ⟨1, _⟩ => exact Fin.ext (h.srcIdx_other _ _ _ ⟨1, Nat.one_lt_two⟩ (by show ¬ 1 + 2 = 2; omega))
  rw [e, er, eq]
  simp [hi]

/-- The packed tiles: 7800 of them, each of 48 rows. -/
abbrev Packed : Type := (⟨2, ![374400, 128]⟩ : Shape).Idx → BitVec 32

/-- Row `r` of tile `t`, in lane `l`. -/
def tileWord (g : Packed) (t : Fin 7800) (r : Fin 48) (l : Fin 128) : BitVec 32 := g (ix2 ⟨48 * t.val + r.val, by omega⟩ l)

/-- The weight of the point in lane `l` of tile `t`. -/
def weight (g : Packed) (t : Fin 7800) (l : Fin 128) : EReal := Ideal.ofBits .f32 (tileWord g t 40 l)

/-- Its cell within the unit. -/
def cellAt (g : Packed) (t : Fin 7800) (l : Fin 128) : BitVec 32 := tileWord g t 41 l

/-- Its code of channel `d`. -/
def code (g : Packed) (t : Fin 7800) (d : Fin 160) (l : Fin 128) : EReal :=
  Ideal.ofBits .fp8e4m3 ((tileWord g t ⟨d.val / 4, by omega⟩ l).extractLsb' (8 * (d.val % 4)) 8)

/-- What the point gives to cell `x` of its unit in channel `d`: its weight times its code if that is its cell, else nothing. -/
def part (g : Packed) (t : Fin 7800) (l : Fin 128) (x : BitVec 32) (d : Fin 160) : EReal :=
  if cellAt g t l = x then weight g t l * code g t d l else 0

/-- What tile `t` gives. -/
def tilePart (g : Packed) (x : BitVec 32) (d : Fin 160) (t : Fin 7800) : EReal := ∑ l : Fin 128, part g t l x d

/-- What step `s`, the tiles `2 s` and `2 s + 1`, gives; nothing from step 3900 on. -/
def stepPart (g : Packed) (x : BitVec 32) (d : Fin 160) (s : ℕ) : EReal :=
  if h : s < 3900 then tilePart g x d ⟨2 * s, by omega⟩ + tilePart g x d ⟨2 * s + 1, by omega⟩ else 0

/-- A weight word whose exponent is not all ones is a real number. -/
theorem weight_real (b : BitVec 32) (h : b &&& 2139095040#32 ≠ 2139095040#32) : ∃ r : ℝ, Ideal.ofBits .f32 b = (r : EReal) := by
  have hx : ¬ (b.extractLsb' 23 8).toNat = 2 ^ 8 - 1 := by
    intro e
    apply h
    have e2 : b.extractLsb' 23 8 = 255#8 := BitVec.eq_of_toNat_eq (by rw [e]; rfl)
    apply BitVec.eq_of_getLsbD_eq
    intro i hi
    rw [BitVec.getLsbD_and]
    by_cases hw : 23 ≤ i ∧ i < 31
    · have e3 : (b.extractLsb' 23 8).getLsbD (i - 23) = (255#8).getLsbD (i - 23) := by rw [e2]
      rw [BitVec.getLsbD_extractLsb', show 23 + (i - 23) = i by omega] at e3
      have e4 : (255#8).getLsbD (i - 23) = true := by
        have : i - 23 < 8 := by omega
        interval_cases (i - 23) <;> rfl
      rw [e4] at e3
      have : b.getLsbD i = true := by simpa using (Bool.and_eq_true _ _ ▸ e3 : _).2
      rw [this, Bool.true_and]
    · have : (2139095040#32 : BitVec 32).getLsbD i = false := by
        interval_cases i <;> first | rfl | (exfalso; exact hw ⟨by decide, by decide⟩)
      rw [this, Bool.and_false]
  unfold Ideal.ofBits Ideal.ieee
  dsimp only
  rw [if_neg hx]
  split
  · exact ⟨_, rfl⟩
  · exact ⟨_, rfl⟩

end Cert.Hand

end
-- ==== Proof.Ideal.Product.lean ====
/-
  One step's product, read at a cell and a channel: over the extended reals it is the sum, over the step's two tiles of one
  hundred and twenty-eight points, of the weight times the code where the point's cell is that cell. The exact path's three
  pieces of the weight are the weight, zero and zero, for a weight that is a real number.
-/
module

public import proofs.«01_k».proof.Proof.Tiles
public import proofs.«01_k».proof.Proof.Ring
public import Idealize.ShloMosaic.Lib.Pointwise.Contract

@[expose] public section

set_option maxRecDepth 65536

noncomputable section

namespace Cert.Kernel.Hand

open Cert.Kernel Cert.Kernel.Gen
open Idealize.ShloMosaic hiding ix1 ix2 ix3
open Idealize.ShloMosaic.TcCoe Idealize.ShloMosaic.ValueIdx Idealize.ShloMosaic.Pipeline Idealize.ShloMosaic.Ideal

/-- Row `r`, lane `l` of the rows from `o` on is row `o + r` of the tiles. -/
theorem blk_apply {F : FTy → Type} [FloatOps F] (c : Dev nD) (fg : Bf (F := F) c gM) (o : Row) (r : Fin 96) (l : Fin 128) (q : Fin 374400) (hq : q.val = o.val + r.val) :
    blk c fg o (ix3 0 r l) = (fg : S374400x128.Idx → BitVec 32) (ix2 q l) := by
  unfold blk
  refine (shapeCast_apply (s := S96x128) (t := S1x96x128) _ _ (ix3 0 r l) (ix2 r l) ?_).trans ?_
  · rw [Shape.rowMajor_val_three, Shape.rowMajor_val_two]
    show r.val * 128 + l.val = (0 * 96 + r.val) * 128 + l.val
    omega
  · refine congrArg (fg : S374400x128.Idx → BitVec 32) (?_ : (Rect.unit (s := S374400x128) ![o.val, 0] S96x128.size (inbO o)).emb (ix2 r l) = _)
    funext a
    match a with
    | ⟨0, _⟩ => exact Fin.ext (by show o.val + 1 * r.val = q.val; omega)
    | ⟨1, _⟩ => exact Fin.ext (by show 0 + 1 * l.val = l.val; omega)

variable (v : Vec Ideal S1x96x128 .i32)

theorem rows_apply (r : Fin 96) (l : Fin 128) : k0_pay2 (F := Ideal) v (ix2 r l) = v (ix3 0 r l) := by
  unfold k0_pay2
  refine shapeCast_apply (s := S1x96x128) (t := S96x128) _ _ (ix2 r l) (ix3 0 r l) ?_
  rw [Shape.rowMajor_val_three, Shape.rowMajor_val_two]
  show (0 * 96 + r.val) * 128 + l.val = r.val * 128 + l.val
  omega

/-- Two rows side by side: a lane of the left one, -/
theorem pair_left {α : Type} (x y : S1x128.Idx → α) (j : Fin 256) (l : Fin 128) (h : j.val = l.val) :
    concatenate S1x256 1 [⟨S1x128, x⟩, ⟨S1x128, y⟩] concatenates_S1x128_S1x128_S1x256_d1 (ix2 0 j) = x (ix2 0 l) :=
  concatenate_pair_apply_left (t := S1x256) (s₁ := S1x128) (s₂ := S1x128) 1 x y concatenates_S1x128_S1x128_S1x256_d1 (ix2 0 j) rfl (ix2 0 l) fun b => by
    match b with
    | ⟨0, _⟩ => rfl
    | ⟨1, _⟩ => exact h.symm

/-- and of the right one. -/
theorem pair_right {α : Type} (x y : S1x128.Idx → α) (j : Fin 256) (l : Fin 128) (h : j.val = 128 + l.val) :
    concatenate S1x256 1 [⟨S1x128, x⟩, ⟨S1x128, y⟩] concatenates_S1x128_S1x128_S1x256_d1 (ix2 0 j) = y (ix2 0 l) :=
  concatenate_pair_apply_right (t := S1x256) (s₁ := S1x128) (s₂ := S1x128) 1 x y concatenates_S1x128_S1x128_S1x256_d1 (ix2 0 j) rfl  rfl (ix2 0 l) (fun b hb => by
    match b with
    | ⟨0, _⟩ => rfl
    | ⟨1, _⟩ => exact absurd rfl hb) (by show l.val + 128 = j.val; omega)

/-- A row cut out of the block. -/
theorem row_cut (r : Fin 96) (off : Fin 2 → ℕ) (ho : off = ![r.val, 0]) (h : S96x128.Slices off S1x128) (l : Fin 128) :
    extractStridedSlice S1x128 off (k0_pay2 (F := Ideal) v) h (ix2 0 l) = v (ix3 0 r l) := by
  subst ho
  refine (extractStridedSlice_apply (s := S96x128) _ _ _ (ix2 0 l) (ix2 r l) (by
    intro a
    match a with
    | ⟨0, _⟩ => rfl
    | ⟨1, _⟩ => show l.val = 0 + l.val; omega)).trans (rows_apply v r l)

theorem weights_left (j : Fin 256) (l : Fin 128) (h : j.val = l.val) :
    k0_pay3 (F := Ideal) v (ix2 0 j) = Ideal.ofBits .f32 (v (ix3 0 40 l)) := by
  unfold k0_pay3
  exact congrArg (Ideal.ofBits .f32) ((pair_left _ _ j l h).trans (row_cut v 40 _ rfl _ l))

theorem weights_right (j : Fin 256) (l : Fin 128) (h : j.val = 128 + l.val) :
    k0_pay3 (F := Ideal) v (ix2 0 j) = Ideal.ofBits .f32 (v (ix3 0 88 l)) := by
  unfold k0_pay3
  exact congrArg (Ideal.ofBits .f32) ((pair_right _ _ j l h).trans (row_cut v 88 _ rfl _ l))

/-- A word broadcast down the cells. -/
theorem down_apply {α : Type} (x : S1x256.Idx → α) (p : Fin 128) (j : Fin 256) :
    broadcastTo S128x256 x broadcasts_S1x256_S128x256 (ix2 p j) = x (ix2 0 j) :=
  broadcastTo_apply (s := S1x256) (t := S128x256) _ _ _ _ fun a => by
    match a with
    | ⟨0, _⟩ => rfl
    | ⟨1, _⟩ => rfl

/-- Which points are cell `p`'s. -/
theorem hot_left (p : Fin 128) (j : Fin 256) (l : Fin 128) (h : j.val = l.val) :
    k0_pay5 (F := Ideal) (iota .tc S128x256 32 [0] iota_S128x256_d0_w32) v (ix2 p j) = IntOp.cmpi .eq (BitVec.ofNat 32 p.val) (v (ix3 0 41 l)) := by
  unfold k0_pay5
  exact congrArg₂ (IntOp.cmpi .eq) (iota_single_apply .tc S128x256 32 0 _ (ix2 p j)) ((down_apply _ p j).trans ((pair_left _ _ j l h).trans (row_cut v 41 _ rfl _ l)))

theorem hot_right (p : Fin 128) (j : Fin 256) (l : Fin 128) (h : j.val = 128 + l.val) :
    k0_pay5 (F := Ideal) (iota .tc S128x256 32 [0] iota_S128x256_d0_w32) v (ix2 p j) = IntOp.cmpi .eq (BitVec.ofNat 32 p.val) (v (ix3 0 89 l)) := by
  unfold k0_pay5
  exact congrArg₂ (IntOp.cmpi .eq) (iota_single_apply .tc S128x256 32 0 _ (ix2 p j)) ((down_apply _ p j).trans ((pair_right _ _ j l h).trans (row_cut v 89 _ rfl _ l)))

/-- Forty rows of words cut out of the block, as bytes. -/
theorem bytes_cut (r : ℕ) (hr : r + 40 ≤ 96) (off : Fin 2 → ℕ) (ho : off = ![r, 0]) (h : S96x128.Slices off S40x128) (d : Fin 160) (l : Fin 128) :
    bitcast S160x128 8 (extractStridedSlice S40x128 off (k0_pay2 (F := Ideal) v) h) bitcasts_S40x128_w32_S160x128_w8 (ix2 d l)
      = (v (ix3 0 ⟨r + d.val / 4, by omega⟩ l)).extractLsb' (8 * (d.val % 4)) 8 := by
  subst ho
  refine (Cert.Hand.bitcast_32_8_ix2 (R := 160) (r := 40) _ _ d l ⟨d.val / 4, by omega⟩ rfl).trans ?_
  refine congrArg (fun w : BitVec 32 => w.extractLsb' (8 * (d.val % 4)) 8) ?_
  refine (extractStridedSlice_apply (s := S96x128) _ _ _ (ix2 _ l) (ix2 ⟨r + d.val / 4, by omega⟩ l) (by
    intro a
    match a with
    | ⟨0, _⟩ => rfl
    | ⟨1, _⟩ => show l.val = 0 + l.val; omega)).trans (rows_apply v _ l)

theorem wide_left {α : Type} (x y : S160x128.Idx → α) (d : Fin 160) (j : Fin 256) (l : Fin 128) (h : j.val = l.val) :
    concatenate S160x256 1 [⟨S160x128, x⟩, ⟨S160x128, y⟩] concatenates_S160x128_S160x128_S160x256_d1 (ix2 d j) = x (ix2 d l) :=
  concatenate_pair_apply_left (t := S160x256) (s₁ := S160x128) (s₂ := S160x128) 1 x y concatenates_S160x128_S160x128_S160x256_d1 (ix2 d j) rfl (ix2 d l) fun b => by
    match b with
    | ⟨0, _⟩ => rfl
    | ⟨1, _⟩ => exact h.symm

theorem wide_right {α : Type} (x y : S160x128.Idx → α) (d : Fin 160) (j : Fin 256) (l : Fin 128) (h : j.val = 128 + l.val) :
    concatenate S160x256 1 [⟨S160x128, x⟩, ⟨S160x128, y⟩] concatenates_S160x128_S160x128_S160x256_d1 (ix2 d j) = y (ix2 d l) :=
  concatenate_pair_apply_right (t := S160x256) (s₁ := S160x128) (s₂ := S160x128) 1 x y concatenates_S160x128_S160x128_S160x256_d1 (ix2 d j) rfl  rfl (ix2 d l) (fun b hb => by
    match b with
    | ⟨0, _⟩ => rfl
    | ⟨1, _⟩ => exact absurd rfl hb) (by show l.val + 128 = j.val; omega)

/-- The codes of the step's first tile, -/
theorem codes_left (d : Fin 160) (j : Fin 256) (l : Fin 128) (h : j.val = l.val) :
    k0_pay4 (F := Ideal) v (ix2 d j) = Ideal.ofBits .fp8e4m3 ((v (ix3 0 ⟨d.val / 4, by omega⟩ l)).extractLsb' (8 * (d.val % 4)) 8) := by
  unfold k0_pay4
  refine (wide_left _ _ d j l h).trans (congrArg (Ideal.ofBits .fp8e4m3) ((bytes_cut v 0 (by decide) _ rfl _ d l).trans ?_))
  exact congrArg (fun q : Fin 96 => (v (ix3 0 q l)).extractLsb' (8 * (d.val % 4)) 8) (Fin.ext (Nat.zero_add _))

/-- and of its second. -/
theorem codes_right (d : Fin 160) (j : Fin 256) (l : Fin 128) (h : j.val = 128 + l.val) :
    k0_pay4 (F := Ideal) v (ix2 d j) = Ideal.ofBits .fp8e4m3 ((v (ix3 0 ⟨48 + d.val / 4, by omega⟩ l)).extractLsb' (8 * (d.val % 4)) 8) := by
  unfold k0_pay4
  exact (wide_right _ _ d j l h).trans (congrArg (Ideal.ofBits .fp8e4m3) (bytes_cut v 48 (by decide) _ rfl _ d l))

/-- The product of a cells-by-points and a channels-by-points array, read at a cell and a channel. -/
theorem dot_apply (x : FVec Ideal S128x256 .bf16) (y : FVec Ideal S160x256 .bf16) (p : Fin 128) (d : Fin 160) :
    matmul dot_S128x256_S160x256_S128x160_1_1_0_0_n_n none x y (constant S128x160 .f32 0x00000000#32) (ix2 p d)
      = ∑ j : Fin 256, x (ix2 p j) * y (ix2 d j) := by
  refine (matmul_constant_zero_apply _ none _ _ _).trans ?_
  rw [DotDims.sum_contr₁ _ (a := (1 : Fin 2)) rfl (K := 256) rfl]
  refine Finset.sum_congr rfl fun j _ => congrArg₂ (· * ·) (congrArg x ?_) (congrArg y ?_)
  · funext a
    match a with
    | ⟨0, _⟩ => rfl
    | ⟨1, _⟩ => rfl
  · funext a
    match a with
    | ⟨0, _⟩ => rfl
    | ⟨1, _⟩ => rfl

/-- The points of a step in two halves. -/
theorem sum_halves (f : Fin 256 → EReal) :
    ∑ j : Fin 256, f j = (∑ l : Fin 128, f ⟨l.val, by omega⟩) + ∑ l : Fin 128, f ⟨128 + l.val, by omega⟩ :=
  Fin.sum_univ_add (a := 128) (b := 128) f

/-- One product with a row of weights `u` where the point is the cell's, and zero elsewhere. -/
def onePass (u : FVec Ideal S1x256 .f32) (p : Fin 128) (d : Fin 160) : EReal :=
  ∑ j : Fin 256, Scalar.select (k0_pay5 (F := Ideal) (iota .tc S128x256 32 [0] iota_S128x256_d0_w32) v (ix2 p j)) (u (ix2 0 j)) 0
    * k0_pay4 (F := Ideal) v (ix2 d j)

theorem pass_apply (u : FVec Ideal S1x256 .f32) (p : Fin 128) (d : Fin 160) :
    matmul dot_S128x256_S160x256_S128x160_1_1_0_0_n_n none
      (truncf .bf16 (select (k0_pay5 (F := Ideal) (iota .tc S128x256 32 [0] iota_S128x256_d0_w32) v)
        (broadcastTo S128x256 (shapeCast S1x256 u shapeCasts_S1x256_S1x256) broadcasts_S1x256_S128x256)
        (broadcast S128x256 (Scalar.ofBits .f32 0x00000000#32 : Ideal .f32))) bitsLt_bf16_f32 : FVec Ideal S128x256 .bf16)
      (k0_pay4 v) (constant S128x160 .f32 0x00000000#32) (ix2 p d) = onePass v u p d := by
  refine (dot_apply _ _ p d).trans (Finset.sum_congr rfl fun j _ => congrArg (· * _) ?_)
  refine congrArg₂ (Scalar.select _) ((down_apply _ p j).trans ?_) ofBits_zero_f32
  exact shapeCast_apply _ _ _ _ rfl

/-- A row that is zero at every point gives nothing. -/
theorem onePass_zero (u : FVec Ideal S1x256 .f32) (h : ∀ j, u (ix2 0 j) = 0) (p : Fin 128) (d : Fin 160) : onePass v u p d = 0 := by
  refine Finset.sum_eq_zero fun j _ => ?_
  rw [h j]
  have : Scalar.select (k0_pay5 (F := Ideal) (iota .tc S128x256 32 [0] iota_S128x256_d0_w32) v (ix2 p j)) (0 : EReal) 0 = 0 := ite_self _
  rw [this, zero_mul]

/-- Both paths give the product with the weights themselves, if these are real numbers or the path is the plain one. -/
theorem prod_apply (e : BitVec 32) (h : e = 0#32 ∨ ∀ j : Fin 256, ∃ r : ℝ, k0_pay3 (F := Ideal) v (ix2 0 j) = (r : EReal)) (p : Fin 128) (d : Fin 160) :
    prod (F := Ideal) e v (ix2 p d) = onePass v (k0_pay3 v) p d := by
  unfold prod
  split
  · unfold k0_pay6
    exact pass_apply v _ p d
  · next he =>
    have hr : ∀ j : Fin 256, ∃ r : ℝ, k0_pay3 (F := Ideal) v (ix2 0 j) = (r : EReal) := by
      rcases h with h | h
      · exact absurd (by subst h; decide) he
      · exact h
    have z1 : ∀ j : Fin 256, (k0_pay3 (F := Ideal) v (ix2 0 j) - k0_pay3 (F := Ideal) v (ix2 0 j) : EReal) = 0 := fun j => by
      obtain ⟨r, hr⟩ := hr j
      rw [hr, ← EReal.coe_sub, sub_self, EReal.coe_zero]
    unfold k0_pay7
    have a1 := pass_apply v (extf .f32 (truncf .bf16 (k0_pay3 (F := Ideal) v) bitsLt_bf16_f32 : FVec Ideal S1x256 .bf16) bitsLt_bf16_f32) p d
    have a2 := (pass_apply v (extf .f32 (truncf .bf16 (subf (k0_pay3 (F := Ideal) v) (extf .f32 (truncf .bf16 (k0_pay3 (F := Ideal) v) bitsLt_bf16_f32 : FVec Ideal S1x256 .bf16) bitsLt_bf16_f32))
      bitsLt_bf16_f32 : FVec Ideal S1x256 .bf16) bitsLt_bf16_f32) p d).trans (onePass_zero v _ (fun j => z1 j) p d)
    have a3 := (pass_apply v (subf (subf (k0_pay3 (F := Ideal) v) (extf .f32 (truncf .bf16 (k0_pay3 (F := Ideal) v) bitsLt_bf16_f32 : FVec Ideal S1x256 .bf16) bitsLt_bf16_f32))
      (extf .f32 (truncf .bf16 (subf (k0_pay3 (F := Ideal) v) (extf .f32 (truncf .bf16 (k0_pay3 (F := Ideal) v) bitsLt_bf16_f32 : FVec Ideal S1x256 .bf16) bitsLt_bf16_f32))
      bitsLt_bf16_f32 : FVec Ideal S1x256 .bf16) bitsLt_bf16_f32)) p d).trans (onePass_zero v _ (fun j => by
        show (k0_pay3 (F := Ideal) v (ix2 0 j) - k0_pay3 (F := Ideal) v (ix2 0 j) : EReal) - (k0_pay3 (F := Ideal) v (ix2 0 j) - k0_pay3 (F := Ideal) v (ix2 0 j) : EReal) = 0
        rw [z1 j, sub_zero]) p d)
    refine (congrArg₂ (fun a b : EReal => a + b) (congrArg₂ (fun a b : EReal => a + b) a1 a2) a3).trans ?_
    show onePass v _ p d + 0 + 0 = _
    rw [add_zero, add_zero]
    rfl

end Cert.Kernel.Hand

end
-- ==== Proof.Ideal.Step.lean ====
/-
  A step's product and a unit's sum, over the packed tiles: a step gives every cell and channel what its two tiles give
  them, a unit's accumulator is the sum over the unit's steps, and the block of a row is the sums of its two units.
-/
module

public import proofs.«01_k».proof.Proof.Ideal.Product
public import proofs.«01_k».proof.Proof.Run
public import Idealize.ShloMosaic.Lib.WordCmp

@[expose] public section

set_option maxRecDepth 65536

noncomputable section

namespace Cert.Kernel.Hand

open Cert.Kernel Cert.Kernel.Gen
open Idealize.ShloMosaic hiding ix1 ix2 ix3
open Idealize.ShloMosaic.TcCoe Idealize.ShloMosaic.ValueIdx
open Cert.Hand (Packed tileWord weight cellAt code part tilePart stepPart weight_real)

variable (c : Dev nD) (fg : Bf (F := Ideal) c gM) (fx : Bf (F := Ideal) c exM) (fs : Bf (F := Ideal) c sbM)

/-- Either the path is the plain one or every weight word's exponent is not all ones. -/
abbrev Plain : Prop := flag (F := Ideal) c fx = 0#32 ∨ ∀ (t : Fin 7800) (l : Fin 128), tileWord fg t 40 l &&& 2139095040#32 ≠ 2139095040#32

/-- A row of the step's block is a row of its first tile, -/
theorem blk_left (s : ℕ) (hs : s < 3900) (r : Fin 48) (l : Fin 128) (q : Fin 96) (hq : q.val = r.val) :
    blk (F := Ideal) c fg (rowT s) (ix3 0 q l) = tileWord fg ⟨2 * s, by omega⟩ r l := by
  refine blk_apply c fg _ q l _ ?_
  rw [rowT_eq (by omega)]
  show 48 * (2 * s) + r.val = s * 96 + q.val
  omega

/-- or of its second. -/
theorem blk_right (s : ℕ) (hs : s < 3900) (r : Fin 48) (l : Fin 128) (q : Fin 96) (hq : q.val = 48 + r.val) :
    blk (F := Ideal) c fg (rowT s) (ix3 0 q l) = tileWord fg ⟨2 * s + 1, by omega⟩ r l := by
  refine blk_apply c fg _ q l _ ?_
  rw [rowT_eq (by omega)]
  show 48 * (2 * s + 1) + r.val = s * 96 + q.val
  omega

/-- The word of a cell in the kernel's comparison and the choice it makes. -/
theorem select_part (a b : BitVec 32) (w k : EReal) :
    (Scalar.select (IntOp.cmpi .eq a b) w (0 : EReal)) * k = if b = a then w * k else 0 := by
  rw [WordCmp.cmpi_eq_eq]
  unfold Scalar.select
  by_cases h : a = b
  · subst h
    simp
  · have h' : ¬ b = a := fun e => h e.symm
    simp [h, h']

/-- A step's product is what its two tiles give. -/
theorem step_apply (hx : Plain c fg fx) (s : ℕ) (hs : s < 3900) (p : Fin 128) (d : Fin 160) :
    prod (F := Ideal) (flag c fx) (blk c fg (rowT s)) (ix2 p d) = stepPart fg (BitVec.ofNat 32 p.val) d s := by
  have hw : flag (F := Ideal) c fx = 0#32 ∨ ∀ j : Fin 256, ∃ r : ℝ, k0_pay3 (F := Ideal) (blk c fg (rowT s)) (ix2 0 j) = (r : EReal) := by
    rcases hx with hx | hx
    · exact Or.inl hx
    · right
      intro j
      by_cases hj : j.val < 128
      · obtain ⟨r, hr⟩ := weight_real _ (hx ⟨2 * s, by omega⟩ ⟨j.val, hj⟩)
        exact ⟨r, (weights_left _ j ⟨j.val, hj⟩ rfl).trans ((congrArg (Ideal.ofBits .f32) (blk_left c fg s hs 40 _ _ rfl)).trans hr)⟩
      · obtain ⟨r, hr⟩ := weight_real _ (hx ⟨2 * s + 1, by omega⟩ ⟨j.val - 128, by omega⟩)
        exact ⟨r, (weights_right _ j ⟨j.val - 128, by omega⟩ (by show j.val = 128 + (j.val - 128); omega)).trans
          ((congrArg (Ideal.ofBits .f32) (blk_right c fg s hs 40 _ _ rfl)).trans hr)⟩
  rw [prod_apply _ _ hw, onePass, sum_halves, stepPart, dif_pos hs]
  refine congrArg₂ (fun a b : EReal => a + b) (Finset.sum_congr rfl fun l _ => ?_) (Finset.sum_congr rfl fun l _ => ?_)
  · rw [hot_left _ p _ l rfl, weights_left _ _ l rfl, codes_left _ d _ l rfl, select_part,
      blk_left c fg s hs 41 l _ rfl, blk_left c fg s hs 40 l _ rfl, blk_left c fg s hs ⟨d.val / 4, by omega⟩ l _ rfl]
    rfl
  · rw [hot_right _ p _ l rfl, weights_right _ _ l rfl, codes_right _ d _ l rfl, select_part,
      blk_right c fg s hs 41 l _ rfl, blk_right c fg s hs 40 l _ rfl, blk_right c fg s hs ⟨d.val / 4, by omega⟩ l _ rfl]
    rfl

/-- The accumulator after `n` steps from step `A`. -/
theorem accN_apply (hx : Plain c fg fx) (z : FVec Ideal S128x160 .f32) (hz : ∀ i, z i = 0) (A n : ℕ) (h : A + n ≤ 3900) (p : Fin 128) (d : Fin 160) :
    accN (F := Ideal) c fg fx z A n (ix2 p d) = ∑ i ∈ Finset.range n, stepPart fg (BitVec.ofNat 32 p.val) d (A + i) := by
  induction n with
  | zero => exact hz _
  | succ n ih =>
    rw [Finset.sum_range_succ, ← ih (by omega), ← step_apply c fg fx hx (A + n) (by omega) p d]
    rfl

/-- What unit `u` sums at a cell and a channel. -/
def unitSum (u : ℕ) (p : Fin 128) (d : Fin 160) : EReal :=
  ∑ s ∈ Finset.Ico (pos (F := Ideal) c fs u) (pos (F := Ideal) c fs (u + 1)), stepPart fg (BitVec.ofNat 32 p.val) d s

theorem unitAcc_apply (hx : Plain c fg fx) (hO : Ordered (F := Ideal) c fs) (z : FVec Ideal S128x160 .f32) (hz : ∀ i, z i = 0) (u : ℕ) (hu : u < 224) (p : Fin 128) (d : Fin 160) :
    unitAcc (F := Ideal) c fs fg fx z u (ix2 p d) = unitSum c fg fs u p d := by
  unfold unitAcc unitSum
  have h1 := hO.1 u hu
  have h2 := hO.2 (u + 1) (by omega)
  rw [accN_apply c fg fx hx z hz _ _ (by omega), Finset.sum_Ico_eq_sum_range]

/-- The row's block: channel `d`, cell `x` of its two units. -/
theorem outBlk_apply (hx : Plain c fg fx) (hO : Ordered (F := Ideal) c fs) (r : ℕ) (hr : r < 112) (d : Fin 160) (x : Fin 256) :
    outBlk (F := Ideal) c fs fg fx r (ix2 d x) = unitSum c fg fs (2 * r + x.val / 128) ⟨x.val % 128, Nat.mod_lt _ (by decide)⟩ d := by
  have t : ∀ (y : FVec Ideal S128x160 .f32) (p : Fin 128), transpose S160x128 [1, 0] y transposes_S128x160_p1_0_S160x128 (ix2 d p) = y (ix2 p d) := fun y p =>
    transpose_apply (s := S128x160) (t := S160x128) _ _ _ _ _ fun b => by
      match b with
      | ⟨0, _⟩ => rfl
      | ⟨1, _⟩ => rfl
  unfold outBlk
  split
  · next h =>
    have h : x.val < 128 := h
    refine (t _ _).trans ((unitAcc_apply c fg fx fs hx hO _ (fun _ => Ideal.ofBits_zero_f32) _ (by omega) ⟨x.val, h⟩ d).trans ?_)
    congr 1
    · omega
    · exact Fin.ext (Nat.mod_eq_of_lt h).symm
  · next h =>
    have h : ¬ x.val < 128 := h
    refine (t _ _).trans ((unitAcc_apply c fg fx fs hx hO _ (fun _ => Ideal.ofBits_zero_f32) _ (by omega) ⟨x.val - 128, by omega⟩ d).trans ?_)
    congr 1
    · omega
    · exact Fin.ext (by show x.val - 128 = x.val % 128; omega)

end Cert.Kernel.Hand

end
-- ==== Proof.Ideal.Final.lean ====
/-
  The result's buffer at the end: the rows of the chunk's blocks hold the units' sums, every other row what `prev` held.
-/
module

public import proofs.«01_k».proof.Proof.Ideal.Step

@[expose] public section

set_option maxRecDepth 65536

noncomputable section

namespace Cert.Kernel.Hand

open Cert.Kernel Cert.Kernel.Gen
open Idealize.ShloMosaic hiding ix1 ix2 ix3
open Idealize.ShloMosaic.TcCoe Idealize.ShloMosaic.ValueIdx
open Idealize.ShloMosaic.Pipeline (Dat Cfg Window)

variable {F : FTy → Type} [FloatOps F]
variable (m : (ℓ : Loc nD τ sig) → Buf (Elt F) ℓ)

/-- The chunk's rows of the result: block after block. -/
def blocks (c : Dev nD) : S71680x256.Idx → Elt F .f32 := fun i =>
  outBlk c (fsOf m c) (fgOf m c) (fxOf m c) ((i 0).val / 160 - 112) (ix2 ⟨(i 0).val % 160, Nat.mod_lt _ (by decide)⟩ (i 1))

/-- The window's block at a row begins at that row of the chunk. -/
theorem index_at (t : Fin grid0.N) : (cc0_transform_2 (grid0.coords t)) = ![t.val + 112, 0] := by
  revert t; decide +kernel

theorem flush_all (t : Fin grid0.N) : ((cfg0 (F := F) (adm m 0)).win 0).flush t = true :=
  (by decide +kernel : ∀ t : Fin grid0.N, Window.flushOf grid0 true cc0_transform_2 t = true) t

/-- Where an element of the block of row `t` sits in the result. -/
def place (t : Fin grid0.N) (y : S160x256.Idx) : S71680x256.Idx := (((cfg0 (F := F) (adm m 0)).win 0).blk t).view.emb y

theorem place_val0 (t : Fin grid0.N) (y : S160x256.Idx) : (place m t y 0).val = (t.val + 112) * 160 + (y 0).val := by
  refine (Window.rect_emb_val ((cfg0 (F := F) (adm m 0)).win 0) t y (0 : Fin 2)).trans ?_
  show cc0_transform_2 (grid0.coords t) 0 * 160 + (y 0).val = _
  rw [index_at]
  rfl

theorem place_val1 (t : Fin grid0.N) (y : S160x256.Idx) : (place m t y 1).val = (y 1).val := by
  refine (Window.rect_emb_val ((cfg0 (F := F) (adm m 0)).win 0) t y (1 : Fin 2)).trans ?_
  show cc0_transform_2 (grid0.coords t) 1 * 256 + (y 1).val = _
  rw [index_at]
  show 0 * 256 + (y 1).val = _
  omega

theorem blocks_place (c : Dev nD) (t : Fin grid0.N) (y : S160x256.Idx) :
    blocks m c (place m t y) = outBlk c (fsOf m c) (fgOf m c) (fxOf m c) t.val y := by
  have h0 := place_val0 m t y
  have h1 := place_val1 m t y
  have hy : (y 0).val < 160 := (y 0).isLt
  have e1 : (place m t y 0).val / 160 - 112 = t.val := by omega
  have e2 : (ix2 ⟨(place m t y 0).val % 160, Nat.mod_lt _ (by decide)⟩ (place m t y 1) : S160x256.Idx) = y := by
    funext a
    match a with
    | ⟨0, _⟩ => exact Fin.ext (by show (place m t y 0).val % 160 = (y 0).val; omega)
    | ⟨1, _⟩ => exact Fin.ext h1
  unfold blocks
  rw [e1]
  exact congrArg _ e2

theorem flushed_eq (c : Dev nD) (t : Fin grid0.N) :
    (dats m 0 c).flushed 0 t = (((cfg0 (F := F) (adm m 0)).win 0).blk t).view.read (Elt F) (blocks m c : Buf (Elt F) ((c : Thread nD τ).loc main_v0)) := by
  funext y
  show outBlk c (fsOf m c) (fgOf m c) (fxOf m c) (grid0.coords t 0).val y = blocks m c (place m t y)
  rw [coords_val]
  exact (blocks_place m c t y).symm

/-- Which elements of the result row `t`'s block covers. -/
theorem mem_blk (t : Fin grid0.N) (i : S71680x256.Idx) :
    (i ∈ ((((cfg0 (F := F) (adm m 0)).win 0).blk t).view.set : Finset S71680x256.Idx)) ↔ (i 0).val / 160 = t.val + 112 := by
  constructor
  · intro hi
    obtain ⟨y, -, e⟩ := Finset.mem_map.mp hi
    have key : ∀ y : S160x256.Idx, place m t y = i → (i 0).val / 160 = t.val + 112 := fun y e => by
      have h0 := place_val0 m t y
      have hy : (y 0).val < 160 := (y 0).isLt
      rw [e] at h0
      omega
    exact key y e
  · intro h
    refine Finset.mem_map.mpr ⟨(ix2 ⟨(i 0).val % 160, Nat.mod_lt _ (by decide)⟩ (i 1) : S160x256.Idx), Finset.mem_univ _, ?_⟩
    show place m t _ = i
    funext a
    match a with
    | ⟨0, _⟩ => exact Fin.ext ((place_val0 m t _).trans (by show (t.val + 112) * 160 + (i 0).val % 160 = (i 0).val; omega))
    | ⟨1, _⟩ => exact Fin.ext (place_val1 m t _)

/-- The result's buffer when the region is entered holds `prev`. -/
theorem entry_apply (c : Dev nD) (i : S71680x256.Idx) :
    (V m c main_v0 : S71680x256.Idx → Elt F .f32) i = (m ((c : Thread nD τ).loc main_arg3) : S71680x256.Idx → Elt F .f32) i := by
  have e : V m c main_v0 = m ((c : Thread nD τ).loc main_arg3) := by
    unfold V
    rw [StableHlo.after_cons, StableHlo.after_nil]
    exact StableHlo.unary_result' _ _ _ _
  rw [e]

/-- The result at the end: the chunk's rows its blocks, the others `prev`'s. -/
theorem final_apply (c : Dev nD) (i : S71680x256.Idx) :
    (finalA m c : S71680x256.Idx → Elt F .f32) i
      = if 112 ≤ (i 0).val / 160 ∧ (i 0).val / 160 < 224 then blocks m c i
        else (m ((c : Thread nD τ).loc main_arg3) : S71680x256.Idx → Elt F .f32) i := by
  refine ((dats m 0 c).arrAt_eq_piecewise 0 (blocks m c) (fun t _ => flushed_eq m c t) i).trans ?_
  by_cases h : 112 ≤ (i 0).val / 160 ∧ (i 0).val / 160 < 224
  · rw [if_pos h]
    refine if_pos ⟨⟨(i 0).val / 160 - 112, by show _ < grid0.N; rw [N_0]; omega⟩, flush_all m _, (mem_blk m _ i).2 ?_⟩
    show (i 0).val / 160 = (i 0).val / 160 - 112 + 112
    omega
  · rw [if_neg h]
    refine (if_neg ?_).trans (entry_apply m c i)
    rintro ⟨t, -, ht⟩
    have ht := (mem_blk m t i).1 ht
    have : t.val < 112 := by have := t.isLt; change _ < grid0.N at this; rwa [N_0] at this
    omega

end Cert.Kernel.Hand

end
-- ==== Proof.Reference.Read.lean ====
/-
  The reference's host lines, read at their last writers: what the buffers of the offsets, the step and unit of every tile,
  the targets, the contributions and the result hold, each as a function of the buffers its line starts from.
-/
module

public import proofs.«01_k».proof.Proof.Gen.ReferenceIdeal.Frame
public import Idealize.ShloMosaic.Lib.StableHlo.RunRead

@[expose] public section

set_option maxRecDepth 65536

noncomputable section

namespace Cert.ReferenceIdeal.Hand

open Cert.ReferenceIdeal Cert.ReferenceIdeal.Gen
open Idealize.ShloMosaic Idealize.ShloMosaic.TcCoe

variable {F : FTy → Type} [FloatOps F]

/-- Where the chunk's units end, counted in steps from the chunk's first. -/
def ends (a0 : IVec S897 32) : IVec S224 32 :=
  subi (extractStridedSlice S224 ![225] a0 slices_S897_S224_225)
    (broadcastInDim S224 ![] bcast_S_S224 (shapeCast S_ (extractStridedSlice S1 ![224] a0 slices_S897_S1_224) shapeCasts_S1_S_))

/-- The floor division of every tile's number by the divisor. -/
def floorDiv (x : IVec S7800 32) (d : IVec S_ 32) : IVec S7800 32 :=
  select (andi (cmpi .ne (signi x) (broadcastInDim S7800 ![] bcast_S_S7800 (signi d)))
      (cmpi .ne (Host.remsi x (broadcastInDim S7800 ![] bcast_S_S7800 d)) (broadcastInDim S7800 ![] bcast_S_S7800 (constantI S_ 32 0#32))))
    (subi (Host.divsi x (broadcastInDim S7800 ![] bcast_S_S7800 d)) (broadcastInDim S7800 ![] bcast_S_S7800 (constantI S_ 32 1#32)))
    (Host.divsi x (broadcastInDim S7800 ![] bcast_S_S7800 d))

/-- Whether a unit ends at or before a tile's step. -/
def before (e : IVec S224 32) (t : IVec S7800 32) : IVec S224x7800 1 :=
  cmpi .sle (broadcastInDim S224x7800 ![0, 1] bcast_S224x1_S224x7800_0_1 (broadcastInDim S224x1 ![0] bcast_S224_S224x1_0 e))
    (broadcastInDim S224x7800 ![0, 1] bcast_S1x7800_S224x7800_0_1 (broadcastInDim S1x7800 ![1] bcast_S7800_S1x7800_1 t))

/-- How many units do. -/
def unitOf (e : IVec S224 32) (t : IVec S7800 32) : IVec S7800 32 :=
  Host.reduce IntOp.addi (extui 32 (before e t) natLt_1_32) (constantI S_ 32 0#32) reducesTo_S224x7800_S7800_d0 h_S_

/-- Whether the unit is one of the chunk's and the cell one of a unit's. -/
def valid (u : IVec S7800 32) (x : IVec S7800x128 32) : IVec S7800x128 1 :=
  andi (andi (broadcastInDim S7800x128 ![0, 1] bcast_S7800x1_S7800x128_0_1
        (cmpi .slt (broadcastInDim S7800x1 ![0] bcast_S7800_S7800x1_0 u) (broadcastInDim S7800x1 ![] bcast_S_S7800x1 (constantI S_ 32 224#32))))
      (cmpi .sge x (broadcastInDim S7800x128 ![] bcast_S_S7800x128 (constantI S_ 32 0#32))))
    (cmpi .slt x (broadcastInDim S7800x128 ![] bcast_S_S7800x128 (constantI S_ 32 128#32)))

/-- The cell of the chunk. -/
def cellOf (u : IVec S7800 32) (x : IVec S7800x128 32) : IVec S7800x128 32 :=
  addi (broadcastInDim S7800x128 ![0, 1] bcast_S7800x1_S7800x128_0_1
    (muli (broadcastInDim S7800x1 ![0] bcast_S7800_S7800x1_0 u) (broadcastInDim S7800x1 ![] bcast_S_S7800x1 (constantI S_ 32 128#32)))) x

/-- The target: the cell, or one past the last where the point has none. -/
def targetOf (b : IVec S7800x128 1) (k : IVec S7800x128 32) (o : IVec S_ 32) : IVec S7800x128 32 :=
  select b k (broadcastInDim S7800x128 ![] bcast_S_S7800x128 o)

/-- The contributions, point by point. -/
def contribs (w : FVec F S7800x128 .f32) (q : FVec F S7800x160x128 .f32) : FVec F S998400x160 .f32 :=
  shapeCast S998400x160 (transpose S7800x128x160 [0, 2, 1]
    (mulf (broadcastInDim S7800x160x128 ![0, 1, 2] bcast_S7800x1x128_S7800x160x128_0_1_2 (broadcastInDim S7800x1x128 ![0, 2] bcast_S7800x128_S7800x1x128_0_2 w)) q)
    transposes_S7800x160x128_S7800x128x160_0_2_1) shapeCasts_S7800x128x160_S998400x160

/-- The sums by cell. -/
def bev (t : IVec S7800x128 32) (w : FVec F S7800x128 .f32) (q : FVec F S7800x160x128 .f32) : FVec F S28672x160 .f32 :=
  Host.scatterAdd scatter_S28672x160_S998400x1_S998400x160_1_0_0_1
    (broadcastInDim S28672x160 ![] bcast_S_S28672x160 (constant S_ .f32 0x00000000#32))
    (broadcastInDim S998400x1 ![0] bcast_S998400_S998400x1_0 (shapeCast S998400 t shapeCasts_S7800x128_S998400)) (contribs w q)

/-- The chunk's rows put between `prev`'s. -/
def joined (s : FVec F S28672x160 .f32) (a3 : FVec F S71680x256 .f32) : FVec F S71680x256 .f32 :=
  concatenate S71680x256 0 [⟨S17920x256, extractStridedSlice S17920x256 ![0, 0] a3 slices_S71680x256_S17920x256_0_0⟩,
    ⟨S17920x256, shapeCast S17920x256 (transpose S112x160x256 [0, 2, 1] (shapeCast S112x256x160 s shapeCasts_S28672x160_S112x256x160)
      transposes_S112x256x160_S112x160x256_0_2_1) shapeCasts_S112x160x256_S17920x256⟩,
    ⟨S35840x256, extractStridedSlice S35840x256 ![35840, 0] a3 slices_S71680x256_S35840x256_35840_0⟩]
    concatenates_S17920x256_S17920x256_S35840x256_S71680x256_d0

variable (V : Valuation τ sig (Elt F))

/-- The rows of the tiles, cut in tiles. -/
def tilesOf (a2 : IVec S374400x128 32) : IVec S7800x48x128 32 := shapeCast S7800x48x128 a2 shapeCasts_S374400x128_S7800x48x128

/-- The weights, -/
def weights (v0 : IVec S7800x48x128 32) : FVec F S7800x128 .f32 :=
  bitcastToFloat .f32 (shapeCast S7800x128 (extractStridedSlice S7800x1x128 ![0, 40, 0] v0 slices_S7800x48x128_S7800x1x128_0_40_0) shapeCasts_S7800x1x128_S7800x128)

/-- the cells, -/
def cells (v0 : IVec S7800x48x128 32) : IVec S7800x128 32 :=
  shapeCast S7800x128 (extractStridedSlice S7800x1x128 ![0, 41, 0] v0 slices_S7800x48x128_S7800x1x128_0_41_0) shapeCasts_S7800x1x128_S7800x128

/-- and the codes. -/
def codes (v1 : FVec F S1497600x128 .f32) : FVec F S7800x160x128 .f32 :=
  extractStridedSlice S7800x160x128 ![0, 0, 0] (shapeCast S7800x192x128 v1 shapeCasts_S1497600x128_S7800x192x128) slices_S7800x192x128_S7800x160x128_0_0_0

theorem line1_codes : StableHlo.after hostOps1 V (Proc.devRef .tc main_v3) = codes (V (Proc.devRef .tc main_v1)) := by
  after_reads_simp; rfl
theorem line1_weights : StableHlo.after hostOps1 V (Proc.devRef .tc main_v6) = weights (V (Proc.devRef .tc main_v0)) := by
  after_reads_simp; rfl
theorem line1_cells : StableHlo.after hostOps1 V (Proc.devRef .tc main_v8) = cells (V (Proc.devRef .tc main_v0)) := by
  after_reads_simp; rfl
theorem line1_ends : StableHlo.after hostOps1 V (Proc.devRef .tc main_v13) = ends (V (Proc.devRef .tc main_arg0)) := by
  after_reads_simp; rfl
theorem line1_iota : StableHlo.after hostOps1 V (Proc.devRef .tc main_v14) = (iotaInDim S7800 32 0 : IVec S7800 32) := by
  after_reads_simp
theorem line1_two : StableHlo.after hostOps1 V (Proc.devRef .tc main_c) = (constantI S_ 32 2#32 : IVec S_ 32) := by
  after_reads_simp
theorem line1_prev : StableHlo.after hostOps1 V (Proc.devRef .tc main_arg3) = V (Proc.devRef .tc main_arg3) := by
  after_reads_simp

theorem line2_step : StableHlo.after hostOps1_1 V (Proc.devRef .tc main_v15) = floorDiv (V (Proc.devRef .tc main_v14)) (V (Proc.devRef .tc main_c)) := by
  after_reads_simp; rfl
theorem line2_of_ne (r : Ref sig .tc) (h : r ∉ hostOps1_1_W) : StableHlo.after hostOps1_1 V (Proc.devRef .tc r) = V (Proc.devRef .tc r) :=
  StableHlo.after_unwritten hostOps1_1_W rfl h V

theorem line3_valid : StableHlo.after hostOps1_2 V (Proc.devRef .tc main_v32)
    = valid (unitOf (V (Proc.devRef .tc main_v13)) (V (Proc.devRef .tc main_v15))) (V (Proc.devRef .tc main_v8)) := by
  after_reads_simp; rfl
theorem line3_cell : StableHlo.after hostOps1_2 V (Proc.devRef .tc main_v37)
    = cellOf (unitOf (V (Proc.devRef .tc main_v13)) (V (Proc.devRef .tc main_v15))) (V (Proc.devRef .tc main_v8)) := by
  after_reads_simp; rfl
theorem line3_none : StableHlo.after hostOps1_2 V (Proc.devRef .tc main_c_5) = (constantI S_ 32 28672#32 : IVec S_ 32) := by
  after_reads_simp
theorem line3_of_ne (r : Ref sig .tc) (h : r ∉ hostOps1_2_W) : StableHlo.after hostOps1_2 V (Proc.devRef .tc r) = V (Proc.devRef .tc r) :=
  StableHlo.after_unwritten hostOps1_2_W rfl h V

theorem line4_target : StableHlo.after hostOps1_3 V (Proc.devRef .tc main_v38)
    = targetOf (V (Proc.devRef .tc main_v32)) (V (Proc.devRef .tc main_v37)) (V (Proc.devRef .tc main_c_5)) := by
  after_reads_simp; rfl
theorem line4_of_ne (r : Ref sig .tc) (h : r ∉ hostOps1_3_W) : StableHlo.after hostOps1_3 V (Proc.devRef .tc r) = V (Proc.devRef .tc r) :=
  StableHlo.after_unwritten hostOps1_3_W rfl h V

theorem line5_result : StableHlo.after hostOps1_4 V (Proc.devRef .tc main_v53)
    = joined (bev (V (Proc.devRef .tc main_v38)) (V (Proc.devRef .tc main_v6)) (V (Proc.devRef .tc main_v3))) (V (Proc.devRef .tc main_arg3)) := by
  after_reads_simp; rfl

/-- The unit of every tile. -/
def unitsOf (e : IVec S224 32) : IVec S7800 32 := unitOf e (floorDiv (iotaInDim S7800 32 0) (constantI S_ 32 2#32))

/-- The target of every point. -/
def targets (e : IVec S224 32) (v0 : IVec S7800x48x128 32) : IVec S7800x128 32 :=
  targetOf (valid (unitsOf e) (cells v0)) (cellOf (unitsOf e) (cells v0)) (constantI S_ 32 28672#32)

/-- All lines together. -/
theorem lines_result : StableHlo.after (List.flatten [hostOps1, hostOps1_1, hostOps1_2, hostOps1_3, hostOps1_4]) V (Proc.devRef .tc main_v53)
    = joined (bev (targets (ends (V (Proc.devRef .tc main_arg0))) (V (Proc.devRef .tc main_v0))) (weights (V (Proc.devRef .tc main_v0)))
        (codes (V (Proc.devRef .tc main_v1)))) (V (Proc.devRef .tc main_arg3)) := by
  rw [show (List.flatten [hostOps1, hostOps1_1, hostOps1_2, hostOps1_3, hostOps1_4] : List (HloOp τ sig (Elt F)))
      = hostOps1 ++ (hostOps1_1 ++ (hostOps1_2 ++ (hostOps1_3 ++ hostOps1_4))) from rfl,
    StableHlo.after_append, StableHlo.after_append, StableHlo.after_append, StableHlo.after_append, line5_result,
    line4_target, line4_of_ne _ main_v6 (by decide), line4_of_ne _ main_v3 (by decide), line4_of_ne _ main_arg3 (by decide),
    line3_valid, line3_cell, line3_none, line3_of_ne _ main_v6 (by decide), line3_of_ne _ main_v3 (by decide), line3_of_ne _ main_arg3 (by decide),
    line2_step, line2_of_ne _ main_v13 (by decide), line2_of_ne _ main_v8 (by decide), line2_of_ne _ main_v6 (by decide), line2_of_ne _ main_v3 (by decide),
    line2_of_ne _ main_arg3 (by decide), line1_codes, line1_weights, line1_cells, line1_ends, line1_iota, line1_two, line1_prev]
  rfl

end Cert.ReferenceIdeal.Hand

end
-- ==== Proof.Reference.Region.lean ====
/-
  The reference's run: its region decodes the packed tiles' bytes, and its result holds what its lines make of the decoded
  codes, the step table, the tiles and `prev`.
-/
module

public import proofs.«01_k».proof.Proof.Reference.Read
public import Idealize.ShloMosaic.Lib.Pipeline.Value

@[expose] public section

set_option maxRecDepth 65536

noncomputable section

namespace Cert.ReferenceIdeal.Hand

open Cert.ReferenceIdeal Cert.ReferenceIdeal.Gen
open Idealize.ShloMosaic Idealize.ShloMosaic.TcCoe
open Idealize.ShloMosaic.Pipeline (Dat Cfg Window)
open Idealize.SL.Sem Idealize.SL

variable {F : FTy → Type} [FloatOps F]
variable (m : (ℓ : Loc nD τ sig) → Buf (Elt F) ℓ) (ρ : Dev nD → PrngReg)

/-- The bytes of the packed tiles, decoded. -/
def bytes (a2 : Vec F S374400x128 .i32) : FVec F S1497600x128 .f32 :=
  extf .f32 (bitcastToFloat .fp8e4m3 (bitcast S1497600x128 8 a2 bitcasts_S374400x128_w32_S1497600x128_w8)) bitsLt_fp8e4m3_f32

theorem unit_emb {s : Shape} (off : Fin s.rank → ℕ) (h : ∀ a, off a = 0) (inb : ∀ a, off a + s.size a ≤ s.size a) (y : s.Idx) :
    (Rect.unit (s := s) off s.size inb).emb y = y := by
  funext a
  refine Fin.ext ?_
  rw [Rect.emb_apply]
  show off a + 1 * (y a).val = (y a).val
  rw [h a]
  omega

theorem zeros2 (a : Fin 2) : (![0, 0] : Fin 2 → ℕ) a = 0 := by fin_cases a <;> rfl

theorem out_eq (x0 : Vec F S374400x128 .i32) : out0_1 x0 = bytes x0 := by
  have e : View.ld x0 r0_0 = x0 := funext fun y => congrArg x0 (unit_emb (s := S374400x128) ![0, 0] zeros2 _ y)
  unfold out0_1
  rw [e]
  funext y
  have h := View.canon_cons_emb (s := S1497600x128) (e := .f32) (Val := Elt F) r0_1 (k0_pay1 x0) [] y
  rw [show r0_1.emb y = y from unit_emb (s := S1497600x128) ![0, 0] zeros2 _ y] at h
  exact h

theorem emb0 (t : Fin cfg0.N) (y : S374400x128.Idx) : ((cfg0.win 0).blk t).view.emb y = y := by
  funext a
  exact Fin.ext (Window.rect_emb_val_of_index_zero (cfg0.win 0) t a rfl y)

theorem emb1 (t : Fin cfg0.N) (y : S1497600x128.Idx) : ((cfg0.win 1).blk t).view.emb y = y := by
  funext a
  exact Fin.ext (Window.rect_emb_val_of_index_zero (cfg0.win 1) t a rfl y)

theorem iblk_eq (c : Dev nD) (t : Fin cfg0.N) : iblk m c 0 t = m ((c : Thread nD τ).loc main_arg2) := by
  funext y
  show (V m c main_arg2 : S374400x128.Idx → BitVec 32) (((cfg0.win 0).blk t).view.emb y) = _
  rw [emb0, V_main_arg2]

theorem region_value (c : Dev nD) : (dats m 0 c).arrAt 1 cfg0.N = bytes (m ((c : Thread nD τ).loc main_arg2)) := by
  refine (dats m 0 c).arrAt_eq_of_cover 1 (bytes (m ((c : Thread nD τ).loc main_arg2))) (fun t _ => ?_) (fun i => ⟨t0_0, flush0_1 _, ?_⟩)
  · funext y
    have e : (dats m 0 c).after 1 t = bytes (m ((c : Thread nD τ).loc main_arg2)) := by
      rw [after0_1, out_eq, iblk_eq]
    show (dats m 0 c).after 1 t y = (bytes (m ((c : Thread nD τ).loc main_arg2)) : S1497600x128.Idx → Elt F .f32) (((cfg0.win 1).blk t).view.emb y)
    rw [e, emb1]
  · exact Finset.mem_map.mpr ⟨i, Finset.mem_univ _, emb1 _ i⟩

/-- The result of the reference's arguments. -/
def value (a0 : IVec S897 32) (a2 : Vec F S374400x128 .i32) (a3 : FVec F S71680x256 .f32) : FVec F S71680x256 .f32 :=
  joined (bev (targets (ends a0) (tilesOf a2)) (weights (tilesOf a2)) (codes (bytes a2))) a3

theorem tail_value (c : Dev nD) :
    Pipeline.afterTail₀ cfgs (dats m) 0 (V0 m) [hostOps1, hostOps1_1, hostOps1_2, hostOps1_3, hostOps1_4] c main_v53
      = value (m ((c : Thread nD τ).loc main_arg0)) (m ((c : Thread nD τ).loc main_arg2)) (m ((c : Thread nD τ).loc main_arg3)) := by
  unfold Pipeline.afterTail₀ value
  refine (lines_result _).trans ?_
  have h0 := Pipeline.withArrays_of_ne (cfgs 0).spec c (V0 m c) (fun w => (dats m 0 c).arrAt w (cfgs 0).N) main_arg0 (by exact (by decide : ∀ w, Pipeline.arrRef spec0 w ≠ main_arg0))
  have h3 := Pipeline.withArrays_of_ne (cfgs 0).spec c (V0 m c) (fun w => (dats m 0 c).arrAt w (cfgs 0).N) main_arg3 (by exact (by decide : ∀ w, Pipeline.arrRef spec0 w ≠ main_arg3))
  have hv := Pipeline.withArrays_of_ne (cfgs 0).spec c (V0 m c) (fun w => (dats m 0 c).arrAt w (cfgs 0).N) main_v0 (by exact (by decide : ∀ w, Pipeline.arrRef spec0 w ≠ main_v0))
  have h1 : Pipeline.withArrays (cfgs 0).spec c (V0 m c) (fun w => (dats m 0 c).arrAt w (cfgs 0).N) (Proc.devRef .tc main_v1) = bytes (m ((c : Thread nD τ).loc main_arg2)) :=
    (Pipeline.withArrays_arr (cfgs 0).spec (by exact (by decide : Function.Injective (Pipeline.arrRef spec0))) c (V0 m c) (fun w => (dats m 0 c).arrAt w (cfgs 0).N) 1).trans (region_value m c)
  have ev : V0 m c (Proc.devRef .tc main_v0) = tilesOf (m ((c : Thread nD τ).loc main_arg2)) := by
    show StableHlo.after hostOps0 (fun b => m (c, b)) (Proc.devRef .tc main_v0) = _
    after_reads_simp
    rfl
  rw [h0, h3, hv, h1, ev, show V0 m c (Proc.devRef .tc main_arg0) = _ from V_main_arg0 m c, show V0 m c (Proc.devRef .tc main_arg3) = _ from V_main_arg3 m c]

/-- Every fair execution of the reference terminates, its result at that value and the arguments as they were. -/
theorem run_value : θ_run defs (onTc (τ := τ) (main (F := F))) ⟨m, fun _ => 0, ρ⟩ (fun r => ∀ c : Dev nD,
    r.2.mem ((c.tc : Thread nD τ).loc main_v53) = value (m ((c : Thread nD τ).loc main_arg0)) (m ((c : Thread nD τ).loc main_arg2)) (m ((c : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => ⟨((h.1 c).2 main_v53 (Pipeline.mem_restRefs_of main_v53 (by decide) (by decide))).trans (tail_value m c), h.2 c⟩)
    (θ_run_and (run_main m ρ) (unchanged m ρ))

end Cert.ReferenceIdeal.Hand

end
-- ==== Proof.Reference.Rows.lean ====
/-
  The chunk's part of the step table and its rows of the reference's result: where the units end, and which row holds what:
  the chunk's rows hold the units' sums, and every other row is `prev`'s.
-/
module

public import proofs.«01_k».proof.Proof.Reference.Read
public import Idealize.ShloMosaic.Lib.ValueIdx
public import Idealize.ShloMosaic.Lib.Pipeline.Value

@[expose] public section

set_option maxRecDepth 65536

noncomputable section

namespace Cert.ReferenceIdeal.Hand

open Cert.ReferenceIdeal Cert.ReferenceIdeal.Gen
open Idealize.ShloMosaic Idealize.ShloMosaic.TcCoe Idealize.ShloMosaic.ValueIdx

/-! ## The table -/

/-- Where unit `u` of the chunk starts, counted in steps from the chunk's first. -/
def endAt (a0 : IVec S897 32) (u : ℕ) : ℕ := if h : 224 + u < 897 then (a0 (ix1 ⟨224 + u, h⟩) - a0 (ix1 ⟨224, by decide⟩)).toNat else 0

theorem endAt_zero (a0 : IVec S897 32) : endAt a0 0 = 0 := by
  unfold endAt
  rw [dif_pos (by decide)]
  show (a0 (ix1 ⟨224, _⟩) - a0 (ix1 ⟨224, _⟩)).toNat = 0
  rw [BitVec.sub_self]
  rfl

theorem ends_apply (a0 : IVec S897 32) (u : Fin 224) : (ends a0 (ix1 u)).toNat = endAt a0 (u.val + 1) := by
  unfold ends endAt
  rw [dif_pos (by omega)]
  refine congrArg BitVec.toNat (congrArg₂ (fun a b : BitVec 32 => a - b) ?_ ?_)
  · exact extractStridedSlice_apply (s := S897) ![225] _ _ (ix1 u) (ix1 ⟨224 + (u.val + 1), by omega⟩) (by intro a; fin_cases a; show 224 + (u.val + 1) = 225 + u.val; omega)
  · rw [broadcastInDim_apply (s := S_) ![] _ _ (ix1 u) ix0 (by intro a; exact a.elim0), shapeCast_apply (s := S1) _ _ ix0 (ix1 0) (by rfl)]
    exact extractStridedSlice_apply (s := S897) ![224] _ _ (ix1 0) (ix1 ⟨224, by decide⟩) (by intro a; fin_cases a; rfl)

/-! ## The rows -/

/-- The chunk's rows, -/
theorem joined_mid (s : FVec Ideal S28672x160 .f32) (a3 : FVec Ideal S71680x256 .f32) (i : S71680x256.Idx) (r : Fin 112) (d : Fin 160) (x : Fin 256)
    (h0 : (i 0).val = (112 + r.val) * 160 + d.val) (h1 : (i 1).val = x.val) : joined s a3 i = s (ix2 ⟨r.val * 256 + x.val, by omega⟩ d) := by
  unfold joined
  refine (concatenate_apply_piece (t := S71680x256) 0 _ _ i 1 (by show 1 < 3; omega) S17920x256 _ rfl rfl 17920 rfl (ix2 ⟨r.val * 160 + d.val, by omega⟩ x) ?_ ?_).trans ?_
  · intro b hb
    match b with
    | ⟨0, _⟩ => exact absurd rfl hb
    | ⟨1, _⟩ => exact h1.symm
  · show 17920 + (r.val * 160 + d.val) = (i 0).val
    omega
  · rw [shapeCast_apply (s := S112x160x256) (t := S17920x256) _ _ (ix2 ⟨r.val * 160 + d.val, by omega⟩ x) (ix3 r d x) (by
        rw [Shape.rowMajor_val_three, Shape.rowMajor_val_two]
        rfl),
      transpose_apply (s := S112x256x160) (t := S112x160x256) _ _ _ (ix3 r d x) (ix3 r x d) (by
        intro b
        match b with
        | ⟨0, _⟩ => rfl
        | ⟨1, _⟩ => rfl
        | ⟨2, _⟩ => rfl),
      shapeCast_apply (s := S28672x160) (t := S112x256x160) _ _ (ix3 r x d) (ix2 ⟨r.val * 256 + x.val, by omega⟩ d) (by
        rw [Shape.rowMajor_val_three, Shape.rowMajor_val_two]
        rfl)]

/-- the rows before them, -/
theorem joined_low (s : FVec Ideal S28672x160 .f32) (a3 : FVec Ideal S71680x256 .f32) (i : S71680x256.Idx) (h : (i 0).val < 17920) : joined s a3 i = a3 i := by
  unfold joined
  refine (concatenate_apply_piece (t := S71680x256) 0 _ _ i 0 (by show 0 < 3; omega) S17920x256 _ rfl rfl 0 rfl (ix2 ⟨(i 0).val, h⟩ (i 1)) ?_ ?_).trans ?_
  · intro b hb
    match b with
    | ⟨0, _⟩ => exact absurd rfl hb
    | ⟨1, _⟩ => rfl
  · exact Nat.zero_add _
  · exact extractStridedSlice_apply (s := S71680x256) (t := S17920x256) ![0, 0] _ _ (ix2 ⟨(i 0).val, h⟩ (i 1)) i (by
      intro b
      match b with
      | ⟨0, _⟩ => exact (Nat.zero_add _).symm
      | ⟨1, _⟩ => exact (Nat.zero_add _).symm)

/-- and those after. -/
theorem joined_high (s : FVec Ideal S28672x160 .f32) (a3 : FVec Ideal S71680x256 .f32) (i : S71680x256.Idx) (h : 35840 ≤ (i 0).val) : joined s a3 i = a3 i := by
  have hi : (i 0).val < 71680 := (i 0).isLt
  unfold joined
  refine (concatenate_apply_piece (t := S71680x256) 0 _ _ i 2 (by show 2 < 3; omega) S35840x256 _ rfl rfl 35840 rfl (ix2 ⟨(i 0).val - 35840, by omega⟩ (i 1)) ?_ ?_).trans ?_
  · intro b hb
    match b with
    | ⟨0, _⟩ => exact absurd rfl hb
    | ⟨1, _⟩ => rfl
  · show 35840 + ((i 0).val - 35840) = (i 0).val
    omega
  · exact extractStridedSlice_apply (s := S71680x256) (t := S35840x256) ![35840, 0] _ _ (ix2 ⟨(i 0).val - 35840, by omega⟩ (i 1)) i (by
      intro b
      match b with
      | ⟨0, _⟩ => show (i 0).val = 35840 + ((i 0).val - 35840); omega
      | ⟨1, _⟩ => exact (Nat.zero_add _).symm)

end Cert.ReferenceIdeal.Hand

end
-- ==== Proof.Reference.Units.lean ====
/-
  The reference's targets, read: tile `t` is of step `t / 2`; its unit is the number of units that end at or before that
  step, which for a step table in order is the one unit whose steps hold it; and a point's target is cell `x` of unit `u`
  exactly where its tile's unit is `u` and its cell word is `x`'s.
-/
module

public import proofs.«01_k».proof.Proof.Reference.Read
public import proofs.«01_k».proof.Proof.Tiles
public import Idealize.ShloMosaic.Lib.Routing.OpsSearch
public import Idealize.ShloMosaic.Lib.WordCmp
public import Idealize.ShloMosaic.Lib.Pipeline.Value

@[expose] public section

set_option maxRecDepth 65536

noncomputable section

namespace Cert.ReferenceIdeal.Hand

open Cert.ReferenceIdeal Cert.ReferenceIdeal.Gen
open Idealize.ShloMosaic Idealize.ShloMosaic.TcCoe Idealize.ShloMosaic.ValueIdx
open Idealize.ShloMosaic.WordCmp (select_at cmpi_at andi_at constantI_at)
open Idealize.ShloMosaic.Routing (subi_ap card_filter_fin msb_ofNat32 divsi_word remsi_word ofNat32_ne_zero)

/-! ## Counting -/

/-- A predicate that holds of the first `n` numbers counts at least `n`, -/
theorem le_count {Q : ℕ → Prop} [DecidablePred Q] {n N : ℕ} (hn : n ≤ N) (h : ∀ i, i < n → Q i) : n ≤ Nat.count Q N := by
  rw [Nat.count_eq_card_filter_range]
  calc n = (Finset.range n).card := (Finset.card_range n).symm
    _ ≤ _ := Finset.card_le_card fun i hi => Finset.mem_filter.2 ⟨Finset.mem_range.2 (lt_of_lt_of_le (Finset.mem_range.1 hi) hn), h i (Finset.mem_range.1 hi)⟩

/-- and one that holds of no number from `n` on at most `n`. -/
theorem count_le_of_not {Q : ℕ → Prop} [DecidablePred Q] {n N : ℕ} (h : ∀ i, n ≤ i → i < N → ¬ Q i) : Nat.count Q N ≤ n := by
  rw [Nat.count_eq_card_filter_range]
  calc _ ≤ (Finset.range n).card := Finset.card_le_card fun i hi => by
        obtain ⟨h1, h2⟩ := Finset.mem_filter.1 hi
        by_contra hc
        exact h i (by simpa using hc) (Finset.mem_range.1 h1) h2
    _ = n := Finset.card_range n

/-- Of positions in order from zero on, the number of those after the first that are at most `s` is `u` exactly where `s`
    lies between position `u` and the next. -/
theorem count_eq_iff {E : ℕ → ℕ} {N : ℕ} (h0 : E 0 = 0) (hm : ∀ u, u < N → E u ≤ E (u + 1)) (s u : ℕ) (hu : u < N) :
    Nat.count (fun v => E (v + 1) ≤ s) N = u ↔ E u ≤ s ∧ s < E (u + 1) := by
  have mono : ∀ a b, a ≤ b → b ≤ N → E a ≤ E b := by
    intro a b hab
    induction b, hab using Nat.le_induction with
    | base => intro _; exact le_refl _
    | succ b _ ih => intro hb; exact le_trans (ih (by omega)) (hm b (by omega))
  constructor
  · intro hc
    constructor
    · by_contra hlt
      have hu0 : u ≠ 0 := fun e => by subst e; omega
      have : Nat.count (fun v => E (v + 1) ≤ s) N ≤ u - 1 := count_le_of_not fun i hi hN hq => by
        have := mono u (i + 1) (by omega) (by omega)
        omega
      omega
    · by_contra hge
      have : u + 1 ≤ Nat.count (fun v => E (v + 1) ≤ s) N := le_count (by omega) fun i hi => by
        have := mono (i + 1) (u + 1) (by omega) (by omega)
        show E (i + 1) ≤ s
        omega
      omega
  · rintro ⟨h1, h2⟩
    refine le_antisymm (count_le_of_not fun i hi hN hq => ?_) (le_count (by omega) fun i hi => ?_)
    · have := mono (u + 1) (i + 1) (by omega) (by omega)
      omega
    · have := mono (i + 1) u (by omega) (by omega)
      show E (i + 1) ≤ s
      omega

/-! ## Words -/

/-- Signed comparison of words below 2^31 is comparison of their numbers. -/
theorem sle_iff (a b : BitVec 32) (ha : a.toNat < 2 ^ 31) (hb : b.toNat < 2 ^ 31) : IntOp.cmpi .sle a b = 1#1 ↔ a.toNat ≤ b.toNat := by
  rw [WordCmp.cmpi_sle_eq, BitVec.toInt_eq_toNat_of_lt (by omega), BitVec.toInt_eq_toNat_of_lt (by omega)]
  by_cases h : a.toNat ≤ b.toNat
  · simp [h]
  · have : ¬ ((a.toNat : ℤ) ≤ b.toNat) := by omega
    simp [h, this]

/-! ## The steps and the units -/

theorem bcastS (x : IVec S_ 32) : broadcastInDim S7800 ![] bcast_S_S7800 x = constantI S7800 32 (x ix0) :=
  funext fun i => broadcastInDim_apply (s := S_) ![] _ _ i ix0 (by intro a; exact a.elim0)

/-- The step of tile `t`. -/
theorem step_eq (t : Fin 7800) : floorDiv (iotaInDim S7800 32 0) (constantI S_ 32 2#32) (ix1 t) = BitVec.ofNat 32 (t.val / 2) := by
  have ha : t.val < 2 ^ 31 := by omega
  have hx : (iotaInDim S7800 32 0 : IVec S7800 32) (ix1 t) = BitVec.ofNat 32 t.val := rfl
  have h2 : (2#32 : BitVec 32) = BitVec.ofNat 32 2 := rfl
  unfold floorDiv
  rw [bcastS, bcastS, bcastS, bcastS]
  simp only [select_at, cmpi_at, andi_at, subi_ap, Host.remsi_apply, Host.divsi_apply, signi_apply, constantI_at, hx, h2,
    remsi_word .host ha (by decide : 0 < 2) (by decide), divsi_word .host ha (by decide : 0 < 2) (by decide), msb_ofNat32 ha, msb_ofNat32 (by decide : 2 < 2 ^ 31),
    if_neg (ofNat32_ne_zero (by decide : 0 < 2) (by decide))]
  rcases Nat.eq_zero_or_pos t.val with h | h
  · rw [h]
    rfl
  · rw [if_neg (ofNat32_ne_zero h (by omega))]
    simp only [Bool.false_eq_true, if_false]
    have e : IntOp.cmpi .ne (1 : BitVec 32) 1 = 0#1 := by decide
    rw [e]
    show Scalar.select (0#1 &&& _) _ _ = _
    rw [BitVec.zero_and]
    rfl

/-- The sum down a widened mask's first axis counts the rows whose bit is set. -/
theorem reduce_count {N a : ℕ} (hN : N < 2 ^ 32) (msk : IVec ⟨2, ![N, a]⟩ 1) (hw : 1 < 32) (h : (⟨2, ![N, a]⟩ : Shape).ReducesTo [0] ⟨1, ![a]⟩)
    (hu : 0 < (⟨0, ![]⟩ : Shape).numel) (p : Fin a) (Q : ℕ → Prop) [DecidablePred Q] (hQ : ∀ j : Fin N, msk (ix2 j p) = 1#1 ↔ Q j.val) :
    Host.reduce IntOp.addi (extui 32 msk hw) (constantI ⟨0, ![]⟩ 32 0#32) h hu (ix1 p) = BitVec.ofNat 32 (Nat.count Q N) := by
  classical
  have hval : ∀ i, (extui 32 msk hw i).toNat = if msk i = 1#1 then 1 else 0 := fun i => StableHlo.Predicate.toNat_setWidth_bit (msk i)
  have hdrop : ∀ i : (⟨2, ![N, a]⟩ : Shape).Idx, h.drop i = ix1 p ↔ i 1 = p := by
    intro i
    have hv0 : (h.drop i 0 : ℕ) = i 1 := Shape.ReducesTo.drop_apply_val h i 0
    constructor
    · intro e
      rw [e] at hv0
      exact Fin.ext hv0.symm
    · intro e1
      funext c
      match c with
      | ⟨0, _⟩ => exact Fin.ext (hv0.trans (congrArg Fin.val e1))
  have hback : ∀ i : (⟨2, ![N, a]⟩ : Shape).Idx, i 1 = p → ix2 (i 0) p = i := fun i hi => by
    funext c
    match c with
    | ⟨0, _⟩ => rfl
    | ⟨1, _⟩ => exact hi.symm
  have hsum : ∑ i ∈ Finset.univ.filter (fun i : (⟨2, ![N, a]⟩ : Shape).Idx => h.drop i = ix1 p), (extui 32 msk hw i).toNat
      = (Finset.univ.filter (fun j : Fin N => msk (ix2 j p) = 1#1)).card := by
    rw [Finset.card_filter]
    refine Finset.sum_bij' (fun i _ => i 0) (fun j _ => ix2 j p) (fun _ _ => Finset.mem_univ _)
      (fun j _ => Finset.mem_filter.2 ⟨Finset.mem_univ _, (hdrop _).2 rfl⟩)
      (fun i hi => hback i ((hdrop i).1 (Finset.mem_filter.1 hi).2)) (fun _ _ => rfl) ?_
    intro i hi
    rw [hval]
    exact (congrArg (fun x => if msk x = 1#1 then 1 else 0) (hback i ((hdrop i).1 (Finset.mem_filter.1 hi).2))).symm
  apply BitVec.eq_of_toNat_eq
  rw [Host.reduce_eq_fold]
  show (Finset.fold IntOp.addi 0#32 (extui 32 msk hw) (Finset.univ.filter fun i : (⟨2, ![N, a]⟩ : Shape).Idx => h.drop i = ix1 p)).toNat = _
  rw [StableHlo.Predicate.toNat_fold_addi _ _ (by rw [hsum]; exact lt_of_le_of_lt (Finset.card_le_univ _) (by simpa using hN)), hsum, BitVec.toNat_ofNat,
    Nat.mod_eq_of_lt (Nat.lt_of_le_of_lt (Nat.count_le _) hN), ← card_filter_fin N Q]
  exact congrArg Finset.card (Finset.filter_congr fun j _ => hQ j)

theorem before_apply (e : IVec S224 32) (s : IVec S7800 32) (u : Fin 224) (t : Fin 7800) :
    before e s (ix2 u t) = IntOp.cmpi .sle (e (ix1 u)) (s (ix1 t)) := by
  unfold before
  refine congrArg₂ (IntOp.cmpi .sle) ?_ ?_
  · rw [broadcastInDim_apply (s := S224x1) ![0, 1] _ _ (ix2 u t) (ix2 u 0) (by intro a; fin_cases a <;> rfl),
      broadcastInDim_apply (s := S224) ![0] _ _ (ix2 u 0) (ix1 u) (by intro a; fin_cases a; rfl)]
  · rw [broadcastInDim_apply (s := S1x7800) ![0, 1] _ _ (ix2 u t) (ix2 0 t) (by intro a; fin_cases a <;> rfl),
      broadcastInDim_apply (s := S7800) ![1] _ _ (ix2 0 t) (ix1 t) (by intro a; fin_cases a; rfl)]

/-- How many of the chunk's units, unit `u` from position `E u` to the next, end at or before step `s`. -/
def unitAt (E : ℕ → ℕ) (s : ℕ) : ℕ := Nat.count (fun v => E (v + 1) ≤ s) 224

theorem unitAt_le (E : ℕ → ℕ) (s : ℕ) : unitAt E s ≤ 224 := Nat.count_le _

theorem units_eq (e : IVec S224 32) (E : ℕ → ℕ) (hE : ∀ u : Fin 224, (e (ix1 u)).toNat = E (u.val + 1)) (hle : ∀ u, u ≤ 224 → E u ≤ 3900) (t : Fin 7800) :
    unitsOf e (ix1 t) = BitVec.ofNat 32 (unitAt E (t.val / 2)) := by
  unfold unitsOf unitOf unitAt
  refine reduce_count (N := 224) (a := 7800) (by decide) _ _ _ _ t _ fun u => ?_
  have h1 := hE u
  have h2 := hle (u.val + 1) (by omega)
  have h3 : (BitVec.ofNat 32 (t.val / 2)).toNat = t.val / 2 := by rw [BitVec.toNat_ofNat]; exact Nat.mod_eq_of_lt (by omega)
  rw [before_apply, step_eq, sle_iff _ _ (by omega) (by rw [h3]; omega), h1, h3]

/-! ## The targets -/

theorem cells_apply (a2 : IVec S374400x128 32) (t : Fin 7800) (l : Fin 128) : cells (tilesOf a2) (ix2 t l) = Cert.Hand.cellAt a2 t l := by
  unfold cells tilesOf
  rw [shapeCast_apply (s := S7800x1x128) (t := S7800x128) _ _ (ix2 t l) (ix3 t 0 l) (by rw [Shape.rowMajor_val_three, Shape.rowMajor_val_two]; show (t.val * 1 + 0) * 128 + l.val = t.val * 128 + l.val; omega),
      extractStridedSlice_apply (s := S7800x48x128) ![0, 41, 0] _ _ (ix3 t 0 l) (ix3 t ⟨41, by decide⟩ l) (by intro a; fin_cases a <;> first | rfl | exact (Nat.zero_add _).symm),
      shapeCast_apply (s := S374400x128) (t := S7800x48x128) _ _ (ix3 t ⟨41, by decide⟩ l) (ix2 ⟨48 * t.val + 41, by omega⟩ l) (by rw [Shape.rowMajor_val_three, Shape.rowMajor_val_two]; show (48 * t.val + 41) * 128 + l.val = (t.val * 48 + 41) * 128 + l.val; omega)]
  rfl

/-- The choice of a point's target from its tile's unit `n` and its cell word `x`. -/
def target (n x : BitVec 32) : BitVec 32 :=
  Scalar.select (IntOp.andi (IntOp.andi (IntOp.cmpi .slt n 224#32) (IntOp.cmpi .sge x 0#32)) (IntOp.cmpi .slt x 128#32))
    (IntOp.addi (IntOp.muli n 128#32) x) 28672#32

theorem targets_apply (e : IVec S224 32) (a2 : IVec S374400x128 32) (t : Fin 7800) (l : Fin 128) :
    targets e (tilesOf a2) (ix2 t l) = target (unitsOf e (ix1 t)) (Cert.Hand.cellAt a2 t l) := by
  have hu : ∀ x : IVec S7800x1 32, broadcastInDim S7800x128 ![0, 1] bcast_S7800x1_S7800x128_0_1 x (ix2 t l) = x (ix2 t 0) := fun x =>
    broadcastInDim_apply (s := S7800x1) ![0, 1] _ _ (ix2 t l) (ix2 t 0) (by intro a; fin_cases a <;> rfl)
  have hu1 : ∀ x : IVec S7800x1 1, broadcastInDim S7800x128 ![0, 1] bcast_S7800x1_S7800x128_0_1 x (ix2 t l) = x (ix2 t 0) := fun x =>
    broadcastInDim_apply (s := S7800x1) ![0, 1] _ _ (ix2 t l) (ix2 t 0) (by intro a; fin_cases a <;> rfl)
  have hc : ∀ x : IVec S7800 32, broadcastInDim S7800x1 ![0] bcast_S7800_S7800x1_0 x (ix2 t 0) = x (ix1 t) := fun x =>
    broadcastInDim_apply (s := S7800) ![0] _ _ (ix2 t 0) (ix1 t) (by intro a; fin_cases a; rfl)
  have h0 : ∀ x : IVec S_ 32, broadcastInDim S7800x1 ![] bcast_S_S7800x1 x (ix2 t 0) = x ix0 := fun x =>
    broadcastInDim_apply (s := S_) ![] _ _ _ ix0 (by intro a; exact a.elim0)
  have h00 : ∀ x : IVec S_ 32, broadcastInDim S7800x128 ![] bcast_S_S7800x128 x (ix2 t l) = x ix0 := fun x =>
    broadcastInDim_apply (s := S_) ![] _ _ _ ix0 (by intro a; exact a.elim0)
  unfold targets targetOf valid cellOf target
  show Scalar.select (IntOp.andi (IntOp.andi _ (IntOp.cmpi .sge _ _)) (IntOp.cmpi .slt _ _)) (IntOp.addi _ _) _ = _
  rw [hu1, hu, h00, h00, h00, cells_apply]
  show Scalar.select (IntOp.andi (IntOp.andi (IntOp.cmpi .slt _ _) _) _) (IntOp.addi (IntOp.muli _ _) _) _ = _
  rw [hc, h0, h0]
  rfl

/-- A point's target is cell `p` of unit `u` exactly where its tile's unit is `u` and its cell word `p`'s. -/
theorem target_iff (n : ℕ) (hn : n ≤ 224) (x : BitVec 32) (u : ℕ) (hu : u < 224) (p : Fin 128) :
    (target (BitVec.ofNat 32 n) x).toInt = ((u * 128 + p.val : ℕ) : ℤ) ↔ n = u ∧ x = BitVec.ofNat 32 p.val := by
  have hN : (BitVec.ofNat 32 n).toNat = n := by rw [BitVec.toNat_ofNat]; exact Nat.mod_eq_of_lt (by omega)
  have hxp : x = BitVec.ofNat 32 p.val ↔ x.toNat = p.val := by
    constructor
    · intro e; rw [e, BitVec.toNat_ofNat]; exact Nat.mod_eq_of_lt (by omega)
    · intro e; exact BitVec.eq_of_toNat_eq (by rw [e, BitVec.toNat_ofNat]; exact (Nat.mod_eq_of_lt (by omega)).symm)
  have hb : IntOp.andi (IntOp.andi (IntOp.cmpi .slt (BitVec.ofNat 32 n) 224#32) (IntOp.cmpi .sge x 0#32)) (IntOp.cmpi .slt x 128#32)
      = BitVec.ofBool (decide (n < 224 ∧ x.toNat < 128)) := by
    rw [WordCmp.cmpi_slt_eq, WordCmp.cmpi_sge_eq, WordCmp.cmpi_slt_eq, BitVec.toInt_eq_toNat_of_lt (x := BitVec.ofNat 32 n) (by omega), hN]
    have e1 : (224#32 : BitVec 32).toInt = 224 := by decide
    have e2 : (128#32 : BitVec 32).toInt = 128 := by decide
    have e3 : (0#32 : BitVec 32).toInt = 0 := by decide
    rw [e1, e2, e3]
    have hx : (0 ≤ x.toInt ∧ x.toInt < 128) ↔ x.toNat < 128 := by
      rw [BitVec.toInt_eq_toNat_cond]
      have := x.isLt
      split <;> omega
    have hn' : ((n : ℤ) < 224) ↔ n < 224 := by omega
    by_cases h1 : n < 224 <;> by_cases h2 : 0 ≤ x.toInt <;> by_cases h3 : x.toInt < 128 <;>
      simp [hn', h1, h2, h3, ← hx, IntOp.andi]
  unfold target
  rw [hb, hxp]
  by_cases h : n < 224 ∧ x.toNat < 128
  · obtain ⟨h1, h2⟩ := h
    have e : (IntOp.addi (IntOp.muli (BitVec.ofNat 32 n) 128#32) x).toNat = n * 128 + x.toNat := by
      show ((BitVec.ofNat 32 n) * 128#32 + x).toNat = _
      rw [BitVec.toNat_add, BitVec.toNat_mul, hN]
      show (n * 128 % 2 ^ 32 + x.toNat) % 2 ^ 32 = _
      omega
    simp only [h1, h2, and_self, decide_true, BitVec.ofBool_true]
    show (IntOp.addi (IntOp.muli (BitVec.ofNat 32 n) 128#32) x).toInt = _ ↔ _
    rw [BitVec.toInt_eq_toNat_of_lt (by omega), e]
    omega
  · rw [decide_eq_false h]
    show (28672#32 : BitVec 32).toInt = _ ↔ _
    have e1 : (28672#32 : BitVec 32).toInt = 28672 := by decide
    rw [e1]
    omega

end Cert.ReferenceIdeal.Hand

end
-- ==== Proof.Reference.Value.lean ====
/-
  The reference's value: cell `x` of unit `u` in channel `d` is the sum, over the unit's steps, of what the points of the
  steps' tiles give that cell.
-/
module

public import proofs.«01_k».proof.Proof.Reference.Units
public import proofs.«01_k».proof.Proof.Reference.Region
public import Idealize.ShloMosaic.Lib.Routing.OpsPair

@[expose] public section

set_option maxRecDepth 65536

noncomputable section

namespace Cert.ReferenceIdeal.Hand

open Cert.ReferenceIdeal Cert.ReferenceIdeal.Gen
open Idealize.ShloMosaic Idealize.ShloMosaic.TcCoe Idealize.ShloMosaic.ValueIdx
open Cert.Hand (tileWord weight cellAt code part tilePart stepPart)

/-! ## Sums -/

/-- A sum over `m n` numbers is the double sum over quotient and remainder. -/
theorem sum_split {N m n : ℕ} (h : m * n = N) (f : Fin N → EReal) :
    ∑ k, f k = ∑ a : Fin m, ∑ b : Fin n, f ⟨n * a.val + b.val, by
      have ha := a.isLt
      have hb := b.isLt
      subst h
      calc n * a.val + b.val < n * a.val + n := by omega
        _ = n * (a.val + 1) := by ring
        _ ≤ n * m := Nat.mul_le_mul_left n ha
        _ = m * n := Nat.mul_comm n m⟩ := by
  subst h
  rw [← Equiv.sum_comp finProdFinEquiv f, Fintype.sum_prod_type]
  refine Finset.sum_congr rfl fun a _ => Finset.sum_congr rfl fun b _ => congrArg f (Fin.ext ?_)
  show b.val + n * a.val = n * a.val + b.val
  omega

/-! ## The scatter -/

/-- An update of the scatter lands in its target's row, in its own column. -/
theorem lands (idx : IVec S998400x1 32) (k : Fin 998400) (e : Fin 160) (r : Fin 28672) (d : Fin 160) :
    scatter_S28672x160_S998400x1_S998400x160_1_0_0_1.resultIdx? (ix2 k e) idx = some (ix2 r d) ↔ (idx (ix2 k 0)).toInt = (r.val : ℤ) ∧ e = d := by
  have h0 : scatter_S28672x160_S998400x1_S998400x160_1_0_0_1.start (ix2 k e) idx 0 = (idx (ix2 k 0)).toInt := by
    refine congrArg (fun i => (idx i).toInt) ?_
    funext b
    match b with
    | ⟨0, _⟩ => rfl
    | ⟨1, _⟩ => rfl
  have h1 : scatter_S28672x160_S998400x1_S998400x160_1_0_0_1.start (ix2 k e) idx 1 = 0 := rfl
  have w0 : scatter_S28672x160_S998400x1_S998400x160_1_0_0_1.window (ix2 k e) 0 = 0 := rfl
  have w1 : scatter_S28672x160_S998400x1_S998400x160_1_0_0_1.window (ix2 k e) 1 = e.val := rfl
  rw [Routing.resultIdx?_ix2, h0, h1, w0, w1, Fin.ext_iff]
  omega

theorem flat_target (t : IVec S7800x128 32) (a : Fin 7800) (l : Fin 128) (k : Fin 998400) (hk : k.val = 128 * a.val + l.val) :
    broadcastInDim S998400x1 ![0] bcast_S998400_S998400x1_0 (shapeCast S998400 t shapeCasts_S7800x128_S998400) (ix2 k 0) = t (ix2 a l) := by
  rw [broadcastInDim_apply (s := S998400) ![0] _ _ (ix2 k 0) (ix1 k) (by intro a; fin_cases a; rfl)]
  refine shapeCast_apply (s := S7800x128) (t := S998400) _ _ (ix1 k) (ix2 a l) ?_
  rw [Shape.rowMajor_val_two, Shape.rowMajor_val_one]
  show a.val * 128 + l.val = k.val
  omega

theorem contribs_apply (w : FVec Ideal S7800x128 .f32) (q : FVec Ideal S7800x160x128 .f32) (a : Fin 7800) (l : Fin 128) (d : Fin 160) (k : Fin 998400)
    (hk : k.val = 128 * a.val + l.val) : contribs w q (ix2 k d) = (w (ix2 a l) : EReal) * (q (ix3 a d l) : EReal) := by
  unfold contribs
  rw [shapeCast_apply (s := S7800x128x160) (t := S998400x160) _ _ (ix2 k d) (ix3 a l d) (by
      rw [Shape.rowMajor_val_three, Shape.rowMajor_val_two]
      show (a.val * 128 + l.val) * 160 + d.val = k.val * 160 + d.val
      omega),
    transpose_apply (s := S7800x160x128) (t := S7800x128x160) _ _ _ (ix3 a l d) (ix3 a d l) (by
      intro b
      match b with
      | ⟨0, _⟩ => rfl
      | ⟨1, _⟩ => rfl
      | ⟨2, _⟩ => rfl)]
  refine congrArg₂ (fun x y : EReal => x * y) ?_ rfl
  rw [broadcastInDim_apply (s := S7800x1x128) ![0, 1, 2] _ _ (ix3 a d l) (ix3 a 0 l) (by intro a; fin_cases a <;> rfl),
    broadcastInDim_apply (s := S7800x128) ![0, 2] _ _ (ix3 a 0 l) (ix2 a l) (by intro a; fin_cases a <;> rfl)]

/-- A cell's sum: over all points whose target it is, weight times code. -/
theorem bev_apply (t : IVec S7800x128 32) (w : FVec Ideal S7800x128 .f32) (q : FVec Ideal S7800x160x128 .f32) (r : Fin 28672) (d : Fin 160) :
    bev t w q (ix2 r d) = ∑ a : Fin 7800, ∑ l : Fin 128, if (t (ix2 a l)).toInt = (r.val : ℤ) then (w (ix2 a l) : EReal) * (q (ix3 a d l) : EReal) else (0 : EReal) := by
  classical
  have hz : broadcastInDim S28672x160 ![] bcast_S_S28672x160 (constant (F := Ideal) S_ .f32 0x00000000#32) (ix2 r d) = (0 : EReal) := by
    rw [broadcastInDim_apply (s := S_) ![] _ _ (ix2 r d) ix0 (by intro a; exact a.elim0)]
    exact Ideal.ofBits_zero_f32
  unfold bev
  show Ideal.hostScatterAdd _ _ _ _ (ix2 r d) = _
  unfold Ideal.hostScatterAdd
  rw [hz, zero_add, Finset.sum_filter, sum_idx2, sum_split (m := 7800) (n := 128) (by norm_num)]
  refine Finset.sum_congr rfl fun a _ => Finset.sum_congr rfl fun l _ => ?_
  rw [Finset.sum_eq_single d]
  · rw [contribs_apply w q a l d _ rfl]
    refine if_congr ?_ rfl rfl
    rw [lands, flat_target t a l _ rfl]
    exact and_iff_left rfl
  · intro e _ he
    rw [if_neg]
    rw [lands]
    exact fun h => he h.2
  · intro h
    exact absurd (Finset.mem_univ d) h

/-! ## The points -/

theorem weights_apply (a2 : IVec S374400x128 32) (t : Fin 7800) (l : Fin 128) : weights (F := Ideal) (tilesOf a2) (ix2 t l) = weight a2 t l := by
  unfold weights tilesOf
  show Ideal.ofBits .f32 _ = _
  rw [shapeCast_apply (s := S7800x1x128) (t := S7800x128) _ _ (ix2 t l) (ix3 t 0 l) (by rw [Shape.rowMajor_val_three, Shape.rowMajor_val_two]; show (t.val * 1 + 0) * 128 + l.val = t.val * 128 + l.val; omega),
      extractStridedSlice_apply (s := S7800x48x128) ![0, 40, 0] _ _ (ix3 t 0 l) (ix3 t ⟨40, by decide⟩ l) (by intro a; fin_cases a <;> first | rfl | exact (Nat.zero_add _).symm),
      shapeCast_apply (s := S374400x128) (t := S7800x48x128) _ _ (ix3 t ⟨40, by decide⟩ l) (ix2 ⟨48 * t.val + 40, by omega⟩ l) (by rw [Shape.rowMajor_val_three, Shape.rowMajor_val_two]; show (48 * t.val + 40) * 128 + l.val = (t.val * 48 + 40) * 128 + l.val; omega)]
  rfl

theorem codes_apply (a2 : IVec S374400x128 32) (t : Fin 7800) (d : Fin 160) (l : Fin 128) : codes (F := Ideal) (bytes a2) (ix3 t d l) = code a2 t d l := by
  unfold codes
  rw [extractStridedSlice_apply (s := S7800x192x128) ![0, 0, 0] _ _ (ix3 t d l) (ix3 t ⟨d.val, by omega⟩ l) (by intro a; fin_cases a <;> exact (Nat.zero_add _).symm),
    shapeCast_apply (s := S1497600x128) (t := S7800x192x128) _ _ (ix3 t ⟨d.val, by omega⟩ l) (ix2 ⟨192 * t.val + d.val, by omega⟩ l) (by
      rw [Shape.rowMajor_val_three, Shape.rowMajor_val_two]
      show (192 * t.val + d.val) * 128 + l.val = (t.val * 192 + d.val) * 128 + l.val
      omega)]
  unfold bytes
  show Ideal.ofBits .fp8e4m3 (bitcast S1497600x128 8 a2 _ (ix2 _ l)) = _
  rw [Cert.Hand.bitcast_32_8_ix2 (R := 1497600) (r := 374400) a2 _ ⟨192 * t.val + d.val, by omega⟩ l ⟨48 * t.val + d.val / 4, by omega⟩ (by show 48 * t.val + d.val / 4 = (192 * t.val + d.val) / 4; omega)]
  have e : (192 * t.val + d.val) % 4 = d.val % 4 := by omega
  show Ideal.ofBits .fp8e4m3 ((a2 (ix2 ⟨48 * t.val + d.val / 4, _⟩ l)).extractLsb' (8 * ((192 * t.val + d.val) % 4)) 8) = _
  rw [e]
  rfl

/-! ## The chunk -/

/-- Unit `u`'s sum at cell `p`, channel `d`, where unit `u` has the steps from position `E u` to the next. -/
theorem sums_apply (e : IVec S224 32) (E : ℕ → ℕ) (hE : ∀ u : Fin 224, (e (ix1 u)).toNat = E (u.val + 1)) (h0 : E 0 = 0) (a2 : IVec S374400x128 32)
    (hm : ∀ u, u < 224 → E u ≤ E (u + 1)) (hle : ∀ u, u ≤ 224 → E u ≤ 3900)
    (u : ℕ) (hu : u < 224) (p : Fin 128) (d : Fin 160) (r : Fin 28672) (hr : r.val = u * 128 + p.val) :
    bev (F := Ideal) (targets e (tilesOf a2)) (weights (tilesOf a2)) (codes (bytes a2)) (ix2 r d)
      = ∑ s ∈ Finset.Ico (E u) (E (u + 1)), stepPart a2 (BitVec.ofNat 32 p.val) d s := by
  have point : ∀ (t : Fin 7800) (l : Fin 128),
      (if (targets e (tilesOf a2) (ix2 t l)).toInt = (r.val : ℤ) then (weights (F := Ideal) (tilesOf a2) (ix2 t l) : EReal) * (codes (F := Ideal) (bytes a2) (ix3 t d l) : EReal) else (0 : EReal))
        = if E u ≤ t.val / 2 ∧ t.val / 2 < E (u + 1) then part a2 t l (BitVec.ofNat 32 p.val) d else 0 := by
    intro t l
    have h := target_iff (unitAt E (t.val / 2)) (unitAt_le E _) (cellAt a2 t l) u hu p
    have hc : unitAt E (t.val / 2) = u ↔ E u ≤ t.val / 2 ∧ t.val / 2 < E (u + 1) :=
      count_eq_iff (E := E) h0 hm (t.val / 2) u hu
    rw [hc] at h
    rw [targets_apply, units_eq e E hE hle, weights_apply, codes_apply, hr]
    unfold part
    by_cases h1 : E u ≤ t.val / 2 ∧ t.val / 2 < E (u + 1)
    · rw [if_pos h1]
      exact if_congr (h.trans (and_iff_right h1)) rfl rfl
    · rw [if_neg h1, if_neg fun q => h1 (h.1 q).1]
  have tile : ∀ t : Fin 7800, (∑ l : Fin 128, if E u ≤ t.val / 2 ∧ t.val / 2 < E (u + 1) then part a2 t l (BitVec.ofNat 32 p.val) d else 0)
      = if E u ≤ t.val / 2 ∧ t.val / 2 < E (u + 1) then tilePart a2 (BitVec.ofNat 32 p.val) d t else 0 := by
    intro t
    by_cases h1 : E u ≤ t.val / 2 ∧ t.val / 2 < E (u + 1)
    · simp only [if_pos h1]
      rfl
    · simp only [if_neg h1]
      exact Finset.sum_const_zero
  rw [bev_apply, Finset.sum_congr rfl fun t _ => (Finset.sum_congr rfl fun l _ => point t l).trans (tile t),
    sum_split (m := 3900) (n := 2) (by norm_num)]
  have pair : ∀ s : Fin 3900, (∑ b : Fin 2, if E u ≤ (2 * s.val + b.val) / 2 ∧ (2 * s.val + b.val) / 2 < E (u + 1)
        then tilePart a2 (BitVec.ofNat 32 p.val) d ⟨2 * s.val + b.val, by omega⟩ else 0)
      = if s.val ∈ Finset.Ico (E u) (E (u + 1)) then stepPart a2 (BitVec.ofNat 32 p.val) d s.val else 0 := by
    intro s
    rw [Fin.sum_univ_two]
    have e0 : (2 * s.val + (0 : Fin 2).val) / 2 = s.val := by show (2 * s.val + 0) / 2 = s.val; omega
    have e1 : (2 * s.val + (1 : Fin 2).val) / 2 = s.val := by show (2 * s.val + 1) / 2 = s.val; omega
    rw [e0, e1]
    by_cases h1 : E u ≤ s.val ∧ s.val < E (u + 1)
    · rw [if_pos h1, if_pos h1, if_pos (Finset.mem_Ico.2 h1), stepPart, dif_pos s.isLt]
      rfl
    · rw [if_neg h1, if_neg h1, if_neg fun h => h1 (Finset.mem_Ico.1 h), zero_add]
  refine (Finset.sum_congr rfl fun s _ => pair s).trans ?_
  rw [Fin.sum_univ_eq_sum_range (fun s => if s ∈ Finset.Ico (E u) (E (u + 1)) then stepPart a2 (BitVec.ofNat 32 p.val) d s else 0) 3900,
    ← Finset.sum_filter]
  refine Finset.sum_congr (Finset.ext fun s => ?_) fun _ _ => rfl
  have := hle (u + 1) (by omega)
  simp only [Finset.mem_filter, Finset.mem_range, Finset.mem_Ico]
  omega

end Cert.ReferenceIdeal.Hand

end
-- ==== Proof.Equation.lean ====
/-
  The two values are one: at every row of the chunk the kernel's block and the reference's sums are the sums over the unit's
  steps of what the steps' tiles give, and at every other row both are `prev`.
-/
module

public import proofs.«01_k».proof.Proof.Ideal.Final
public import proofs.«01_k».proof.Proof.Ideal.Step
public import proofs.«01_k».proof.Proof.Order
public import proofs.«01_k».proof.Proof.Reference.Region
public import proofs.«01_k».proof.Proof.Reference.Rows
public import proofs.«01_k».proof.Proof.Reference.Value

@[expose] public section

set_option maxRecDepth 65536

noncomputable section

namespace Cert.Hand

open Idealize.ShloMosaic hiding ix1 ix2 ix3
open Idealize.ShloMosaic.ValueIdx
open Cert.Kernel.Hand (fsOf fxOf fgOf pos Ordered Plain flag unitSum finalA)
open Cert.ReferenceIdeal.Hand (ends endAt ends_apply endAt_zero)

variable (m : (ℓ : Loc Cert.Kernel.nD Cert.Kernel.τ Cert.Kernel.sig) → Buf (Elt Ideal) ℓ) (c : Dev Cert.Kernel.nD)

/-- The step table, as the reference takes it. -/
abbrev table : IVec Cert.ReferenceIdeal.S897 32 := m ((c.tc : Thread Cert.Kernel.nD Cert.Kernel.τ).loc Cert.Kernel.main_arg0)
/-- The packed tiles. -/
abbrev tiles : Vec Ideal Cert.ReferenceIdeal.S374400x128 .i32 := m ((c.tc : Thread Cert.Kernel.nD Cert.Kernel.τ).loc Cert.Kernel.main_arg2)
/-- The array of the chunks before. -/
abbrev prev : FVec Ideal Cert.ReferenceIdeal.S71680x256 .f32 := m ((c.tc : Thread Cert.Kernel.nD Cert.Kernel.τ).loc Cert.Kernel.main_arg3)

/-- Both count a unit's first step alike. -/
theorem endAt_eq_pos (u : ℕ) : endAt (table m c) u = pos (F := Ideal) c (fsOf m c) u := rfl

/-- Under the precondition the path is the plain one or every weight word is a real number's. -/
theorem plain_of_pre (a3 : FVec Ideal Cert.Pre_steps_in_order.S71680x256 .f32)
    (h : Cert.Pre_steps_in_order.fn (F := Ideal) (fsOf m c) (fxOf m c) (fgOf m c) a3 = fun _ => 1#1) : Plain c (fgOf m c) (fxOf m c) := by
  have hd := (decoded (F := Ideal) (fsOf m c) (fxOf m c) (fgOf m c) a3 h).2
  by_cases hx : flag (F := Ideal) c (fxOf m c) = 0#32
  · exact Or.inl hx
  · exact Or.inr fun t l => (hd t l).resolve_left hx

/-- THE TWO VALUES ARE ONE. -/
theorem value_eq (hO : Ordered (F := Ideal) c (fsOf m c)) (hP : Plain c (fgOf m c) (fxOf m c)) :
    Cert.ReferenceIdeal.Hand.value (F := Ideal) (table m c) (tiles m c) (prev m c) = finalA (F := Ideal) m c := by
  refine funext fun (i : Cert.Kernel.S71680x256.Idx) => ?_
  refine Eq.trans ?_ (Cert.Kernel.Hand.final_apply m c i).symm
  have hi0 : (i 0).val < 71680 := (i 0).isLt
  have hi1 : (i 1).val < 256 := (i 1).isLt
  by_cases hr : 112 ≤ (i 0).val / 160 ∧ (i 0).val / 160 < 224
  · rw [if_pos hr]
    have hk := Cert.Kernel.Hand.outBlk_apply c (fgOf m c) (fxOf m c) (fsOf m c) hP hO ((i 0).val / 160 - 112) (by omega)
      ⟨(i 0).val % 160, Nat.mod_lt _ (by decide)⟩ (i 1)
    refine Eq.trans ?_ hk.symm
    refine (Cert.ReferenceIdeal.Hand.joined_mid _ (prev m c) i ⟨(i 0).val / 160 - 112, by omega⟩ ⟨(i 0).val % 160, Nat.mod_lt _ (by decide)⟩ (i 1)
      (by show (i 0).val = (112 + ((i 0).val / 160 - 112)) * 160 + (i 0).val % 160; omega) rfl).trans ?_
    exact Cert.ReferenceIdeal.Hand.sums_apply (ends (table m c)) (endAt (table m c)) (ends_apply _) (endAt_zero _) (tiles m c) (fun u hu => hO.mono u hu) (fun u hu => hO.le u hu)
      (2 * ((i 0).val / 160 - 112) + (i 1).val / 128) (by omega) ⟨(i 1).val % 128, Nat.mod_lt _ (by decide)⟩ ⟨(i 0).val % 160, Nat.mod_lt _ (by decide)⟩ _
      (by show ((i 0).val / 160 - 112) * 256 + (i 1).val = (2 * ((i 0).val / 160 - 112) + (i 1).val / 128) * 128 + (i 1).val % 128; omega)
  · rw [if_neg hr]
    by_cases hl : (i 0).val < 17920
    · exact Cert.ReferenceIdeal.Hand.joined_low _ (prev m c) i hl
    · exact Cert.ReferenceIdeal.Hand.joined_high _ (prev m c) i (by omega)

end Cert.Hand

end
-- ==== Proof.Chunk0.Words.lean ====
/-
  Word arithmetic of the kernel's step tables: the ring slot a step uses, how many trips each counted loop makes, and
  the side conditions the body assumes, all from three facts about the four table words it reads: measured from the
  chunk's first step, the unit's bounds `a ≤ b` lie below the chunk's step count `t`, and `t` is at most 3900.
-/
module

public import proofs.«01_k».proof.Proof.Words
public import proofs.«01_k».proof.Proof.Gen.Kernel0.Loops
public import Idealize.ShloMosaic.Lib.LoopRemainder
public import Idealize.ShloMosaic.Lib.Affine
public import Idealize.ShloMosaic.Lib.WordArith
public import Idealize.ShloMosaic.Lib.WordCmp

@[expose] public section

set_option maxRecDepth 65536

noncomputable section

namespace Cert.Kernel0.Hand

open Cert.Kernel.Hand (UnitWords)
open Cert.Kernel0 Cert.Kernel0.Gen
open Idealize.ShloMosaic Idealize.SL.Sem

/-! ## The words of one unit -/

section Unit

variable {v0 v1 v11 v15 : BitVec 32}

theorem t5_ub (v0 v11 v15 : BitVec 32) : (k0_t5_loop v0 v11 v15).ub = v15 - v0 :=
  Cert.Kernel.Hand.t5_ub v0 v11 v15
theorem t5_trips (h : UnitWords v0 v1 v11 v15) : (k0_t5_loop v0 v11 v15).trips = (v15 - v0).toNat - (v11 - v0).toNat :=
  Cert.Kernel.Hand.t5_trips h
theorem t5_ok' (h : UnitWords v0 v1 v11 v15) : (k0_t5_loop v0 v11 v15).OK :=
  Cert.Kernel.Hand.t5_ok' h

/-- The step that trip `k` of the unit's loop handles, as a natural number. -/
theorem t5_iv (h : UnitWords v0 v1 v11 v15) (k : Fin (k0_t5_loop v0 v11 v15).trips) :
    (Scf.iv (v11 - v0) 1#32 k).toNat = (v11 - v0).toNat + k.val ∧ (v11 - v0).toNat + k.val < (v15 - v0).toNat :=
  Cert.Kernel.Hand.t5_iv h k

theorem off25_eq (h : UnitWords v0 v1 v11 v15) (k : Fin (k0_t5_loop v0 v11 v15).trips) :
    k0_off25 v0 v11 v15 k = ![((v11 - v0).toNat + k.val) % 16] :=
  Cert.Kernel.Hand.off25_eq h k
theorem off26_eq (h : UnitWords v0 v1 v11 v15) (k : Fin (k0_t5_loop v0 v11 v15).trips) :
    k0_off26 v0 v11 v15 k = ![((v11 - v0).toNat + k.val) % 16, 0, 0] :=
  Cert.Kernel.Hand.off26_eq h k
theorem off28_eq (h : UnitWords v0 v1 v11 v15) (k : Fin (k0_t5_loop v0 v11 v15).trips) :
    k0_off28 v0 v11 v15 k = ![((v11 - v0).toNat + k.val) % 16, 0, 0] :=
  Cert.Kernel.Hand.off28_eq h k
theorem off27_eq (h : UnitWords v0 v1 v11 v15) (k : Fin (k0_t5_loop v0 v11 v15).trips) :
    k0_off27 v0 v11 v15 k = ![((v11 - v0).toNat + k.val) * 96, 0] :=
  Cert.Kernel.Hand.off27_eq h k
/-- The trip starts another copy exactly when a step sixteen further on is still in the chunk. -/
theorem cond7_iff (h : UnitWords v0 v1 v11 v15) (k : Fin (k0_t5_loop v0 v11 v15).trips) :
    k0_cond7 v0 v1 v11 v15 k = 1#1 ↔ (v11 - v0).toNat + k.val + 16 < (v1 - v0).toNat :=
  Cert.Kernel.Hand.cond7_iff h k
theorem off29_eq (h : UnitWords v0 v1 v11 v15) (k : Fin (k0_t5_loop v0 v11 v15).trips) :
    k0_off29 v0 v11 v15 k = ![((v11 - v0).toNat + k.val + 16) % 16] :=
  Cert.Kernel.Hand.off29_eq h k
theorem off30_eq (h : UnitWords v0 v1 v11 v15) (k : Fin (k0_t5_loop v0 v11 v15).trips) :
    k0_off30 v0 v11 v15 k = ![((v11 - v0).toNat + k.val + 16) % 16, 0, 0] :=
  Cert.Kernel.Hand.off30_eq h k
theorem off31_eq (h : UnitWords v0 v1 v11 v15) (k : Fin (k0_t5_loop v0 v11 v15).trips) :
    k0_off31 v0 v11 v15 k = ![((v11 - v0).toNat + k.val + 16) * 96, 0] :=
  Cert.Kernel.Hand.off31_eq h k

/-- The remainder loop behind the unit's main loop makes no trip. -/
theorem t6_none (v0 v11 v15 : BitVec 32) (k : Fin (k0_t6_loop v0 v11 v15).trips) : False :=
  Cert.Kernel.Hand.t6_none v0 v11 v15 k

theorem inb1 (n : ℕ) (h : n < 16) : ∀ a, (![n] : Fin 1 → ℕ) a + S1.size a ≤ S16.size a :=
  Cert.Kernel.Hand.inb1 n h
theorem inb3 (n : ℕ) (h : n < 16) : ∀ a, (![n, 0, 0] : Fin 3 → ℕ) a + S1x96x128.size a ≤ S16x96x128.size a :=
  Cert.Kernel.Hand.inb3 n h
theorem inb2 (n : ℕ) (h : n < 3900) : ∀ a, (![n * 96, 0] : Fin 2 → ℕ) a + S96x128.size a ≤ S374400x128.size a :=
  Cert.Kernel.Hand.inb2 n h

/-- The side condition assumed before the second unit's loop. -/
theorem chk3 (h : UnitWords v0 v1 v11 v15) : k0_chk3 v0 v1 v11 v15 :=
  Cert.Kernel.Hand.chk3 h

/-- The side condition assumed before the first unit's loop. -/
theorem chk2 (h : UnitWords v0 v1 v11 v15) : k0_chk2 v0 v1 v11 v15 :=
  Cert.Kernel.Hand.chk2 h

end Unit

/-! ## The first grid point's copies -/

section Start

variable {v0 v1 : BitVec 32}

theorem t1_ub (v0 v1 : BitVec 32) : (k0_t1_loop v0 v1).ub = Scalar.minsi (v1 - v0) 16#32 :=
  Cert.Kernel.Hand.t1_ub v0 v1

theorem t1_ub_nat (h : (v1 - v0).toNat ≤ 3900) : (k0_t1_loop v0 v1).ub.toNat = min (v1 - v0).toNat 16 :=
  Cert.Kernel.Hand.t1_ub_nat h

theorem t1_trips (h : (v1 - v0).toNat ≤ 3900) : (k0_t1_loop v0 v1).trips = min (v1 - v0).toNat 16 :=
  Cert.Kernel.Hand.t1_trips h

theorem t1_ok' (h : (v1 - v0).toNat ≤ 3900) : (k0_t1_loop v0 v1).OK :=
  Cert.Kernel.Hand.t1_ok' h

/-- The step that trip `k` starts. -/
theorem t1_iv (h : (v1 - v0).toNat ≤ 3900) (k : Fin (k0_t1_loop v0 v1).trips) :
    (Scalar.addi 0#32 (Scalar.muli (Scf.iv 0#32 1#32 k) 1#32)).toNat = k.val ∧ k.val < min (v1 - v0).toNat 16 :=
  Cert.Kernel.Hand.t1_iv h k

theorem off1_eq (h : (v1 - v0).toNat ≤ 3900) (k : Fin (k0_t1_loop v0 v1).trips) : k0_off1 v0 v1 k = ![k.val % 16] :=
  Cert.Kernel.Hand.off1_eq h k
theorem off2_eq (h : (v1 - v0).toNat ≤ 3900) (k : Fin (k0_t1_loop v0 v1).trips) : k0_off2 v0 v1 k = ![k.val % 16, 0, 0] :=
  Cert.Kernel.Hand.off2_eq h k
theorem off3_eq (h : (v1 - v0).toNat ≤ 3900) (k : Fin (k0_t1_loop v0 v1).trips) : k0_off3 v0 v1 k = ![k.val * 96, 0] :=
  Cert.Kernel.Hand.off3_eq h k

theorem t2_none (v0 v1 : BitVec 32) (k : Fin (k0_t2_loop v0 v1).trips) : False :=
  Cert.Kernel.Hand.t2_none v0 v1 k

/-- The side condition assumed before the first copies. -/
theorem chk1 (i : grid0.Coords) (h : (v1 - v0).toNat ≤ 3900) : k0_chk1 i v0 v1 :=
  Cert.Kernel.Hand.chk1 i h

end Start

/-! ## The grid point -/

theorem cond1_iff (i : grid0.Coords) : k0_cond1 i = 1#1 ↔ (i 0).val = 0 :=
  Cert.Kernel.Hand.cond1_iff i

theorem off7_eq (i : grid0.Coords) : k0_off7 i = ![0 + 2 * (i 0).val] := by
  have hi : (i 0).val < 112 := (i 0).isLt
  show ![((0#32 + BitVec.ofNat 32 (i 0).val) * 2#32 + 0#32).toNat] = _
  congr 1; simp [BitVec.toNat_add, BitVec.toNat_mul]; omega
theorem off8_eq (i : grid0.Coords) : k0_off8 i = ![0 + (2 * (i 0).val + 1)] := by
  have hi : (i 0).val < 112 := (i 0).isLt
  show ![((0#32 + BitVec.ofNat 32 (i 0).val) * 2#32 + 0#32 + 1#32).toNat] = _
  congr 1; simp [BitVec.toNat_add, BitVec.toNat_mul]; omega
theorem off23_eq (i : grid0.Coords) : k0_off23 i = ![0 + (2 * (i 0).val + 1)] := by
  have hi : (i 0).val < 112 := (i 0).isLt
  show ![((0#32 + BitVec.ofNat 32 (i 0).val) * 2#32 + 1#32).toNat] = _
  congr 1; simp [BitVec.toNat_add, BitVec.toNat_mul]; omega
theorem off24_eq (i : grid0.Coords) : k0_off24 i = ![0 + (2 * (i 0).val + 2)] := by
  have hi : (i 0).val < 112 := (i 0).isLt
  show ![((0#32 + BitVec.ofNat 32 (i 0).val) * 2#32 + 1#32 + 1#32).toNat] = _
  congr 1; simp [BitVec.toNat_add, BitVec.toNat_mul]; omega

end Cert.Kernel0.Hand

end
-- ==== Proof.Chunk0.Ring.lean ====
/-
  The kernel's ring: sixteen slots of on-chip memory, each with a completion counter of its own, into which the steps'
  rows of the packed tiles are copied sixteen steps ahead. Here: a slot's two states (free, or being filled with the
  rows from a given row on), the ring as the family of its slots' states, and one trip of the body's loop over it —
  wait for the step's slot, load it, add its product, start the copy of the step sixteen further on.
-/
module

public import proofs.«01_k».proof.Proof.Chunk0.Words
public import Idealize.ShloMosaic.Lib.Ring
public import Idealize.ShloMosaic.Lib.Ring.Window
public import Idealize.ShloMosaic.Lib.ValueIdxCore
public import Idealize.ShloMosaic.Lib.Pipeline.Value

@[expose] public section

set_option maxRecDepth 65536

noncomputable section

namespace Cert.Kernel0.Hand

open Cert.Kernel.Hand (UnitWords)
open Cert.Kernel0 Cert.Kernel0.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The resource algebra: the pipeline's rounds, and the counters the copies take their tokens from. -/
abbrev UU (nD : Nat) (τ : Topo) : Type := UR sig nD τ × Counters

local notation "𝕄" => MT nD τ sig Unit (Elt F) ℕ (UU nD τ) ℕ

/-- Memref `M`'s contents on core `c`. -/
abbrev Bf (c : Dev nD) {sp : Space} {S : Shape} {e : EltTy} (M : Memref sig .tc sp S e) : Type := Buf (Elt F) (M.view.loc (c : Thread nD τ))
/-- Memref `M`'s buffer on core `c`, held whole. -/
abbrev pt (c : Dev nD) {sp : Space} {S : Shape} {e : EltTy} (M : Memref sig .tc sp S e) (f : Bf (F := F) c M) : sProp 𝕄 :=
  M.view.loc (c : Thread nD τ) ↦{fullShare} f

/-- The whole buffers: the step table, the path flag, the packed tiles, the ring. -/
abbrev sbM : Memref sig .tc .smem S897 .i32 := Memref.whole main_arg0
abbrev exM : Memref sig .tc .smem S1 .i32 := Memref.whole main_arg1
abbrev gM : Memref sig .tc .hbm S374400x128 .i32 := Memref.whole main_arg2
abbrev ringM : Memref sig .tc .vmem S16x96x128 .i32 := Memref.whole cc0_scratch0

/-- Slot `k` of the ring, the counter of its copies, and the rows a copy reads. -/
def rslotK (k : Fin 16) : Memref sig .tc .vmem S96x128 .i32 :=
  (ringM.slice (Rect.unit (s := S16x96x128) ![k.val, 0, 0] S1x96x128.size (inb3 k.val k.isLt)) (fun _ => rfl)).squeeze S96x128 squeezes_S1x96x128_S96x128
abbrev cellK (k : Fin 16) : SemLoc sig :=
  .dma ((cc0_scratch1.slice (Rect.unit (s := S16) ![k.val] S1.size (inb1 k.val k.isLt))).squeeze S_ squeezes_S1_S_).sem

/-- A first row from which a step's ninety-six rows stay inside the packed tiles. -/
abbrev Row : Type := {o : ℕ // o + 96 ≤ 374400}

theorem inbO (o : Row) : ∀ a, (![o.val, 0] : Fin 2 → ℕ) a + S96x128.size a ≤ S374400x128.size a := by
  have := o.property
  intro a; fin_cases a
  · show o.val + 96 ≤ 374400; omega
  · show 0 + 128 ≤ 128; omega
def srcO (o : Row) : Memref sig .tc .hbm S96x128 .i32 :=
  gM.slice (Rect.unit (s := S374400x128) ![o.val, 0] S96x128.size (inbO o)) (fun _ => rfl)

/-- The packed tiles' read share for slot `k`'s copies. -/
abbrev tokG (c : Dev nD) (k : Fin 16) (S : Finset (Idx (gM.view.loc (c : Thread nD τ)))) (fg : Bf (F := F) c gM) : sProp 𝕄 :=
  gM.view.loc (c : Thread nD τ) ↦[S]{Transfers.shareTok fullShare 16 k} fg

/-- Slot `k` free: its counter at zero, the slot at anything, its read share whole. -/
abbrev freeS (c : Dev nD) (fg : Bf (F := F) c gM) (k : Fin 16) : sProp 𝕄 :=
  iprop(semVal ((c : Thread nD τ), cellK k) 0 ∗ (∃ f, (rslotK k).view.loc (c : Thread nD τ) ↦[(rslotK k).view.set]{fullShare} f) ∗ tokG c k Finset.univ fg)

/-- Slot `k` being filled with the rows from `o` on. -/
abbrev fillS (c : Dev nD) (fg : Bf (F := F) c gM) (k : Fin 16) (o : Row) : sProp 𝕄 :=
  iprop((∃ f, Transfers.Flight (countersEmb (U := UU nD τ)) (c : Thread nD τ) (cellK k) () (rslotK k).view.dmaCredit
            iprop(((rslotK k).view.loc (c : Thread nD τ) ↦[(rslotK k).view.set]{fullShare}
                    (rslotK k).view.writes (Elt F) f [⟨Rect.whole S96x128, ReadAs.same.apply ((srcO o).view.read (Elt F) fg)⟩])
              ∗ tokG c k (srcO o).view.set fg))
    ∗ tokG c k (Finset.univ \ (srcO o).view.set) fg)

/-- Slot `k` in its state. -/
def slotS (c : Dev nD) (fg : Bf (F := F) c gM) (k : Fin 16) (s : Option Row) : sProp 𝕄 :=
  match s with
  | none => freeS c fg k
  | some o => fillS c fg k o

/-! ## One trip, its offsets named by numbers -/

/-- A loaded block's product with its weights, by the path the flag names. -/
def prod (e : BitVec 32) (v : Vec F S1x96x128 .i32) : FVec F S128x160 .f32 :=
  if Scalar.cmpi .ne (Scalar.extui (Scalar.cmpi .eq e 0#32)) 0#32 = 1#1
    then k0_pay6 (iota .tc S128x256 32 [0] iota_S128x256_d0_w32) v else k0_pay7 (iota .tc S128x256 32 [0] iota_S128x256_d0_w32) v

/-- The trip at any offsets. -/
def tripG (o25 : Fin 1 → ℕ) (h25 : ∀ a, o25 a + S1.size a ≤ S16.size a) (o26 : Fin 3 → ℕ) (h26 : ∀ a, o26 a + S1x96x128.size a ≤ S16x96x128.size a)
    (o27 : Fin 2 → ℕ) (h27 : ∀ a, o27 a + S96x128.size a ≤ S374400x128.size a) (b : BitVec 1)
    (o29 : Fin 1 → ℕ) (h29 : b = 1#1 → ∀ a, o29 a + S1.size a ≤ S16.size a) (o30 : Fin 3 → ℕ) (h30 : b = 1#1 → ∀ a, o30 a + S1x96x128.size a ≤ S16x96x128.size a)
    (o31 : Fin 2 → ℕ) (h31 : b = 1#1 → ∀ a, o31 a + S96x128.size a ≤ S374400x128.size a)
    (acc : FVec F S128x160 .f32) : Prog (TpuEff nD τ sig (Elt F) Λ₀ .tc) (FVec F S128x160 .f32) := do
  Prog.lift (.waitDma2 ((cc0_scratch1.slice (Rect.unit (s := S16) o25 S1.size h25)).squeeze S_ squeezes_S1_S_).sem
    (gM.slice (Rect.unit (s := S374400x128) o27 S96x128.size h27) (fun _ => rfl))
    ((ringM.slice (Rect.unit (s := S16x96x128) o26 S1x96x128.size h26) (fun _ => rfl)).squeeze S96x128 squeezes_S1x96x128_S96x128)
    (View.wordExact_bits rfl) ((View.wordExact_bits rfl).reshape _ _))
  let v84 : Vec F S1x96x128 .i32 ← Prog.lift (.load ringM (Rect.unit (s := S16x96x128) o26 S1x96x128.size h26).toLoadRect (View.loadsAt_vmem h_S1x96x128))
  let v101 : Elt F .i32 ← smemLoad exM (Rect.unit (s := S1) ![0] S1.size inb_S1_S1_0) numel1_S1 rfl
  let v105 : FVec F S128x160 .f32 ← if Scalar.cmpi .ne (Scalar.extui (Scalar.cmpi .eq v101 0#32)) 0#32 = 1#1
    then pure (k0_pay6 (iota .tc S128x256 32 [0] iota_S128x256_d0_w32) v84) else pure (k0_pay7 (iota .tc S128x256 32 [0] iota_S128x256_d0_w32) v84)
  if h : b = 1#1 then do
    Prog.lift (.enqueueDma (gM.slice (Rect.unit (s := S374400x128) o31 S96x128.size (h31 h)) (fun _ => rfl))
      (.here ((ringM.slice (Rect.unit (s := S16x96x128) o30 S1x96x128.size (h30 h)) (fun _ => rfl)).squeeze S96x128 squeezes_S1x96x128_S96x128))
      (.dma ((cc0_scratch1.slice (Rect.unit (s := S16) o29 S1.size (h29 h))).squeeze S_ squeezes_S1_S_).sem)
      (View.wordExact_bits rfl) ((View.wordExact_bits rfl).reshape _ _) ⟨Or.inl rfl, trivial⟩)
    pure ⟨⟩
  else pure ⟨⟩
  pure (k0_pay8 acc v105)

/-- The trip at slot `s`, waiting for the rows from `o` on and, when `b` says so, starting those from `o'` on. -/
def tripN (s : Fin 16) (o : Row) (b : BitVec 1) (o' : b = 1#1 → Row) (acc : FVec F S128x160 .f32) :
    Prog (TpuEff nD τ sig (Elt F) Λ₀ .tc) (FVec F S128x160 .f32) := do
  Prog.lift (.waitDma2 ((cc0_scratch1.slice (Rect.unit (s := S16) ![s.val] S1.size (inb1 s.val s.isLt))).squeeze S_ squeezes_S1_S_).sem
    (gM.slice (Rect.unit (s := S374400x128) ![o.val, 0] S96x128.size (inbO o)) (fun _ => rfl))
    ((ringM.slice (Rect.unit (s := S16x96x128) ![s.val, 0, 0] S1x96x128.size (inb3 s.val s.isLt)) (fun _ => rfl)).squeeze S96x128 squeezes_S1x96x128_S96x128)
    (View.wordExact_bits rfl) ((View.wordExact_bits rfl).reshape _ _))
  let v84 : Vec F S1x96x128 .i32 ← Prog.lift (.load ringM (Rect.unit (s := S16x96x128) ![s.val, 0, 0] S1x96x128.size (inb3 s.val s.isLt)).toLoadRect (View.loadsAt_vmem h_S1x96x128))
  let v101 : Elt F .i32 ← smemLoad exM (Rect.unit (s := S1) ![0] S1.size inb_S1_S1_0) numel1_S1 rfl
  let v105 : FVec F S128x160 .f32 ← if Scalar.cmpi .ne (Scalar.extui (Scalar.cmpi .eq v101 0#32)) 0#32 = 1#1
    then pure (k0_pay6 (iota .tc S128x256 32 [0] iota_S128x256_d0_w32) v84) else pure (k0_pay7 (iota .tc S128x256 32 [0] iota_S128x256_d0_w32) v84)
  if h : b = 1#1 then do
    Prog.lift (.enqueueDma (gM.slice (Rect.unit (s := S374400x128) ![(o' h).val, 0] S96x128.size (inbO (o' h))) (fun _ => rfl))
      (.here ((ringM.slice (Rect.unit (s := S16x96x128) ![s.val, 0, 0] S1x96x128.size (inb3 s.val s.isLt)) (fun _ => rfl)).squeeze S96x128 squeezes_S1x96x128_S96x128))
      (.dma ((cc0_scratch1.slice (Rect.unit (s := S16) ![s.val] S1.size (inb1 s.val s.isLt))).squeeze S_ squeezes_S1_S_).sem)
      (View.wordExact_bits rfl) ((View.wordExact_bits rfl).reshape _ _) ⟨Or.inl rfl, trivial⟩)
    pure ⟨⟩
  else pure ⟨⟩
  pure (k0_pay8 acc v105)

theorem tripG_eq (s : Fin 16) (o : Row) (b : BitVec 1) (n : ℕ) (hn : b = 1#1 → n + 96 ≤ 374400) (acc : FVec F S128x160 .f32)
    (o25 : Fin 1 → ℕ) (h25) (o26 : Fin 3 → ℕ) (h26) (o27 : Fin 2 → ℕ) (h27) (o29 : Fin 1 → ℕ) (h29) (o30 : Fin 3 → ℕ) (h30) (o31 : Fin 2 → ℕ) (h31)
    (e25 : o25 = ![s.val]) (e26 : o26 = ![s.val, 0, 0]) (e27 : o27 = ![o.val, 0]) (e29 : o29 = ![s.val]) (e30 : o30 = ![s.val, 0, 0]) (e31 : o31 = ![n, 0]) :
    tripG (F := F) o25 h25 o26 h26 o27 h27 b o29 h29 o30 h30 o31 h31 acc = tripN s o b (fun h => ⟨n, hn h⟩) acc := by
  subst e25 e26 e27 e29 e30 e31
  rfl

/-- The body of the loop over the second unit's steps is the trip at the step's slot and rows. -/
theorem t5_body_eq (i : grid0.Coords) (arg5 : Memref sig .tc .vmem S160x256 .f32) (harg5 : arg5.IsWhole)
    {v0 v1 v11 v15 : BitVec 32} (h : UnitWords v0 v1 v11 v15) (hw : k0_chk3 v0 v1 v11 v15) (k : Fin (k0_t5_loop v0 v11 v15).trips) (acc : FVec F S128x160 .f32) :
    k0_t5_body (F := F) i sbM (Memref.isWhole_whole _) exM (Memref.isWhole_whole _) gM (Memref.isWhole_whole _) arg5 harg5 ringM (Memref.isWhole_whole _) cc0_scratch1
        v0 v1 (iota .tc S128x256 32 [0] iota_S128x256_d0_w32) v11 (v11 - v0) v15 hw k acc
      = tripN ⟨((v11 - v0).toNat + k.val) % 16, Nat.mod_lt _ (by decide)⟩
          ⟨((v11 - v0).toNat + k.val) * 96, by have := (t5_iv h k).2; have := h.bt; have := h.le; omega⟩
          (k0_cond7 v0 v1 v11 v15 k)
          (fun h7 => ⟨((v11 - v0).toNat + k.val + 16) * 96, by have := (cond7_iff h k).1 h7; have := h.le; omega⟩) acc :=
  Eq.trans (show _ = tripG (F := F) (k0_off25 v0 v11 v15 k) (k0_off25_inb v0 v1 v11 v15 hw k) (k0_off26 v0 v11 v15 k) (k0_off26_inb v0 v1 v11 v15 hw k)
      (k0_off27 v0 v11 v15 k) (k0_off27_inb v0 v1 v11 v15 hw k) (k0_cond7 v0 v1 v11 v15 k)
      (k0_off29 v0 v11 v15 k) (k0_off29_inb v0 v1 v11 v15 hw k) (k0_off30 v0 v11 v15 k) (k0_off30_inb v0 v1 v11 v15 hw k)
      (k0_off31 v0 v11 v15 k) (k0_off31_inb v0 v1 v11 v15 hw k) acc from rfl)
    (tripG_eq _ _ _ _ _ acc _ _ _ _ _ _ _ _ _ _ _ _ (off25_eq h k) (off26_eq h k) (off27_eq h k)
      ((off29_eq h k).trans (by rw [Nat.add_mod_right])) ((off30_eq h k).trans (by rw [Nat.add_mod_right])) (off31_eq h k))

/-- The ninety-six rows from `o` on, as the body loads them. -/
def blk (c : Dev nD) (fg : Bf (F := F) c gM) (o : Row) : Vec F S1x96x128 .i32 :=
  shapeCast S1x96x128 ((srcO o).view.read (Elt F) fg) (by decide)

/-- A slot's elements are its rectangle's. -/
theorem rslotK_set (k : Fin 16) :
    (rslotK k).view.set = (Rect.unit (s := S16x96x128) ![k.val, 0, 0] S1x96x128.size (inb3 k.val k.isLt)).set :=
  (View.set_reshape _ _).trans (View.set_slice_whole _ _)

/-- A load of the slot's rectangle through the whole ring, after the rows from `o` on have arrived, reads them. -/
theorem landed_read (c : Dev nD) (fg : Bf (F := F) c gM) (s : Fin 16) (o : Row) (f : (rslotK s).view.ty.Contents (Elt F)) :
    ringM.view.readAt (Elt F) (Rect.unit (s := S16x96x128) ![s.val, 0, 0] S1x96x128.size (inb3 s.val s.isLt)).toLoadRect
      ((rslotK s).view.writes (Elt F) f [⟨Rect.whole S96x128, ReadAs.same.apply ((srcO o).view.read (Elt F) fg)⟩]) = blk c fg o := by
  have h := View.read_writes_whole (rslotK s).view f (ReadAs.same.apply ((srcO o).view.read (Elt F) fg))
  have e : ∀ g, (rslotK s).view.read (Elt F) g
      = shapeCast S96x128 (ringM.view.readAt (Elt F) (Rect.unit (s := S16x96x128) ![s.val, 0, 0] S1x96x128.size (inb3 s.val s.isLt)).toLoadRect g) (by show S1x96x128.ShapeCasts S96x128; decide) :=
    fun _ => rfl
  have h2 := (e _).symm.trans h
  exact (shapeCast_shapeCast _ _ _).symm.trans (congrArg (fun v => shapeCast S1x96x128 v (by decide)) h2)

/-- The flag word. -/
def flag (c : Dev nD) (fx : Bf (F := F) c exM) : BitVec 32 := fx (ValueIdx.ix1 0)

theorem flag_read (c : Dev nD) (fx : Bf (F := F) c exM) :
    exM.view.readAt (Elt F) (Rect.unit (s := S1) ![0] S1.size inb_S1_S1_0).toLoadRect fx (Shape.Idx.first (by decide)) = flag c fx := by
  unfold flag
  show fx _ = fx _
  congr 1
  funext a; fin_cases a; rfl

/-- One trip: the slot's rows arrive, their product is added, and the slot is free again or being filled anew. -/
theorem run_trip (c : Dev nD) (fg : Bf (F := F) c gM) (fx : Bf (F := F) c exM) (st : Fin 16 → Option Row)
    (s : Fin 16) (o : Row) (hst : st s = some o) (b : BitVec 1) (o' : b = 1#1 → Row) (acc : FVec F S128x160 .f32)
    (W : Waits sig Unit) (Q : FVec F S128x160 .f32 → sProp 𝕄) :
    iprop(Ring.AtW (slotS c fg) st ∗ pt c exM fx ∗ owes (c : Thread nD τ) 0 W
        ∗ ((Ring.AtW (slotS c fg) (Function.update st s (if h : b = 1#1 then some (o' h) else none)) ∗ pt c exM fx ∗ ∃ W, owes (c : Thread nD τ) 0 W)
            -∗ Q (k0_pay8 acc (prod (flag c fx) (blk c fg o)))))
      ⊢ wp frame (wpE (defs₀ (F := F)) Variants.none c none) Set.univ (tripN s o b o' acc) Q := by
  rw [Ring.AtW_focus (slotS c fg) st s, hst]
  have hS : (ringM.access (Rect.unit (s := S16x96x128) ![s.val, 0, 0] S1x96x128.size (inb3 s.val s.isLt))).set ⊆ (rslotK s).view.set := by
    rw [rslotK_set]; exact (View.set_slice_whole _ _).le
  unfold tripN prod
  by_cases hb : b = 1#1
  · rw [dif_pos hb]
    rw [show slotS c fg s (some o) = fillS c fg s o from rfl]
    iintro ⟨⟨⟨⟨%f, Hfl⟩, Htok⟩, Hrest⟩, Hx, HO, Hk⟩
    sl_exec
    have hr : run_trip.sl.r c fx = flag c fx := flag_read c fx
    have hv : run_trip.sl.v84 c fg s o = blk c fg o := landed_read c fg s o _
    rw [hr, hv]
    by_cases hx : Scalar.cmpi .ne (Scalar.extui (Scalar.cmpi .eq (flag c fx) 0#32)) 0#32 = 1#1
    · rw [if_pos hx]
      sl_exec
      sl_step
      iapply Hk
      isplitr [Hx HO]
      · iapply (Ring.AtW_update (slotS c fg) st s (some (o' hb)))
        isplitr [Hrest]
        · rw [show slotS c fg s (some (o' hb)) = fillS c fg s (o' hb) from rfl]
          isplitl [Hfl]
          · iexists _; iexact Hfl
          · iexact Htok
        · iexact Hrest
      · isplitl [Hx]; · iexact Hx
        iexists _; iexact HO
    · rw [if_neg hx]
      sl_exec
      sl_step
      iapply Hk
      isplitr [Hx HO]
      · iapply (Ring.AtW_update (slotS c fg) st s (some (o' hb)))
        isplitr [Hrest]
        · rw [show slotS c fg s (some (o' hb)) = fillS c fg s (o' hb) from rfl]
          isplitl [Hfl]
          · iexists _; iexact Hfl
          · iexact Htok
        · iexact Hrest
      · isplitl [Hx]; · iexact Hx
        iexists _; iexact HO
  · rw [dif_neg hb]
    rw [show slotS c fg s (some o) = fillS c fg s o from rfl]
    iintro ⟨⟨⟨⟨%f, Hfl⟩, Htok⟩, Hrest⟩, Hx, HO, Hk⟩
    sl_exec
    have hr : run_trip.sl.r_1 c fx = flag c fx := flag_read c fx
    have hv : run_trip.sl.v84_1 c fg s o = blk c fg o := landed_read c fg s o _
    rw [hr, hv]
    by_cases hx : Scalar.cmpi .ne (Scalar.extui (Scalar.cmpi .eq (flag c fx) 0#32)) 0#32 = 1#1
    · rw [if_pos hx]
      sl_exec
      sl_step
      iapply Hk
      isplitr [Hx HO]
      · iapply (Ring.AtW_update (slotS c fg) st s none)
        isplitr [Hrest]
        · rw [show slotS c fg s none = freeS c fg s from rfl]
          isplitl [Hfl]; · iexact Hfl
          isplitl [Hfl_dst]; · iexists _; iexact Hfl_dst
          iexact Htok
        · iexact Hrest
      · isplitl [Hx]; · iexact Hx
        iexists _; iexact HO
    · rw [if_neg hx]
      sl_exec
      sl_step
      iapply Hk
      isplitr [Hx HO]
      · iapply (Ring.AtW_update (slotS c fg) st s none)
        isplitr [Hrest]
        · rw [show slotS c fg s none = freeS c fg s from rfl]
          isplitl [Hfl]; · iexact Hfl
          isplitl [Hfl_dst]; · iexists _; iexact Hfl_dst
          iexact Htok
        · iexact Hrest
      · isplitl [Hx]; · iexact Hx
        iexists _; iexact HO

end Cert.Kernel0.Hand

end
-- ==== Proof.Chunk0.Trips.lean ====
/-
  The body's loops as invariants. Before step `p` of `T` the ring holds the steps `p` up to `min (p + 16) T`, step `x` in
  slot `x % 16`; a trip of a unit's loop moves the ring from step `p` to step `p + 1` and adds the step's product; a trip
  of the first grid point's loop starts one step's copy.
-/
module

public import proofs.«01_k».proof.Proof.Chunk0.Ring

@[expose] public section

set_option maxRecDepth 65536

noncomputable section

namespace Cert.Kernel0.Hand

open Cert.Kernel.Hand (UnitWords)
open Cert.Kernel0 Cert.Kernel0.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UU nD τ) ℕ

/-- The first row of step `x` (of the last step the tiles hold, when they hold no step `x`). -/
def rowT (x : ℕ) : Row := ⟨min (x * 96) 374304, by omega⟩

theorem rowT_eq {x : ℕ} (h : x * 96 + 96 ≤ 374400) : rowT x = ⟨x * 96, h⟩ := Subtype.ext (Nat.min_eq_left (by omega))

/-- The ring holding the steps from `lo` up to `hi`. -/
def stWin (lo hi : ℕ) : Fin 16 → Option Row := fun k => (Ring.inWin lo hi 16 k).map rowT
/-- The ring before step `p` of `T`. -/
def stAt (T p : ℕ) : Fin 16 → Option Row := stWin p (min (p + 16) T)

theorem map_update (f : Fin 16 → Option ℕ) (s : Fin 16) (a : Option ℕ) :
    (fun k => (Function.update f s a k).map rowT) = Function.update (fun k => (f k).map rowT) s (a.map rowT) := by
  funext k
  by_cases h : k = s
  · subst h; rw [Function.update_self, Function.update_self]
  · rw [Function.update_of_ne h, Function.update_of_ne h]

theorem stAt_at {T p : ℕ} (h : p < T) : stAt T p (Ring.sl 16 p) = some (rowT p) := by
  unfold stAt stWin
  rw [Ring.inWin_lo (by omega) (by omega)]; rfl

theorem stWin_push {lo hi : ℕ} (h1 : lo ≤ hi) (h2 : hi + 1 ≤ lo + 16) :
    stWin lo (hi + 1) = Function.update (stWin lo hi) (Ring.sl 16 hi) (some (rowT hi)) := by
  unfold stWin; rw [Ring.inWin_push h1 h2, map_update]; rfl

theorem stWin_pop {lo hi : ℕ} (h1 : lo < hi) (h2 : hi ≤ lo + 16) :
    stWin (lo + 1) hi = Function.update (stWin lo hi) (Ring.sl 16 lo) none := by
  unfold stWin; rw [Ring.inWin_pop h1 h2, map_update]; rfl

/-- One step further, a step sixteen further on being left. -/
theorem stAt_succ_more {T p : ℕ} (h : p + 16 < T) :
    stAt T (p + 1) = Function.update (stAt T p) (Ring.sl 16 p) (some (rowT (p + 16))) := by
  have hs : Ring.sl 16 (p + 16) = Ring.sl 16 p := Fin.ext (by rw [Ring.sl_val, Ring.sl_val, Nat.add_mod_right])
  unfold stAt
  rw [show min (p + 1 + 16) T = p + 16 + 1 from by omega, show min (p + 16) T = p + 16 from by omega,
    stWin_push (by omega) (by omega), stWin_pop (by omega) (by omega), hs, Function.update_idem]

/-- One step further near the end. -/
theorem stAt_succ_less {T p : ℕ} (h : p < T) (h' : ¬ p + 16 < T) :
    stAt T (p + 1) = Function.update (stAt T p) (Ring.sl 16 p) none := by
  unfold stAt
  rw [show min (p + 1 + 16) T = T from by omega, show min (p + 16) T = T from by omega, stWin_pop h (by omega)]

theorem stWin_empty (p q : ℕ) (h : q ≤ p) : stWin p q = fun _ => none := by
  funext k
  unfold stWin
  rw [(Ring.inWin_eq_none_iff (by omega) k).2 (fun x h1 h2 => absurd h1 (by omega))]; rfl

/-- The sum after `n` steps from step `A` on, from `z`. -/
def accN (c : Dev nD) (fg : Bf (F := F) c gM) (fx : Bf (F := F) c exM) (z : FVec F S128x160 .f32) (A : ℕ) : ℕ → FVec F S128x160 .f32
  | 0 => z
  | n + 1 => k0_pay8 (accN c fg fx z A n) (prod (flag c fx) (blk c fg (rowT (A + n))))

/-- The resources before step `p` of `T`: the ring, the flag word, the core's waits. -/
def ringAt (c : Dev nD) (fg : Bf (F := F) c gM) (fx : Bf (F := F) c exM) (T p : ℕ) : sProp 𝕄 :=
  iprop(Ring.AtW (slotS c fg) (stAt T p) ∗ pt c exM fx ∗ ∃ W, owes (c : Thread nD τ) 0 W)

theorem run_step (c : Dev nD) (fg : Bf (F := F) c gM) (fx : Bf (F := F) c exM) (T p : ℕ) (hp : p < T) (hT : T ≤ 3900)
    (s : Fin 16) (hs : s = Ring.sl 16 p) (o : Row) (ho : o = rowT p) (b : BitVec 1) (hb : b = 1#1 ↔ p + 16 < T)
    (o' : b = 1#1 → Row) (ho' : ∀ h, o' h = rowT (p + 16)) (acc : FVec F S128x160 .f32) (Q : FVec F S128x160 .f32 → sProp 𝕄) :
    iprop(ringAt c fg fx T p ∗ (ringAt c fg fx T (p + 1) -∗ Q (k0_pay8 acc (prod (flag c fx) (blk c fg (rowT p))))))
      ⊢ wp frame (wpE (defs₀ (F := F)) Variants.none c none) Set.univ (tripN s o b o' acc) Q := by
  subst hs ho
  have e : stAt T (p + 1) = Function.update (stAt T p) (Ring.sl 16 p) (if h : b = 1#1 then some (o' h) else none) := by
    by_cases h : b = 1#1
    · rw [dif_pos h, ho' h]; exact stAt_succ_more (hb.1 h)
    · rw [dif_neg h]; exact stAt_succ_less hp (fun h' => h (hb.2 h'))
  unfold ringAt
  iintro ⟨⟨HR, Hx, %W, HO⟩, Hk⟩
  iapply (run_trip c fg fx (stAt T p) _ _ (stAt_at hp) b o' acc W Q)
  isplitl [HR]; · iexact HR
  isplitl [Hx]; · iexact Hx
  isplitl [HO]; · iexact HO
  rw [← e]
  iexact Hk

section Loops

variable (c : Dev nD) (fg : Bf (F := F) c gM) (fx : Bf (F := F) c exM) (i : grid0.Coords) (arg5 : Memref sig .tc .vmem S160x256 .f32) (harg5 : arg5.IsWhole)

/-- The invariant of a unit's loop: the ring at the trip's step, the sum so far. -/
def unitInv (z : FVec F S128x160 .f32) (T A k : ℕ) (acc : FVec F S128x160 .f32) : sProp 𝕄 :=
  iprop(ringAt c fg fx T (A + k) ∗ ⌜acc = accN c fg fx z A k⌝)

set_option warn.classDefReducibility false in
/-- The loop over the second unit's steps. -/
@[sl_loop] def loopInv_t5 (v0 v1 v31 v35 : BitVec 32) (h : UnitWords v0 v1 v31 v35) (hw : k0_chk3 v0 v1 v31 v35) (z : FVec F S128x160 .f32) :
    LoopInvTy_k0_t5 (F := F) Unit ℕ (UU nD τ) ℕ Variants.none c none Set.univ i sbM (Memref.isWhole_whole _) exM (Memref.isWhole_whole _)
      gM (Memref.isWhole_whole _) arg5 harg5 ringM (Memref.isWhole_whole _) cc0_scratch1
      v0 v1 (iota .tc S128x256 32 [0] iota_S128x256_d0_w32) v31 (v31 - v0) v35 hw z where
  inv k acc := unitInv c fg fx z (v1 - v0).toNat (v31 - v0).toNat k acc
  step k acc := by
    have hk := (t5_iv h k).2
    have hbt := h.bt; have hle := h.le
    rw [t5_body_eq i arg5 harg5 h hw k acc]
    unfold unitInv
    iintro ⟨HR, %ha⟩
    iapply (run_step c fg fx (v1 - v0).toNat ((v31 - v0).toNat + k.val) (by omega) hle _ rfl _ (rowT_eq (by omega)).symm _ (cond7_iff h k) _
      (fun h7 => (rowT_eq (by have := (cond7_iff h k).1 h7; omega)).symm) acc)
    isplitl [HR]; · iexact HR
    iintro HR
    isplitl [HR]; · iexact HR
    ipureintro
    rw [ha]; rfl

set_option warn.classDefReducibility false in
/-- The loop over the first unit's steps: the same body. -/
@[sl_loop] def loopInv_t3 (v0 v1 v11 v15 : BitVec 32) (h : UnitWords v0 v1 v11 v15) (hw : k0_chk2 v0 v1 v11 v15) (z : FVec F S128x160 .f32) :
    LoopInvTy_k0_t3 (F := F) Unit ℕ (UU nD τ) ℕ Variants.none c none Set.univ i sbM (Memref.isWhole_whole _) exM (Memref.isWhole_whole _)
      gM (Memref.isWhole_whole _) arg5 harg5 ringM (Memref.isWhole_whole _) cc0_scratch1
      v0 v1 v11 (v11 - v0) v15 hw z where
  inv k acc := unitInv c fg fx z (v1 - v0).toNat (v11 - v0).toNat k acc
  step k acc := (loopInv_t5 c fg fx i arg5 harg5 v0 v1 v11 v15 h hw z).step k acc

end Loops

/-! ## The first grid point's loop -/

/-- A trip of it at any offsets. -/
def firstG (o1 : Fin 1 → ℕ) (h1 : ∀ a, o1 a + S1.size a ≤ S16.size a) (o2 : Fin 3 → ℕ) (h2 : ∀ a, o2 a + S1x96x128.size a ≤ S16x96x128.size a)
    (o3 : Fin 2 → ℕ) (h3 : ∀ a, o3 a + S96x128.size a ≤ S374400x128.size a) : Prog (TpuEff nD τ sig (Elt F) Λ₀ .tc) Unit := do
  Prog.lift (.enqueueDma (gM.slice (Rect.unit (s := S374400x128) o3 S96x128.size h3) (fun _ => rfl))
    (.here ((ringM.slice (Rect.unit (s := S16x96x128) o2 S1x96x128.size h2) (fun _ => rfl)).squeeze S96x128 squeezes_S1x96x128_S96x128))
    (.dma ((cc0_scratch1.slice (Rect.unit (s := S16) o1 S1.size h1)).squeeze S_ squeezes_S1_S_).sem)
    (View.wordExact_bits rfl) ((View.wordExact_bits rfl).reshape _ _) ⟨Or.inl rfl, trivial⟩)
  pure ⟨⟩

/-- A trip of it at slot `s`, starting the rows from `o` on. -/
def firstN (s : Fin 16) (o : Row) : Prog (TpuEff nD τ sig (Elt F) Λ₀ .tc) Unit :=
  firstG ![s.val] (inb1 s.val s.isLt) ![s.val, 0, 0] (inb3 s.val s.isLt) ![o.val, 0] (inbO o)

theorem firstG_eq (s : Fin 16) (o : Row) (o1 : Fin 1 → ℕ) (h1) (o2 : Fin 3 → ℕ) (h2) (o3 : Fin 2 → ℕ) (h3)
    (e1 : o1 = ![s.val]) (e2 : o2 = ![s.val, 0, 0]) (e3 : o3 = ![o.val, 0]) :
    firstG (F := F) o1 h1 o2 h2 o3 h3 = firstN s o := by
  subst e1 e2 e3
  rfl

theorem t1_body_eq (i : grid0.Coords) (arg5 : Memref sig .tc .vmem S160x256 .f32) (harg5 : arg5.IsWhole)
    {v0 v1 : BitVec 32} (h : (v1 - v0).toNat ≤ 3900) (hw : k0_chk1 i v0 v1) (h1 : k0_cond1 i = 1#1) (k : Fin (k0_t1_loop v0 v1).trips) (u : Unit) :
    k0_t1_body (F := F) i sbM (Memref.isWhole_whole _) exM (Memref.isWhole_whole _) gM (Memref.isWhole_whole _) arg5 harg5 ringM (Memref.isWhole_whole _) cc0_scratch1
        v0 v1 hw h1 k u
      = firstN ⟨k.val % 16, Nat.mod_lt _ (by decide)⟩ ⟨k.val * 96, by have := (t1_iv h k).2; omega⟩ :=
  Eq.trans (show _ = firstG (F := F) (k0_off1 v0 v1 k) (k0_off1_inb i v0 v1 hw k h1) (k0_off2 v0 v1 k) (k0_off2_inb i v0 v1 hw k h1)
      (k0_off3 v0 v1 k) (k0_off3_inb i v0 v1 hw k h1) from rfl)
    (firstG_eq _ _ _ _ _ _ _ _ (off1_eq h k) (off2_eq h k) (off3_eq h k))

/-- The trip starts a copy into a free slot. -/
theorem run_first (c : Dev nD) (fg : Bf (F := F) c gM) (st : Fin 16 → Option Row) (s : Fin 16) (o : Row) (hst : st s = none)
    (W : Waits sig Unit) (Q : Unit → sProp 𝕄) :
    iprop(Ring.AtW (slotS c fg) st ∗ owes (c : Thread nD τ) 0 W
        ∗ ((Ring.AtW (slotS c fg) (Function.update st s (some o)) ∗ ∃ W, owes (c : Thread nD τ) 0 W) -∗ Q ⟨⟩))
      ⊢ wp frame (wpE (defs₀ (F := F)) Variants.none c none) Set.univ (firstN s o) Q := by
  rw [Ring.AtW_focus (slotS c fg) st s, hst]
  rw [show slotS c fg s none = freeS c fg s from rfl]
  unfold firstN firstG
  iintro ⟨⟨⟨Hfl, ⟨%f, Hdst⟩, Htok⟩, Hrest⟩, HO, Hk⟩
  sl_exec
  sl_step
  iapply Hk
  isplitr [HO]
  · iapply (Ring.AtW_update (slotS c fg) st s (some o))
    isplitr [Hrest]
    · rw [show slotS c fg s (some o) = fillS c fg s o from rfl]
      isplitl [Hfl]
      · iexists _; iexact Hfl
      · iexact Htok
    · iexact Hrest
  · iexists _; iexact HO

theorem stWin_free (k : ℕ) (h : k < 16) : stWin 0 k (Ring.sl 16 k) = none := by
  unfold stWin
  rw [Ring.inWin_hi (by omega) (by omega)]; rfl

set_option warn.classDefReducibility false in
/-- The first grid point's loop: before trip `k` the first `k` slots are being filled. -/
@[sl_loop] def loopInv_t1 (c : Dev nD) (fg : Bf (F := F) c gM) (i : grid0.Coords) (arg5 : Memref sig .tc .vmem S160x256 .f32) (harg5 : arg5.IsWhole)
    (v0 v1 : BitVec 32) (h : (v1 - v0).toNat ≤ 3900) (hw : k0_chk1 i v0 v1) (h1 : k0_cond1 i = 1#1) :
    LoopInvTy_k0_t1 (F := F) Unit ℕ (UU nD τ) ℕ Variants.none c none Set.univ i sbM (Memref.isWhole_whole _) exM (Memref.isWhole_whole _)
      gM (Memref.isWhole_whole _) arg5 harg5 ringM (Memref.isWhole_whole _) cc0_scratch1 v0 v1 hw h1 where
  inv k _ := iprop(Ring.AtW (slotS c fg) (stWin 0 k) ∗ ∃ W, owes (c : Thread nD τ) 0 W)
  step k u := by
    have hk := (t1_iv h k).2
    rw [t1_body_eq i arg5 harg5 h hw h1 k u]
    iintro ⟨HR, %W, HO⟩
    iapply (run_first c fg (stWin 0 k.val) _ _ (stWin_free k.val (by omega)) W)
    isplitl [HR]; · iexact HR
    isplitl [HO]; · iexact HO
    iintro H
    rw [stWin_push (by omega) (by omega), rowT_eq (x := k.val) (by omega)]
    iexact H

end Cert.Kernel0.Hand

end
-- ==== Proof.Chunk0.Body.lean ====
/-
  The whole body at a grid point: at the first point the ring is filled, then the two units' loops run and their sums go,
  transposed, to the left and the right half of the output block.
-/
module

public import proofs.«01_k».proof.Proof.Chunk0.Trips

@[expose] public section

set_option maxRecDepth 65536

noncomputable section

namespace Cert.Kernel0.Hand

open Cert.Kernel.Hand (UnitWords)
open Cert.Kernel0 Cert.Kernel0.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UU nD τ) ℕ

/-- Word `n` of the step table. -/
def word (c : Dev nD) (fs : Bf (F := F) c sbM) (n : Fin 897) : BitVec 32 := fs (ValueIdx.ix1 n)

theorem word_read (c : Dev nD) (fs : Bf (F := F) c sbM) (off : Fin 1 → ℕ) (h) (n : Fin 897) (hn : off = ![n.val]) :
    sbM.view.readAt (Elt F) (Rect.unit (s := S897) off S1.size h).toLoadRect fs (Shape.Idx.first (by show 0 < S1.numel; decide)) = word c fs n := by
  subst hn
  unfold word
  show fs _ = fs _
  congr 1
  funext a; fin_cases a; rfl

/-- Where unit `u` begins among the chunk's steps. -/
def pos (c : Dev nD) (fs : Bf (F := F) c sbM) (u : ℕ) : ℕ :=
  if h : 0 + u < 897 then (word c fs ⟨0 + u, h⟩ - word c fs ⟨0, by decide⟩).toNat else 0

/-- The table's words of the chunk are in order and stay inside the packed tiles. -/
structure Ordered (c : Dev nD) (fs : Bf (F := F) c sbM) : Prop where
  mono : ∀ u, u < 224 → pos c fs u ≤ pos c fs (u + 1)
  le : ∀ u, u ≤ 224 → pos c fs u ≤ 3900

/-- The ring before point `r`: free before the first one. -/
def stPt (c : Dev nD) (fs : Bf (F := F) c sbM) (r : ℕ) : Fin 16 → Option Row :=
  if r = 0 then fun _ => none else stAt (pos c fs 224) (pos c fs (2 * r))

/-- The sum of unit `u`'s steps' products, from `z`. -/
def unitAcc (c : Dev nD) (fs : Bf (F := F) c sbM) (fg : Bf (F := F) c gM) (fx : Bf (F := F) c exM) (z : FVec F S128x160 .f32) (u : ℕ) : FVec F S128x160 .f32 :=
  accN c fg fx z (pos c fs u) (pos c fs (u + 1) - pos c fs u)

/-- Words with those positions are a unit's. -/
theorem unitWords {c : Dev nD} {fs : Bf (F := F) c sbM} (hO : Ordered c fs) (u : ℕ) (hu : u < 224) {v0 v1 v11 v15 : BitVec 32}
    (h0 : v0 = word c fs ⟨0, by decide⟩) (h1 : v1 = word c fs ⟨224, by decide⟩)
    (h11 : v11 = word c fs ⟨0 + u, by omega⟩) (h15 : v15 = word c fs ⟨0 + (u + 1), by omega⟩) :
    UnitWords v0 v1 v11 v15 ∧ (v1 - v0).toNat = pos c fs 224 ∧ (v11 - v0).toNat = pos c fs u ∧ (v15 - v0).toNat = pos c fs (u + 1) := by
  have e1 : (v1 - v0).toNat = pos c fs 224 := by subst h0 h1; unfold pos; rw [dif_pos (by omega)]
  have e11 : (v11 - v0).toNat = pos c fs u := by subst h0 h11; unfold pos; rw [dif_pos (by omega)]
  have e15 : (v15 - v0).toNat = pos c fs (u + 1) := by subst h0 h15; unfold pos; rw [dif_pos (by omega)]
  refine ⟨⟨?_, ?_, ?_⟩, e1, e11, e15⟩
  · rw [e11, e15]; exact hO.mono u hu
  · rw [e15, e1]
    have : ∀ n, u + 1 + n ≤ 224 → pos c fs (u + 1) ≤ pos c fs (u + 1 + n) := by
      intro n
      induction n with
      | zero => intro _; exact le_rfl
      | succ n ih => intro h; exact (ih (by omega)).trans (hO.mono _ (by omega))
    have h := this (224 - (u + 1)) (by omega)
    rwa [show u + 1 + (224 - (u + 1)) = 224 from by omega] at h
  · rw [e1]; exact hO.le 224 le_rfl

/-- The output block's two stores: the second unit's sum in the right half, the first unit's in the left half. -/
def outPieces (c : Dev nD) (fs : Bf (F := F) c sbM) (fg : Bf (F := F) c gM) (fx : Bf (F := F) c exM) (r : ℕ) : List (View.Piece (Elt F) S160x256 .f32) :=
  [⟨Rect.unit (s := S160x256) ![0, 128] S160x128.size inb_S160x256_S160x128_0_128, k0_pay16 (unitAcc c fs fg fx (k0_pay1 (F := F)) (2 * r + 1))⟩,
    ⟨Rect.unit (s := S160x256) ![0, 0] S160x128.size inb_S160x256_S160x128_0_0, k0_pay32 (unitAcc c fs fg fx (k0_pay17 (F := F)) (2 * r))⟩]

/-- The body at a later grid point. -/
theorem body_run1 (c : Dev nD) (fs : Bf (F := F) c sbM) (fg : Bf (F := F) c gM) (fx : Bf (F := F) c exM) (hO : Ordered c fs) (i : grid0.Coords) (hi : (i 0).val ≠ 0) (arg5 : Memref sig .tc .vmem S160x256 .f32) (harg5 : arg5.IsWhole)
    (fo : Bf (F := F) c arg5) (Q : PUnit → sProp 𝕄) :
    iprop(Ring.AtW (slotS c fg) (stPt c fs (i 0).val) ∗ pt c exM fx ∗ pt c sbM fs ∗ (∃ W, owes (c : Thread nD τ) 0 W) ∗ pt c arg5 fo
        ∗ ((Ring.AtW (slotS c fg) (stPt c fs ((i 0).val + 1)) ∗ pt c exM fx ∗ pt c sbM fs ∗ (∃ W, owes (c : Thread nD τ) 0 W)
             ∗ pt c arg5 (arg5.view.writes (Elt F) fo (outPieces c fs fg fx (i 0).val))) -∗ Q ⟨⟩))
      ⊢ wp frame (wpE (defs₀ (F := F)) Variants.none c none) Set.univ
          (cc0_pool (F := F) i sbM (Memref.isWhole_whole _) exM (Memref.isWhole_whole _) gM (Memref.isWhole_whole _) arg5 harg5 ringM (Memref.isWhole_whole _) cc0_scratch1) Q := by
  rw [cc0_pool_eq_skeleton]
  unfold cc0_pool_skel
  rw [k0_part5_eq_skeleton]
  unfold k0_part5_skel
  iintro ⟨HR, Hx, Hs, ⟨%W, HO⟩, Ho, Hk⟩
  sl_exec
  have hlt : (i 0).val < 112 := (i 0).isLt
  have hc : ¬ k0_cond1 i = 1#1 := fun h => hi ((cond1_iff i).1 h)
  have h0 : body_run1.sl.r c fs = word c fs ⟨0, by decide⟩ := word_read c fs _ _ _ rfl
  have h1 : body_run1.sl.r_1 c fs = word c fs ⟨224, by decide⟩ := word_read c fs _ _ _ rfl
  generalize body_run1.sl.r c fs = v0 at h0 ⊢
  generalize body_run1.sl.r_1 c fs = v1 at h1 ⊢
  have hw1 : k0_chk1 i v0 v1 := chk1 i (unitWords hO 0 (by omega) h0 h1 rfl rfl).1.le
  sl_exec
  rw [show body_run1.sl.v12 c fs i v0 = body_run1.sl.r_2 c fs i - v0 from rfl]
  have h2 : body_run1.sl.r_2 c fs i = word c fs ⟨0 + 2 * (i 0).val, by omega⟩ := word_read c fs _ _ _ (off7_eq i)
  have h3 : body_run1.sl.r_3 c fs i = word c fs ⟨0 + (2 * (i 0).val + 1), by omega⟩ := word_read c fs _ _ _ (off8_eq i)
  generalize body_run1.sl.r_2 c fs i = v11 at h2 ⊢
  generalize body_run1.sl.r_3 c fs i = v15 at h3 ⊢
  obtain ⟨hU, eT, eA, eB⟩ := unitWords hO (2 * (i 0).val) (by omega) h0 h1 h2 h3
  have hw2 : k0_chk2 v0 v1 v11 v15 := chk2 hU
  have e0 : stPt c fs (i 0).val = stAt (v1 - v0).toNat ((v11 - v0).toNat + 0) := by
    unfold stPt; rw [if_neg hi, eT, eA]; rfl
  rw [e0]
  let L := loopInv_t3 c fg fx i arg5 harg5 v0 v1 v11 v15 hU hw2 (k0_pay17 (F := F))
  sl_exec
  rw [bind_assoc]
  sl_exec
  rw [bind_assoc]
  sl_exec
  rw [show body_run1.sl.v32 c fs i v0 = body_run1.sl.r_4 c fs i - v0 from rfl]
  have h4 : body_run1.sl.r_4 c fs i = word c fs ⟨0 + (2 * (i 0).val + 1), by omega⟩ := word_read c fs _ _ _ (off23_eq i)
  have h5 : body_run1.sl.r_5 c fs i = word c fs ⟨0 + (2 * (i 0).val + 2), by omega⟩ := word_read c fs _ _ _ (off24_eq i)
  generalize body_run1.sl.r_4 c fs i = v31 at h4 ⊢
  generalize body_run1.sl.r_5 c fs i = v35 at h5 ⊢
  obtain ⟨hV, -, eC, eD⟩ := unitWords hO (2 * (i 0).val + 1) (by omega) h0 h1 h4 h5
  have hw3 : k0_chk3 v0 v1 v31 v35 := chk3 hV
  have hT3 : (k0_t3_loop v0 v11 v15).trips = pos c fs (2 * (i 0).val + 1) - pos c fs (2 * (i 0).val) := by
    rw [← eA, ← eB]; exact t5_trips hU
  have e1 : stAt (v1 - v0).toNat ((v11 - v0).toNat + (k0_t3_loop v0 v11 v15).trips) = stAt (v1 - v0).toNat ((v31 - v0).toNat + 0) := by
    have := hO.mono (2 * (i 0).val) (by omega)
    rw [hT3, eA, eC, Nat.add_sub_cancel' this]; rfl
  rw [show stAt (v1 - v0).toNat ((v11 - v0).toNat + Scf.trips (k0_t3_loop v0 v11 v15).lb (k0_t3_loop v0 v11 v15).ub (k0_t3_loop v0 v11 v15).st) = _ from e1]
  let L' := loopInv_t5 c fg fx i arg5 harg5 v0 v1 v31 v35 hV hw3 (k0_pay1 (F := F))
  sl_exec
  have hT5 : (k0_t5_loop v0 v31 v35).trips = pos c fs (2 * (i 0).val + 1 + 1) - pos c fs (2 * (i 0).val + 1) := by
    rw [← eC, ← eD]; exact t5_trips hV
  have e2 : stAt (v1 - v0).toNat ((v31 - v0).toNat + (k0_t5_loop v0 v31 v35).trips) = stPt c fs ((i 0).val + 1) := by
    have := hO.mono (2 * (i 0).val + 1) (by omega)
    unfold stPt
    rw [hT5, eC, eT, Nat.add_sub_cancel' this, if_neg (by omega)]; rfl
  have e3 : accN c fg fx (k0_pay1 (F := F)) (v31 - v0).toNat (k0_t5_loop v0 v31 v35).trips = unitAcc c fs fg fx k0_pay1 (2 * (i 0).val + 1) := by
    rw [hT5, eC]; rfl
  have e4 : accN c fg fx (k0_pay17 (F := F)) (v11 - v0).toNat (k0_t3_loop v0 v11 v15).trips = unitAcc c fs fg fx k0_pay17 (2 * (i 0).val) := by
    rw [hT3, eA]; rfl
  rw [show stAt (v1 - v0).toNat ((v31 - v0).toNat + Scf.trips (k0_t5_loop v0 v31 v35).lb (k0_t5_loop v0 v31 v35).ub (k0_t5_loop v0 v31 v35).st) = _ from e2,
    show accN c fg fx (k0_pay1 (F := F)) (v31 - v0).toNat (Scf.trips (k0_t5_loop v0 v31 v35).lb (k0_t5_loop v0 v31 v35).ub (k0_t5_loop v0 v31 v35).st) = _ from e3,
    show accN c fg fx (k0_pay17 (F := F)) (v11 - v0).toNat (Scf.trips (k0_t3_loop v0 v11 v15).lb (k0_t3_loop v0 v11 v15).ub (k0_t3_loop v0 v11 v15).st) = _ from e4]
  sl_step
  iapply Hk
  isplitl [HR]; · iexact HR
  isplitl [Hx]; · iexact Hx
  isplitl [Hs]; · iexact Hs
  isplitl [HO]; · iexists _; iexact HO
  iexact Ho

/-- The body at the first grid point. -/
theorem body_run0 (c : Dev nD) (fs : Bf (F := F) c sbM) (fg : Bf (F := F) c gM) (fx : Bf (F := F) c exM) (hO : Ordered c fs) (i : grid0.Coords) (hi : (i 0).val = 0) (arg5 : Memref sig .tc .vmem S160x256 .f32) (harg5 : arg5.IsWhole)
    (fo : Bf (F := F) c arg5) (Q : PUnit → sProp 𝕄) :
    iprop(Ring.AtW (slotS c fg) (stPt c fs (i 0).val) ∗ pt c exM fx ∗ pt c sbM fs ∗ (∃ W, owes (c : Thread nD τ) 0 W) ∗ pt c arg5 fo
        ∗ ((Ring.AtW (slotS c fg) (stPt c fs ((i 0).val + 1)) ∗ pt c exM fx ∗ pt c sbM fs ∗ (∃ W, owes (c : Thread nD τ) 0 W)
             ∗ pt c arg5 (arg5.view.writes (Elt F) fo (outPieces c fs fg fx (i 0).val))) -∗ Q ⟨⟩))
      ⊢ wp frame (wpE (defs₀ (F := F)) Variants.none c none) Set.univ
          (cc0_pool (F := F) i sbM (Memref.isWhole_whole _) exM (Memref.isWhole_whole _) gM (Memref.isWhole_whole _) arg5 harg5 ringM (Memref.isWhole_whole _) cc0_scratch1) Q := by
  rw [cc0_pool_eq_skeleton]
  unfold cc0_pool_skel
  rw [k0_part5_eq_skeleton]
  unfold k0_part5_skel
  iintro ⟨HR, Hx, Hs, ⟨%W, HO⟩, Ho, Hk⟩
  sl_exec
  have hlt : (i 0).val < 112 := (i 0).isLt
  have hc : k0_cond1 i = 1#1 := (cond1_iff i).2 hi
  have h0 : body_run0.sl.r c fs = word c fs ⟨0, by decide⟩ := word_read c fs _ _ _ rfl
  have h1 : body_run0.sl.r_1 c fs = word c fs ⟨224, by decide⟩ := word_read c fs _ _ _ rfl
  generalize body_run0.sl.r c fs = v0 at h0 ⊢
  generalize body_run0.sl.r_1 c fs = v1 at h1 ⊢
  have hle : (v1 - v0).toNat ≤ 3900 := (unitWords hO 0 (by omega) h0 h1 rfl rfl).1.le
  have hw1 : k0_chk1 i v0 v1 := chk1 i hle
  rw [show stPt c fs (i 0).val = stWin 0 0 from by rw [stWin_empty 0 0 le_rfl]; unfold stPt; rw [if_pos hi]]
  let L0 := loopInv_t1 c fg i arg5 harg5 v0 v1 hle hw1 hc
  sl_exec
  rw [bind_assoc]
  sl_exec
  rw [bind_assoc]
  sl_exec
  rw [show body_run0.sl.v12 c fs i v0 = body_run0.sl.r_2 c fs i - v0 from rfl]
  have h2 : body_run0.sl.r_2 c fs i = word c fs ⟨0 + 2 * (i 0).val, by omega⟩ := word_read c fs _ _ _ (off7_eq i)
  have h3 : body_run0.sl.r_3 c fs i = word c fs ⟨0 + (2 * (i 0).val + 1), by omega⟩ := word_read c fs _ _ _ (off8_eq i)
  generalize body_run0.sl.r_2 c fs i = v11 at h2 ⊢
  generalize body_run0.sl.r_3 c fs i = v15 at h3 ⊢
  obtain ⟨hU, eT, eA, eB⟩ := unitWords hO (2 * (i 0).val) (by omega) h0 h1 h2 h3
  have hw2 : k0_chk2 v0 v1 v11 v15 := chk2 hU
  have hA0 : (v11 - v0).toNat = 0 := by
    rw [eA, hi]; unfold pos; rw [dif_pos (by decide)]; simp
  have e0 : stWin 0 (k0_t1_loop v0 v1).trips = stAt (v1 - v0).toNat ((v11 - v0).toNat + 0) := by
    rw [t1_trips hle, hA0]
    show stWin 0 (min _ 16) = stWin 0 (min 16 _)
    rw [Nat.min_comm]
  rw [show stWin 0 (Scf.trips (k0_t1_loop v0 v1).lb (k0_t1_loop v0 v1).ub (k0_t1_loop v0 v1).st) = _ from e0]
  let L := loopInv_t3 c fg fx i arg5 harg5 v0 v1 v11 v15 hU hw2 (k0_pay17 (F := F))
  sl_exec
  rw [bind_assoc]
  sl_exec
  rw [bind_assoc]
  sl_exec
  rw [show body_run0.sl.v32 c fs i v0 = body_run0.sl.r_4 c fs i - v0 from rfl]
  have h4 : body_run0.sl.r_4 c fs i = word c fs ⟨0 + (2 * (i 0).val + 1), by omega⟩ := word_read c fs _ _ _ (off23_eq i)
  have h5 : body_run0.sl.r_5 c fs i = word c fs ⟨0 + (2 * (i 0).val + 2), by omega⟩ := word_read c fs _ _ _ (off24_eq i)
  generalize body_run0.sl.r_4 c fs i = v31 at h4 ⊢
  generalize body_run0.sl.r_5 c fs i = v35 at h5 ⊢
  obtain ⟨hV, -, eC, eD⟩ := unitWords hO (2 * (i 0).val + 1) (by omega) h0 h1 h4 h5
  have hw3 : k0_chk3 v0 v1 v31 v35 := chk3 hV
  have hT3 : (k0_t3_loop v0 v11 v15).trips = pos c fs (2 * (i 0).val + 1) - pos c fs (2 * (i 0).val) := by
    rw [← eA, ← eB]; exact t5_trips hU
  have e1 : stAt (v1 - v0).toNat ((v11 - v0).toNat + (k0_t3_loop v0 v11 v15).trips) = stAt (v1 - v0).toNat ((v31 - v0).toNat + 0) := by
    have := hO.mono (2 * (i 0).val) (by omega)
    rw [hT3, eA, eC, Nat.add_sub_cancel' this]; rfl
  rw [show stAt (v1 - v0).toNat ((v11 - v0).toNat + Scf.trips (k0_t3_loop v0 v11 v15).lb (k0_t3_loop v0 v11 v15).ub (k0_t3_loop v0 v11 v15).st) = _ from e1]
  let L' := loopInv_t5 c fg fx i arg5 harg5 v0 v1 v31 v35 hV hw3 (k0_pay1 (F := F))
  sl_exec
  have hT5 : (k0_t5_loop v0 v31 v35).trips = pos c fs (2 * (i 0).val + 1 + 1) - pos c fs (2 * (i 0).val + 1) := by
    rw [← eC, ← eD]; exact t5_trips hV
  have e2 : stAt (v1 - v0).toNat ((v31 - v0).toNat + (k0_t5_loop v0 v31 v35).trips) = stPt c fs ((i 0).val + 1) := by
    have := hO.mono (2 * (i 0).val + 1) (by omega)
    unfold stPt
    rw [hT5, eC, eT, Nat.add_sub_cancel' this, if_neg (by omega)]; rfl
  have e3 : accN c fg fx (k0_pay1 (F := F)) (v31 - v0).toNat (k0_t5_loop v0 v31 v35).trips = unitAcc c fs fg fx k0_pay1 (2 * (i 0).val + 1) := by
    rw [hT5, eC]; rfl
  have e4 : accN c fg fx (k0_pay17 (F := F)) (v11 - v0).toNat (k0_t3_loop v0 v11 v15).trips = unitAcc c fs fg fx k0_pay17 (2 * (i 0).val) := by
    rw [hT3, eA]; rfl
  rw [show stAt (v1 - v0).toNat ((v31 - v0).toNat + Scf.trips (k0_t5_loop v0 v31 v35).lb (k0_t5_loop v0 v31 v35).ub (k0_t5_loop v0 v31 v35).st) = _ from e2,
    show accN c fg fx (k0_pay1 (F := F)) (v31 - v0).toNat (Scf.trips (k0_t5_loop v0 v31 v35).lb (k0_t5_loop v0 v31 v35).ub (k0_t5_loop v0 v31 v35).st) = _ from e3,
    show accN c fg fx (k0_pay17 (F := F)) (v11 - v0).toNat (Scf.trips (k0_t3_loop v0 v11 v15).lb (k0_t3_loop v0 v11 v15).ub (k0_t3_loop v0 v11 v15).st) = _ from e4]
  sl_step
  iapply Hk
  isplitl [HR]; · iexact HR
  isplitl [Hx]; · iexact Hx
  isplitl [Hs]; · iexact Hs
  isplitl [HO]; · iexists _; iexact HO
  iexact Ho

/-- The body at any grid point. -/
theorem body_run (c : Dev nD) (fs : Bf (F := F) c sbM) (fg : Bf (F := F) c gM) (fx : Bf (F := F) c exM) (hO : Ordered c fs) (i : grid0.Coords) (arg5 : Memref sig .tc .vmem S160x256 .f32) (harg5 : arg5.IsWhole)
    (fo : Bf (F := F) c arg5) (Q : PUnit → sProp 𝕄) :
    iprop(Ring.AtW (slotS c fg) (stPt c fs (i 0).val) ∗ pt c exM fx ∗ pt c sbM fs ∗ (∃ W, owes (c : Thread nD τ) 0 W) ∗ pt c arg5 fo
        ∗ ((Ring.AtW (slotS c fg) (stPt c fs ((i 0).val + 1)) ∗ pt c exM fx ∗ pt c sbM fs ∗ (∃ W, owes (c : Thread nD τ) 0 W)
             ∗ pt c arg5 (arg5.view.writes (Elt F) fo (outPieces c fs fg fx (i 0).val))) -∗ Q ⟨⟩))
      ⊢ wp frame (wpE (defs₀ (F := F)) Variants.none c none) Set.univ
          (cc0_pool (F := F) i sbM (Memref.isWhole_whole _) exM (Memref.isWhole_whole _) gM (Memref.isWhole_whole _) arg5 harg5 ringM (Memref.isWhole_whole _) cc0_scratch1) Q := by
  by_cases hi : (i 0).val = 0
  · exact body_run0 c fs fg fx hO i hi arg5 harg5 fo Q
  · exact body_run1 c fs fg fx hO i hi arg5 harg5 fo Q

end Cert.Kernel0.Hand

end
-- ==== Proof.Chunk0.Pre.lean ====
/- What the precondition `steps_in_order0` says, in plain words: the step table of the chunk is in order and stays inside
   the packed tiles, and either the weights are used as they are (`exact` is zero) or every one of them is finite. -/
module

public import proofs.«01_k».proof.Pre_steps_in_order0
public import proofs.«01_k».proof.Proof.Gen.Pre_steps_in_order0
public import proofs.«01_k».proof.Proof.Pre
public import Idealize.ShloMosaic.Lib.Pipeline.Value
public import Idealize.ShloMosaic.Lib.ValueIdx

@[expose] public section

set_option maxRecDepth 65536

noncomputable section

namespace Cert.Hand0

open Idealize.ShloMosaic Idealize.ShloMosaic.Pipeline Idealize.ShloMosaic.ValueIdx
open Cert.Hand (andi_ofBool ori_ofBool ofBool_eq_one)
open Cert.Pre_steps_in_order0

variable {F : FTy → Type} [FloatOps F]

/-- The precondition, decoded: for every unit the chunk's step words, counted from the chunk's first one, are in order and
    at most 3900, and `exact` is zero or the weight word of every tile and lane has an exponent that is not all ones. -/
theorem decoded (a0 : IVec S897 32) (a1 : IVec S1 32) (a2 : IVec S374400x128 32)
    (h : Cert.Pre_steps_in_order0.fn (F := F) a0 a1 a2 = fun _ => 1#1) :
    (∀ u : Fin 224, (a0 (ix1 ⟨0 + u.val, by omega⟩) - a0 (ix1 ⟨0, by decide⟩)).sle (a0 (ix1 ⟨1 + u.val, by omega⟩) - a0 (ix1 ⟨0, by decide⟩)) = true
        ∧ (a0 (ix1 ⟨1 + u.val, by omega⟩) - a0 (ix1 ⟨0, by decide⟩)).sle 3900#32 = true)
    ∧ ∀ (t : Fin 7800) (l : Fin 128), a1 (ix1 0) = 0#32 ∨ a2 (ix2 ⟨48 * t.val + 40, by omega⟩ l) &&& 2139095040#32 ≠ 2139095040#32 := by
  have key : ∀ (u : Fin 224) (t : Fin 7800) (l : Fin 128),
      ((a0 (ix1 ⟨0 + u.val, by omega⟩) - a0 (ix1 ⟨0, by decide⟩)).sle (a0 (ix1 ⟨1 + u.val, by omega⟩) - a0 (ix1 ⟨0, by decide⟩)) = true
        ∧ (a0 (ix1 ⟨1 + u.val, by omega⟩) - a0 (ix1 ⟨0, by decide⟩)).sle 3900#32 = true)
      ∧ (a1 (ix1 0) = 0#32 ∨ a2 (ix2 ⟨48 * t.val + 40, by omega⟩ l) &&& 2139095040#32 ≠ 2139095040#32) := by
    intro u t l
    have e := congrFun h (ix3 u t l)
    unfold Cert.Pre_steps_in_order0.fn fn_part1 at e
    dsimp only [andi, ori, cmpi, subi, constantI] at e
    rw [broadcastInDim_apply (s := S224x1x1) ![0, 1, 2] _ _ (ix3 u t l) (ix3 u 0 0) (by intro a; fin_cases a <;> rfl),
      broadcastInDim_apply (s := S224) ![0] _ _ (ix3 u 0 0) (ix1 u) (by intro a; fin_cases a; rfl),
      broadcastInDim_apply (s := S1x7800x128) ![0, 1, 2] _ _ (ix3 u t l) (ix3 0 t l) (by intro a; fin_cases a <;> rfl),
      broadcastInDim_apply (s := S7800x128) ![1, 2] _ _ (ix3 0 t l) (ix2 t l) (by intro a; fin_cases a <;> rfl)] at e
    dsimp only [andi, ori, cmpi, subi, constantI] at e
    rw [broadcastInDim_apply (s := S1x1) ![0, 1] _ _ (ix2 t l) (ix2 0 0) (by intro a; fin_cases a <;> rfl),
      broadcastInDim_apply (s := S1) ![1] _ _ (ix2 0 0) (ix1 0) (by intro a; fin_cases a; rfl),
      extractStridedSlice_apply (s := S225) ![0] _ _ (ix1 u) (ix1 ⟨u.val, by omega⟩) (by intro a; fin_cases a; exact (Nat.zero_add _).symm),
      extractStridedSlice_apply (s := S225) ![1] _ _ (ix1 u) (ix1 ⟨1 + u.val, by omega⟩) (by intro a; fin_cases a; rfl)] at e
    dsimp only [andi, ori, cmpi, subi, constantI] at e
    rw [extractStridedSlice_apply (s := S897) ![0] _ _ (ix1 (⟨u.val, by omega⟩ : Fin 225)) (ix1 ⟨0 + u.val, by omega⟩) (by intro a; fin_cases a; rfl),
      extractStridedSlice_apply (s := S897) ![0] _ _ (ix1 (⟨1 + u.val, by omega⟩ : Fin 225)) (ix1 ⟨1 + u.val, by omega⟩) (by intro a; fin_cases a; show 1 + u.val = 0 + (1 + u.val); omega),
      broadcastInDim_apply (s := S_) ![] _ _ (ix1 (⟨u.val, by omega⟩ : Fin 225)) ix0 (by intro a; exact a.elim0),
      broadcastInDim_apply (s := S_) ![] _ _ (ix1 (⟨1 + u.val, by omega⟩ : Fin 225)) ix0 (by intro a; exact a.elim0),
      shapeCast_apply (s := S1) _ _ ix0 (ix1 0) (by rfl),
      extractStridedSlice_apply (s := S897) ![0] _ _ (ix1 0) (ix1 ⟨0, by decide⟩) (by intro a; fin_cases a; rfl),
      shapeCast_apply (s := S7800x1x128) (t := S7800x128) _ _ (ix2 t l) (ix3 t 0 l) (by rw [Shape.rowMajor_val_three, Shape.rowMajor_val_two]; show (t.val * 1 + 0) * 128 + l.val = t.val * 128 + l.val; omega),
      extractStridedSlice_apply (s := S7800x48x128) ![0, 40, 0] _ _ (ix3 t 0 l) (ix3 t ⟨40, by decide⟩ l) (by intro a; fin_cases a <;> first | rfl | exact (Nat.zero_add _).symm),
      shapeCast_apply (s := S374400x128) (t := S7800x48x128) _ _ (ix3 t ⟨40, by decide⟩ l) (ix2 ⟨48 * t.val + 40, by omega⟩ l) (by rw [Shape.rowMajor_val_three, Shape.rowMajor_val_two]; show (48 * t.val + 40) * 128 + l.val = (t.val * 48 + 40) * 128 + l.val; omega)] at e
    simp only [broadcastInDim, IntOp.cmpi, andi_ofBool, ori_ofBool, ofBool_eq_one, Bool.and_eq_true, Bool.or_eq_true] at e
    refine ⟨e.1, ?_⟩
    rcases e.2 with e | e
    · exact Or.inl (by simpa [constantI] using e)
    · exact Or.inr (by simpa [IntOp.andi, constantI] using e)
  exact ⟨fun u => (key u 0 0).1, fun t l => (key 0 t l).2⟩

/-- The words of the chunk as natural numbers: from zero on, never falling, and never above 3900. -/
theorem decoded_order (a0 : IVec S897 32)
    (h : ∀ u : Fin 224, (a0 (ix1 ⟨0 + u.val, by omega⟩) - a0 (ix1 ⟨0, by decide⟩)).sle (a0 (ix1 ⟨1 + u.val, by omega⟩) - a0 (ix1 ⟨0, by decide⟩)) = true
        ∧ (a0 (ix1 ⟨1 + u.val, by omega⟩) - a0 (ix1 ⟨0, by decide⟩)).sle 3900#32 = true) :
    ∀ (u : ℕ) (hu : u ≤ 224), (a0 (ix1 ⟨0 + u, by omega⟩) - a0 (ix1 ⟨0, by decide⟩)).toNat ≤ 3900
      ∧ ∀ hu' : u < 224, (a0 (ix1 ⟨0 + u, by omega⟩) - a0 (ix1 ⟨0, by decide⟩)).toNat
          ≤ (a0 (ix1 ⟨0 + (u + 1), by omega⟩) - a0 (ix1 ⟨0, by decide⟩)).toNat := by
  have step : ∀ (u : ℕ) (hu' : u < 224), (a0 (ix1 ⟨0 + u, by omega⟩) - a0 (ix1 ⟨0, by decide⟩)).toNat ≤ 3900 →
      (a0 (ix1 ⟨0 + u, by omega⟩) - a0 (ix1 ⟨0, by decide⟩)).toNat
          ≤ (a0 (ix1 ⟨0 + (u + 1), by omega⟩) - a0 (ix1 ⟨0, by decide⟩)).toNat
      ∧ (a0 (ix1 ⟨0 + (u + 1), by omega⟩) - a0 (ix1 ⟨0, by decide⟩)).toNat ≤ 3900 := by
    intro u hu' hle
    obtain ⟨h1, h2⟩ := h ⟨u, hu'⟩
    have hix : (⟨1 + u, by omega⟩ : Fin 897) = ⟨0 + (u + 1), by omega⟩ := Fin.ext (by show 1 + u = 0 + (u + 1); omega)
    rw [hix] at h1 h2
    generalize a0 (ix1 ⟨0 + u, _⟩) - a0 (ix1 ⟨0, _⟩) = x at *
    generalize a0 (ix1 ⟨0 + (u + 1), _⟩) - a0 (ix1 ⟨0, _⟩) = y at *
    simp only [BitVec.sle, decide_eq_true_eq, BitVec.toInt, BitVec.toNat_ofNat] at h1 h2
    have := x.isLt
    have := y.isLt
    constructor <;> (split at h1 <;> split at h1 <;> split at h2 <;> omega)
  have le : ∀ (u : ℕ) (hu : u ≤ 224), (a0 (ix1 ⟨0 + u, by omega⟩) - a0 (ix1 ⟨0, by decide⟩)).toNat ≤ 3900 := by
    intro u
    induction u with
    | zero => intro _; show (a0 (ix1 ⟨0, _⟩) - a0 (ix1 ⟨0, _⟩)).toNat ≤ 3900; rw [BitVec.sub_self]; decide
    | succ u ih => intro hu; exact (step u (by omega) (ih (by omega))).2
  exact fun u hu => ⟨le u hu, fun hu' => (step u hu' (le u hu)).1⟩

end Cert.Hand0

end
-- ==== Proof.Chunk0.Order.lean ====
/- Under the precondition the chunk's step table is in order. -/
module

public import proofs.«01_k».proof.Proof.Chunk0.Body
public import proofs.«01_k».proof.Proof.Chunk0.Pre

@[expose] public section

set_option maxRecDepth 65536

noncomputable section

namespace Cert.Kernel0.Hand

open Cert.Kernel0 Cert.Kernel0.Gen
open Idealize.ShloMosaic Idealize.ShloMosaic.TcCoe Idealize.ShloMosaic.ValueIdx

variable {F : FTy → Type} [FloatOps F]

/-- The precondition's table words, read as positions, are in order and stay inside the packed tiles. -/
theorem ordered_of_pre (c : Dev nD) (fs : Bf (F := F) c sbM) (a1 : IVec Cert.Pre_steps_in_order0.S1 32) (a2 : IVec Cert.Pre_steps_in_order0.S374400x128 32)
    (h : Cert.Pre_steps_in_order0.fn (F := F) fs a1 a2 = fun _ => 1#1) : Ordered c fs := by
  have hd := Cert.Hand0.decoded_order fs (Cert.Hand0.decoded fs a1 a2 h).1
  constructor
  · intro u hu
    unfold pos
    rw [dif_pos (by omega), dif_pos (by omega)]
    exact (hd u (by omega)).2 hu
  · intro u hu
    unfold pos
    rw [dif_pos (by omega)]
    exact (hd u (by omega)).1

end Cert.Kernel0.Hand

end
-- ==== Proof.Chunk0.Run.lean ====
/-
  The whole call: the grid of one hundred and twelve rows, each writing its block of the call's array back, then the rows
  the call writes taken from that array. Every fair execution terminates; at the end the arguments are as they were, every
  counter is at zero, and the result's buffer holds the taken rows.
-/
module

public import proofs.«01_k».proof.Proof.Chunk0.Body
public import proofs.«01_k».proof.Proof.Gen.Kernel0.Launch
public import Idealize.ShloMosaic.Lib.Pipeline.Regions
public import Idealize.ShloMosaic.Lib.WritesUnit

@[expose] public section

set_option maxRecDepth 65536

noncomputable section

namespace Cert.Kernel0.Hand

open Cert.Kernel0 Cert.Kernel0.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UU nD τ) ℕ

/-- The pipeline library's algebra is the left component. -/
abbrev EP : Emb (UR sig nD τ) (MT nD τ sig Unit (Elt F) ℕ (UU nD τ) ℕ) := embL

abbrev 𝒱₀ : Variants := Variants.none

variable (m : (ℓ : Loc nD τ sig) → Buf (Elt F) ℓ) (ρ : Dev nD → PrngReg)

/-- The step table, the packed tiles and the path flag, as launched. -/
abbrev fsOf (c : Dev nD) : Bf (F := F) c sbM := m ((c : Thread nD τ).loc main_arg0)
abbrev fxOf (c : Dev nD) : Bf (F := F) c exM := m ((c : Thread nD τ).loc main_arg1)
abbrev fgOf (c : Dev nD) : Bf (F := F) c gM := m ((c : Thread nD τ).loc main_arg2)

/-! ## The buffers when the region is entered -/

/-- Core `c`'s buffers at launch. -/
abbrev V₀ (c : Dev nD) : Valuation τ sig (Elt F) := fun b => m ((c : Dev nD), b)
/-- The unscoped references, as device buffers. -/
def ucRefs : Finset (DevRef τ sig) := (StableHlo.tcRefs τ sig).filter fun b => ¬ b.isScoped

omit [FloatOps F] in
theorem unscopedBufs_held (c : Dev nD) (W : Valuation τ sig (Elt F)) :
    (unscopedBufs c (fun b => W b) : sProp 𝕄) = StableHlo.held (c : Thread nD τ) ucRefs W := by
  unfold unscopedBufs StableHlo.held ucRefs StableHlo.tcRefs
  rw [Finset.filter_map, bigSep_map]
  rfl

omit [FloatOps F] in
theorem sub_ucRefs (op : HloOp τ sig (Elt F)) (h : op.bufs ⊆ StableHlo.tcRefs τ sig) : op.bufs ⊆ ucRefs := fun b hb =>
  Finset.mem_filter.mpr ⟨h hb, fun h' => Bool.false_ne_true ((op.no_scoped b hb).symm.trans h')⟩

/-! ## The block a row leaves -/

/-- The block of row `r`: its left half the transposed sum of the even unit, its right half that of the odd one. -/
def outBlk (c : Dev nD) (fs : Bf (F := F) c sbM) (fg : Bf (F := F) c gM) (fx : Bf (F := F) c exM) (r : ℕ) : S160x256.Idx → Elt F .f32 := fun y =>
  if h : (y 1).val < 128 then k0_pay32 (unitAcc c fs fg fx k0_pay17 (2 * r)) (ValueIdx.ix2 (y 0) ⟨(y 1).val, h⟩)
  else k0_pay16 (unitAcc c fs fg fx k0_pay1 (2 * r + 1)) (ValueIdx.ix2 (y 0) ⟨(y 1).val - 128, by have := (y 1).isLt; change (y 1).val < 256 at this; omega⟩)

theorem read_outPieces (c : Dev nD) (fs : Bf (F := F) c sbM) (fg : Bf (F := F) c gM) (fx : Bf (F := F) c exM) (r : ℕ)
    (arg5 : Memref sig .tc .vmem S160x256 .f32) (fo : Bf (F := F) c arg5) :
    arg5.view.read (Elt F) (arg5.view.writes (Elt F) fo (outPieces c fs fg fx r)) = outBlk c fs fg fx r := by
  funext y
  unfold outBlk outPieces
  by_cases h : (y 1).val < 128
  · rw [dif_pos h, View.read_writes_cons_unit_of_not_mem _ _ _ _ _ y rfl 1 (Or.inl h)]
    exact View.read_writes_cons_unit_of_mem _ _ _ _ _ y _ rfl (by
      intro a; fin_cases a
      · exact (Nat.zero_add _).symm
      · exact (Nat.zero_add _).symm)
  · rw [dif_neg h]
    exact View.read_writes_cons_unit_of_mem _ _ _ _ _ y _ rfl (by
      intro a; fin_cases a
      · exact (Nat.zero_add _).symm
      · show (y 1).val = 128 + ((y 1).val - 128)
        omega)

/-! ## The pipeline's proof data -/

/-- The prefetched tables' contents: as launched (one core). -/
abbrev adm : (p : Fin 1) → (pcfgs (F := F) p).Adm := fun _ => ⟨fun k => m (((0 : Dev nD) : Thread nD τ).loc (pre0.ref k)), trivial⟩

/-- The invariant before row `n`: the ring in its state, the two tables, the packed tiles' share no slot holds. -/
def Φc (c : Dev nD) (n : ℕ) : sProp 𝕄 :=
  iprop(Ring.AtW (slotS c (fgOf m c)) (stPt c (fsOf m c) n) ∗ pt c exM (fxOf m c) ∗ pt c sbM (fsOf m c)
    ∗ (gM.view.loc (c : Thread nD τ) ↦{Transfers.shareDrop fullShare 16} fgOf m c))

def dats (_ : Fin 1) (c : Dev nD) : Dat τ (Elt F) Unit ℕ (UU nD τ) ℕ (cfg0 (adm m 0)) c where
  A w := V₀ m c (Proc.devRef .tc (Pipeline.arrRef spec0 w))
  after w t := match w with | ⟨0, _⟩ => outBlk c (fsOf m c) (fgOf m c) (fxOf m c) (grid0.coords t 0).val
  Φ t := Φc m c t.val
  q _ := fullShare
  owed _ := 0

theorem A_eq (c : Dev nD) (w : Fin 1) : (dats m 0 c).A w = V₀ m c (Proc.devRef .tc (Pipeline.arrRef spec0 w)) := by
  dsimp only [dats]

theorem coords_val (t : Fin grid0.N) : (grid0.coords t 0).val = t.val := by
  revert t; decide +kernel

omit [FloatOps F] in
theorem whole_pt (c : Dev nD) (M : Memref sig .tc .vmem S160x256 .f32) (h : M.IsWhole) (f : Bf (F := F) c M) :
    (M.view.loc (c : Thread nD τ) ↦[M.view.set]{fullShare} f : sProp 𝕄) = pt c M f := by
  rw [h.set_eq_univ]

set_option backward.isDefEq.respectTransparency.types false in
theorem body_obligation (hO : ∀ c, Ordered c (fsOf m c)) (c : Dev nD) : BodyObligation (dats m 0 c) (defs₀ (F := F)) 𝒱₀ () Set.univ := fun t => by
  rw [bigSep_W0, bigSep_W0]
  rw [show (dats m 0 c).Φ t.castSucc = Φc m c t.val from rfl, show (dats m 0 c).Φ t.succ = Φc m c (t.val + 1) from rfl]
  unfold Φc Dat.owesAt Pipeline.owesWithin
  rw [show (dats m 0 c).owed t.castSucc = 0 from rfl, show (dats m 0 c).owed t.succ = 0 from rfl]
  unfold owns
  iintro ⟨⟨HR, Hx, Hs, Hg⟩, ⟨%W, %hW, HO⟩, ⟨%d0, %f0, %hf0, H0⟩⟩
  have hb := body_run c (fsOf m c) (fgOf m c) (fxOf m c) (hO c) (grid0.coords t)
    (spec0_0.stage ((cfg0 (adm m 0)).slots t 0)) (hstage0_0 _) f0
  rw [coords_val t] at hb
  iapply (hb _)
  isplitl [HR]; · iexact HR
  isplitl [Hx]; · iexact Hx
  isplitl [Hs]; · iexact Hs
  isplitl [HO]; · iexists W; iexact HO
  isplitl [H0]
  · iapply (Entails.of_eq (whole_pt c (spec0_0.stage ((cfg0 (adm m 0)).slots t 0)) (hstage0_0 _) f0)); iexact H0
  iintro ⟨HR, Hx, Hs, ⟨%W', HO⟩, H0⟩
  isplitl [HR Hx Hs Hg]
  · isplitl [HR]; · iexact HR
    isplitl [Hx]; · iexact Hx
    isplitl [Hs]; · iexact Hs
    iexact Hg
  isplitl [HO]
  · iexists W'; isplitr; · ipureintro; exact fun _ _ => Or.inl trivial
    iexact HO
  iexists _
  isplitr
  swap
  · iapply (Entails.of_eq (whole_pt c (spec0_0.stage ((cfg0 (adm m 0)).slots t 0)) (hstage0_0 _) _).symm); iexact H0
  · ipureintro
    rw [read_outPieces]
    show _ = outBlk c (fsOf m c) (fgOf m c) (fxOf m c) (grid0.coords t 0).val
    rw [coords_val t]

/-! ## The ring taken apart at the start and put together at the end -/

/-- Slot `k`'s elements of the ring. -/
abbrev slotSet (k : Fin 16) : Finset S16x96x128.Idx := (Rect.unit (s := S16x96x128) ![k.val, 0, 0] S1x96x128.size (inb3 k.val k.isLt)).set

theorem ring_disjoint (k k' : Fin 16) (h : k ≠ k') : Disjoint (slotSet k) (slotSet k') :=
  Ring.lead_disjoint (s := S16x96x128) (0 : Fin 3) 1 (fun k : Fin 16 => ![k.val, 0, 0]) S1x96x128.size (fun k => inb3 k.val k.isLt)
    (fun k => (Nat.one_mul _).symm) rfl k k' h

theorem ring_cover : Finset.univ.biUnion slotSet = Finset.univ :=
  Ring.lead_cover (s := S16x96x128) (0 : Fin 3) 1 (fun k : Fin 16 => ![k.val, 0, 0]) S1x96x128.size (fun k => inb3 k.val k.isLt)
    (fun k => (Nat.one_mul _).symm) (by intro k a ha; fin_cases a <;> first | rfl | exact absurd rfl ha) rfl
    (by intro a ha; fin_cases a <;> first | rfl | exact absurd rfl ha) rfl

omit [FloatOps F] in
theorem slot_pt (c : Dev nD) (k : Fin 16) (f : Bf (F := F) c ringM) :
    (ringM.view.loc (c : Thread nD τ) ↦[slotSet k]{fullShare} f : sProp 𝕄)
      = ((rslotK k).view.loc (c : Thread nD τ) ↦[(rslotK k).view.set]{fullShare} f) := by
  rw [rslotK_set]
  rfl

/-- The layout the launch needs of the ring's counters. -/
theorem ownSemFacts : Pipeline.OwnSemFacts spec0 cellK := by decide

/-- All slots free. -/
theorem ring_free (c : Dev nD) (fg : Bf (F := F) c gM) :
    (Ring.AtW (slotS (F := F) c fg) (fun _ => none) : sProp 𝕄)
      = iprop((Pipeline.ownSems0 (Ix := Unit) (Name := ℕ) (U := UU nD τ) (Lvl := ℕ) (Val := Elt F) (τ := τ) cellK c)
          ∗ (bigSep Finset.univ fun k : Fin 16 => iprop(∃ f, (rslotK k).view.loc (c : Thread nD τ) ↦[(rslotK k).view.set]{fullShare} f))
          ∗ bigSep Finset.univ fun k : Fin 16 => tokG c k Finset.univ fg) := by
  unfold Ring.AtW Pipeline.ownSems0
  rw [← bigSep_sep', ← bigSep_sep']
  rfl

theorem ring_in (c : Dev nD) (fg : Bf (F := F) c gM) :
    iprop((Pipeline.ownSems0 (Ix := Unit) (Name := ℕ) (U := UU nD τ) (Lvl := ℕ) (Val := Elt F) (τ := τ) cellK c)
      ∗ (∃ f, pt c ringM f) ∗ pt c gM fg)
    ⊢ (iprop(Ring.AtW (slotS (F := F) c fg) (fun _ => none) ∗ (gM.view.loc (c : Thread nD τ) ↦{Transfers.shareDrop fullShare 16} fg)) : sProp 𝕄) := by
  rw [ring_free]
  iintro ⟨Hs, ⟨%f, Hr⟩, Hg⟩
  ihave Hg := (Transfers.pointsTo_toks_split fullShare 16) $$ Hg
  icases Hg with ⟨Hd, Ht⟩
  isplitr [Hd]
  · isplitl [Hs]; · iexact Hs
    isplitl [Hr]
    · ihave Hr := (Entails.of_eq (Ring.pointsTo_blocks (ℓ := ringM.view.loc (c : Thread nD τ)) slotSet ring_disjoint ring_cover f)) $$ Hr
      have hm : (bigSep Finset.univ fun k : Fin 16 => ringM.view.loc (c : Thread nD τ) ↦[slotSet k]{fullShare} f : sProp 𝕄)
          ⊢ bigSep Finset.univ fun k : Fin 16 => iprop(∃ f, (rslotK k).view.loc (c : Thread nD τ) ↦[(rslotK k).view.set]{fullShare} f) :=
        bigSep_mono fun k _ => by
          rw [slot_pt]
          exact (show ((rslotK k).view.loc (c : Thread nD τ) ↦[(rslotK k).view.set]{fullShare} f : sProp 𝕄)
              ⊢ iprop(∃ f, (rslotK k).view.loc (c : Thread nD τ) ↦[(rslotK k).view.set]{fullShare} f) from by
            iintro H; iexists f; iexact H)
      iapply hm
      iexact Hr
    · iexact Ht
  · iexact Hd

theorem ring_out (c : Dev nD) (fg : Bf (F := F) c gM) (f₀ : Bf (F := F) c ringM) :
    (iprop(Ring.AtW (slotS (F := F) c fg) (fun _ => none) ∗ (gM.view.loc (c : Thread nD τ) ↦{Transfers.shareDrop fullShare 16} fg)) : sProp 𝕄)
    ⊢ iprop((Pipeline.ownSems0 (Ix := Unit) (Name := ℕ) (U := UU nD τ) (Lvl := ℕ) (Val := Elt F) (τ := τ) cellK c)
      ∗ (∃ f, pt c ringM f) ∗ pt c gM fg) := by
  rw [ring_free]
  iintro ⟨⟨Hs, Hr, Ht⟩, Hd⟩
  isplitl [Hs]; · iexact Hs
  isplitl [Hr]
  · have hm : (bigSep Finset.univ fun k : Fin 16 => iprop(∃ f, (rslotK k).view.loc (c : Thread nD τ) ↦[(rslotK k).view.set]{fullShare} f) : sProp 𝕄)
        ⊢ bigSep Finset.univ fun k : Fin 16 => iprop(∃ f, ringM.view.loc (c : Thread nD τ) ↦[slotSet k]{fullShare} f) :=
      bigSep_mono fun k _ => (show (iprop(∃ f, (rslotK k).view.loc (c : Thread nD τ) ↦[(rslotK k).view.set]{fullShare} f) : sProp 𝕄)
          ⊢ iprop(∃ f, ringM.view.loc (c : Thread nD τ) ↦[slotSet k]{fullShare} f) from by
        iintro ⟨%f, H⟩; iexists f
        iapply (Entails.of_eq (slot_pt c k f).symm); iexact H)
    iapply (hm.trans (Ring.pointsTo_blocks_join_exists (ℓ := ringM.view.loc (c : Thread nD τ)) slotSet ring_disjoint ring_cover f₀))
    iexact Hr
  · iapply (Transfers.pointsTo_toks_join fullShare 16)
    isplitl [Hd]; · iexact Hd
    iexact Ht

theorem stPt_first (c : Dev nD) (fs : Bf (F := F) c sbM) : stPt c fs 0 = fun _ => none := if_pos rfl

theorem stPt_last (c : Dev nD) (fs : Bf (F := F) c sbM) : stPt c fs 112 = fun _ => none := by
  unfold stPt
  rw [if_neg (by decide)]
  unfold stAt
  exact stWin_empty _ _ (Nat.min_le_right _ _)

/-! ## The launch: the copy, then the region -/

/-- The launch element: the pipeline library's, and no counter yet. -/
def u₀ : UU nD τ := (initOf (Pipeline.cells (Pipeline.pin (pcfgs (F := F)) (adm m)) (cellOf_inj (adm m))) (Pipeline.launchToks (Pipeline.pin (pcfgs (F := F)) (adm m)) (cellOf_inj (adm m))), 1)

/-- The call's array at the end, as the pipeline computes it. -/
def finalA (c : Dev nD) : Buf (Elt F) ((c : Thread nD τ).loc main_v0) := (dats m 0 c).arrAt 0 112

abbrev L : GSem nD τ sig → Finset Unit := fun _ => ∅
abbrev lv : GSem nD τ sig → Unit → ℕ := fun _ _ => 0

abbrev R (c : Dev nD) : sProp 𝕄 := iprop(∃ W, owes (c : Thread nD τ) (0 : CellTallies nD τ sig Unit) W)

/-- Core `c`'s buffers after the region: the call's array at its final contents. -/
def V₁ (c : Dev nD) : Valuation τ sig (Elt F) := Function.update (V₀ m c) (Proc.devRef .tc main_v0) (finalA m c)

theorem V₁_v0 (c : Dev nD) : V₁ m c (Proc.devRef .tc main_v0) = finalA m c := Function.update_self ..

theorem V₁_of_ne (c : Dev nD) (b : Ref sig .tc) (hb : b ≠ main_v0) : V₁ m c (Proc.devRef .tc b) = m ((c : Thread nD τ).loc b) :=
  Function.update_of_ne (StableHlo.devRef_ne_of_ne hb) ..

/-- The host segment: the rows the call writes are taken. -/
def seg1 : Pipeline.HostSeg (Name := ℕ) (U := UU nD τ) (pcfgs (F := F)) defs₀ 𝒱₀ L lv :=
  Pipeline.HostSeg.ofOps _ _ _ _ _ ucRefs hostOps1 (fun op h => sub_ucRefs op ((List.forall_iff_forall_mem.mp hostOps1_sub) op h))
    (by intro _ h; (repeat (cases h with | head => rfl | tail _ h => ?_)); exact nomatch h) (V₁ m) R

/-- Core `c`'s buffers at the end. -/
abbrev V₂ (c : Dev nD) : Valuation τ sig (Elt F) := StableHlo.after hostOps1 (V₁ m c)

/-- The result. -/
def result (c : Dev nD) : Buf (Elt F) ((c : Thread nD τ).loc main_v1) :=
  extractStridedSlice S17920x256 ![0, 0] (finalA m c : S71680x256.Idx → Elt F .f32) slices_S71680x256_S17920x256_0_0

theorem V₂_result (c : Dev nD) : V₂ m c (Proc.devRef .tc main_v1) = result m c := by
  unfold result
  rw [← V₁_v0]
  show StableHlo.after hostOps1 (V₁ m c) _ = _
  rw [StableHlo.after_cons, StableHlo.after_nil]
  exact StableHlo.unary_result' _ _ _ _

theorem V₂_of_ne (c : Dev nD) (b : Ref sig .tc) (hb : b ≠ main_v1) (hb' : b ≠ main_v0) : V₂ m c (Proc.devRef .tc b) = m ((c : Thread nD τ).loc b) := by
  refine (StableHlo.after_of_forall_not_mem (b := Proc.devRef .tc b) hostOps1 (V₁ m c) ?_).trans (V₁_of_ne m c b hb')
  intro op hop
  simp only [List.mem_cons, List.mem_nil_iff, or_false] at hop
  subst hop
  simp only [StableHlo.unary_writes, Finset.mem_singleton]
  exact StableHlo.devRef_ne_of_ne hb

omit [FloatOps F] in
theorem prefHeld_two (c : Dev nD) (W : pre0.Contents (Elt F)) :
    (Pipeline.prefHeld pre0 c (fun _ => fullShare) W : sProp 𝕄) = iprop(pt c sbM (W 0) ∗ pt c exM (W 1)) := by
  unfold Pipeline.prefHeld
  exact bigSep_univ_eq_bigSepL [(0 : Fin 2), 1] (by decide) (by decide) _

include m in
/-- The unscoped buffers, one by one. -/
theorem bufs_eq (c : Dev nD) (W : (b : Ref sig .tc) → Buf (Elt F) ((c : Thread nD τ).loc b)) :
    (unscopedBufs c W : sProp 𝕄) = iprop((((c : Thread nD τ).loc main_v0) ↦{fullShare} W main_v0)
      ∗ (pt c sbM (W main_arg0) ∗ pt c exM (W main_arg1)) ∗ pt c gM (W main_arg2) ∗ (((c : Thread nD τ).loc main_v1) ↦{fullShare} W main_v1)) := by
  rw [Pipeline.unscopedBufs_split (Pipeline.pin (pcfgs (F := F)) (adm m)) 0 winFacts0.arr_unscoped winFacts0.arr_inj c W]
  refine congrArg₂ (fun a b : sProp 𝕄 => iprop(a ∗ b)) (bigSep_W0 _) ?_
  refine (Pipeline.unscopedRest_split preFacts0 c W).trans ?_
  rw [prefHeld_two, unscopedRestP0_eq]
  rfl

/-- The region's one array. -/
theorem arrays_one (c : Dev nD) (f : (w : Fin 1) → Buf (Elt F) (((cfg0 (F := F) (adm m 0)).win w).arr.view.loc (c : Thread nD τ))) :
    ((dats m 0 c).arrays f : sProp 𝕄) = (((c : Thread nD τ).loc main_v0) ↦{fullShare} f 0) :=
  (Pipeline.arrays_eq (Pipeline.pin (pcfgs (F := F)) (adm m)) (dats m) 0 c arr_whole0 ((dats m 0 c).share_full fun _ => rfl) (F := f)).trans (bigSep_W0 _)

set_option backward.isDefEq.respectTransparency.types false in
/-- The region. -/
def reg0 (hO : ∀ c, Ordered c (fsOf m c)) : Pipeline.RegionSeg (pcfgs (F := F)) (adm m) (dats m) () defs₀ 𝒱₀ L lv 0 where
  win := (launch0 (F := F)).to₀.win
  block_pos := (launch0 (F := F)).to₀.block_pos
  stage_whole := (launch0 (F := F)).to₀.stage_whole
  K := Fin 16
  osem := cellK
  ho := ownSemFacts
  hbody c := (body_obligation m hO c).loose
  hwaits := Pipeline.hwaits_of_owed_zero _ _ _ _ L lv 0 fun _ _ => rfl
  pre c := iprop(StableHlo.held (c : Thread nD τ) ucRefs (V₀ m c) ∗ R c)
  post c := iprop(StableHlo.held (c : Thread nD τ) ucRefs (V₁ m c) ∗ R c)
  X c := iprop(pt c gM (fgOf m c) ∗ Pipeline.ownSems0 (Ix := Unit) (Name := ℕ) (U := UU nD τ) (Lvl := ℕ) (Val := Elt F) (τ := τ) cellK c)
  Y c := iprop(pt c sbM (fsOf m c) ∗ pt c exM (fxOf m c) ∗ pt c gM (fgOf m c))
  Z c := iprop(((c : Thread nD τ).loc main_v1) ↦{fullShare} m ((c : Thread nD τ).loc main_v1))
  hentry c := by
    obtain rfl : c = 0 := Subsingleton.elim _ _
    rw [← unscopedBufs_held, bufs_eq m, arrays_one, prefHeld_two]
    iintro ⟨⟨⟨Ha, ⟨Hs, Hx⟩, Hg, H3⟩, HO⟩, Hos, -⟩
    imodintro
    isplitl [Ha]; · iexact Ha
    isplitl [Hs Hx]
    · isplitl [Hs]; · iexact Hs
      iexact Hx
    isplitl [HO]
    · unfold Pipeline.Dat.owesAt Pipeline.owesWithin
      icases HO with ⟨%W, HO⟩; iexists W; isplitr; · ipureintro; exact fun _ _ => Or.inl trivial
      iexact HO
    isplitl [Hg Hos]
    · isplitl [Hg]; · iexact Hg
      iexact Hos
    iexact H3
  hin c := by
    obtain rfl : c = 0 := Subsingleton.elim _ _
    rw [show (dats m 0 0).Φ 0 = Φc m 0 0 from rfl, prefHeld_two]; unfold Φc
    rw [stPt_first, scopedRest0_eq]
    iintro ⟨⟨Hg, Hos⟩, ⟨Hs, Hx⟩, Hr⟩
    ihave H := (ring_in (0 : Dev nD) (fgOf m 0)) $$ [Hg Hos Hr]
    · isplitl [Hos]; · iexact Hos
      isplitl [Hr]; · iexact Hr
      iexact Hg
    icases H with ⟨HR, Hd⟩
    isplitl [HR]; · iexact HR
    isplitl [Hx]; · iexact Hx
    isplitl [Hs]; · iexact Hs
    iexact Hd
  hout c := by
    rw [show (dats m 0 c).Φ (Fin.last grid0.N) = Φc m c 112 from rfl]; unfold Φc
    rw [stPt_last, scopedRest0_eq]
    iintro ⟨HR, Hx, Hs, Hd⟩
    ihave H := (ring_out c (fgOf m c) (m ((c : Thread nD τ).loc cc0_scratch0))) $$ [HR Hd]
    · isplitl [HR]; · iexact HR
      iexact Hd
    icases H with ⟨Hos, Hr, Hg⟩
    isplitl [Hx Hs Hg]
    · isplitl [Hs]; · iexact Hs
      isplitl [Hx]; · iexact Hx
      iexact Hg
    isplitl [Hos]; · iexact Hos
    iexact Hr
  hexit c := by
    rw [← unscopedBufs_held, bufs_eq m, arrays_one, V₁_v0, V₁_of_ne m c main_arg0 (by decide), V₁_of_ne m c main_arg1 (by decide),
      V₁_of_ne m c main_arg2 (by decide), V₁_of_ne m c main_v1 (by decide)]
    iintro ⟨Ha, HO, ⟨Hs, Hx, Hg⟩, HZ⟩
    imodintro
    isplitr [HO]
    · isplitl [Ha]; · iexact Ha
      isplitl [Hs Hx]
      · isplitl [Hs]; · iexact Hs
        iexact Hx
      isplitl [Hg]; · iexact Hg
      iexact HZ
    · unfold Pipeline.Dat.owesAt Pipeline.owesWithin
      icases HO with ⟨%W, -, HO⟩; iexists W; iexact HO

abbrev segs (hO : ∀ c, Ordered c (fsOf m c)) : List (Pipeline.Seg (pcfgs (F := F)) (adm m) (dats m) () defs₀ 𝒱₀ L lv) := [.region (reg0 m hO), .host (seg1 m)]

/-- What a final memory holds: the arguments as launched, the result's buffer at the computed contents. -/
def QC (c : Dev nD) (s : MemSt nD τ sig (Elt F)) : Prop :=
  s.mem ((c : Thread nD τ).loc main_arg0) = m ((c : Thread nD τ).loc main_arg0)
    ∧ s.mem ((c : Thread nD τ).loc main_arg1) = m ((c : Thread nD τ).loc main_arg1)
    ∧ s.mem ((c : Thread nD τ).loc main_arg2) = m ((c : Thread nD τ).loc main_arg2)
    ∧ s.mem ((c : Thread nD τ).loc main_v1) = result m c

set_option backward.isDefEq.respectTransparency.types false in
/-- From any memory whose step table is in order, counters at zero: every fair execution of the call terminates, the
    arguments end as they were, the result's buffer at the computed contents and every counter at zero. -/
theorem run_main (hO : ∀ c, Ordered c (fsOf m c)) :
    θ_run defs (onTc (τ := τ) (main (F := F))) ⟨m, fun _ => 0, ρ⟩ (fun r => (∀ c, QC m c r.2) ∧ r.2.sem = fun _ => 0) :=
  Pipeline.θ_run_regions_kit_sems (pcfgs (F := F)) (adm m) (dats m) () (cellOf_inj (adm m)) EP defs₀ 𝒱₀ L lv m ρ main (segs m hO)
    (fun c Q => by rw [main_segs (adm m) (dats m) () 𝒱₀ L lv (seg1 m) (reg0 m hO) rfl c])
    (by simp only [Pipeline.Seg.pipes_host, Pipeline.Seg.pipes_region, Pipeline.Seg.pipes_nil]; decide) (O₀ := 0) (hL := fun _ _ => rfl) (G := fun _ => iprop(emp)) (u₀ := u₀ m)
    (hu₀ := by
      unfold u₀
      iintro Hu
      ihave H := (ownU_pair _ _) $$ Hu
      icases H with ⟨HP, -⟩
      imodintro
      isplitl [HP]; · iexact HP
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) ucRefs (V₀ m c) ∗ R c)) (Tₙ := fun c => StableHlo.held (c : Thread nD τ) ucRefs (V₂ m c))
    (hch := ⟨fun _ => .rfl, fun _ => .rfl, fun _ => .rfl⟩)
    (hinit := by
      refine Pipeline.initEach L lv fun c => ?_
      rw [show unscopedBufs c (fun b => m ((c : Thread nD τ).loc b)) = StableHlo.held (c : Thread nD τ) ucRefs (V₀ m c) from unscopedBufs_held c (V₀ m c)]
      iintro ⟨⟨Hh, -, HO, -, -, -⟩, -⟩
      imodintro
      isplitl [Hh]; · iexact Hh
      iexists ∅; iexact HO)
    (QY := QC m)
    (hfin := fun c s' => by
      rw [← unscopedBufs_held, bufs_eq m, V₂_result, V₂_of_ne m c main_arg0 (by decide) (by decide), V₂_of_ne m c main_arg1 (by decide) (by decide),
        V₂_of_ne m c main_arg2 (by decide) (by decide)]
      iintro ⟨⟨-, ⟨H0, H1⟩, H2, H3⟩, HSI⟩
      icombine HSI H0 gives %h0
      icombine HSI H1 gives %h1
      icombine HSI H2 gives %h2
      icombine HSI H3 gives %h3
      imodintro
      isplitr
      · ipureintro
        exact ⟨Buf.eq_of_forall_mem_univ h0, Buf.eq_of_forall_mem_univ h1, Buf.eq_of_forall_mem_univ h2, Buf.eq_of_forall_mem_univ h3⟩
      iexact HSI)
    (hQ := fun _ h hz => ⟨h, funext fun g => hz g (.inr (by revert g; decide))⟩)

end Cert.Kernel0.Hand

end
-- ==== Proof.Chunk0.Ideal.Bridge.lean ====
/-
  The kernel over the extended reals is the kernel's own text, operation by operation: its body, its table of bodies and its
  main are the kernel's. So what is proved of the kernel for every reading of the floats holds of it.
-/
module

public import proofs.«01_k».proof.Proof.Chunk0.Run
public import proofs.«01_k».proof.Proof.Gen.Kernel0Ideal

@[expose] public section

set_option maxRecDepth 65536

noncomputable section

namespace Cert.Kernel0Ideal.Hand

open Idealize.ShloMosaic Idealize.SL.Sem

variable {F : FTy → Type} [FloatOps F]

/-- The body is the kernel's, -/
theorem pool_eq : @Cert.Kernel0Ideal.cc0_pool F _ Cert.Kernel0Ideal.Gen.facts = @Cert.Kernel0.cc0_pool F _ Cert.Kernel0.Gen.facts := rfl

/-- and so are the tables of bodies -/
theorem defs₀_eq : Cert.Kernel0Ideal.defs₀ (F := F) = Cert.Kernel0.defs₀ (F := F) := by
  unfold Cert.Kernel0Ideal.defs₀ Cert.Kernel0.defs₀
  refine congrArg Defs.onTc ?_
  funext l a
  obtain ⟨l, hl⟩ := l
  obtain rfl : l = 0 := by omega
  rfl

theorem defs_eq : Cert.Kernel0Ideal.defs (F := F) = Cert.Kernel0.defs (F := F) := by
  unfold Cert.Kernel0Ideal.defs Cert.Kernel0.defs
  exact congrArg (Pipeline.defs (Cert.Kernel0.pcfgs (F := F))) defs₀_eq

/-- and the main. -/
theorem main_eq : Cert.Kernel0Ideal.main (F := F) = Cert.Kernel0.main (F := F) := rfl

variable (m : (ℓ : Loc Cert.Kernel0.nD Cert.Kernel0.τ Cert.Kernel0.sig) → Buf (Elt F) ℓ) (ρ : Dev Cert.Kernel0.nD → PrngReg)

/-- The run of the kernel, of this program. -/
theorem run_main (hO : ∀ c, Cert.Kernel0.Hand.Ordered c (Cert.Kernel0.Hand.fsOf m c)) :
    θ_run (Cert.Kernel0Ideal.defs (F := F)) (onTc (τ := Cert.Kernel0Ideal.τ) (Cert.Kernel0Ideal.main (F := F))) ⟨m, fun _ => 0, ρ⟩
      (fun r => (∀ c, Cert.Kernel0.Hand.QC m c r.2) ∧ r.2.sem = fun _ => 0) :=
  Eq.mpr (congrArg₂ (fun (d : Defs Cert.Kernel0.nD Cert.Kernel0.τ Cert.Kernel0.sig (Elt F) _) p =>
    θ_run d (onTc (τ := Cert.Kernel0.τ) p) ⟨m, fun _ => 0, ρ⟩ (fun r => (∀ c, Cert.Kernel0.Hand.QC m c r.2) ∧ r.2.sem = fun _ => 0)) defs_eq main_eq)
    (Cert.Kernel0.Hand.run_main (F := F) m ρ hO)

end Cert.Kernel0Ideal.Hand

end
-- ==== Proof.Chunk0.Ideal.Step.lean ====
/-
  A unit's sum, over the packed tiles: a unit's accumulator is the sum over the unit's steps, and the block of a row is the
  sums of its two units.
-/
module

public import proofs.«01_k».proof.Proof.Ideal.Step
public import proofs.«01_k».proof.Proof.Chunk0.Run
public import Idealize.ShloMosaic.Lib.WordCmp

@[expose] public section

set_option maxRecDepth 65536

noncomputable section

namespace Cert.Kernel0.Hand

open Cert.Kernel0 Cert.Kernel0.Gen
open Idealize.ShloMosaic hiding ix1 ix2 ix3
open Idealize.ShloMosaic.TcCoe Idealize.ShloMosaic.ValueIdx
open Cert.Hand (Packed tileWord weight cellAt code part tilePart stepPart weight_real)

variable (c : Dev nD) (fg : Bf (F := Ideal) c gM) (fx : Bf (F := Ideal) c exM) (fs : Bf (F := Ideal) c sbM)

/-- Either the path is the plain one or every weight word's exponent is not all ones. -/
abbrev Plain : Prop := flag (F := Ideal) c fx = 0#32 ∨ ∀ (t : Fin 7800) (l : Fin 128), tileWord fg t 40 l &&& 2139095040#32 ≠ 2139095040#32

/-- A step does what a step of the second chunk does, -/
theorem step_apply (hx : Plain c fg fx) (s : ℕ) (hs : s < 3900) (p : Fin 128) (d : Fin 160) :
    prod (F := Ideal) (flag c fx) (blk c fg (rowT s)) (ix2 p d) = stepPart fg (BitVec.ofNat 32 p.val) d s :=
  Cert.Kernel.Hand.step_apply c fg fx hx s hs p d

/-- and this is the accumulator after `n` steps from step `A`. -/
theorem accN_apply (hx : Plain c fg fx) (z : FVec Ideal S128x160 .f32) (hz : ∀ i, z i = 0) (A n : ℕ) (h : A + n ≤ 3900) (p : Fin 128) (d : Fin 160) :
    accN (F := Ideal) c fg fx z A n (ix2 p d) = ∑ i ∈ Finset.range n, stepPart fg (BitVec.ofNat 32 p.val) d (A + i) := by
  induction n with
  | zero => exact hz _
  | succ n ih =>
    rw [Finset.sum_range_succ, ← ih (by omega), ← step_apply c fg fx hx (A + n) (by omega) p d]
    rfl

/-- What unit `u` sums at a cell and a channel. -/
def unitSum (u : ℕ) (p : Fin 128) (d : Fin 160) : EReal :=
  ∑ s ∈ Finset.Ico (pos (F := Ideal) c fs u) (pos (F := Ideal) c fs (u + 1)), stepPart fg (BitVec.ofNat 32 p.val) d s

theorem unitAcc_apply (hx : Plain c fg fx) (hO : Ordered (F := Ideal) c fs) (z : FVec Ideal S128x160 .f32) (hz : ∀ i, z i = 0) (u : ℕ) (hu : u < 224) (p : Fin 128) (d : Fin 160) :
    unitAcc (F := Ideal) c fs fg fx z u (ix2 p d) = unitSum c fg fs u p d := by
  unfold unitAcc unitSum
  have h1 := hO.1 u hu
  have h2 := hO.2 (u + 1) (by omega)
  rw [accN_apply c fg fx hx z hz _ _ (by omega), Finset.sum_Ico_eq_sum_range]

/-- The row's block: channel `d`, cell `x` of its two units. -/
theorem outBlk_apply (hx : Plain c fg fx) (hO : Ordered (F := Ideal) c fs) (r : ℕ) (hr : r < 112) (d : Fin 160) (x : Fin 256) :
    outBlk (F := Ideal) c fs fg fx r (ix2 d x) = unitSum c fg fs (2 * r + x.val / 128) ⟨x.val % 128, Nat.mod_lt _ (by decide)⟩ d := by
  have t : ∀ (y : FVec Ideal S128x160 .f32) (p : Fin 128), transpose S160x128 [1, 0] y transposes_S128x160_p1_0_S160x128 (ix2 d p) = y (ix2 p d) := fun y p =>
    transpose_apply (s := S128x160) (t := S160x128) _ _ _ _ _ fun b => by
      match b with
      | ⟨0, _⟩ => rfl
      | ⟨1, _⟩ => rfl
  unfold outBlk
  split
  · next h =>
    have h : x.val < 128 := h
    refine (t _ _).trans ((unitAcc_apply c fg fx fs hx hO _ (fun _ => Ideal.ofBits_zero_f32) _ (by omega) ⟨x.val, h⟩ d).trans ?_)
    congr 1
    · omega
    · exact Fin.ext (Nat.mod_eq_of_lt h).symm
  · next h =>
    have h : ¬ x.val < 128 := h
    refine (t _ _).trans ((unitAcc_apply c fg fx fs hx hO _ (fun _ => Ideal.ofBits_zero_f32) _ (by omega) ⟨x.val - 128, by omega⟩ d).trans ?_)
    congr 1
    · omega
    · exact Fin.ext (by show x.val - 128 = x.val % 128; omega)

end Cert.Kernel0.Hand

end
-- ==== Proof.Chunk0.Ideal.Final.lean ====
/-
  The result at the end: the rows of the chunk's blocks, which hold the units' sums.
-/
module

public import proofs.«01_k».proof.Proof.Chunk0.Ideal.Step

@[expose] public section

set_option maxRecDepth 65536

noncomputable section

namespace Cert.Kernel0.Hand

open Cert.Kernel0 Cert.Kernel0.Gen
open Idealize.ShloMosaic hiding ix1 ix2 ix3
open Idealize.ShloMosaic.TcCoe Idealize.ShloMosaic.ValueIdx
open Idealize.ShloMosaic.Pipeline (Dat Cfg Window)

variable {F : FTy → Type} [FloatOps F]
variable (m : (ℓ : Loc nD τ sig) → Buf (Elt F) ℓ)

/-- The chunk's rows of the result: block after block. -/
def blocks (c : Dev nD) : S71680x256.Idx → Elt F .f32 := fun i =>
  outBlk c (fsOf m c) (fgOf m c) (fxOf m c) ((i 0).val / 160) (ix2 ⟨(i 0).val % 160, Nat.mod_lt _ (by decide)⟩ (i 1))

/-- The window's block at a row begins at that row of the chunk. -/
theorem index_at (t : Fin grid0.N) : (cc0_transform_1 (grid0.coords t)) = ![t.val, 0] := by
  revert t; decide +kernel

theorem flush_all (t : Fin grid0.N) : ((cfg0 (F := F) (adm m 0)).win 0).flush t = true :=
  (by decide +kernel : ∀ t : Fin grid0.N, Window.flushOf grid0 true cc0_transform_1 t = true) t

/-- Where an element of the block of row `t` sits in the result. -/
def place (t : Fin grid0.N) (y : S160x256.Idx) : S71680x256.Idx := (((cfg0 (F := F) (adm m 0)).win 0).blk t).view.emb y

theorem place_val0 (t : Fin grid0.N) (y : S160x256.Idx) : (place m t y 0).val = (t.val) * 160 + (y 0).val := by
  refine (Window.rect_emb_val ((cfg0 (F := F) (adm m 0)).win 0) t y (0 : Fin 2)).trans ?_
  show cc0_transform_1 (grid0.coords t) 0 * 160 + (y 0).val = _
  rw [index_at]
  rfl

theorem place_val1 (t : Fin grid0.N) (y : S160x256.Idx) : (place m t y 1).val = (y 1).val := by
  refine (Window.rect_emb_val ((cfg0 (F := F) (adm m 0)).win 0) t y (1 : Fin 2)).trans ?_
  show cc0_transform_1 (grid0.coords t) 1 * 256 + (y 1).val = _
  rw [index_at]
  show 0 * 256 + (y 1).val = _
  omega

theorem blocks_place (c : Dev nD) (t : Fin grid0.N) (y : S160x256.Idx) :
    blocks m c (place m t y) = outBlk c (fsOf m c) (fgOf m c) (fxOf m c) t.val y := by
  have h0 := place_val0 m t y
  have h1 := place_val1 m t y
  have hy : (y 0).val < 160 := (y 0).isLt
  have e1 : (place m t y 0).val / 160 = t.val := by omega
  have e2 : (ix2 ⟨(place m t y 0).val % 160, Nat.mod_lt _ (by decide)⟩ (place m t y 1) : S160x256.Idx) = y := by
    funext a
    match a with
    | ⟨0, _⟩ => exact Fin.ext (by show (place m t y 0).val % 160 = (y 0).val; omega)
    | ⟨1, _⟩ => exact Fin.ext h1
  unfold blocks
  rw [e1]
  exact congrArg _ e2

theorem flushed_eq (c : Dev nD) (t : Fin grid0.N) :
    (dats m 0 c).flushed 0 t = (((cfg0 (F := F) (adm m 0)).win 0).blk t).view.read (Elt F) (blocks m c : Buf (Elt F) ((c : Thread nD τ).loc main_v0)) := by
  funext y
  show outBlk c (fsOf m c) (fgOf m c) (fxOf m c) (grid0.coords t 0).val y = blocks m c (place m t y)
  rw [coords_val]
  exact (blocks_place m c t y).symm

/-- Which elements of the result row `t`'s block covers. -/
theorem mem_blk (t : Fin grid0.N) (i : S71680x256.Idx) :
    (i ∈ ((((cfg0 (F := F) (adm m 0)).win 0).blk t).view.set : Finset S71680x256.Idx)) ↔ (i 0).val / 160 = t.val := by
  constructor
  · intro hi
    obtain ⟨y, -, e⟩ := Finset.mem_map.mp hi
    have key : ∀ y : S160x256.Idx, place m t y = i → (i 0).val / 160 = t.val := fun y e => by
      have h0 := place_val0 m t y
      have hy : (y 0).val < 160 := (y 0).isLt
      rw [e] at h0
      omega
    exact key y e
  · intro h
    refine Finset.mem_map.mpr ⟨(ix2 ⟨(i 0).val % 160, Nat.mod_lt _ (by decide)⟩ (i 1) : S160x256.Idx), Finset.mem_univ _, ?_⟩
    show place m t _ = i
    funext a
    match a with
    | ⟨0, _⟩ => exact Fin.ext ((place_val0 m t _).trans (by show (t.val) * 160 + (i 0).val % 160 = (i 0).val; omega))
    | ⟨1, _⟩ => exact Fin.ext (place_val1 m t _)

/-- The call's array at the end, in the chunk's rows: its blocks. -/
theorem final_apply (c : Dev nD) (i : S71680x256.Idx) (h : (i 0).val / 160 < 112) : (finalA m c : S71680x256.Idx → Elt F .f32) i = blocks m c i := by
  refine ((dats m 0 c).arrAt_eq_piecewise 0 (blocks m c) (fun t _ => flushed_eq m c t) i).trans ?_
  exact if_pos ⟨⟨(i 0).val / 160, by show _ < grid0.N; rw [N_0]; omega⟩, flush_all m _, (mem_blk m _ i).2 rfl⟩

/-- The result: the chunk's rows of that array. -/
theorem result_apply (c : Dev nD) (i : S17920x256.Idx) : (result m c : S17920x256.Idx → Elt F .f32) i
    = outBlk c (fsOf m c) (fgOf m c) (fxOf m c) ((i 0).val / 160) (ix2 ⟨(i 0).val % 160, Nat.mod_lt _ (by decide)⟩ (i 1)) := by
  have hi : (i 0).val < 17920 := (i 0).isLt
  unfold result
  refine (extractStridedSlice_apply (s := S71680x256) (t := S17920x256) ![0, 0] _ _ i (ix2 ⟨(i 0).val, by omega⟩ (i 1)) (by
    intro b
    match b with
    | ⟨0, _⟩ => exact (Nat.zero_add _).symm
    | ⟨1, _⟩ => exact (Nat.zero_add _).symm)).trans ?_
  exact final_apply m c (ix2 ⟨(i 0).val, by omega⟩ (i 1)) (by show (i 0).val / 160 < 112; omega)

end Cert.Kernel0.Hand

end
-- ==== Proof.Chunk0.Reference.Read.lean ====
/-
  The reference's host lines, read at their last writers: what the buffers of the offsets, the step and unit of every tile,
  the targets, the contributions and the result hold, each as a function of the buffers its line starts from.
-/
module

public import proofs.«01_k».proof.Proof.Gen.Reference0Ideal.Frame
public import proofs.«01_k».proof.Proof.Reference.Read
public import Idealize.ShloMosaic.Lib.StableHlo.RunRead

@[expose] public section

set_option maxRecDepth 65536

noncomputable section

namespace Cert.Reference0Ideal.Hand

open Cert.ReferenceIdeal.Hand (floorDiv before unitOf valid cellOf targetOf contribs bev tilesOf weights cells codes unitsOf targets)
open Cert.Reference0Ideal Cert.Reference0Ideal.Gen
open Idealize.ShloMosaic Idealize.ShloMosaic.TcCoe

variable {F : FTy → Type} [FloatOps F]

/-- Where the chunk's units end, counted in steps from the chunk's first. -/
def ends (a0 : IVec S897 32) : IVec S224 32 :=
  subi (extractStridedSlice S224 ![1] a0 slices_S897_S224_1)
    (broadcastInDim S224 ![] bcast_S_S224 (shapeCast S_ (extractStridedSlice S1 ![0] a0 slices_S897_S1_0) shapeCasts_S1_S_))

/-- The sums, row by row and channel by channel. -/
def rowsOf (s : FVec F S28672x160 .f32) : FVec F S17920x256 .f32 :=
  shapeCast S17920x256 (transpose S112x160x256 [0, 2, 1] (shapeCast S112x256x160 s shapeCasts_S28672x160_S112x256x160)
    transposes_S112x256x160_S112x160x256_0_2_1) shapeCasts_S112x160x256_S17920x256

/-- What the second line writes. -/
abbrev hostOps1_1_W : List (Ref sig .tc) := [main_call0_v0, main_call0_v1, main_call0_v2, main_call0_v3, main_call0_v4, main_call0_v5, main_call0_v6, main_call0_v7, main_call0_v8, main_call0_c, main_call0_v9, main_call0_v10, main_call0_v11, main_call0_c_0, main_call0_v12, main_call0_v13, main_v15]
/-- What the third line writes. -/
abbrev hostOps1_2_W : List (Ref sig .tc) := [main_v16, main_v17, main_v18, main_v19, main_v20, main_v21, main_c_0, main_v22, main_v23, main_c_1, main_v24, main_v25, main_c_2, main_v26, main_v27, main_v28, main_v29, main_c_3, main_v30, main_v31, main_v32, main_v33, main_c_4, main_v34, main_v35, main_v36, main_v37, main_c_5]
/-- What the fourth line writes. -/
abbrev hostOps1_3_W : List (Ref sig .tc) := [main_call1_v0, main_call1_v1, main_v38]

variable (V : Valuation τ sig (Elt F))

theorem line1_codes : StableHlo.after hostOps1 V (Proc.devRef .tc main_v3) = codes (V (Proc.devRef .tc main_v1)) := by
  after_reads_simp; rfl
theorem line1_weights : StableHlo.after hostOps1 V (Proc.devRef .tc main_v6) = weights (V (Proc.devRef .tc main_v0)) := by
  after_reads_simp; rfl
theorem line1_cells : StableHlo.after hostOps1 V (Proc.devRef .tc main_v8) = cells (V (Proc.devRef .tc main_v0)) := by
  after_reads_simp; rfl
theorem line1_ends : StableHlo.after hostOps1 V (Proc.devRef .tc main_v13) = ends (V (Proc.devRef .tc main_arg0)) := by
  after_reads_simp; rfl
theorem line1_iota : StableHlo.after hostOps1 V (Proc.devRef .tc main_v14) = (iotaInDim S7800 32 0 : IVec S7800 32) := by
  after_reads_simp
theorem line1_two : StableHlo.after hostOps1 V (Proc.devRef .tc main_c) = (constantI S_ 32 2#32 : IVec S_ 32) := by
  after_reads_simp

theorem line2_step : StableHlo.after hostOps1_1 V (Proc.devRef .tc main_v15) = floorDiv (V (Proc.devRef .tc main_v14)) (V (Proc.devRef .tc main_c)) := by
  after_reads_simp; rfl
theorem line2_of_ne (r : Ref sig .tc) (h : r ∉ hostOps1_1_W) : StableHlo.after hostOps1_1 V (Proc.devRef .tc r) = V (Proc.devRef .tc r) :=
  StableHlo.after_unwritten hostOps1_1_W rfl h V

theorem line3_valid : StableHlo.after hostOps1_2 V (Proc.devRef .tc main_v32)
    = valid (unitOf (V (Proc.devRef .tc main_v13)) (V (Proc.devRef .tc main_v15))) (V (Proc.devRef .tc main_v8)) := by
  after_reads_simp; rfl
theorem line3_cell : StableHlo.after hostOps1_2 V (Proc.devRef .tc main_v37)
    = cellOf (unitOf (V (Proc.devRef .tc main_v13)) (V (Proc.devRef .tc main_v15))) (V (Proc.devRef .tc main_v8)) := by
  after_reads_simp; rfl
theorem line3_none : StableHlo.after hostOps1_2 V (Proc.devRef .tc main_c_5) = (constantI S_ 32 28672#32 : IVec S_ 32) := by
  after_reads_simp
theorem line3_of_ne (r : Ref sig .tc) (h : r ∉ hostOps1_2_W) : StableHlo.after hostOps1_2 V (Proc.devRef .tc r) = V (Proc.devRef .tc r) :=
  StableHlo.after_unwritten hostOps1_2_W rfl h V

theorem line4_target : StableHlo.after hostOps1_3 V (Proc.devRef .tc main_v38)
    = targetOf (V (Proc.devRef .tc main_v32)) (V (Proc.devRef .tc main_v37)) (V (Proc.devRef .tc main_c_5)) := by
  after_reads_simp; rfl
theorem line4_of_ne (r : Ref sig .tc) (h : r ∉ hostOps1_3_W) : StableHlo.after hostOps1_3 V (Proc.devRef .tc r) = V (Proc.devRef .tc r) :=
  StableHlo.after_unwritten hostOps1_3_W rfl h V

theorem line5_result : StableHlo.after hostOps1_4 V (Proc.devRef .tc main_v50)
    = rowsOf (bev (V (Proc.devRef .tc main_v38)) (V (Proc.devRef .tc main_v6)) (V (Proc.devRef .tc main_v3))) := by
  after_reads_simp; rfl

/-- All lines together. -/
theorem lines_result : StableHlo.after (List.flatten [hostOps1, hostOps1_1, hostOps1_2, hostOps1_3, hostOps1_4]) V (Proc.devRef .tc main_v50)
    = rowsOf (bev (targets (ends (V (Proc.devRef .tc main_arg0))) (V (Proc.devRef .tc main_v0))) (weights (V (Proc.devRef .tc main_v0)))
        (codes (V (Proc.devRef .tc main_v1)))) := by
  rw [show (List.flatten [hostOps1, hostOps1_1, hostOps1_2, hostOps1_3, hostOps1_4] : List (HloOp τ sig (Elt F)))
      = hostOps1 ++ (hostOps1_1 ++ (hostOps1_2 ++ (hostOps1_3 ++ hostOps1_4))) from rfl,
    StableHlo.after_append, StableHlo.after_append, StableHlo.after_append, StableHlo.after_append, line5_result,
    line4_target, line4_of_ne _ main_v6 (by decide), line4_of_ne _ main_v3 (by decide),
    line3_valid, line3_cell, line3_none, line3_of_ne _ main_v6 (by decide), line3_of_ne _ main_v3 (by decide),
    line2_step, line2_of_ne _ main_v13 (by decide), line2_of_ne _ main_v8 (by decide), line2_of_ne _ main_v6 (by decide), line2_of_ne _ main_v3 (by decide),
    line1_codes, line1_weights, line1_cells, line1_ends, line1_iota, line1_two]
  rfl

end Cert.Reference0Ideal.Hand

end
-- ==== Proof.Chunk0.Reference.Region.lean ====
/-
  The reference's run: its region decodes the packed tiles' bytes, and its result holds what its lines make of the decoded
  codes, the step table and the tiles.
-/
module

public import proofs.«01_k».proof.Proof.Chunk0.Reference.Read
public import proofs.«01_k».proof.Proof.Reference.Region
public import Idealize.ShloMosaic.Lib.Pipeline.Value

@[expose] public section

set_option maxRecDepth 65536

noncomputable section

namespace Cert.Reference0Ideal.Hand

open Cert.ReferenceIdeal.Hand (floorDiv before unitOf valid cellOf targetOf contribs bev tilesOf weights cells codes unitsOf targets bytes unit_emb zeros2)
open Cert.Reference0Ideal Cert.Reference0Ideal.Gen
open Idealize.ShloMosaic Idealize.ShloMosaic.TcCoe
open Idealize.ShloMosaic.Pipeline (Dat Cfg Window)
open Idealize.SL.Sem Idealize.SL

variable {F : FTy → Type} [FloatOps F]
variable (m : (ℓ : Loc nD τ sig) → Buf (Elt F) ℓ) (ρ : Dev nD → PrngReg)

theorem out_eq (x0 : Vec F S374400x128 .i32) : out0_1 x0 = bytes x0 := by
  have e : View.ld x0 r0_0 = x0 := funext fun y => congrArg x0 (unit_emb (s := S374400x128) ![0, 0] zeros2 _ y)
  unfold out0_1
  rw [e]
  funext y
  have h := View.canon_cons_emb (s := S1497600x128) (e := .f32) (Val := Elt F) r0_1 (k0_pay1 x0) [] y
  rw [show r0_1.emb y = y from unit_emb (s := S1497600x128) ![0, 0] zeros2 _ y] at h
  exact h

theorem emb0 (t : Fin cfg0.N) (y : S374400x128.Idx) : ((cfg0.win 0).blk t).view.emb y = y := by
  funext a
  exact Fin.ext (Window.rect_emb_val_of_index_zero (cfg0.win 0) t a rfl y)

theorem emb1 (t : Fin cfg0.N) (y : S1497600x128.Idx) : ((cfg0.win 1).blk t).view.emb y = y := by
  funext a
  exact Fin.ext (Window.rect_emb_val_of_index_zero (cfg0.win 1) t a rfl y)

theorem iblk_eq (c : Dev nD) (t : Fin cfg0.N) : iblk m c 0 t = m ((c : Thread nD τ).loc main_arg2) := by
  funext y
  show (V m c main_arg2 : S374400x128.Idx → BitVec 32) (((cfg0.win 0).blk t).view.emb y) = _
  rw [emb0, V_main_arg2]

theorem region_value (c : Dev nD) : (dats m 0 c).arrAt 1 cfg0.N = bytes (m ((c : Thread nD τ).loc main_arg2)) := by
  refine (dats m 0 c).arrAt_eq_of_cover 1 (bytes (m ((c : Thread nD τ).loc main_arg2))) (fun t _ => ?_) (fun i => ⟨t0_0, flush0_1 _, ?_⟩)
  · funext y
    have e : (dats m 0 c).after 1 t = bytes (m ((c : Thread nD τ).loc main_arg2)) := by
      rw [after0_1, out_eq, iblk_eq]
    show (dats m 0 c).after 1 t y = (bytes (m ((c : Thread nD τ).loc main_arg2)) : S1497600x128.Idx → Elt F .f32) (((cfg0.win 1).blk t).view.emb y)
    rw [e, emb1]
  · exact Finset.mem_map.mpr ⟨i, Finset.mem_univ _, emb1 _ i⟩

/-- The result of the reference's arguments. -/
def value (a0 : IVec S897 32) (a2 : Vec F S374400x128 .i32) : FVec F S17920x256 .f32 :=
  rowsOf (bev (targets (ends a0) (tilesOf a2)) (weights (tilesOf a2)) (codes (bytes a2)))

theorem tail_value (c : Dev nD) :
    Pipeline.afterTail₀ cfgs (dats m) 0 (V0 m) [hostOps1, hostOps1_1, hostOps1_2, hostOps1_3, hostOps1_4] c main_v50
      = value (m ((c : Thread nD τ).loc main_arg0)) (m ((c : Thread nD τ).loc main_arg2)) := by
  unfold Pipeline.afterTail₀ value
  refine (lines_result _).trans ?_
  have h0 := Pipeline.withArrays_of_ne (cfgs 0).spec c (V0 m c) (fun w => (dats m 0 c).arrAt w (cfgs 0).N) main_arg0 (by exact (by decide : ∀ w, Pipeline.arrRef spec0 w ≠ main_arg0))
  have hv := Pipeline.withArrays_of_ne (cfgs 0).spec c (V0 m c) (fun w => (dats m 0 c).arrAt w (cfgs 0).N) main_v0 (by exact (by decide : ∀ w, Pipeline.arrRef spec0 w ≠ main_v0))
  have h1 : Pipeline.withArrays (cfgs 0).spec c (V0 m c) (fun w => (dats m 0 c).arrAt w (cfgs 0).N) (Proc.devRef .tc main_v1) = bytes (m ((c : Thread nD τ).loc main_arg2)) :=
    (Pipeline.withArrays_arr (cfgs 0).spec (by exact (by decide : Function.Injective (Pipeline.arrRef spec0))) c (V0 m c) (fun w => (dats m 0 c).arrAt w (cfgs 0).N) 1).trans (region_value m c)
  have ev : V0 m c (Proc.devRef .tc main_v0) = tilesOf (m ((c : Thread nD τ).loc main_arg2)) := by
    show StableHlo.after hostOps0 (fun b => m (c, b)) (Proc.devRef .tc main_v0) = _
    after_reads_simp
    rfl
  rw [h0, hv, h1, ev, show V0 m c (Proc.devRef .tc main_arg0) = _ from V_main_arg0 m c]

/-- Every fair execution of the reference terminates, its result at that value and the arguments as they were. -/
theorem run_value : θ_run defs (onTc (τ := τ) (main (F := F))) ⟨m, fun _ => 0, ρ⟩ (fun r => ∀ c : Dev nD,
    r.2.mem ((c.tc : Thread nD τ).loc main_v50) = value (m ((c : Thread nD τ).loc main_arg0)) (m ((c : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => ⟨((h.1 c).2 main_v50 (Pipeline.mem_restRefs_of main_v50 (by decide) (by decide))).trans (tail_value m c), h.2 c⟩)
    (θ_run_and (run_main m ρ) (unchanged m ρ))

end Cert.Reference0Ideal.Hand

end
-- ==== Proof.Chunk0.Reference.Rows.lean ====
/-
  The chunk's part of the step table and its rows of the reference's result: where the units end, and which row holds what.
-/
module

public import proofs.«01_k».proof.Proof.Chunk0.Reference.Read
public import Idealize.ShloMosaic.Lib.ValueIdx
public import Idealize.ShloMosaic.Lib.Pipeline.Value

@[expose] public section

set_option maxRecDepth 65536

noncomputable section

namespace Cert.Reference0Ideal.Hand

open Cert.Reference0Ideal Cert.Reference0Ideal.Gen
open Idealize.ShloMosaic Idealize.ShloMosaic.TcCoe Idealize.ShloMosaic.ValueIdx

/-! ## The table -/

/-- Where unit `u` of the chunk starts, counted in steps from the chunk's first. -/
def endAt (a0 : IVec S897 32) (u : ℕ) : ℕ := if h : u < 897 then (a0 (ix1 ⟨u, h⟩) - a0 (ix1 ⟨0, by decide⟩)).toNat else 0

theorem endAt_zero (a0 : IVec S897 32) : endAt a0 0 = 0 := by
  unfold endAt
  rw [dif_pos (by decide)]
  show (a0 (ix1 ⟨0, _⟩) - a0 (ix1 ⟨0, _⟩)).toNat = 0
  rw [BitVec.sub_self]
  rfl

theorem ends_apply (a0 : IVec S897 32) (u : Fin 224) : (ends a0 (ix1 u)).toNat = endAt a0 (u.val + 1) := by
  unfold ends endAt
  rw [dif_pos (by omega)]
  refine congrArg BitVec.toNat (congrArg₂ (fun a b : BitVec 32 => a - b) ?_ ?_)
  · exact extractStridedSlice_apply (s := S897) ![1] _ _ (ix1 u) (ix1 ⟨(u.val + 1), by omega⟩) (by intro a; fin_cases a; show (u.val + 1) = 1 + u.val; omega)
  · rw [broadcastInDim_apply (s := S_) ![] _ _ (ix1 u) ix0 (by intro a; exact a.elim0), shapeCast_apply (s := S1) _ _ ix0 (ix1 0) (by rfl)]
    exact extractStridedSlice_apply (s := S897) ![0] _ _ (ix1 0) (ix1 ⟨0, by decide⟩) (by intro a; fin_cases a; rfl)

/-! ## The rows -/

/-- Row, channel and cell of an element. -/
theorem rowsOf_apply (s : FVec Ideal S28672x160 .f32) (i : S17920x256.Idx) (r : Fin 112) (d : Fin 160) (x : Fin 256)
    (h0 : (i 0).val = r.val * 160 + d.val) (h1 : (i 1).val = x.val) : rowsOf s i = s (ix2 ⟨r.val * 256 + x.val, by omega⟩ d) := by
  have hi : i = ix2 ⟨r.val * 160 + d.val, by omega⟩ x := by
    funext b
    match b with
    | ⟨0, _⟩ => exact Fin.ext h0
    | ⟨1, _⟩ => exact Fin.ext h1
  refine (congrArg (rowsOf s) hi).trans ?_
  unfold rowsOf
  rw [shapeCast_apply (s := S112x160x256) (t := S17920x256) _ _ (ix2 ⟨r.val * 160 + d.val, by omega⟩ x) (ix3 r d x) (by
      rw [Shape.rowMajor_val_three, Shape.rowMajor_val_two]
      rfl),
    transpose_apply (s := S112x256x160) (t := S112x160x256) _ _ _ (ix3 r d x) (ix3 r x d) (by
      intro b
      match b with
      | ⟨0, _⟩ => rfl
      | ⟨1, _⟩ => rfl
      | ⟨2, _⟩ => rfl),
    shapeCast_apply (s := S28672x160) (t := S112x256x160) _ _ (ix3 r x d) (ix2 ⟨r.val * 256 + x.val, by omega⟩ d) (by
      rw [Shape.rowMajor_val_three, Shape.rowMajor_val_two]
      rfl)]

end Cert.Reference0Ideal.Hand

end
-- ==== Proof.Chunk0.Equation.lean ====
/-
  The two values are one: at every row of the chunk the kernel's block and the reference's sums are the sums over the unit's
  steps of what the steps' tiles give.
-/
module

public import proofs.«01_k».proof.Proof.Chunk0.Ideal.Final
public import proofs.«01_k».proof.Proof.Chunk0.Ideal.Step
public import proofs.«01_k».proof.Proof.Chunk0.Order
public import proofs.«01_k».proof.Proof.Chunk0.Reference.Region
public import proofs.«01_k».proof.Proof.Chunk0.Reference.Rows
public import proofs.«01_k».proof.Proof.Reference.Value

@[expose] public section

set_option maxRecDepth 65536

noncomputable section

namespace Cert.Hand0

open Idealize.ShloMosaic hiding ix1 ix2 ix3
open Idealize.ShloMosaic.ValueIdx
open Cert.Kernel0.Hand (fsOf fxOf fgOf pos Ordered Plain flag unitSum)
open Cert.Reference0Ideal.Hand (ends endAt ends_apply endAt_zero)

variable (m : (ℓ : Loc Cert.Kernel0.nD Cert.Kernel0.τ Cert.Kernel0.sig) → Buf (Elt Ideal) ℓ) (c : Dev Cert.Kernel0.nD)

/-- The step table, as the reference takes it. -/
abbrev table : IVec Cert.Reference0Ideal.S897 32 := m ((c.tc : Thread Cert.Kernel0.nD Cert.Kernel0.τ).loc Cert.Kernel0.main_arg0)
/-- The packed tiles. -/
abbrev tiles : Vec Ideal Cert.Reference0Ideal.S374400x128 .i32 := m ((c.tc : Thread Cert.Kernel0.nD Cert.Kernel0.τ).loc Cert.Kernel0.main_arg2)
/-- Both count a unit's first step alike. -/
theorem endAt_eq_pos (u : ℕ) : endAt (table m c) u = pos (F := Ideal) c (fsOf m c) u := by
  unfold endAt pos
  simp only [Nat.zero_add]
  rfl

/-- Under the precondition the path is the plain one or every weight word is a real number's. -/
theorem plain_of_pre
    (h : Cert.Pre_steps_in_order0.fn (F := Ideal) (fsOf m c) (fxOf m c) (fgOf m c) = fun _ => 1#1) : Plain c (fgOf m c) (fxOf m c) := by
  have hd := (decoded (F := Ideal) (fsOf m c) (fxOf m c) (fgOf m c) h).2
  by_cases hx : flag (F := Ideal) c (fxOf m c) = 0#32
  · exact Or.inl hx
  · exact Or.inr fun t l => (hd t l).resolve_left hx

/-- THE TWO VALUES ARE ONE. -/
theorem value_eq (hO : Ordered (F := Ideal) c (fsOf m c)) (hP : Plain c (fgOf m c) (fxOf m c)) :
    Cert.Reference0Ideal.Hand.value (F := Ideal) (table m c) (tiles m c) = Cert.Kernel0.Hand.result (F := Ideal) m c := by
  refine funext fun (i : Cert.Kernel0.S17920x256.Idx) => ?_
  refine Eq.trans ?_ (Cert.Kernel0.Hand.result_apply m c i).symm
  have hi0 : (i 0).val < 17920 := (i 0).isLt
  have hi1 : (i 1).val < 256 := (i 1).isLt
  have he := endAt_eq_pos m c
  have hk := Cert.Kernel0.Hand.outBlk_apply c (fgOf m c) (fxOf m c) (fsOf m c) hP hO ((i 0).val / 160) (by omega)
    ⟨(i 0).val % 160, Nat.mod_lt _ (by decide)⟩ (i 1)
  refine Eq.trans ?_ hk.symm
  refine (Cert.Reference0Ideal.Hand.rowsOf_apply _ i ⟨(i 0).val / 160, by omega⟩ ⟨(i 0).val % 160, Nat.mod_lt _ (by decide)⟩ (i 1)
    (by show (i 0).val = (i 0).val / 160 * 160 + (i 0).val % 160; omega) rfl).trans ?_
  refine (Cert.ReferenceIdeal.Hand.sums_apply (ends (table m c)) (endAt (table m c)) (ends_apply _) (endAt_zero _) (tiles m c) (fun u hu => he u ▸ he (u + 1) ▸ hO.mono u hu) (fun u hu => he u ▸ hO.le u hu)
    (2 * ((i 0).val / 160) + (i 1).val / 128) (by omega) ⟨(i 1).val % 128, Nat.mod_lt _ (by decide)⟩ ⟨(i 0).val % 160, Nat.mod_lt _ (by decide)⟩
    ⟨(i 0).val / 160 * 256 + (i 1).val, by omega⟩
    (by show (i 0).val / 160 * 256 + (i 1).val = (2 * ((i 0).val / 160) + (i 1).val / 128) * 128 + (i 1).val % 128; omega)).trans ?_
  rw [he, he]
  rfl

end Cert.Hand0

end
-- ==== Proof.Chunk2.Words.lean ====
/-
  Word arithmetic of the kernel's step tables: the ring slot a step uses, how many trips each counted loop makes, and
  the side conditions the body assumes, all from three facts about the four table words it reads: measured from the
  chunk's first step, the unit's bounds `a ≤ b` lie below the chunk's step count `t`, and `t` is at most 3900.
-/
module

public import proofs.«01_k».proof.Proof.Words
public import proofs.«01_k».proof.Proof.Gen.Kernel2.Loops
public import Idealize.ShloMosaic.Lib.LoopRemainder
public import Idealize.ShloMosaic.Lib.Affine
public import Idealize.ShloMosaic.Lib.WordArith
public import Idealize.ShloMosaic.Lib.WordCmp

@[expose] public section

set_option maxRecDepth 65536

noncomputable section

namespace Cert.Kernel2.Hand

open Cert.Kernel.Hand (UnitWords)
open Cert.Kernel2 Cert.Kernel2.Gen
open Idealize.ShloMosaic Idealize.SL.Sem

/-! ## The words of one unit -/

section Unit

variable {v0 v1 v11 v15 : BitVec 32}

theorem t5_ub (v0 v11 v15 : BitVec 32) : (k0_t5_loop v0 v11 v15).ub = v15 - v0 :=
  Cert.Kernel.Hand.t5_ub v0 v11 v15
theorem t5_trips (h : UnitWords v0 v1 v11 v15) : (k0_t5_loop v0 v11 v15).trips = (v15 - v0).toNat - (v11 - v0).toNat :=
  Cert.Kernel.Hand.t5_trips h
theorem t5_ok' (h : UnitWords v0 v1 v11 v15) : (k0_t5_loop v0 v11 v15).OK :=
  Cert.Kernel.Hand.t5_ok' h

/-- The step that trip `k` of the unit's loop handles, as a natural number. -/
theorem t5_iv (h : UnitWords v0 v1 v11 v15) (k : Fin (k0_t5_loop v0 v11 v15).trips) :
    (Scf.iv (v11 - v0) 1#32 k).toNat = (v11 - v0).toNat + k.val ∧ (v11 - v0).toNat + k.val < (v15 - v0).toNat :=
  Cert.Kernel.Hand.t5_iv h k

theorem off25_eq (h : UnitWords v0 v1 v11 v15) (k : Fin (k0_t5_loop v0 v11 v15).trips) :
    k0_off25 v0 v11 v15 k = ![((v11 - v0).toNat + k.val) % 16] :=
  Cert.Kernel.Hand.off25_eq h k
theorem off26_eq (h : UnitWords v0 v1 v11 v15) (k : Fin (k0_t5_loop v0 v11 v15).trips) :
    k0_off26 v0 v11 v15 k = ![((v11 - v0).toNat + k.val) % 16, 0, 0] :=
  Cert.Kernel.Hand.off26_eq h k
theorem off28_eq (h : UnitWords v0 v1 v11 v15) (k : Fin (k0_t5_loop v0 v11 v15).trips) :
    k0_off28 v0 v11 v15 k = ![((v11 - v0).toNat + k.val) % 16, 0, 0] :=
  Cert.Kernel.Hand.off28_eq h k
theorem off27_eq (h : UnitWords v0 v1 v11 v15) (k : Fin (k0_t5_loop v0 v11 v15).trips) :
    k0_off27 v0 v11 v15 k = ![((v11 - v0).toNat + k.val) * 96, 0] :=
  Cert.Kernel.Hand.off27_eq h k
/-- The trip starts another copy exactly when a step sixteen further on is still in the chunk. -/
theorem cond7_iff (h : UnitWords v0 v1 v11 v15) (k : Fin (k0_t5_loop v0 v11 v15).trips) :
    k0_cond7 v0 v1 v11 v15 k = 1#1 ↔ (v11 - v0).toNat + k.val + 16 < (v1 - v0).toNat :=
  Cert.Kernel.Hand.cond7_iff h k
theorem off29_eq (h : UnitWords v0 v1 v11 v15) (k : Fin (k0_t5_loop v0 v11 v15).trips) :
    k0_off29 v0 v11 v15 k = ![((v11 - v0).toNat + k.val + 16) % 16] :=
  Cert.Kernel.Hand.off29_eq h k
theorem off30_eq (h : UnitWords v0 v1 v11 v15) (k : Fin (k0_t5_loop v0 v11 v15).trips) :
    k0_off30 v0 v11 v15 k = ![((v11 - v0).toNat + k.val + 16) % 16, 0, 0] :=
  Cert.Kernel.Hand.off30_eq h k
theorem off31_eq (h : UnitWords v0 v1 v11 v15) (k : Fin (k0_t5_loop v0 v11 v15).trips) :
    k0_off31 v0 v11 v15 k = ![((v11 - v0).toNat + k.val + 16) * 96, 0] :=
  Cert.Kernel.Hand.off31_eq h k

/-- The remainder loop behind the unit's main loop makes no trip. -/
theorem t6_none (v0 v11 v15 : BitVec 32) (k : Fin (k0_t6_loop v0 v11 v15).trips) : False :=
  Cert.Kernel.Hand.t6_none v0 v11 v15 k

theorem inb1 (n : ℕ) (h : n < 16) : ∀ a, (![n] : Fin 1 → ℕ) a + S1.size a ≤ S16.size a :=
  Cert.Kernel.Hand.inb1 n h
theorem inb3 (n : ℕ) (h : n < 16) : ∀ a, (![n, 0, 0] : Fin 3 → ℕ) a + S1x96x128.size a ≤ S16x96x128.size a :=
  Cert.Kernel.Hand.inb3 n h
theorem inb2 (n : ℕ) (h : n < 3900) : ∀ a, (![n * 96, 0] : Fin 2 → ℕ) a + S96x128.size a ≤ S374400x128.size a :=
  Cert.Kernel.Hand.inb2 n h

/-- The side condition assumed before the second unit's loop. -/
theorem chk3 (h : UnitWords v0 v1 v11 v15) : k0_chk3 v0 v1 v11 v15 :=
  Cert.Kernel.Hand.chk3 h

/-- The side condition assumed before the first unit's loop. -/
theorem chk2 (h : UnitWords v0 v1 v11 v15) : k0_chk2 v0 v1 v11 v15 :=
  Cert.Kernel.Hand.chk2 h

end Unit

/-! ## The first grid point's copies -/

section Start

variable {v0 v1 : BitVec 32}

theorem t1_ub (v0 v1 : BitVec 32) : (k0_t1_loop v0 v1).ub = Scalar.minsi (v1 - v0) 16#32 :=
  Cert.Kernel.Hand.t1_ub v0 v1

theorem t1_ub_nat (h : (v1 - v0).toNat ≤ 3900) : (k0_t1_loop v0 v1).ub.toNat = min (v1 - v0).toNat 16 :=
  Cert.Kernel.Hand.t1_ub_nat h

theorem t1_trips (h : (v1 - v0).toNat ≤ 3900) : (k0_t1_loop v0 v1).trips = min (v1 - v0).toNat 16 :=
  Cert.Kernel.Hand.t1_trips h

theorem t1_ok' (h : (v1 - v0).toNat ≤ 3900) : (k0_t1_loop v0 v1).OK :=
  Cert.Kernel.Hand.t1_ok' h

/-- The step that trip `k` starts. -/
theorem t1_iv (h : (v1 - v0).toNat ≤ 3900) (k : Fin (k0_t1_loop v0 v1).trips) :
    (Scalar.addi 0#32 (Scalar.muli (Scf.iv 0#32 1#32 k) 1#32)).toNat = k.val ∧ k.val < min (v1 - v0).toNat 16 :=
  Cert.Kernel.Hand.t1_iv h k

theorem off1_eq (h : (v1 - v0).toNat ≤ 3900) (k : Fin (k0_t1_loop v0 v1).trips) : k0_off1 v0 v1 k = ![k.val % 16] :=
  Cert.Kernel.Hand.off1_eq h k
theorem off2_eq (h : (v1 - v0).toNat ≤ 3900) (k : Fin (k0_t1_loop v0 v1).trips) : k0_off2 v0 v1 k = ![k.val % 16, 0, 0] :=
  Cert.Kernel.Hand.off2_eq h k
theorem off3_eq (h : (v1 - v0).toNat ≤ 3900) (k : Fin (k0_t1_loop v0 v1).trips) : k0_off3 v0 v1 k = ![k.val * 96, 0] :=
  Cert.Kernel.Hand.off3_eq h k

theorem t2_none (v0 v1 : BitVec 32) (k : Fin (k0_t2_loop v0 v1).trips) : False :=
  Cert.Kernel.Hand.t2_none v0 v1 k

/-- The side condition assumed before the first copies. -/
theorem chk1 (i : grid0.Coords) (h : (v1 - v0).toNat ≤ 3900) : k0_chk1 i v0 v1 :=
  Cert.Kernel.Hand.chk1 i h

end Start

/-! ## The grid point -/

theorem cond1_iff (i : grid0.Coords) : k0_cond1 i = 1#1 ↔ (i 0).val = 0 :=
  Cert.Kernel.Hand.cond1_iff i

theorem off7_eq (i : grid0.Coords) : k0_off7 i = ![448 + 2 * (i 0).val] := by
  have hi : (i 0).val < 112 := (i 0).isLt
  show ![((224#32 + BitVec.ofNat 32 (i 0).val) * 2#32 + 0#32).toNat] = _
  congr 1; simp [BitVec.toNat_add, BitVec.toNat_mul]; omega
theorem off8_eq (i : grid0.Coords) : k0_off8 i = ![448 + (2 * (i 0).val + 1)] := by
  have hi : (i 0).val < 112 := (i 0).isLt
  show ![((224#32 + BitVec.ofNat 32 (i 0).val) * 2#32 + 0#32 + 1#32).toNat] = _
  congr 1; simp [BitVec.toNat_add, BitVec.toNat_mul]; omega
theorem off23_eq (i : grid0.Coords) : k0_off23 i = ![448 + (2 * (i 0).val + 1)] := by
  have hi : (i 0).val < 112 := (i 0).isLt
  show ![((224#32 + BitVec.ofNat 32 (i 0).val) * 2#32 + 1#32).toNat] = _
  congr 1; simp [BitVec.toNat_add, BitVec.toNat_mul]; omega
theorem off24_eq (i : grid0.Coords) : k0_off24 i = ![448 + (2 * (i 0).val + 2)] := by
  have hi : (i 0).val < 112 := (i 0).isLt
  show ![((224#32 + BitVec.ofNat 32 (i 0).val) * 2#32 + 1#32 + 1#32).toNat] = _
  congr 1; simp [BitVec.toNat_add, BitVec.toNat_mul]; omega

end Cert.Kernel2.Hand

end
-- ==== Proof.Chunk2.Ring.lean ====
/-
  The kernel's ring: sixteen slots of on-chip memory, each with a completion counter of its own, into which the steps'
  rows of the packed tiles are copied sixteen steps ahead. Here: a slot's two states (free, or being filled with the
  rows from a given row on), the ring as the family of its slots' states, and one trip of the body's loop over it —
  wait for the step's slot, load it, add its product, start the copy of the step sixteen further on.
-/
module

public import proofs.«01_k».proof.Proof.Chunk2.Words
public import Idealize.ShloMosaic.Lib.Ring
public import Idealize.ShloMosaic.Lib.Ring.Window
public import Idealize.ShloMosaic.Lib.ValueIdxCore
public import Idealize.ShloMosaic.Lib.Pipeline.Value

@[expose] public section

set_option maxRecDepth 65536

noncomputable section

namespace Cert.Kernel2.Hand

open Cert.Kernel.Hand (UnitWords)
open Cert.Kernel2 Cert.Kernel2.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The resource algebra: the pipeline's rounds, and the counters the copies take their tokens from. -/
abbrev UU (nD : Nat) (τ : Topo) : Type := UR sig nD τ × Counters

local notation "𝕄" => MT nD τ sig Unit (Elt F) ℕ (UU nD τ) ℕ

/-- Memref `M`'s contents on core `c`. -/
abbrev Bf (c : Dev nD) {sp : Space} {S : Shape} {e : EltTy} (M : Memref sig .tc sp S e) : Type := Buf (Elt F) (M.view.loc (c : Thread nD τ))
/-- Memref `M`'s buffer on core `c`, held whole. -/
abbrev pt (c : Dev nD) {sp : Space} {S : Shape} {e : EltTy} (M : Memref sig .tc sp S e) (f : Bf (F := F) c M) : sProp 𝕄 :=
  M.view.loc (c : Thread nD τ) ↦{fullShare} f

/-- The whole buffers: the step table, the path flag, the packed tiles, the ring. -/
abbrev sbM : Memref sig .tc .smem S897 .i32 := Memref.whole main_arg0
abbrev exM : Memref sig .tc .smem S1 .i32 := Memref.whole main_arg1
abbrev gM : Memref sig .tc .hbm S374400x128 .i32 := Memref.whole main_arg2
abbrev ringM : Memref sig .tc .vmem S16x96x128 .i32 := Memref.whole cc0_scratch0

/-- Slot `k` of the ring, the counter of its copies, and the rows a copy reads. -/
def rslotK (k : Fin 16) : Memref sig .tc .vmem S96x128 .i32 :=
  (ringM.slice (Rect.unit (s := S16x96x128) ![k.val, 0, 0] S1x96x128.size (inb3 k.val k.isLt)) (fun _ => rfl)).squeeze S96x128 squeezes_S1x96x128_S96x128
abbrev cellK (k : Fin 16) : SemLoc sig :=
  .dma ((cc0_scratch1.slice (Rect.unit (s := S16) ![k.val] S1.size (inb1 k.val k.isLt))).squeeze S_ squeezes_S1_S_).sem

/-- A first row from which a step's ninety-six rows stay inside the packed tiles. -/
abbrev Row : Type := {o : ℕ // o + 96 ≤ 374400}

theorem inbO (o : Row) : ∀ a, (![o.val, 0] : Fin 2 → ℕ) a + S96x128.size a ≤ S374400x128.size a := by
  have := o.property
  intro a; fin_cases a
  · show o.val + 96 ≤ 374400; omega
  · show 0 + 128 ≤ 128; omega
def srcO (o : Row) : Memref sig .tc .hbm S96x128 .i32 :=
  gM.slice (Rect.unit (s := S374400x128) ![o.val, 0] S96x128.size (inbO o)) (fun _ => rfl)

/-- The packed tiles' read share for slot `k`'s copies. -/
abbrev tokG (c : Dev nD) (k : Fin 16) (S : Finset (Idx (gM.view.loc (c : Thread nD τ)))) (fg : Bf (F := F) c gM) : sProp 𝕄 :=
  gM.view.loc (c : Thread nD τ) ↦[S]{Transfers.shareTok fullShare 16 k} fg

/-- Slot `k` free: its counter at zero, the slot at anything, its read share whole. -/
abbrev freeS (c : Dev nD) (fg : Bf (F := F) c gM) (k : Fin 16) : sProp 𝕄 :=
  iprop(semVal ((c : Thread nD τ), cellK k) 0 ∗ (∃ f, (rslotK k).view.loc (c : Thread nD τ) ↦[(rslotK k).view.set]{fullShare} f) ∗ tokG c k Finset.univ fg)

/-- Slot `k` being filled with the rows from `o` on. -/
abbrev fillS (c : Dev nD) (fg : Bf (F := F) c gM) (k : Fin 16) (o : Row) : sProp 𝕄 :=
  iprop((∃ f, Transfers.Flight (countersEmb (U := UU nD τ)) (c : Thread nD τ) (cellK k) () (rslotK k).view.dmaCredit
            iprop(((rslotK k).view.loc (c : Thread nD τ) ↦[(rslotK k).view.set]{fullShare}
                    (rslotK k).view.writes (Elt F) f [⟨Rect.whole S96x128, ReadAs.same.apply ((srcO o).view.read (Elt F) fg)⟩])
              ∗ tokG c k (srcO o).view.set fg))
    ∗ tokG c k (Finset.univ \ (srcO o).view.set) fg)

/-- Slot `k` in its state. -/
def slotS (c : Dev nD) (fg : Bf (F := F) c gM) (k : Fin 16) (s : Option Row) : sProp 𝕄 :=
  match s with
  | none => freeS c fg k
  | some o => fillS c fg k o

/-! ## One trip, its offsets named by numbers -/

/-- A loaded block's product with its weights, by the path the flag names. -/
def prod (e : BitVec 32) (v : Vec F S1x96x128 .i32) : FVec F S128x160 .f32 :=
  if Scalar.cmpi .ne (Scalar.extui (Scalar.cmpi .eq e 0#32)) 0#32 = 1#1
    then k0_pay6 (iota .tc S128x256 32 [0] iota_S128x256_d0_w32) v else k0_pay7 (iota .tc S128x256 32 [0] iota_S128x256_d0_w32) v

/-- The trip at any offsets. -/
def tripG (o25 : Fin 1 → ℕ) (h25 : ∀ a, o25 a + S1.size a ≤ S16.size a) (o26 : Fin 3 → ℕ) (h26 : ∀ a, o26 a + S1x96x128.size a ≤ S16x96x128.size a)
    (o27 : Fin 2 → ℕ) (h27 : ∀ a, o27 a + S96x128.size a ≤ S374400x128.size a) (b : BitVec 1)
    (o29 : Fin 1 → ℕ) (h29 : b = 1#1 → ∀ a, o29 a + S1.size a ≤ S16.size a) (o30 : Fin 3 → ℕ) (h30 : b = 1#1 → ∀ a, o30 a + S1x96x128.size a ≤ S16x96x128.size a)
    (o31 : Fin 2 → ℕ) (h31 : b = 1#1 → ∀ a, o31 a + S96x128.size a ≤ S374400x128.size a)
    (acc : FVec F S128x160 .f32) : Prog (TpuEff nD τ sig (Elt F) Λ₀ .tc) (FVec F S128x160 .f32) := do
  Prog.lift (.waitDma2 ((cc0_scratch1.slice (Rect.unit (s := S16) o25 S1.size h25)).squeeze S_ squeezes_S1_S_).sem
    (gM.slice (Rect.unit (s := S374400x128) o27 S96x128.size h27) (fun _ => rfl))
    ((ringM.slice (Rect.unit (s := S16x96x128) o26 S1x96x128.size h26) (fun _ => rfl)).squeeze S96x128 squeezes_S1x96x128_S96x128)
    (View.wordExact_bits rfl) ((View.wordExact_bits rfl).reshape _ _))
  let v84 : Vec F S1x96x128 .i32 ← Prog.lift (.load ringM (Rect.unit (s := S16x96x128) o26 S1x96x128.size h26).toLoadRect (View.loadsAt_vmem h_S1x96x128))
  let v101 : Elt F .i32 ← smemLoad exM (Rect.unit (s := S1) ![0] S1.size inb_S1_S1_0) numel1_S1 rfl
  let v105 : FVec F S128x160 .f32 ← if Scalar.cmpi .ne (Scalar.extui (Scalar.cmpi .eq v101 0#32)) 0#32 = 1#1
    then pure (k0_pay6 (iota .tc S128x256 32 [0] iota_S128x256_d0_w32) v84) else pure (k0_pay7 (iota .tc S128x256 32 [0] iota_S128x256_d0_w32) v84)
  if h : b = 1#1 then do
    Prog.lift (.enqueueDma (gM.slice (Rect.unit (s := S374400x128) o31 S96x128.size (h31 h)) (fun _ => rfl))
      (.here ((ringM.slice (Rect.unit (s := S16x96x128) o30 S1x96x128.size (h30 h)) (fun _ => rfl)).squeeze S96x128 squeezes_S1x96x128_S96x128))
      (.dma ((cc0_scratch1.slice (Rect.unit (s := S16) o29 S1.size (h29 h))).squeeze S_ squeezes_S1_S_).sem)
      (View.wordExact_bits rfl) ((View.wordExact_bits rfl).reshape _ _) ⟨Or.inl rfl, trivial⟩)
    pure ⟨⟩
  else pure ⟨⟩
  pure (k0_pay8 acc v105)

/-- The trip at slot `s`, waiting for the rows from `o` on and, when `b` says so, starting those from `o'` on. -/
def tripN (s : Fin 16) (o : Row) (b : BitVec 1) (o' : b = 1#1 → Row) (acc : FVec F S128x160 .f32) :
    Prog (TpuEff nD τ sig (Elt F) Λ₀ .tc) (FVec F S128x160 .f32) := do
  Prog.lift (.waitDma2 ((cc0_scratch1.slice (Rect.unit (s := S16) ![s.val] S1.size (inb1 s.val s.isLt))).squeeze S_ squeezes_S1_S_).sem
    (gM.slice (Rect.unit (s := S374400x128) ![o.val, 0] S96x128.size (inbO o)) (fun _ => rfl))
    ((ringM.slice (Rect.unit (s := S16x96x128) ![s.val, 0, 0] S1x96x128.size (inb3 s.val s.isLt)) (fun _ => rfl)).squeeze S96x128 squeezes_S1x96x128_S96x128)
    (View.wordExact_bits rfl) ((View.wordExact_bits rfl).reshape _ _))
  let v84 : Vec F S1x96x128 .i32 ← Prog.lift (.load ringM (Rect.unit (s := S16x96x128) ![s.val, 0, 0] S1x96x128.size (inb3 s.val s.isLt)).toLoadRect (View.loadsAt_vmem h_S1x96x128))
  let v101 : Elt F .i32 ← smemLoad exM (Rect.unit (s := S1) ![0] S1.size inb_S1_S1_0) numel1_S1 rfl
  let v105 : FVec F S128x160 .f32 ← if Scalar.cmpi .ne (Scalar.extui (Scalar.cmpi .eq v101 0#32)) 0#32 = 1#1
    then pure (k0_pay6 (iota .tc S128x256 32 [0] iota_S128x256_d0_w32) v84) else pure (k0_pay7 (iota .tc S128x256 32 [0] iota_S128x256_d0_w32) v84)
  if h : b = 1#1 then do
    Prog.lift (.enqueueDma (gM.slice (Rect.unit (s := S374400x128) ![(o' h).val, 0] S96x128.size (inbO (o' h))) (fun _ => rfl))
      (.here ((ringM.slice (Rect.unit (s := S16x96x128) ![s.val, 0, 0] S1x96x128.size (inb3 s.val s.isLt)) (fun _ => rfl)).squeeze S96x128 squeezes_S1x96x128_S96x128))
      (.dma ((cc0_scratch1.slice (Rect.unit (s := S16) ![s.val] S1.size (inb1 s.val s.isLt))).squeeze S_ squeezes_S1_S_).sem)
      (View.wordExact_bits rfl) ((View.wordExact_bits rfl).reshape _ _) ⟨Or.inl rfl, trivial⟩)
    pure ⟨⟩
  else pure ⟨⟩
  pure (k0_pay8 acc v105)

theorem tripG_eq (s : Fin 16) (o : Row) (b : BitVec 1) (n : ℕ) (hn : b = 1#1 → n + 96 ≤ 374400) (acc : FVec F S128x160 .f32)
    (o25 : Fin 1 → ℕ) (h25) (o26 : Fin 3 → ℕ) (h26) (o27 : Fin 2 → ℕ) (h27) (o29 : Fin 1 → ℕ) (h29) (o30 : Fin 3 → ℕ) (h30) (o31 : Fin 2 → ℕ) (h31)
    (e25 : o25 = ![s.val]) (e26 : o26 = ![s.val, 0, 0]) (e27 : o27 = ![o.val, 0]) (e29 : o29 = ![s.val]) (e30 : o30 = ![s.val, 0, 0]) (e31 : o31 = ![n, 0]) :
    tripG (F := F) o25 h25 o26 h26 o27 h27 b o29 h29 o30 h30 o31 h31 acc = tripN s o b (fun h => ⟨n, hn h⟩) acc := by
  subst e25 e26 e27 e29 e30 e31
  rfl

/-- The body of the loop over the second unit's steps is the trip at the step's slot and rows. -/
theorem t5_body_eq (i : grid0.Coords) (arg4 : Memref sig .tc .hbm S71680x256 .f32) (harg4 : arg4.IsWhole) (arg5 : Memref sig .tc .vmem S160x256 .f32) (harg5 : arg5.IsWhole)
    {v0 v1 v11 v15 : BitVec 32} (h : UnitWords v0 v1 v11 v15) (hw : k0_chk3 v0 v1 v11 v15) (k : Fin (k0_t5_loop v0 v11 v15).trips) (acc : FVec F S128x160 .f32) :
    k0_t5_body (F := F) i sbM (Memref.isWhole_whole _) exM (Memref.isWhole_whole _) gM (Memref.isWhole_whole _) arg4 harg4 arg5 harg5 ringM (Memref.isWhole_whole _) cc0_scratch1
        v0 v1 (iota .tc S128x256 32 [0] iota_S128x256_d0_w32) v11 (v11 - v0) v15 hw k acc
      = tripN ⟨((v11 - v0).toNat + k.val) % 16, Nat.mod_lt _ (by decide)⟩
          ⟨((v11 - v0).toNat + k.val) * 96, by have := (t5_iv h k).2; have := h.bt; have := h.le; omega⟩
          (k0_cond7 v0 v1 v11 v15 k)
          (fun h7 => ⟨((v11 - v0).toNat + k.val + 16) * 96, by have := (cond7_iff h k).1 h7; have := h.le; omega⟩) acc :=
  Eq.trans (show _ = tripG (F := F) (k0_off25 v0 v11 v15 k) (k0_off25_inb v0 v1 v11 v15 hw k) (k0_off26 v0 v11 v15 k) (k0_off26_inb v0 v1 v11 v15 hw k)
      (k0_off27 v0 v11 v15 k) (k0_off27_inb v0 v1 v11 v15 hw k) (k0_cond7 v0 v1 v11 v15 k)
      (k0_off29 v0 v11 v15 k) (k0_off29_inb v0 v1 v11 v15 hw k) (k0_off30 v0 v11 v15 k) (k0_off30_inb v0 v1 v11 v15 hw k)
      (k0_off31 v0 v11 v15 k) (k0_off31_inb v0 v1 v11 v15 hw k) acc from rfl)
    (tripG_eq _ _ _ _ _ acc _ _ _ _ _ _ _ _ _ _ _ _ (off25_eq h k) (off26_eq h k) (off27_eq h k)
      ((off29_eq h k).trans (by rw [Nat.add_mod_right])) ((off30_eq h k).trans (by rw [Nat.add_mod_right])) (off31_eq h k))

/-- The ninety-six rows from `o` on, as the body loads them. -/
def blk (c : Dev nD) (fg : Bf (F := F) c gM) (o : Row) : Vec F S1x96x128 .i32 :=
  shapeCast S1x96x128 ((srcO o).view.read (Elt F) fg) (by decide)

/-- A slot's elements are its rectangle's. -/
theorem rslotK_set (k : Fin 16) :
    (rslotK k).view.set = (Rect.unit (s := S16x96x128) ![k.val, 0, 0] S1x96x128.size (inb3 k.val k.isLt)).set :=
  (View.set_reshape _ _).trans (View.set_slice_whole _ _)

/-- A load of the slot's rectangle through the whole ring, after the rows from `o` on have arrived, reads them. -/
theorem landed_read (c : Dev nD) (fg : Bf (F := F) c gM) (s : Fin 16) (o : Row) (f : (rslotK s).view.ty.Contents (Elt F)) :
    ringM.view.readAt (Elt F) (Rect.unit (s := S16x96x128) ![s.val, 0, 0] S1x96x128.size (inb3 s.val s.isLt)).toLoadRect
      ((rslotK s).view.writes (Elt F) f [⟨Rect.whole S96x128, ReadAs.same.apply ((srcO o).view.read (Elt F) fg)⟩]) = blk c fg o := by
  have h := View.read_writes_whole (rslotK s).view f (ReadAs.same.apply ((srcO o).view.read (Elt F) fg))
  have e : ∀ g, (rslotK s).view.read (Elt F) g
      = shapeCast S96x128 (ringM.view.readAt (Elt F) (Rect.unit (s := S16x96x128) ![s.val, 0, 0] S1x96x128.size (inb3 s.val s.isLt)).toLoadRect g) (by show S1x96x128.ShapeCasts S96x128; decide) :=
    fun _ => rfl
  have h2 := (e _).symm.trans h
  exact (shapeCast_shapeCast _ _ _).symm.trans (congrArg (fun v => shapeCast S1x96x128 v (by decide)) h2)

/-- The flag word. -/
def flag (c : Dev nD) (fx : Bf (F := F) c exM) : BitVec 32 := fx (ValueIdx.ix1 0)

theorem flag_read (c : Dev nD) (fx : Bf (F := F) c exM) :
    exM.view.readAt (Elt F) (Rect.unit (s := S1) ![0] S1.size inb_S1_S1_0).toLoadRect fx (Shape.Idx.first (by decide)) = flag c fx := by
  unfold flag
  show fx _ = fx _
  congr 1
  funext a; fin_cases a; rfl

/-- One trip: the slot's rows arrive, their product is added, and the slot is free again or being filled anew. -/
theorem run_trip (c : Dev nD) (fg : Bf (F := F) c gM) (fx : Bf (F := F) c exM) (st : Fin 16 → Option Row)
    (s : Fin 16) (o : Row) (hst : st s = some o) (b : BitVec 1) (o' : b = 1#1 → Row) (acc : FVec F S128x160 .f32)
    (W : Waits sig Unit) (Q : FVec F S128x160 .f32 → sProp 𝕄) :
    iprop(Ring.AtW (slotS c fg) st ∗ pt c exM fx ∗ owes (c : Thread nD τ) 0 W
        ∗ ((Ring.AtW (slotS c fg) (Function.update st s (if h : b = 1#1 then some (o' h) else none)) ∗ pt c exM fx ∗ ∃ W, owes (c : Thread nD τ) 0 W)
            -∗ Q (k0_pay8 acc (prod (flag c fx) (blk c fg o)))))
      ⊢ wp frame (wpE (defs₀ (F := F)) Variants.none c none) Set.univ (tripN s o b o' acc) Q := by
  rw [Ring.AtW_focus (slotS c fg) st s, hst]
  have hS : (ringM.access (Rect.unit (s := S16x96x128) ![s.val, 0, 0] S1x96x128.size (inb3 s.val s.isLt))).set ⊆ (rslotK s).view.set := by
    rw [rslotK_set]; exact (View.set_slice_whole _ _).le
  unfold tripN prod
  by_cases hb : b = 1#1
  · rw [dif_pos hb]
    rw [show slotS c fg s (some o) = fillS c fg s o from rfl]
    iintro ⟨⟨⟨⟨%f, Hfl⟩, Htok⟩, Hrest⟩, Hx, HO, Hk⟩
    sl_exec
    have hr : run_trip.sl.r c fx = flag c fx := flag_read c fx
    have hv : run_trip.sl.v84 c fg s o = blk c fg o := landed_read c fg s o _
    rw [hr, hv]
    by_cases hx : Scalar.cmpi .ne (Scalar.extui (Scalar.cmpi .eq (flag c fx) 0#32)) 0#32 = 1#1
    · rw [if_pos hx]
      sl_exec
      sl_step
      iapply Hk
      isplitr [Hx HO]
      · iapply (Ring.AtW_update (slotS c fg) st s (some (o' hb)))
        isplitr [Hrest]
        · rw [show slotS c fg s (some (o' hb)) = fillS c fg s (o' hb) from rfl]
          isplitl [Hfl]
          · iexists _; iexact Hfl
          · iexact Htok
        · iexact Hrest
      · isplitl [Hx]; · iexact Hx
        iexists _; iexact HO
    · rw [if_neg hx]
      sl_exec
      sl_step
      iapply Hk
      isplitr [Hx HO]
      · iapply (Ring.AtW_update (slotS c fg) st s (some (o' hb)))
        isplitr [Hrest]
        · rw [show slotS c fg s (some (o' hb)) = fillS c fg s (o' hb) from rfl]
          isplitl [Hfl]
          · iexists _; iexact Hfl
          · iexact Htok
        · iexact Hrest
      · isplitl [Hx]; · iexact Hx
        iexists _; iexact HO
  · rw [dif_neg hb]
    rw [show slotS c fg s (some o) = fillS c fg s o from rfl]
    iintro ⟨⟨⟨⟨%f, Hfl⟩, Htok⟩, Hrest⟩, Hx, HO, Hk⟩
    sl_exec
    have hr : run_trip.sl.r_1 c fx = flag c fx := flag_read c fx
    have hv : run_trip.sl.v84_1 c fg s o = blk c fg o := landed_read c fg s o _
    rw [hr, hv]
    by_cases hx : Scalar.cmpi .ne (Scalar.extui (Scalar.cmpi .eq (flag c fx) 0#32)) 0#32 = 1#1
    · rw [if_pos hx]
      sl_exec
      sl_step
      iapply Hk
      isplitr [Hx HO]
      · iapply (Ring.AtW_update (slotS c fg) st s none)
        isplitr [Hrest]
        · rw [show slotS c fg s none = freeS c fg s from rfl]
          isplitl [Hfl]; · iexact Hfl
          isplitl [Hfl_dst]; · iexists _; iexact Hfl_dst
          iexact Htok
        · iexact Hrest
      · isplitl [Hx]; · iexact Hx
        iexists _; iexact HO
    · rw [if_neg hx]
      sl_exec
      sl_step
      iapply Hk
      isplitr [Hx HO]
      · iapply (Ring.AtW_update (slotS c fg) st s none)
        isplitr [Hrest]
        · rw [show slotS c fg s none = freeS c fg s from rfl]
          isplitl [Hfl]; · iexact Hfl
          isplitl [Hfl_dst]; · iexists _; iexact Hfl_dst
          iexact Htok
        · iexact Hrest
      · isplitl [Hx]; · iexact Hx
        iexists _; iexact HO

end Cert.Kernel2.Hand

end
-- ==== Proof.Chunk2.Trips.lean ====
/-
  The body's loops as invariants. Before step `p` of `T` the ring holds the steps `p` up to `min (p + 16) T`, step `x` in
  slot `x % 16`; a trip of a unit's loop moves the ring from step `p` to step `p + 1` and adds the step's product; a trip
  of the first grid point's loop starts one step's copy.
-/
module

public import proofs.«01_k».proof.Proof.Chunk2.Ring

@[expose] public section

set_option maxRecDepth 65536

noncomputable section

namespace Cert.Kernel2.Hand

open Cert.Kernel.Hand (UnitWords)
open Cert.Kernel2 Cert.Kernel2.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UU nD τ) ℕ

/-- The first row of step `x` (of the last step the tiles hold, when they hold no step `x`). -/
def rowT (x : ℕ) : Row := ⟨min (x * 96) 374304, by omega⟩

theorem rowT_eq {x : ℕ} (h : x * 96 + 96 ≤ 374400) : rowT x = ⟨x * 96, h⟩ := Subtype.ext (Nat.min_eq_left (by omega))

/-- The ring holding the steps from `lo` up to `hi`. -/
def stWin (lo hi : ℕ) : Fin 16 → Option Row := fun k => (Ring.inWin lo hi 16 k).map rowT
/-- The ring before step `p` of `T`. -/
def stAt (T p : ℕ) : Fin 16 → Option Row := stWin p (min (p + 16) T)

theorem map_update (f : Fin 16 → Option ℕ) (s : Fin 16) (a : Option ℕ) :
    (fun k => (Function.update f s a k).map rowT) = Function.update (fun k => (f k).map rowT) s (a.map rowT) := by
  funext k
  by_cases h : k = s
  · subst h; rw [Function.update_self, Function.update_self]
  · rw [Function.update_of_ne h, Function.update_of_ne h]

theorem stAt_at {T p : ℕ} (h : p < T) : stAt T p (Ring.sl 16 p) = some (rowT p) := by
  unfold stAt stWin
  rw [Ring.inWin_lo (by omega) (by omega)]; rfl

theorem stWin_push {lo hi : ℕ} (h1 : lo ≤ hi) (h2 : hi + 1 ≤ lo + 16) :
    stWin lo (hi + 1) = Function.update (stWin lo hi) (Ring.sl 16 hi) (some (rowT hi)) := by
  unfold stWin; rw [Ring.inWin_push h1 h2, map_update]; rfl

theorem stWin_pop {lo hi : ℕ} (h1 : lo < hi) (h2 : hi ≤ lo + 16) :
    stWin (lo + 1) hi = Function.update (stWin lo hi) (Ring.sl 16 lo) none := by
  unfold stWin; rw [Ring.inWin_pop h1 h2, map_update]; rfl

/-- One step further, a step sixteen further on being left. -/
theorem stAt_succ_more {T p : ℕ} (h : p + 16 < T) :
    stAt T (p + 1) = Function.update (stAt T p) (Ring.sl 16 p) (some (rowT (p + 16))) := by
  have hs : Ring.sl 16 (p + 16) = Ring.sl 16 p := Fin.ext (by rw [Ring.sl_val, Ring.sl_val, Nat.add_mod_right])
  unfold stAt
  rw [show min (p + 1 + 16) T = p + 16 + 1 from by omega, show min (p + 16) T = p + 16 from by omega,
    stWin_push (by omega) (by omega), stWin_pop (by omega) (by omega), hs, Function.update_idem]

/-- One step further near the end. -/
theorem stAt_succ_less {T p : ℕ} (h : p < T) (h' : ¬ p + 16 < T) :
    stAt T (p + 1) = Function.update (stAt T p) (Ring.sl 16 p) none := by
  unfold stAt
  rw [show min (p + 1 + 16) T = T from by omega, show min (p + 16) T = T from by omega, stWin_pop h (by omega)]

theorem stWin_empty (p q : ℕ) (h : q ≤ p) : stWin p q = fun _ => none := by
  funext k
  unfold stWin
  rw [(Ring.inWin_eq_none_iff (by omega) k).2 (fun x h1 h2 => absurd h1 (by omega))]; rfl

/-- The sum after `n` steps from step `A` on, from `z`. -/
def accN (c : Dev nD) (fg : Bf (F := F) c gM) (fx : Bf (F := F) c exM) (z : FVec F S128x160 .f32) (A : ℕ) : ℕ → FVec F S128x160 .f32
  | 0 => z
  | n + 1 => k0_pay8 (accN c fg fx z A n) (prod (flag c fx) (blk c fg (rowT (A + n))))

/-- The resources before step `p` of `T`: the ring, the flag word, the core's waits. -/
def ringAt (c : Dev nD) (fg : Bf (F := F) c gM) (fx : Bf (F := F) c exM) (T p : ℕ) : sProp 𝕄 :=
  iprop(Ring.AtW (slotS c fg) (stAt T p) ∗ pt c exM fx ∗ ∃ W, owes (c : Thread nD τ) 0 W)

theorem run_step (c : Dev nD) (fg : Bf (F := F) c gM) (fx : Bf (F := F) c exM) (T p : ℕ) (hp : p < T) (hT : T ≤ 3900)
    (s : Fin 16) (hs : s = Ring.sl 16 p) (o : Row) (ho : o = rowT p) (b : BitVec 1) (hb : b = 1#1 ↔ p + 16 < T)
    (o' : b = 1#1 → Row) (ho' : ∀ h, o' h = rowT (p + 16)) (acc : FVec F S128x160 .f32) (Q : FVec F S128x160 .f32 → sProp 𝕄) :
    iprop(ringAt c fg fx T p ∗ (ringAt c fg fx T (p + 1) -∗ Q (k0_pay8 acc (prod (flag c fx) (blk c fg (rowT p))))))
      ⊢ wp frame (wpE (defs₀ (F := F)) Variants.none c none) Set.univ (tripN s o b o' acc) Q := by
  subst hs ho
  have e : stAt T (p + 1) = Function.update (stAt T p) (Ring.sl 16 p) (if h : b = 1#1 then some (o' h) else none) := by
    by_cases h : b = 1#1
    · rw [dif_pos h, ho' h]; exact stAt_succ_more (hb.1 h)
    · rw [dif_neg h]; exact stAt_succ_less hp (fun h' => h (hb.2 h'))
  unfold ringAt
  iintro ⟨⟨HR, Hx, %W, HO⟩, Hk⟩
  iapply (run_trip c fg fx (stAt T p) _ _ (stAt_at hp) b o' acc W Q)
  isplitl [HR]; · iexact HR
  isplitl [Hx]; · iexact Hx
  isplitl [HO]; · iexact HO
  rw [← e]
  iexact Hk

section Loops

variable (c : Dev nD) (fg : Bf (F := F) c gM) (fx : Bf (F := F) c exM) (i : grid0.Coords)
  (arg4 : Memref sig .tc .hbm S71680x256 .f32) (harg4 : arg4.IsWhole) (arg5 : Memref sig .tc .vmem S160x256 .f32) (harg5 : arg5.IsWhole)

/-- The invariant of a unit's loop: the ring at the trip's step, the sum so far. -/
def unitInv (z : FVec F S128x160 .f32) (T A k : ℕ) (acc : FVec F S128x160 .f32) : sProp 𝕄 :=
  iprop(ringAt c fg fx T (A + k) ∗ ⌜acc = accN c fg fx z A k⌝)

set_option warn.classDefReducibility false in
/-- The loop over the second unit's steps. -/
@[sl_loop] def loopInv_t5 (v0 v1 v31 v35 : BitVec 32) (h : UnitWords v0 v1 v31 v35) (hw : k0_chk3 v0 v1 v31 v35) (z : FVec F S128x160 .f32) :
    LoopInvTy_k0_t5 (F := F) Unit ℕ (UU nD τ) ℕ Variants.none c none Set.univ i sbM (Memref.isWhole_whole _) exM (Memref.isWhole_whole _)
      gM (Memref.isWhole_whole _) arg4 harg4 arg5 harg5 ringM (Memref.isWhole_whole _) cc0_scratch1
      v0 v1 (iota .tc S128x256 32 [0] iota_S128x256_d0_w32) v31 (v31 - v0) v35 hw z where
  inv k acc := unitInv c fg fx z (v1 - v0).toNat (v31 - v0).toNat k acc
  step k acc := by
    have hk := (t5_iv h k).2
    have hbt := h.bt; have hle := h.le
    rw [t5_body_eq i arg4 harg4 arg5 harg5 h hw k acc]
    unfold unitInv
    iintro ⟨HR, %ha⟩
    iapply (run_step c fg fx (v1 - v0).toNat ((v31 - v0).toNat + k.val) (by omega) hle _ rfl _ (rowT_eq (by omega)).symm _ (cond7_iff h k) _
      (fun h7 => (rowT_eq (by have := (cond7_iff h k).1 h7; omega)).symm) acc)
    isplitl [HR]; · iexact HR
    iintro HR
    isplitl [HR]; · iexact HR
    ipureintro
    rw [ha]; rfl

set_option warn.classDefReducibility false in
/-- The loop over the first unit's steps: the same body. -/
@[sl_loop] def loopInv_t3 (v0 v1 v11 v15 : BitVec 32) (h : UnitWords v0 v1 v11 v15) (hw : k0_chk2 v0 v1 v11 v15) (z : FVec F S128x160 .f32) :
    LoopInvTy_k0_t3 (F := F) Unit ℕ (UU nD τ) ℕ Variants.none c none Set.univ i sbM (Memref.isWhole_whole _) exM (Memref.isWhole_whole _)
      gM (Memref.isWhole_whole _) arg4 harg4 arg5 harg5 ringM (Memref.isWhole_whole _) cc0_scratch1
      v0 v1 v11 (v11 - v0) v15 hw z where
  inv k acc := unitInv c fg fx z (v1 - v0).toNat (v11 - v0).toNat k acc
  step k acc := (loopInv_t5 c fg fx i arg4 harg4 arg5 harg5 v0 v1 v11 v15 h hw z).step k acc

end Loops

/-! ## The first grid point's loop -/

/-- A trip of it at any offsets. -/
def firstG (o1 : Fin 1 → ℕ) (h1 : ∀ a, o1 a + S1.size a ≤ S16.size a) (o2 : Fin 3 → ℕ) (h2 : ∀ a, o2 a + S1x96x128.size a ≤ S16x96x128.size a)
    (o3 : Fin 2 → ℕ) (h3 : ∀ a, o3 a + S96x128.size a ≤ S374400x128.size a) : Prog (TpuEff nD τ sig (Elt F) Λ₀ .tc) Unit := do
  Prog.lift (.enqueueDma (gM.slice (Rect.unit (s := S374400x128) o3 S96x128.size h3) (fun _ => rfl))
    (.here ((ringM.slice (Rect.unit (s := S16x96x128) o2 S1x96x128.size h2) (fun _ => rfl)).squeeze S96x128 squeezes_S1x96x128_S96x128))
    (.dma ((cc0_scratch1.slice (Rect.unit (s := S16) o1 S1.size h1)).squeeze S_ squeezes_S1_S_).sem)
    (View.wordExact_bits rfl) ((View.wordExact_bits rfl).reshape _ _) ⟨Or.inl rfl, trivial⟩)
  pure ⟨⟩

/-- A trip of it at slot `s`, starting the rows from `o` on. -/
def firstN (s : Fin 16) (o : Row) : Prog (TpuEff nD τ sig (Elt F) Λ₀ .tc) Unit :=
  firstG ![s.val] (inb1 s.val s.isLt) ![s.val, 0, 0] (inb3 s.val s.isLt) ![o.val, 0] (inbO o)

theorem firstG_eq (s : Fin 16) (o : Row) (o1 : Fin 1 → ℕ) (h1) (o2 : Fin 3 → ℕ) (h2) (o3 : Fin 2 → ℕ) (h3)
    (e1 : o1 = ![s.val]) (e2 : o2 = ![s.val, 0, 0]) (e3 : o3 = ![o.val, 0]) :
    firstG (F := F) o1 h1 o2 h2 o3 h3 = firstN s o := by
  subst e1 e2 e3
  rfl

theorem t1_body_eq (i : grid0.Coords) (arg4 : Memref sig .tc .hbm S71680x256 .f32) (harg4 : arg4.IsWhole) (arg5 : Memref sig .tc .vmem S160x256 .f32) (harg5 : arg5.IsWhole)
    {v0 v1 : BitVec 32} (h : (v1 - v0).toNat ≤ 3900) (hw : k0_chk1 i v0 v1) (h1 : k0_cond1 i = 1#1) (k : Fin (k0_t1_loop v0 v1).trips) (u : Unit) :
    k0_t1_body (F := F) i sbM (Memref.isWhole_whole _) exM (Memref.isWhole_whole _) gM (Memref.isWhole_whole _) arg4 harg4 arg5 harg5 ringM (Memref.isWhole_whole _) cc0_scratch1
        v0 v1 hw h1 k u
      = firstN ⟨k.val % 16, Nat.mod_lt _ (by decide)⟩ ⟨k.val * 96, by have := (t1_iv h k).2; omega⟩ :=
  Eq.trans (show _ = firstG (F := F) (k0_off1 v0 v1 k) (k0_off1_inb i v0 v1 hw k h1) (k0_off2 v0 v1 k) (k0_off2_inb i v0 v1 hw k h1)
      (k0_off3 v0 v1 k) (k0_off3_inb i v0 v1 hw k h1) from rfl)
    (firstG_eq _ _ _ _ _ _ _ _ (off1_eq h k) (off2_eq h k) (off3_eq h k))

/-- The trip starts a copy into a free slot. -/
theorem run_first (c : Dev nD) (fg : Bf (F := F) c gM) (st : Fin 16 → Option Row) (s : Fin 16) (o : Row) (hst : st s = none)
    (W : Waits sig Unit) (Q : Unit → sProp 𝕄) :
    iprop(Ring.AtW (slotS c fg) st ∗ owes (c : Thread nD τ) 0 W
        ∗ ((Ring.AtW (slotS c fg) (Function.update st s (some o)) ∗ ∃ W, owes (c : Thread nD τ) 0 W) -∗ Q ⟨⟩))
      ⊢ wp frame (wpE (defs₀ (F := F)) Variants.none c none) Set.univ (firstN s o) Q := by
  rw [Ring.AtW_focus (slotS c fg) st s, hst]
  rw [show slotS c fg s none = freeS c fg s from rfl]
  unfold firstN firstG
  iintro ⟨⟨⟨Hfl, ⟨%f, Hdst⟩, Htok⟩, Hrest⟩, HO, Hk⟩
  sl_exec
  sl_step
  iapply Hk
  isplitr [HO]
  · iapply (Ring.AtW_update (slotS c fg) st s (some o))
    isplitr [Hrest]
    · rw [show slotS c fg s (some o) = fillS c fg s o from rfl]
      isplitl [Hfl]
      · iexists _; iexact Hfl
      · iexact Htok
    · iexact Hrest
  · iexists _; iexact HO

theorem stWin_free (k : ℕ) (h : k < 16) : stWin 0 k (Ring.sl 16 k) = none := by
  unfold stWin
  rw [Ring.inWin_hi (by omega) (by omega)]; rfl

set_option warn.classDefReducibility false in
/-- The first grid point's loop: before trip `k` the first `k` slots are being filled. -/
@[sl_loop] def loopInv_t1 (c : Dev nD) (fg : Bf (F := F) c gM) (i : grid0.Coords)
    (arg4 : Memref sig .tc .hbm S71680x256 .f32) (harg4 : arg4.IsWhole) (arg5 : Memref sig .tc .vmem S160x256 .f32) (harg5 : arg5.IsWhole)
    (v0 v1 : BitVec 32) (h : (v1 - v0).toNat ≤ 3900) (hw : k0_chk1 i v0 v1) (h1 : k0_cond1 i = 1#1) :
    LoopInvTy_k0_t1 (F := F) Unit ℕ (UU nD τ) ℕ Variants.none c none Set.univ i sbM (Memref.isWhole_whole _) exM (Memref.isWhole_whole _)
      gM (Memref.isWhole_whole _) arg4 harg4 arg5 harg5 ringM (Memref.isWhole_whole _) cc0_scratch1 v0 v1 hw h1 where
  inv k _ := iprop(Ring.AtW (slotS c fg) (stWin 0 k) ∗ ∃ W, owes (c : Thread nD τ) 0 W)
  step k u := by
    have hk := (t1_iv h k).2
    rw [t1_body_eq i arg4 harg4 arg5 harg5 h hw h1 k u]
    iintro ⟨HR, %W, HO⟩
    iapply (run_first c fg (stWin 0 k.val) _ _ (stWin_free k.val (by omega)) W)
    isplitl [HR]; · iexact HR
    isplitl [HO]; · iexact HO
    iintro H
    rw [stWin_push (by omega) (by omega), rowT_eq (x := k.val) (by omega)]
    iexact H

end Cert.Kernel2.Hand

end
-- ==== Proof.Chunk2.Body.lean ====
/-
  The whole body at a grid point: at the first point the ring is filled, then the two units' loops run and their sums go,
  transposed, to the left and the right half of the output block.
-/
module

public import proofs.«01_k».proof.Proof.Chunk2.Trips

@[expose] public section

set_option maxRecDepth 65536

noncomputable section

namespace Cert.Kernel2.Hand

open Cert.Kernel.Hand (UnitWords)
open Cert.Kernel2 Cert.Kernel2.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UU nD τ) ℕ

/-- Word `n` of the step table. -/
def word (c : Dev nD) (fs : Bf (F := F) c sbM) (n : Fin 897) : BitVec 32 := fs (ValueIdx.ix1 n)

theorem word_read (c : Dev nD) (fs : Bf (F := F) c sbM) (off : Fin 1 → ℕ) (h) (n : Fin 897) (hn : off = ![n.val]) :
    sbM.view.readAt (Elt F) (Rect.unit (s := S897) off S1.size h).toLoadRect fs (Shape.Idx.first (by show 0 < S1.numel; decide)) = word c fs n := by
  subst hn
  unfold word
  show fs _ = fs _
  congr 1
  funext a; fin_cases a; rfl

/-- Where unit `u` begins among the chunk's steps. -/
def pos (c : Dev nD) (fs : Bf (F := F) c sbM) (u : ℕ) : ℕ :=
  if h : 448 + u < 897 then (word c fs ⟨448 + u, h⟩ - word c fs ⟨448, by decide⟩).toNat else 0

/-- The table's words of the chunk are in order and stay inside the packed tiles. -/
structure Ordered (c : Dev nD) (fs : Bf (F := F) c sbM) : Prop where
  mono : ∀ u, u < 224 → pos c fs u ≤ pos c fs (u + 1)
  le : ∀ u, u ≤ 224 → pos c fs u ≤ 3900

/-- The ring before point `r`: free before the first one. -/
def stPt (c : Dev nD) (fs : Bf (F := F) c sbM) (r : ℕ) : Fin 16 → Option Row :=
  if r = 0 then fun _ => none else stAt (pos c fs 224) (pos c fs (2 * r))

/-- The sum of unit `u`'s steps' products, from `z`. -/
def unitAcc (c : Dev nD) (fs : Bf (F := F) c sbM) (fg : Bf (F := F) c gM) (fx : Bf (F := F) c exM) (z : FVec F S128x160 .f32) (u : ℕ) : FVec F S128x160 .f32 :=
  accN c fg fx z (pos c fs u) (pos c fs (u + 1) - pos c fs u)

/-- Words with those positions are a unit's. -/
theorem unitWords {c : Dev nD} {fs : Bf (F := F) c sbM} (hO : Ordered c fs) (u : ℕ) (hu : u < 224) {v0 v1 v11 v15 : BitVec 32}
    (h0 : v0 = word c fs ⟨448, by decide⟩) (h1 : v1 = word c fs ⟨672, by decide⟩)
    (h11 : v11 = word c fs ⟨448 + u, by omega⟩) (h15 : v15 = word c fs ⟨448 + (u + 1), by omega⟩) :
    UnitWords v0 v1 v11 v15 ∧ (v1 - v0).toNat = pos c fs 224 ∧ (v11 - v0).toNat = pos c fs u ∧ (v15 - v0).toNat = pos c fs (u + 1) := by
  have e1 : (v1 - v0).toNat = pos c fs 224 := by subst h0 h1; unfold pos; rw [dif_pos (by omega)]
  have e11 : (v11 - v0).toNat = pos c fs u := by subst h0 h11; unfold pos; rw [dif_pos (by omega)]
  have e15 : (v15 - v0).toNat = pos c fs (u + 1) := by subst h0 h15; unfold pos; rw [dif_pos (by omega)]
  refine ⟨⟨?_, ?_, ?_⟩, e1, e11, e15⟩
  · rw [e11, e15]; exact hO.mono u hu
  · rw [e15, e1]
    have : ∀ n, u + 1 + n ≤ 224 → pos c fs (u + 1) ≤ pos c fs (u + 1 + n) := by
      intro n
      induction n with
      | zero => intro _; exact le_rfl
      | succ n ih => intro h; exact (ih (by omega)).trans (hO.mono _ (by omega))
    have h := this (224 - (u + 1)) (by omega)
    rwa [show u + 1 + (224 - (u + 1)) = 224 from by omega] at h
  · rw [e1]; exact hO.le 224 le_rfl

/-- The output block's two stores: the second unit's sum in the right half, the first unit's in the left half. -/
def outPieces (c : Dev nD) (fs : Bf (F := F) c sbM) (fg : Bf (F := F) c gM) (fx : Bf (F := F) c exM) (r : ℕ) : List (View.Piece (Elt F) S160x256 .f32) :=
  [⟨Rect.unit (s := S160x256) ![0, 128] S160x128.size inb_S160x256_S160x128_0_128, k0_pay16 (unitAcc c fs fg fx (k0_pay1 (F := F)) (2 * r + 1))⟩,
    ⟨Rect.unit (s := S160x256) ![0, 0] S160x128.size inb_S160x256_S160x128_0_0, k0_pay32 (unitAcc c fs fg fx (k0_pay17 (F := F)) (2 * r))⟩]

/-- The body at a later grid point. -/
theorem body_run1 (c : Dev nD) (fs : Bf (F := F) c sbM) (fg : Bf (F := F) c gM) (fx : Bf (F := F) c exM) (hO : Ordered c fs) (i : grid0.Coords) (hi : (i 0).val ≠ 0)
    (arg4 : Memref sig .tc .hbm S71680x256 .f32) (harg4 : arg4.IsWhole) (arg5 : Memref sig .tc .vmem S160x256 .f32) (harg5 : arg5.IsWhole)
    (fo : Bf (F := F) c arg5) (Q : PUnit → sProp 𝕄) :
    iprop(Ring.AtW (slotS c fg) (stPt c fs (i 0).val) ∗ pt c exM fx ∗ pt c sbM fs ∗ (∃ W, owes (c : Thread nD τ) 0 W) ∗ pt c arg5 fo
        ∗ ((Ring.AtW (slotS c fg) (stPt c fs ((i 0).val + 1)) ∗ pt c exM fx ∗ pt c sbM fs ∗ (∃ W, owes (c : Thread nD τ) 0 W)
             ∗ pt c arg5 (arg5.view.writes (Elt F) fo (outPieces c fs fg fx (i 0).val))) -∗ Q ⟨⟩))
      ⊢ wp frame (wpE (defs₀ (F := F)) Variants.none c none) Set.univ
          (cc0_pool (F := F) i sbM (Memref.isWhole_whole _) exM (Memref.isWhole_whole _) gM (Memref.isWhole_whole _) arg4 harg4 arg5 harg5 ringM (Memref.isWhole_whole _) cc0_scratch1) Q := by
  rw [cc0_pool_eq_skeleton]
  unfold cc0_pool_skel
  rw [k0_part5_eq_skeleton]
  unfold k0_part5_skel
  iintro ⟨HR, Hx, Hs, ⟨%W, HO⟩, Ho, Hk⟩
  sl_exec
  have hlt : (i 0).val < 112 := (i 0).isLt
  have hc : ¬ k0_cond1 i = 1#1 := fun h => hi ((cond1_iff i).1 h)
  have h0 : body_run1.sl.r c fs = word c fs ⟨448, by decide⟩ := word_read c fs _ _ _ rfl
  have h1 : body_run1.sl.r_1 c fs = word c fs ⟨672, by decide⟩ := word_read c fs _ _ _ rfl
  generalize body_run1.sl.r c fs = v0 at h0 ⊢
  generalize body_run1.sl.r_1 c fs = v1 at h1 ⊢
  have hw1 : k0_chk1 i v0 v1 := chk1 i (unitWords hO 0 (by omega) h0 h1 rfl rfl).1.le
  sl_exec
  rw [show body_run1.sl.v12 c fs i v0 = body_run1.sl.r_2 c fs i - v0 from rfl]
  have h2 : body_run1.sl.r_2 c fs i = word c fs ⟨448 + 2 * (i 0).val, by omega⟩ := word_read c fs _ _ _ (off7_eq i)
  have h3 : body_run1.sl.r_3 c fs i = word c fs ⟨448 + (2 * (i 0).val + 1), by omega⟩ := word_read c fs _ _ _ (off8_eq i)
  generalize body_run1.sl.r_2 c fs i = v11 at h2 ⊢
  generalize body_run1.sl.r_3 c fs i = v15 at h3 ⊢
  obtain ⟨hU, eT, eA, eB⟩ := unitWords hO (2 * (i 0).val) (by omega) h0 h1 h2 h3
  have hw2 : k0_chk2 v0 v1 v11 v15 := chk2 hU
  have e0 : stPt c fs (i 0).val = stAt (v1 - v0).toNat ((v11 - v0).toNat + 0) := by
    unfold stPt; rw [if_neg hi, eT, eA]; rfl
  rw [e0]
  let L := loopInv_t3 c fg fx i arg4 harg4 arg5 harg5 v0 v1 v11 v15 hU hw2 (k0_pay17 (F := F))
  sl_exec
  rw [bind_assoc]
  sl_exec
  rw [bind_assoc]
  sl_exec
  rw [show body_run1.sl.v32 c fs i v0 = body_run1.sl.r_4 c fs i - v0 from rfl]
  have h4 : body_run1.sl.r_4 c fs i = word c fs ⟨448 + (2 * (i 0).val + 1), by omega⟩ := word_read c fs _ _ _ (off23_eq i)
  have h5 : body_run1.sl.r_5 c fs i = word c fs ⟨448 + (2 * (i 0).val + 2), by omega⟩ := word_read c fs _ _ _ (off24_eq i)
  generalize body_run1.sl.r_4 c fs i = v31 at h4 ⊢
  generalize body_run1.sl.r_5 c fs i = v35 at h5 ⊢
  obtain ⟨hV, -, eC, eD⟩ := unitWords hO (2 * (i 0).val + 1) (by omega) h0 h1 h4 h5
  have hw3 : k0_chk3 v0 v1 v31 v35 := chk3 hV
  have hT3 : (k0_t3_loop v0 v11 v15).trips = pos c fs (2 * (i 0).val + 1) - pos c fs (2 * (i 0).val) := by
    rw [← eA, ← eB]; exact t5_trips hU
  have e1 : stAt (v1 - v0).toNat ((v11 - v0).toNat + (k0_t3_loop v0 v11 v15).trips) = stAt (v1 - v0).toNat ((v31 - v0).toNat + 0) := by
    have := hO.mono (2 * (i 0).val) (by omega)
    rw [hT3, eA, eC, Nat.add_sub_cancel' this]; rfl
  rw [show stAt (v1 - v0).toNat ((v11 - v0).toNat + Scf.trips (k0_t3_loop v0 v11 v15).lb (k0_t3_loop v0 v11 v15).ub (k0_t3_loop v0 v11 v15).st) = _ from e1]
  let L' := loopInv_t5 c fg fx i arg4 harg4 arg5 harg5 v0 v1 v31 v35 hV hw3 (k0_pay1 (F := F))
  sl_exec
  have hT5 : (k0_t5_loop v0 v31 v35).trips = pos c fs (2 * (i 0).val + 1 + 1) - pos c fs (2 * (i 0).val + 1) := by
    rw [← eC, ← eD]; exact t5_trips hV
  have e2 : stAt (v1 - v0).toNat ((v31 - v0).toNat + (k0_t5_loop v0 v31 v35).trips) = stPt c fs ((i 0).val + 1) := by
    have := hO.mono (2 * (i 0).val + 1) (by omega)
    unfold stPt
    rw [hT5, eC, eT, Nat.add_sub_cancel' this, if_neg (by omega)]; rfl
  have e3 : accN c fg fx (k0_pay1 (F := F)) (v31 - v0).toNat (k0_t5_loop v0 v31 v35).trips = unitAcc c fs fg fx k0_pay1 (2 * (i 0).val + 1) := by
    rw [hT5, eC]; rfl
  have e4 : accN c fg fx (k0_pay17 (F := F)) (v11 - v0).toNat (k0_t3_loop v0 v11 v15).trips = unitAcc c fs fg fx k0_pay17 (2 * (i 0).val) := by
    rw [hT3, eA]; rfl
  rw [show stAt (v1 - v0).toNat ((v31 - v0).toNat + Scf.trips (k0_t5_loop v0 v31 v35).lb (k0_t5_loop v0 v31 v35).ub (k0_t5_loop v0 v31 v35).st) = _ from e2,
    show accN c fg fx (k0_pay1 (F := F)) (v31 - v0).toNat (Scf.trips (k0_t5_loop v0 v31 v35).lb (k0_t5_loop v0 v31 v35).ub (k0_t5_loop v0 v31 v35).st) = _ from e3,
    show accN c fg fx (k0_pay17 (F := F)) (v11 - v0).toNat (Scf.trips (k0_t3_loop v0 v11 v15).lb (k0_t3_loop v0 v11 v15).ub (k0_t3_loop v0 v11 v15).st) = _ from e4]
  sl_step
  iapply Hk
  isplitl [HR]; · iexact HR
  isplitl [Hx]; · iexact Hx
  isplitl [Hs]; · iexact Hs
  isplitl [HO]; · iexists _; iexact HO
  iexact Ho

/-- The body at the first grid point. -/
theorem body_run0 (c : Dev nD) (fs : Bf (F := F) c sbM) (fg : Bf (F := F) c gM) (fx : Bf (F := F) c exM) (hO : Ordered c fs) (i : grid0.Coords) (hi : (i 0).val = 0)
    (arg4 : Memref sig .tc .hbm S71680x256 .f32) (harg4 : arg4.IsWhole) (arg5 : Memref sig .tc .vmem S160x256 .f32) (harg5 : arg5.IsWhole)
    (fo : Bf (F := F) c arg5) (Q : PUnit → sProp 𝕄) :
    iprop(Ring.AtW (slotS c fg) (stPt c fs (i 0).val) ∗ pt c exM fx ∗ pt c sbM fs ∗ (∃ W, owes (c : Thread nD τ) 0 W) ∗ pt c arg5 fo
        ∗ ((Ring.AtW (slotS c fg) (stPt c fs ((i 0).val + 1)) ∗ pt c exM fx ∗ pt c sbM fs ∗ (∃ W, owes (c : Thread nD τ) 0 W)
             ∗ pt c arg5 (arg5.view.writes (Elt F) fo (outPieces c fs fg fx (i 0).val))) -∗ Q ⟨⟩))
      ⊢ wp frame (wpE (defs₀ (F := F)) Variants.none c none) Set.univ
          (cc0_pool (F := F) i sbM (Memref.isWhole_whole _) exM (Memref.isWhole_whole _) gM (Memref.isWhole_whole _) arg4 harg4 arg5 harg5 ringM (Memref.isWhole_whole _) cc0_scratch1) Q := by
  rw [cc0_pool_eq_skeleton]
  unfold cc0_pool_skel
  rw [k0_part5_eq_skeleton]
  unfold k0_part5_skel
  iintro ⟨HR, Hx, Hs, ⟨%W, HO⟩, Ho, Hk⟩
  sl_exec
  have hlt : (i 0).val < 112 := (i 0).isLt
  have hc : k0_cond1 i = 1#1 := (cond1_iff i).2 hi
  have h0 : body_run0.sl.r c fs = word c fs ⟨448, by decide⟩ := word_read c fs _ _ _ rfl
  have h1 : body_run0.sl.r_1 c fs = word c fs ⟨672, by decide⟩ := word_read c fs _ _ _ rfl
  generalize body_run0.sl.r c fs = v0 at h0 ⊢
  generalize body_run0.sl.r_1 c fs = v1 at h1 ⊢
  have hle : (v1 - v0).toNat ≤ 3900 := (unitWords hO 0 (by omega) h0 h1 rfl rfl).1.le
  have hw1 : k0_chk1 i v0 v1 := chk1 i hle
  rw [show stPt c fs (i 0).val = stWin 0 0 from by rw [stWin_empty 0 0 le_rfl]; unfold stPt; rw [if_pos hi]]
  let L0 := loopInv_t1 c fg i arg4 harg4 arg5 harg5 v0 v1 hle hw1 hc
  sl_exec
  rw [bind_assoc]
  sl_exec
  rw [bind_assoc]
  sl_exec
  rw [show body_run0.sl.v12 c fs i v0 = body_run0.sl.r_2 c fs i - v0 from rfl]
  have h2 : body_run0.sl.r_2 c fs i = word c fs ⟨448 + 2 * (i 0).val, by omega⟩ := word_read c fs _ _ _ (off7_eq i)
  have h3 : body_run0.sl.r_3 c fs i = word c fs ⟨448 + (2 * (i 0).val + 1), by omega⟩ := word_read c fs _ _ _ (off8_eq i)
  generalize body_run0.sl.r_2 c fs i = v11 at h2 ⊢
  generalize body_run0.sl.r_3 c fs i = v15 at h3 ⊢
  obtain ⟨hU, eT, eA, eB⟩ := unitWords hO (2 * (i 0).val) (by omega) h0 h1 h2 h3
  have hw2 : k0_chk2 v0 v1 v11 v15 := chk2 hU
  have hA0 : (v11 - v0).toNat = 0 := by
    rw [eA, hi]; unfold pos; rw [dif_pos (by decide)]; simp
  have e0 : stWin 0 (k0_t1_loop v0 v1).trips = stAt (v1 - v0).toNat ((v11 - v0).toNat + 0) := by
    rw [t1_trips hle, hA0]
    show stWin 0 (min _ 16) = stWin 0 (min 16 _)
    rw [Nat.min_comm]
  rw [show stWin 0 (Scf.trips (k0_t1_loop v0 v1).lb (k0_t1_loop v0 v1).ub (k0_t1_loop v0 v1).st) = _ from e0]
  let L := loopInv_t3 c fg fx i arg4 harg4 arg5 harg5 v0 v1 v11 v15 hU hw2 (k0_pay17 (F := F))
  sl_exec
  rw [bind_assoc]
  sl_exec
  rw [bind_assoc]
  sl_exec
  rw [show body_run0.sl.v32 c fs i v0 = body_run0.sl.r_4 c fs i - v0 from rfl]
  have h4 : body_run0.sl.r_4 c fs i = word c fs ⟨448 + (2 * (i 0).val + 1), by omega⟩ := word_read c fs _ _ _ (off23_eq i)
  have h5 : body_run0.sl.r_5 c fs i = word c fs ⟨448 + (2 * (i 0).val + 2), by omega⟩ := word_read c fs _ _ _ (off24_eq i)
  generalize body_run0.sl.r_4 c fs i = v31 at h4 ⊢
  generalize body_run0.sl.r_5 c fs i = v35 at h5 ⊢
  obtain ⟨hV, -, eC, eD⟩ := unitWords hO (2 * (i 0).val + 1) (by omega) h0 h1 h4 h5
  have hw3 : k0_chk3 v0 v1 v31 v35 := chk3 hV
  have hT3 : (k0_t3_loop v0 v11 v15).trips = pos c fs (2 * (i 0).val + 1) - pos c fs (2 * (i 0).val) := by
    rw [← eA, ← eB]; exact t5_trips hU
  have e1 : stAt (v1 - v0).toNat ((v11 - v0).toNat + (k0_t3_loop v0 v11 v15).trips) = stAt (v1 - v0).toNat ((v31 - v0).toNat + 0) := by
    have := hO.mono (2 * (i 0).val) (by omega)
    rw [hT3, eA, eC, Nat.add_sub_cancel' this]; rfl
  rw [show stAt (v1 - v0).toNat ((v11 - v0).toNat + Scf.trips (k0_t3_loop v0 v11 v15).lb (k0_t3_loop v0 v11 v15).ub (k0_t3_loop v0 v11 v15).st) = _ from e1]
  let L' := loopInv_t5 c fg fx i arg4 harg4 arg5 harg5 v0 v1 v31 v35 hV hw3 (k0_pay1 (F := F))
  sl_exec
  have hT5 : (k0_t5_loop v0 v31 v35).trips = pos c fs (2 * (i 0).val + 1 + 1) - pos c fs (2 * (i 0).val + 1) := by
    rw [← eC, ← eD]; exact t5_trips hV
  have e2 : stAt (v1 - v0).toNat ((v31 - v0).toNat + (k0_t5_loop v0 v31 v35).trips) = stPt c fs ((i 0).val + 1) := by
    have := hO.mono (2 * (i 0).val + 1) (by omega)
    unfold stPt
    rw [hT5, eC, eT, Nat.add_sub_cancel' this, if_neg (by omega)]; rfl
  have e3 : accN c fg fx (k0_pay1 (F := F)) (v31 - v0).toNat (k0_t5_loop v0 v31 v35).trips = unitAcc c fs fg fx k0_pay1 (2 * (i 0).val + 1) := by
    rw [hT5, eC]; rfl
  have e4 : accN c fg fx (k0_pay17 (F := F)) (v11 - v0).toNat (k0_t3_loop v0 v11 v15).trips = unitAcc c fs fg fx k0_pay17 (2 * (i 0).val) := by
    rw [hT3, eA]; rfl
  rw [show stAt (v1 - v0).toNat ((v31 - v0).toNat + Scf.trips (k0_t5_loop v0 v31 v35).lb (k0_t5_loop v0 v31 v35).ub (k0_t5_loop v0 v31 v35).st) = _ from e2,
    show accN c fg fx (k0_pay1 (F := F)) (v31 - v0).toNat (Scf.trips (k0_t5_loop v0 v31 v35).lb (k0_t5_loop v0 v31 v35).ub (k0_t5_loop v0 v31 v35).st) = _ from e3,
    show accN c fg fx (k0_pay17 (F := F)) (v11 - v0).toNat (Scf.trips (k0_t3_loop v0 v11 v15).lb (k0_t3_loop v0 v11 v15).ub (k0_t3_loop v0 v11 v15).st) = _ from e4]
  sl_step
  iapply Hk
  isplitl [HR]; · iexact HR
  isplitl [Hx]; · iexact Hx
  isplitl [Hs]; · iexact Hs
  isplitl [HO]; · iexists _; iexact HO
  iexact Ho

/-- The body at any grid point. -/
theorem body_run (c : Dev nD) (fs : Bf (F := F) c sbM) (fg : Bf (F := F) c gM) (fx : Bf (F := F) c exM) (hO : Ordered c fs) (i : grid0.Coords)
    (arg4 : Memref sig .tc .hbm S71680x256 .f32) (harg4 : arg4.IsWhole) (arg5 : Memref sig .tc .vmem S160x256 .f32) (harg5 : arg5.IsWhole)
    (fo : Bf (F := F) c arg5) (Q : PUnit → sProp 𝕄) :
    iprop(Ring.AtW (slotS c fg) (stPt c fs (i 0).val) ∗ pt c exM fx ∗ pt c sbM fs ∗ (∃ W, owes (c : Thread nD τ) 0 W) ∗ pt c arg5 fo
        ∗ ((Ring.AtW (slotS c fg) (stPt c fs ((i 0).val + 1)) ∗ pt c exM fx ∗ pt c sbM fs ∗ (∃ W, owes (c : Thread nD τ) 0 W)
             ∗ pt c arg5 (arg5.view.writes (Elt F) fo (outPieces c fs fg fx (i 0).val))) -∗ Q ⟨⟩))
      ⊢ wp frame (wpE (defs₀ (F := F)) Variants.none c none) Set.univ
          (cc0_pool (F := F) i sbM (Memref.isWhole_whole _) exM (Memref.isWhole_whole _) gM (Memref.isWhole_whole _) arg4 harg4 arg5 harg5 ringM (Memref.isWhole_whole _) cc0_scratch1) Q := by
  by_cases hi : (i 0).val = 0
  · exact body_run0 c fs fg fx hO i hi arg4 harg4 arg5 harg5 fo Q
  · exact body_run1 c fs fg fx hO i hi arg4 harg4 arg5 harg5 fo Q

end Cert.Kernel2.Hand

end
-- ==== Proof.Chunk2.Pre.lean ====
/- What the precondition `steps_in_order2` says, in plain words: the step table of the chunk is in order and stays inside
   the packed tiles, and either the weights are used as they are (`exact` is zero) or every one of them is finite. -/
module

public import proofs.«01_k».proof.Pre_steps_in_order2
public import proofs.«01_k».proof.Proof.Gen.Pre_steps_in_order2
public import proofs.«01_k».proof.Proof.Pre
public import Idealize.ShloMosaic.Lib.Pipeline.Value
public import Idealize.ShloMosaic.Lib.ValueIdx

@[expose] public section

set_option maxRecDepth 65536

noncomputable section

namespace Cert.Hand2

open Idealize.ShloMosaic Idealize.ShloMosaic.Pipeline Idealize.ShloMosaic.ValueIdx
open Cert.Hand (andi_ofBool ori_ofBool ofBool_eq_one)
open Cert.Pre_steps_in_order2

variable {F : FTy → Type} [FloatOps F]

/-- The precondition, decoded: for every unit the chunk's step words, counted from the chunk's first one, are in order and
    at most 3900, and `exact` is zero or the weight word of every tile and lane has an exponent that is not all ones. -/
theorem decoded (a0 : IVec S897 32) (a1 : IVec S1 32) (a2 : IVec S374400x128 32) (a3 : FVec F S71680x256 .f32)
    (h : Cert.Pre_steps_in_order2.fn (F := F) a0 a1 a2 a3 = fun _ => 1#1) :
    (∀ u : Fin 224, (a0 (ix1 ⟨448 + u.val, by omega⟩) - a0 (ix1 ⟨448, by decide⟩)).sle (a0 (ix1 ⟨449 + u.val, by omega⟩) - a0 (ix1 ⟨448, by decide⟩)) = true
        ∧ (a0 (ix1 ⟨449 + u.val, by omega⟩) - a0 (ix1 ⟨448, by decide⟩)).sle 3900#32 = true)
    ∧ ∀ (t : Fin 7800) (l : Fin 128), a1 (ix1 0) = 0#32 ∨ a2 (ix2 ⟨48 * t.val + 40, by omega⟩ l) &&& 2139095040#32 ≠ 2139095040#32 := by
  have key : ∀ (u : Fin 224) (t : Fin 7800) (l : Fin 128),
      ((a0 (ix1 ⟨448 + u.val, by omega⟩) - a0 (ix1 ⟨448, by decide⟩)).sle (a0 (ix1 ⟨449 + u.val, by omega⟩) - a0 (ix1 ⟨448, by decide⟩)) = true
        ∧ (a0 (ix1 ⟨449 + u.val, by omega⟩) - a0 (ix1 ⟨448, by decide⟩)).sle 3900#32 = true)
      ∧ (a1 (ix1 0) = 0#32 ∨ a2 (ix2 ⟨48 * t.val + 40, by omega⟩ l) &&& 2139095040#32 ≠ 2139095040#32) := by
    intro u t l
    have e := congrFun h (ix3 u t l)
    unfold Cert.Pre_steps_in_order2.fn fn_part1 at e
    dsimp only [andi, ori, cmpi, subi, constantI] at e
    rw [broadcastInDim_apply (s := S224x1x1) ![0, 1, 2] _ _ (ix3 u t l) (ix3 u 0 0) (by intro a; fin_cases a <;> rfl),
      broadcastInDim_apply (s := S224) ![0] _ _ (ix3 u 0 0) (ix1 u) (by intro a; fin_cases a; rfl),
      broadcastInDim_apply (s := S1x7800x128) ![0, 1, 2] _ _ (ix3 u t l) (ix3 0 t l) (by intro a; fin_cases a <;> rfl),
      broadcastInDim_apply (s := S7800x128) ![1, 2] _ _ (ix3 0 t l) (ix2 t l) (by intro a; fin_cases a <;> rfl)] at e
    dsimp only [andi, ori, cmpi, subi, constantI] at e
    rw [broadcastInDim_apply (s := S1x1) ![0, 1] _ _ (ix2 t l) (ix2 0 0) (by intro a; fin_cases a <;> rfl),
      broadcastInDim_apply (s := S1) ![1] _ _ (ix2 0 0) (ix1 0) (by intro a; fin_cases a; rfl),
      extractStridedSlice_apply (s := S225) ![0] _ _ (ix1 u) (ix1 ⟨u.val, by omega⟩) (by intro a; fin_cases a; exact (Nat.zero_add _).symm),
      extractStridedSlice_apply (s := S225) ![1] _ _ (ix1 u) (ix1 ⟨1 + u.val, by omega⟩) (by intro a; fin_cases a; rfl)] at e
    dsimp only [andi, ori, cmpi, subi, constantI] at e
    rw [extractStridedSlice_apply (s := S897) ![448] _ _ (ix1 (⟨u.val, by omega⟩ : Fin 225)) (ix1 ⟨448 + u.val, by omega⟩) (by intro a; fin_cases a; rfl),
      extractStridedSlice_apply (s := S897) ![448] _ _ (ix1 (⟨1 + u.val, by omega⟩ : Fin 225)) (ix1 ⟨449 + u.val, by omega⟩) (by intro a; fin_cases a; show 449 + u.val = 448 + (1 + u.val); omega),
      broadcastInDim_apply (s := S_) ![] _ _ (ix1 (⟨u.val, by omega⟩ : Fin 225)) ix0 (by intro a; exact a.elim0),
      broadcastInDim_apply (s := S_) ![] _ _ (ix1 (⟨1 + u.val, by omega⟩ : Fin 225)) ix0 (by intro a; exact a.elim0),
      shapeCast_apply (s := S1) _ _ ix0 (ix1 0) (by rfl),
      extractStridedSlice_apply (s := S897) ![448] _ _ (ix1 0) (ix1 ⟨448, by decide⟩) (by intro a; fin_cases a; rfl),
      shapeCast_apply (s := S7800x1x128) (t := S7800x128) _ _ (ix2 t l) (ix3 t 0 l) (by rw [Shape.rowMajor_val_three, Shape.rowMajor_val_two]; show (t.val * 1 + 0) * 128 + l.val = t.val * 128 + l.val; omega),
      extractStridedSlice_apply (s := S7800x48x128) ![0, 40, 0] _ _ (ix3 t 0 l) (ix3 t ⟨40, by decide⟩ l) (by intro a; fin_cases a <;> first | rfl | exact (Nat.zero_add _).symm),
      shapeCast_apply (s := S374400x128) (t := S7800x48x128) _ _ (ix3 t ⟨40, by decide⟩ l) (ix2 ⟨48 * t.val + 40, by omega⟩ l) (by rw [Shape.rowMajor_val_three, Shape.rowMajor_val_two]; show (48 * t.val + 40) * 128 + l.val = (t.val * 48 + 40) * 128 + l.val; omega)] at e
    simp only [broadcastInDim, IntOp.cmpi, andi_ofBool, ori_ofBool, ofBool_eq_one, Bool.and_eq_true, Bool.or_eq_true] at e
    refine ⟨e.1, ?_⟩
    rcases e.2 with e | e
    · exact Or.inl (by simpa [constantI] using e)
    · exact Or.inr (by simpa [IntOp.andi, constantI] using e)
  exact ⟨fun u => (key u 0 0).1, fun t l => (key 0 t l).2⟩

/-- The words of the chunk as natural numbers: from zero on, never falling, and never above 3900. -/
theorem decoded_order (a0 : IVec S897 32)
    (h : ∀ u : Fin 224, (a0 (ix1 ⟨448 + u.val, by omega⟩) - a0 (ix1 ⟨448, by decide⟩)).sle (a0 (ix1 ⟨449 + u.val, by omega⟩) - a0 (ix1 ⟨448, by decide⟩)) = true
        ∧ (a0 (ix1 ⟨449 + u.val, by omega⟩) - a0 (ix1 ⟨448, by decide⟩)).sle 3900#32 = true) :
    ∀ (u : ℕ) (hu : u ≤ 224), (a0 (ix1 ⟨448 + u, by omega⟩) - a0 (ix1 ⟨448, by decide⟩)).toNat ≤ 3900
      ∧ ∀ hu' : u < 224, (a0 (ix1 ⟨448 + u, by omega⟩) - a0 (ix1 ⟨448, by decide⟩)).toNat
          ≤ (a0 (ix1 ⟨448 + (u + 1), by omega⟩) - a0 (ix1 ⟨448, by decide⟩)).toNat := by
  have step : ∀ (u : ℕ) (hu' : u < 224), (a0 (ix1 ⟨448 + u, by omega⟩) - a0 (ix1 ⟨448, by decide⟩)).toNat ≤ 3900 →
      (a0 (ix1 ⟨448 + u, by omega⟩) - a0 (ix1 ⟨448, by decide⟩)).toNat
          ≤ (a0 (ix1 ⟨448 + (u + 1), by omega⟩) - a0 (ix1 ⟨448, by decide⟩)).toNat
      ∧ (a0 (ix1 ⟨448 + (u + 1), by omega⟩) - a0 (ix1 ⟨448, by decide⟩)).toNat ≤ 3900 := by
    intro u hu' hle
    obtain ⟨h1, h2⟩ := h ⟨u, hu'⟩
    have hix : (⟨449 + u, by omega⟩ : Fin 897) = ⟨448 + (u + 1), by omega⟩ := Fin.ext (by show 449 + u = 448 + (u + 1); omega)
    rw [hix] at h1 h2
    generalize a0 (ix1 ⟨448 + u, _⟩) - a0 (ix1 ⟨448, _⟩) = x at *
    generalize a0 (ix1 ⟨448 + (u + 1), _⟩) - a0 (ix1 ⟨448, _⟩) = y at *
    simp only [BitVec.sle, decide_eq_true_eq, BitVec.toInt, BitVec.toNat_ofNat] at h1 h2
    have := x.isLt
    have := y.isLt
    constructor <;> (split at h1 <;> split at h1 <;> split at h2 <;> omega)
  have le : ∀ (u : ℕ) (hu : u ≤ 224), (a0 (ix1 ⟨448 + u, by omega⟩) - a0 (ix1 ⟨448, by decide⟩)).toNat ≤ 3900 := by
    intro u
    induction u with
    | zero => intro _; show (a0 (ix1 ⟨448, _⟩) - a0 (ix1 ⟨448, _⟩)).toNat ≤ 3900; rw [BitVec.sub_self]; decide
    | succ u ih => intro hu; exact (step u (by omega) (ih (by omega))).2
  exact fun u hu => ⟨le u hu, fun hu' => (step u hu' (le u hu)).1⟩

end Cert.Hand2

end
-- ==== Proof.Chunk2.Order.lean ====
/- Under the precondition the chunk's step table is in order. -/
module

public import proofs.«01_k».proof.Proof.Chunk2.Body
public import proofs.«01_k».proof.Proof.Chunk2.Pre

@[expose] public section

set_option maxRecDepth 65536

noncomputable section

namespace Cert.Kernel2.Hand

open Cert.Kernel2 Cert.Kernel2.Gen
open Idealize.ShloMosaic Idealize.ShloMosaic.TcCoe Idealize.ShloMosaic.ValueIdx

variable {F : FTy → Type} [FloatOps F]

/-- The precondition's table words, read as positions, are in order and stay inside the packed tiles. -/
theorem ordered_of_pre (c : Dev nD) (fs : Bf (F := F) c sbM) (a1 : IVec Cert.Pre_steps_in_order2.S1 32) (a2 : IVec Cert.Pre_steps_in_order2.S374400x128 32)
    (a3 : FVec F Cert.Pre_steps_in_order2.S71680x256 .f32)
    (h : Cert.Pre_steps_in_order2.fn (F := F) fs a1 a2 a3 = fun _ => 1#1) : Ordered c fs := by
  have hd := Cert.Hand2.decoded_order fs (Cert.Hand2.decoded fs a1 a2 a3 h).1
  constructor
  · intro u hu
    unfold pos
    rw [dif_pos (by omega), dif_pos (by omega)]
    exact (hd u (by omega)).2 hu
  · intro u hu
    unfold pos
    rw [dif_pos (by omega)]
    exact (hd u (by omega)).1

end Cert.Kernel2.Hand

end
-- ==== Proof.Chunk2.Run.lean ====
/-
  The whole call: `prev` copied into the result's buffer, then the grid of one hundred and twelve rows, each writing its
  block of the result back. Every fair execution terminates; at the end the arguments are as they were, every counter is
  at zero, and the result's buffer holds what the row blocks make of the copy.
-/
module

public import proofs.«01_k».proof.Proof.Chunk2.Body
public import proofs.«01_k».proof.Proof.Gen.Kernel2.Launch
public import Idealize.ShloMosaic.Lib.Pipeline.Regions
public import Idealize.ShloMosaic.Lib.WritesUnit

@[expose] public section

set_option maxRecDepth 65536

noncomputable section

namespace Cert.Kernel2.Hand

open Cert.Kernel2 Cert.Kernel2.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UU nD τ) ℕ

/-- The pipeline library's algebra is the left component. -/
abbrev EP : Emb (UR sig nD τ) (MT nD τ sig Unit (Elt F) ℕ (UU nD τ) ℕ) := embL

abbrev 𝒱₀ : Variants := Variants.none

variable (m : (ℓ : Loc nD τ sig) → Buf (Elt F) ℓ) (ρ : Dev nD → PrngReg)

/-- The step table, the packed tiles and the path flag, as launched. -/
abbrev fsOf (c : Dev nD) : Bf (F := F) c sbM := m ((c : Thread nD τ).loc main_arg0)
abbrev fxOf (c : Dev nD) : Bf (F := F) c exM := m ((c : Thread nD τ).loc main_arg1)
abbrev fgOf (c : Dev nD) : Bf (F := F) c gM := m ((c : Thread nD τ).loc main_arg2)

/-! ## The buffers when the region is entered -/

/-- Core `c`'s buffers at launch, -/
abbrev V₀ (c : Dev nD) : Valuation τ sig (Elt F) := fun b => m ((c : Dev nD), b)
/-- and once the copy of `prev` has run. -/
abbrev V (c : Dev nD) (b : Ref sig .tc) : Buf (Elt F) ((c : Thread nD τ).loc b) := StableHlo.after hostOps0 (V₀ m c) b

/-- The copy writes the result's buffer only. -/
theorem not_written (b : Ref sig .tc) (hb : b ≠ main_v0) :
    ∀ op ∈ (hostOps0 (F := F)), Proc.devRef .tc b ∉ op.writes := by
  intro op hop
  simp only [List.mem_cons, List.mem_nil_iff, or_false] at hop
  subst hop
  simp only [StableHlo.unary_writes, Finset.mem_singleton]
  exact StableHlo.devRef_ne_of_ne hb

theorem V_of_ne (c : Dev nD) (b : Ref sig .tc) (hb : b ≠ main_v0) : V m c b = m ((c : Thread nD τ).loc b) :=
  StableHlo.after_of_forall_not_mem (b := Proc.devRef .tc b) hostOps0 (V₀ m c) (not_written b hb)

/-- The unscoped references, as device buffers. -/
def ucRefs : Finset (DevRef τ sig) := (StableHlo.tcRefs τ sig).filter fun b => ¬ b.isScoped

omit [FloatOps F] in
theorem unscopedBufs_held (c : Dev nD) (W : Valuation τ sig (Elt F)) :
    (unscopedBufs c (fun b => W b) : sProp 𝕄) = StableHlo.held (c : Thread nD τ) ucRefs W := by
  unfold unscopedBufs StableHlo.held ucRefs StableHlo.tcRefs
  rw [Finset.filter_map, bigSep_map]
  rfl

omit [FloatOps F] in
theorem sub_ucRefs (op : HloOp τ sig (Elt F)) (h : op.bufs ⊆ StableHlo.tcRefs τ sig) : op.bufs ⊆ ucRefs := fun b hb =>
  Finset.mem_filter.mpr ⟨h hb, fun h' => Bool.false_ne_true ((op.no_scoped b hb).symm.trans h')⟩

/-! ## The block a row leaves -/

/-- The block of row `r`: its left half the transposed sum of the even unit, its right half that of the odd one. -/
def outBlk (c : Dev nD) (fs : Bf (F := F) c sbM) (fg : Bf (F := F) c gM) (fx : Bf (F := F) c exM) (r : ℕ) : S160x256.Idx → Elt F .f32 := fun y =>
  if h : (y 1).val < 128 then k0_pay32 (unitAcc c fs fg fx k0_pay17 (2 * r)) (ValueIdx.ix2 (y 0) ⟨(y 1).val, h⟩)
  else k0_pay16 (unitAcc c fs fg fx k0_pay1 (2 * r + 1)) (ValueIdx.ix2 (y 0) ⟨(y 1).val - 128, by have := (y 1).isLt; change (y 1).val < 256 at this; omega⟩)

theorem read_outPieces (c : Dev nD) (fs : Bf (F := F) c sbM) (fg : Bf (F := F) c gM) (fx : Bf (F := F) c exM) (r : ℕ)
    (arg5 : Memref sig .tc .vmem S160x256 .f32) (fo : Bf (F := F) c arg5) :
    arg5.view.read (Elt F) (arg5.view.writes (Elt F) fo (outPieces c fs fg fx r)) = outBlk c fs fg fx r := by
  funext y
  unfold outBlk outPieces
  by_cases h : (y 1).val < 128
  · rw [dif_pos h, View.read_writes_cons_unit_of_not_mem _ _ _ _ _ y rfl 1 (Or.inl h)]
    exact View.read_writes_cons_unit_of_mem _ _ _ _ _ y _ rfl (by
      intro a; fin_cases a
      · exact (Nat.zero_add _).symm
      · exact (Nat.zero_add _).symm)
  · rw [dif_neg h]
    exact View.read_writes_cons_unit_of_mem _ _ _ _ _ y _ rfl (by
      intro a; fin_cases a
      · exact (Nat.zero_add _).symm
      · show (y 1).val = 128 + ((y 1).val - 128)
        omega)

/-! ## The pipeline's proof data -/

/-- The prefetched tables' contents: as launched (one core). -/
abbrev adm : (p : Fin 1) → (pcfgs (F := F) p).Adm := fun _ => ⟨fun k => m (((0 : Dev nD) : Thread nD τ).loc (pre0.ref k)), trivial⟩

/-- The invariant before row `n`: the ring in its state, the two tables, the packed tiles' share no slot holds. -/
def Φc (c : Dev nD) (n : ℕ) : sProp 𝕄 :=
  iprop(Ring.AtW (slotS c (fgOf m c)) (stPt c (fsOf m c) n) ∗ pt c exM (fxOf m c) ∗ pt c sbM (fsOf m c)
    ∗ (gM.view.loc (c : Thread nD τ) ↦{Transfers.shareDrop fullShare 16} fgOf m c))

def dats (_ : Fin 1) (c : Dev nD) : Dat τ (Elt F) Unit ℕ (UU nD τ) ℕ (cfg0 (adm m 0)) c where
  A w := V m c (Pipeline.arrRef spec0 w)
  after w t := match w with | ⟨0, _⟩ => outBlk c (fsOf m c) (fgOf m c) (fxOf m c) (grid0.coords t 0).val
  Φ t := Φc m c t.val
  q _ := fullShare
  owed _ := 0

theorem A_eq (c : Dev nD) (w : Fin 1) : (dats m 0 c).A w = V m c (Pipeline.arrRef spec0 w) := by
  dsimp only [dats]

theorem coords_val (t : Fin grid0.N) : (grid0.coords t 0).val = t.val := by
  revert t; decide +kernel

omit [FloatOps F] in
theorem whole_pt (c : Dev nD) (M : Memref sig .tc .vmem S160x256 .f32) (h : M.IsWhole) (f : Bf (F := F) c M) :
    (M.view.loc (c : Thread nD τ) ↦[M.view.set]{fullShare} f : sProp 𝕄) = pt c M f := by
  rw [h.set_eq_univ]

set_option backward.isDefEq.respectTransparency.types false in
theorem body_obligation (hO : ∀ c, Ordered c (fsOf m c)) (c : Dev nD) : BodyObligation (dats m 0 c) (defs₀ (F := F)) 𝒱₀ () Set.univ := fun t => by
  rw [bigSep_W0, bigSep_W0]
  rw [show (dats m 0 c).Φ t.castSucc = Φc m c t.val from rfl, show (dats m 0 c).Φ t.succ = Φc m c (t.val + 1) from rfl]
  unfold Φc Dat.owesAt Pipeline.owesWithin
  rw [show (dats m 0 c).owed t.castSucc = 0 from rfl, show (dats m 0 c).owed t.succ = 0 from rfl]
  unfold owns
  iintro ⟨⟨HR, Hx, Hs, Hg⟩, ⟨%W, %hW, HO⟩, ⟨%d0, %f0, %hf0, H0⟩⟩
  have hb := body_run c (fsOf m c) (fgOf m c) (fxOf m c) (hO c) (grid0.coords t) (Memref.whole main_arg3) (Memref.isWhole_whole _)
    (spec0_0.stage ((cfg0 (adm m 0)).slots t 0)) (hstage0_0 _) f0
  rw [coords_val t] at hb
  iapply (hb _)
  isplitl [HR]; · iexact HR
  isplitl [Hx]; · iexact Hx
  isplitl [Hs]; · iexact Hs
  isplitl [HO]; · iexists W; iexact HO
  isplitl [H0]
  · iapply (Entails.of_eq (whole_pt c (spec0_0.stage ((cfg0 (adm m 0)).slots t 0)) (hstage0_0 _) f0)); iexact H0
  iintro ⟨HR, Hx, Hs, ⟨%W', HO⟩, H0⟩
  isplitl [HR Hx Hs Hg]
  · isplitl [HR]; · iexact HR
    isplitl [Hx]; · iexact Hx
    isplitl [Hs]; · iexact Hs
    iexact Hg
  isplitl [HO]
  · iexists W'; isplitr; · ipureintro; exact fun _ _ => Or.inl trivial
    iexact HO
  iexists _
  isplitr
  swap
  · iapply (Entails.of_eq (whole_pt c (spec0_0.stage ((cfg0 (adm m 0)).slots t 0)) (hstage0_0 _) _).symm); iexact H0
  · ipureintro
    rw [read_outPieces]
    show _ = outBlk c (fsOf m c) (fgOf m c) (fxOf m c) (grid0.coords t 0).val
    rw [coords_val t]

/-! ## The ring taken apart at the start and put together at the end -/

/-- Slot `k`'s elements of the ring. -/
abbrev slotSet (k : Fin 16) : Finset S16x96x128.Idx := (Rect.unit (s := S16x96x128) ![k.val, 0, 0] S1x96x128.size (inb3 k.val k.isLt)).set

theorem ring_disjoint (k k' : Fin 16) (h : k ≠ k') : Disjoint (slotSet k) (slotSet k') :=
  Ring.lead_disjoint (s := S16x96x128) (0 : Fin 3) 1 (fun k : Fin 16 => ![k.val, 0, 0]) S1x96x128.size (fun k => inb3 k.val k.isLt)
    (fun k => (Nat.one_mul _).symm) rfl k k' h

theorem ring_cover : Finset.univ.biUnion slotSet = Finset.univ :=
  Ring.lead_cover (s := S16x96x128) (0 : Fin 3) 1 (fun k : Fin 16 => ![k.val, 0, 0]) S1x96x128.size (fun k => inb3 k.val k.isLt)
    (fun k => (Nat.one_mul _).symm) (by intro k a ha; fin_cases a <;> first | rfl | exact absurd rfl ha) rfl
    (by intro a ha; fin_cases a <;> first | rfl | exact absurd rfl ha) rfl

omit [FloatOps F] in
theorem slot_pt (c : Dev nD) (k : Fin 16) (f : Bf (F := F) c ringM) :
    (ringM.view.loc (c : Thread nD τ) ↦[slotSet k]{fullShare} f : sProp 𝕄)
      = ((rslotK k).view.loc (c : Thread nD τ) ↦[(rslotK k).view.set]{fullShare} f) := by
  rw [rslotK_set]
  rfl

/-- The layout the launch needs of the ring's counters. -/
theorem ownSemFacts : Pipeline.OwnSemFacts spec0 cellK := by decide

/-- All slots free. -/
theorem ring_free (c : Dev nD) (fg : Bf (F := F) c gM) :
    (Ring.AtW (slotS (F := F) c fg) (fun _ => none) : sProp 𝕄)
      = iprop((Pipeline.ownSems0 (Ix := Unit) (Name := ℕ) (U := UU nD τ) (Lvl := ℕ) (Val := Elt F) (τ := τ) cellK c)
          ∗ (bigSep Finset.univ fun k : Fin 16 => iprop(∃ f, (rslotK k).view.loc (c : Thread nD τ) ↦[(rslotK k).view.set]{fullShare} f))
          ∗ bigSep Finset.univ fun k : Fin 16 => tokG c k Finset.univ fg) := by
  unfold Ring.AtW Pipeline.ownSems0
  rw [← bigSep_sep', ← bigSep_sep']
  rfl

theorem ring_in (c : Dev nD) (fg : Bf (F := F) c gM) :
    iprop((Pipeline.ownSems0 (Ix := Unit) (Name := ℕ) (U := UU nD τ) (Lvl := ℕ) (Val := Elt F) (τ := τ) cellK c)
      ∗ (∃ f, pt c ringM f) ∗ pt c gM fg)
    ⊢ (iprop(Ring.AtW (slotS (F := F) c fg) (fun _ => none) ∗ (gM.view.loc (c : Thread nD τ) ↦{Transfers.shareDrop fullShare 16} fg)) : sProp 𝕄) := by
  rw [ring_free]
  iintro ⟨Hs, ⟨%f, Hr⟩, Hg⟩
  ihave Hg := (Transfers.pointsTo_toks_split fullShare 16) $$ Hg
  icases Hg with ⟨Hd, Ht⟩
  isplitr [Hd]
  · isplitl [Hs]; · iexact Hs
    isplitl [Hr]
    · ihave Hr := (Entails.of_eq (Ring.pointsTo_blocks (ℓ := ringM.view.loc (c : Thread nD τ)) slotSet ring_disjoint ring_cover f)) $$ Hr
      have hm : (bigSep Finset.univ fun k : Fin 16 => ringM.view.loc (c : Thread nD τ) ↦[slotSet k]{fullShare} f : sProp 𝕄)
          ⊢ bigSep Finset.univ fun k : Fin 16 => iprop(∃ f, (rslotK k).view.loc (c : Thread nD τ) ↦[(rslotK k).view.set]{fullShare} f) :=
        bigSep_mono fun k _ => by
          rw [slot_pt]
          exact (show ((rslotK k).view.loc (c : Thread nD τ) ↦[(rslotK k).view.set]{fullShare} f : sProp 𝕄)
              ⊢ iprop(∃ f, (rslotK k).view.loc (c : Thread nD τ) ↦[(rslotK k).view.set]{fullShare} f) from by
            iintro H; iexists f; iexact H)
      iapply hm
      iexact Hr
    · iexact Ht
  · iexact Hd

theorem ring_out (c : Dev nD) (fg : Bf (F := F) c gM) (f₀ : Bf (F := F) c ringM) :
    (iprop(Ring.AtW (slotS (F := F) c fg) (fun _ => none) ∗ (gM.view.loc (c : Thread nD τ) ↦{Transfers.shareDrop fullShare 16} fg)) : sProp 𝕄)
    ⊢ iprop((Pipeline.ownSems0 (Ix := Unit) (Name := ℕ) (U := UU nD τ) (Lvl := ℕ) (Val := Elt F) (τ := τ) cellK c)
      ∗ (∃ f, pt c ringM f) ∗ pt c gM fg) := by
  rw [ring_free]
  iintro ⟨⟨Hs, Hr, Ht⟩, Hd⟩
  isplitl [Hs]; · iexact Hs
  isplitl [Hr]
  · have hm : (bigSep Finset.univ fun k : Fin 16 => iprop(∃ f, (rslotK k).view.loc (c : Thread nD τ) ↦[(rslotK k).view.set]{fullShare} f) : sProp 𝕄)
        ⊢ bigSep Finset.univ fun k : Fin 16 => iprop(∃ f, ringM.view.loc (c : Thread nD τ) ↦[slotSet k]{fullShare} f) :=
      bigSep_mono fun k _ => (show (iprop(∃ f, (rslotK k).view.loc (c : Thread nD τ) ↦[(rslotK k).view.set]{fullShare} f) : sProp 𝕄)
          ⊢ iprop(∃ f, ringM.view.loc (c : Thread nD τ) ↦[slotSet k]{fullShare} f) from by
        iintro ⟨%f, H⟩; iexists f
        iapply (Entails.of_eq (slot_pt c k f).symm); iexact H)
    iapply (hm.trans (Ring.pointsTo_blocks_join_exists (ℓ := ringM.view.loc (c : Thread nD τ)) slotSet ring_disjoint ring_cover f₀))
    iexact Hr
  · iapply (Transfers.pointsTo_toks_join fullShare 16)
    isplitl [Hd]; · iexact Hd
    iexact Ht

theorem stPt_first (c : Dev nD) (fs : Bf (F := F) c sbM) : stPt c fs 0 = fun _ => none := if_pos rfl

theorem stPt_last (c : Dev nD) (fs : Bf (F := F) c sbM) : stPt c fs 112 = fun _ => none := by
  unfold stPt
  rw [if_neg (by decide)]
  unfold stAt
  exact stWin_empty _ _ (Nat.min_le_right _ _)

/-! ## The launch: the copy, then the region -/

/-- The launch element: the pipeline library's, and no counter yet. -/
def u₀ : UU nD τ := (initOf (Pipeline.cells (Pipeline.pin (pcfgs (F := F)) (adm m)) (cellOf_inj (adm m))) (Pipeline.launchToks (Pipeline.pin (pcfgs (F := F)) (adm m)) (cellOf_inj (adm m))), 1)

/-- The result's buffer at the end, as the pipeline computes it. -/
def finalA (c : Dev nD) : Buf (Elt F) ((c : Thread nD τ).loc main_v0) := (dats m 0 c).arrAt 0 112

abbrev L : GSem nD τ sig → Finset Unit := fun _ => ∅
abbrev lv : GSem nD τ sig → Unit → ℕ := fun _ _ => 0

abbrev R (c : Dev nD) : sProp 𝕄 := iprop(∃ W, owes (c : Thread nD τ) (0 : CellTallies nD τ sig Unit) W)

/-- The host segment: the copy of `prev`. -/
def seg0 : Pipeline.HostSeg (Name := ℕ) (U := UU nD τ) (pcfgs (F := F)) defs₀ 𝒱₀ L lv :=
  Pipeline.HostSeg.ofOps _ _ _ _ _ ucRefs hostOps0 (fun op h => sub_ucRefs op ((List.forall_iff_forall_mem.mp hostOps0_sub) op h))
    (by intro _ h; (repeat (cases h with | head => rfl | tail _ h => ?_)); exact nomatch h) (V₀ m) R

/-- What the region leaves: the result's buffer at its final contents, the arguments as launched. -/
abbrev Tₙ (c : Dev nD) : sProp 𝕄 :=
  iprop((dats m 0 c).arrays ((dats m 0 c).arrAt · 112)
    ∗ pt c sbM (fsOf m c) ∗ pt c exM (fxOf m c) ∗ pt c gM (fgOf m c) ∗ pt c (Memref.whole main_arg3) (m ((c : Thread nD τ).loc main_arg3)))

omit [FloatOps F] in
theorem prefHeld_two (c : Dev nD) (W : pre0.Contents (Elt F)) :
    (Pipeline.prefHeld pre0 c (fun _ => fullShare) W : sProp 𝕄) = iprop(pt c sbM (W 0) ∗ pt c exM (W 1)) := by
  unfold Pipeline.prefHeld
  exact bigSep_univ_eq_bigSepL [(0 : Fin 2), 1] (by decide) (by decide) _

set_option backward.isDefEq.respectTransparency.types false in
/-- The region. -/
def reg0 (hO : ∀ c, Ordered c (fsOf m c)) : Pipeline.RegionSeg (pcfgs (F := F)) (adm m) (dats m) () defs₀ 𝒱₀ L lv 0 where
  win := (launch0 (F := F)).to₀.win
  block_pos := (launch0 (F := F)).to₀.block_pos
  stage_whole := (launch0 (F := F)).to₀.stage_whole
  K := Fin 16
  osem := cellK
  ho := ownSemFacts
  hbody c := (body_obligation m hO c).loose
  hwaits := Pipeline.hwaits_of_owed_zero _ _ _ _ L lv 0 fun _ _ => rfl
  pre c := iprop(StableHlo.held (c : Thread nD τ) ucRefs (StableHlo.after hostOps0 (V₀ m c)) ∗ R c)
  post c := iprop(Tₙ m c ∗ R c)
  X c := iprop(pt c gM (fgOf m c) ∗ Pipeline.ownSems0 (Ix := Unit) (Name := ℕ) (U := UU nD τ) (Lvl := ℕ) (Val := Elt F) (τ := τ) cellK c)
  Y c := iprop(pt c sbM (fsOf m c) ∗ pt c exM (fxOf m c) ∗ pt c gM (fgOf m c))
  Z c := pt c (Memref.whole main_arg3) (m ((c : Thread nD τ).loc main_arg3))
  hentry c := by
    obtain rfl : c = 0 := Subsingleton.elim _ _
    rw [show StableHlo.held ((0 : Dev nD) : Thread nD τ) ucRefs (StableHlo.after hostOps0 (V₀ m 0)) = unscopedBufs 0 (V m 0) from (unscopedBufs_held 0 _).symm]
    have hsplit := (Pipeline.arrays_of_unscopedBufs (pcfgs (F := F)) (adm m) (dats m) (p := 0) winFacts0 arr_whole0 0
      ((dats m 0 0).share_full fun _ => rfl) (V m 0) (A_eq m 0)).trans (sep_mono .rfl (Entails.of_eq ((Pipeline.unscopedRest_split preFacts0 0 (V m 0)).trans
        (by rw [prefHeld_two, unscopedRestP0_eq]))))
    rw [V_of_ne m 0 main_arg2 (by decide), V_of_ne m 0 main_arg3 (by decide)] at hsplit
    rw [show V m 0 (pre0.ref 0) = m (((0 : Dev nD) : Thread nD τ).loc main_arg0) from V_of_ne m 0 main_arg0 (by decide),
      show V m 0 (pre0.ref 1) = m (((0 : Dev nD) : Thread nD τ).loc main_arg1) from V_of_ne m 0 main_arg1 (by decide)] at hsplit
    rw [prefHeld_two]
    iintro ⟨⟨Hub, HO⟩, Hos, -⟩
    ihave H := hsplit $$ Hub
    icases H with ⟨Ha, ⟨Hs, Hx⟩, Hg, H3⟩
    imodintro
    isplitl [Ha]; · iexact Ha
    isplitl [Hs Hx]
    · isplitl [Hs]; · iexact Hs
      iexact Hx
    isplitl [HO]
    · unfold Pipeline.Dat.owesAt Pipeline.owesWithin
      icases HO with ⟨%W, HO⟩; iexists W; isplitr; · ipureintro; exact fun _ _ => Or.inl trivial
      iexact HO
    isplitl [Hg Hos]
    · isplitl [Hg]; · iexact Hg
      iexact Hos
    iexact H3
  hin c := by
    obtain rfl : c = 0 := Subsingleton.elim _ _
    rw [show (dats m 0 0).Φ 0 = Φc m 0 0 from rfl, prefHeld_two]; unfold Φc
    rw [stPt_first, scopedRest0_eq]
    iintro ⟨⟨Hg, Hos⟩, ⟨Hs, Hx⟩, Hr⟩
    ihave H := (ring_in (0 : Dev nD) (fgOf m 0)) $$ [Hg Hos Hr]
    · isplitl [Hos]; · iexact Hos
      isplitl [Hr]; · iexact Hr
      iexact Hg
    icases H with ⟨HR, Hd⟩
    isplitl [HR]; · iexact HR
    isplitl [Hx]; · iexact Hx
    isplitl [Hs]; · iexact Hs
    iexact Hd
  hout c := by
    rw [show (dats m 0 c).Φ (Fin.last grid0.N) = Φc m c 112 from rfl]; unfold Φc
    rw [stPt_last, scopedRest0_eq]
    iintro ⟨HR, Hx, Hs, Hd⟩
    ihave H := (ring_out c (fgOf m c) (m ((c : Thread nD τ).loc cc0_scratch0))) $$ [HR Hd]
    · isplitl [HR]; · iexact HR
      iexact Hd
    icases H with ⟨Hos, Hr, Hg⟩
    isplitl [Hx Hs Hg]
    · isplitl [Hs]; · iexact Hs
      isplitl [Hx]; · iexact Hx
      iexact Hg
    isplitl [Hos]; · iexact Hos
    iexact Hr
  hexit c := by
    iintro ⟨Ha, HO, ⟨Hs, Hx, Hg⟩, HZ⟩
    imodintro
    isplitr [HO]
    · isplitl [Ha]; · iexact Ha
      isplitl [Hs]; · iexact Hs
      isplitl [Hx]; · iexact Hx
      isplitl [Hg]; · iexact Hg
      iexact HZ
    · unfold Pipeline.Dat.owesAt Pipeline.owesWithin
      icases HO with ⟨%W, -, HO⟩; iexists W; iexact HO

abbrev segs (hO : ∀ c, Ordered c (fsOf m c)) : List (Pipeline.Seg (pcfgs (F := F)) (adm m) (dats m) () defs₀ 𝒱₀ L lv) := [.host (seg0 m), .region (reg0 m hO)]

/-- What a final memory holds: the arguments as launched, the result's buffer at the computed contents. -/
def QC (c : Dev nD) (s : MemSt nD τ sig (Elt F)) : Prop :=
  s.mem ((c : Thread nD τ).loc main_arg0) = m ((c : Thread nD τ).loc main_arg0)
    ∧ s.mem ((c : Thread nD τ).loc main_arg1) = m ((c : Thread nD τ).loc main_arg1)
    ∧ s.mem ((c : Thread nD τ).loc main_arg2) = m ((c : Thread nD τ).loc main_arg2)
    ∧ s.mem ((c : Thread nD τ).loc main_arg3) = m ((c : Thread nD τ).loc main_arg3)
    ∧ s.mem ((c : Thread nD τ).loc main_v0) = finalA m c

set_option backward.isDefEq.respectTransparency.types false in
/-- From any memory whose step table is in order, counters at zero: every fair execution of the call terminates, the
    arguments end as they were, the result's buffer at the computed contents and every counter at zero. -/
theorem run_main (hO : ∀ c, Ordered c (fsOf m c)) :
    θ_run defs (onTc (τ := τ) (main (F := F))) ⟨m, fun _ => 0, ρ⟩ (fun r => (∀ c, QC m c r.2) ∧ r.2.sem = fun _ => 0) :=
  Pipeline.θ_run_regions_kit_sems (pcfgs (F := F)) (adm m) (dats m) () (cellOf_inj (adm m)) EP defs₀ 𝒱₀ L lv m ρ main (segs m hO)
    (fun c Q => by rw [main_segs (adm m) (dats m) () 𝒱₀ L lv (seg0 m) (reg0 m hO) rfl c])
    (by simp only [Pipeline.Seg.pipes_host, Pipeline.Seg.pipes_region, Pipeline.Seg.pipes_nil]; decide) (O₀ := 0) (hL := fun _ _ => rfl) (G := fun _ => iprop(emp)) (u₀ := u₀ m)
    (hu₀ := by
      unfold u₀
      iintro Hu
      ihave H := (ownU_pair _ _) $$ Hu
      icases H with ⟨HP, -⟩
      imodintro
      isplitl [HP]; · iexact HP
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) ucRefs (V₀ m c) ∗ R c)) (Tₙ := Tₙ m)
    (hch := ⟨fun _ => .rfl, fun _ => .rfl, fun _ => .rfl⟩)
    (hinit := by
      refine Pipeline.initEach L lv fun c => ?_
      rw [show unscopedBufs c (fun b => m ((c : Thread nD τ).loc b)) = StableHlo.held (c : Thread nD τ) ucRefs (V₀ m c) from unscopedBufs_held c (V₀ m c)]
      iintro ⟨⟨Hh, -, HO, -, -, -⟩, -⟩
      imodintro
      isplitl [Hh]; · iexact Hh
      iexists ∅; iexact HO)
    (QY := QC m)
    (hfin := fun c s' => by
      dsimp only [Tₙ]
      iintro ⟨⟨Ha, H0, H1, H2, H3⟩, HSI⟩
      icombine HSI H0 gives %h0
      icombine HSI H1 gives %h1
      icombine HSI H2 gives %h2
      icombine HSI H3 gives %h3
      ihave Hr := (Pipeline.arrays_read (pcfgs (F := F)) (adm m) (dats m) (p := 0) arr_whole0 c ((dats m 0 c).share_full fun _ => rfl) _ s') $$ [Ha HSI]
      · isplitl [Ha] <;> iassumption
      icases Hr with ⟨%ha, HSI⟩
      imodintro
      isplitr
      · ipureintro
        exact ⟨Buf.eq_of_forall_mem_univ h0, Buf.eq_of_forall_mem_univ h1, Buf.eq_of_forall_mem_univ h2, Buf.eq_of_forall_mem_univ h3, ha 0⟩
      iexact HSI)
    (hQ := fun _ h hz => ⟨h, funext fun g => hz g (.inr (by revert g; decide))⟩)

end Cert.Kernel2.Hand

end
-- ==== Proof.Chunk2.Ideal.Bridge.lean ====
/-
  The kernel over the extended reals is the kernel's own text, operation by operation: its body, its table of bodies and its
  main are the kernel's. So what is proved of the kernel for every reading of the floats holds of it.
-/
module

public import proofs.«01_k».proof.Proof.Chunk2.Run
public import proofs.«01_k».proof.Proof.Gen.Kernel2Ideal

@[expose] public section

set_option maxRecDepth 65536

noncomputable section

namespace Cert.Kernel2Ideal.Hand

open Idealize.ShloMosaic Idealize.SL.Sem

variable {F : FTy → Type} [FloatOps F]

/-- The body is the kernel's, -/
theorem pool_eq : @Cert.Kernel2Ideal.cc0_pool F _ Cert.Kernel2Ideal.Gen.facts = @Cert.Kernel2.cc0_pool F _ Cert.Kernel2.Gen.facts := rfl

/-- and so are the tables of bodies -/
theorem defs₀_eq : Cert.Kernel2Ideal.defs₀ (F := F) = Cert.Kernel2.defs₀ (F := F) := by
  unfold Cert.Kernel2Ideal.defs₀ Cert.Kernel2.defs₀
  refine congrArg Defs.onTc ?_
  funext l a
  obtain ⟨l, hl⟩ := l
  obtain rfl : l = 0 := by omega
  rfl

theorem defs_eq : Cert.Kernel2Ideal.defs (F := F) = Cert.Kernel2.defs (F := F) := by
  unfold Cert.Kernel2Ideal.defs Cert.Kernel2.defs
  exact congrArg (Pipeline.defs (Cert.Kernel2.pcfgs (F := F))) defs₀_eq

/-- and the main. -/
theorem main_eq : Cert.Kernel2Ideal.main (F := F) = Cert.Kernel2.main (F := F) := rfl

variable (m : (ℓ : Loc Cert.Kernel2.nD Cert.Kernel2.τ Cert.Kernel2.sig) → Buf (Elt F) ℓ) (ρ : Dev Cert.Kernel2.nD → PrngReg)

/-- The run of the kernel, of this program. -/
theorem run_main (hO : ∀ c, Cert.Kernel2.Hand.Ordered c (Cert.Kernel2.Hand.fsOf m c)) :
    θ_run (Cert.Kernel2Ideal.defs (F := F)) (onTc (τ := Cert.Kernel2Ideal.τ) (Cert.Kernel2Ideal.main (F := F))) ⟨m, fun _ => 0, ρ⟩
      (fun r => (∀ c, Cert.Kernel2.Hand.QC m c r.2) ∧ r.2.sem = fun _ => 0) :=
  Eq.mpr (congrArg₂ (fun (d : Defs Cert.Kernel2.nD Cert.Kernel2.τ Cert.Kernel2.sig (Elt F) _) p =>
    θ_run d (onTc (τ := Cert.Kernel2.τ) p) ⟨m, fun _ => 0, ρ⟩ (fun r => (∀ c, Cert.Kernel2.Hand.QC m c r.2) ∧ r.2.sem = fun _ => 0)) defs_eq main_eq)
    (Cert.Kernel2.Hand.run_main (F := F) m ρ hO)

end Cert.Kernel2Ideal.Hand

end
-- ==== Proof.Chunk2.Ideal.Step.lean ====
/-
  A unit's sum, over the packed tiles: a unit's accumulator is the sum over the unit's steps, and the block of a row is the
  sums of its two units.
-/
module

public import proofs.«01_k».proof.Proof.Ideal.Step
public import proofs.«01_k».proof.Proof.Chunk2.Run
public import Idealize.ShloMosaic.Lib.WordCmp

@[expose] public section

set_option maxRecDepth 65536

noncomputable section

namespace Cert.Kernel2.Hand

open Cert.Kernel2 Cert.Kernel2.Gen
open Idealize.ShloMosaic hiding ix1 ix2 ix3
open Idealize.ShloMosaic.TcCoe Idealize.ShloMosaic.ValueIdx
open Cert.Hand (Packed tileWord weight cellAt code part tilePart stepPart weight_real)

variable (c : Dev nD) (fg : Bf (F := Ideal) c gM) (fx : Bf (F := Ideal) c exM) (fs : Bf (F := Ideal) c sbM)

/-- Either the path is the plain one or every weight word's exponent is not all ones. -/
abbrev Plain : Prop := flag (F := Ideal) c fx = 0#32 ∨ ∀ (t : Fin 7800) (l : Fin 128), tileWord fg t 40 l &&& 2139095040#32 ≠ 2139095040#32

/-- A step does what a step of the second chunk does, -/
theorem step_apply (hx : Plain c fg fx) (s : ℕ) (hs : s < 3900) (p : Fin 128) (d : Fin 160) :
    prod (F := Ideal) (flag c fx) (blk c fg (rowT s)) (ix2 p d) = stepPart fg (BitVec.ofNat 32 p.val) d s :=
  Cert.Kernel.Hand.step_apply c fg fx hx s hs p d

/-- and this is the accumulator after `n` steps from step `A`. -/
theorem accN_apply (hx : Plain c fg fx) (z : FVec Ideal S128x160 .f32) (hz : ∀ i, z i = 0) (A n : ℕ) (h : A + n ≤ 3900) (p : Fin 128) (d : Fin 160) :
    accN (F := Ideal) c fg fx z A n (ix2 p d) = ∑ i ∈ Finset.range n, stepPart fg (BitVec.ofNat 32 p.val) d (A + i) := by
  induction n with
  | zero => exact hz _
  | succ n ih =>
    rw [Finset.sum_range_succ, ← ih (by omega), ← step_apply c fg fx hx (A + n) (by omega) p d]
    rfl

/-- What unit `u` sums at a cell and a channel. -/
def unitSum (u : ℕ) (p : Fin 128) (d : Fin 160) : EReal :=
  ∑ s ∈ Finset.Ico (pos (F := Ideal) c fs u) (pos (F := Ideal) c fs (u + 1)), stepPart fg (BitVec.ofNat 32 p.val) d s

theorem unitAcc_apply (hx : Plain c fg fx) (hO : Ordered (F := Ideal) c fs) (z : FVec Ideal S128x160 .f32) (hz : ∀ i, z i = 0) (u : ℕ) (hu : u < 224) (p : Fin 128) (d : Fin 160) :
    unitAcc (F := Ideal) c fs fg fx z u (ix2 p d) = unitSum c fg fs u p d := by
  unfold unitAcc unitSum
  have h1 := hO.1 u hu
  have h2 := hO.2 (u + 1) (by omega)
  rw [accN_apply c fg fx hx z hz _ _ (by omega), Finset.sum_Ico_eq_sum_range]

/-- The row's block: channel `d`, cell `x` of its two units. -/
theorem outBlk_apply (hx : Plain c fg fx) (hO : Ordered (F := Ideal) c fs) (r : ℕ) (hr : r < 112) (d : Fin 160) (x : Fin 256) :
    outBlk (F := Ideal) c fs fg fx r (ix2 d x) = unitSum c fg fs (2 * r + x.val / 128) ⟨x.val % 128, Nat.mod_lt _ (by decide)⟩ d := by
  have t : ∀ (y : FVec Ideal S128x160 .f32) (p : Fin 128), transpose S160x128 [1, 0] y transposes_S128x160_p1_0_S160x128 (ix2 d p) = y (ix2 p d) := fun y p =>
    transpose_apply (s := S128x160) (t := S160x128) _ _ _ _ _ fun b => by
      match b with
      | ⟨0, _⟩ => rfl
      | ⟨1, _⟩ => rfl
  unfold outBlk
  split
  · next h =>
    have h : x.val < 128 := h
    refine (t _ _).trans ((unitAcc_apply c fg fx fs hx hO _ (fun _ => Ideal.ofBits_zero_f32) _ (by omega) ⟨x.val, h⟩ d).trans ?_)
    congr 1
    · omega
    · exact Fin.ext (Nat.mod_eq_of_lt h).symm
  · next h =>
    have h : ¬ x.val < 128 := h
    refine (t _ _).trans ((unitAcc_apply c fg fx fs hx hO _ (fun _ => Ideal.ofBits_zero_f32) _ (by omega) ⟨x.val - 128, by omega⟩ d).trans ?_)
    congr 1
    · omega
    · exact Fin.ext (by show x.val - 128 = x.val % 128; omega)

end Cert.Kernel2.Hand

end
-- ==== Proof.Chunk2.Ideal.Final.lean ====
/-
  The result's buffer at the end: the rows of the chunk's blocks hold the units' sums, every other row what `prev` held.
-/
module

public import proofs.«01_k».proof.Proof.Chunk2.Ideal.Step

@[expose] public section

set_option maxRecDepth 65536

noncomputable section

namespace Cert.Kernel2.Hand

open Cert.Kernel2 Cert.Kernel2.Gen
open Idealize.ShloMosaic hiding ix1 ix2 ix3
open Idealize.ShloMosaic.TcCoe Idealize.ShloMosaic.ValueIdx
open Idealize.ShloMosaic.Pipeline (Dat Cfg Window)

variable {F : FTy → Type} [FloatOps F]
variable (m : (ℓ : Loc nD τ sig) → Buf (Elt F) ℓ)

/-- The chunk's rows of the result: block after block. -/
def blocks (c : Dev nD) : S71680x256.Idx → Elt F .f32 := fun i =>
  outBlk c (fsOf m c) (fgOf m c) (fxOf m c) ((i 0).val / 160 - 224) (ix2 ⟨(i 0).val % 160, Nat.mod_lt _ (by decide)⟩ (i 1))

/-- The window's block at a row begins at that row of the chunk. -/
theorem index_at (t : Fin grid0.N) : (cc0_transform_2 (grid0.coords t)) = ![t.val + 224, 0] := by
  revert t; decide +kernel

theorem flush_all (t : Fin grid0.N) : ((cfg0 (F := F) (adm m 0)).win 0).flush t = true :=
  (by decide +kernel : ∀ t : Fin grid0.N, Window.flushOf grid0 true cc0_transform_2 t = true) t

/-- Where an element of the block of row `t` sits in the result. -/
def place (t : Fin grid0.N) (y : S160x256.Idx) : S71680x256.Idx := (((cfg0 (F := F) (adm m 0)).win 0).blk t).view.emb y

theorem place_val0 (t : Fin grid0.N) (y : S160x256.Idx) : (place m t y 0).val = (t.val + 224) * 160 + (y 0).val := by
  refine (Window.rect_emb_val ((cfg0 (F := F) (adm m 0)).win 0) t y (0 : Fin 2)).trans ?_
  show cc0_transform_2 (grid0.coords t) 0 * 160 + (y 0).val = _
  rw [index_at]
  rfl

theorem place_val1 (t : Fin grid0.N) (y : S160x256.Idx) : (place m t y 1).val = (y 1).val := by
  refine (Window.rect_emb_val ((cfg0 (F := F) (adm m 0)).win 0) t y (1 : Fin 2)).trans ?_
  show cc0_transform_2 (grid0.coords t) 1 * 256 + (y 1).val = _
  rw [index_at]
  show 0 * 256 + (y 1).val = _
  omega

theorem blocks_place (c : Dev nD) (t : Fin grid0.N) (y : S160x256.Idx) :
    blocks m c (place m t y) = outBlk c (fsOf m c) (fgOf m c) (fxOf m c) t.val y := by
  have h0 := place_val0 m t y
  have h1 := place_val1 m t y
  have hy : (y 0).val < 160 := (y 0).isLt
  have e1 : (place m t y 0).val / 160 - 224 = t.val := by omega
  have e2 : (ix2 ⟨(place m t y 0).val % 160, Nat.mod_lt _ (by decide)⟩ (place m t y 1) : S160x256.Idx) = y := by
    funext a
    match a with
    | ⟨0, _⟩ => exact Fin.ext (by show (place m t y 0).val % 160 = (y 0).val; omega)
    | ⟨1, _⟩ => exact Fin.ext h1
  unfold blocks
  rw [e1]
  exact congrArg _ e2

theorem flushed_eq (c : Dev nD) (t : Fin grid0.N) :
    (dats m 0 c).flushed 0 t = (((cfg0 (F := F) (adm m 0)).win 0).blk t).view.read (Elt F) (blocks m c : Buf (Elt F) ((c : Thread nD τ).loc main_v0)) := by
  funext y
  show outBlk c (fsOf m c) (fgOf m c) (fxOf m c) (grid0.coords t 0).val y = blocks m c (place m t y)
  rw [coords_val]
  exact (blocks_place m c t y).symm

/-- Which elements of the result row `t`'s block covers. -/
theorem mem_blk (t : Fin grid0.N) (i : S71680x256.Idx) :
    (i ∈ ((((cfg0 (F := F) (adm m 0)).win 0).blk t).view.set : Finset S71680x256.Idx)) ↔ (i 0).val / 160 = t.val + 224 := by
  constructor
  · intro hi
    obtain ⟨y, -, e⟩ := Finset.mem_map.mp hi
    have key : ∀ y : S160x256.Idx, place m t y = i → (i 0).val / 160 = t.val + 224 := fun y e => by
      have h0 := place_val0 m t y
      have hy : (y 0).val < 160 := (y 0).isLt
      rw [e] at h0
      omega
    exact key y e
  · intro h
    refine Finset.mem_map.mpr ⟨(ix2 ⟨(i 0).val % 160, Nat.mod_lt _ (by decide)⟩ (i 1) : S160x256.Idx), Finset.mem_univ _, ?_⟩
    show place m t _ = i
    funext a
    match a with
    | ⟨0, _⟩ => exact Fin.ext ((place_val0 m t _).trans (by show (t.val + 224) * 160 + (i 0).val % 160 = (i 0).val; omega))
    | ⟨1, _⟩ => exact Fin.ext (place_val1 m t _)

/-- The result's buffer when the region is entered holds `prev`. -/
theorem entry_apply (c : Dev nD) (i : S71680x256.Idx) :
    (V m c main_v0 : S71680x256.Idx → Elt F .f32) i = (m ((c : Thread nD τ).loc main_arg3) : S71680x256.Idx → Elt F .f32) i := by
  have e : V m c main_v0 = m ((c : Thread nD τ).loc main_arg3) := by
    unfold V
    rw [StableHlo.after_cons, StableHlo.after_nil]
    exact StableHlo.unary_result' _ _ _ _
  rw [e]

/-- The result at the end: the chunk's rows its blocks, the others `prev`'s. -/
theorem final_apply (c : Dev nD) (i : S71680x256.Idx) :
    (finalA m c : S71680x256.Idx → Elt F .f32) i
      = if 224 ≤ (i 0).val / 160 ∧ (i 0).val / 160 < 336 then blocks m c i
        else (m ((c : Thread nD τ).loc main_arg3) : S71680x256.Idx → Elt F .f32) i := by
  refine ((dats m 0 c).arrAt_eq_piecewise 0 (blocks m c) (fun t _ => flushed_eq m c t) i).trans ?_
  by_cases h : 224 ≤ (i 0).val / 160 ∧ (i 0).val / 160 < 336
  · rw [if_pos h]
    refine if_pos ⟨⟨(i 0).val / 160 - 224, by show _ < grid0.N; rw [N_0]; omega⟩, flush_all m _, (mem_blk m _ i).2 ?_⟩
    show (i 0).val / 160 = (i 0).val / 160 - 224 + 224
    omega
  · rw [if_neg h]
    refine (if_neg ?_).trans (entry_apply m c i)
    rintro ⟨t, -, ht⟩
    have ht := (mem_blk m t i).1 ht
    have : t.val < 112 := by have := t.isLt; change _ < grid0.N at this; rwa [N_0] at this
    omega

end Cert.Kernel2.Hand

end
-- ==== Proof.Chunk2.Reference.Read.lean ====
/-
  The reference's host lines, read at their last writers: what the buffers of the offsets, the step and unit of every tile,
  the targets, the contributions and the result hold, each as a function of the buffers its line starts from.
-/
module

public import proofs.«01_k».proof.Proof.Gen.Reference2Ideal.Frame
public import proofs.«01_k».proof.Proof.Reference.Read
public import Idealize.ShloMosaic.Lib.StableHlo.RunRead

@[expose] public section

set_option maxRecDepth 65536

noncomputable section

namespace Cert.Reference2Ideal.Hand

open Cert.ReferenceIdeal.Hand (floorDiv before unitOf valid cellOf targetOf contribs bev tilesOf weights cells codes unitsOf targets)
open Cert.Reference2Ideal Cert.Reference2Ideal.Gen
open Idealize.ShloMosaic Idealize.ShloMosaic.TcCoe

variable {F : FTy → Type} [FloatOps F]

/-- Where the chunk's units end, counted in steps from the chunk's first. -/
def ends (a0 : IVec S897 32) : IVec S224 32 :=
  subi (extractStridedSlice S224 ![449] a0 slices_S897_S224_449)
    (broadcastInDim S224 ![] bcast_S_S224 (shapeCast S_ (extractStridedSlice S1 ![448] a0 slices_S897_S1_448) shapeCasts_S1_S_))

/-- The chunk's rows put between `prev`'s. -/
def joined (s : FVec F S28672x160 .f32) (a3 : FVec F S71680x256 .f32) : FVec F S71680x256 .f32 :=
  concatenate S71680x256 0 [⟨S35840x256, extractStridedSlice S35840x256 ![0, 0] a3 slices_S71680x256_S35840x256_0_0⟩,
    ⟨S17920x256, shapeCast S17920x256 (transpose S112x160x256 [0, 2, 1] (shapeCast S112x256x160 s shapeCasts_S28672x160_S112x256x160)
      transposes_S112x256x160_S112x160x256_0_2_1) shapeCasts_S112x160x256_S17920x256⟩,
    ⟨S17920x256, extractStridedSlice S17920x256 ![53760, 0] a3 slices_S71680x256_S17920x256_53760_0⟩]
    concatenates_S35840x256_S17920x256_S17920x256_S71680x256_d0

variable (V : Valuation τ sig (Elt F))

theorem line1_codes : StableHlo.after hostOps1 V (Proc.devRef .tc main_v3) = codes (V (Proc.devRef .tc main_v1)) := by
  after_reads_simp; rfl
theorem line1_weights : StableHlo.after hostOps1 V (Proc.devRef .tc main_v6) = weights (V (Proc.devRef .tc main_v0)) := by
  after_reads_simp; rfl
theorem line1_cells : StableHlo.after hostOps1 V (Proc.devRef .tc main_v8) = cells (V (Proc.devRef .tc main_v0)) := by
  after_reads_simp; rfl
theorem line1_ends : StableHlo.after hostOps1 V (Proc.devRef .tc main_v13) = ends (V (Proc.devRef .tc main_arg0)) := by
  after_reads_simp; rfl
theorem line1_iota : StableHlo.after hostOps1 V (Proc.devRef .tc main_v14) = (iotaInDim S7800 32 0 : IVec S7800 32) := by
  after_reads_simp
theorem line1_two : StableHlo.after hostOps1 V (Proc.devRef .tc main_c) = (constantI S_ 32 2#32 : IVec S_ 32) := by
  after_reads_simp
theorem line1_prev : StableHlo.after hostOps1 V (Proc.devRef .tc main_arg3) = V (Proc.devRef .tc main_arg3) := by
  after_reads_simp

theorem line2_step : StableHlo.after hostOps1_1 V (Proc.devRef .tc main_v15) = floorDiv (V (Proc.devRef .tc main_v14)) (V (Proc.devRef .tc main_c)) := by
  after_reads_simp; rfl
theorem line2_of_ne (r : Ref sig .tc) (h : r ∉ hostOps1_1_W) : StableHlo.after hostOps1_1 V (Proc.devRef .tc r) = V (Proc.devRef .tc r) :=
  StableHlo.after_unwritten hostOps1_1_W rfl h V

theorem line3_valid : StableHlo.after hostOps1_2 V (Proc.devRef .tc main_v32)
    = valid (unitOf (V (Proc.devRef .tc main_v13)) (V (Proc.devRef .tc main_v15))) (V (Proc.devRef .tc main_v8)) := by
  after_reads_simp; rfl
theorem line3_cell : StableHlo.after hostOps1_2 V (Proc.devRef .tc main_v37)
    = cellOf (unitOf (V (Proc.devRef .tc main_v13)) (V (Proc.devRef .tc main_v15))) (V (Proc.devRef .tc main_v8)) := by
  after_reads_simp; rfl
theorem line3_none : StableHlo.after hostOps1_2 V (Proc.devRef .tc main_c_5) = (constantI S_ 32 28672#32 : IVec S_ 32) := by
  after_reads_simp
theorem line3_of_ne (r : Ref sig .tc) (h : r ∉ hostOps1_2_W) : StableHlo.after hostOps1_2 V (Proc.devRef .tc r) = V (Proc.devRef .tc r) :=
  StableHlo.after_unwritten hostOps1_2_W rfl h V

theorem line4_target : StableHlo.after hostOps1_3 V (Proc.devRef .tc main_v38)
    = targetOf (V (Proc.devRef .tc main_v32)) (V (Proc.devRef .tc main_v37)) (V (Proc.devRef .tc main_c_5)) := by
  after_reads_simp; rfl
theorem line4_of_ne (r : Ref sig .tc) (h : r ∉ hostOps1_3_W) : StableHlo.after hostOps1_3 V (Proc.devRef .tc r) = V (Proc.devRef .tc r) :=
  StableHlo.after_unwritten hostOps1_3_W rfl h V

theorem line5_result : StableHlo.after hostOps1_4 V (Proc.devRef .tc main_v53)
    = joined (bev (V (Proc.devRef .tc main_v38)) (V (Proc.devRef .tc main_v6)) (V (Proc.devRef .tc main_v3))) (V (Proc.devRef .tc main_arg3)) := by
  after_reads_simp; rfl

/-- All lines together. -/
theorem lines_result : StableHlo.after (List.flatten [hostOps1, hostOps1_1, hostOps1_2, hostOps1_3, hostOps1_4]) V (Proc.devRef .tc main_v53)
    = joined (bev (targets (ends (V (Proc.devRef .tc main_arg0))) (V (Proc.devRef .tc main_v0))) (weights (V (Proc.devRef .tc main_v0)))
        (codes (V (Proc.devRef .tc main_v1)))) (V (Proc.devRef .tc main_arg3)) := by
  rw [show (List.flatten [hostOps1, hostOps1_1, hostOps1_2, hostOps1_3, hostOps1_4] : List (HloOp τ sig (Elt F)))
      = hostOps1 ++ (hostOps1_1 ++ (hostOps1_2 ++ (hostOps1_3 ++ hostOps1_4))) from rfl,
    StableHlo.after_append, StableHlo.after_append, StableHlo.after_append, StableHlo.after_append, line5_result,
    line4_target, line4_of_ne _ main_v6 (by decide), line4_of_ne _ main_v3 (by decide), line4_of_ne _ main_arg3 (by decide),
    line3_valid, line3_cell, line3_none, line3_of_ne _ main_v6 (by decide), line3_of_ne _ main_v3 (by decide), line3_of_ne _ main_arg3 (by decide),
    line2_step, line2_of_ne _ main_v13 (by decide), line2_of_ne _ main_v8 (by decide), line2_of_ne _ main_v6 (by decide), line2_of_ne _ main_v3 (by decide),
    line2_of_ne _ main_arg3 (by decide), line1_codes, line1_weights, line1_cells, line1_ends, line1_iota, line1_two, line1_prev]
  rfl

end Cert.Reference2Ideal.Hand

end
-- ==== Proof.Chunk2.Reference.Region.lean ====
/-
  The reference's run: its region decodes the packed tiles' bytes, and its result holds what its lines make of the decoded
  codes, the step table, the tiles and `prev`.
-/
module

public import proofs.«01_k».proof.Proof.Chunk2.Reference.Read
public import proofs.«01_k».proof.Proof.Reference.Region
public import Idealize.ShloMosaic.Lib.Pipeline.Value

@[expose] public section

set_option maxRecDepth 65536

noncomputable section

namespace Cert.Reference2Ideal.Hand

open Cert.ReferenceIdeal.Hand (floorDiv before unitOf valid cellOf targetOf contribs bev tilesOf weights cells codes unitsOf targets bytes unit_emb zeros2)
open Cert.Reference2Ideal Cert.Reference2Ideal.Gen
open Idealize.ShloMosaic Idealize.ShloMosaic.TcCoe
open Idealize.ShloMosaic.Pipeline (Dat Cfg Window)
open Idealize.SL.Sem Idealize.SL

variable {F : FTy → Type} [FloatOps F]
variable (m : (ℓ : Loc nD τ sig) → Buf (Elt F) ℓ) (ρ : Dev nD → PrngReg)

theorem out_eq (x0 : Vec F S374400x128 .i32) : out0_1 x0 = bytes x0 := by
  have e : View.ld x0 r0_0 = x0 := funext fun y => congrArg x0 (unit_emb (s := S374400x128) ![0, 0] zeros2 _ y)
  unfold out0_1
  rw [e]
  funext y
  have h := View.canon_cons_emb (s := S1497600x128) (e := .f32) (Val := Elt F) r0_1 (k0_pay1 x0) [] y
  rw [show r0_1.emb y = y from unit_emb (s := S1497600x128) ![0, 0] zeros2 _ y] at h
  exact h

theorem emb0 (t : Fin cfg0.N) (y : S374400x128.Idx) : ((cfg0.win 0).blk t).view.emb y = y := by
  funext a
  exact Fin.ext (Window.rect_emb_val_of_index_zero (cfg0.win 0) t a rfl y)

theorem emb1 (t : Fin cfg0.N) (y : S1497600x128.Idx) : ((cfg0.win 1).blk t).view.emb y = y := by
  funext a
  exact Fin.ext (Window.rect_emb_val_of_index_zero (cfg0.win 1) t a rfl y)

theorem iblk_eq (c : Dev nD) (t : Fin cfg0.N) : iblk m c 0 t = m ((c : Thread nD τ).loc main_arg2) := by
  funext y
  show (V m c main_arg2 : S374400x128.Idx → BitVec 32) (((cfg0.win 0).blk t).view.emb y) = _
  rw [emb0, V_main_arg2]

theorem region_value (c : Dev nD) : (dats m 0 c).arrAt 1 cfg0.N = bytes (m ((c : Thread nD τ).loc main_arg2)) := by
  refine (dats m 0 c).arrAt_eq_of_cover 1 (bytes (m ((c : Thread nD τ).loc main_arg2))) (fun t _ => ?_) (fun i => ⟨t0_0, flush0_1 _, ?_⟩)
  · funext y
    have e : (dats m 0 c).after 1 t = bytes (m ((c : Thread nD τ).loc main_arg2)) := by
      rw [after0_1, out_eq, iblk_eq]
    show (dats m 0 c).after 1 t y = (bytes (m ((c : Thread nD τ).loc main_arg2)) : S1497600x128.Idx → Elt F .f32) (((cfg0.win 1).blk t).view.emb y)
    rw [e, emb1]
  · exact Finset.mem_map.mpr ⟨i, Finset.mem_univ _, emb1 _ i⟩

/-- The result of the reference's arguments. -/
def value (a0 : IVec S897 32) (a2 : Vec F S374400x128 .i32) (a3 : FVec F S71680x256 .f32) : FVec F S71680x256 .f32 :=
  joined (bev (targets (ends a0) (tilesOf a2)) (weights (tilesOf a2)) (codes (bytes a2))) a3

theorem tail_value (c : Dev nD) :
    Pipeline.afterTail₀ cfgs (dats m) 0 (V0 m) [hostOps1, hostOps1_1, hostOps1_2, hostOps1_3, hostOps1_4] c main_v53
      = value (m ((c : Thread nD τ).loc main_arg0)) (m ((c : Thread nD τ).loc main_arg2)) (m ((c : Thread nD τ).loc main_arg3)) := by
  unfold Pipeline.afterTail₀ value
  refine (lines_result _).trans ?_
  have h0 := Pipeline.withArrays_of_ne (cfgs 0).spec c (V0 m c) (fun w => (dats m 0 c).arrAt w (cfgs 0).N) main_arg0 (by exact (by decide : ∀ w, Pipeline.arrRef spec0 w ≠ main_arg0))
  have h3 := Pipeline.withArrays_of_ne (cfgs 0).spec c (V0 m c) (fun w => (dats m 0 c).arrAt w (cfgs 0).N) main_arg3 (by exact (by decide : ∀ w, Pipeline.arrRef spec0 w ≠ main_arg3))
  have hv := Pipeline.withArrays_of_ne (cfgs 0).spec c (V0 m c) (fun w => (dats m 0 c).arrAt w (cfgs 0).N) main_v0 (by exact (by decide : ∀ w, Pipeline.arrRef spec0 w ≠ main_v0))
  have h1 : Pipeline.withArrays (cfgs 0).spec c (V0 m c) (fun w => (dats m 0 c).arrAt w (cfgs 0).N) (Proc.devRef .tc main_v1) = bytes (m ((c : Thread nD τ).loc main_arg2)) :=
    (Pipeline.withArrays_arr (cfgs 0).spec (by exact (by decide : Function.Injective (Pipeline.arrRef spec0))) c (V0 m c) (fun w => (dats m 0 c).arrAt w (cfgs 0).N) 1).trans (region_value m c)
  have ev : V0 m c (Proc.devRef .tc main_v0) = tilesOf (m ((c : Thread nD τ).loc main_arg2)) := by
    show StableHlo.after hostOps0 (fun b => m (c, b)) (Proc.devRef .tc main_v0) = _
    after_reads_simp
    rfl
  rw [h0, h3, hv, h1, ev, show V0 m c (Proc.devRef .tc main_arg0) = _ from V_main_arg0 m c, show V0 m c (Proc.devRef .tc main_arg3) = _ from V_main_arg3 m c]

/-- Every fair execution of the reference terminates, its result at that value and the arguments as they were. -/
theorem run_value : θ_run defs (onTc (τ := τ) (main (F := F))) ⟨m, fun _ => 0, ρ⟩ (fun r => ∀ c : Dev nD,
    r.2.mem ((c.tc : Thread nD τ).loc main_v53) = value (m ((c : Thread nD τ).loc main_arg0)) (m ((c : Thread nD τ).loc main_arg2)) (m ((c : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => ⟨((h.1 c).2 main_v53 (Pipeline.mem_restRefs_of main_v53 (by decide) (by decide))).trans (tail_value m c), h.2 c⟩)
    (θ_run_and (run_main m ρ) (unchanged m ρ))

end Cert.Reference2Ideal.Hand

end
-- ==== Proof.Chunk2.Reference.Rows.lean ====
/-
  The chunk's part of the step table and its rows of the reference's result: where the units end, and which row holds what:
  the chunk's rows hold the units' sums, and every other row is `prev`'s.
-/
module

public import proofs.«01_k».proof.Proof.Chunk2.Reference.Read
public import Idealize.ShloMosaic.Lib.ValueIdx
public import Idealize.ShloMosaic.Lib.Pipeline.Value

@[expose] public section

set_option maxRecDepth 65536

noncomputable section

namespace Cert.Reference2Ideal.Hand

open Cert.Reference2Ideal Cert.Reference2Ideal.Gen
open Idealize.ShloMosaic Idealize.ShloMosaic.TcCoe Idealize.ShloMosaic.ValueIdx

/-! ## The table -/

/-- Where unit `u` of the chunk starts, counted in steps from the chunk's first. -/
def endAt (a0 : IVec S897 32) (u : ℕ) : ℕ := if h : 448 + u < 897 then (a0 (ix1 ⟨448 + u, h⟩) - a0 (ix1 ⟨448, by decide⟩)).toNat else 0

theorem endAt_zero (a0 : IVec S897 32) : endAt a0 0 = 0 := by
  unfold endAt
  rw [dif_pos (by decide)]
  show (a0 (ix1 ⟨448, _⟩) - a0 (ix1 ⟨448, _⟩)).toNat = 0
  rw [BitVec.sub_self]
  rfl

theorem ends_apply (a0 : IVec S897 32) (u : Fin 224) : (ends a0 (ix1 u)).toNat = endAt a0 (u.val + 1) := by
  unfold ends endAt
  rw [dif_pos (by omega)]
  refine congrArg BitVec.toNat (congrArg₂ (fun a b : BitVec 32 => a - b) ?_ ?_)
  · exact extractStridedSlice_apply (s := S897) ![449] _ _ (ix1 u) (ix1 ⟨448 + (u.val + 1), by omega⟩) (by intro a; fin_cases a; show 448 + (u.val + 1) = 449 + u.val; omega)
  · rw [broadcastInDim_apply (s := S_) ![] _ _ (ix1 u) ix0 (by intro a; exact a.elim0), shapeCast_apply (s := S1) _ _ ix0 (ix1 0) (by rfl)]
    exact extractStridedSlice_apply (s := S897) ![448] _ _ (ix1 0) (ix1 ⟨448, by decide⟩) (by intro a; fin_cases a; rfl)

/-! ## The rows -/

/-- The chunk's rows, -/
theorem joined_mid (s : FVec Ideal S28672x160 .f32) (a3 : FVec Ideal S71680x256 .f32) (i : S71680x256.Idx) (r : Fin 112) (d : Fin 160) (x : Fin 256)
    (h0 : (i 0).val = (224 + r.val) * 160 + d.val) (h1 : (i 1).val = x.val) : joined s a3 i = s (ix2 ⟨r.val * 256 + x.val, by omega⟩ d) := by
  unfold joined
  refine (concatenate_apply_piece (t := S71680x256) 0 _ _ i 1 (by show 1 < 3; omega) S17920x256 _ rfl rfl 35840 rfl (ix2 ⟨r.val * 160 + d.val, by omega⟩ x) ?_ ?_).trans ?_
  · intro b hb
    match b with
    | ⟨0, _⟩ => exact absurd rfl hb
    | ⟨1, _⟩ => exact h1.symm
  · show 35840 + (r.val * 160 + d.val) = (i 0).val
    omega
  · rw [shapeCast_apply (s := S112x160x256) (t := S17920x256) _ _ (ix2 ⟨r.val * 160 + d.val, by omega⟩ x) (ix3 r d x) (by
        rw [Shape.rowMajor_val_three, Shape.rowMajor_val_two]
        rfl),
      transpose_apply (s := S112x256x160) (t := S112x160x256) _ _ _ (ix3 r d x) (ix3 r x d) (by
        intro b
        match b with
        | ⟨0, _⟩ => rfl
        | ⟨1, _⟩ => rfl
        | ⟨2, _⟩ => rfl),
      shapeCast_apply (s := S28672x160) (t := S112x256x160) _ _ (ix3 r x d) (ix2 ⟨r.val * 256 + x.val, by omega⟩ d) (by
        rw [Shape.rowMajor_val_three, Shape.rowMajor_val_two]
        rfl)]

/-- the rows before them, -/
theorem joined_low (s : FVec Ideal S28672x160 .f32) (a3 : FVec Ideal S71680x256 .f32) (i : S71680x256.Idx) (h : (i 0).val < 35840) : joined s a3 i = a3 i := by
  unfold joined
  refine (concatenate_apply_piece (t := S71680x256) 0 _ _ i 0 (by show 0 < 3; omega) S35840x256 _ rfl rfl 0 rfl (ix2 ⟨(i 0).val, h⟩ (i 1)) ?_ ?_).trans ?_
  · intro b hb
    match b with
    | ⟨0, _⟩ => exact absurd rfl hb
    | ⟨1, _⟩ => rfl
  · exact Nat.zero_add _
  · exact extractStridedSlice_apply (s := S71680x256) (t := S35840x256) ![0, 0] _ _ (ix2 ⟨(i 0).val, h⟩ (i 1)) i (by
      intro b
      match b with
      | ⟨0, _⟩ => exact (Nat.zero_add _).symm
      | ⟨1, _⟩ => exact (Nat.zero_add _).symm)

/-- and those after. -/
theorem joined_high (s : FVec Ideal S28672x160 .f32) (a3 : FVec Ideal S71680x256 .f32) (i : S71680x256.Idx) (h : 53760 ≤ (i 0).val) : joined s a3 i = a3 i := by
  have hi : (i 0).val < 71680 := (i 0).isLt
  unfold joined
  refine (concatenate_apply_piece (t := S71680x256) 0 _ _ i 2 (by show 2 < 3; omega) S17920x256 _ rfl rfl 53760 rfl (ix2 ⟨(i 0).val - 53760, by omega⟩ (i 1)) ?_ ?_).trans ?_
  · intro b hb
    match b with
    | ⟨0, _⟩ => exact absurd rfl hb
    | ⟨1, _⟩ => rfl
  · show 53760 + ((i 0).val - 53760) = (i 0).val
    omega
  · exact extractStridedSlice_apply (s := S71680x256) (t := S17920x256) ![53760, 0] _ _ (ix2 ⟨(i 0).val - 53760, by omega⟩ (i 1)) i (by
      intro b
      match b with
      | ⟨0, _⟩ => show (i 0).val = 53760 + ((i 0).val - 53760); omega
      | ⟨1, _⟩ => exact (Nat.zero_add _).symm)

end Cert.Reference2Ideal.Hand

end
-- ==== Proof.Chunk2.Equation.lean ====
/-
  The two values are one: at every row of the chunk the kernel's block and the reference's sums are the sums over the unit's
  steps of what the steps' tiles give, and at every other row both are `prev`.
-/
module

public import proofs.«01_k».proof.Proof.Chunk2.Ideal.Final
public import proofs.«01_k».proof.Proof.Chunk2.Ideal.Step
public import proofs.«01_k».proof.Proof.Chunk2.Order
public import proofs.«01_k».proof.Proof.Chunk2.Reference.Region
public import proofs.«01_k».proof.Proof.Chunk2.Reference.Rows
public import proofs.«01_k».proof.Proof.Reference.Value

@[expose] public section

set_option maxRecDepth 65536

noncomputable section

namespace Cert.Hand2

open Idealize.ShloMosaic hiding ix1 ix2 ix3
open Idealize.ShloMosaic.ValueIdx
open Cert.Kernel2.Hand (fsOf fxOf fgOf pos Ordered Plain flag unitSum finalA)
open Cert.Reference2Ideal.Hand (ends endAt ends_apply endAt_zero)

variable (m : (ℓ : Loc Cert.Kernel2.nD Cert.Kernel2.τ Cert.Kernel2.sig) → Buf (Elt Ideal) ℓ) (c : Dev Cert.Kernel2.nD)

/-- The step table, as the reference takes it. -/
abbrev table : IVec Cert.Reference2Ideal.S897 32 := m ((c.tc : Thread Cert.Kernel2.nD Cert.Kernel2.τ).loc Cert.Kernel2.main_arg0)
/-- The packed tiles. -/
abbrev tiles : Vec Ideal Cert.Reference2Ideal.S374400x128 .i32 := m ((c.tc : Thread Cert.Kernel2.nD Cert.Kernel2.τ).loc Cert.Kernel2.main_arg2)
/-- The array of the chunks before. -/
abbrev prev : FVec Ideal Cert.Reference2Ideal.S71680x256 .f32 := m ((c.tc : Thread Cert.Kernel2.nD Cert.Kernel2.τ).loc Cert.Kernel2.main_arg3)

/-- Both count a unit's first step alike. -/
theorem endAt_eq_pos (u : ℕ) : endAt (table m c) u = pos (F := Ideal) c (fsOf m c) u := rfl

/-- Under the precondition the path is the plain one or every weight word is a real number's. -/
theorem plain_of_pre (a3 : FVec Ideal Cert.Pre_steps_in_order2.S71680x256 .f32)
    (h : Cert.Pre_steps_in_order2.fn (F := Ideal) (fsOf m c) (fxOf m c) (fgOf m c) a3 = fun _ => 1#1) : Plain c (fgOf m c) (fxOf m c) := by
  have hd := (decoded (F := Ideal) (fsOf m c) (fxOf m c) (fgOf m c) a3 h).2
  by_cases hx : flag (F := Ideal) c (fxOf m c) = 0#32
  · exact Or.inl hx
  · exact Or.inr fun t l => (hd t l).resolve_left hx

/-- THE TWO VALUES ARE ONE. -/
theorem value_eq (hO : Ordered (F := Ideal) c (fsOf m c)) (hP : Plain c (fgOf m c) (fxOf m c)) :
    Cert.Reference2Ideal.Hand.value (F := Ideal) (table m c) (tiles m c) (prev m c) = finalA (F := Ideal) m c := by
  refine funext fun (i : Cert.Kernel2.S71680x256.Idx) => ?_
  refine Eq.trans ?_ (Cert.Kernel2.Hand.final_apply m c i).symm
  have hi0 : (i 0).val < 71680 := (i 0).isLt
  have hi1 : (i 1).val < 256 := (i 1).isLt
  by_cases hr : 224 ≤ (i 0).val / 160 ∧ (i 0).val / 160 < 336
  · rw [if_pos hr]
    have hk := Cert.Kernel2.Hand.outBlk_apply c (fgOf m c) (fxOf m c) (fsOf m c) hP hO ((i 0).val / 160 - 224) (by omega)
      ⟨(i 0).val % 160, Nat.mod_lt _ (by decide)⟩ (i 1)
    refine Eq.trans ?_ hk.symm
    refine (Cert.Reference2Ideal.Hand.joined_mid _ (prev m c) i ⟨(i 0).val / 160 - 224, by omega⟩ ⟨(i 0).val % 160, Nat.mod_lt _ (by decide)⟩ (i 1)
      (by show (i 0).val = (224 + ((i 0).val / 160 - 224)) * 160 + (i 0).val % 160; omega) rfl).trans ?_
    exact Cert.ReferenceIdeal.Hand.sums_apply (ends (table m c)) (endAt (table m c)) (ends_apply _) (endAt_zero _) (tiles m c) (fun u hu => hO.mono u hu) (fun u hu => hO.le u hu)
      (2 * ((i 0).val / 160 - 224) + (i 1).val / 128) (by omega) ⟨(i 1).val % 128, Nat.mod_lt _ (by decide)⟩ ⟨(i 0).val % 160, Nat.mod_lt _ (by decide)⟩ _
      (by show ((i 0).val / 160 - 224) * 256 + (i 1).val = (2 * ((i 0).val / 160 - 224) + (i 1).val / 128) * 128 + (i 1).val % 128; omega)
  · rw [if_neg hr]
    by_cases hl : (i 0).val < 35840
    · exact Cert.Reference2Ideal.Hand.joined_low _ (prev m c) i hl
    · exact Cert.Reference2Ideal.Hand.joined_high _ (prev m c) i (by omega)

end Cert.Hand2

end
-- ==== Proof.Chunk3.Words.lean ====
/-
  Word arithmetic of the kernel's step tables: the ring slot a step uses, how many trips each counted loop makes, and
  the side conditions the body assumes, all from three facts about the four table words it reads: measured from the
  chunk's first step, the unit's bounds `a ≤ b` lie below the chunk's step count `t`, and `t` is at most 3900.
-/
module

public import proofs.«01_k».proof.Proof.Words
public import proofs.«01_k».proof.Proof.Gen.Kernel3.Loops
public import Idealize.ShloMosaic.Lib.LoopRemainder
public import Idealize.ShloMosaic.Lib.Affine
public import Idealize.ShloMosaic.Lib.WordArith
public import Idealize.ShloMosaic.Lib.WordCmp

@[expose] public section

set_option maxRecDepth 65536

noncomputable section

namespace Cert.Kernel3.Hand

open Cert.Kernel.Hand (UnitWords)
open Cert.Kernel3 Cert.Kernel3.Gen
open Idealize.ShloMosaic Idealize.SL.Sem

/-! ## The words of one unit -/

section Unit

variable {v0 v1 v11 v15 : BitVec 32}

theorem t5_ub (v0 v11 v15 : BitVec 32) : (k0_t5_loop v0 v11 v15).ub = v15 - v0 :=
  Cert.Kernel.Hand.t5_ub v0 v11 v15
theorem t5_trips (h : UnitWords v0 v1 v11 v15) : (k0_t5_loop v0 v11 v15).trips = (v15 - v0).toNat - (v11 - v0).toNat :=
  Cert.Kernel.Hand.t5_trips h
theorem t5_ok' (h : UnitWords v0 v1 v11 v15) : (k0_t5_loop v0 v11 v15).OK :=
  Cert.Kernel.Hand.t5_ok' h

/-- The step that trip `k` of the unit's loop handles, as a natural number. -/
theorem t5_iv (h : UnitWords v0 v1 v11 v15) (k : Fin (k0_t5_loop v0 v11 v15).trips) :
    (Scf.iv (v11 - v0) 1#32 k).toNat = (v11 - v0).toNat + k.val ∧ (v11 - v0).toNat + k.val < (v15 - v0).toNat :=
  Cert.Kernel.Hand.t5_iv h k

theorem off25_eq (h : UnitWords v0 v1 v11 v15) (k : Fin (k0_t5_loop v0 v11 v15).trips) :
    k0_off25 v0 v11 v15 k = ![((v11 - v0).toNat + k.val) % 16] :=
  Cert.Kernel.Hand.off25_eq h k
theorem off26_eq (h : UnitWords v0 v1 v11 v15) (k : Fin (k0_t5_loop v0 v11 v15).trips) :
    k0_off26 v0 v11 v15 k = ![((v11 - v0).toNat + k.val) % 16, 0, 0] :=
  Cert.Kernel.Hand.off26_eq h k
theorem off28_eq (h : UnitWords v0 v1 v11 v15) (k : Fin (k0_t5_loop v0 v11 v15).trips) :
    k0_off28 v0 v11 v15 k = ![((v11 - v0).toNat + k.val) % 16, 0, 0] :=
  Cert.Kernel.Hand.off28_eq h k
theorem off27_eq (h : UnitWords v0 v1 v11 v15) (k : Fin (k0_t5_loop v0 v11 v15).trips) :
    k0_off27 v0 v11 v15 k = ![((v11 - v0).toNat + k.val) * 96, 0] :=
  Cert.Kernel.Hand.off27_eq h k
/-- The trip starts another copy exactly when a step sixteen further on is still in the chunk. -/
theorem cond7_iff (h : UnitWords v0 v1 v11 v15) (k : Fin (k0_t5_loop v0 v11 v15).trips) :
    k0_cond7 v0 v1 v11 v15 k = 1#1 ↔ (v11 - v0).toNat + k.val + 16 < (v1 - v0).toNat :=
  Cert.Kernel.Hand.cond7_iff h k
theorem off29_eq (h : UnitWords v0 v1 v11 v15) (k : Fin (k0_t5_loop v0 v11 v15).trips) :
    k0_off29 v0 v11 v15 k = ![((v11 - v0).toNat + k.val + 16) % 16] :=
  Cert.Kernel.Hand.off29_eq h k
theorem off30_eq (h : UnitWords v0 v1 v11 v15) (k : Fin (k0_t5_loop v0 v11 v15).trips) :
    k0_off30 v0 v11 v15 k = ![((v11 - v0).toNat + k.val + 16) % 16, 0, 0] :=
  Cert.Kernel.Hand.off30_eq h k
theorem off31_eq (h : UnitWords v0 v1 v11 v15) (k : Fin (k0_t5_loop v0 v11 v15).trips) :
    k0_off31 v0 v11 v15 k = ![((v11 - v0).toNat + k.val + 16) * 96, 0] :=
  Cert.Kernel.Hand.off31_eq h k

/-- The remainder loop behind the unit's main loop makes no trip. -/
theorem t6_none (v0 v11 v15 : BitVec 32) (k : Fin (k0_t6_loop v0 v11 v15).trips) : False :=
  Cert.Kernel.Hand.t6_none v0 v11 v15 k

theorem inb1 (n : ℕ) (h : n < 16) : ∀ a, (![n] : Fin 1 → ℕ) a + S1.size a ≤ S16.size a :=
  Cert.Kernel.Hand.inb1 n h
theorem inb3 (n : ℕ) (h : n < 16) : ∀ a, (![n, 0, 0] : Fin 3 → ℕ) a + S1x96x128.size a ≤ S16x96x128.size a :=
  Cert.Kernel.Hand.inb3 n h
theorem inb2 (n : ℕ) (h : n < 3900) : ∀ a, (![n * 96, 0] : Fin 2 → ℕ) a + S96x128.size a ≤ S374400x128.size a :=
  Cert.Kernel.Hand.inb2 n h

/-- The side condition assumed before the second unit's loop. -/
theorem chk3 (h : UnitWords v0 v1 v11 v15) : k0_chk3 v0 v1 v11 v15 :=
  Cert.Kernel.Hand.chk3 h

/-- The side condition assumed before the first unit's loop. -/
theorem chk2 (h : UnitWords v0 v1 v11 v15) : k0_chk2 v0 v1 v11 v15 :=
  Cert.Kernel.Hand.chk2 h

end Unit

/-! ## The first grid point's copies -/

section Start

variable {v0 v1 : BitVec 32}

theorem t1_ub (v0 v1 : BitVec 32) : (k0_t1_loop v0 v1).ub = Scalar.minsi (v1 - v0) 16#32 :=
  Cert.Kernel.Hand.t1_ub v0 v1

theorem t1_ub_nat (h : (v1 - v0).toNat ≤ 3900) : (k0_t1_loop v0 v1).ub.toNat = min (v1 - v0).toNat 16 :=
  Cert.Kernel.Hand.t1_ub_nat h

theorem t1_trips (h : (v1 - v0).toNat ≤ 3900) : (k0_t1_loop v0 v1).trips = min (v1 - v0).toNat 16 :=
  Cert.Kernel.Hand.t1_trips h

theorem t1_ok' (h : (v1 - v0).toNat ≤ 3900) : (k0_t1_loop v0 v1).OK :=
  Cert.Kernel.Hand.t1_ok' h

/-- The step that trip `k` starts. -/
theorem t1_iv (h : (v1 - v0).toNat ≤ 3900) (k : Fin (k0_t1_loop v0 v1).trips) :
    (Scalar.addi 0#32 (Scalar.muli (Scf.iv 0#32 1#32 k) 1#32)).toNat = k.val ∧ k.val < min (v1 - v0).toNat 16 :=
  Cert.Kernel.Hand.t1_iv h k

theorem off1_eq (h : (v1 - v0).toNat ≤ 3900) (k : Fin (k0_t1_loop v0 v1).trips) : k0_off1 v0 v1 k = ![k.val % 16] :=
  Cert.Kernel.Hand.off1_eq h k
theorem off2_eq (h : (v1 - v0).toNat ≤ 3900) (k : Fin (k0_t1_loop v0 v1).trips) : k0_off2 v0 v1 k = ![k.val % 16, 0, 0] :=
  Cert.Kernel.Hand.off2_eq h k
theorem off3_eq (h : (v1 - v0).toNat ≤ 3900) (k : Fin (k0_t1_loop v0 v1).trips) : k0_off3 v0 v1 k = ![k.val * 96, 0] :=
  Cert.Kernel.Hand.off3_eq h k

theorem t2_none (v0 v1 : BitVec 32) (k : Fin (k0_t2_loop v0 v1).trips) : False :=
  Cert.Kernel.Hand.t2_none v0 v1 k

/-- The side condition assumed before the first copies. -/
theorem chk1 (i : grid0.Coords) (h : (v1 - v0).toNat ≤ 3900) : k0_chk1 i v0 v1 :=
  Cert.Kernel.Hand.chk1 i h

end Start

/-! ## The grid point -/

theorem cond1_iff (i : grid0.Coords) : k0_cond1 i = 1#1 ↔ (i 0).val = 0 :=
  Cert.Kernel.Hand.cond1_iff i

theorem off7_eq (i : grid0.Coords) : k0_off7 i = ![672 + 2 * (i 0).val] := by
  have hi : (i 0).val < 112 := (i 0).isLt
  show ![((336#32 + BitVec.ofNat 32 (i 0).val) * 2#32 + 0#32).toNat] = _
  congr 1; simp [BitVec.toNat_add, BitVec.toNat_mul]; omega
theorem off8_eq (i : grid0.Coords) : k0_off8 i = ![672 + (2 * (i 0).val + 1)] := by
  have hi : (i 0).val < 112 := (i 0).isLt
  show ![((336#32 + BitVec.ofNat 32 (i 0).val) * 2#32 + 0#32 + 1#32).toNat] = _
  congr 1; simp [BitVec.toNat_add, BitVec.toNat_mul]; omega
theorem off23_eq (i : grid0.Coords) : k0_off23 i = ![672 + (2 * (i 0).val + 1)] := by
  have hi : (i 0).val < 112 := (i 0).isLt
  show ![((336#32 + BitVec.ofNat 32 (i 0).val) * 2#32 + 1#32).toNat] = _
  congr 1; simp [BitVec.toNat_add, BitVec.toNat_mul]; omega
theorem off24_eq (i : grid0.Coords) : k0_off24 i = ![672 + (2 * (i 0).val + 2)] := by
  have hi : (i 0).val < 112 := (i 0).isLt
  show ![((336#32 + BitVec.ofNat 32 (i 0).val) * 2#32 + 1#32 + 1#32).toNat] = _
  congr 1; simp [BitVec.toNat_add, BitVec.toNat_mul]; omega

end Cert.Kernel3.Hand

end
-- ==== Proof.Chunk3.Ring.lean ====
/-
  The kernel's ring: sixteen slots of on-chip memory, each with a completion counter of its own, into which the steps'
  rows of the packed tiles are copied sixteen steps ahead. Here: a slot's two states (free, or being filled with the
  rows from a given row on), the ring as the family of its slots' states, and one trip of the body's loop over it —
  wait for the step's slot, load it, add its product, start the copy of the step sixteen further on.
-/
module

public import proofs.«01_k».proof.Proof.Chunk3.Words
public import Idealize.ShloMosaic.Lib.Ring
public import Idealize.ShloMosaic.Lib.Ring.Window
public import Idealize.ShloMosaic.Lib.ValueIdxCore
public import Idealize.ShloMosaic.Lib.Pipeline.Value

@[expose] public section

set_option maxRecDepth 65536

noncomputable section

namespace Cert.Kernel3.Hand

open Cert.Kernel.Hand (UnitWords)
open Cert.Kernel3 Cert.Kernel3.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The resource algebra: the pipeline's rounds, and the counters the copies take their tokens from. -/
abbrev UU (nD : Nat) (τ : Topo) : Type := UR sig nD τ × Counters

local notation "𝕄" => MT nD τ sig Unit (Elt F) ℕ (UU nD τ) ℕ

/-- Memref `M`'s contents on core `c`. -/
abbrev Bf (c : Dev nD) {sp : Space} {S : Shape} {e : EltTy} (M : Memref sig .tc sp S e) : Type := Buf (Elt F) (M.view.loc (c : Thread nD τ))
/-- Memref `M`'s buffer on core `c`, held whole. -/
abbrev pt (c : Dev nD) {sp : Space} {S : Shape} {e : EltTy} (M : Memref sig .tc sp S e) (f : Bf (F := F) c M) : sProp 𝕄 :=
  M.view.loc (c : Thread nD τ) ↦{fullShare} f

/-- The whole buffers: the step table, the path flag, the packed tiles, the ring. -/
abbrev sbM : Memref sig .tc .smem S897 .i32 := Memref.whole main_arg0
abbrev exM : Memref sig .tc .smem S1 .i32 := Memref.whole main_arg1
abbrev gM : Memref sig .tc .hbm S374400x128 .i32 := Memref.whole main_arg2
abbrev ringM : Memref sig .tc .vmem S16x96x128 .i32 := Memref.whole cc0_scratch0

/-- Slot `k` of the ring, the counter of its copies, and the rows a copy reads. -/
def rslotK (k : Fin 16) : Memref sig .tc .vmem S96x128 .i32 :=
  (ringM.slice (Rect.unit (s := S16x96x128) ![k.val, 0, 0] S1x96x128.size (inb3 k.val k.isLt)) (fun _ => rfl)).squeeze S96x128 squeezes_S1x96x128_S96x128
abbrev cellK (k : Fin 16) : SemLoc sig :=
  .dma ((cc0_scratch1.slice (Rect.unit (s := S16) ![k.val] S1.size (inb1 k.val k.isLt))).squeeze S_ squeezes_S1_S_).sem

/-- A first row from which a step's ninety-six rows stay inside the packed tiles. -/
abbrev Row : Type := {o : ℕ // o + 96 ≤ 374400}

theorem inbO (o : Row) : ∀ a, (![o.val, 0] : Fin 2 → ℕ) a + S96x128.size a ≤ S374400x128.size a := by
  have := o.property
  intro a; fin_cases a
  · show o.val + 96 ≤ 374400; omega
  · show 0 + 128 ≤ 128; omega
def srcO (o : Row) : Memref sig .tc .hbm S96x128 .i32 :=
  gM.slice (Rect.unit (s := S374400x128) ![o.val, 0] S96x128.size (inbO o)) (fun _ => rfl)

/-- The packed tiles' read share for slot `k`'s copies. -/
abbrev tokG (c : Dev nD) (k : Fin 16) (S : Finset (Idx (gM.view.loc (c : Thread nD τ)))) (fg : Bf (F := F) c gM) : sProp 𝕄 :=
  gM.view.loc (c : Thread nD τ) ↦[S]{Transfers.shareTok fullShare 16 k} fg

/-- Slot `k` free: its counter at zero, the slot at anything, its read share whole. -/
abbrev freeS (c : Dev nD) (fg : Bf (F := F) c gM) (k : Fin 16) : sProp 𝕄 :=
  iprop(semVal ((c : Thread nD τ), cellK k) 0 ∗ (∃ f, (rslotK k).view.loc (c : Thread nD τ) ↦[(rslotK k).view.set]{fullShare} f) ∗ tokG c k Finset.univ fg)

/-- Slot `k` being filled with the rows from `o` on. -/
abbrev fillS (c : Dev nD) (fg : Bf (F := F) c gM) (k : Fin 16) (o : Row) : sProp 𝕄 :=
  iprop((∃ f, Transfers.Flight (countersEmb (U := UU nD τ)) (c : Thread nD τ) (cellK k) () (rslotK k).view.dmaCredit
            iprop(((rslotK k).view.loc (c : Thread nD τ) ↦[(rslotK k).view.set]{fullShare}
                    (rslotK k).view.writes (Elt F) f [⟨Rect.whole S96x128, ReadAs.same.apply ((srcO o).view.read (Elt F) fg)⟩])
              ∗ tokG c k (srcO o).view.set fg))
    ∗ tokG c k (Finset.univ \ (srcO o).view.set) fg)

/-- Slot `k` in its state. -/
def slotS (c : Dev nD) (fg : Bf (F := F) c gM) (k : Fin 16) (s : Option Row) : sProp 𝕄 :=
  match s with
  | none => freeS c fg k
  | some o => fillS c fg k o

/-! ## One trip, its offsets named by numbers -/

/-- A loaded block's product with its weights, by the path the flag names. -/
def prod (e : BitVec 32) (v : Vec F S1x96x128 .i32) : FVec F S128x160 .f32 :=
  if Scalar.cmpi .ne (Scalar.extui (Scalar.cmpi .eq e 0#32)) 0#32 = 1#1
    then k0_pay6 (iota .tc S128x256 32 [0] iota_S128x256_d0_w32) v else k0_pay7 (iota .tc S128x256 32 [0] iota_S128x256_d0_w32) v

/-- The trip at any offsets. -/
def tripG (o25 : Fin 1 → ℕ) (h25 : ∀ a, o25 a + S1.size a ≤ S16.size a) (o26 : Fin 3 → ℕ) (h26 : ∀ a, o26 a + S1x96x128.size a ≤ S16x96x128.size a)
    (o27 : Fin 2 → ℕ) (h27 : ∀ a, o27 a + S96x128.size a ≤ S374400x128.size a) (b : BitVec 1)
    (o29 : Fin 1 → ℕ) (h29 : b = 1#1 → ∀ a, o29 a + S1.size a ≤ S16.size a) (o30 : Fin 3 → ℕ) (h30 : b = 1#1 → ∀ a, o30 a + S1x96x128.size a ≤ S16x96x128.size a)
    (o31 : Fin 2 → ℕ) (h31 : b = 1#1 → ∀ a, o31 a + S96x128.size a ≤ S374400x128.size a)
    (acc : FVec F S128x160 .f32) : Prog (TpuEff nD τ sig (Elt F) Λ₀ .tc) (FVec F S128x160 .f32) := do
  Prog.lift (.waitDma2 ((cc0_scratch1.slice (Rect.unit (s := S16) o25 S1.size h25)).squeeze S_ squeezes_S1_S_).sem
    (gM.slice (Rect.unit (s := S374400x128) o27 S96x128.size h27) (fun _ => rfl))
    ((ringM.slice (Rect.unit (s := S16x96x128) o26 S1x96x128.size h26) (fun _ => rfl)).squeeze S96x128 squeezes_S1x96x128_S96x128)
    (View.wordExact_bits rfl) ((View.wordExact_bits rfl).reshape _ _))
  let v84 : Vec F S1x96x128 .i32 ← Prog.lift (.load ringM (Rect.unit (s := S16x96x128) o26 S1x96x128.size h26).toLoadRect (View.loadsAt_vmem h_S1x96x128))
  let v101 : Elt F .i32 ← smemLoad exM (Rect.unit (s := S1) ![0] S1.size inb_S1_S1_0) numel1_S1 rfl
  let v105 : FVec F S128x160 .f32 ← if Scalar.cmpi .ne (Scalar.extui (Scalar.cmpi .eq v101 0#32)) 0#32 = 1#1
    then pure (k0_pay6 (iota .tc S128x256 32 [0] iota_S128x256_d0_w32) v84) else pure (k0_pay7 (iota .tc S128x256 32 [0] iota_S128x256_d0_w32) v84)
  if h : b = 1#1 then do
    Prog.lift (.enqueueDma (gM.slice (Rect.unit (s := S374400x128) o31 S96x128.size (h31 h)) (fun _ => rfl))
      (.here ((ringM.slice (Rect.unit (s := S16x96x128) o30 S1x96x128.size (h30 h)) (fun _ => rfl)).squeeze S96x128 squeezes_S1x96x128_S96x128))
      (.dma ((cc0_scratch1.slice (Rect.unit (s := S16) o29 S1.size (h29 h))).squeeze S_ squeezes_S1_S_).sem)
      (View.wordExact_bits rfl) ((View.wordExact_bits rfl).reshape _ _) ⟨Or.inl rfl, trivial⟩)
    pure ⟨⟩
  else pure ⟨⟩
  pure (k0_pay8 acc v105)

/-- The trip at slot `s`, waiting for the rows from `o` on and, when `b` says so, starting those from `o'` on. -/
def tripN (s : Fin 16) (o : Row) (b : BitVec 1) (o' : b = 1#1 → Row) (acc : FVec F S128x160 .f32) :
    Prog (TpuEff nD τ sig (Elt F) Λ₀ .tc) (FVec F S128x160 .f32) := do
  Prog.lift (.waitDma2 ((cc0_scratch1.slice (Rect.unit (s := S16) ![s.val] S1.size (inb1 s.val s.isLt))).squeeze S_ squeezes_S1_S_).sem
    (gM.slice (Rect.unit (s := S374400x128) ![o.val, 0] S96x128.size (inbO o)) (fun _ => rfl))
    ((ringM.slice (Rect.unit (s := S16x96x128) ![s.val, 0, 0] S1x96x128.size (inb3 s.val s.isLt)) (fun _ => rfl)).squeeze S96x128 squeezes_S1x96x128_S96x128)
    (View.wordExact_bits rfl) ((View.wordExact_bits rfl).reshape _ _))
  let v84 : Vec F S1x96x128 .i32 ← Prog.lift (.load ringM (Rect.unit (s := S16x96x128) ![s.val, 0, 0] S1x96x128.size (inb3 s.val s.isLt)).toLoadRect (View.loadsAt_vmem h_S1x96x128))
  let v101 : Elt F .i32 ← smemLoad exM (Rect.unit (s := S1) ![0] S1.size inb_S1_S1_0) numel1_S1 rfl
  let v105 : FVec F S128x160 .f32 ← if Scalar.cmpi .ne (Scalar.extui (Scalar.cmpi .eq v101 0#32)) 0#32 = 1#1
    then pure (k0_pay6 (iota .tc S128x256 32 [0] iota_S128x256_d0_w32) v84) else pure (k0_pay7 (iota .tc S128x256 32 [0] iota_S128x256_d0_w32) v84)
  if h : b = 1#1 then do
    Prog.lift (.enqueueDma (gM.slice (Rect.unit (s := S374400x128) ![(o' h).val, 0] S96x128.size (inbO (o' h))) (fun _ => rfl))
      (.here ((ringM.slice (Rect.unit (s := S16x96x128) ![s.val, 0, 0] S1x96x128.size (inb3 s.val s.isLt)) (fun _ => rfl)).squeeze S96x128 squeezes_S1x96x128_S96x128))
      (.dma ((cc0_scratch1.slice (Rect.unit (s := S16) ![s.val] S1.size (inb1 s.val s.isLt))).squeeze S_ squeezes_S1_S_).sem)
      (View.wordExact_bits rfl) ((View.wordExact_bits rfl).reshape _ _) ⟨Or.inl rfl, trivial⟩)
    pure ⟨⟩
  else pure ⟨⟩
  pure (k0_pay8 acc v105)

theorem tripG_eq (s : Fin 16) (o : Row) (b : BitVec 1) (n : ℕ) (hn : b = 1#1 → n + 96 ≤ 374400) (acc : FVec F S128x160 .f32)
    (o25 : Fin 1 → ℕ) (h25) (o26 : Fin 3 → ℕ) (h26) (o27 : Fin 2 → ℕ) (h27) (o29 : Fin 1 → ℕ) (h29) (o30 : Fin 3 → ℕ) (h30) (o31 : Fin 2 → ℕ) (h31)
    (e25 : o25 = ![s.val]) (e26 : o26 = ![s.val, 0, 0]) (e27 : o27 = ![o.val, 0]) (e29 : o29 = ![s.val]) (e30 : o30 = ![s.val, 0, 0]) (e31 : o31 = ![n, 0]) :
    tripG (F := F) o25 h25 o26 h26 o27 h27 b o29 h29 o30 h30 o31 h31 acc = tripN s o b (fun h => ⟨n, hn h⟩) acc := by
  subst e25 e26 e27 e29 e30 e31
  rfl

/-- The body of the loop over the second unit's steps is the trip at the step's slot and rows. -/
theorem t5_body_eq (i : grid0.Coords) (arg4 : Memref sig .tc .hbm S71680x256 .f32) (harg4 : arg4.IsWhole) (arg5 : Memref sig .tc .vmem S160x256 .f32) (harg5 : arg5.IsWhole)
    {v0 v1 v11 v15 : BitVec 32} (h : UnitWords v0 v1 v11 v15) (hw : k0_chk3 v0 v1 v11 v15) (k : Fin (k0_t5_loop v0 v11 v15).trips) (acc : FVec F S128x160 .f32) :
    k0_t5_body (F := F) i sbM (Memref.isWhole_whole _) exM (Memref.isWhole_whole _) gM (Memref.isWhole_whole _) arg4 harg4 arg5 harg5 ringM (Memref.isWhole_whole _) cc0_scratch1
        v0 v1 (iota .tc S128x256 32 [0] iota_S128x256_d0_w32) v11 (v11 - v0) v15 hw k acc
      = tripN ⟨((v11 - v0).toNat + k.val) % 16, Nat.mod_lt _ (by decide)⟩
          ⟨((v11 - v0).toNat + k.val) * 96, by have := (t5_iv h k).2; have := h.bt; have := h.le; omega⟩
          (k0_cond7 v0 v1 v11 v15 k)
          (fun h7 => ⟨((v11 - v0).toNat + k.val + 16) * 96, by have := (cond7_iff h k).1 h7; have := h.le; omega⟩) acc :=
  Eq.trans (show _ = tripG (F := F) (k0_off25 v0 v11 v15 k) (k0_off25_inb v0 v1 v11 v15 hw k) (k0_off26 v0 v11 v15 k) (k0_off26_inb v0 v1 v11 v15 hw k)
      (k0_off27 v0 v11 v15 k) (k0_off27_inb v0 v1 v11 v15 hw k) (k0_cond7 v0 v1 v11 v15 k)
      (k0_off29 v0 v11 v15 k) (k0_off29_inb v0 v1 v11 v15 hw k) (k0_off30 v0 v11 v15 k) (k0_off30_inb v0 v1 v11 v15 hw k)
      (k0_off31 v0 v11 v15 k) (k0_off31_inb v0 v1 v11 v15 hw k) acc from rfl)
    (tripG_eq _ _ _ _ _ acc _ _ _ _ _ _ _ _ _ _ _ _ (off25_eq h k) (off26_eq h k) (off27_eq h k)
      ((off29_eq h k).trans (by rw [Nat.add_mod_right])) ((off30_eq h k).trans (by rw [Nat.add_mod_right])) (off31_eq h k))

/-- The ninety-six rows from `o` on, as the body loads them. -/
def blk (c : Dev nD) (fg : Bf (F := F) c gM) (o : Row) : Vec F S1x96x128 .i32 :=
  shapeCast S1x96x128 ((srcO o).view.read (Elt F) fg) (by decide)

/-- A slot's elements are its rectangle's. -/
theorem rslotK_set (k : Fin 16) :
    (rslotK k).view.set = (Rect.unit (s := S16x96x128) ![k.val, 0, 0] S1x96x128.size (inb3 k.val k.isLt)).set :=
  (View.set_reshape _ _).trans (View.set_slice_whole _ _)

/-- A load of the slot's rectangle through the whole ring, after the rows from `o` on have arrived, reads them. -/
theorem landed_read (c : Dev nD) (fg : Bf (F := F) c gM) (s : Fin 16) (o : Row) (f : (rslotK s).view.ty.Contents (Elt F)) :
    ringM.view.readAt (Elt F) (Rect.unit (s := S16x96x128) ![s.val, 0, 0] S1x96x128.size (inb3 s.val s.isLt)).toLoadRect
      ((rslotK s).view.writes (Elt F) f [⟨Rect.whole S96x128, ReadAs.same.apply ((srcO o).view.read (Elt F) fg)⟩]) = blk c fg o := by
  have h := View.read_writes_whole (rslotK s).view f (ReadAs.same.apply ((srcO o).view.read (Elt F) fg))
  have e : ∀ g, (rslotK s).view.read (Elt F) g
      = shapeCast S96x128 (ringM.view.readAt (Elt F) (Rect.unit (s := S16x96x128) ![s.val, 0, 0] S1x96x128.size (inb3 s.val s.isLt)).toLoadRect g) (by show S1x96x128.ShapeCasts S96x128; decide) :=
    fun _ => rfl
  have h2 := (e _).symm.trans h
  exact (shapeCast_shapeCast _ _ _).symm.trans (congrArg (fun v => shapeCast S1x96x128 v (by decide)) h2)

/-- The flag word. -/
def flag (c : Dev nD) (fx : Bf (F := F) c exM) : BitVec 32 := fx (ValueIdx.ix1 0)

theorem flag_read (c : Dev nD) (fx : Bf (F := F) c exM) :
    exM.view.readAt (Elt F) (Rect.unit (s := S1) ![0] S1.size inb_S1_S1_0).toLoadRect fx (Shape.Idx.first (by decide)) = flag c fx := by
  unfold flag
  show fx _ = fx _
  congr 1
  funext a; fin_cases a; rfl

/-- One trip: the slot's rows arrive, their product is added, and the slot is free again or being filled anew. -/
theorem run_trip (c : Dev nD) (fg : Bf (F := F) c gM) (fx : Bf (F := F) c exM) (st : Fin 16 → Option Row)
    (s : Fin 16) (o : Row) (hst : st s = some o) (b : BitVec 1) (o' : b = 1#1 → Row) (acc : FVec F S128x160 .f32)
    (W : Waits sig Unit) (Q : FVec F S128x160 .f32 → sProp 𝕄) :
    iprop(Ring.AtW (slotS c fg) st ∗ pt c exM fx ∗ owes (c : Thread nD τ) 0 W
        ∗ ((Ring.AtW (slotS c fg) (Function.update st s (if h : b = 1#1 then some (o' h) else none)) ∗ pt c exM fx ∗ ∃ W, owes (c : Thread nD τ) 0 W)
            -∗ Q (k0_pay8 acc (prod (flag c fx) (blk c fg o)))))
      ⊢ wp frame (wpE (defs₀ (F := F)) Variants.none c none) Set.univ (tripN s o b o' acc) Q := by
  rw [Ring.AtW_focus (slotS c fg) st s, hst]
  have hS : (ringM.access (Rect.unit (s := S16x96x128) ![s.val, 0, 0] S1x96x128.size (inb3 s.val s.isLt))).set ⊆ (rslotK s).view.set := by
    rw [rslotK_set]; exact (View.set_slice_whole _ _).le
  unfold tripN prod
  by_cases hb : b = 1#1
  · rw [dif_pos hb]
    rw [show slotS c fg s (some o) = fillS c fg s o from rfl]
    iintro ⟨⟨⟨⟨%f, Hfl⟩, Htok⟩, Hrest⟩, Hx, HO, Hk⟩
    sl_exec
    have hr : run_trip.sl.r c fx = flag c fx := flag_read c fx
    have hv : run_trip.sl.v84 c fg s o = blk c fg o := landed_read c fg s o _
    rw [hr, hv]
    by_cases hx : Scalar.cmpi .ne (Scalar.extui (Scalar.cmpi .eq (flag c fx) 0#32)) 0#32 = 1#1
    · rw [if_pos hx]
      sl_exec
      sl_step
      iapply Hk
      isplitr [Hx HO]
      · iapply (Ring.AtW_update (slotS c fg) st s (some (o' hb)))
        isplitr [Hrest]
        · rw [show slotS c fg s (some (o' hb)) = fillS c fg s (o' hb) from rfl]
          isplitl [Hfl]
          · iexists _; iexact Hfl
          · iexact Htok
        · iexact Hrest
      · isplitl [Hx]; · iexact Hx
        iexists _; iexact HO
    · rw [if_neg hx]
      sl_exec
      sl_step
      iapply Hk
      isplitr [Hx HO]
      · iapply (Ring.AtW_update (slotS c fg) st s (some (o' hb)))
        isplitr [Hrest]
        · rw [show slotS c fg s (some (o' hb)) = fillS c fg s (o' hb) from rfl]
          isplitl [Hfl]
          · iexists _; iexact Hfl
          · iexact Htok
        · iexact Hrest
      · isplitl [Hx]; · iexact Hx
        iexists _; iexact HO
  · rw [dif_neg hb]
    rw [show slotS c fg s (some o) = fillS c fg s o from rfl]
    iintro ⟨⟨⟨⟨%f, Hfl⟩, Htok⟩, Hrest⟩, Hx, HO, Hk⟩
    sl_exec
    have hr : run_trip.sl.r_1 c fx = flag c fx := flag_read c fx
    have hv : run_trip.sl.v84_1 c fg s o = blk c fg o := landed_read c fg s o _
    rw [hr, hv]
    by_cases hx : Scalar.cmpi .ne (Scalar.extui (Scalar.cmpi .eq (flag c fx) 0#32)) 0#32 = 1#1
    · rw [if_pos hx]
      sl_exec
      sl_step
      iapply Hk
      isplitr [Hx HO]
      · iapply (Ring.AtW_update (slotS c fg) st s none)
        isplitr [Hrest]
        · rw [show slotS c fg s none = freeS c fg s from rfl]
          isplitl [Hfl]; · iexact Hfl
          isplitl [Hfl_dst]; · iexists _; iexact Hfl_dst
          iexact Htok
        · iexact Hrest
      · isplitl [Hx]; · iexact Hx
        iexists _; iexact HO
    · rw [if_neg hx]
      sl_exec
      sl_step
      iapply Hk
      isplitr [Hx HO]
      · iapply (Ring.AtW_update (slotS c fg) st s none)
        isplitr [Hrest]
        · rw [show slotS c fg s none = freeS c fg s from rfl]
          isplitl [Hfl]; · iexact Hfl
          isplitl [Hfl_dst]; · iexists _; iexact Hfl_dst
          iexact Htok
        · iexact Hrest
      · isplitl [Hx]; · iexact Hx
        iexists _; iexact HO

end Cert.Kernel3.Hand

end
-- ==== Proof.Chunk3.Trips.lean ====
/-
  The body's loops as invariants. Before step `p` of `T` the ring holds the steps `p` up to `min (p + 16) T`, step `x` in
  slot `x % 16`; a trip of a unit's loop moves the ring from step `p` to step `p + 1` and adds the step's product; a trip
  of the first grid point's loop starts one step's copy.
-/
module

public import proofs.«01_k».proof.Proof.Chunk3.Ring

@[expose] public section

set_option maxRecDepth 65536

noncomputable section

namespace Cert.Kernel3.Hand

open Cert.Kernel.Hand (UnitWords)
open Cert.Kernel3 Cert.Kernel3.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UU nD τ) ℕ

/-- The first row of step `x` (of the last step the tiles hold, when they hold no step `x`). -/
def rowT (x : ℕ) : Row := ⟨min (x * 96) 374304, by omega⟩

theorem rowT_eq {x : ℕ} (h : x * 96 + 96 ≤ 374400) : rowT x = ⟨x * 96, h⟩ := Subtype.ext (Nat.min_eq_left (by omega))

/-- The ring holding the steps from `lo` up to `hi`. -/
def stWin (lo hi : ℕ) : Fin 16 → Option Row := fun k => (Ring.inWin lo hi 16 k).map rowT
/-- The ring before step `p` of `T`. -/
def stAt (T p : ℕ) : Fin 16 → Option Row := stWin p (min (p + 16) T)

theorem map_update (f : Fin 16 → Option ℕ) (s : Fin 16) (a : Option ℕ) :
    (fun k => (Function.update f s a k).map rowT) = Function.update (fun k => (f k).map rowT) s (a.map rowT) := by
  funext k
  by_cases h : k = s
  · subst h; rw [Function.update_self, Function.update_self]
  · rw [Function.update_of_ne h, Function.update_of_ne h]

theorem stAt_at {T p : ℕ} (h : p < T) : stAt T p (Ring.sl 16 p) = some (rowT p) := by
  unfold stAt stWin
  rw [Ring.inWin_lo (by omega) (by omega)]; rfl

theorem stWin_push {lo hi : ℕ} (h1 : lo ≤ hi) (h2 : hi + 1 ≤ lo + 16) :
    stWin lo (hi + 1) = Function.update (stWin lo hi) (Ring.sl 16 hi) (some (rowT hi)) := by
  unfold stWin; rw [Ring.inWin_push h1 h2, map_update]; rfl

theorem stWin_pop {lo hi : ℕ} (h1 : lo < hi) (h2 : hi ≤ lo + 16) :
    stWin (lo + 1) hi = Function.update (stWin lo hi) (Ring.sl 16 lo) none := by
  unfold stWin; rw [Ring.inWin_pop h1 h2, map_update]; rfl

/-- One step further, a step sixteen further on being left. -/
theorem stAt_succ_more {T p : ℕ} (h : p + 16 < T) :
    stAt T (p + 1) = Function.update (stAt T p) (Ring.sl 16 p) (some (rowT (p + 16))) := by
  have hs : Ring.sl 16 (p + 16) = Ring.sl 16 p := Fin.ext (by rw [Ring.sl_val, Ring.sl_val, Nat.add_mod_right])
  unfold stAt
  rw [show min (p + 1 + 16) T = p + 16 + 1 from by omega, show min (p + 16) T = p + 16 from by omega,
    stWin_push (by omega) (by omega), stWin_pop (by omega) (by omega), hs, Function.update_idem]

/-- One step further near the end. -/
theorem stAt_succ_less {T p : ℕ} (h : p < T) (h' : ¬ p + 16 < T) :
    stAt T (p + 1) = Function.update (stAt T p) (Ring.sl 16 p) none := by
  unfold stAt
  rw [show min (p + 1 + 16) T = T from by omega, show min (p + 16) T = T from by omega, stWin_pop h (by omega)]

theorem stWin_empty (p q : ℕ) (h : q ≤ p) : stWin p q = fun _ => none := by
  funext k
  unfold stWin
  rw [(Ring.inWin_eq_none_iff (by omega) k).2 (fun x h1 h2 => absurd h1 (by omega))]; rfl

/-- The sum after `n` steps from step `A` on, from `z`. -/
def accN (c : Dev nD) (fg : Bf (F := F) c gM) (fx : Bf (F := F) c exM) (z : FVec F S128x160 .f32) (A : ℕ) : ℕ → FVec F S128x160 .f32
  | 0 => z
  | n + 1 => k0_pay8 (accN c fg fx z A n) (prod (flag c fx) (blk c fg (rowT (A + n))))

/-- The resources before step `p` of `T`: the ring, the flag word, the core's waits. -/
def ringAt (c : Dev nD) (fg : Bf (F := F) c gM) (fx : Bf (F := F) c exM) (T p : ℕ) : sProp 𝕄 :=
  iprop(Ring.AtW (slotS c fg) (stAt T p) ∗ pt c exM fx ∗ ∃ W, owes (c : Thread nD τ) 0 W)

theorem run_step (c : Dev nD) (fg : Bf (F := F) c gM) (fx : Bf (F := F) c exM) (T p : ℕ) (hp : p < T) (hT : T ≤ 3900)
    (s : Fin 16) (hs : s = Ring.sl 16 p) (o : Row) (ho : o = rowT p) (b : BitVec 1) (hb : b = 1#1 ↔ p + 16 < T)
    (o' : b = 1#1 → Row) (ho' : ∀ h, o' h = rowT (p + 16)) (acc : FVec F S128x160 .f32) (Q : FVec F S128x160 .f32 → sProp 𝕄) :
    iprop(ringAt c fg fx T p ∗ (ringAt c fg fx T (p + 1) -∗ Q (k0_pay8 acc (prod (flag c fx) (blk c fg (rowT p))))))
      ⊢ wp frame (wpE (defs₀ (F := F)) Variants.none c none) Set.univ (tripN s o b o' acc) Q := by
  subst hs ho
  have e : stAt T (p + 1) = Function.update (stAt T p) (Ring.sl 16 p) (if h : b = 1#1 then some (o' h) else none) := by
    by_cases h : b = 1#1
    · rw [dif_pos h, ho' h]; exact stAt_succ_more (hb.1 h)
    · rw [dif_neg h]; exact stAt_succ_less hp (fun h' => h (hb.2 h'))
  unfold ringAt
  iintro ⟨⟨HR, Hx, %W, HO⟩, Hk⟩
  iapply (run_trip c fg fx (stAt T p) _ _ (stAt_at hp) b o' acc W Q)
  isplitl [HR]; · iexact HR
  isplitl [Hx]; · iexact Hx
  isplitl [HO]; · iexact HO
  rw [← e]
  iexact Hk

section Loops

variable (c : Dev nD) (fg : Bf (F := F) c gM) (fx : Bf (F := F) c exM) (i : grid0.Coords)
  (arg4 : Memref sig .tc .hbm S71680x256 .f32) (harg4 : arg4.IsWhole) (arg5 : Memref sig .tc .vmem S160x256 .f32) (harg5 : arg5.IsWhole)

/-- The invariant of a unit's loop: the ring at the trip's step, the sum so far. -/
def unitInv (z : FVec F S128x160 .f32) (T A k : ℕ) (acc : FVec F S128x160 .f32) : sProp 𝕄 :=
  iprop(ringAt c fg fx T (A + k) ∗ ⌜acc = accN c fg fx z A k⌝)

set_option warn.classDefReducibility false in
/-- The loop over the second unit's steps. -/
@[sl_loop] def loopInv_t5 (v0 v1 v31 v35 : BitVec 32) (h : UnitWords v0 v1 v31 v35) (hw : k0_chk3 v0 v1 v31 v35) (z : FVec F S128x160 .f32) :
    LoopInvTy_k0_t5 (F := F) Unit ℕ (UU nD τ) ℕ Variants.none c none Set.univ i sbM (Memref.isWhole_whole _) exM (Memref.isWhole_whole _)
      gM (Memref.isWhole_whole _) arg4 harg4 arg5 harg5 ringM (Memref.isWhole_whole _) cc0_scratch1
      v0 v1 (iota .tc S128x256 32 [0] iota_S128x256_d0_w32) v31 (v31 - v0) v35 hw z where
  inv k acc := unitInv c fg fx z (v1 - v0).toNat (v31 - v0).toNat k acc
  step k acc := by
    have hk := (t5_iv h k).2
    have hbt := h.bt; have hle := h.le
    rw [t5_body_eq i arg4 harg4 arg5 harg5 h hw k acc]
    unfold unitInv
    iintro ⟨HR, %ha⟩
    iapply (run_step c fg fx (v1 - v0).toNat ((v31 - v0).toNat + k.val) (by omega) hle _ rfl _ (rowT_eq (by omega)).symm _ (cond7_iff h k) _
      (fun h7 => (rowT_eq (by have := (cond7_iff h k).1 h7; omega)).symm) acc)
    isplitl [HR]; · iexact HR
    iintro HR
    isplitl [HR]; · iexact HR
    ipureintro
    rw [ha]; rfl

set_option warn.classDefReducibility false in
/-- The loop over the first unit's steps: the same body. -/
@[sl_loop] def loopInv_t3 (v0 v1 v11 v15 : BitVec 32) (h : UnitWords v0 v1 v11 v15) (hw : k0_chk2 v0 v1 v11 v15) (z : FVec F S128x160 .f32) :
    LoopInvTy_k0_t3 (F := F) Unit ℕ (UU nD τ) ℕ Variants.none c none Set.univ i sbM (Memref.isWhole_whole _) exM (Memref.isWhole_whole _)
      gM (Memref.isWhole_whole _) arg4 harg4 arg5 harg5 ringM (Memref.isWhole_whole _) cc0_scratch1
      v0 v1 v11 (v11 - v0) v15 hw z where
  inv k acc := unitInv c fg fx z (v1 - v0).toNat (v11 - v0).toNat k acc
  step k acc := (loopInv_t5 c fg fx i arg4 harg4 arg5 harg5 v0 v1 v11 v15 h hw z).step k acc

end Loops

/-! ## The first grid point's loop -/

/-- A trip of it at any offsets. -/
def firstG (o1 : Fin 1 → ℕ) (h1 : ∀ a, o1 a + S1.size a ≤ S16.size a) (o2 : Fin 3 → ℕ) (h2 : ∀ a, o2 a + S1x96x128.size a ≤ S16x96x128.size a)
    (o3 : Fin 2 → ℕ) (h3 : ∀ a, o3 a + S96x128.size a ≤ S374400x128.size a) : Prog (TpuEff nD τ sig (Elt F) Λ₀ .tc) Unit := do
  Prog.lift (.enqueueDma (gM.slice (Rect.unit (s := S374400x128) o3 S96x128.size h3) (fun _ => rfl))
    (.here ((ringM.slice (Rect.unit (s := S16x96x128) o2 S1x96x128.size h2) (fun _ => rfl)).squeeze S96x128 squeezes_S1x96x128_S96x128))
    (.dma ((cc0_scratch1.slice (Rect.unit (s := S16) o1 S1.size h1)).squeeze S_ squeezes_S1_S_).sem)
    (View.wordExact_bits rfl) ((View.wordExact_bits rfl).reshape _ _) ⟨Or.inl rfl, trivial⟩)
  pure ⟨⟩

/-- A trip of it at slot `s`, starting the rows from `o` on. -/
def firstN (s : Fin 16) (o : Row) : Prog (TpuEff nD τ sig (Elt F) Λ₀ .tc) Unit :=
  firstG ![s.val] (inb1 s.val s.isLt) ![s.val, 0, 0] (inb3 s.val s.isLt) ![o.val, 0] (inbO o)

theorem firstG_eq (s : Fin 16) (o : Row) (o1 : Fin 1 → ℕ) (h1) (o2 : Fin 3 → ℕ) (h2) (o3 : Fin 2 → ℕ) (h3)
    (e1 : o1 = ![s.val]) (e2 : o2 = ![s.val, 0, 0]) (e3 : o3 = ![o.val, 0]) :
    firstG (F := F) o1 h1 o2 h2 o3 h3 = firstN s o := by
  subst e1 e2 e3
  rfl

theorem t1_body_eq (i : grid0.Coords) (arg4 : Memref sig .tc .hbm S71680x256 .f32) (harg4 : arg4.IsWhole) (arg5 : Memref sig .tc .vmem S160x256 .f32) (harg5 : arg5.IsWhole)
    {v0 v1 : BitVec 32} (h : (v1 - v0).toNat ≤ 3900) (hw : k0_chk1 i v0 v1) (h1 : k0_cond1 i = 1#1) (k : Fin (k0_t1_loop v0 v1).trips) (u : Unit) :
    k0_t1_body (F := F) i sbM (Memref.isWhole_whole _) exM (Memref.isWhole_whole _) gM (Memref.isWhole_whole _) arg4 harg4 arg5 harg5 ringM (Memref.isWhole_whole _) cc0_scratch1
        v0 v1 hw h1 k u
      = firstN ⟨k.val % 16, Nat.mod_lt _ (by decide)⟩ ⟨k.val * 96, by have := (t1_iv h k).2; omega⟩ :=
  Eq.trans (show _ = firstG (F := F) (k0_off1 v0 v1 k) (k0_off1_inb i v0 v1 hw k h1) (k0_off2 v0 v1 k) (k0_off2_inb i v0 v1 hw k h1)
      (k0_off3 v0 v1 k) (k0_off3_inb i v0 v1 hw k h1) from rfl)
    (firstG_eq _ _ _ _ _ _ _ _ (off1_eq h k) (off2_eq h k) (off3_eq h k))

/-- The trip starts a copy into a free slot. -/
theorem run_first (c : Dev nD) (fg : Bf (F := F) c gM) (st : Fin 16 → Option Row) (s : Fin 16) (o : Row) (hst : st s = none)
    (W : Waits sig Unit) (Q : Unit → sProp 𝕄) :
    iprop(Ring.AtW (slotS c fg) st ∗ owes (c : Thread nD τ) 0 W
        ∗ ((Ring.AtW (slotS c fg) (Function.update st s (some o)) ∗ ∃ W, owes (c : Thread nD τ) 0 W) -∗ Q ⟨⟩))
      ⊢ wp frame (wpE (defs₀ (F := F)) Variants.none c none) Set.univ (firstN s o) Q := by
  rw [Ring.AtW_focus (slotS c fg) st s, hst]
  rw [show slotS c fg s none = freeS c fg s from rfl]
  unfold firstN firstG
  iintro ⟨⟨⟨Hfl, ⟨%f, Hdst⟩, Htok⟩, Hrest⟩, HO, Hk⟩
  sl_exec
  sl_step
  iapply Hk
  isplitr [HO]
  · iapply (Ring.AtW_update (slotS c fg) st s (some o))
    isplitr [Hrest]
    · rw [show slotS c fg s (some o) = fillS c fg s o from rfl]
      isplitl [Hfl]
      · iexists _; iexact Hfl
      · iexact Htok
    · iexact Hrest
  · iexists _; iexact HO

theorem stWin_free (k : ℕ) (h : k < 16) : stWin 0 k (Ring.sl 16 k) = none := by
  unfold stWin
  rw [Ring.inWin_hi (by omega) (by omega)]; rfl

set_option warn.classDefReducibility false in
/-- The first grid point's loop: before trip `k` the first `k` slots are being filled. -/
@[sl_loop] def loopInv_t1 (c : Dev nD) (fg : Bf (F := F) c gM) (i : grid0.Coords)
    (arg4 : Memref sig .tc .hbm S71680x256 .f32) (harg4 : arg4.IsWhole) (arg5 : Memref sig .tc .vmem S160x256 .f32) (harg5 : arg5.IsWhole)
    (v0 v1 : BitVec 32) (h : (v1 - v0).toNat ≤ 3900) (hw : k0_chk1 i v0 v1) (h1 : k0_cond1 i = 1#1) :
    LoopInvTy_k0_t1 (F := F) Unit ℕ (UU nD τ) ℕ Variants.none c none Set.univ i sbM (Memref.isWhole_whole _) exM (Memref.isWhole_whole _)
      gM (Memref.isWhole_whole _) arg4 harg4 arg5 harg5 ringM (Memref.isWhole_whole _) cc0_scratch1 v0 v1 hw h1 where
  inv k _ := iprop(Ring.AtW (slotS c fg) (stWin 0 k) ∗ ∃ W, owes (c : Thread nD τ) 0 W)
  step k u := by
    have hk := (t1_iv h k).2
    rw [t1_body_eq i arg4 harg4 arg5 harg5 h hw h1 k u]
    iintro ⟨HR, %W, HO⟩
    iapply (run_first c fg (stWin 0 k.val) _ _ (stWin_free k.val (by omega)) W)
    isplitl [HR]; · iexact HR
    isplitl [HO]; · iexact HO
    iintro H
    rw [stWin_push (by omega) (by omega), rowT_eq (x := k.val) (by omega)]
    iexact H

end Cert.Kernel3.Hand

end
-- ==== Proof.Chunk3.Body.lean ====
/-
  The whole body at a grid point: at the first point the ring is filled, then the two units' loops run and their sums go,
  transposed, to the left and the right half of the output block.
-/
module

public import proofs.«01_k».proof.Proof.Chunk3.Trips

@[expose] public section

set_option maxRecDepth 65536

noncomputable section

namespace Cert.Kernel3.Hand

open Cert.Kernel.Hand (UnitWords)
open Cert.Kernel3 Cert.Kernel3.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UU nD τ) ℕ

/-- Word `n` of the step table. -/
def word (c : Dev nD) (fs : Bf (F := F) c sbM) (n : Fin 897) : BitVec 32 := fs (ValueIdx.ix1 n)

theorem word_read (c : Dev nD) (fs : Bf (F := F) c sbM) (off : Fin 1 → ℕ) (h) (n : Fin 897) (hn : off = ![n.val]) :
    sbM.view.readAt (Elt F) (Rect.unit (s := S897) off S1.size h).toLoadRect fs (Shape.Idx.first (by show 0 < S1.numel; decide)) = word c fs n := by
  subst hn
  unfold word
  show fs _ = fs _
  congr 1
  funext a; fin_cases a; rfl

/-- Where unit `u` begins among the chunk's steps. -/
def pos (c : Dev nD) (fs : Bf (F := F) c sbM) (u : ℕ) : ℕ :=
  if h : 672 + u < 897 then (word c fs ⟨672 + u, h⟩ - word c fs ⟨672, by decide⟩).toNat else 0

/-- The table's words of the chunk are in order and stay inside the packed tiles. -/
structure Ordered (c : Dev nD) (fs : Bf (F := F) c sbM) : Prop where
  mono : ∀ u, u < 224 → pos c fs u ≤ pos c fs (u + 1)
  le : ∀ u, u ≤ 224 → pos c fs u ≤ 3900

/-- The ring before point `r`: free before the first one. -/
def stPt (c : Dev nD) (fs : Bf (F := F) c sbM) (r : ℕ) : Fin 16 → Option Row :=
  if r = 0 then fun _ => none else stAt (pos c fs 224) (pos c fs (2 * r))

/-- The sum of unit `u`'s steps' products, from `z`. -/
def unitAcc (c : Dev nD) (fs : Bf (F := F) c sbM) (fg : Bf (F := F) c gM) (fx : Bf (F := F) c exM) (z : FVec F S128x160 .f32) (u : ℕ) : FVec F S128x160 .f32 :=
  accN c fg fx z (pos c fs u) (pos c fs (u + 1) - pos c fs u)

/-- Words with those positions are a unit's. -/
theorem unitWords {c : Dev nD} {fs : Bf (F := F) c sbM} (hO : Ordered c fs) (u : ℕ) (hu : u < 224) {v0 v1 v11 v15 : BitVec 32}
    (h0 : v0 = word c fs ⟨672, by decide⟩) (h1 : v1 = word c fs ⟨896, by decide⟩)
    (h11 : v11 = word c fs ⟨672 + u, by omega⟩) (h15 : v15 = word c fs ⟨672 + (u + 1), by omega⟩) :
    UnitWords v0 v1 v11 v15 ∧ (v1 - v0).toNat = pos c fs 224 ∧ (v11 - v0).toNat = pos c fs u ∧ (v15 - v0).toNat = pos c fs (u + 1) := by
  have e1 : (v1 - v0).toNat = pos c fs 224 := by subst h0 h1; unfold pos; rw [dif_pos (by omega)]
  have e11 : (v11 - v0).toNat = pos c fs u := by subst h0 h11; unfold pos; rw [dif_pos (by omega)]
  have e15 : (v15 - v0).toNat = pos c fs (u + 1) := by subst h0 h15; unfold pos; rw [dif_pos (by omega)]
  refine ⟨⟨?_, ?_, ?_⟩, e1, e11, e15⟩
  · rw [e11, e15]; exact hO.mono u hu
  · rw [e15, e1]
    have : ∀ n, u + 1 + n ≤ 224 → pos c fs (u + 1) ≤ pos c fs (u + 1 + n) := by
      intro n
      induction n with
      | zero => intro _; exact le_rfl
      | succ n ih => intro h; exact (ih (by omega)).trans (hO.mono _ (by omega))
    have h := this (224 - (u + 1)) (by omega)
    rwa [show u + 1 + (224 - (u + 1)) = 224 from by omega] at h
  · rw [e1]; exact hO.le 224 le_rfl

/-- The output block's two stores: the second unit's sum in the right half, the first unit's in the left half. -/
def outPieces (c : Dev nD) (fs : Bf (F := F) c sbM) (fg : Bf (F := F) c gM) (fx : Bf (F := F) c exM) (r : ℕ) : List (View.Piece (Elt F) S160x256 .f32) :=
  [⟨Rect.unit (s := S160x256) ![0, 128] S160x128.size inb_S160x256_S160x128_0_128, k0_pay16 (unitAcc c fs fg fx (k0_pay1 (F := F)) (2 * r + 1))⟩,
    ⟨Rect.unit (s := S160x256) ![0, 0] S160x128.size inb_S160x256_S160x128_0_0, k0_pay32 (unitAcc c fs fg fx (k0_pay17 (F := F)) (2 * r))⟩]

/-- The body at a later grid point. -/
theorem body_run1 (c : Dev nD) (fs : Bf (F := F) c sbM) (fg : Bf (F := F) c gM) (fx : Bf (F := F) c exM) (hO : Ordered c fs) (i : grid0.Coords) (hi : (i 0).val ≠ 0)
    (arg4 : Memref sig .tc .hbm S71680x256 .f32) (harg4 : arg4.IsWhole) (arg5 : Memref sig .tc .vmem S160x256 .f32) (harg5 : arg5.IsWhole)
    (fo : Bf (F := F) c arg5) (Q : PUnit → sProp 𝕄) :
    iprop(Ring.AtW (slotS c fg) (stPt c fs (i 0).val) ∗ pt c exM fx ∗ pt c sbM fs ∗ (∃ W, owes (c : Thread nD τ) 0 W) ∗ pt c arg5 fo
        ∗ ((Ring.AtW (slotS c fg) (stPt c fs ((i 0).val + 1)) ∗ pt c exM fx ∗ pt c sbM fs ∗ (∃ W, owes (c : Thread nD τ) 0 W)
             ∗ pt c arg5 (arg5.view.writes (Elt F) fo (outPieces c fs fg fx (i 0).val))) -∗ Q ⟨⟩))
      ⊢ wp frame (wpE (defs₀ (F := F)) Variants.none c none) Set.univ
          (cc0_pool (F := F) i sbM (Memref.isWhole_whole _) exM (Memref.isWhole_whole _) gM (Memref.isWhole_whole _) arg4 harg4 arg5 harg5 ringM (Memref.isWhole_whole _) cc0_scratch1) Q := by
  rw [cc0_pool_eq_skeleton]
  unfold cc0_pool_skel
  rw [k0_part5_eq_skeleton]
  unfold k0_part5_skel
  iintro ⟨HR, Hx, Hs, ⟨%W, HO⟩, Ho, Hk⟩
  sl_exec
  have hlt : (i 0).val < 112 := (i 0).isLt
  have hc : ¬ k0_cond1 i = 1#1 := fun h => hi ((cond1_iff i).1 h)
  have h0 : body_run1.sl.r c fs = word c fs ⟨672, by decide⟩ := word_read c fs _ _ _ rfl
  have h1 : body_run1.sl.r_1 c fs = word c fs ⟨896, by decide⟩ := word_read c fs _ _ _ rfl
  generalize body_run1.sl.r c fs = v0 at h0 ⊢
  generalize body_run1.sl.r_1 c fs = v1 at h1 ⊢
  have hw1 : k0_chk1 i v0 v1 := chk1 i (unitWords hO 0 (by omega) h0 h1 rfl rfl).1.le
  sl_exec
  rw [show body_run1.sl.v12 c fs i v0 = body_run1.sl.r_2 c fs i - v0 from rfl]
  have h2 : body_run1.sl.r_2 c fs i = word c fs ⟨672 + 2 * (i 0).val, by omega⟩ := word_read c fs _ _ _ (off7_eq i)
  have h3 : body_run1.sl.r_3 c fs i = word c fs ⟨672 + (2 * (i 0).val + 1), by omega⟩ := word_read c fs _ _ _ (off8_eq i)
  generalize body_run1.sl.r_2 c fs i = v11 at h2 ⊢
  generalize body_run1.sl.r_3 c fs i = v15 at h3 ⊢
  obtain ⟨hU, eT, eA, eB⟩ := unitWords hO (2 * (i 0).val) (by omega) h0 h1 h2 h3
  have hw2 : k0_chk2 v0 v1 v11 v15 := chk2 hU
  have e0 : stPt c fs (i 0).val = stAt (v1 - v0).toNat ((v11 - v0).toNat + 0) := by
    unfold stPt; rw [if_neg hi, eT, eA]; rfl
  rw [e0]
  let L := loopInv_t3 c fg fx i arg4 harg4 arg5 harg5 v0 v1 v11 v15 hU hw2 (k0_pay17 (F := F))
  sl_exec
  rw [bind_assoc]
  sl_exec
  rw [bind_assoc]
  sl_exec
  rw [show body_run1.sl.v32 c fs i v0 = body_run1.sl.r_4 c fs i - v0 from rfl]
  have h4 : body_run1.sl.r_4 c fs i = word c fs ⟨672 + (2 * (i 0).val + 1), by omega⟩ := word_read c fs _ _ _ (off23_eq i)
  have h5 : body_run1.sl.r_5 c fs i = word c fs ⟨672 + (2 * (i 0).val + 2), by omega⟩ := word_read c fs _ _ _ (off24_eq i)
  generalize body_run1.sl.r_4 c fs i = v31 at h4 ⊢
  generalize body_run1.sl.r_5 c fs i = v35 at h5 ⊢
  obtain ⟨hV, -, eC, eD⟩ := unitWords hO (2 * (i 0).val + 1) (by omega) h0 h1 h4 h5
  have hw3 : k0_chk3 v0 v1 v31 v35 := chk3 hV
  have hT3 : (k0_t3_loop v0 v11 v15).trips = pos c fs (2 * (i 0).val + 1) - pos c fs (2 * (i 0).val) := by
    rw [← eA, ← eB]; exact t5_trips hU
  have e1 : stAt (v1 - v0).toNat ((v11 - v0).toNat + (k0_t3_loop v0 v11 v15).trips) = stAt (v1 - v0).toNat ((v31 - v0).toNat + 0) := by
    have := hO.mono (2 * (i 0).val) (by omega)
    rw [hT3, eA, eC, Nat.add_sub_cancel' this]; rfl
  rw [show stAt (v1 - v0).toNat ((v11 - v0).toNat + Scf.trips (k0_t3_loop v0 v11 v15).lb (k0_t3_loop v0 v11 v15).ub (k0_t3_loop v0 v11 v15).st) = _ from e1]
  let L' := loopInv_t5 c fg fx i arg4 harg4 arg5 harg5 v0 v1 v31 v35 hV hw3 (k0_pay1 (F := F))
  sl_exec
  have hT5 : (k0_t5_loop v0 v31 v35).trips = pos c fs (2 * (i 0).val + 1 + 1) - pos c fs (2 * (i 0).val + 1) := by
    rw [← eC, ← eD]; exact t5_trips hV
  have e2 : stAt (v1 - v0).toNat ((v31 - v0).toNat + (k0_t5_loop v0 v31 v35).trips) = stPt c fs ((i 0).val + 1) := by
    have := hO.mono (2 * (i 0).val + 1) (by omega)
    unfold stPt
    rw [hT5, eC, eT, Nat.add_sub_cancel' this, if_neg (by omega)]; rfl
  have e3 : accN c fg fx (k0_pay1 (F := F)) (v31 - v0).toNat (k0_t5_loop v0 v31 v35).trips = unitAcc c fs fg fx k0_pay1 (2 * (i 0).val + 1) := by
    rw [hT5, eC]; rfl
  have e4 : accN c fg fx (k0_pay17 (F := F)) (v11 - v0).toNat (k0_t3_loop v0 v11 v15).trips = unitAcc c fs fg fx k0_pay17 (2 * (i 0).val) := by
    rw [hT3, eA]; rfl
  rw [show stAt (v1 - v0).toNat ((v31 - v0).toNat + Scf.trips (k0_t5_loop v0 v31 v35).lb (k0_t5_loop v0 v31 v35).ub (k0_t5_loop v0 v31 v35).st) = _ from e2,
    show accN c fg fx (k0_pay1 (F := F)) (v31 - v0).toNat (Scf.trips (k0_t5_loop v0 v31 v35).lb (k0_t5_loop v0 v31 v35).ub (k0_t5_loop v0 v31 v35).st) = _ from e3,
    show accN c fg fx (k0_pay17 (F := F)) (v11 - v0).toNat (Scf.trips (k0_t3_loop v0 v11 v15).lb (k0_t3_loop v0 v11 v15).ub (k0_t3_loop v0 v11 v15).st) = _ from e4]
  sl_step
  iapply Hk
  isplitl [HR]; · iexact HR
  isplitl [Hx]; · iexact Hx
  isplitl [Hs]; · iexact Hs
  isplitl [HO]; · iexists _; iexact HO
  iexact Ho

/-- The body at the first grid point. -/
theorem body_run0 (c : Dev nD) (fs : Bf (F := F) c sbM) (fg : Bf (F := F) c gM) (fx : Bf (F := F) c exM) (hO : Ordered c fs) (i : grid0.Coords) (hi : (i 0).val = 0)
    (arg4 : Memref sig .tc .hbm S71680x256 .f32) (harg4 : arg4.IsWhole) (arg5 : Memref sig .tc .vmem S160x256 .f32) (harg5 : arg5.IsWhole)
    (fo : Bf (F := F) c arg5) (Q : PUnit → sProp 𝕄) :
    iprop(Ring.AtW (slotS c fg) (stPt c fs (i 0).val) ∗ pt c exM fx ∗ pt c sbM fs ∗ (∃ W, owes (c : Thread nD τ) 0 W) ∗ pt c arg5 fo
        ∗ ((Ring.AtW (slotS c fg) (stPt c fs ((i 0).val + 1)) ∗ pt c exM fx ∗ pt c sbM fs ∗ (∃ W, owes (c : Thread nD τ) 0 W)
             ∗ pt c arg5 (arg5.view.writes (Elt F) fo (outPieces c fs fg fx (i 0).val))) -∗ Q ⟨⟩))
      ⊢ wp frame (wpE (defs₀ (F := F)) Variants.none c none) Set.univ
          (cc0_pool (F := F) i sbM (Memref.isWhole_whole _) exM (Memref.isWhole_whole _) gM (Memref.isWhole_whole _) arg4 harg4 arg5 harg5 ringM (Memref.isWhole_whole _) cc0_scratch1) Q := by
  rw [cc0_pool_eq_skeleton]
  unfold cc0_pool_skel
  rw [k0_part5_eq_skeleton]
  unfold k0_part5_skel
  iintro ⟨HR, Hx, Hs, ⟨%W, HO⟩, Ho, Hk⟩
  sl_exec
  have hlt : (i 0).val < 112 := (i 0).isLt
  have hc : k0_cond1 i = 1#1 := (cond1_iff i).2 hi
  have h0 : body_run0.sl.r c fs = word c fs ⟨672, by decide⟩ := word_read c fs _ _ _ rfl
  have h1 : body_run0.sl.r_1 c fs = word c fs ⟨896, by decide⟩ := word_read c fs _ _ _ rfl
  generalize body_run0.sl.r c fs = v0 at h0 ⊢
  generalize body_run0.sl.r_1 c fs = v1 at h1 ⊢
  have hle : (v1 - v0).toNat ≤ 3900 := (unitWords hO 0 (by omega) h0 h1 rfl rfl).1.le
  have hw1 : k0_chk1 i v0 v1 := chk1 i hle
  rw [show stPt c fs (i 0).val = stWin 0 0 from by rw [stWin_empty 0 0 le_rfl]; unfold stPt; rw [if_pos hi]]
  let L0 := loopInv_t1 c fg i arg4 harg4 arg5 harg5 v0 v1 hle hw1 hc
  sl_exec
  rw [bind_assoc]
  sl_exec
  rw [bind_assoc]
  sl_exec
  rw [show body_run0.sl.v12 c fs i v0 = body_run0.sl.r_2 c fs i - v0 from rfl]
  have h2 : body_run0.sl.r_2 c fs i = word c fs ⟨672 + 2 * (i 0).val, by omega⟩ := word_read c fs _ _ _ (off7_eq i)
  have h3 : body_run0.sl.r_3 c fs i = word c fs ⟨672 + (2 * (i 0).val + 1), by omega⟩ := word_read c fs _ _ _ (off8_eq i)
  generalize body_run0.sl.r_2 c fs i = v11 at h2 ⊢
  generalize body_run0.sl.r_3 c fs i = v15 at h3 ⊢
  obtain ⟨hU, eT, eA, eB⟩ := unitWords hO (2 * (i 0).val) (by omega) h0 h1 h2 h3
  have hw2 : k0_chk2 v0 v1 v11 v15 := chk2 hU
  have hA0 : (v11 - v0).toNat = 0 := by
    rw [eA, hi]; unfold pos; rw [dif_pos (by decide)]; simp
  have e0 : stWin 0 (k0_t1_loop v0 v1).trips = stAt (v1 - v0).toNat ((v11 - v0).toNat + 0) := by
    rw [t1_trips hle, hA0]
    show stWin 0 (min _ 16) = stWin 0 (min 16 _)
    rw [Nat.min_comm]
  rw [show stWin 0 (Scf.trips (k0_t1_loop v0 v1).lb (k0_t1_loop v0 v1).ub (k0_t1_loop v0 v1).st) = _ from e0]
  let L := loopInv_t3 c fg fx i arg4 harg4 arg5 harg5 v0 v1 v11 v15 hU hw2 (k0_pay17 (F := F))
  sl_exec
  rw [bind_assoc]
  sl_exec
  rw [bind_assoc]
  sl_exec
  rw [show body_run0.sl.v32 c fs i v0 = body_run0.sl.r_4 c fs i - v0 from rfl]
  have h4 : body_run0.sl.r_4 c fs i = word c fs ⟨672 + (2 * (i 0).val + 1), by omega⟩ := word_read c fs _ _ _ (off23_eq i)
  have h5 : body_run0.sl.r_5 c fs i = word c fs ⟨672 + (2 * (i 0).val + 2), by omega⟩ := word_read c fs _ _ _ (off24_eq i)
  generalize body_run0.sl.r_4 c fs i = v31 at h4 ⊢
  generalize body_run0.sl.r_5 c fs i = v35 at h5 ⊢
  obtain ⟨hV, -, eC, eD⟩ := unitWords hO (2 * (i 0).val + 1) (by omega) h0 h1 h4 h5
  have hw3 : k0_chk3 v0 v1 v31 v35 := chk3 hV
  have hT3 : (k0_t3_loop v0 v11 v15).trips = pos c fs (2 * (i 0).val + 1) - pos c fs (2 * (i 0).val) := by
    rw [← eA, ← eB]; exact t5_trips hU
  have e1 : stAt (v1 - v0).toNat ((v11 - v0).toNat + (k0_t3_loop v0 v11 v15).trips) = stAt (v1 - v0).toNat ((v31 - v0).toNat + 0) := by
    have := hO.mono (2 * (i 0).val) (by omega)
    rw [hT3, eA, eC, Nat.add_sub_cancel' this]; rfl
  rw [show stAt (v1 - v0).toNat ((v11 - v0).toNat + Scf.trips (k0_t3_loop v0 v11 v15).lb (k0_t3_loop v0 v11 v15).ub (k0_t3_loop v0 v11 v15).st) = _ from e1]
  let L' := loopInv_t5 c fg fx i arg4 harg4 arg5 harg5 v0 v1 v31 v35 hV hw3 (k0_pay1 (F := F))
  sl_exec
  have hT5 : (k0_t5_loop v0 v31 v35).trips = pos c fs (2 * (i 0).val + 1 + 1) - pos c fs (2 * (i 0).val + 1) := by
    rw [← eC, ← eD]; exact t5_trips hV
  have e2 : stAt (v1 - v0).toNat ((v31 - v0).toNat + (k0_t5_loop v0 v31 v35).trips) = stPt c fs ((i 0).val + 1) := by
    have := hO.mono (2 * (i 0).val + 1) (by omega)
    unfold stPt
    rw [hT5, eC, eT, Nat.add_sub_cancel' this, if_neg (by omega)]; rfl
  have e3 : accN c fg fx (k0_pay1 (F := F)) (v31 - v0).toNat (k0_t5_loop v0 v31 v35).trips = unitAcc c fs fg fx k0_pay1 (2 * (i 0).val + 1) := by
    rw [hT5, eC]; rfl
  have e4 : accN c fg fx (k0_pay17 (F := F)) (v11 - v0).toNat (k0_t3_loop v0 v11 v15).trips = unitAcc c fs fg fx k0_pay17 (2 * (i 0).val) := by
    rw [hT3, eA]; rfl
  rw [show stAt (v1 - v0).toNat ((v31 - v0).toNat + Scf.trips (k0_t5_loop v0 v31 v35).lb (k0_t5_loop v0 v31 v35).ub (k0_t5_loop v0 v31 v35).st) = _ from e2,
    show accN c fg fx (k0_pay1 (F := F)) (v31 - v0).toNat (Scf.trips (k0_t5_loop v0 v31 v35).lb (k0_t5_loop v0 v31 v35).ub (k0_t5_loop v0 v31 v35).st) = _ from e3,
    show accN c fg fx (k0_pay17 (F := F)) (v11 - v0).toNat (Scf.trips (k0_t3_loop v0 v11 v15).lb (k0_t3_loop v0 v11 v15).ub (k0_t3_loop v0 v11 v15).st) = _ from e4]
  sl_step
  iapply Hk
  isplitl [HR]; · iexact HR
  isplitl [Hx]; · iexact Hx
  isplitl [Hs]; · iexact Hs
  isplitl [HO]; · iexists _; iexact HO
  iexact Ho

/-- The body at any grid point. -/
theorem body_run (c : Dev nD) (fs : Bf (F := F) c sbM) (fg : Bf (F := F) c gM) (fx : Bf (F := F) c exM) (hO : Ordered c fs) (i : grid0.Coords)
    (arg4 : Memref sig .tc .hbm S71680x256 .f32) (harg4 : arg4.IsWhole) (arg5 : Memref sig .tc .vmem S160x256 .f32) (harg5 : arg5.IsWhole)
    (fo : Bf (F := F) c arg5) (Q : PUnit → sProp 𝕄) :
    iprop(Ring.AtW (slotS c fg) (stPt c fs (i 0).val) ∗ pt c exM fx ∗ pt c sbM fs ∗ (∃ W, owes (c : Thread nD τ) 0 W) ∗ pt c arg5 fo
        ∗ ((Ring.AtW (slotS c fg) (stPt c fs ((i 0).val + 1)) ∗ pt c exM fx ∗ pt c sbM fs ∗ (∃ W, owes (c : Thread nD τ) 0 W)
             ∗ pt c arg5 (arg5.view.writes (Elt F) fo (outPieces c fs fg fx (i 0).val))) -∗ Q ⟨⟩))
      ⊢ wp frame (wpE (defs₀ (F := F)) Variants.none c none) Set.univ
          (cc0_pool (F := F) i sbM (Memref.isWhole_whole _) exM (Memref.isWhole_whole _) gM (Memref.isWhole_whole _) arg4 harg4 arg5 harg5 ringM (Memref.isWhole_whole _) cc0_scratch1) Q := by
  by_cases hi : (i 0).val = 0
  · exact body_run0 c fs fg fx hO i hi arg4 harg4 arg5 harg5 fo Q
  · exact body_run1 c fs fg fx hO i hi arg4 harg4 arg5 harg5 fo Q

end Cert.Kernel3.Hand

end
-- ==== Proof.Chunk3.Pre.lean ====
/- What the precondition `steps_in_order3` says, in plain words: the step table of the chunk is in order and stays inside
   the packed tiles, and either the weights are used as they are (`exact` is zero) or every one of them is finite. -/
module

public import proofs.«01_k».proof.Pre_steps_in_order3
public import proofs.«01_k».proof.Proof.Gen.Pre_steps_in_order3
public import proofs.«01_k».proof.Proof.Pre
public import Idealize.ShloMosaic.Lib.Pipeline.Value
public import Idealize.ShloMosaic.Lib.ValueIdx

@[expose] public section

set_option maxRecDepth 65536

noncomputable section

namespace Cert.Hand3

open Idealize.ShloMosaic Idealize.ShloMosaic.Pipeline Idealize.ShloMosaic.ValueIdx
open Cert.Hand (andi_ofBool ori_ofBool ofBool_eq_one)
open Cert.Pre_steps_in_order3

variable {F : FTy → Type} [FloatOps F]

/-- The precondition, decoded: for every unit the chunk's step words, counted from the chunk's first one, are in order and
    at most 3900, and `exact` is zero or the weight word of every tile and lane has an exponent that is not all ones. -/
theorem decoded (a0 : IVec S897 32) (a1 : IVec S1 32) (a2 : IVec S374400x128 32) (a3 : FVec F S71680x256 .f32)
    (h : Cert.Pre_steps_in_order3.fn (F := F) a0 a1 a2 a3 = fun _ => 1#1) :
    (∀ u : Fin 224, (a0 (ix1 ⟨672 + u.val, by omega⟩) - a0 (ix1 ⟨672, by decide⟩)).sle (a0 (ix1 ⟨673 + u.val, by omega⟩) - a0 (ix1 ⟨672, by decide⟩)) = true
        ∧ (a0 (ix1 ⟨673 + u.val, by omega⟩) - a0 (ix1 ⟨672, by decide⟩)).sle 3900#32 = true)
    ∧ ∀ (t : Fin 7800) (l : Fin 128), a1 (ix1 0) = 0#32 ∨ a2 (ix2 ⟨48 * t.val + 40, by omega⟩ l) &&& 2139095040#32 ≠ 2139095040#32 := by
  have key : ∀ (u : Fin 224) (t : Fin 7800) (l : Fin 128),
      ((a0 (ix1 ⟨672 + u.val, by omega⟩) - a0 (ix1 ⟨672, by decide⟩)).sle (a0 (ix1 ⟨673 + u.val, by omega⟩) - a0 (ix1 ⟨672, by decide⟩)) = true
        ∧ (a0 (ix1 ⟨673 + u.val, by omega⟩) - a0 (ix1 ⟨672, by decide⟩)).sle 3900#32 = true)
      ∧ (a1 (ix1 0) = 0#32 ∨ a2 (ix2 ⟨48 * t.val + 40, by omega⟩ l) &&& 2139095040#32 ≠ 2139095040#32) := by
    intro u t l
    have e := congrFun h (ix3 u t l)
    unfold Cert.Pre_steps_in_order3.fn fn_part1 at e
    dsimp only [andi, ori, cmpi, subi, constantI] at e
    rw [broadcastInDim_apply (s := S224x1x1) ![0, 1, 2] _ _ (ix3 u t l) (ix3 u 0 0) (by intro a; fin_cases a <;> rfl),
      broadcastInDim_apply (s := S224) ![0] _ _ (ix3 u 0 0) (ix1 u) (by intro a; fin_cases a; rfl),
      broadcastInDim_apply (s := S1x7800x128) ![0, 1, 2] _ _ (ix3 u t l) (ix3 0 t l) (by intro a; fin_cases a <;> rfl),
      broadcastInDim_apply (s := S7800x128) ![1, 2] _ _ (ix3 0 t l) (ix2 t l) (by intro a; fin_cases a <;> rfl)] at e
    dsimp only [andi, ori, cmpi, subi, constantI] at e
    rw [broadcastInDim_apply (s := S1x1) ![0, 1] _ _ (ix2 t l) (ix2 0 0) (by intro a; fin_cases a <;> rfl),
      broadcastInDim_apply (s := S1) ![1] _ _ (ix2 0 0) (ix1 0) (by intro a; fin_cases a; rfl),
      extractStridedSlice_apply (s := S225) ![0] _ _ (ix1 u) (ix1 ⟨u.val, by omega⟩) (by intro a; fin_cases a; exact (Nat.zero_add _).symm),
      extractStridedSlice_apply (s := S225) ![1] _ _ (ix1 u) (ix1 ⟨1 + u.val, by omega⟩) (by intro a; fin_cases a; rfl)] at e
    dsimp only [andi, ori, cmpi, subi, constantI] at e
    rw [extractStridedSlice_apply (s := S897) ![672] _ _ (ix1 (⟨u.val, by omega⟩ : Fin 225)) (ix1 ⟨672 + u.val, by omega⟩) (by intro a; fin_cases a; rfl),
      extractStridedSlice_apply (s := S897) ![672] _ _ (ix1 (⟨1 + u.val, by omega⟩ : Fin 225)) (ix1 ⟨673 + u.val, by omega⟩) (by intro a; fin_cases a; show 673 + u.val = 672 + (1 + u.val); omega),
      broadcastInDim_apply (s := S_) ![] _ _ (ix1 (⟨u.val, by omega⟩ : Fin 225)) ix0 (by intro a; exact a.elim0),
      broadcastInDim_apply (s := S_) ![] _ _ (ix1 (⟨1 + u.val, by omega⟩ : Fin 225)) ix0 (by intro a; exact a.elim0),
      shapeCast_apply (s := S1) _ _ ix0 (ix1 0) (by rfl),
      extractStridedSlice_apply (s := S897) ![672] _ _ (ix1 0) (ix1 ⟨672, by decide⟩) (by intro a; fin_cases a; rfl),
      shapeCast_apply (s := S7800x1x128) (t := S7800x128) _ _ (ix2 t l) (ix3 t 0 l) (by rw [Shape.rowMajor_val_three, Shape.rowMajor_val_two]; show (t.val * 1 + 0) * 128 + l.val = t.val * 128 + l.val; omega),
      extractStridedSlice_apply (s := S7800x48x128) ![0, 40, 0] _ _ (ix3 t 0 l) (ix3 t ⟨40, by decide⟩ l) (by intro a; fin_cases a <;> first | rfl | exact (Nat.zero_add _).symm),
      shapeCast_apply (s := S374400x128) (t := S7800x48x128) _ _ (ix3 t ⟨40, by decide⟩ l) (ix2 ⟨48 * t.val + 40, by omega⟩ l) (by rw [Shape.rowMajor_val_three, Shape.rowMajor_val_two]; show (48 * t.val + 40) * 128 + l.val = (t.val * 48 + 40) * 128 + l.val; omega)] at e
    simp only [broadcastInDim, IntOp.cmpi, andi_ofBool, ori_ofBool, ofBool_eq_one, Bool.and_eq_true, Bool.or_eq_true] at e
    refine ⟨e.1, ?_⟩
    rcases e.2 with e | e
    · exact Or.inl (by simpa [constantI] using e)
    · exact Or.inr (by simpa [IntOp.andi, constantI] using e)
  exact ⟨fun u => (key u 0 0).1, fun t l => (key 0 t l).2⟩

/-- The words of the chunk as natural numbers: from zero on, never falling, and never above 3900. -/
theorem decoded_order (a0 : IVec S897 32)
    (h : ∀ u : Fin 224, (a0 (ix1 ⟨672 + u.val, by omega⟩) - a0 (ix1 ⟨672, by decide⟩)).sle (a0 (ix1 ⟨673 + u.val, by omega⟩) - a0 (ix1 ⟨672, by decide⟩)) = true
        ∧ (a0 (ix1 ⟨673 + u.val, by omega⟩) - a0 (ix1 ⟨672, by decide⟩)).sle 3900#32 = true) :
    ∀ (u : ℕ) (hu : u ≤ 224), (a0 (ix1 ⟨672 + u, by omega⟩) - a0 (ix1 ⟨672, by decide⟩)).toNat ≤ 3900
      ∧ ∀ hu' : u < 224, (a0 (ix1 ⟨672 + u, by omega⟩) - a0 (ix1 ⟨672, by decide⟩)).toNat
          ≤ (a0 (ix1 ⟨672 + (u + 1), by omega⟩) - a0 (ix1 ⟨672, by decide⟩)).toNat := by
  have step : ∀ (u : ℕ) (hu' : u < 224), (a0 (ix1 ⟨672 + u, by omega⟩) - a0 (ix1 ⟨672, by decide⟩)).toNat ≤ 3900 →
      (a0 (ix1 ⟨672 + u, by omega⟩) - a0 (ix1 ⟨672, by decide⟩)).toNat
          ≤ (a0 (ix1 ⟨672 + (u + 1), by omega⟩) - a0 (ix1 ⟨672, by decide⟩)).toNat
      ∧ (a0 (ix1 ⟨672 + (u + 1), by omega⟩) - a0 (ix1 ⟨672, by decide⟩)).toNat ≤ 3900 := by
    intro u hu' hle
    obtain ⟨h1, h2⟩ := h ⟨u, hu'⟩
    have hix : (⟨673 + u, by omega⟩ : Fin 897) = ⟨672 + (u + 1), by omega⟩ := Fin.ext (by show 673 + u = 672 + (u + 1); omega)
    rw [hix] at h1 h2
    generalize a0 (ix1 ⟨672 + u, _⟩) - a0 (ix1 ⟨672, _⟩) = x at *
    generalize a0 (ix1 ⟨672 + (u + 1), _⟩) - a0 (ix1 ⟨672, _⟩) = y at *
    simp only [BitVec.sle, decide_eq_true_eq, BitVec.toInt, BitVec.toNat_ofNat] at h1 h2
    have := x.isLt
    have := y.isLt
    constructor <;> (split at h1 <;> split at h1 <;> split at h2 <;> omega)
  have le : ∀ (u : ℕ) (hu : u ≤ 224), (a0 (ix1 ⟨672 + u, by omega⟩) - a0 (ix1 ⟨672, by decide⟩)).toNat ≤ 3900 := by
    intro u
    induction u with
    | zero => intro _; show (a0 (ix1 ⟨672, _⟩) - a0 (ix1 ⟨672, _⟩)).toNat ≤ 3900; rw [BitVec.sub_self]; decide
    | succ u ih => intro hu; exact (step u (by omega) (ih (by omega))).2
  exact fun u hu => ⟨le u hu, fun hu' => (step u hu' (le u hu)).1⟩

end Cert.Hand3

end
-- ==== Proof.Chunk3.Order.lean ====
/- Under the precondition the chunk's step table is in order. -/
module

public import proofs.«01_k».proof.Proof.Chunk3.Body
public import proofs.«01_k».proof.Proof.Chunk3.Pre

@[expose] public section

set_option maxRecDepth 65536

noncomputable section

namespace Cert.Kernel3.Hand

open Cert.Kernel3 Cert.Kernel3.Gen
open Idealize.ShloMosaic Idealize.ShloMosaic.TcCoe Idealize.ShloMosaic.ValueIdx

variable {F : FTy → Type} [FloatOps F]

/-- The precondition's table words, read as positions, are in order and stay inside the packed tiles. -/
theorem ordered_of_pre (c : Dev nD) (fs : Bf (F := F) c sbM) (a1 : IVec Cert.Pre_steps_in_order3.S1 32) (a2 : IVec Cert.Pre_steps_in_order3.S374400x128 32)
    (a3 : FVec F Cert.Pre_steps_in_order3.S71680x256 .f32)
    (h : Cert.Pre_steps_in_order3.fn (F := F) fs a1 a2 a3 = fun _ => 1#1) : Ordered c fs := by
  have hd := Cert.Hand3.decoded_order fs (Cert.Hand3.decoded fs a1 a2 a3 h).1
  constructor
  · intro u hu
    unfold pos
    rw [dif_pos (by omega), dif_pos (by omega)]
    exact (hd u (by omega)).2 hu
  · intro u hu
    unfold pos
    rw [dif_pos (by omega)]
    exact (hd u (by omega)).1

end Cert.Kernel3.Hand

end
-- ==== Proof.Chunk3.Run.lean ====
/-
  The whole call: `prev` copied into the result's buffer, then the grid of one hundred and twelve rows, each writing its
  block of the result back. Every fair execution terminates; at the end the arguments are as they were, every counter is
  at zero, and the result's buffer holds what the row blocks make of the copy.
-/
module

public import proofs.«01_k».proof.Proof.Chunk3.Body
public import proofs.«01_k».proof.Proof.Gen.Kernel3.Launch
public import Idealize.ShloMosaic.Lib.Pipeline.Regions
public import Idealize.ShloMosaic.Lib.WritesUnit

@[expose] public section

set_option maxRecDepth 65536

noncomputable section

namespace Cert.Kernel3.Hand

open Cert.Kernel3 Cert.Kernel3.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UU nD τ) ℕ

/-- The pipeline library's algebra is the left component. -/
abbrev EP : Emb (UR sig nD τ) (MT nD τ sig Unit (Elt F) ℕ (UU nD τ) ℕ) := embL

abbrev 𝒱₀ : Variants := Variants.none

variable (m : (ℓ : Loc nD τ sig) → Buf (Elt F) ℓ) (ρ : Dev nD → PrngReg)

/-- The step table, the packed tiles and the path flag, as launched. -/
abbrev fsOf (c : Dev nD) : Bf (F := F) c sbM := m ((c : Thread nD τ).loc main_arg0)
abbrev fxOf (c : Dev nD) : Bf (F := F) c exM := m ((c : Thread nD τ).loc main_arg1)
abbrev fgOf (c : Dev nD) : Bf (F := F) c gM := m ((c : Thread nD τ).loc main_arg2)

/-! ## The buffers when the region is entered -/

/-- Core `c`'s buffers at launch, -/
abbrev V₀ (c : Dev nD) : Valuation τ sig (Elt F) := fun b => m ((c : Dev nD), b)
/-- and once the copy of `prev` has run. -/
abbrev V (c : Dev nD) (b : Ref sig .tc) : Buf (Elt F) ((c : Thread nD τ).loc b) := StableHlo.after hostOps0 (V₀ m c) b

/-- The copy writes the result's buffer only. -/
theorem not_written (b : Ref sig .tc) (hb : b ≠ main_v0) :
    ∀ op ∈ (hostOps0 (F := F)), Proc.devRef .tc b ∉ op.writes := by
  intro op hop
  simp only [List.mem_cons, List.mem_nil_iff, or_false] at hop
  subst hop
  simp only [StableHlo.unary_writes, Finset.mem_singleton]
  exact StableHlo.devRef_ne_of_ne hb

theorem V_of_ne (c : Dev nD) (b : Ref sig .tc) (hb : b ≠ main_v0) : V m c b = m ((c : Thread nD τ).loc b) :=
  StableHlo.after_of_forall_not_mem (b := Proc.devRef .tc b) hostOps0 (V₀ m c) (not_written b hb)

/-- The unscoped references, as device buffers. -/
def ucRefs : Finset (DevRef τ sig) := (StableHlo.tcRefs τ sig).filter fun b => ¬ b.isScoped

omit [FloatOps F] in
theorem unscopedBufs_held (c : Dev nD) (W : Valuation τ sig (Elt F)) :
    (unscopedBufs c (fun b => W b) : sProp 𝕄) = StableHlo.held (c : Thread nD τ) ucRefs W := by
  unfold unscopedBufs StableHlo.held ucRefs StableHlo.tcRefs
  rw [Finset.filter_map, bigSep_map]
  rfl

omit [FloatOps F] in
theorem sub_ucRefs (op : HloOp τ sig (Elt F)) (h : op.bufs ⊆ StableHlo.tcRefs τ sig) : op.bufs ⊆ ucRefs := fun b hb =>
  Finset.mem_filter.mpr ⟨h hb, fun h' => Bool.false_ne_true ((op.no_scoped b hb).symm.trans h')⟩

/-! ## The block a row leaves -/

/-- The block of row `r`: its left half the transposed sum of the even unit, its right half that of the odd one. -/
def outBlk (c : Dev nD) (fs : Bf (F := F) c sbM) (fg : Bf (F := F) c gM) (fx : Bf (F := F) c exM) (r : ℕ) : S160x256.Idx → Elt F .f32 := fun y =>
  if h : (y 1).val < 128 then k0_pay32 (unitAcc c fs fg fx k0_pay17 (2 * r)) (ValueIdx.ix2 (y 0) ⟨(y 1).val, h⟩)
  else k0_pay16 (unitAcc c fs fg fx k0_pay1 (2 * r + 1)) (ValueIdx.ix2 (y 0) ⟨(y 1).val - 128, by have := (y 1).isLt; change (y 1).val < 256 at this; omega⟩)

theorem read_outPieces (c : Dev nD) (fs : Bf (F := F) c sbM) (fg : Bf (F := F) c gM) (fx : Bf (F := F) c exM) (r : ℕ)
    (arg5 : Memref sig .tc .vmem S160x256 .f32) (fo : Bf (F := F) c arg5) :
    arg5.view.read (Elt F) (arg5.view.writes (Elt F) fo (outPieces c fs fg fx r)) = outBlk c fs fg fx r := by
  funext y
  unfold outBlk outPieces
  by_cases h : (y 1).val < 128
  · rw [dif_pos h, View.read_writes_cons_unit_of_not_mem _ _ _ _ _ y rfl 1 (Or.inl h)]
    exact View.read_writes_cons_unit_of_mem _ _ _ _ _ y _ rfl (by
      intro a; fin_cases a
      · exact (Nat.zero_add _).symm
      · exact (Nat.zero_add _).symm)
  · rw [dif_neg h]
    exact View.read_writes_cons_unit_of_mem _ _ _ _ _ y _ rfl (by
      intro a; fin_cases a
      · exact (Nat.zero_add _).symm
      · show (y 1).val = 128 + ((y 1).val - 128)
        omega)

/-! ## The pipeline's proof data -/

/-- The prefetched tables' contents: as launched (one core). -/
abbrev adm : (p : Fin 1) → (pcfgs (F := F) p).Adm := fun _ => ⟨fun k => m (((0 : Dev nD) : Thread nD τ).loc (pre0.ref k)), trivial⟩

/-- The invariant before row `n`: the ring in its state, the two tables, the packed tiles' share no slot holds. -/
def Φc (c : Dev nD) (n : ℕ) : sProp 𝕄 :=
  iprop(Ring.AtW (slotS c (fgOf m c)) (stPt c (fsOf m c) n) ∗ pt c exM (fxOf m c) ∗ pt c sbM (fsOf m c)
    ∗ (gM.view.loc (c : Thread nD τ) ↦{Transfers.shareDrop fullShare 16} fgOf m c))

def dats (_ : Fin 1) (c : Dev nD) : Dat τ (Elt F) Unit ℕ (UU nD τ) ℕ (cfg0 (adm m 0)) c where
  A w := V m c (Pipeline.arrRef spec0 w)
  after w t := match w with | ⟨0, _⟩ => outBlk c (fsOf m c) (fgOf m c) (fxOf m c) (grid0.coords t 0).val
  Φ t := Φc m c t.val
  q _ := fullShare
  owed _ := 0

theorem A_eq (c : Dev nD) (w : Fin 1) : (dats m 0 c).A w = V m c (Pipeline.arrRef spec0 w) := by
  dsimp only [dats]

theorem coords_val (t : Fin grid0.N) : (grid0.coords t 0).val = t.val := by
  revert t; decide +kernel

omit [FloatOps F] in
theorem whole_pt (c : Dev nD) (M : Memref sig .tc .vmem S160x256 .f32) (h : M.IsWhole) (f : Bf (F := F) c M) :
    (M.view.loc (c : Thread nD τ) ↦[M.view.set]{fullShare} f : sProp 𝕄) = pt c M f := by
  rw [h.set_eq_univ]

set_option backward.isDefEq.respectTransparency.types false in
theorem body_obligation (hO : ∀ c, Ordered c (fsOf m c)) (c : Dev nD) : BodyObligation (dats m 0 c) (defs₀ (F := F)) 𝒱₀ () Set.univ := fun t => by
  rw [bigSep_W0, bigSep_W0]
  rw [show (dats m 0 c).Φ t.castSucc = Φc m c t.val from rfl, show (dats m 0 c).Φ t.succ = Φc m c (t.val + 1) from rfl]
  unfold Φc Dat.owesAt Pipeline.owesWithin
  rw [show (dats m 0 c).owed t.castSucc = 0 from rfl, show (dats m 0 c).owed t.succ = 0 from rfl]
  unfold owns
  iintro ⟨⟨HR, Hx, Hs, Hg⟩, ⟨%W, %hW, HO⟩, ⟨%d0, %f0, %hf0, H0⟩⟩
  have hb := body_run c (fsOf m c) (fgOf m c) (fxOf m c) (hO c) (grid0.coords t) (Memref.whole main_arg3) (Memref.isWhole_whole _)
    (spec0_0.stage ((cfg0 (adm m 0)).slots t 0)) (hstage0_0 _) f0
  rw [coords_val t] at hb
  iapply (hb _)
  isplitl [HR]; · iexact HR
  isplitl [Hx]; · iexact Hx
  isplitl [Hs]; · iexact Hs
  isplitl [HO]; · iexists W; iexact HO
  isplitl [H0]
  · iapply (Entails.of_eq (whole_pt c (spec0_0.stage ((cfg0 (adm m 0)).slots t 0)) (hstage0_0 _) f0)); iexact H0
  iintro ⟨HR, Hx, Hs, ⟨%W', HO⟩, H0⟩
  isplitl [HR Hx Hs Hg]
  · isplitl [HR]; · iexact HR
    isplitl [Hx]; · iexact Hx
    isplitl [Hs]; · iexact Hs
    iexact Hg
  isplitl [HO]
  · iexists W'; isplitr; · ipureintro; exact fun _ _ => Or.inl trivial
    iexact HO
  iexists _
  isplitr
  swap
  · iapply (Entails.of_eq (whole_pt c (spec0_0.stage ((cfg0 (adm m 0)).slots t 0)) (hstage0_0 _) _).symm); iexact H0
  · ipureintro
    rw [read_outPieces]
    show _ = outBlk c (fsOf m c) (fgOf m c) (fxOf m c) (grid0.coords t 0).val
    rw [coords_val t]

/-! ## The ring taken apart at the start and put together at the end -/

/-- Slot `k`'s elements of the ring. -/
abbrev slotSet (k : Fin 16) : Finset S16x96x128.Idx := (Rect.unit (s := S16x96x128) ![k.val, 0, 0] S1x96x128.size (inb3 k.val k.isLt)).set

theorem ring_disjoint (k k' : Fin 16) (h : k ≠ k') : Disjoint (slotSet k) (slotSet k') :=
  Ring.lead_disjoint (s := S16x96x128) (0 : Fin 3) 1 (fun k : Fin 16 => ![k.val, 0, 0]) S1x96x128.size (fun k => inb3 k.val k.isLt)
    (fun k => (Nat.one_mul _).symm) rfl k k' h

theorem ring_cover : Finset.univ.biUnion slotSet = Finset.univ :=
  Ring.lead_cover (s := S16x96x128) (0 : Fin 3) 1 (fun k : Fin 16 => ![k.val, 0, 0]) S1x96x128.size (fun k => inb3 k.val k.isLt)
    (fun k => (Nat.one_mul _).symm) (by intro k a ha; fin_cases a <;> first | rfl | exact absurd rfl ha) rfl
    (by intro a ha; fin_cases a <;> first | rfl | exact absurd rfl ha) rfl

omit [FloatOps F] in
theorem slot_pt (c : Dev nD) (k : Fin 16) (f : Bf (F := F) c ringM) :
    (ringM.view.loc (c : Thread nD τ) ↦[slotSet k]{fullShare} f : sProp 𝕄)
      = ((rslotK k).view.loc (c : Thread nD τ) ↦[(rslotK k).view.set]{fullShare} f) := by
  rw [rslotK_set]
  rfl

/-- The layout the launch needs of the ring's counters. -/
theorem ownSemFacts : Pipeline.OwnSemFacts spec0 cellK := by decide

/-- All slots free. -/
theorem ring_free (c : Dev nD) (fg : Bf (F := F) c gM) :
    (Ring.AtW (slotS (F := F) c fg) (fun _ => none) : sProp 𝕄)
      = iprop((Pipeline.ownSems0 (Ix := Unit) (Name := ℕ) (U := UU nD τ) (Lvl := ℕ) (Val := Elt F) (τ := τ) cellK c)
          ∗ (bigSep Finset.univ fun k : Fin 16 => iprop(∃ f, (rslotK k).view.loc (c : Thread nD τ) ↦[(rslotK k).view.set]{fullShare} f))
          ∗ bigSep Finset.univ fun k : Fin 16 => tokG c k Finset.univ fg) := by
  unfold Ring.AtW Pipeline.ownSems0
  rw [← bigSep_sep', ← bigSep_sep']
  rfl

theorem ring_in (c : Dev nD) (fg : Bf (F := F) c gM) :
    iprop((Pipeline.ownSems0 (Ix := Unit) (Name := ℕ) (U := UU nD τ) (Lvl := ℕ) (Val := Elt F) (τ := τ) cellK c)
      ∗ (∃ f, pt c ringM f) ∗ pt c gM fg)
    ⊢ (iprop(Ring.AtW (slotS (F := F) c fg) (fun _ => none) ∗ (gM.view.loc (c : Thread nD τ) ↦{Transfers.shareDrop fullShare 16} fg)) : sProp 𝕄) := by
  rw [ring_free]
  iintro ⟨Hs, ⟨%f, Hr⟩, Hg⟩
  ihave Hg := (Transfers.pointsTo_toks_split fullShare 16) $$ Hg
  icases Hg with ⟨Hd, Ht⟩
  isplitr [Hd]
  · isplitl [Hs]; · iexact Hs
    isplitl [Hr]
    · ihave Hr := (Entails.of_eq (Ring.pointsTo_blocks (ℓ := ringM.view.loc (c : Thread nD τ)) slotSet ring_disjoint ring_cover f)) $$ Hr
      have hm : (bigSep Finset.univ fun k : Fin 16 => ringM.view.loc (c : Thread nD τ) ↦[slotSet k]{fullShare} f : sProp 𝕄)
          ⊢ bigSep Finset.univ fun k : Fin 16 => iprop(∃ f, (rslotK k).view.loc (c : Thread nD τ) ↦[(rslotK k).view.set]{fullShare} f) :=
        bigSep_mono fun k _ => by
          rw [slot_pt]
          exact (show ((rslotK k).view.loc (c : Thread nD τ) ↦[(rslotK k).view.set]{fullShare} f : sProp 𝕄)
              ⊢ iprop(∃ f, (rslotK k).view.loc (c : Thread nD τ) ↦[(rslotK k).view.set]{fullShare} f) from by
            iintro H; iexists f; iexact H)
      iapply hm
      iexact Hr
    · iexact Ht
  · iexact Hd

theorem ring_out (c : Dev nD) (fg : Bf (F := F) c gM) (f₀ : Bf (F := F) c ringM) :
    (iprop(Ring.AtW (slotS (F := F) c fg) (fun _ => none) ∗ (gM.view.loc (c : Thread nD τ) ↦{Transfers.shareDrop fullShare 16} fg)) : sProp 𝕄)
    ⊢ iprop((Pipeline.ownSems0 (Ix := Unit) (Name := ℕ) (U := UU nD τ) (Lvl := ℕ) (Val := Elt F) (τ := τ) cellK c)
      ∗ (∃ f, pt c ringM f) ∗ pt c gM fg) := by
  rw [ring_free]
  iintro ⟨⟨Hs, Hr, Ht⟩, Hd⟩
  isplitl [Hs]; · iexact Hs
  isplitl [Hr]
  · have hm : (bigSep Finset.univ fun k : Fin 16 => iprop(∃ f, (rslotK k).view.loc (c : Thread nD τ) ↦[(rslotK k).view.set]{fullShare} f) : sProp 𝕄)
        ⊢ bigSep Finset.univ fun k : Fin 16 => iprop(∃ f, ringM.view.loc (c : Thread nD τ) ↦[slotSet k]{fullShare} f) :=
      bigSep_mono fun k _ => (show (iprop(∃ f, (rslotK k).view.loc (c : Thread nD τ) ↦[(rslotK k).view.set]{fullShare} f) : sProp 𝕄)
          ⊢ iprop(∃ f, ringM.view.loc (c : Thread nD τ) ↦[slotSet k]{fullShare} f) from by
        iintro ⟨%f, H⟩; iexists f
        iapply (Entails.of_eq (slot_pt c k f).symm); iexact H)
    iapply (hm.trans (Ring.pointsTo_blocks_join_exists (ℓ := ringM.view.loc (c : Thread nD τ)) slotSet ring_disjoint ring_cover f₀))
    iexact Hr
  · iapply (Transfers.pointsTo_toks_join fullShare 16)
    isplitl [Hd]; · iexact Hd
    iexact Ht

theorem stPt_first (c : Dev nD) (fs : Bf (F := F) c sbM) : stPt c fs 0 = fun _ => none := if_pos rfl

theorem stPt_last (c : Dev nD) (fs : Bf (F := F) c sbM) : stPt c fs 112 = fun _ => none := by
  unfold stPt
  rw [if_neg (by decide)]
  unfold stAt
  exact stWin_empty _ _ (Nat.min_le_right _ _)

/-! ## The launch: the copy, then the region -/

/-- The launch element: the pipeline library's, and no counter yet. -/
def u₀ : UU nD τ := (initOf (Pipeline.cells (Pipeline.pin (pcfgs (F := F)) (adm m)) (cellOf_inj (adm m))) (Pipeline.launchToks (Pipeline.pin (pcfgs (F := F)) (adm m)) (cellOf_inj (adm m))), 1)

/-- The result's buffer at the end, as the pipeline computes it. -/
def finalA (c : Dev nD) : Buf (Elt F) ((c : Thread nD τ).loc main_v0) := (dats m 0 c).arrAt 0 112

abbrev L : GSem nD τ sig → Finset Unit := fun _ => ∅
abbrev lv : GSem nD τ sig → Unit → ℕ := fun _ _ => 0

abbrev R (c : Dev nD) : sProp 𝕄 := iprop(∃ W, owes (c : Thread nD τ) (0 : CellTallies nD τ sig Unit) W)

/-- The host segment: the copy of `prev`. -/
def seg0 : Pipeline.HostSeg (Name := ℕ) (U := UU nD τ) (pcfgs (F := F)) defs₀ 𝒱₀ L lv :=
  Pipeline.HostSeg.ofOps _ _ _ _ _ ucRefs hostOps0 (fun op h => sub_ucRefs op ((List.forall_iff_forall_mem.mp hostOps0_sub) op h))
    (by intro _ h; (repeat (cases h with | head => rfl | tail _ h => ?_)); exact nomatch h) (V₀ m) R

/-- What the region leaves: the result's buffer at its final contents, the arguments as launched. -/
abbrev Tₙ (c : Dev nD) : sProp 𝕄 :=
  iprop((dats m 0 c).arrays ((dats m 0 c).arrAt · 112)
    ∗ pt c sbM (fsOf m c) ∗ pt c exM (fxOf m c) ∗ pt c gM (fgOf m c) ∗ pt c (Memref.whole main_arg3) (m ((c : Thread nD τ).loc main_arg3)))

omit [FloatOps F] in
theorem prefHeld_two (c : Dev nD) (W : pre0.Contents (Elt F)) :
    (Pipeline.prefHeld pre0 c (fun _ => fullShare) W : sProp 𝕄) = iprop(pt c sbM (W 0) ∗ pt c exM (W 1)) := by
  unfold Pipeline.prefHeld
  exact bigSep_univ_eq_bigSepL [(0 : Fin 2), 1] (by decide) (by decide) _

set_option backward.isDefEq.respectTransparency.types false in
/-- The region. -/
def reg0 (hO : ∀ c, Ordered c (fsOf m c)) : Pipeline.RegionSeg (pcfgs (F := F)) (adm m) (dats m) () defs₀ 𝒱₀ L lv 0 where
  win := (launch0 (F := F)).to₀.win
  block_pos := (launch0 (F := F)).to₀.block_pos
  stage_whole := (launch0 (F := F)).to₀.stage_whole
  K := Fin 16
  osem := cellK
  ho := ownSemFacts
  hbody c := (body_obligation m hO c).loose
  hwaits := Pipeline.hwaits_of_owed_zero _ _ _ _ L lv 0 fun _ _ => rfl
  pre c := iprop(StableHlo.held (c : Thread nD τ) ucRefs (StableHlo.after hostOps0 (V₀ m c)) ∗ R c)
  post c := iprop(Tₙ m c ∗ R c)
  X c := iprop(pt c gM (fgOf m c) ∗ Pipeline.ownSems0 (Ix := Unit) (Name := ℕ) (U := UU nD τ) (Lvl := ℕ) (Val := Elt F) (τ := τ) cellK c)
  Y c := iprop(pt c sbM (fsOf m c) ∗ pt c exM (fxOf m c) ∗ pt c gM (fgOf m c))
  Z c := pt c (Memref.whole main_arg3) (m ((c : Thread nD τ).loc main_arg3))
  hentry c := by
    obtain rfl : c = 0 := Subsingleton.elim _ _
    rw [show StableHlo.held ((0 : Dev nD) : Thread nD τ) ucRefs (StableHlo.after hostOps0 (V₀ m 0)) = unscopedBufs 0 (V m 0) from (unscopedBufs_held 0 _).symm]
    have hsplit := (Pipeline.arrays_of_unscopedBufs (pcfgs (F := F)) (adm m) (dats m) (p := 0) winFacts0 arr_whole0 0
      ((dats m 0 0).share_full fun _ => rfl) (V m 0) (A_eq m 0)).trans (sep_mono .rfl (Entails.of_eq ((Pipeline.unscopedRest_split preFacts0 0 (V m 0)).trans
        (by rw [prefHeld_two, unscopedRestP0_eq]))))
    rw [V_of_ne m 0 main_arg2 (by decide), V_of_ne m 0 main_arg3 (by decide)] at hsplit
    rw [show V m 0 (pre0.ref 0) = m (((0 : Dev nD) : Thread nD τ).loc main_arg0) from V_of_ne m 0 main_arg0 (by decide),
      show V m 0 (pre0.ref 1) = m (((0 : Dev nD) : Thread nD τ).loc main_arg1) from V_of_ne m 0 main_arg1 (by decide)] at hsplit
    rw [prefHeld_two]
    iintro ⟨⟨Hub, HO⟩, Hos, -⟩
    ihave H := hsplit $$ Hub
    icases H with ⟨Ha, ⟨Hs, Hx⟩, Hg, H3⟩
    imodintro
    isplitl [Ha]; · iexact Ha
    isplitl [Hs Hx]
    · isplitl [Hs]; · iexact Hs
      iexact Hx
    isplitl [HO]
    · unfold Pipeline.Dat.owesAt Pipeline.owesWithin
      icases HO with ⟨%W, HO⟩; iexists W; isplitr; · ipureintro; exact fun _ _ => Or.inl trivial
      iexact HO
    isplitl [Hg Hos]
    · isplitl [Hg]; · iexact Hg
      iexact Hos
    iexact H3
  hin c := by
    obtain rfl : c = 0 := Subsingleton.elim _ _
    rw [show (dats m 0 0).Φ 0 = Φc m 0 0 from rfl, prefHeld_two]; unfold Φc
    rw [stPt_first, scopedRest0_eq]
    iintro ⟨⟨Hg, Hos⟩, ⟨Hs, Hx⟩, Hr⟩
    ihave H := (ring_in (0 : Dev nD) (fgOf m 0)) $$ [Hg Hos Hr]
    · isplitl [Hos]; · iexact Hos
      isplitl [Hr]; · iexact Hr
      iexact Hg
    icases H with ⟨HR, Hd⟩
    isplitl [HR]; · iexact HR
    isplitl [Hx]; · iexact Hx
    isplitl [Hs]; · iexact Hs
    iexact Hd
  hout c := by
    rw [show (dats m 0 c).Φ (Fin.last grid0.N) = Φc m c 112 from rfl]; unfold Φc
    rw [stPt_last, scopedRest0_eq]
    iintro ⟨HR, Hx, Hs, Hd⟩
    ihave H := (ring_out c (fgOf m c) (m ((c : Thread nD τ).loc cc0_scratch0))) $$ [HR Hd]
    · isplitl [HR]; · iexact HR
      iexact Hd
    icases H with ⟨Hos, Hr, Hg⟩
    isplitl [Hx Hs Hg]
    · isplitl [Hs]; · iexact Hs
      isplitl [Hx]; · iexact Hx
      iexact Hg
    isplitl [Hos]; · iexact Hos
    iexact Hr
  hexit c := by
    iintro ⟨Ha, HO, ⟨Hs, Hx, Hg⟩, HZ⟩
    imodintro
    isplitr [HO]
    · isplitl [Ha]; · iexact Ha
      isplitl [Hs]; · iexact Hs
      isplitl [Hx]; · iexact Hx
      isplitl [Hg]; · iexact Hg
      iexact HZ
    · unfold Pipeline.Dat.owesAt Pipeline.owesWithin
      icases HO with ⟨%W, -, HO⟩; iexists W; iexact HO

abbrev segs (hO : ∀ c, Ordered c (fsOf m c)) : List (Pipeline.Seg (pcfgs (F := F)) (adm m) (dats m) () defs₀ 𝒱₀ L lv) := [.host (seg0 m), .region (reg0 m hO)]

/-- What a final memory holds: the arguments as launched, the result's buffer at the computed contents. -/
def QC (c : Dev nD) (s : MemSt nD τ sig (Elt F)) : Prop :=
  s.mem ((c : Thread nD τ).loc main_arg0) = m ((c : Thread nD τ).loc main_arg0)
    ∧ s.mem ((c : Thread nD τ).loc main_arg1) = m ((c : Thread nD τ).loc main_arg1)
    ∧ s.mem ((c : Thread nD τ).loc main_arg2) = m ((c : Thread nD τ).loc main_arg2)
    ∧ s.mem ((c : Thread nD τ).loc main_arg3) = m ((c : Thread nD τ).loc main_arg3)
    ∧ s.mem ((c : Thread nD τ).loc main_v0) = finalA m c

set_option backward.isDefEq.respectTransparency.types false in
/-- From any memory whose step table is in order, counters at zero: every fair execution of the call terminates, the
    arguments end as they were, the result's buffer at the computed contents and every counter at zero. -/
theorem run_main (hO : ∀ c, Ordered c (fsOf m c)) :
    θ_run defs (onTc (τ := τ) (main (F := F))) ⟨m, fun _ => 0, ρ⟩ (fun r => (∀ c, QC m c r.2) ∧ r.2.sem = fun _ => 0) :=
  Pipeline.θ_run_regions_kit_sems (pcfgs (F := F)) (adm m) (dats m) () (cellOf_inj (adm m)) EP defs₀ 𝒱₀ L lv m ρ main (segs m hO)
    (fun c Q => by rw [main_segs (adm m) (dats m) () 𝒱₀ L lv (seg0 m) (reg0 m hO) rfl c])
    (by simp only [Pipeline.Seg.pipes_host, Pipeline.Seg.pipes_region, Pipeline.Seg.pipes_nil]; decide) (O₀ := 0) (hL := fun _ _ => rfl) (G := fun _ => iprop(emp)) (u₀ := u₀ m)
    (hu₀ := by
      unfold u₀
      iintro Hu
      ihave H := (ownU_pair _ _) $$ Hu
      icases H with ⟨HP, -⟩
      imodintro
      isplitl [HP]; · iexact HP
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) ucRefs (V₀ m c) ∗ R c)) (Tₙ := Tₙ m)
    (hch := ⟨fun _ => .rfl, fun _ => .rfl, fun _ => .rfl⟩)
    (hinit := by
      refine Pipeline.initEach L lv fun c => ?_
      rw [show unscopedBufs c (fun b => m ((c : Thread nD τ).loc b)) = StableHlo.held (c : Thread nD τ) ucRefs (V₀ m c) from unscopedBufs_held c (V₀ m c)]
      iintro ⟨⟨Hh, -, HO, -, -, -⟩, -⟩
      imodintro
      isplitl [Hh]; · iexact Hh
      iexists ∅; iexact HO)
    (QY := QC m)
    (hfin := fun c s' => by
      dsimp only [Tₙ]
      iintro ⟨⟨Ha, H0, H1, H2, H3⟩, HSI⟩
      icombine HSI H0 gives %h0
      icombine HSI H1 gives %h1
      icombine HSI H2 gives %h2
      icombine HSI H3 gives %h3
      ihave Hr := (Pipeline.arrays_read (pcfgs (F := F)) (adm m) (dats m) (p := 0) arr_whole0 c ((dats m 0 c).share_full fun _ => rfl) _ s') $$ [Ha HSI]
      · isplitl [Ha] <;> iassumption
      icases Hr with ⟨%ha, HSI⟩
      imodintro
      isplitr
      · ipureintro
        exact ⟨Buf.eq_of_forall_mem_univ h0, Buf.eq_of_forall_mem_univ h1, Buf.eq_of_forall_mem_univ h2, Buf.eq_of_forall_mem_univ h3, ha 0⟩
      iexact HSI)
    (hQ := fun _ h hz => ⟨h, funext fun g => hz g (.inr (by revert g; decide))⟩)

end Cert.Kernel3.Hand

end
-- ==== Proof.Chunk3.Ideal.Bridge.lean ====
/-
  The kernel over the extended reals is the kernel's own text, operation by operation: its body, its table of bodies and its
  main are the kernel's. So what is proved of the kernel for every reading of the floats holds of it.
-/
module

public import proofs.«01_k».proof.Proof.Chunk3.Run
public import proofs.«01_k».proof.Proof.Gen.Kernel3Ideal

@[expose] public section

set_option maxRecDepth 65536

noncomputable section

namespace Cert.Kernel3Ideal.Hand

open Idealize.ShloMosaic Idealize.SL.Sem

variable {F : FTy → Type} [FloatOps F]

/-- The body is the kernel's, -/
theorem pool_eq : @Cert.Kernel3Ideal.cc0_pool F _ Cert.Kernel3Ideal.Gen.facts = @Cert.Kernel3.cc0_pool F _ Cert.Kernel3.Gen.facts := rfl

/-- and so are the tables of bodies -/
theorem defs₀_eq : Cert.Kernel3Ideal.defs₀ (F := F) = Cert.Kernel3.defs₀ (F := F) := by
  unfold Cert.Kernel3Ideal.defs₀ Cert.Kernel3.defs₀
  refine congrArg Defs.onTc ?_
  funext l a
  obtain ⟨l, hl⟩ := l
  obtain rfl : l = 0 := by omega
  rfl

theorem defs_eq : Cert.Kernel3Ideal.defs (F := F) = Cert.Kernel3.defs (F := F) := by
  unfold Cert.Kernel3Ideal.defs Cert.Kernel3.defs
  exact congrArg (Pipeline.defs (Cert.Kernel3.pcfgs (F := F))) defs₀_eq

/-- and the main. -/
theorem main_eq : Cert.Kernel3Ideal.main (F := F) = Cert.Kernel3.main (F := F) := rfl

variable (m : (ℓ : Loc Cert.Kernel3.nD Cert.Kernel3.τ Cert.Kernel3.sig) → Buf (Elt F) ℓ) (ρ : Dev Cert.Kernel3.nD → PrngReg)

/-- The run of the kernel, of this program. -/
theorem run_main (hO : ∀ c, Cert.Kernel3.Hand.Ordered c (Cert.Kernel3.Hand.fsOf m c)) :
    θ_run (Cert.Kernel3Ideal.defs (F := F)) (onTc (τ := Cert.Kernel3Ideal.τ) (Cert.Kernel3Ideal.main (F := F))) ⟨m, fun _ => 0, ρ⟩
      (fun r => (∀ c, Cert.Kernel3.Hand.QC m c r.2) ∧ r.2.sem = fun _ => 0) :=
  Eq.mpr (congrArg₂ (fun (d : Defs Cert.Kernel3.nD Cert.Kernel3.τ Cert.Kernel3.sig (Elt F) _) p =>
    θ_run d (onTc (τ := Cert.Kernel3.τ) p) ⟨m, fun _ => 0, ρ⟩ (fun r => (∀ c, Cert.Kernel3.Hand.QC m c r.2) ∧ r.2.sem = fun _ => 0)) defs_eq main_eq)
    (Cert.Kernel3.Hand.run_main (F := F) m ρ hO)

end Cert.Kernel3Ideal.Hand

end
-- ==== Proof.Chunk3.Ideal.Step.lean ====
/-
  A unit's sum, over the packed tiles: a unit's accumulator is the sum over the unit's steps, and the block of a row is the
  sums of its two units.
-/
module

public import proofs.«01_k».proof.Proof.Ideal.Step
public import proofs.«01_k».proof.Proof.Chunk3.Run
public import Idealize.ShloMosaic.Lib.WordCmp

@[expose] public section

set_option maxRecDepth 65536

noncomputable section

namespace Cert.Kernel3.Hand

open Cert.Kernel3 Cert.Kernel3.Gen
open Idealize.ShloMosaic hiding ix1 ix2 ix3
open Idealize.ShloMosaic.TcCoe Idealize.ShloMosaic.ValueIdx
open Cert.Hand (Packed tileWord weight cellAt code part tilePart stepPart weight_real)

variable (c : Dev nD) (fg : Bf (F := Ideal) c gM) (fx : Bf (F := Ideal) c exM) (fs : Bf (F := Ideal) c sbM)

/-- Either the path is the plain one or every weight word's exponent is not all ones. -/
abbrev Plain : Prop := flag (F := Ideal) c fx = 0#32 ∨ ∀ (t : Fin 7800) (l : Fin 128), tileWord fg t 40 l &&& 2139095040#32 ≠ 2139095040#32

/-- A step does what a step of the second chunk does, -/
theorem step_apply (hx : Plain c fg fx) (s : ℕ) (hs : s < 3900) (p : Fin 128) (d : Fin 160) :
    prod (F := Ideal) (flag c fx) (blk c fg (rowT s)) (ix2 p d) = stepPart fg (BitVec.ofNat 32 p.val) d s :=
  Cert.Kernel.Hand.step_apply c fg fx hx s hs p d

/-- and this is the accumulator after `n` steps from step `A`. -/
theorem accN_apply (hx : Plain c fg fx) (z : FVec Ideal S128x160 .f32) (hz : ∀ i, z i = 0) (A n : ℕ) (h : A + n ≤ 3900) (p : Fin 128) (d : Fin 160) :
    accN (F := Ideal) c fg fx z A n (ix2 p d) = ∑ i ∈ Finset.range n, stepPart fg (BitVec.ofNat 32 p.val) d (A + i) := by
  induction n with
  | zero => exact hz _
  | succ n ih =>
    rw [Finset.sum_range_succ, ← ih (by omega), ← step_apply c fg fx hx (A + n) (by omega) p d]
    rfl

/-- What unit `u` sums at a cell and a channel. -/
def unitSum (u : ℕ) (p : Fin 128) (d : Fin 160) : EReal :=
  ∑ s ∈ Finset.Ico (pos (F := Ideal) c fs u) (pos (F := Ideal) c fs (u + 1)), stepPart fg (BitVec.ofNat 32 p.val) d s

theorem unitAcc_apply (hx : Plain c fg fx) (hO : Ordered (F := Ideal) c fs) (z : FVec Ideal S128x160 .f32) (hz : ∀ i, z i = 0) (u : ℕ) (hu : u < 224) (p : Fin 128) (d : Fin 160) :
    unitAcc (F := Ideal) c fs fg fx z u (ix2 p d) = unitSum c fg fs u p d := by
  unfold unitAcc unitSum
  have h1 := hO.1 u hu
  have h2 := hO.2 (u + 1) (by omega)
  rw [accN_apply c fg fx hx z hz _ _ (by omega), Finset.sum_Ico_eq_sum_range]

/-- The row's block: channel `d`, cell `x` of its two units. -/
theorem outBlk_apply (hx : Plain c fg fx) (hO : Ordered (F := Ideal) c fs) (r : ℕ) (hr : r < 112) (d : Fin 160) (x : Fin 256) :
    outBlk (F := Ideal) c fs fg fx r (ix2 d x) = unitSum c fg fs (2 * r + x.val / 128) ⟨x.val % 128, Nat.mod_lt _ (by decide)⟩ d := by
  have t : ∀ (y : FVec Ideal S128x160 .f32) (p : Fin 128), transpose S160x128 [1, 0] y transposes_S128x160_p1_0_S160x128 (ix2 d p) = y (ix2 p d) := fun y p =>
    transpose_apply (s := S128x160) (t := S160x128) _ _ _ _ _ fun b => by
      match b with
      | ⟨0, _⟩ => rfl
      | ⟨1, _⟩ => rfl
  unfold outBlk
  split
  · next h =>
    have h : x.val < 128 := h
    refine (t _ _).trans ((unitAcc_apply c fg fx fs hx hO _ (fun _ => Ideal.ofBits_zero_f32) _ (by omega) ⟨x.val, h⟩ d).trans ?_)
    congr 1
    · omega
    · exact Fin.ext (Nat.mod_eq_of_lt h).symm
  · next h =>
    have h : ¬ x.val < 128 := h
    refine (t _ _).trans ((unitAcc_apply c fg fx fs hx hO _ (fun _ => Ideal.ofBits_zero_f32) _ (by omega) ⟨x.val - 128, by omega⟩ d).trans ?_)
    congr 1
    · omega
    · exact Fin.ext (by show x.val - 128 = x.val % 128; omega)

end Cert.Kernel3.Hand

end
-- ==== Proof.Chunk3.Ideal.Final.lean ====
/-
  The result's buffer at the end: the rows of the chunk's blocks hold the units' sums, every other row what `prev` held.
-/
module

public import proofs.«01_k».proof.Proof.Chunk3.Ideal.Step

@[expose] public section

set_option maxRecDepth 65536

noncomputable section

namespace Cert.Kernel3.Hand

open Cert.Kernel3 Cert.Kernel3.Gen
open Idealize.ShloMosaic hiding ix1 ix2 ix3
open Idealize.ShloMosaic.TcCoe Idealize.ShloMosaic.ValueIdx
open Idealize.ShloMosaic.Pipeline (Dat Cfg Window)

variable {F : FTy → Type} [FloatOps F]
variable (m : (ℓ : Loc nD τ sig) → Buf (Elt F) ℓ)

/-- The chunk's rows of the result: block after block. -/
def blocks (c : Dev nD) : S71680x256.Idx → Elt F .f32 := fun i =>
  outBlk c (fsOf m c) (fgOf m c) (fxOf m c) ((i 0).val / 160 - 336) (ix2 ⟨(i 0).val % 160, Nat.mod_lt _ (by decide)⟩ (i 1))

/-- The window's block at a row begins at that row of the chunk. -/
theorem index_at (t : Fin grid0.N) : (cc0_transform_2 (grid0.coords t)) = ![t.val + 336, 0] := by
  revert t; decide +kernel

theorem flush_all (t : Fin grid0.N) : ((cfg0 (F := F) (adm m 0)).win 0).flush t = true :=
  (by decide +kernel : ∀ t : Fin grid0.N, Window.flushOf grid0 true cc0_transform_2 t = true) t

/-- Where an element of the block of row `t` sits in the result. -/
def place (t : Fin grid0.N) (y : S160x256.Idx) : S71680x256.Idx := (((cfg0 (F := F) (adm m 0)).win 0).blk t).view.emb y

theorem place_val0 (t : Fin grid0.N) (y : S160x256.Idx) : (place m t y 0).val = (t.val + 336) * 160 + (y 0).val := by
  refine (Window.rect_emb_val ((cfg0 (F := F) (adm m 0)).win 0) t y (0 : Fin 2)).trans ?_
  show cc0_transform_2 (grid0.coords t) 0 * 160 + (y 0).val = _
  rw [index_at]
  rfl

theorem place_val1 (t : Fin grid0.N) (y : S160x256.Idx) : (place m t y 1).val = (y 1).val := by
  refine (Window.rect_emb_val ((cfg0 (F := F) (adm m 0)).win 0) t y (1 : Fin 2)).trans ?_
  show cc0_transform_2 (grid0.coords t) 1 * 256 + (y 1).val = _
  rw [index_at]
  show 0 * 256 + (y 1).val = _
  omega

theorem blocks_place (c : Dev nD) (t : Fin grid0.N) (y : S160x256.Idx) :
    blocks m c (place m t y) = outBlk c (fsOf m c) (fgOf m c) (fxOf m c) t.val y := by
  have h0 := place_val0 m t y
  have h1 := place_val1 m t y
  have hy : (y 0).val < 160 := (y 0).isLt
  have e1 : (place m t y 0).val / 160 - 336 = t.val := by omega
  have e2 : (ix2 ⟨(place m t y 0).val % 160, Nat.mod_lt _ (by decide)⟩ (place m t y 1) : S160x256.Idx) = y := by
    funext a
    match a with
    | ⟨0, _⟩ => exact Fin.ext (by show (place m t y 0).val % 160 = (y 0).val; omega)
    | ⟨1, _⟩ => exact Fin.ext h1
  unfold blocks
  rw [e1]
  exact congrArg _ e2

theorem flushed_eq (c : Dev nD) (t : Fin grid0.N) :
    (dats m 0 c).flushed 0 t = (((cfg0 (F := F) (adm m 0)).win 0).blk t).view.read (Elt F) (blocks m c : Buf (Elt F) ((c : Thread nD τ).loc main_v0)) := by
  funext y
  show outBlk c (fsOf m c) (fgOf m c) (fxOf m c) (grid0.coords t 0).val y = blocks m c (place m t y)
  rw [coords_val]
  exact (blocks_place m c t y).symm

/-- Which elements of the result row `t`'s block covers. -/
theorem mem_blk (t : Fin grid0.N) (i : S71680x256.Idx) :
    (i ∈ ((((cfg0 (F := F) (adm m 0)).win 0).blk t).view.set : Finset S71680x256.Idx)) ↔ (i 0).val / 160 = t.val + 336 := by
  constructor
  · intro hi
    obtain ⟨y, -, e⟩ := Finset.mem_map.mp hi
    have key : ∀ y : S160x256.Idx, place m t y = i → (i 0).val / 160 = t.val + 336 := fun y e => by
      have h0 := place_val0 m t y
      have hy : (y 0).val < 160 := (y 0).isLt
      rw [e] at h0
      omega
    exact key y e
  · intro h
    refine Finset.mem_map.mpr ⟨(ix2 ⟨(i 0).val % 160, Nat.mod_lt _ (by decide)⟩ (i 1) : S160x256.Idx), Finset.mem_univ _, ?_⟩
    show place m t _ = i
    funext a
    match a with
    | ⟨0, _⟩ => exact Fin.ext ((place_val0 m t _).trans (by show (t.val + 336) * 160 + (i 0).val % 160 = (i 0).val; omega))
    | ⟨1, _⟩ => exact Fin.ext (place_val1 m t _)

/-- The result's buffer when the region is entered holds `prev`. -/
theorem entry_apply (c : Dev nD) (i : S71680x256.Idx) :
    (V m c main_v0 : S71680x256.Idx → Elt F .f32) i = (m ((c : Thread nD τ).loc main_arg3) : S71680x256.Idx → Elt F .f32) i := by
  have e : V m c main_v0 = m ((c : Thread nD τ).loc main_arg3) := by
    unfold V
    rw [StableHlo.after_cons, StableHlo.after_nil]
    exact StableHlo.unary_result' _ _ _ _
  rw [e]

/-- The result at the end: the chunk's rows its blocks, the others `prev`'s. -/
theorem final_apply (c : Dev nD) (i : S71680x256.Idx) :
    (finalA m c : S71680x256.Idx → Elt F .f32) i
      = if 336 ≤ (i 0).val / 160 ∧ (i 0).val / 160 < 448 then blocks m c i
        else (m ((c : Thread nD τ).loc main_arg3) : S71680x256.Idx → Elt F .f32) i := by
  refine ((dats m 0 c).arrAt_eq_piecewise 0 (blocks m c) (fun t _ => flushed_eq m c t) i).trans ?_
  by_cases h : 336 ≤ (i 0).val / 160 ∧ (i 0).val / 160 < 448
  · rw [if_pos h]
    refine if_pos ⟨⟨(i 0).val / 160 - 336, by show _ < grid0.N; rw [N_0]; omega⟩, flush_all m _, (mem_blk m _ i).2 ?_⟩
    show (i 0).val / 160 = (i 0).val / 160 - 336 + 336
    omega
  · rw [if_neg h]
    refine (if_neg ?_).trans (entry_apply m c i)
    rintro ⟨t, -, ht⟩
    have ht := (mem_blk m t i).1 ht
    have : t.val < 112 := by have := t.isLt; change _ < grid0.N at this; rwa [N_0] at this
    omega

end Cert.Kernel3.Hand

end
-- ==== Proof.Chunk3.Reference.Read.lean ====
/-
  The reference's host lines, read at their last writers: what the buffers of the offsets, the step and unit of every tile,
  the targets, the contributions and the result hold, each as a function of the buffers its line starts from.
-/
module

public import proofs.«01_k».proof.Proof.Gen.Reference3Ideal.Frame
public import proofs.«01_k».proof.Proof.Reference.Read
public import Idealize.ShloMosaic.Lib.StableHlo.RunRead

@[expose] public section

set_option maxRecDepth 65536

noncomputable section

namespace Cert.Reference3Ideal.Hand

open Cert.ReferenceIdeal.Hand (floorDiv before unitOf valid cellOf targetOf contribs bev tilesOf weights cells codes unitsOf targets)
open Cert.Reference3Ideal Cert.Reference3Ideal.Gen
open Idealize.ShloMosaic Idealize.ShloMosaic.TcCoe

variable {F : FTy → Type} [FloatOps F]

/-- Where the chunk's units end, counted in steps from the chunk's first. -/
def ends (a0 : IVec S897 32) : IVec S224 32 :=
  subi (extractStridedSlice S224 ![673] a0 slices_S897_S224_673)
    (broadcastInDim S224 ![] bcast_S_S224 (shapeCast S_ (extractStridedSlice S1 ![672] a0 slices_S897_S1_672) shapeCasts_S1_S_))

/-- The chunk's rows put after `prev`'s. -/
def joined (s : FVec F S28672x160 .f32) (a3 : FVec F S71680x256 .f32) : FVec F S71680x256 .f32 :=
  concatenate S71680x256 0 [⟨S53760x256, extractStridedSlice S53760x256 ![0, 0] a3 slices_S71680x256_S53760x256_0_0⟩,
    ⟨S17920x256, shapeCast S17920x256 (transpose S112x160x256 [0, 2, 1] (shapeCast S112x256x160 s shapeCasts_S28672x160_S112x256x160)
      transposes_S112x256x160_S112x160x256_0_2_1) shapeCasts_S112x160x256_S17920x256⟩]
    concatenates_S53760x256_S17920x256_S71680x256_d0

variable (V : Valuation τ sig (Elt F))

theorem line1_codes : StableHlo.after hostOps1 V (Proc.devRef .tc main_v3) = codes (V (Proc.devRef .tc main_v1)) := by
  after_reads_simp; rfl
theorem line1_weights : StableHlo.after hostOps1 V (Proc.devRef .tc main_v6) = weights (V (Proc.devRef .tc main_v0)) := by
  after_reads_simp; rfl
theorem line1_cells : StableHlo.after hostOps1 V (Proc.devRef .tc main_v8) = cells (V (Proc.devRef .tc main_v0)) := by
  after_reads_simp; rfl
theorem line1_ends : StableHlo.after hostOps1 V (Proc.devRef .tc main_v13) = ends (V (Proc.devRef .tc main_arg0)) := by
  after_reads_simp; rfl
theorem line1_iota : StableHlo.after hostOps1 V (Proc.devRef .tc main_v14) = (iotaInDim S7800 32 0 : IVec S7800 32) := by
  after_reads_simp
theorem line1_two : StableHlo.after hostOps1 V (Proc.devRef .tc main_c) = (constantI S_ 32 2#32 : IVec S_ 32) := by
  after_reads_simp
theorem line1_prev : StableHlo.after hostOps1 V (Proc.devRef .tc main_arg3) = V (Proc.devRef .tc main_arg3) := by
  after_reads_simp

theorem line2_step : StableHlo.after hostOps1_1 V (Proc.devRef .tc main_v15) = floorDiv (V (Proc.devRef .tc main_v14)) (V (Proc.devRef .tc main_c)) := by
  after_reads_simp; rfl
theorem line2_of_ne (r : Ref sig .tc) (h : r ∉ hostOps1_1_W) : StableHlo.after hostOps1_1 V (Proc.devRef .tc r) = V (Proc.devRef .tc r) :=
  StableHlo.after_unwritten hostOps1_1_W rfl h V

theorem line3_valid : StableHlo.after hostOps1_2 V (Proc.devRef .tc main_v32)
    = valid (unitOf (V (Proc.devRef .tc main_v13)) (V (Proc.devRef .tc main_v15))) (V (Proc.devRef .tc main_v8)) := by
  after_reads_simp; rfl
theorem line3_cell : StableHlo.after hostOps1_2 V (Proc.devRef .tc main_v37)
    = cellOf (unitOf (V (Proc.devRef .tc main_v13)) (V (Proc.devRef .tc main_v15))) (V (Proc.devRef .tc main_v8)) := by
  after_reads_simp; rfl
theorem line3_none : StableHlo.after hostOps1_2 V (Proc.devRef .tc main_c_5) = (constantI S_ 32 28672#32 : IVec S_ 32) := by
  after_reads_simp
theorem line3_of_ne (r : Ref sig .tc) (h : r ∉ hostOps1_2_W) : StableHlo.after hostOps1_2 V (Proc.devRef .tc r) = V (Proc.devRef .tc r) :=
  StableHlo.after_unwritten hostOps1_2_W rfl h V

theorem line4_target : StableHlo.after hostOps1_3 V (Proc.devRef .tc main_v38)
    = targetOf (V (Proc.devRef .tc main_v32)) (V (Proc.devRef .tc main_v37)) (V (Proc.devRef .tc main_c_5)) := by
  after_reads_simp; rfl
theorem line4_of_ne (r : Ref sig .tc) (h : r ∉ hostOps1_3_W) : StableHlo.after hostOps1_3 V (Proc.devRef .tc r) = V (Proc.devRef .tc r) :=
  StableHlo.after_unwritten hostOps1_3_W rfl h V

theorem line5_result : StableHlo.after hostOps1_4 V (Proc.devRef .tc main_v52)
    = joined (bev (V (Proc.devRef .tc main_v38)) (V (Proc.devRef .tc main_v6)) (V (Proc.devRef .tc main_v3))) (V (Proc.devRef .tc main_arg3)) := by
  after_reads_simp; rfl

/-- All lines together. -/
theorem lines_result : StableHlo.after (List.flatten [hostOps1, hostOps1_1, hostOps1_2, hostOps1_3, hostOps1_4]) V (Proc.devRef .tc main_v52)
    = joined (bev (targets (ends (V (Proc.devRef .tc main_arg0))) (V (Proc.devRef .tc main_v0))) (weights (V (Proc.devRef .tc main_v0)))
        (codes (V (Proc.devRef .tc main_v1)))) (V (Proc.devRef .tc main_arg3)) := by
  rw [show (List.flatten [hostOps1, hostOps1_1, hostOps1_2, hostOps1_3, hostOps1_4] : List (HloOp τ sig (Elt F)))
      = hostOps1 ++ (hostOps1_1 ++ (hostOps1_2 ++ (hostOps1_3 ++ hostOps1_4))) from rfl,
    StableHlo.after_append, StableHlo.after_append, StableHlo.after_append, StableHlo.after_append, line5_result,
    line4_target, line4_of_ne _ main_v6 (by decide), line4_of_ne _ main_v3 (by decide), line4_of_ne _ main_arg3 (by decide),
    line3_valid, line3_cell, line3_none, line3_of_ne _ main_v6 (by decide), line3_of_ne _ main_v3 (by decide), line3_of_ne _ main_arg3 (by decide),
    line2_step, line2_of_ne _ main_v13 (by decide), line2_of_ne _ main_v8 (by decide), line2_of_ne _ main_v6 (by decide), line2_of_ne _ main_v3 (by decide),
    line2_of_ne _ main_arg3 (by decide), line1_codes, line1_weights, line1_cells, line1_ends, line1_iota, line1_two, line1_prev]
  rfl

end Cert.Reference3Ideal.Hand

end
-- ==== Proof.Chunk3.Reference.Region.lean ====
/-
  The reference's run: its region decodes the packed tiles' bytes, and its result holds what its lines make of the decoded
  codes, the step table, the tiles and `prev`.
-/
module

public import proofs.«01_k».proof.Proof.Chunk3.Reference.Read
public import proofs.«01_k».proof.Proof.Reference.Region
public import Idealize.ShloMosaic.Lib.Pipeline.Value

@[expose] public section

set_option maxRecDepth 65536

noncomputable section

namespace Cert.Reference3Ideal.Hand

open Cert.ReferenceIdeal.Hand (floorDiv before unitOf valid cellOf targetOf contribs bev tilesOf weights cells codes unitsOf targets bytes unit_emb zeros2)
open Cert.Reference3Ideal Cert.Reference3Ideal.Gen
open Idealize.ShloMosaic Idealize.ShloMosaic.TcCoe
open Idealize.ShloMosaic.Pipeline (Dat Cfg Window)
open Idealize.SL.Sem Idealize.SL

variable {F : FTy → Type} [FloatOps F]
variable (m : (ℓ : Loc nD τ sig) → Buf (Elt F) ℓ) (ρ : Dev nD → PrngReg)

theorem out_eq (x0 : Vec F S374400x128 .i32) : out0_1 x0 = bytes x0 := by
  have e : View.ld x0 r0_0 = x0 := funext fun y => congrArg x0 (unit_emb (s := S374400x128) ![0, 0] zeros2 _ y)
  unfold out0_1
  rw [e]
  funext y
  have h := View.canon_cons_emb (s := S1497600x128) (e := .f32) (Val := Elt F) r0_1 (k0_pay1 x0) [] y
  rw [show r0_1.emb y = y from unit_emb (s := S1497600x128) ![0, 0] zeros2 _ y] at h
  exact h

theorem emb0 (t : Fin cfg0.N) (y : S374400x128.Idx) : ((cfg0.win 0).blk t).view.emb y = y := by
  funext a
  exact Fin.ext (Window.rect_emb_val_of_index_zero (cfg0.win 0) t a rfl y)

theorem emb1 (t : Fin cfg0.N) (y : S1497600x128.Idx) : ((cfg0.win 1).blk t).view.emb y = y := by
  funext a
  exact Fin.ext (Window.rect_emb_val_of_index_zero (cfg0.win 1) t a rfl y)

theorem iblk_eq (c : Dev nD) (t : Fin cfg0.N) : iblk m c 0 t = m ((c : Thread nD τ).loc main_arg2) := by
  funext y
  show (V m c main_arg2 : S374400x128.Idx → BitVec 32) (((cfg0.win 0).blk t).view.emb y) = _
  rw [emb0, V_main_arg2]

theorem region_value (c : Dev nD) : (dats m 0 c).arrAt 1 cfg0.N = bytes (m ((c : Thread nD τ).loc main_arg2)) := by
  refine (dats m 0 c).arrAt_eq_of_cover 1 (bytes (m ((c : Thread nD τ).loc main_arg2))) (fun t _ => ?_) (fun i => ⟨t0_0, flush0_1 _, ?_⟩)
  · funext y
    have e : (dats m 0 c).after 1 t = bytes (m ((c : Thread nD τ).loc main_arg2)) := by
      rw [after0_1, out_eq, iblk_eq]
    show (dats m 0 c).after 1 t y = (bytes (m ((c : Thread nD τ).loc main_arg2)) : S1497600x128.Idx → Elt F .f32) (((cfg0.win 1).blk t).view.emb y)
    rw [e, emb1]
  · exact Finset.mem_map.mpr ⟨i, Finset.mem_univ _, emb1 _ i⟩

/-- The result of the reference's arguments. -/
def value (a0 : IVec S897 32) (a2 : Vec F S374400x128 .i32) (a3 : FVec F S71680x256 .f32) : FVec F S71680x256 .f32 :=
  joined (bev (targets (ends a0) (tilesOf a2)) (weights (tilesOf a2)) (codes (bytes a2))) a3

theorem tail_value (c : Dev nD) :
    Pipeline.afterTail₀ cfgs (dats m) 0 (V0 m) [hostOps1, hostOps1_1, hostOps1_2, hostOps1_3, hostOps1_4] c main_v52
      = value (m ((c : Thread nD τ).loc main_arg0)) (m ((c : Thread nD τ).loc main_arg2)) (m ((c : Thread nD τ).loc main_arg3)) := by
  unfold Pipeline.afterTail₀ value
  refine (lines_result _).trans ?_
  have h0 := Pipeline.withArrays_of_ne (cfgs 0).spec c (V0 m c) (fun w => (dats m 0 c).arrAt w (cfgs 0).N) main_arg0 (by exact (by decide : ∀ w, Pipeline.arrRef spec0 w ≠ main_arg0))
  have h3 := Pipeline.withArrays_of_ne (cfgs 0).spec c (V0 m c) (fun w => (dats m 0 c).arrAt w (cfgs 0).N) main_arg3 (by exact (by decide : ∀ w, Pipeline.arrRef spec0 w ≠ main_arg3))
  have hv := Pipeline.withArrays_of_ne (cfgs 0).spec c (V0 m c) (fun w => (dats m 0 c).arrAt w (cfgs 0).N) main_v0 (by exact (by decide : ∀ w, Pipeline.arrRef spec0 w ≠ main_v0))
  have h1 : Pipeline.withArrays (cfgs 0).spec c (V0 m c) (fun w => (dats m 0 c).arrAt w (cfgs 0).N) (Proc.devRef .tc main_v1) = bytes (m ((c : Thread nD τ).loc main_arg2)) :=
    (Pipeline.withArrays_arr (cfgs 0).spec (by exact (by decide : Function.Injective (Pipeline.arrRef spec0))) c (V0 m c) (fun w => (dats m 0 c).arrAt w (cfgs 0).N) 1).trans (region_value m c)
  have ev : V0 m c (Proc.devRef .tc main_v0) = tilesOf (m ((c : Thread nD τ).loc main_arg2)) := by
    show StableHlo.after hostOps0 (fun b => m (c, b)) (Proc.devRef .tc main_v0) = _
    after_reads_simp
    rfl
  rw [h0, h3, hv, h1, ev, show V0 m c (Proc.devRef .tc main_arg0) = _ from V_main_arg0 m c, show V0 m c (Proc.devRef .tc main_arg3) = _ from V_main_arg3 m c]

/-- Every fair execution of the reference terminates, its result at that value and the arguments as they were. -/
theorem run_value : θ_run defs (onTc (τ := τ) (main (F := F))) ⟨m, fun _ => 0, ρ⟩ (fun r => ∀ c : Dev nD,
    r.2.mem ((c.tc : Thread nD τ).loc main_v52) = value (m ((c : Thread nD τ).loc main_arg0)) (m ((c : Thread nD τ).loc main_arg2)) (m ((c : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => ⟨((h.1 c).2 main_v52 (Pipeline.mem_restRefs_of main_v52 (by decide) (by decide))).trans (tail_value m c), h.2 c⟩)
    (θ_run_and (run_main m ρ) (unchanged m ρ))

end Cert.Reference3Ideal.Hand

end
-- ==== Proof.Chunk3.Reference.Rows.lean ====
/-
  The chunk's part of the step table and its rows of the reference's result: where the units end, and which row holds what:
  the chunk's rows hold the units' sums, and every other row is `prev`'s.
-/
module

public import proofs.«01_k».proof.Proof.Chunk3.Reference.Read
public import Idealize.ShloMosaic.Lib.ValueIdx
public import Idealize.ShloMosaic.Lib.Pipeline.Value

@[expose] public section

set_option maxRecDepth 65536

noncomputable section

namespace Cert.Reference3Ideal.Hand

open Cert.Reference3Ideal Cert.Reference3Ideal.Gen
open Idealize.ShloMosaic Idealize.ShloMosaic.TcCoe Idealize.ShloMosaic.ValueIdx

/-! ## The table -/

/-- Where unit `u` of the chunk starts, counted in steps from the chunk's first. -/
def endAt (a0 : IVec S897 32) (u : ℕ) : ℕ := if h : 672 + u < 897 then (a0 (ix1 ⟨672 + u, h⟩) - a0 (ix1 ⟨672, by decide⟩)).toNat else 0

theorem endAt_zero (a0 : IVec S897 32) : endAt a0 0 = 0 := by
  unfold endAt
  rw [dif_pos (by decide)]
  show (a0 (ix1 ⟨672, _⟩) - a0 (ix1 ⟨672, _⟩)).toNat = 0
  rw [BitVec.sub_self]
  rfl

theorem ends_apply (a0 : IVec S897 32) (u : Fin 224) : (ends a0 (ix1 u)).toNat = endAt a0 (u.val + 1) := by
  unfold ends endAt
  rw [dif_pos (by omega)]
  refine congrArg BitVec.toNat (congrArg₂ (fun a b : BitVec 32 => a - b) ?_ ?_)
  · exact extractStridedSlice_apply (s := S897) ![673] _ _ (ix1 u) (ix1 ⟨672 + (u.val + 1), by omega⟩) (by intro a; fin_cases a; show 672 + (u.val + 1) = 673 + u.val; omega)
  · rw [broadcastInDim_apply (s := S_) ![] _ _ (ix1 u) ix0 (by intro a; exact a.elim0), shapeCast_apply (s := S1) _ _ ix0 (ix1 0) (by rfl)]
    exact extractStridedSlice_apply (s := S897) ![672] _ _ (ix1 0) (ix1 ⟨672, by decide⟩) (by intro a; fin_cases a; rfl)

/-! ## The rows -/

/-- The chunk's rows, -/
theorem joined_mid (s : FVec Ideal S28672x160 .f32) (a3 : FVec Ideal S71680x256 .f32) (i : S71680x256.Idx) (r : Fin 112) (d : Fin 160) (x : Fin 256)
    (h0 : (i 0).val = (336 + r.val) * 160 + d.val) (h1 : (i 1).val = x.val) : joined s a3 i = s (ix2 ⟨r.val * 256 + x.val, by omega⟩ d) := by
  unfold joined
  refine (concatenate_apply_piece (t := S71680x256) 0 _ _ i 1 (by show 1 < 2; omega) S17920x256 _ rfl rfl 53760 rfl (ix2 ⟨r.val * 160 + d.val, by omega⟩ x) ?_ ?_).trans ?_
  · intro b hb
    match b with
    | ⟨0, _⟩ => exact absurd rfl hb
    | ⟨1, _⟩ => exact h1.symm
  · show 53760 + (r.val * 160 + d.val) = (i 0).val
    omega
  · rw [shapeCast_apply (s := S112x160x256) (t := S17920x256) _ _ (ix2 ⟨r.val * 160 + d.val, by omega⟩ x) (ix3 r d x) (by
        rw [Shape.rowMajor_val_three, Shape.rowMajor_val_two]
        rfl),
      transpose_apply (s := S112x256x160) (t := S112x160x256) _ _ _ (ix3 r d x) (ix3 r x d) (by
        intro b
        match b with
        | ⟨0, _⟩ => rfl
        | ⟨1, _⟩ => rfl
        | ⟨2, _⟩ => rfl),
      shapeCast_apply (s := S28672x160) (t := S112x256x160) _ _ (ix3 r x d) (ix2 ⟨r.val * 256 + x.val, by omega⟩ d) (by
        rw [Shape.rowMajor_val_three, Shape.rowMajor_val_two]
        rfl)]

/-- and the rows before them. -/
theorem joined_low (s : FVec Ideal S28672x160 .f32) (a3 : FVec Ideal S71680x256 .f32) (i : S71680x256.Idx) (h : (i 0).val < 53760) : joined s a3 i = a3 i := by
  unfold joined
  refine (concatenate_apply_piece (t := S71680x256) 0 _ _ i 0 (by show 0 < 2; omega) S53760x256 _ rfl rfl 0 rfl (ix2 ⟨(i 0).val, h⟩ (i 1)) ?_ ?_).trans ?_
  · intro b hb
    match b with
    | ⟨0, _⟩ => exact absurd rfl hb
    | ⟨1, _⟩ => rfl
  · exact Nat.zero_add _
  · exact extractStridedSlice_apply (s := S71680x256) (t := S53760x256) ![0, 0] _ _ (ix2 ⟨(i 0).val, h⟩ (i 1)) i (by
      intro b
      match b with
      | ⟨0, _⟩ => exact (Nat.zero_add _).symm
      | ⟨1, _⟩ => exact (Nat.zero_add _).symm)

end Cert.Reference3Ideal.Hand

end
-- ==== Proof.Chunk3.Equation.lean ====
/-
  The two values are one: at every row of the chunk the kernel's block and the reference's sums are the sums over the unit's
  steps of what the steps' tiles give, and at every other row both are `prev`.
-/
module

public import proofs.«01_k».proof.Proof.Chunk3.Ideal.Final
public import proofs.«01_k».proof.Proof.Chunk3.Ideal.Step
public import proofs.«01_k».proof.Proof.Chunk3.Order
public import proofs.«01_k».proof.Proof.Chunk3.Reference.Region
public import proofs.«01_k».proof.Proof.Chunk3.Reference.Rows
public import proofs.«01_k».proof.Proof.Reference.Value

@[expose] public section

set_option maxRecDepth 65536

noncomputable section

namespace Cert.Hand3

open Idealize.ShloMosaic hiding ix1 ix2 ix3
open Idealize.ShloMosaic.ValueIdx
open Cert.Kernel3.Hand (fsOf fxOf fgOf pos Ordered Plain flag unitSum finalA)
open Cert.Reference3Ideal.Hand (ends endAt ends_apply endAt_zero)

variable (m : (ℓ : Loc Cert.Kernel3.nD Cert.Kernel3.τ Cert.Kernel3.sig) → Buf (Elt Ideal) ℓ) (c : Dev Cert.Kernel3.nD)

/-- The step table, as the reference takes it. -/
abbrev table : IVec Cert.Reference3Ideal.S897 32 := m ((c.tc : Thread Cert.Kernel3.nD Cert.Kernel3.τ).loc Cert.Kernel3.main_arg0)
/-- The packed tiles. -/
abbrev tiles : Vec Ideal Cert.Reference3Ideal.S374400x128 .i32 := m ((c.tc : Thread Cert.Kernel3.nD Cert.Kernel3.τ).loc Cert.Kernel3.main_arg2)
/-- The array of the chunks before. -/
abbrev prev : FVec Ideal Cert.Reference3Ideal.S71680x256 .f32 := m ((c.tc : Thread Cert.Kernel3.nD Cert.Kernel3.τ).loc Cert.Kernel3.main_arg3)

/-- Both count a unit's first step alike. -/
theorem endAt_eq_pos (u : ℕ) : endAt (table m c) u = pos (F := Ideal) c (fsOf m c) u := rfl

/-- Under the precondition the path is the plain one or every weight word is a real number's. -/
theorem plain_of_pre (a3 : FVec Ideal Cert.Pre_steps_in_order3.S71680x256 .f32)
    (h : Cert.Pre_steps_in_order3.fn (F := Ideal) (fsOf m c) (fxOf m c) (fgOf m c) a3 = fun _ => 1#1) : Plain c (fgOf m c) (fxOf m c) := by
  have hd := (decoded (F := Ideal) (fsOf m c) (fxOf m c) (fgOf m c) a3 h).2
  by_cases hx : flag (F := Ideal) c (fxOf m c) = 0#32
  · exact Or.inl hx
  · exact Or.inr fun t l => (hd t l).resolve_left hx

/-- THE TWO VALUES ARE ONE. -/
theorem value_eq (hO : Ordered (F := Ideal) c (fsOf m c)) (hP : Plain c (fgOf m c) (fxOf m c)) :
    Cert.Reference3Ideal.Hand.value (F := Ideal) (table m c) (tiles m c) (prev m c) = finalA (F := Ideal) m c := by
  refine funext fun (i : Cert.Kernel3.S71680x256.Idx) => ?_
  refine Eq.trans ?_ (Cert.Kernel3.Hand.final_apply m c i).symm
  have hi0 : (i 0).val < 71680 := (i 0).isLt
  have hi1 : (i 1).val < 256 := (i 1).isLt
  by_cases hr : 336 ≤ (i 0).val / 160 ∧ (i 0).val / 160 < 448
  · rw [if_pos hr]
    have hk := Cert.Kernel3.Hand.outBlk_apply c (fgOf m c) (fxOf m c) (fsOf m c) hP hO ((i 0).val / 160 - 336) (by omega)
      ⟨(i 0).val % 160, Nat.mod_lt _ (by decide)⟩ (i 1)
    refine Eq.trans ?_ hk.symm
    refine (Cert.Reference3Ideal.Hand.joined_mid _ (prev m c) i ⟨(i 0).val / 160 - 336, by omega⟩ ⟨(i 0).val % 160, Nat.mod_lt _ (by decide)⟩ (i 1)
      (by show (i 0).val = (336 + ((i 0).val / 160 - 336)) * 160 + (i 0).val % 160; omega) rfl).trans ?_
    exact Cert.ReferenceIdeal.Hand.sums_apply (ends (table m c)) (endAt (table m c)) (ends_apply _) (endAt_zero _) (tiles m c) (fun u hu => hO.mono u hu) (fun u hu => hO.le u hu)
      (2 * ((i 0).val / 160 - 336) + (i 1).val / 128) (by omega) ⟨(i 1).val % 128, Nat.mod_lt _ (by decide)⟩ ⟨(i 0).val % 160, Nat.mod_lt _ (by decide)⟩ _
      (by show ((i 0).val / 160 - 336) * 256 + (i 1).val = (2 * ((i 0).val / 160 - 336) + (i 1).val / 128) * 128 + (i 1).val % 128; omega)
  · rw [if_neg hr]
    exact Cert.Reference3Ideal.Hand.joined_low _ (prev m c) i (by omega)

end Cert.Hand3

end
-- ==== Proof.lean ====
/- The claims of this certificate, assembled. -/
module

public import proofs.«01_k».proof.Defs
public import proofs.«01_k».proof.Proof.Gen.Pre_steps_in_order
public import proofs.«01_k».proof.Proof.Gen.ReferenceIdeal.Frame
public import proofs.«01_k».proof.Proof.Order
public import proofs.«01_k».proof.Proof.Run
public import proofs.«01_k».proof.Proof.Ideal.Bridge
public import proofs.«01_k».proof.Proof.Equation
public import proofs.«01_k».proof.Proof.Gen.Pre_steps_in_order0
public import proofs.«01_k».proof.Proof.Gen.Reference0Ideal.Frame
public import proofs.«01_k».proof.Proof.Chunk0.Order
public import proofs.«01_k».proof.Proof.Chunk0.Run
public import proofs.«01_k».proof.Proof.Chunk0.Ideal.Bridge
public import proofs.«01_k».proof.Proof.Chunk0.Equation
public import proofs.«01_k».proof.Proof.Gen.Pre_steps_in_order2
public import proofs.«01_k».proof.Proof.Gen.Reference2Ideal.Frame
public import proofs.«01_k».proof.Proof.Chunk2.Order
public import proofs.«01_k».proof.Proof.Chunk2.Run
public import proofs.«01_k».proof.Proof.Chunk2.Ideal.Bridge
public import proofs.«01_k».proof.Proof.Chunk2.Equation
public import proofs.«01_k».proof.Proof.Gen.Pre_steps_in_order3
public import proofs.«01_k».proof.Proof.Gen.Reference3Ideal.Frame
public import proofs.«01_k».proof.Proof.Chunk3.Order
public import proofs.«01_k».proof.Proof.Chunk3.Run
public import proofs.«01_k».proof.Proof.Chunk3.Ideal.Bridge
public import proofs.«01_k».proof.Proof.Chunk3.Equation

@[expose] public section

namespace Cert.Proof

open Idealize.ShloMosaic Idealize.SL.Sem

/-- The first chunk call runs under the precondition, leaves its arguments as they were and every counter at zero. -/
theorem kernel0_frame : Cert.quiescent_Kernel0 (hKernel0 := Cert.Kernel0.Gen.facts) (hPre_steps_in_order0 := Cert.Pre_steps_in_order0.Gen.facts) := fun m g hpre => by
  refine (θ_run _ _ _).mono (fun r hr => ⟨fun c => ?_, hr.2⟩)
    (Cert.Kernel0.Hand.run_main (F := Bits) m g fun c => Cert.Kernel0.Hand.ordered_of_pre c _ _ _ (hpre c))
  obtain ⟨h0, h1, h2, _⟩ := hr.1 c
  exact ⟨h0, h1, h2⟩

/-- So does the first call over the extended reals. -/
theorem kernel0Ideal_frame : Cert.quiescent_Kernel0Ideal (hKernel0Ideal := Cert.Kernel0Ideal.Gen.facts) (hPre_steps_in_order0 := Cert.Pre_steps_in_order0.Gen.facts) := fun m g hpre => by
  refine (θ_run _ _ _).mono (fun r hr => ⟨fun c => ?_, hr.2⟩)
    (Cert.Kernel0Ideal.Hand.run_main (F := Ideal) m g fun c => Cert.Kernel0.Hand.ordered_of_pre c _ _ _ (hpre c))
  obtain ⟨h0, h1, h2, _⟩ := hr.1 c
  exact ⟨h0, h1, h2⟩

/-- Over the extended reals the first call and its reference, run from the same arguments, end with the same result. -/
theorem kernel0Ideal_reference : Cert.algebraic_Kernel0Ideal_Reference0Ideal (hKernel0Ideal := Cert.Kernel0Ideal.Gen.facts)
    (hReference0Ideal := Cert.Reference0Ideal.Gen.facts) (hPre_steps_in_order0 := Cert.Pre_steps_in_order0.Gen.facts) := fun m g m' g' hpre hargs => by
  have hO := fun c => Cert.Kernel0.Hand.ordered_of_pre (F := Ideal) c _ _ _ (hpre c)
  refine ⟨fun c => Cert.Kernel0.Hand.result (F := Ideal) m c, ?_, ?_⟩
  · refine (θ_run _ _ _).mono (fun r hr c => ?_) (Cert.Kernel0Ideal.Hand.run_main (F := Ideal) m g hO)
    obtain ⟨h0, h1, h2, hv⟩ := hr.1 c
    exact ⟨hv, h0, h1, h2⟩
  · refine (θ_run _ _ _).mono (fun r hr c => ?_) (Cert.Reference0Ideal.Hand.run_value (F := Ideal) m' g')
    obtain ⟨hv, hrest⟩ := hr c
    obtain ⟨e0, _, e2⟩ := hargs c
    refine ⟨hv.trans ?_, hrest⟩
    exact (congr (congrArg (Cert.Reference0Ideal.Hand.value (F := Ideal)) e0) e2).trans
      (Cert.Hand0.value_eq m c (hO c) (Cert.Hand0.plain_of_pre m c (hpre c)))

/-- The kernel runs under the precondition, leaves its arguments as they were and every counter at zero. -/
theorem kernel_frame : Cert.quiescent_Kernel (hKernel := Cert.Kernel.Gen.facts) (hPre_steps_in_order := Cert.Pre_steps_in_order.Gen.facts) := fun m g hpre => by
  refine (θ_run _ _ _).mono (fun r hr => ⟨fun c => ?_, hr.2⟩)
    (Cert.Kernel.Hand.run_main (F := Bits) m g fun c => Cert.Kernel.Hand.ordered_of_pre c _ _ _ _ (hpre c))
  obtain ⟨h0, h1, h2, h3, _⟩ := hr.1 c
  exact ⟨h0, h1, h2, h3⟩

/-- So does the kernel over the extended reals. -/
theorem kernelIdeal_frame : Cert.quiescent_KernelIdeal (hKernelIdeal := Cert.KernelIdeal.Gen.facts) (hPre_steps_in_order := Cert.Pre_steps_in_order.Gen.facts) := fun m g hpre => by
  refine (θ_run _ _ _).mono (fun r hr => ⟨fun c => ?_, hr.2⟩)
    (Cert.KernelIdeal.Hand.run_main (F := Ideal) m g fun c => Cert.Kernel.Hand.ordered_of_pre c _ _ _ _ (hpre c))
  obtain ⟨h0, h1, h2, h3, _⟩ := hr.1 c
  exact ⟨h0, h1, h2, h3⟩

/-- Over the extended reals the kernel and the reference, run from the same arguments, end with the same result. -/
theorem kernelIdeal_reference : Cert.algebraic_KernelIdeal_ReferenceIdeal (hKernelIdeal := Cert.KernelIdeal.Gen.facts)
    (hReferenceIdeal := Cert.ReferenceIdeal.Gen.facts) (hPre_steps_in_order := Cert.Pre_steps_in_order.Gen.facts) := fun m g m' g' hpre hargs => by
  have hO := fun c => Cert.Kernel.Hand.ordered_of_pre (F := Ideal) c _ _ _ _ (hpre c)
  refine ⟨fun c => Cert.Kernel.Hand.finalA (F := Ideal) m c, ?_, ?_⟩
  · refine (θ_run _ _ _).mono (fun r hr c => ?_) (Cert.KernelIdeal.Hand.run_main (F := Ideal) m g hO)
    obtain ⟨h0, h1, h2, h3, hv⟩ := hr.1 c
    exact ⟨hv, h0, h1, h2, h3⟩
  · refine (θ_run _ _ _).mono (fun r hr c => ?_) (Cert.ReferenceIdeal.Hand.run_value (F := Ideal) m' g')
    obtain ⟨hv, hrest⟩ := hr c
    obtain ⟨e0, _, e2, e3⟩ := hargs c
    refine ⟨hv.trans ?_, hrest⟩
    exact (congr (congr (congrArg (Cert.ReferenceIdeal.Hand.value (F := Ideal)) e0) e2) e3).trans
      (Cert.Hand.value_eq m c (hO c) (Cert.Hand.plain_of_pre m c _ (hpre c)))

/-- The third chunk call runs under the precondition, leaves its arguments as they were and every counter at zero. -/
theorem kernel2_frame : Cert.quiescent_Kernel2 (hKernel2 := Cert.Kernel2.Gen.facts) (hPre_steps_in_order2 := Cert.Pre_steps_in_order2.Gen.facts) := fun m g hpre => by
  refine (θ_run _ _ _).mono (fun r hr => ⟨fun c => ?_, hr.2⟩)
    (Cert.Kernel2.Hand.run_main (F := Bits) m g fun c => Cert.Kernel2.Hand.ordered_of_pre c _ _ _ _ (hpre c))
  obtain ⟨h0, h1, h2, h3, _⟩ := hr.1 c
  exact ⟨h0, h1, h2, h3⟩

/-- So does the third call over the extended reals. -/
theorem kernel2Ideal_frame : Cert.quiescent_Kernel2Ideal (hKernel2Ideal := Cert.Kernel2Ideal.Gen.facts) (hPre_steps_in_order2 := Cert.Pre_steps_in_order2.Gen.facts) := fun m g hpre => by
  refine (θ_run _ _ _).mono (fun r hr => ⟨fun c => ?_, hr.2⟩)
    (Cert.Kernel2Ideal.Hand.run_main (F := Ideal) m g fun c => Cert.Kernel2.Hand.ordered_of_pre c _ _ _ _ (hpre c))
  obtain ⟨h0, h1, h2, h3, _⟩ := hr.1 c
  exact ⟨h0, h1, h2, h3⟩

/-- Over the extended reals the third call and its reference, run from the same arguments, end with the same result. -/
theorem kernel2Ideal_reference : Cert.algebraic_Kernel2Ideal_Reference2Ideal (hKernel2Ideal := Cert.Kernel2Ideal.Gen.facts)
    (hReference2Ideal := Cert.Reference2Ideal.Gen.facts) (hPre_steps_in_order2 := Cert.Pre_steps_in_order2.Gen.facts) := fun m g m' g' hpre hargs => by
  have hO := fun c => Cert.Kernel2.Hand.ordered_of_pre (F := Ideal) c _ _ _ _ (hpre c)
  refine ⟨fun c => Cert.Kernel2.Hand.finalA (F := Ideal) m c, ?_, ?_⟩
  · refine (θ_run _ _ _).mono (fun r hr c => ?_) (Cert.Kernel2Ideal.Hand.run_main (F := Ideal) m g hO)
    obtain ⟨h0, h1, h2, h3, hv⟩ := hr.1 c
    exact ⟨hv, h0, h1, h2, h3⟩
  · refine (θ_run _ _ _).mono (fun r hr c => ?_) (Cert.Reference2Ideal.Hand.run_value (F := Ideal) m' g')
    obtain ⟨hv, hrest⟩ := hr c
    obtain ⟨e0, _, e2, e3⟩ := hargs c
    refine ⟨hv.trans ?_, hrest⟩
    exact (congr (congr (congrArg (Cert.Reference2Ideal.Hand.value (F := Ideal)) e0) e2) e3).trans
      (Cert.Hand2.value_eq m c (hO c) (Cert.Hand2.plain_of_pre m c _ (hpre c)))

/-- The fourth chunk call runs under the precondition, leaves its arguments as they were and every counter at zero. -/
theorem kernel3_frame : Cert.quiescent_Kernel3 (hKernel3 := Cert.Kernel3.Gen.facts) (hPre_steps_in_order3 := Cert.Pre_steps_in_order3.Gen.facts) := fun m g hpre => by
  refine (θ_run _ _ _).mono (fun r hr => ⟨fun c => ?_, hr.2⟩)
    (Cert.Kernel3.Hand.run_main (F := Bits) m g fun c => Cert.Kernel3.Hand.ordered_of_pre c _ _ _ _ (hpre c))
  obtain ⟨h0, h1, h2, h3, _⟩ := hr.1 c
  exact ⟨h0, h1, h2, h3⟩

/-- So does the fourth call over the extended reals. -/
theorem kernel3Ideal_frame : Cert.quiescent_Kernel3Ideal (hKernel3Ideal := Cert.Kernel3Ideal.Gen.facts) (hPre_steps_in_order3 := Cert.Pre_steps_in_order3.Gen.facts) := fun m g hpre => by
  refine (θ_run _ _ _).mono (fun r hr => ⟨fun c => ?_, hr.2⟩)
    (Cert.Kernel3Ideal.Hand.run_main (F := Ideal) m g fun c => Cert.Kernel3.Hand.ordered_of_pre c _ _ _ _ (hpre c))
  obtain ⟨h0, h1, h2, h3, _⟩ := hr.1 c
  exact ⟨h0, h1, h2, h3⟩

/-- Over the extended reals the fourth call and its reference, run from the same arguments, end with the same result. -/
theorem kernel3Ideal_reference : Cert.algebraic_Kernel3Ideal_Reference3Ideal (hKernel3Ideal := Cert.Kernel3Ideal.Gen.facts)
    (hReference3Ideal := Cert.Reference3Ideal.Gen.facts) (hPre_steps_in_order3 := Cert.Pre_steps_in_order3.Gen.facts) := fun m g m' g' hpre hargs => by
  have hO := fun c => Cert.Kernel3.Hand.ordered_of_pre (F := Ideal) c _ _ _ _ (hpre c)
  refine ⟨fun c => Cert.Kernel3.Hand.finalA (F := Ideal) m c, ?_, ?_⟩
  · refine (θ_run _ _ _).mono (fun r hr c => ?_) (Cert.Kernel3Ideal.Hand.run_main (F := Ideal) m g hO)
    obtain ⟨h0, h1, h2, h3, hv⟩ := hr.1 c
    exact ⟨hv, h0, h1, h2, h3⟩
  · refine (θ_run _ _ _).mono (fun r hr c => ?_) (Cert.Reference3Ideal.Hand.run_value (F := Ideal) m' g')
    obtain ⟨hv, hrest⟩ := hr c
    obtain ⟨e0, _, e2, e3⟩ := hargs c
    refine ⟨hv.trans ?_, hrest⟩
    exact (congr (congr (congrArg (Cert.Reference3Ideal.Hand.value (F := Ideal)) e0) e2) e3).trans
      (Cert.Hand3.value_eq m c (hO c) (Cert.Hand3.plain_of_pre m c _ (hpre c)))

/-- All the claims. -/
theorem claim : Cert.Claim :=
  ⟨Cert.Kernel0.Gen.facts, Cert.Kernel0Ideal.Gen.facts, Cert.Reference0Ideal.Gen.facts,
    Cert.Kernel.Gen.facts, Cert.KernelIdeal.Gen.facts, Cert.ReferenceIdeal.Gen.facts,
    Cert.Kernel2.Gen.facts, Cert.Kernel2Ideal.Gen.facts, Cert.Reference2Ideal.Gen.facts,
    Cert.Kernel3.Gen.facts, Cert.Kernel3Ideal.Gen.facts, Cert.Reference3Ideal.Gen.facts,
    Cert.Pre_steps_in_order0.Gen.facts, Cert.Pre_steps_in_order.Gen.facts, Cert.Pre_steps_in_order2.Gen.facts, Cert.Pre_steps_in_order3.Gen.facts,
    kernel0_frame, kernel0Ideal_frame, fun m ρ _ => Cert.Reference0Ideal.Gen.frame m ρ, fun m ρ _ => Cert.Reference0Ideal.Gen.frame m ρ,
    kernel_frame, kernelIdeal_frame, fun m ρ _ => Cert.ReferenceIdeal.Gen.frame m ρ, fun m ρ _ => Cert.ReferenceIdeal.Gen.frame m ρ,
    kernel2_frame, kernel2Ideal_frame, fun m ρ _ => Cert.Reference2Ideal.Gen.frame m ρ, fun m ρ _ => Cert.Reference2Ideal.Gen.frame m ρ,
    kernel3_frame, kernel3Ideal_frame, fun m ρ _ => Cert.Reference3Ideal.Gen.frame m ρ, fun m ρ _ => Cert.Reference3Ideal.Gen.frame m ρ,
    trivial, kernel0Ideal_reference, trivial, kernelIdeal_reference, trivial, kernel2Ideal_reference, trivial, kernel3Ideal_reference⟩

end Cert.Proof

end
